-- ==== Defs.lean ====
def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_ReferenceFwdIdeal (m : (ℓ : Loc Cert.ReferenceFwdIdeal.nD Cert.ReferenceFwdIdeal.τ Cert.ReferenceFwdIdeal.sig) → Buf (Elt Ideal) ℓ) : Prop :=
  True

def Pre_Dwout (m : (ℓ : Loc Cert.Dwout.nD Cert.Dwout.τ Cert.Dwout.sig) → Buf (Elt Bits) ℓ) : Prop :=
  True

def Pre_DwoutIdeal (m : (ℓ : Loc Cert.DwoutIdeal.nD Cert.DwoutIdeal.τ Cert.DwoutIdeal.sig) → Buf (Elt Ideal) ℓ) : Prop :=
  True

def Pre_ReferenceDwoutIdeal (m : (ℓ : Loc Cert.ReferenceDwoutIdeal.nD Cert.ReferenceDwoutIdeal.τ Cert.ReferenceDwoutIdeal.sig) → Buf (Elt Ideal) ℓ) : Prop :=
  True

def Pre_Dwin (m : (ℓ : Loc Cert.Dwin.nD Cert.Dwin.τ Cert.Dwin.sig) → Buf (Elt Bits) ℓ) : Prop :=
  True

def Pre_DwinIdeal (m : (ℓ : Loc Cert.DwinIdeal.nD Cert.DwinIdeal.τ Cert.DwinIdeal.sig) → Buf (Elt Ideal) ℓ) : Prop :=
  True

def Pre_ReferenceDwinIdeal (m : (ℓ : Loc Cert.ReferenceDwinIdeal.nD Cert.ReferenceDwinIdeal.τ Cert.ReferenceDwinIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_ReferenceDhIdeal (m : (ℓ : Loc Cert.ReferenceDhIdeal.nD Cert.ReferenceDhIdeal.τ Cert.ReferenceDhIdeal.sig) → Buf (Elt Ideal) ℓ) : Prop :=
  True

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactIdeal_finite [hPre_finite : Cert.Pre_finite.Facts] (m : (ℓ : Loc Cert.DactIdeal.nD Cert.DactIdeal.τ Cert.DactIdeal.sig) → Buf (Elt Ideal) ℓ) : Prop :=
  ∀ c : Dev Cert.DactIdeal.nD,
    (Cert.Pre_finite.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2)) (m ((c.tc : Thread Cert.DactIdeal.nD Cert.DactIdeal.τ).loc Cert.DactIdeal.main_arg3)) (m ((c.tc : Thread Cert.DactIdeal.nD Cert.DactIdeal.τ).loc Cert.DactIdeal.main_arg4))).1 = (fun _ => 1#1)
    ∧ (Cert.Pre_finite.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2)) (m ((c.tc : Thread Cert.DactIdeal.nD Cert.DactIdeal.τ).loc Cert.DactIdeal.main_arg3)) (m ((c.tc : Thread Cert.DactIdeal.nD Cert.DactIdeal.τ).loc Cert.DactIdeal.main_arg4))).2.1 = (fun _ => 1#1)
    ∧ (Cert.Pre_finite.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2)) (m ((c.tc : Thread Cert.DactIdeal.nD Cert.DactIdeal.τ).loc Cert.DactIdeal.main_arg3)) (m ((c.tc : Thread Cert.DactIdeal.nD Cert.DactIdeal.τ).loc Cert.DactIdeal.main_arg4))).2.2.1 = (fun _ => 1#1)
    ∧ (Cert.Pre_finite.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2)) (m ((c.tc : Thread Cert.DactIdeal.nD Cert.DactIdeal.τ).loc Cert.DactIdeal.main_arg3)) (m ((c.tc : Thread Cert.DactIdeal.nD Cert.DactIdeal.τ).loc Cert.DactIdeal.main_arg4))).2.2.2.1 = (fun _ => 1#1)
    ∧ (Cert.Pre_finite.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2)) (m ((c.tc : Thread Cert.DactIdeal.nD Cert.DactIdeal.τ).loc Cert.DactIdeal.main_arg3)) (m ((c.tc : Thread Cert.DactIdeal.nD Cert.DactIdeal.τ).loc Cert.DactIdeal.main_arg4))).2.2.2.2 = (fun _ => 1#1)

def Pre_ReferenceDactIdeal (m : (ℓ : Loc Cert.ReferenceDactIdeal.nD Cert.ReferenceDactIdeal.τ Cert.ReferenceDactIdeal.sig) → Buf (Elt Ideal) ℓ) : Prop :=
  True

def Pre_ReferenceDactIdeal_finite [hPre_finite : Cert.Pre_finite.Facts] (m : (ℓ : Loc Cert.ReferenceDactIdeal.nD Cert.ReferenceDactIdeal.τ Cert.ReferenceDactIdeal.sig) → Buf (Elt Ideal) ℓ) : Prop :=
  ∀ c : Dev Cert.ReferenceDactIdeal.nD,
    (Cert.Pre_finite.fn (F := Ideal) (m ((c.tc : Thread Cert.ReferenceDactIdeal.nD Cert.ReferenceDactIdeal.τ).loc Cert.ReferenceDactIdeal.main_arg0)) (m ((c.tc : Thread Cert.ReferenceDactIdeal.nD Cert.ReferenceDactIdeal.τ).loc Cert.ReferenceDactIdeal.main_arg1)) (m ((c.tc : Thread Cert.ReferenceDactIdeal.nD Cert.ReferenceDactIdeal.τ).loc Cert.ReferenceDactIdeal.main_arg2)) (m ((c.tc : Thread Cert.ReferenceDactIdeal.nD Cert.ReferenceDactIdeal.τ).loc Cert.ReferenceDactIdeal.main_arg3)) (m ((c.tc : Thread Cert.ReferenceDactIdeal.nD Cert.ReferenceDactIdeal.τ).loc Cert.ReferenceDactIdeal.main_arg4))).1 = (fun _ => 1#1)
    ∧ (Cert.Pre_finite.fn (F := Ideal) (m ((c.tc : Thread Cert.ReferenceDactIdeal.nD Cert.ReferenceDactIdeal.τ).loc Cert.ReferenceDactIdeal.main_arg0)) (m ((c.tc : Thread Cert.ReferenceDactIdeal.nD Cert.ReferenceDactIdeal.τ).loc Cert.ReferenceDactIdeal.main_arg1)) (m ((c.tc : Thread Cert.ReferenceDactIdeal.nD Cert.ReferenceDactIdeal.τ).loc Cert.ReferenceDactIdeal.main_arg2)) (m ((c.tc : Thread Cert.ReferenceDactIdeal.nD Cert.ReferenceDactIdeal.τ).loc Cert.ReferenceDactIdeal.main_arg3)) (m ((c.tc : Thread Cert.ReferenceDactIdeal.nD Cert.ReferenceDactIdeal.τ).loc Cert.ReferenceDactIdeal.main_arg4))).2.1 = (fun _ => 1#1)
    ∧ (Cert.Pre_finite.fn (F := Ideal) (m ((c.tc : Thread Cert.ReferenceDactIdeal.nD Cert.ReferenceDactIdeal.τ).loc Cert.ReferenceDactIdeal.main_arg0)) (m ((c.tc : Thread Cert.ReferenceDactIdeal.nD Cert.ReferenceDactIdeal.τ).loc Cert.ReferenceDactIdeal.main_arg1)) (m ((c.tc : Thread Cert.ReferenceDactIdeal.nD Cert.ReferenceDactIdeal.τ).loc Cert.ReferenceDactIdeal.main_arg2)) (m ((c.tc : Thread Cert.ReferenceDactIdeal.nD Cert.ReferenceDactIdeal.τ).loc Cert.ReferenceDactIdeal.main_arg3)) (m ((c.tc : Thread Cert.ReferenceDactIdeal.nD Cert.ReferenceDactIdeal.τ).loc Cert.ReferenceDactIdeal.main_arg4))).2.2.1 = (fun _ => 1#1)
    ∧ (Cert.Pre_finite.fn (F := Ideal) (m ((c.tc : Thread Cert.ReferenceDactIdeal.nD Cert.ReferenceDactIdeal.τ).loc Cert.ReferenceDactIdeal.main_arg0)) (m ((c.tc : Thread Cert.ReferenceDactIdeal.nD Cert.ReferenceDactIdeal.τ).loc Cert.ReferenceDactIdeal.main_arg1)) (m ((c.tc : Thread Cert.ReferenceDactIdeal.nD Cert.ReferenceDactIdeal.τ).loc Cert.ReferenceDactIdeal.main_arg2)) (m ((c.tc : Thread Cert.ReferenceDactIdeal.nD Cert.ReferenceDactIdeal.τ).loc Cert.ReferenceDactIdeal.main_arg3)) (m ((c.tc : Thread Cert.ReferenceDactIdeal.nD Cert.ReferenceDactIdeal.τ).loc Cert.ReferenceDactIdeal.main_arg4))).2.2.2.1 = (fun _ => 1#1)
    ∧ (Cert.Pre_finite.fn (F := Ideal) (m ((c.tc : Thread Cert.ReferenceDactIdeal.nD Cert.ReferenceDactIdeal.τ).loc Cert.ReferenceDactIdeal.main_arg0)) (m ((c.tc : Thread Cert.ReferenceDactIdeal.nD Cert.ReferenceDactIdeal.τ).loc Cert.ReferenceDactIdeal.main_arg1)) (m ((c.tc : Thread Cert.ReferenceDactIdeal.nD Cert.ReferenceDactIdeal.τ).loc Cert.ReferenceDactIdeal.main_arg2)) (m ((c.tc : Thread Cert.ReferenceDactIdeal.nD Cert.ReferenceDactIdeal.τ).loc Cert.ReferenceDactIdeal.main_arg3)) (m ((c.tc : Thread Cert.ReferenceDactIdeal.nD Cert.ReferenceDactIdeal.τ).loc Cert.ReferenceDactIdeal.main_arg4))).2.2.2.2 = (fun _ => 1#1)

def Pre_AdamwIn (m : (ℓ : Loc Cert.AdamwIn.nD Cert.AdamwIn.τ Cert.AdamwIn.sig) → Buf (Elt Bits) ℓ) : Prop :=
  True

def Pre_AdamwInIdeal (m : (ℓ : Loc Cert.AdamwInIdeal.nD Cert.AdamwInIdeal.τ Cert.AdamwInIdeal.sig) → Buf (Elt Ideal) ℓ) : Prop :=
  True

def Pre_ReferenceAdamwInIdeal (m : (ℓ : Loc Cert.ReferenceAdamwInIdeal.nD Cert.ReferenceAdamwInIdeal.τ Cert.ReferenceAdamwInIdeal.sig) → Buf (Elt Ideal) ℓ) : Prop :=
  True

def Pre_AdamwOut (m : (ℓ : Loc Cert.AdamwOut.nD Cert.AdamwOut.τ Cert.AdamwOut.sig) → Buf (Elt Bits) ℓ) : Prop :=
  True

def Pre_AdamwOutIdeal (m : (ℓ : Loc Cert.AdamwOutIdeal.nD Cert.AdamwOutIdeal.τ Cert.AdamwOutIdeal.sig) → Buf (Elt Ideal) ℓ) : Prop :=
  True

def Pre_ReferenceAdamwOutIdeal (m : (ℓ : Loc Cert.ReferenceAdamwOutIdeal.nD Cert.ReferenceAdamwOutIdeal.τ Cert.ReferenceAdamwOutIdeal.sig) → Buf (Elt Ideal) ℓ) : Prop :=
  True

def Pre_AdamwEvIn (m : (ℓ : Loc Cert.AdamwEvIn.nD Cert.AdamwEvIn.τ Cert.AdamwEvIn.sig) → Buf (Elt Bits) ℓ) : Prop :=
  True

def Pre_AdamwEvInIdeal (m : (ℓ : Loc Cert.AdamwEvInIdeal.nD Cert.AdamwEvInIdeal.τ Cert.AdamwEvInIdeal.sig) → Buf (Elt Ideal) ℓ) : Prop :=
  True

def Pre_ReferenceAdamwEvInIdeal (m : (ℓ : Loc Cert.ReferenceAdamwEvInIdeal.nD Cert.ReferenceAdamwEvInIdeal.τ Cert.ReferenceAdamwEvInIdeal.sig) → Buf (Elt Ideal) ℓ) : Prop :=
  True

def Pre_AdamwOdIn (m : (ℓ : Loc Cert.AdamwOdIn.nD Cert.AdamwOdIn.τ Cert.AdamwOdIn.sig) → Buf (Elt Bits) ℓ) : Prop :=
  True

def Pre_AdamwOdInIdeal (m : (ℓ : Loc Cert.AdamwOdInIdeal.nD Cert.AdamwOdInIdeal.τ Cert.AdamwOdInIdeal.sig) → Buf (Elt Ideal) ℓ) : Prop :=
  True

def Pre_ReferenceAdamwOdInIdeal (m : (ℓ : Loc Cert.ReferenceAdamwOdInIdeal.nD Cert.ReferenceAdamwOdInIdeal.τ Cert.ReferenceAdamwOdInIdeal.sig) → Buf (Elt Ideal) ℓ) : Prop :=
  True

def Pre_AdamwMixOut (m : (ℓ : Loc Cert.AdamwMixOut.nD Cert.AdamwMixOut.τ Cert.AdamwMixOut.sig) → Buf (Elt Bits) ℓ) : Prop :=
  True

def Pre_AdamwMixOutIdeal (m : (ℓ : Loc Cert.AdamwMixOutIdeal.nD Cert.AdamwMixOutIdeal.τ Cert.AdamwMixOutIdeal.sig) → Buf (Elt Ideal) ℓ) : Prop :=
  True

def Pre_ReferenceAdamwMixOutIdeal (m : (ℓ : Loc Cert.ReferenceAdamwMixOutIdeal.nD Cert.ReferenceAdamwMixOutIdeal.τ Cert.ReferenceAdamwMixOutIdeal.sig) → Buf (Elt Ideal) ℓ) : Prop :=
  True

def Pre_AdamwNorm (m : (ℓ : Loc Cert.AdamwNorm.nD Cert.AdamwNorm.τ Cert.AdamwNorm.sig) → Buf (Elt Bits) ℓ) : Prop :=
  True

def Pre_AdamwNormIdeal (m : (ℓ : Loc Cert.AdamwNormIdeal.nD Cert.AdamwNormIdeal.τ Cert.AdamwNormIdeal.sig) → Buf (Elt Ideal) ℓ) : Prop :=
  True

def Pre_ReferenceAdamwNormIdeal (m : (ℓ : Loc Cert.ReferenceAdamwNormIdeal.nD Cert.ReferenceAdamwNormIdeal.τ Cert.ReferenceAdamwNormIdeal.sig) → Buf (Elt Ideal) ℓ) : Prop :=
  True

def Pre_AdamwConv (m : (ℓ : Loc Cert.AdamwConv.nD Cert.AdamwConv.τ Cert.AdamwConv.sig) → Buf (Elt Bits) ℓ) : Prop :=
  True

def Pre_AdamwConvIdeal (m : (ℓ : Loc Cert.AdamwConvIdeal.nD Cert.AdamwConvIdeal.τ Cert.AdamwConvIdeal.sig) → Buf (Elt Ideal) ℓ) : Prop :=
  True

def Pre_ReferenceAdamwConvIdeal (m : (ℓ : Loc Cert.ReferenceAdamwConvIdeal.nD Cert.ReferenceAdamwConvIdeal.τ Cert.ReferenceAdamwConvIdeal.sig) → Buf (Elt Ideal) ℓ) : Prop :=
  True

def Pre_AdamwHead (m : (ℓ : Loc Cert.AdamwHead.nD Cert.AdamwHead.τ Cert.AdamwHead.sig) → Buf (Elt Bits) ℓ) : Prop :=
  True

def Pre_AdamwHeadIdeal (m : (ℓ : Loc Cert.AdamwHeadIdeal.nD Cert.AdamwHeadIdeal.τ Cert.AdamwHeadIdeal.sig) → Buf (Elt Ideal) ℓ) : Prop :=
  True

def Pre_ReferenceAdamwHeadIdeal (m : (ℓ : Loc Cert.ReferenceAdamwHeadIdeal.nD Cert.ReferenceAdamwHeadIdeal.τ Cert.ReferenceAdamwHeadIdeal.sig) → Buf (Elt Ideal) ℓ) : Prop :=
  True

def Pre_AdamwPool (m : (ℓ : Loc Cert.AdamwPool.nD Cert.AdamwPool.τ Cert.AdamwPool.sig) → Buf (Elt Bits) ℓ) : Prop :=
  True

def Pre_AdamwPoolIdeal (m : (ℓ : Loc Cert.AdamwPoolIdeal.nD Cert.AdamwPoolIdeal.τ Cert.AdamwPoolIdeal.sig) → Buf (Elt Ideal) ℓ) : Prop :=
  True

def Pre_ReferenceAdamwPoolIdeal (m : (ℓ : Loc Cert.ReferenceAdamwPoolIdeal.nD Cert.ReferenceAdamwPoolIdeal.τ Cert.ReferenceAdamwPoolIdeal.sig) → Buf (Elt Ideal) ℓ) : Prop :=
  True

def Pre_AdamwWidth (m : (ℓ : Loc Cert.AdamwWidth.nD Cert.AdamwWidth.τ Cert.AdamwWidth.sig) → Buf (Elt Bits) ℓ) : Prop :=
  True

def Pre_AdamwWidthIdeal (m : (ℓ : Loc Cert.AdamwWidthIdeal.nD Cert.AdamwWidthIdeal.τ Cert.AdamwWidthIdeal.sig) → Buf (Elt Ideal) ℓ) : Prop :=
  True

def Pre_ReferenceAdamwWidthIdeal (m : (ℓ : Loc Cert.ReferenceAdamwWidthIdeal.nD Cert.ReferenceAdamwWidthIdeal.τ Cert.ReferenceAdamwWidthIdeal.sig) → Buf (Elt Ideal) ℓ) : Prop :=
  True

def Pre_AdamwBias (m : (ℓ : Loc Cert.AdamwBias.nD Cert.AdamwBias.τ Cert.AdamwBias.sig) → Buf (Elt Bits) ℓ) : Prop :=
  True

def Pre_AdamwBiasIdeal (m : (ℓ : Loc Cert.AdamwBiasIdeal.nD Cert.AdamwBiasIdeal.τ Cert.AdamwBiasIdeal.sig) → Buf (Elt Ideal) ℓ) : Prop :=
  True

def Pre_ReferenceAdamwBiasIdeal (m : (ℓ : Loc Cert.ReferenceAdamwBiasIdeal.nD Cert.ReferenceAdamwBiasIdeal.τ Cert.ReferenceAdamwBiasIdeal.sig) → Buf (Elt Ideal) ℓ) : Prop :=
  True

def Pre_AdamwFinal (m : (ℓ : Loc Cert.AdamwFinal.nD Cert.AdamwFinal.τ Cert.AdamwFinal.sig) → Buf (Elt Bits) ℓ) : Prop :=
  True

def Pre_AdamwFinalIdeal (m : (ℓ : Loc Cert.AdamwFinalIdeal.nD Cert.AdamwFinalIdeal.τ Cert.AdamwFinalIdeal.sig) → Buf (Elt Ideal) ℓ) : Prop :=
  True

def Pre_ReferenceAdamwFinalIdeal (m : (ℓ : Loc Cert.ReferenceAdamwFinalIdeal.nD Cert.ReferenceAdamwFinalIdeal.τ Cert.ReferenceAdamwFinalIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_ReferenceLossIdeal (m : (ℓ : Loc Cert.ReferenceLossIdeal.nD Cert.ReferenceLossIdeal.τ Cert.ReferenceLossIdeal.sig) → Buf (Elt Ideal) ℓ) : Prop :=
  True

def Pre_LossDx (m : (ℓ : Loc Cert.LossDx.nD Cert.LossDx.τ Cert.LossDx.sig) → Buf (Elt Bits) ℓ) : Prop :=
  True

def Pre_LossDxIdeal (m : (ℓ : Loc Cert.LossDxIdeal.nD Cert.LossDxIdeal.τ Cert.LossDxIdeal.sig) → Buf (Elt Ideal) ℓ) : Prop :=
  True

def Pre_ReferenceLossDxIdeal (m : (ℓ : Loc Cert.ReferenceLossDxIdeal.nD Cert.ReferenceLossDxIdeal.τ Cert.ReferenceLossDxIdeal.sig) → Buf (Elt Ideal) ℓ) : Prop :=
  True

def Pre_MixNorm (m : (ℓ : Loc Cert.MixNorm.nD Cert.MixNorm.τ Cert.MixNorm.sig) → Buf (Elt Bits) ℓ) : Prop :=
  True

def Pre_MixNormIdeal (m : (ℓ : Loc Cert.MixNormIdeal.nD Cert.MixNormIdeal.τ Cert.MixNormIdeal.sig) → Buf (Elt Ideal) ℓ) : Prop :=
  True

def Pre_ReferenceMixNormIdeal (m : (ℓ : Loc Cert.ReferenceMixNormIdeal.nD Cert.ReferenceMixNormIdeal.τ Cert.ReferenceMixNormIdeal.sig) → Buf (Elt Ideal) ℓ) : Prop :=
  True

def Pre_MixDmix (m : (ℓ : Loc Cert.MixDmix.nD Cert.MixDmix.τ Cert.MixDmix.sig) → Buf (Elt Bits) ℓ) : Prop :=
  True

def Pre_MixDmixIdeal (m : (ℓ : Loc Cert.MixDmixIdeal.nD Cert.MixDmixIdeal.τ Cert.MixDmixIdeal.sig) → Buf (Elt Ideal) ℓ) : Prop :=
  True

def Pre_ReferenceMixDmixIdeal (m : (ℓ : Loc Cert.ReferenceMixDmixIdeal.nD Cert.ReferenceMixDmixIdeal.τ Cert.ReferenceMixDmixIdeal.sig) → Buf (Elt Ideal) ℓ) : Prop :=
  True

def Pre_OdDwout (m : (ℓ : Loc Cert.OdDwout.nD Cert.OdDwout.τ Cert.OdDwout.sig) → Buf (Elt Bits) ℓ) : Prop :=
  True

def Pre_OdDwoutIdeal (m : (ℓ : Loc Cert.OdDwoutIdeal.nD Cert.OdDwoutIdeal.τ Cert.OdDwoutIdeal.sig) → Buf (Elt Ideal) ℓ) : Prop :=
  True

def Pre_ReferenceOdDwoutIdeal (m : (ℓ : Loc Cert.ReferenceOdDwoutIdeal.nD Cert.ReferenceOdDwoutIdeal.τ Cert.ReferenceOdDwoutIdeal.sig) → Buf (Elt Ideal) ℓ) : Prop :=
  True

def Pre_EvDwout (m : (ℓ : Loc Cert.EvDwout.nD Cert.EvDwout.τ Cert.EvDwout.sig) → Buf (Elt Bits) ℓ) : Prop :=
  True

def Pre_EvDwoutIdeal (m : (ℓ : Loc Cert.EvDwoutIdeal.nD Cert.EvDwoutIdeal.τ Cert.EvDwoutIdeal.sig) → Buf (Elt Ideal) ℓ) : Prop :=
  True

def Pre_ReferenceEvDwoutIdeal (m : (ℓ : Loc Cert.ReferenceEvDwoutIdeal.nD Cert.ReferenceEvDwoutIdeal.τ Cert.ReferenceEvDwoutIdeal.sig) → Buf (Elt Ideal) ℓ) : Prop :=
  True

def Pre_OdDwin (m : (ℓ : Loc Cert.OdDwin.nD Cert.OdDwin.τ Cert.OdDwin.sig) → Buf (Elt Bits) ℓ) : Prop :=
  True

def Pre_OdDwinIdeal (m : (ℓ : Loc Cert.OdDwinIdeal.nD Cert.OdDwinIdeal.τ Cert.OdDwinIdeal.sig) → Buf (Elt Ideal) ℓ) : Prop :=
  True

def Pre_ReferenceOdDwinIdeal (m : (ℓ : Loc Cert.ReferenceOdDwinIdeal.nD Cert.ReferenceOdDwinIdeal.τ Cert.ReferenceOdDwinIdeal.sig) → Buf (Elt Ideal) ℓ) : Prop :=
  True

def Pre_OdDh (m : (ℓ : Loc Cert.OdDh.nD Cert.OdDh.τ Cert.OdDh.sig) → Buf (Elt Bits) ℓ) : Prop :=
  True

def Pre_OdDhIdeal (m : (ℓ : Loc Cert.OdDhIdeal.nD Cert.OdDhIdeal.τ Cert.OdDhIdeal.sig) → Buf (Elt Ideal) ℓ) : Prop :=
  True

def Pre_ReferenceOdDhIdeal (m : (ℓ : Loc Cert.ReferenceOdDhIdeal.nD Cert.ReferenceOdDhIdeal.τ Cert.ReferenceOdDhIdeal.sig) → Buf (Elt Ideal) ℓ) : Prop :=
  True

def Pre_OdIn (m : (ℓ : Loc Cert.OdIn.nD Cert.OdIn.τ Cert.OdIn.sig) → Buf (Elt Bits) ℓ) : Prop :=
  True

def Pre_OdInIdeal (m : (ℓ : Loc Cert.OdInIdeal.nD Cert.OdInIdeal.τ Cert.OdInIdeal.sig) → Buf (Elt Ideal) ℓ) : Prop :=
  True

def Pre_ReferenceOdInIdeal (m : (ℓ : Loc Cert.ReferenceOdInIdeal.nD Cert.ReferenceOdInIdeal.τ Cert.ReferenceOdInIdeal.sig) → Buf (Elt Ideal) ℓ) : Prop :=
  True

def Pre_EvIn (m : (ℓ : Loc Cert.EvIn.nD Cert.EvIn.τ Cert.EvIn.sig) → Buf (Elt Bits) ℓ) : Prop :=
  True

def Pre_EvInIdeal (m : (ℓ : Loc Cert.EvInIdeal.nD Cert.EvInIdeal.τ Cert.EvInIdeal.sig) → Buf (Elt Ideal) ℓ) : Prop :=
  True

def Pre_ReferenceEvInIdeal (m : (ℓ : Loc Cert.ReferenceEvInIdeal.nD Cert.ReferenceEvInIdeal.τ Cert.ReferenceEvInIdeal.sig) → Buf (Elt Ideal) ℓ) : Prop :=
  True

def Pre_OdOut (m : (ℓ : Loc Cert.OdOut.nD Cert.OdOut.τ Cert.OdOut.sig) → Buf (Elt Bits) ℓ) : Prop :=
  True

def Pre_OdOutIdeal (m : (ℓ : Loc Cert.OdOutIdeal.nD Cert.OdOutIdeal.τ Cert.OdOutIdeal.sig) → Buf (Elt Ideal) ℓ) : Prop :=
  True

def Pre_ReferenceOdOutIdeal (m : (ℓ : Loc Cert.ReferenceOdOutIdeal.nD Cert.ReferenceOdOutIdeal.τ Cert.ReferenceOdOutIdeal.sig) → Buf (Elt Ideal) ℓ) : Prop :=
  True

def Pre_EvOut (m : (ℓ : Loc Cert.EvOut.nD Cert.EvOut.τ Cert.EvOut.sig) → Buf (Elt Bits) ℓ) : Prop :=
  True

def Pre_EvOutIdeal (m : (ℓ : Loc Cert.EvOutIdeal.nD Cert.EvOutIdeal.τ Cert.EvOutIdeal.sig) → Buf (Elt Ideal) ℓ) : Prop :=
  True

def Pre_ReferenceEvOutIdeal (m : (ℓ : Loc Cert.ReferenceEvOutIdeal.nD Cert.ReferenceEvOutIdeal.τ Cert.ReferenceEvOutIdeal.sig) → Buf (Elt Ideal) ℓ) : Prop :=
  True

def Pre_EvDwin (m : (ℓ : Loc Cert.EvDwin.nD Cert.EvDwin.τ Cert.EvDwin.sig) → Buf (Elt Bits) ℓ) : Prop :=
  True

def Pre_EvDwinIdeal (m : (ℓ : Loc Cert.EvDwinIdeal.nD Cert.EvDwinIdeal.τ Cert.EvDwinIdeal.sig) → Buf (Elt Ideal) ℓ) : Prop :=
  True

def Pre_ReferenceEvDwinIdeal (m : (ℓ : Loc Cert.ReferenceEvDwinIdeal.nD Cert.ReferenceEvDwinIdeal.τ Cert.ReferenceEvDwinIdeal.sig) → Buf (Elt Ideal) ℓ) : Prop :=
  True

def Pre_EvDh (m : (ℓ : Loc Cert.EvDh.nD Cert.EvDh.τ Cert.EvDh.sig) → Buf (Elt Bits) ℓ) : Prop :=
  True

def Pre_EvDhIdeal (m : (ℓ : Loc Cert.EvDhIdeal.nD Cert.EvDhIdeal.τ Cert.EvDhIdeal.sig) → Buf (Elt Ideal) ℓ) : Prop :=
  True

def Pre_ReferenceEvDhIdeal (m : (ℓ : Loc Cert.ReferenceEvDhIdeal.nD Cert.ReferenceEvDhIdeal.τ Cert.ReferenceEvDhIdeal.sig) → Buf (Elt Ideal) ℓ) : Prop :=
  True

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3))
      ∧ r.2.sem = fun _ => 0)

def quiescent_ReferenceFwdIdeal [hReferenceFwdIdeal : Cert.ReferenceFwdIdeal.Facts] : Prop :=
  ∀ (m : (ℓ : Loc Cert.ReferenceFwdIdeal.nD Cert.ReferenceFwdIdeal.τ Cert.ReferenceFwdIdeal.sig) → Buf (Elt Ideal) ℓ) (g : Dev Cert.ReferenceFwdIdeal.nD → PrngReg), Pre_ReferenceFwdIdeal m →
    θ_run (Cert.ReferenceFwdIdeal.defs (F := Ideal)) (onTc (τ := Cert.ReferenceFwdIdeal.τ) (Cert.ReferenceFwdIdeal.main (F := Ideal))) ⟨m, fun _ => 0, g⟩ (fun r => (∀ c : Dev Cert.ReferenceFwdIdeal.nD,
      r.2.mem ((c.tc : Thread Cert.ReferenceFwdIdeal.nD Cert.ReferenceFwdIdeal.τ).loc Cert.ReferenceFwdIdeal.main_arg0) = m ((c.tc : Thread Cert.ReferenceFwdIdeal.nD Cert.ReferenceFwdIdeal.τ).loc Cert.ReferenceFwdIdeal.main_arg0)
      ∧ r.2.mem ((c.tc : Thread Cert.ReferenceFwdIdeal.nD Cert.ReferenceFwdIdeal.τ).loc Cert.ReferenceFwdIdeal.main_arg1) = m ((c.tc : Thread Cert.ReferenceFwdIdeal.nD Cert.ReferenceFwdIdeal.τ).loc Cert.ReferenceFwdIdeal.main_arg1)
      ∧ r.2.mem ((c.tc : Thread Cert.ReferenceFwdIdeal.nD Cert.ReferenceFwdIdeal.τ).loc Cert.ReferenceFwdIdeal.main_arg2) = m ((c.tc : Thread Cert.ReferenceFwdIdeal.nD Cert.ReferenceFwdIdeal.τ).loc Cert.ReferenceFwdIdeal.main_arg2)
      ∧ r.2.mem ((c.tc : Thread Cert.ReferenceFwdIdeal.nD Cert.ReferenceFwdIdeal.τ).loc Cert.ReferenceFwdIdeal.main_arg3) = m ((c.tc : Thread Cert.ReferenceFwdIdeal.nD Cert.ReferenceFwdIdeal.τ).loc Cert.ReferenceFwdIdeal.main_arg3))
      ∧ r.2.sem = fun _ => 0)

def quiescent_Dwout [hDwout : Cert.Dwout.Facts] : Prop :=
  ∀ (m : (ℓ : Loc Cert.Dwout.nD Cert.Dwout.τ Cert.Dwout.sig) → Buf (Elt Bits) ℓ) (g : Dev Cert.Dwout.nD → PrngReg), Pre_Dwout m →
    θ_run (Cert.Dwout.defs (F := Bits)) (onTc (τ := Cert.Dwout.τ) (Cert.Dwout.main (F := Bits))) ⟨m, fun _ => 0, g⟩ (fun r => (∀ c : Dev Cert.Dwout.nD,
      r.2.mem ((c.tc : Thread Cert.Dwout.nD Cert.Dwout.τ).loc Cert.Dwout.main_arg0) = m ((c.tc : Thread Cert.Dwout.nD Cert.Dwout.τ).loc Cert.Dwout.main_arg0)
      ∧ r.2.mem ((c.tc : Thread Cert.Dwout.nD Cert.Dwout.τ).loc Cert.Dwout.main_arg1) = m ((c.tc : Thread Cert.Dwout.nD Cert.Dwout.τ).loc Cert.Dwout.main_arg1)
      ∧ r.2.mem ((c.tc : Thread Cert.Dwout.nD Cert.Dwout.τ).loc Cert.Dwout.main_arg2) = m ((c.tc : Thread Cert.Dwout.nD Cert.Dwout.τ).loc Cert.Dwout.main_arg2)
      ∧ r.2.mem ((c.tc : Thread Cert.Dwout.nD Cert.Dwout.τ).loc Cert.Dwout.main_arg3) = m ((c.tc : Thread Cert.Dwout.nD Cert.Dwout.τ).loc Cert.Dwout.main_arg3)
      ∧ r.2.mem ((c.tc : Thread Cert.Dwout.nD Cert.Dwout.τ).loc Cert.Dwout.main_arg4) = m ((c.tc : Thread Cert.Dwout.nD Cert.Dwout.τ).loc Cert.Dwout.main_arg4))
      ∧ r.2.sem = fun _ => 0)

def quiescent_DwoutIdeal [hDwoutIdeal : Cert.DwoutIdeal.Facts] : Prop :=
  ∀ (m : (ℓ : Loc Cert.DwoutIdeal.nD Cert.DwoutIdeal.τ Cert.DwoutIdeal.sig) → Buf (Elt Ideal) ℓ) (g : Dev Cert.DwoutIdeal.nD → PrngReg), Pre_DwoutIdeal m →
    θ_run (Cert.DwoutIdeal.defs (F := Ideal)) (onTc (τ := Cert.DwoutIdeal.τ) (Cert.DwoutIdeal.main (F := Ideal))) ⟨m, fun _ => 0, g⟩ (fun r => (∀ c : Dev Cert.DwoutIdeal.nD,
      r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
      ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1)
      ∧ r.2.mem ((c.tc : Thread Cert.DwoutIdeal.nD Cert.DwoutIdeal.τ).loc Cert.DwoutIdeal.main_arg2) = m ((c.tc : Thread Cert.DwoutIdeal.nD Cert.DwoutIdeal.τ).loc Cert.DwoutIdeal.main_arg2)
      ∧ r.2.mem ((c.tc : Thread Cert.DwoutIdeal.nD Cert.DwoutIdeal.τ).loc Cert.DwoutIdeal.main_arg3) = m ((c.tc : Thread Cert.DwoutIdeal.nD Cert.DwoutIdeal.τ).loc Cert.DwoutIdeal.main_arg3)
      ∧ r.2.mem ((c.tc : Thread Cert.DwoutIdeal.nD Cert.DwoutIdeal.τ).loc Cert.DwoutIdeal.main_arg4) = m ((c.tc : Thread Cert.DwoutIdeal.nD Cert.DwoutIdeal.τ).loc Cert.DwoutIdeal.main_arg4))
      ∧ r.2.sem = fun _ => 0)

def quiescent_ReferenceDwoutIdeal [hReferenceDwoutIdeal : Cert.ReferenceDwoutIdeal.Facts] : Prop :=
  ∀ (m : (ℓ : Loc Cert.ReferenceDwoutIdeal.nD Cert.ReferenceDwoutIdeal.τ Cert.ReferenceDwoutIdeal.sig) → Buf (Elt Ideal) ℓ) (g : Dev Cert.ReferenceDwoutIdeal.nD → PrngReg), Pre_ReferenceDwoutIdeal m →
    θ_run (Cert.ReferenceDwoutIdeal.defs (F := Ideal)) (onTc (τ := Cert.ReferenceDwoutIdeal.τ) (Cert.ReferenceDwoutIdeal.main (F := Ideal))) ⟨m, fun _ => 0, g⟩ (fun r => (∀ c : Dev Cert.ReferenceDwoutIdeal.nD,
      r.2.mem ((c.tc : Thread Cert.ReferenceDwoutIdeal.nD Cert.ReferenceDwoutIdeal.τ).loc Cert.ReferenceDwoutIdeal.main_arg0) = m ((c.tc : Thread Cert.ReferenceDwoutIdeal.nD Cert.ReferenceDwoutIdeal.τ).loc Cert.ReferenceDwoutIdeal.main_arg0)
      ∧ r.2.mem ((c.tc : Thread Cert.ReferenceDwoutIdeal.nD Cert.ReferenceDwoutIdeal.τ).loc Cert.ReferenceDwoutIdeal.main_arg1) = m ((c.tc : Thread Cert.ReferenceDwoutIdeal.nD Cert.ReferenceDwoutIdeal.τ).loc Cert.ReferenceDwoutIdeal.main_arg1)
      ∧ r.2.mem ((c.tc : Thread Cert.ReferenceDwoutIdeal.nD Cert.ReferenceDwoutIdeal.τ).loc Cert.ReferenceDwoutIdeal.main_arg2) = m ((c.tc : Thread Cert.ReferenceDwoutIdeal.nD Cert.ReferenceDwoutIdeal.τ).loc Cert.ReferenceDwoutIdeal.main_arg2)
      ∧ r.2.mem ((c.tc : Thread Cert.ReferenceDwoutIdeal.nD Cert.ReferenceDwoutIdeal.τ).loc Cert.ReferenceDwoutIdeal.main_arg3) = m ((c.tc : Thread Cert.ReferenceDwoutIdeal.nD Cert.ReferenceDwoutIdeal.τ).loc Cert.ReferenceDwoutIdeal.main_arg3)
      ∧ r.2.mem ((c.tc : Thread Cert.ReferenceDwoutIdeal.nD Cert.ReferenceDwoutIdeal.τ).loc Cert.ReferenceDwoutIdeal.main_arg4) = m ((c.tc : Thread Cert.ReferenceDwoutIdeal.nD Cert.ReferenceDwoutIdeal.τ).loc Cert.ReferenceDwoutIdeal.main_arg4))
      ∧ r.2.sem = fun _ => 0)

def quiescent_Dwin [hDwin : Cert.Dwin.Facts] : Prop :=
  ∀ (m : (ℓ : Loc Cert.Dwin.nD Cert.Dwin.τ Cert.Dwin.sig) → Buf (Elt Bits) ℓ) (g : Dev Cert.Dwin.nD → PrngReg), Pre_Dwin m →
    θ_run (Cert.Dwin.defs (F := Bits)) (onTc (τ := Cert.Dwin.τ) (Cert.Dwin.main (F := Bits))) ⟨m, fun _ => 0, g⟩ (fun r => (∀ c : Dev Cert.Dwin.nD,
      r.2.mem ((c.tc : Thread Cert.Dwin.nD Cert.Dwin.τ).loc Cert.Dwin.main_arg0) = m ((c.tc : Thread Cert.Dwin.nD Cert.Dwin.τ).loc Cert.Dwin.main_arg0)
      ∧ r.2.mem ((c.tc : Thread Cert.Dwin.nD Cert.Dwin.τ).loc Cert.Dwin.main_arg1) = m ((c.tc : Thread Cert.Dwin.nD Cert.Dwin.τ).loc Cert.Dwin.main_arg1)
      ∧ r.2.mem ((c.tc : Thread Cert.Dwin.nD Cert.Dwin.τ).loc Cert.Dwin.main_arg2) = m ((c.tc : Thread Cert.Dwin.nD Cert.Dwin.τ).loc Cert.Dwin.main_arg2)
      ∧ r.2.mem ((c.tc : Thread Cert.Dwin.nD Cert.Dwin.τ).loc Cert.Dwin.main_arg3) = m ((c.tc : Thread Cert.Dwin.nD Cert.Dwin.τ).loc Cert.Dwin.main_arg3)
      ∧ r.2.mem ((c.tc : Thread Cert.Dwin.nD Cert.Dwin.τ).loc Cert.Dwin.main_arg4) = m ((c.tc : Thread Cert.Dwin.nD Cert.Dwin.τ).loc Cert.Dwin.main_arg4))
      ∧ r.2.sem = fun _ => 0)

def quiescent_DwinIdeal [hDwinIdeal : Cert.DwinIdeal.Facts] : Prop :=
  ∀ (m : (ℓ : Loc Cert.DwinIdeal.nD Cert.DwinIdeal.τ Cert.DwinIdeal.sig) → Buf (Elt Ideal) ℓ) (g : Dev Cert.DwinIdeal.nD → PrngReg), Pre_DwinIdeal m →
    θ_run (Cert.DwinIdeal.defs (F := Ideal)) (onTc (τ := Cert.DwinIdeal.τ) (Cert.DwinIdeal.main (F := Ideal))) ⟨m, fun _ => 0, g⟩ (fun r => (∀ c : Dev Cert.DwinIdeal.nD,
      r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
      ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1)
      ∧ r.2.mem ((c.tc : Thread Cert.DwinIdeal.nD Cert.DwinIdeal.τ).loc Cert.DwinIdeal.main_arg2) = m ((c.tc : Thread Cert.DwinIdeal.nD Cert.DwinIdeal.τ).loc Cert.DwinIdeal.main_arg2)
      ∧ r.2.mem ((c.tc : Thread Cert.DwinIdeal.nD Cert.DwinIdeal.τ).loc Cert.DwinIdeal.main_arg3) = m ((c.tc : Thread Cert.DwinIdeal.nD Cert.DwinIdeal.τ).loc Cert.DwinIdeal.main_arg3)
      ∧ r.2.mem ((c.tc : Thread Cert.DwinIdeal.nD Cert.DwinIdeal.τ).loc Cert.DwinIdeal.main_arg4) = m ((c.tc : Thread Cert.DwinIdeal.nD Cert.DwinIdeal.τ).loc Cert.DwinIdeal.main_arg4))
      ∧ r.2.sem = fun _ => 0)

def quiescent_ReferenceDwinIdeal [hReferenceDwinIdeal : Cert.ReferenceDwinIdeal.Facts] : Prop :=
  ∀ (m : (ℓ : Loc Cert.ReferenceDwinIdeal.nD Cert.ReferenceDwinIdeal.τ Cert.ReferenceDwinIdeal.sig) → Buf (Elt Ideal) ℓ) (g : Dev Cert.ReferenceDwinIdeal.nD → PrngReg), Pre_ReferenceDwinIdeal m →
    θ_run (Cert.ReferenceDwinIdeal.defs (F := Ideal)) (onTc (τ := Cert.ReferenceDwinIdeal.τ) (Cert.ReferenceDwinIdeal.main (F := Ideal))) ⟨m, fun _ => 0, g⟩ (fun r => (∀ c : Dev Cert.ReferenceDwinIdeal.nD,
      r.2.mem ((c.tc : Thread Cert.ReferenceDwinIdeal.nD Cert.ReferenceDwinIdeal.τ).loc Cert.ReferenceDwinIdeal.main_arg0) = m ((c.tc : Thread Cert.ReferenceDwinIdeal.nD Cert.ReferenceDwinIdeal.τ).loc Cert.ReferenceDwinIdeal.main_arg0)
      ∧ r.2.mem ((c.tc : Thread Cert.ReferenceDwinIdeal.nD Cert.ReferenceDwinIdeal.τ).loc Cert.ReferenceDwinIdeal.main_arg1) = m ((c.tc : Thread Cert.ReferenceDwinIdeal.nD Cert.ReferenceDwinIdeal.τ).loc Cert.ReferenceDwinIdeal.main_arg1)
      ∧ r.2.mem ((c.tc : Thread Cert.ReferenceDwinIdeal.nD Cert.ReferenceDwinIdeal.τ).loc Cert.ReferenceDwinIdeal.main_arg2) = m ((c.tc : Thread Cert.ReferenceDwinIdeal.nD Cert.ReferenceDwinIdeal.τ).loc Cert.ReferenceDwinIdeal.main_arg2)
      ∧ r.2.mem ((c.tc : Thread Cert.ReferenceDwinIdeal.nD Cert.ReferenceDwinIdeal.τ).loc Cert.ReferenceDwinIdeal.main_arg3) = m ((c.tc : Thread Cert.ReferenceDwinIdeal.nD Cert.ReferenceDwinIdeal.τ).loc Cert.ReferenceDwinIdeal.main_arg3)
      ∧ r.2.mem ((c.tc : Thread Cert.ReferenceDwinIdeal.nD Cert.ReferenceDwinIdeal.τ).loc Cert.ReferenceDwinIdeal.main_arg4) = m ((c.tc : Thread Cert.ReferenceDwinIdeal.nD Cert.ReferenceDwinIdeal.τ).loc Cert.ReferenceDwinIdeal.main_arg4))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2)
      ∧ r.2.mem ((c.tc : Thread Cert.Dh.nD Cert.Dh.τ).loc Cert.Dh.main_arg3) = m ((c.tc : Thread Cert.Dh.nD Cert.Dh.τ).loc Cert.Dh.main_arg3)
      ∧ r.2.mem ((c.tc : Thread Cert.Dh.nD Cert.Dh.τ).loc Cert.Dh.main_arg4) = m ((c.tc : Thread Cert.Dh.nD Cert.Dh.τ).loc Cert.Dh.main_arg4))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
      ∧ r.2.mem ((c.tc : Thread Cert.DhIdeal.nD Cert.DhIdeal.τ).loc Cert.DhIdeal.main_arg4) = m ((c.tc : Thread Cert.DhIdeal.nD Cert.DhIdeal.τ).loc Cert.DhIdeal.main_arg4))
      ∧ r.2.sem = fun _ => 0)

def quiescent_ReferenceDhIdeal [hReferenceDhIdeal : Cert.ReferenceDhIdeal.Facts] : Prop :=
  ∀ (m : (ℓ : Loc Cert.ReferenceDhIdeal.nD Cert.ReferenceDhIdeal.τ Cert.ReferenceDhIdeal.sig) → Buf (Elt Ideal) ℓ) (g : Dev Cert.ReferenceDhIdeal.nD → PrngReg), Pre_ReferenceDhIdeal m →
    θ_run (Cert.ReferenceDhIdeal.defs (F := Ideal)) (onTc (τ := Cert.ReferenceDhIdeal.τ) (Cert.ReferenceDhIdeal.main (F := Ideal))) ⟨m, fun _ => 0, g⟩ (fun r => (∀ c : Dev Cert.ReferenceDhIdeal.nD,
      r.2.mem ((c.tc : Thread Cert.ReferenceDhIdeal.nD Cert.ReferenceDhIdeal.τ).loc Cert.ReferenceDhIdeal.main_arg0) = m ((c.tc : Thread Cert.ReferenceDhIdeal.nD Cert.ReferenceDhIdeal.τ).loc Cert.ReferenceDhIdeal.main_arg0)
      ∧ r.2.mem ((c.tc : Thread Cert.ReferenceDhIdeal.nD Cert.ReferenceDhIdeal.τ).loc Cert.ReferenceDhIdeal.main_arg1) = m ((c.tc : Thread Cert.ReferenceDhIdeal.nD Cert.ReferenceDhIdeal.τ).loc Cert.ReferenceDhIdeal.main_arg1)
      ∧ r.2.mem ((c.tc : Thread Cert.ReferenceDhIdeal.nD Cert.ReferenceDhIdeal.τ).loc Cert.ReferenceDhIdeal.main_arg2) = m ((c.tc : Thread Cert.ReferenceDhIdeal.nD Cert.ReferenceDhIdeal.τ).loc Cert.ReferenceDhIdeal.main_arg2)
      ∧ r.2.mem ((c.tc : Thread Cert.ReferenceDhIdeal.nD Cert.ReferenceDhIdeal.τ).loc Cert.ReferenceDhIdeal.main_arg3) = m ((c.tc : Thread Cert.ReferenceDhIdeal.nD Cert.ReferenceDhIdeal.τ).loc Cert.ReferenceDhIdeal.main_arg3)
      ∧ r.2.mem ((c.tc : Thread Cert.ReferenceDhIdeal.nD Cert.ReferenceDhIdeal.τ).loc Cert.ReferenceDhIdeal.main_arg4) = m ((c.tc : Thread Cert.ReferenceDhIdeal.nD Cert.ReferenceDhIdeal.τ).loc Cert.ReferenceDhIdeal.main_arg4))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1)
      ∧ r.2.mem ((c.tc : Thread Cert.Dact.nD Cert.Dact.τ).loc Cert.Dact.main_arg2) = m ((c.tc : Thread Cert.Dact.nD Cert.Dact.τ).loc Cert.Dact.main_arg2)
      ∧ r.2.mem ((c.tc : Thread Cert.Dact.nD Cert.Dact.τ).loc Cert.Dact.main_arg3) = m ((c.tc : Thread Cert.Dact.nD Cert.Dact.τ).loc Cert.Dact.main_arg3)
      ∧ r.2.mem ((c.tc : Thread Cert.Dact.nD Cert.Dact.τ).loc Cert.Dact.main_arg4) = m ((c.tc : Thread Cert.Dact.nD Cert.Dact.τ).loc Cert.Dact.main_arg4))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
      ∧ r.2.mem ((c.tc : Thread Cert.DactIdeal.nD Cert.DactIdeal.τ).loc Cert.DactIdeal.main_arg3) = m ((c.tc : Thread Cert.DactIdeal.nD Cert.DactIdeal.τ).loc Cert.DactIdeal.main_arg3)
      ∧ r.2.mem ((c.tc : Thread Cert.DactIdeal.nD Cert.DactIdeal.τ).loc Cert.DactIdeal.main_arg4) = m ((c.tc : Thread Cert.DactIdeal.nD Cert.DactIdeal.τ).loc Cert.DactIdeal.main_arg4))
      ∧ r.2.sem = fun _ => 0)

def quiescent_DactIdeal_pre_finite [hDactIdeal : Cert.DactIdeal.Facts] [hPre_finite : Cert.Pre_finite.Facts] : Prop :=
  ∀ (m : (ℓ : Loc Cert.DactIdeal.nD Cert.DactIdeal.τ Cert.DactIdeal.sig) → Buf (Elt Ideal) ℓ) (g : Dev Cert.DactIdeal.nD → PrngReg), Pre_DactIdeal_finite m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
      ∧ r.2.mem ((c.tc : Thread Cert.DactIdeal.nD Cert.DactIdeal.τ).loc Cert.DactIdeal.main_arg3) = m ((c.tc : Thread Cert.DactIdeal.nD Cert.DactIdeal.τ).loc Cert.DactIdeal.main_arg3)
      ∧ r.2.mem ((c.tc : Thread Cert.DactIdeal.nD Cert.DactIdeal.τ).loc Cert.DactIdeal.main_arg4) = m ((c.tc : Thread Cert.DactIdeal.nD Cert.DactIdeal.τ).loc Cert.DactIdeal.main_arg4))
      ∧ r.2.sem = fun _ => 0)

def quiescent_ReferenceDactIdeal [hReferenceDactIdeal : Cert.ReferenceDactIdeal.Facts] : Prop :=
  ∀ (m : (ℓ : Loc Cert.ReferenceDactIdeal.nD Cert.ReferenceDactIdeal.τ Cert.ReferenceDactIdeal.sig) → Buf (Elt Ideal) ℓ) (g : Dev Cert.ReferenceDactIdeal.nD → PrngReg), Pre_ReferenceDactIdeal m →
    θ_run (Cert.ReferenceDactIdeal.defs (F := Ideal)) (onTc (τ := Cert.ReferenceDactIdeal.τ) (Cert.ReferenceDactIdeal.main (F := Ideal))) ⟨m, fun _ => 0, g⟩ (fun r => (∀ c : Dev Cert.ReferenceDactIdeal.nD,
      r.2.mem ((c.tc : Thread Cert.ReferenceDactIdeal.nD Cert.ReferenceDactIdeal.τ).loc Cert.ReferenceDactIdeal.main_arg0) = m ((c.tc : Thread Cert.ReferenceDactIdeal.nD Cert.ReferenceDactIdeal.τ).loc Cert.ReferenceDactIdeal.main_arg0)
      ∧ r.2.mem ((c.tc : Thread Cert.ReferenceDactIdeal.nD Cert.ReferenceDactIdeal.τ).loc Cert.ReferenceDactIdeal.main_arg1) = m ((c.tc : Thread Cert.ReferenceDactIdeal.nD Cert.ReferenceDactIdeal.τ).loc Cert.ReferenceDactIdeal.main_arg1)
      ∧ r.2.mem ((c.tc : Thread Cert.ReferenceDactIdeal.nD Cert.ReferenceDactIdeal.τ).loc Cert.ReferenceDactIdeal.main_arg2) = m ((c.tc : Thread Cert.ReferenceDactIdeal.nD Cert.ReferenceDactIdeal.τ).loc Cert.ReferenceDactIdeal.main_arg2)
      ∧ r.2.mem ((c.tc : Thread Cert.ReferenceDactIdeal.nD Cert.ReferenceDactIdeal.τ).loc Cert.ReferenceDactIdeal.main_arg3) = m ((c.tc : Thread Cert.ReferenceDactIdeal.nD Cert.ReferenceDactIdeal.τ).loc Cert.ReferenceDactIdeal.main_arg3)
      ∧ r.2.mem ((c.tc : Thread Cert.ReferenceDactIdeal.nD Cert.ReferenceDactIdeal.τ).loc Cert.ReferenceDactIdeal.main_arg4) = m ((c.tc : Thread Cert.ReferenceDactIdeal.nD Cert.ReferenceDactIdeal.τ).loc Cert.ReferenceDactIdeal.main_arg4))
      ∧ r.2.sem = fun _ => 0)

def quiescent_ReferenceDactIdeal_pre_finite [hReferenceDactIdeal : Cert.ReferenceDactIdeal.Facts] [hPre_finite : Cert.Pre_finite.Facts] : Prop :=
  ∀ (m : (ℓ : Loc Cert.ReferenceDactIdeal.nD Cert.ReferenceDactIdeal.τ Cert.ReferenceDactIdeal.sig) → Buf (Elt Ideal) ℓ) (g : Dev Cert.ReferenceDactIdeal.nD → PrngReg), Pre_ReferenceDactIdeal_finite m →
    θ_run (Cert.ReferenceDactIdeal.defs (F := Ideal)) (onTc (τ := Cert.ReferenceDactIdeal.τ) (Cert.ReferenceDactIdeal.main (F := Ideal))) ⟨m, fun _ => 0, g⟩ (fun r => (∀ c : Dev Cert.ReferenceDactIdeal.nD,
      r.2.mem ((c.tc : Thread Cert.ReferenceDactIdeal.nD Cert.ReferenceDactIdeal.τ).loc Cert.ReferenceDactIdeal.main_arg0) = m ((c.tc : Thread Cert.ReferenceDactIdeal.nD Cert.ReferenceDactIdeal.τ).loc Cert.ReferenceDactIdeal.main_arg0)
      ∧ r.2.mem ((c.tc : Thread Cert.ReferenceDactIdeal.nD Cert.ReferenceDactIdeal.τ).loc Cert.ReferenceDactIdeal.main_arg1) = m ((c.tc : Thread Cert.ReferenceDactIdeal.nD Cert.ReferenceDactIdeal.τ).loc Cert.ReferenceDactIdeal.main_arg1)
      ∧ r.2.mem ((c.tc : Thread Cert.ReferenceDactIdeal.nD Cert.ReferenceDactIdeal.τ).loc Cert.ReferenceDactIdeal.main_arg2) = m ((c.tc : Thread Cert.ReferenceDactIdeal.nD Cert.ReferenceDactIdeal.τ).loc Cert.ReferenceDactIdeal.main_arg2)
      ∧ r.2.mem ((c.tc : Thread Cert.ReferenceDactIdeal.nD Cert.ReferenceDactIdeal.τ).loc Cert.ReferenceDactIdeal.main_arg3) = m ((c.tc : Thread Cert.ReferenceDactIdeal.nD Cert.ReferenceDactIdeal.τ).loc Cert.ReferenceDactIdeal.main_arg3)
      ∧ r.2.mem ((c.tc : Thread Cert.ReferenceDactIdeal.nD Cert.ReferenceDactIdeal.τ).loc Cert.ReferenceDactIdeal.main_arg4) = m ((c.tc : Thread Cert.ReferenceDactIdeal.nD Cert.ReferenceDactIdeal.τ).loc Cert.ReferenceDactIdeal.main_arg4))
      ∧ r.2.sem = fun _ => 0)

def quiescent_AdamwIn [hAdamwIn : Cert.AdamwIn.Facts] : Prop :=
  ∀ (m : (ℓ : Loc Cert.AdamwIn.nD Cert.AdamwIn.τ Cert.AdamwIn.sig) → Buf (Elt Bits) ℓ) (g : Dev Cert.AdamwIn.nD → PrngReg), Pre_AdamwIn m →
    θ_run (Cert.AdamwIn.defs (F := Bits)) (onTc (τ := Cert.AdamwIn.τ) (Cert.AdamwIn.main (F := Bits))) ⟨m, fun _ => 0, g⟩ (fun r => (∀ c : Dev Cert.AdamwIn.nD,
      r.2.mem ((c.tc : Thread Cert.AdamwIn.nD Cert.AdamwIn.τ).loc Cert.AdamwIn.main_arg0) = m ((c.tc : Thread Cert.AdamwIn.nD Cert.AdamwIn.τ).loc Cert.AdamwIn.main_arg0)
      ∧ r.2.mem ((c.tc : Thread Cert.AdamwIn.nD Cert.AdamwIn.τ).loc Cert.AdamwIn.main_arg1) = m ((c.tc : Thread Cert.AdamwIn.nD Cert.AdamwIn.τ).loc Cert.AdamwIn.main_arg1)
      ∧ r.2.mem ((c.tc : Thread Cert.AdamwIn.nD Cert.AdamwIn.τ).loc Cert.AdamwIn.main_arg2) = m ((c.tc : Thread Cert.AdamwIn.nD Cert.AdamwIn.τ).loc Cert.AdamwIn.main_arg2)
      ∧ r.2.mem ((c.tc : Thread Cert.AdamwIn.nD Cert.AdamwIn.τ).loc Cert.AdamwIn.main_arg3) = m ((c.tc : Thread Cert.AdamwIn.nD Cert.AdamwIn.τ).loc Cert.AdamwIn.main_arg3))
      ∧ r.2.sem = fun _ => 0)

def quiescent_AdamwInIdeal [hAdamwInIdeal : Cert.AdamwInIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg), Pre_AdamwInIdeal m →
    θ_run (Cert.AdamwInIdeal.defs (F := Ideal)) (onTc (τ := Cert.AdamwInIdeal.τ) (Cert.AdamwInIdeal.main (F := Ideal))) ⟨m, fun _ => 0, g⟩ (fun r => (∀ c : Dev Cert.AdamwInIdeal.nD,
      r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
      ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
      ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
      ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3))
      ∧ r.2.sem = fun _ => 0)

def quiescent_ReferenceAdamwInIdeal [hReferenceAdamwInIdeal : Cert.ReferenceAdamwInIdeal.Facts] : Prop :=
  ∀ (m : (ℓ : Loc Cert.ReferenceAdamwInIdeal.nD Cert.ReferenceAdamwInIdeal.τ Cert.ReferenceAdamwInIdeal.sig) → Buf (Elt Ideal) ℓ) (g : Dev Cert.ReferenceAdamwInIdeal.nD → PrngReg), Pre_ReferenceAdamwInIdeal m →
    θ_run (Cert.ReferenceAdamwInIdeal.defs (F := Ideal)) (onTc (τ := Cert.ReferenceAdamwInIdeal.τ) (Cert.ReferenceAdamwInIdeal.main (F := Ideal))) ⟨m, fun _ => 0, g⟩ (fun r => (∀ c : Dev Cert.ReferenceAdamwInIdeal.nD,
      r.2.mem ((c.tc : Thread Cert.ReferenceAdamwInIdeal.nD Cert.ReferenceAdamwInIdeal.τ).loc Cert.ReferenceAdamwInIdeal.main_arg0) = m ((c.tc : Thread Cert.ReferenceAdamwInIdeal.nD Cert.ReferenceAdamwInIdeal.τ).loc Cert.ReferenceAdamwInIdeal.main_arg0)
      ∧ r.2.mem ((c.tc : Thread Cert.ReferenceAdamwInIdeal.nD Cert.ReferenceAdamwInIdeal.τ).loc Cert.ReferenceAdamwInIdeal.main_arg1) = m ((c.tc : Thread Cert.ReferenceAdamwInIdeal.nD Cert.ReferenceAdamwInIdeal.τ).loc Cert.ReferenceAdamwInIdeal.main_arg1)
      ∧ r.2.mem ((c.tc : Thread Cert.ReferenceAdamwInIdeal.nD Cert.ReferenceAdamwInIdeal.τ).loc Cert.ReferenceAdamwInIdeal.main_arg2) = m ((c.tc : Thread Cert.ReferenceAdamwInIdeal.nD Cert.ReferenceAdamwInIdeal.τ).loc Cert.ReferenceAdamwInIdeal.main_arg2)
      ∧ r.2.mem ((c.tc : Thread Cert.ReferenceAdamwInIdeal.nD Cert.ReferenceAdamwInIdeal.τ).loc Cert.ReferenceAdamwInIdeal.main_arg3) = m ((c.tc : Thread Cert.ReferenceAdamwInIdeal.nD Cert.ReferenceAdamwInIdeal.τ).loc Cert.ReferenceAdamwInIdeal.main_arg3))
      ∧ r.2.sem = fun _ => 0)

def quiescent_AdamwOut [hAdamwOut : Cert.AdamwOut.Facts] : Prop :=
  ∀ (m : (ℓ : Loc Cert.AdamwOut.nD Cert.AdamwOut.τ Cert.AdamwOut.sig) → Buf (Elt Bits) ℓ) (g : Dev Cert.AdamwOut.nD → PrngReg), Pre_AdamwOut m →
    θ_run (Cert.AdamwOut.defs (F := Bits)) (onTc (τ := Cert.AdamwOut.τ) (Cert.AdamwOut.main (F := Bits))) ⟨m, fun _ => 0, g⟩ (fun r => (∀ c : Dev Cert.AdamwOut.nD,
      r.2.mem ((c.tc : Thread Cert.AdamwOut.nD Cert.AdamwOut.τ).loc Cert.AdamwOut.main_arg0) = m ((c.tc : Thread Cert.AdamwOut.nD Cert.AdamwOut.τ).loc Cert.AdamwOut.main_arg0)
      ∧ r.2.mem ((c.tc : Thread Cert.AdamwOut.nD Cert.AdamwOut.τ).loc Cert.AdamwOut.main_arg1) = m ((c.tc : Thread Cert.AdamwOut.nD Cert.AdamwOut.τ).loc Cert.AdamwOut.main_arg1)
      ∧ r.2.mem ((c.tc : Thread Cert.AdamwOut.nD Cert.AdamwOut.τ).loc Cert.AdamwOut.main_arg2) = m ((c.tc : Thread Cert.AdamwOut.nD Cert.AdamwOut.τ).loc Cert.AdamwOut.main_arg2)
      ∧ r.2.mem ((c.tc : Thread Cert.AdamwOut.nD Cert.AdamwOut.τ).loc Cert.AdamwOut.main_arg3) = m ((c.tc : Thread Cert.AdamwOut.nD Cert.AdamwOut.τ).loc Cert.AdamwOut.main_arg3))
      ∧ r.2.sem = fun _ => 0)

def quiescent_AdamwOutIdeal [hAdamwOutIdeal : Cert.AdamwOutIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg), Pre_AdamwOutIdeal m →
    θ_run (Cert.AdamwOutIdeal.defs (F := Ideal)) (onTc (τ := Cert.AdamwOutIdeal.τ) (Cert.AdamwOutIdeal.main (F := Ideal))) ⟨m, fun _ => 0, g⟩ (fun r => (∀ c : Dev Cert.AdamwOutIdeal.nD,
      r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
      ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
      ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
      ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3))
      ∧ r.2.sem = fun _ => 0)

def quiescent_ReferenceAdamwOutIdeal [hReferenceAdamwOutIdeal : Cert.ReferenceAdamwOutIdeal.Facts] : Prop :=
  ∀ (m : (ℓ : Loc Cert.ReferenceAdamwOutIdeal.nD Cert.ReferenceAdamwOutIdeal.τ Cert.ReferenceAdamwOutIdeal.sig) → Buf (Elt Ideal) ℓ) (g : Dev Cert.ReferenceAdamwOutIdeal.nD → PrngReg), Pre_ReferenceAdamwOutIdeal m →
    θ_run (Cert.ReferenceAdamwOutIdeal.defs (F := Ideal)) (onTc (τ := Cert.ReferenceAdamwOutIdeal.τ) (Cert.ReferenceAdamwOutIdeal.main (F := Ideal))) ⟨m, fun _ => 0, g⟩ (fun r => (∀ c : Dev Cert.ReferenceAdamwOutIdeal.nD,
      r.2.mem ((c.tc : Thread Cert.ReferenceAdamwOutIdeal.nD Cert.ReferenceAdamwOutIdeal.τ).loc Cert.ReferenceAdamwOutIdeal.main_arg0) = m ((c.tc : Thread Cert.ReferenceAdamwOutIdeal.nD Cert.ReferenceAdamwOutIdeal.τ).loc Cert.ReferenceAdamwOutIdeal.main_arg0)
      ∧ r.2.mem ((c.tc : Thread Cert.ReferenceAdamwOutIdeal.nD Cert.ReferenceAdamwOutIdeal.τ).loc Cert.ReferenceAdamwOutIdeal.main_arg1) = m ((c.tc : Thread Cert.ReferenceAdamwOutIdeal.nD Cert.ReferenceAdamwOutIdeal.τ).loc Cert.ReferenceAdamwOutIdeal.main_arg1)
      ∧ r.2.mem ((c.tc : Thread Cert.ReferenceAdamwOutIdeal.nD Cert.ReferenceAdamwOutIdeal.τ).loc Cert.ReferenceAdamwOutIdeal.main_arg2) = m ((c.tc : Thread Cert.ReferenceAdamwOutIdeal.nD Cert.ReferenceAdamwOutIdeal.τ).loc Cert.ReferenceAdamwOutIdeal.main_arg2)
      ∧ r.2.mem ((c.tc : Thread Cert.ReferenceAdamwOutIdeal.nD Cert.ReferenceAdamwOutIdeal.τ).loc Cert.ReferenceAdamwOutIdeal.main_arg3) = m ((c.tc : Thread Cert.ReferenceAdamwOutIdeal.nD Cert.ReferenceAdamwOutIdeal.τ).loc Cert.ReferenceAdamwOutIdeal.main_arg3))
      ∧ r.2.sem = fun _ => 0)

def quiescent_AdamwEvIn [hAdamwEvIn : Cert.AdamwEvIn.Facts] : Prop :=
  ∀ (m : (ℓ : Loc Cert.AdamwEvIn.nD Cert.AdamwEvIn.τ Cert.AdamwEvIn.sig) → Buf (Elt Bits) ℓ) (g : Dev Cert.AdamwEvIn.nD → PrngReg), Pre_AdamwEvIn m →
    θ_run (Cert.AdamwEvIn.defs (F := Bits)) (onTc (τ := Cert.AdamwEvIn.τ) (Cert.AdamwEvIn.main (F := Bits))) ⟨m, fun _ => 0, g⟩ (fun r => (∀ c : Dev Cert.AdamwEvIn.nD,
      r.2.mem ((c.tc : Thread Cert.AdamwEvIn.nD Cert.AdamwEvIn.τ).loc Cert.AdamwEvIn.main_arg0) = m ((c.tc : Thread Cert.AdamwEvIn.nD Cert.AdamwEvIn.τ).loc Cert.AdamwEvIn.main_arg0)
      ∧ r.2.mem ((c.tc : Thread Cert.AdamwEvIn.nD Cert.AdamwEvIn.τ).loc Cert.AdamwEvIn.main_arg1) = m ((c.tc : Thread Cert.AdamwEvIn.nD Cert.AdamwEvIn.τ).loc Cert.AdamwEvIn.main_arg1)
      ∧ r.2.mem ((c.tc : Thread Cert.AdamwEvIn.nD Cert.AdamwEvIn.τ).loc Cert.AdamwEvIn.main_arg2) = m ((c.tc : Thread Cert.AdamwEvIn.nD Cert.AdamwEvIn.τ).loc Cert.AdamwEvIn.main_arg2)
      ∧ r.2.mem ((c.tc : Thread Cert.AdamwEvIn.nD Cert.AdamwEvIn.τ).loc Cert.AdamwEvIn.main_arg3) = m ((c.tc : Thread Cert.AdamwEvIn.nD Cert.AdamwEvIn.τ).loc Cert.AdamwEvIn.main_arg3))
      ∧ r.2.sem = fun _ => 0)

def quiescent_AdamwEvInIdeal [hAdamwEvInIdeal : Cert.AdamwEvInIdeal.Facts] : Prop :=
  ∀ (m : (ℓ : Loc Cert.AdamwEvInIdeal.nD Cert.AdamwEvInIdeal.τ Cert.AdamwEvInIdeal.sig) → Buf (Elt Ideal) ℓ) (g : Dev Cert.AdamwEvInIdeal.nD → PrngReg), Pre_AdamwEvInIdeal m →
    θ_run (Cert.AdamwEvInIdeal.defs (F := Ideal)) (onTc (τ := Cert.AdamwEvInIdeal.τ) (Cert.AdamwEvInIdeal.main (F := Ideal))) ⟨m, fun _ => 0, g⟩ (fun r => (∀ c : Dev Cert.AdamwEvInIdeal.nD,
      r.2.mem ((c.tc : Thread Cert.AdamwEvInIdeal.nD Cert.AdamwEvInIdeal.τ).loc Cert.AdamwEvInIdeal.main_arg0) = m ((c.tc : Thread Cert.AdamwEvInIdeal.nD Cert.AdamwEvInIdeal.τ).loc Cert.AdamwEvInIdeal.main_arg0)
      ∧ r.2.mem ((c.tc : Thread Cert.AdamwEvInIdeal.nD Cert.AdamwEvInIdeal.τ).loc Cert.AdamwEvInIdeal.main_arg1) = m ((c.tc : Thread Cert.AdamwEvInIdeal.nD Cert.AdamwEvInIdeal.τ).loc Cert.AdamwEvInIdeal.main_arg1)
      ∧ r.2.mem ((c.tc : Thread Cert.AdamwEvInIdeal.nD Cert.AdamwEvInIdeal.τ).loc Cert.AdamwEvInIdeal.main_arg2) = m ((c.tc : Thread Cert.AdamwEvInIdeal.nD Cert.AdamwEvInIdeal.τ).loc Cert.AdamwEvInIdeal.main_arg2)
      ∧ r.2.mem ((c.tc : Thread Cert.AdamwEvInIdeal.nD Cert.AdamwEvInIdeal.τ).loc Cert.AdamwEvInIdeal.main_arg3) = m ((c.tc : Thread Cert.AdamwEvInIdeal.nD Cert.AdamwEvInIdeal.τ).loc Cert.AdamwEvInIdeal.main_arg3))
      ∧ r.2.sem = fun _ => 0)

def quiescent_ReferenceAdamwEvInIdeal [hReferenceAdamwEvInIdeal : Cert.ReferenceAdamwEvInIdeal.Facts] : Prop :=
  ∀ (m : (ℓ : Loc Cert.ReferenceAdamwEvInIdeal.nD Cert.ReferenceAdamwEvInIdeal.τ Cert.ReferenceAdamwEvInIdeal.sig) → Buf (Elt Ideal) ℓ) (g : Dev Cert.ReferenceAdamwEvInIdeal.nD → PrngReg), Pre_ReferenceAdamwEvInIdeal m →
    θ_run (Cert.ReferenceAdamwEvInIdeal.defs (F := Ideal)) (onTc (τ := Cert.ReferenceAdamwEvInIdeal.τ) (Cert.ReferenceAdamwEvInIdeal.main (F := Ideal))) ⟨m, fun _ => 0, g⟩ (fun r => (∀ c : Dev Cert.ReferenceAdamwEvInIdeal.nD,
      r.2.mem ((c.tc : Thread Cert.ReferenceAdamwEvInIdeal.nD Cert.ReferenceAdamwEvInIdeal.τ).loc Cert.ReferenceAdamwEvInIdeal.main_arg0) = m ((c.tc : Thread Cert.ReferenceAdamwEvInIdeal.nD Cert.ReferenceAdamwEvInIdeal.τ).loc Cert.ReferenceAdamwEvInIdeal.main_arg0)
      ∧ r.2.mem ((c.tc : Thread Cert.ReferenceAdamwEvInIdeal.nD Cert.ReferenceAdamwEvInIdeal.τ).loc Cert.ReferenceAdamwEvInIdeal.main_arg1) = m ((c.tc : Thread Cert.ReferenceAdamwEvInIdeal.nD Cert.ReferenceAdamwEvInIdeal.τ).loc Cert.ReferenceAdamwEvInIdeal.main_arg1)
      ∧ r.2.mem ((c.tc : Thread Cert.ReferenceAdamwEvInIdeal.nD Cert.ReferenceAdamwEvInIdeal.τ).loc Cert.ReferenceAdamwEvInIdeal.main_arg2) = m ((c.tc : Thread Cert.ReferenceAdamwEvInIdeal.nD Cert.ReferenceAdamwEvInIdeal.τ).loc Cert.ReferenceAdamwEvInIdeal.main_arg2)
      ∧ r.2.mem ((c.tc : Thread Cert.ReferenceAdamwEvInIdeal.nD Cert.ReferenceAdamwEvInIdeal.τ).loc Cert.ReferenceAdamwEvInIdeal.main_arg3) = m ((c.tc : Thread Cert.ReferenceAdamwEvInIdeal.nD Cert.ReferenceAdamwEvInIdeal.τ).loc Cert.ReferenceAdamwEvInIdeal.main_arg3))
      ∧ r.2.sem = fun _ => 0)

def quiescent_AdamwOdIn [hAdamwOdIn : Cert.AdamwOdIn.Facts] : Prop :=
  ∀ (m : (ℓ : Loc Cert.AdamwOdIn.nD Cert.AdamwOdIn.τ Cert.AdamwOdIn.sig) → Buf (Elt Bits) ℓ) (g : Dev Cert.AdamwOdIn.nD → PrngReg), Pre_AdamwOdIn m →
    θ_run (Cert.AdamwOdIn.defs (F := Bits)) (onTc (τ := Cert.AdamwOdIn.τ) (Cert.AdamwOdIn.main (F := Bits))) ⟨m, fun _ => 0, g⟩ (fun r => (∀ c : Dev Cert.AdamwOdIn.nD,
      r.2.mem ((c.tc : Thread Cert.AdamwOdIn.nD Cert.AdamwOdIn.τ).loc Cert.AdamwOdIn.main_arg0) = m ((c.tc : Thread Cert.AdamwOdIn.nD Cert.AdamwOdIn.τ).loc Cert.AdamwOdIn.main_arg0)
      ∧ r.2.mem ((c.tc : Thread Cert.AdamwOdIn.nD Cert.AdamwOdIn.τ).loc Cert.AdamwOdIn.main_arg1) = m ((c.tc : Thread Cert.AdamwOdIn.nD Cert.AdamwOdIn.τ).loc Cert.AdamwOdIn.main_arg1)
      ∧ r.2.mem ((c.tc : Thread Cert.AdamwOdIn.nD Cert.AdamwOdIn.τ).loc Cert.AdamwOdIn.main_arg2) = m ((c.tc : Thread Cert.AdamwOdIn.nD Cert.AdamwOdIn.τ).loc Cert.AdamwOdIn.main_arg2)
      ∧ r.2.mem ((c.tc : Thread Cert.AdamwOdIn.nD Cert.AdamwOdIn.τ).loc Cert.AdamwOdIn.main_arg3) = m ((c.tc : Thread Cert.AdamwOdIn.nD Cert.AdamwOdIn.τ).loc Cert.AdamwOdIn.main_arg3))
      ∧ r.2.sem = fun _ => 0)

def quiescent_AdamwOdInIdeal [hAdamwOdInIdeal : Cert.AdamwOdInIdeal.Facts] : Prop :=
  ∀ (m : (ℓ : Loc Cert.AdamwOdInIdeal.nD Cert.AdamwOdInIdeal.τ Cert.AdamwOdInIdeal.sig) → Buf (Elt Ideal) ℓ) (g : Dev Cert.AdamwOdInIdeal.nD → PrngReg), Pre_AdamwOdInIdeal m →
    θ_run (Cert.AdamwOdInIdeal.defs (F := Ideal)) (onTc (τ := Cert.AdamwOdInIdeal.τ) (Cert.AdamwOdInIdeal.main (F := Ideal))) ⟨m, fun _ => 0, g⟩ (fun r => (∀ c : Dev Cert.AdamwOdInIdeal.nD,
      r.2.mem ((c.tc : Thread Cert.AdamwOdInIdeal.nD Cert.AdamwOdInIdeal.τ).loc Cert.AdamwOdInIdeal.main_arg0) = m ((c.tc : Thread Cert.AdamwOdInIdeal.nD Cert.AdamwOdInIdeal.τ).loc Cert.AdamwOdInIdeal.main_arg0)
      ∧ r.2.mem ((c.tc : Thread Cert.AdamwOdInIdeal.nD Cert.AdamwOdInIdeal.τ).loc Cert.AdamwOdInIdeal.main_arg1) = m ((c.tc : Thread Cert.AdamwOdInIdeal.nD Cert.AdamwOdInIdeal.τ).loc Cert.AdamwOdInIdeal.main_arg1)
      ∧ r.2.mem ((c.tc : Thread Cert.AdamwOdInIdeal.nD Cert.AdamwOdInIdeal.τ).loc Cert.AdamwOdInIdeal.main_arg2) = m ((c.tc : Thread Cert.AdamwOdInIdeal.nD Cert.AdamwOdInIdeal.τ).loc Cert.AdamwOdInIdeal.main_arg2)
      ∧ r.2.mem ((c.tc : Thread Cert.AdamwOdInIdeal.nD Cert.AdamwOdInIdeal.τ).loc Cert.AdamwOdInIdeal.main_arg3) = m ((c.tc : Thread Cert.AdamwOdInIdeal.nD Cert.AdamwOdInIdeal.τ).loc Cert.AdamwOdInIdeal.main_arg3))
      ∧ r.2.sem = fun _ => 0)

def quiescent_ReferenceAdamwOdInIdeal [hReferenceAdamwOdInIdeal : Cert.ReferenceAdamwOdInIdeal.Facts] : Prop :=
  ∀ (m : (ℓ : Loc Cert.ReferenceAdamwOdInIdeal.nD Cert.ReferenceAdamwOdInIdeal.τ Cert.ReferenceAdamwOdInIdeal.sig) → Buf (Elt Ideal) ℓ) (g : Dev Cert.ReferenceAdamwOdInIdeal.nD → PrngReg), Pre_ReferenceAdamwOdInIdeal m →
    θ_run (Cert.ReferenceAdamwOdInIdeal.defs (F := Ideal)) (onTc (τ := Cert.ReferenceAdamwOdInIdeal.τ) (Cert.ReferenceAdamwOdInIdeal.main (F := Ideal))) ⟨m, fun _ => 0, g⟩ (fun r => (∀ c : Dev Cert.ReferenceAdamwOdInIdeal.nD,
      r.2.mem ((c.tc : Thread Cert.ReferenceAdamwOdInIdeal.nD Cert.ReferenceAdamwOdInIdeal.τ).loc Cert.ReferenceAdamwOdInIdeal.main_arg0) = m ((c.tc : Thread Cert.ReferenceAdamwOdInIdeal.nD Cert.ReferenceAdamwOdInIdeal.τ).loc Cert.ReferenceAdamwOdInIdeal.main_arg0)
      ∧ r.2.mem ((c.tc : Thread Cert.ReferenceAdamwOdInIdeal.nD Cert.ReferenceAdamwOdInIdeal.τ).loc Cert.ReferenceAdamwOdInIdeal.main_arg1) = m ((c.tc : Thread Cert.ReferenceAdamwOdInIdeal.nD Cert.ReferenceAdamwOdInIdeal.τ).loc Cert.ReferenceAdamwOdInIdeal.main_arg1)
      ∧ r.2.mem ((c.tc : Thread Cert.ReferenceAdamwOdInIdeal.nD Cert.ReferenceAdamwOdInIdeal.τ).loc Cert.ReferenceAdamwOdInIdeal.main_arg2) = m ((c.tc : Thread Cert.ReferenceAdamwOdInIdeal.nD Cert.ReferenceAdamwOdInIdeal.τ).loc Cert.ReferenceAdamwOdInIdeal.main_arg2)
      ∧ r.2.mem ((c.tc : Thread Cert.ReferenceAdamwOdInIdeal.nD Cert.ReferenceAdamwOdInIdeal.τ).loc Cert.ReferenceAdamwOdInIdeal.main_arg3) = m ((c.tc : Thread Cert.ReferenceAdamwOdInIdeal.nD Cert.ReferenceAdamwOdInIdeal.τ).loc Cert.ReferenceAdamwOdInIdeal.main_arg3))
      ∧ r.2.sem = fun _ => 0)

def quiescent_AdamwMixOut [hAdamwMixOut : Cert.AdamwMixOut.Facts] : Prop :=
  ∀ (m : (ℓ : Loc Cert.AdamwMixOut.nD Cert.AdamwMixOut.τ Cert.AdamwMixOut.sig) → Buf (Elt Bits) ℓ) (g : Dev Cert.AdamwMixOut.nD → PrngReg), Pre_AdamwMixOut m →
    θ_run (Cert.AdamwMixOut.defs (F := Bits)) (onTc (τ := Cert.AdamwMixOut.τ) (Cert.AdamwMixOut.main (F := Bits))) ⟨m, fun _ => 0, g⟩ (fun r => (∀ c : Dev Cert.AdamwMixOut.nD,
      r.2.mem ((c.tc : Thread Cert.AdamwMixOut.nD Cert.AdamwMixOut.τ).loc Cert.AdamwMixOut.main_arg0) = m ((c.tc : Thread Cert.AdamwMixOut.nD Cert.AdamwMixOut.τ).loc Cert.AdamwMixOut.main_arg0)
      ∧ r.2.mem ((c.tc : Thread Cert.AdamwMixOut.nD Cert.AdamwMixOut.τ).loc Cert.AdamwMixOut.main_arg1) = m ((c.tc : Thread Cert.AdamwMixOut.nD Cert.AdamwMixOut.τ).loc Cert.AdamwMixOut.main_arg1)
      ∧ r.2.mem ((c.tc : Thread Cert.AdamwMixOut.nD Cert.AdamwMixOut.τ).loc Cert.AdamwMixOut.main_arg2) = m ((c.tc : Thread Cert.AdamwMixOut.nD Cert.AdamwMixOut.τ).loc Cert.AdamwMixOut.main_arg2)
      ∧ r.2.mem ((c.tc : Thread Cert.AdamwMixOut.nD Cert.AdamwMixOut.τ).loc Cert.AdamwMixOut.main_arg3) = m ((c.tc : Thread Cert.AdamwMixOut.nD Cert.AdamwMixOut.τ).loc Cert.AdamwMixOut.main_arg3))
      ∧ r.2.sem = fun _ => 0)

def quiescent_AdamwMixOutIdeal [hAdamwMixOutIdeal : Cert.AdamwMixOutIdeal.Facts] : Prop :=
  ∀ (m : (ℓ : Loc Cert.AdamwMixOutIdeal.nD Cert.AdamwMixOutIdeal.τ Cert.AdamwMixOutIdeal.sig) → Buf (Elt Ideal) ℓ) (g : Dev Cert.AdamwMixOutIdeal.nD → PrngReg), Pre_AdamwMixOutIdeal m →
    θ_run (Cert.AdamwMixOutIdeal.defs (F := Ideal)) (onTc (τ := Cert.AdamwMixOutIdeal.τ) (Cert.AdamwMixOutIdeal.main (F := Ideal))) ⟨m, fun _ => 0, g⟩ (fun r => (∀ c : Dev Cert.AdamwMixOutIdeal.nD,
      r.2.mem ((c.tc : Thread Cert.AdamwMixOutIdeal.nD Cert.AdamwMixOutIdeal.τ).loc Cert.AdamwMixOutIdeal.main_arg0) = m ((c.tc : Thread Cert.AdamwMixOutIdeal.nD Cert.AdamwMixOutIdeal.τ).loc Cert.AdamwMixOutIdeal.main_arg0)
      ∧ r.2.mem ((c.tc : Thread Cert.AdamwMixOutIdeal.nD Cert.AdamwMixOutIdeal.τ).loc Cert.AdamwMixOutIdeal.main_arg1) = m ((c.tc : Thread Cert.AdamwMixOutIdeal.nD Cert.AdamwMixOutIdeal.τ).loc Cert.AdamwMixOutIdeal.main_arg1)
      ∧ r.2.mem ((c.tc : Thread Cert.AdamwMixOutIdeal.nD Cert.AdamwMixOutIdeal.τ).loc Cert.AdamwMixOutIdeal.main_arg2) = m ((c.tc : Thread Cert.AdamwMixOutIdeal.nD Cert.AdamwMixOutIdeal.τ).loc Cert.AdamwMixOutIdeal.main_arg2)
      ∧ r.2.mem ((c.tc : Thread Cert.AdamwMixOutIdeal.nD Cert.AdamwMixOutIdeal.τ).loc Cert.AdamwMixOutIdeal.main_arg3) = m ((c.tc : Thread Cert.AdamwMixOutIdeal.nD Cert.AdamwMixOutIdeal.τ).loc Cert.AdamwMixOutIdeal.main_arg3))
      ∧ r.2.sem = fun _ => 0)

def quiescent_ReferenceAdamwMixOutIdeal [hReferenceAdamwMixOutIdeal : Cert.ReferenceAdamwMixOutIdeal.Facts] : Prop :=
  ∀ (m : (ℓ : Loc Cert.ReferenceAdamwMixOutIdeal.nD Cert.ReferenceAdamwMixOutIdeal.τ Cert.ReferenceAdamwMixOutIdeal.sig) → Buf (Elt Ideal) ℓ) (g : Dev Cert.ReferenceAdamwMixOutIdeal.nD → PrngReg), Pre_ReferenceAdamwMixOutIdeal m →
    θ_run (Cert.ReferenceAdamwMixOutIdeal.defs (F := Ideal)) (onTc (τ := Cert.ReferenceAdamwMixOutIdeal.τ) (Cert.ReferenceAdamwMixOutIdeal.main (F := Ideal))) ⟨m, fun _ => 0, g⟩ (fun r => (∀ c : Dev Cert.ReferenceAdamwMixOutIdeal.nD,
      r.2.mem ((c.tc : Thread Cert.ReferenceAdamwMixOutIdeal.nD Cert.ReferenceAdamwMixOutIdeal.τ).loc Cert.ReferenceAdamwMixOutIdeal.main_arg0) = m ((c.tc : Thread Cert.ReferenceAdamwMixOutIdeal.nD Cert.ReferenceAdamwMixOutIdeal.τ).loc Cert.ReferenceAdamwMixOutIdeal.main_arg0)
      ∧ r.2.mem ((c.tc : Thread Cert.ReferenceAdamwMixOutIdeal.nD Cert.ReferenceAdamwMixOutIdeal.τ).loc Cert.ReferenceAdamwMixOutIdeal.main_arg1) = m ((c.tc : Thread Cert.ReferenceAdamwMixOutIdeal.nD Cert.ReferenceAdamwMixOutIdeal.τ).loc Cert.ReferenceAdamwMixOutIdeal.main_arg1)
      ∧ r.2.mem ((c.tc : Thread Cert.ReferenceAdamwMixOutIdeal.nD Cert.ReferenceAdamwMixOutIdeal.τ).loc Cert.ReferenceAdamwMixOutIdeal.main_arg2) = m ((c.tc : Thread Cert.ReferenceAdamwMixOutIdeal.nD Cert.ReferenceAdamwMixOutIdeal.τ).loc Cert.ReferenceAdamwMixOutIdeal.main_arg2)
      ∧ r.2.mem ((c.tc : Thread Cert.ReferenceAdamwMixOutIdeal.nD Cert.ReferenceAdamwMixOutIdeal.τ).loc Cert.ReferenceAdamwMixOutIdeal.main_arg3) = m ((c.tc : Thread Cert.ReferenceAdamwMixOutIdeal.nD Cert.ReferenceAdamwMixOutIdeal.τ).loc Cert.ReferenceAdamwMixOutIdeal.main_arg3))
      ∧ r.2.sem = fun _ => 0)

def quiescent_AdamwNorm [hAdamwNorm : Cert.AdamwNorm.Facts] : Prop :=
  ∀ (m : (ℓ : Loc Cert.AdamwNorm.nD Cert.AdamwNorm.τ Cert.AdamwNorm.sig) → Buf (Elt Bits) ℓ) (g : Dev Cert.AdamwNorm.nD → PrngReg), Pre_AdamwNorm m →
    θ_run (Cert.AdamwNorm.defs (F := Bits)) (onTc (τ := Cert.AdamwNorm.τ) (Cert.AdamwNorm.main (F := Bits))) ⟨m, fun _ => 0, g⟩ (fun r => (∀ c : Dev Cert.AdamwNorm.nD,
      r.2.mem ((c.tc : Thread Cert.AdamwNorm.nD Cert.AdamwNorm.τ).loc Cert.AdamwNorm.main_arg0) = m ((c.tc : Thread Cert.AdamwNorm.nD Cert.AdamwNorm.τ).loc Cert.AdamwNorm.main_arg0)
      ∧ r.2.mem ((c.tc : Thread Cert.AdamwNorm.nD Cert.AdamwNorm.τ).loc Cert.AdamwNorm.main_arg1) = m ((c.tc : Thread Cert.AdamwNorm.nD Cert.AdamwNorm.τ).loc Cert.AdamwNorm.main_arg1)
      ∧ r.2.mem ((c.tc : Thread Cert.AdamwNorm.nD Cert.AdamwNorm.τ).loc Cert.AdamwNorm.main_arg2) = m ((c.tc : Thread Cert.AdamwNorm.nD Cert.AdamwNorm.τ).loc Cert.AdamwNorm.main_arg2)
      ∧ r.2.mem ((c.tc : Thread Cert.AdamwNorm.nD Cert.AdamwNorm.τ).loc Cert.AdamwNorm.main_arg3) = m ((c.tc : Thread Cert.AdamwNorm.nD Cert.AdamwNorm.τ).loc Cert.AdamwNorm.main_arg3))
      ∧ r.2.sem = fun _ => 0)

def quiescent_AdamwNormIdeal [hAdamwNormIdeal : Cert.AdamwNormIdeal.Facts] : Prop :=
  ∀ (m : (ℓ : Loc Cert.AdamwNormIdeal.nD Cert.AdamwNormIdeal.τ Cert.AdamwNormIdeal.sig) → Buf (Elt Ideal) ℓ) (g : Dev Cert.AdamwNormIdeal.nD → PrngReg), Pre_AdamwNormIdeal m →
    θ_run (Cert.AdamwNormIdeal.defs (F := Ideal)) (onTc (τ := Cert.AdamwNormIdeal.τ) (Cert.AdamwNormIdeal.main (F := Ideal))) ⟨m, fun _ => 0, g⟩ (fun r => (∀ c : Dev Cert.AdamwNormIdeal.nD,
      r.2.mem ((c.tc : Thread Cert.AdamwNormIdeal.nD Cert.AdamwNormIdeal.τ).loc Cert.AdamwNormIdeal.main_arg0) = m ((c.tc : Thread Cert.AdamwNormIdeal.nD Cert.AdamwNormIdeal.τ).loc Cert.AdamwNormIdeal.main_arg0)
      ∧ r.2.mem ((c.tc : Thread Cert.AdamwNormIdeal.nD Cert.AdamwNormIdeal.τ).loc Cert.AdamwNormIdeal.main_arg1) = m ((c.tc : Thread Cert.AdamwNormIdeal.nD Cert.AdamwNormIdeal.τ).loc Cert.AdamwNormIdeal.main_arg1)
      ∧ r.2.mem ((c.tc : Thread Cert.AdamwNormIdeal.nD Cert.AdamwNormIdeal.τ).loc Cert.AdamwNormIdeal.main_arg2) = m ((c.tc : Thread Cert.AdamwNormIdeal.nD Cert.AdamwNormIdeal.τ).loc Cert.AdamwNormIdeal.main_arg2)
      ∧ r.2.mem ((c.tc : Thread Cert.AdamwNormIdeal.nD Cert.AdamwNormIdeal.τ).loc Cert.AdamwNormIdeal.main_arg3) = m ((c.tc : Thread Cert.AdamwNormIdeal.nD Cert.AdamwNormIdeal.τ).loc Cert.AdamwNormIdeal.main_arg3))
      ∧ r.2.sem = fun _ => 0)

def quiescent_ReferenceAdamwNormIdeal [hReferenceAdamwNormIdeal : Cert.ReferenceAdamwNormIdeal.Facts] : Prop :=
  ∀ (m : (ℓ : Loc Cert.ReferenceAdamwNormIdeal.nD Cert.ReferenceAdamwNormIdeal.τ Cert.ReferenceAdamwNormIdeal.sig) → Buf (Elt Ideal) ℓ) (g : Dev Cert.ReferenceAdamwNormIdeal.nD → PrngReg), Pre_ReferenceAdamwNormIdeal m →
    θ_run (Cert.ReferenceAdamwNormIdeal.defs (F := Ideal)) (onTc (τ := Cert.ReferenceAdamwNormIdeal.τ) (Cert.ReferenceAdamwNormIdeal.main (F := Ideal))) ⟨m, fun _ => 0, g⟩ (fun r => (∀ c : Dev Cert.ReferenceAdamwNormIdeal.nD,
      r.2.mem ((c.tc : Thread Cert.ReferenceAdamwNormIdeal.nD Cert.ReferenceAdamwNormIdeal.τ).loc Cert.ReferenceAdamwNormIdeal.main_arg0) = m ((c.tc : Thread Cert.ReferenceAdamwNormIdeal.nD Cert.ReferenceAdamwNormIdeal.τ).loc Cert.ReferenceAdamwNormIdeal.main_arg0)
      ∧ r.2.mem ((c.tc : Thread Cert.ReferenceAdamwNormIdeal.nD Cert.ReferenceAdamwNormIdeal.τ).loc Cert.ReferenceAdamwNormIdeal.main_arg1) = m ((c.tc : Thread Cert.ReferenceAdamwNormIdeal.nD Cert.ReferenceAdamwNormIdeal.τ).loc Cert.ReferenceAdamwNormIdeal.main_arg1)
      ∧ r.2.mem ((c.tc : Thread Cert.ReferenceAdamwNormIdeal.nD Cert.ReferenceAdamwNormIdeal.τ).loc Cert.ReferenceAdamwNormIdeal.main_arg2) = m ((c.tc : Thread Cert.ReferenceAdamwNormIdeal.nD Cert.ReferenceAdamwNormIdeal.τ).loc Cert.ReferenceAdamwNormIdeal.main_arg2)
      ∧ r.2.mem ((c.tc : Thread Cert.ReferenceAdamwNormIdeal.nD Cert.ReferenceAdamwNormIdeal.τ).loc Cert.ReferenceAdamwNormIdeal.main_arg3) = m ((c.tc : Thread Cert.ReferenceAdamwNormIdeal.nD Cert.ReferenceAdamwNormIdeal.τ).loc Cert.ReferenceAdamwNormIdeal.main_arg3))
      ∧ r.2.sem = fun _ => 0)

def quiescent_AdamwConv [hAdamwConv : Cert.AdamwConv.Facts] : Prop :=
  ∀ (m : (ℓ : Loc Cert.AdamwConv.nD Cert.AdamwConv.τ Cert.AdamwConv.sig) → Buf (Elt Bits) ℓ) (g : Dev Cert.AdamwConv.nD → PrngReg), Pre_AdamwConv m →
    θ_run (Cert.AdamwConv.defs (F := Bits)) (onTc (τ := Cert.AdamwConv.τ) (Cert.AdamwConv.main (F := Bits))) ⟨m, fun _ => 0, g⟩ (fun r => (∀ c : Dev Cert.AdamwConv.nD,
      r.2.mem ((c.tc : Thread Cert.AdamwConv.nD Cert.AdamwConv.τ).loc Cert.AdamwConv.main_arg0) = m ((c.tc : Thread Cert.AdamwConv.nD Cert.AdamwConv.τ).loc Cert.AdamwConv.main_arg0)
      ∧ r.2.mem ((c.tc : Thread Cert.AdamwConv.nD Cert.AdamwConv.τ).loc Cert.AdamwConv.main_arg1) = m ((c.tc : Thread Cert.AdamwConv.nD Cert.AdamwConv.τ).loc Cert.AdamwConv.main_arg1)
      ∧ r.2.mem ((c.tc : Thread Cert.AdamwConv.nD Cert.AdamwConv.τ).loc Cert.AdamwConv.main_arg2) = m ((c.tc : Thread Cert.AdamwConv.nD Cert.AdamwConv.τ).loc Cert.AdamwConv.main_arg2)
      ∧ r.2.mem ((c.tc : Thread Cert.AdamwConv.nD Cert.AdamwConv.τ).loc Cert.AdamwConv.main_arg3) = m ((c.tc : Thread Cert.AdamwConv.nD Cert.AdamwConv.τ).loc Cert.AdamwConv.main_arg3))
      ∧ r.2.sem = fun _ => 0)

def quiescent_AdamwConvIdeal [hAdamwConvIdeal : Cert.AdamwConvIdeal.Facts] : Prop :=
  ∀ (m : (ℓ : Loc Cert.AdamwConvIdeal.nD Cert.AdamwConvIdeal.τ Cert.AdamwConvIdeal.sig) → Buf (Elt Ideal) ℓ) (g : Dev Cert.AdamwConvIdeal.nD → PrngReg), Pre_AdamwConvIdeal m →
    θ_run (Cert.AdamwConvIdeal.defs (F := Ideal)) (onTc (τ := Cert.AdamwConvIdeal.τ) (Cert.AdamwConvIdeal.main (F := Ideal))) ⟨m, fun _ => 0, g⟩ (fun r => (∀ c : Dev Cert.AdamwConvIdeal.nD,
      r.2.mem ((c.tc : Thread Cert.AdamwConvIdeal.nD Cert.AdamwConvIdeal.τ).loc Cert.AdamwConvIdeal.main_arg0) = m ((c.tc : Thread Cert.AdamwConvIdeal.nD Cert.AdamwConvIdeal.τ).loc Cert.AdamwConvIdeal.main_arg0)
      ∧ r.2.mem ((c.tc : Thread Cert.AdamwConvIdeal.nD Cert.AdamwConvIdeal.τ).loc Cert.AdamwConvIdeal.main_arg1) = m ((c.tc : Thread Cert.AdamwConvIdeal.nD Cert.AdamwConvIdeal.τ).loc Cert.AdamwConvIdeal.main_arg1)
      ∧ r.2.mem ((c.tc : Thread Cert.AdamwConvIdeal.nD Cert.AdamwConvIdeal.τ).loc Cert.AdamwConvIdeal.main_arg2) = m ((c.tc : Thread Cert.AdamwConvIdeal.nD Cert.AdamwConvIdeal.τ).loc Cert.AdamwConvIdeal.main_arg2)
      ∧ r.2.mem ((c.tc : Thread Cert.AdamwConvIdeal.nD Cert.AdamwConvIdeal.τ).loc Cert.AdamwConvIdeal.main_arg3) = m ((c.tc : Thread Cert.AdamwConvIdeal.nD Cert.AdamwConvIdeal.τ).loc Cert.AdamwConvIdeal.main_arg3))
      ∧ r.2.sem = fun _ => 0)

def quiescent_ReferenceAdamwConvIdeal [hReferenceAdamwConvIdeal : Cert.ReferenceAdamwConvIdeal.Facts] : Prop :=
  ∀ (m : (ℓ : Loc Cert.ReferenceAdamwConvIdeal.nD Cert.ReferenceAdamwConvIdeal.τ Cert.ReferenceAdamwConvIdeal.sig) → Buf (Elt Ideal) ℓ) (g : Dev Cert.ReferenceAdamwConvIdeal.nD → PrngReg), Pre_ReferenceAdamwConvIdeal m →
    θ_run (Cert.ReferenceAdamwConvIdeal.defs (F := Ideal)) (onTc (τ := Cert.ReferenceAdamwConvIdeal.τ) (Cert.ReferenceAdamwConvIdeal.main (F := Ideal))) ⟨m, fun _ => 0, g⟩ (fun r => (∀ c : Dev Cert.ReferenceAdamwConvIdeal.nD,
      r.2.mem ((c.tc : Thread Cert.ReferenceAdamwConvIdeal.nD Cert.ReferenceAdamwConvIdeal.τ).loc Cert.ReferenceAdamwConvIdeal.main_arg0) = m ((c.tc : Thread Cert.ReferenceAdamwConvIdeal.nD Cert.ReferenceAdamwConvIdeal.τ).loc Cert.ReferenceAdamwConvIdeal.main_arg0)
      ∧ r.2.mem ((c.tc : Thread Cert.ReferenceAdamwConvIdeal.nD Cert.ReferenceAdamwConvIdeal.τ).loc Cert.ReferenceAdamwConvIdeal.main_arg1) = m ((c.tc : Thread Cert.ReferenceAdamwConvIdeal.nD Cert.ReferenceAdamwConvIdeal.τ).loc Cert.ReferenceAdamwConvIdeal.main_arg1)
      ∧ r.2.mem ((c.tc : Thread Cert.ReferenceAdamwConvIdeal.nD Cert.ReferenceAdamwConvIdeal.τ).loc Cert.ReferenceAdamwConvIdeal.main_arg2) = m ((c.tc : Thread Cert.ReferenceAdamwConvIdeal.nD Cert.ReferenceAdamwConvIdeal.τ).loc Cert.ReferenceAdamwConvIdeal.main_arg2)
      ∧ r.2.mem ((c.tc : Thread Cert.ReferenceAdamwConvIdeal.nD Cert.ReferenceAdamwConvIdeal.τ).loc Cert.ReferenceAdamwConvIdeal.main_arg3) = m ((c.tc : Thread Cert.ReferenceAdamwConvIdeal.nD Cert.ReferenceAdamwConvIdeal.τ).loc Cert.ReferenceAdamwConvIdeal.main_arg3))
      ∧ r.2.sem = fun _ => 0)

def quiescent_AdamwHead [hAdamwHead : Cert.AdamwHead.Facts] : Prop :=
  ∀ (m : (ℓ : Loc Cert.AdamwHead.nD Cert.AdamwHead.τ Cert.AdamwHead.sig) → Buf (Elt Bits) ℓ) (g : Dev Cert.AdamwHead.nD → PrngReg), Pre_AdamwHead m →
    θ_run (Cert.AdamwHead.defs (F := Bits)) (onTc (τ := Cert.AdamwHead.τ) (Cert.AdamwHead.main (F := Bits))) ⟨m, fun _ => 0, g⟩ (fun r => (∀ c : Dev Cert.AdamwHead.nD,
      r.2.mem ((c.tc : Thread Cert.AdamwHead.nD Cert.AdamwHead.τ).loc Cert.AdamwHead.main_arg0) = m ((c.tc : Thread Cert.AdamwHead.nD Cert.AdamwHead.τ).loc Cert.AdamwHead.main_arg0)
      ∧ r.2.mem ((c.tc : Thread Cert.AdamwHead.nD Cert.AdamwHead.τ).loc Cert.AdamwHead.main_arg1) = m ((c.tc : Thread Cert.AdamwHead.nD Cert.AdamwHead.τ).loc Cert.AdamwHead.main_arg1)
      ∧ r.2.mem ((c.tc : Thread Cert.AdamwHead.nD Cert.AdamwHead.τ).loc Cert.AdamwHead.main_arg2) = m ((c.tc : Thread Cert.AdamwHead.nD Cert.AdamwHead.τ).loc Cert.AdamwHead.main_arg2)
      ∧ r.2.mem ((c.tc : Thread Cert.AdamwHead.nD Cert.AdamwHead.τ).loc Cert.AdamwHead.main_arg3) = m ((c.tc : Thread Cert.AdamwHead.nD Cert.AdamwHead.τ).loc Cert.AdamwHead.main_arg3))
      ∧ r.2.sem = fun _ => 0)

def quiescent_AdamwHeadIdeal [hAdamwHeadIdeal : Cert.AdamwHeadIdeal.Facts] : Prop :=
  ∀ (m : (ℓ : Loc Cert.AdamwHeadIdeal.nD Cert.AdamwHeadIdeal.τ Cert.AdamwHeadIdeal.sig) → Buf (Elt Ideal) ℓ) (g : Dev Cert.AdamwHeadIdeal.nD → PrngReg), Pre_AdamwHeadIdeal m →
    θ_run (Cert.AdamwHeadIdeal.defs (F := Ideal)) (onTc (τ := Cert.AdamwHeadIdeal.τ) (Cert.AdamwHeadIdeal.main (F := Ideal))) ⟨m, fun _ => 0, g⟩ (fun r => (∀ c : Dev Cert.AdamwHeadIdeal.nD,
      r.2.mem ((c.tc : Thread Cert.AdamwHeadIdeal.nD Cert.AdamwHeadIdeal.τ).loc Cert.AdamwHeadIdeal.main_arg0) = m ((c.tc : Thread Cert.AdamwHeadIdeal.nD Cert.AdamwHeadIdeal.τ).loc Cert.AdamwHeadIdeal.main_arg0)
      ∧ r.2.mem ((c.tc : Thread Cert.AdamwHeadIdeal.nD Cert.AdamwHeadIdeal.τ).loc Cert.AdamwHeadIdeal.main_arg1) = m ((c.tc : Thread Cert.AdamwHeadIdeal.nD Cert.AdamwHeadIdeal.τ).loc Cert.AdamwHeadIdeal.main_arg1)
      ∧ r.2.mem ((c.tc : Thread Cert.AdamwHeadIdeal.nD Cert.AdamwHeadIdeal.τ).loc Cert.AdamwHeadIdeal.main_arg2) = m ((c.tc : Thread Cert.AdamwHeadIdeal.nD Cert.AdamwHeadIdeal.τ).loc Cert.AdamwHeadIdeal.main_arg2)
      ∧ r.2.mem ((c.tc : Thread Cert.AdamwHeadIdeal.nD Cert.AdamwHeadIdeal.τ).loc Cert.AdamwHeadIdeal.main_arg3) = m ((c.tc : Thread Cert.AdamwHeadIdeal.nD Cert.AdamwHeadIdeal.τ).loc Cert.AdamwHeadIdeal.main_arg3))
      ∧ r.2.sem = fun _ => 0)

def quiescent_ReferenceAdamwHeadIdeal [hReferenceAdamwHeadIdeal : Cert.ReferenceAdamwHeadIdeal.Facts] : Prop :=
  ∀ (m : (ℓ : Loc Cert.ReferenceAdamwHeadIdeal.nD Cert.ReferenceAdamwHeadIdeal.τ Cert.ReferenceAdamwHeadIdeal.sig) → Buf (Elt Ideal) ℓ) (g : Dev Cert.ReferenceAdamwHeadIdeal.nD → PrngReg), Pre_ReferenceAdamwHeadIdeal m →
    θ_run (Cert.ReferenceAdamwHeadIdeal.defs (F := Ideal)) (onTc (τ := Cert.ReferenceAdamwHeadIdeal.τ) (Cert.ReferenceAdamwHeadIdeal.main (F := Ideal))) ⟨m, fun _ => 0, g⟩ (fun r => (∀ c : Dev Cert.ReferenceAdamwHeadIdeal.nD,
      r.2.mem ((c.tc : Thread Cert.ReferenceAdamwHeadIdeal.nD Cert.ReferenceAdamwHeadIdeal.τ).loc Cert.ReferenceAdamwHeadIdeal.main_arg0) = m ((c.tc : Thread Cert.ReferenceAdamwHeadIdeal.nD Cert.ReferenceAdamwHeadIdeal.τ).loc Cert.ReferenceAdamwHeadIdeal.main_arg0)
      ∧ r.2.mem ((c.tc : Thread Cert.ReferenceAdamwHeadIdeal.nD Cert.ReferenceAdamwHeadIdeal.τ).loc Cert.ReferenceAdamwHeadIdeal.main_arg1) = m ((c.tc : Thread Cert.ReferenceAdamwHeadIdeal.nD Cert.ReferenceAdamwHeadIdeal.τ).loc Cert.ReferenceAdamwHeadIdeal.main_arg1)
      ∧ r.2.mem ((c.tc : Thread Cert.ReferenceAdamwHeadIdeal.nD Cert.ReferenceAdamwHeadIdeal.τ).loc Cert.ReferenceAdamwHeadIdeal.main_arg2) = m ((c.tc : Thread Cert.ReferenceAdamwHeadIdeal.nD Cert.ReferenceAdamwHeadIdeal.τ).loc Cert.ReferenceAdamwHeadIdeal.main_arg2)
      ∧ r.2.mem ((c.tc : Thread Cert.ReferenceAdamwHeadIdeal.nD Cert.ReferenceAdamwHeadIdeal.τ).loc Cert.ReferenceAdamwHeadIdeal.main_arg3) = m ((c.tc : Thread Cert.ReferenceAdamwHeadIdeal.nD Cert.ReferenceAdamwHeadIdeal.τ).loc Cert.ReferenceAdamwHeadIdeal.main_arg3))
      ∧ r.2.sem = fun _ => 0)

def quiescent_AdamwPool [hAdamwPool : Cert.AdamwPool.Facts] : Prop :=
  ∀ (m : (ℓ : Loc Cert.AdamwPool.nD Cert.AdamwPool.τ Cert.AdamwPool.sig) → Buf (Elt Bits) ℓ) (g : Dev Cert.AdamwPool.nD → PrngReg), Pre_AdamwPool m →
    θ_run (Cert.AdamwPool.defs (F := Bits)) (onTc (τ := Cert.AdamwPool.τ) (Cert.AdamwPool.main (F := Bits))) ⟨m, fun _ => 0, g⟩ (fun r => (∀ c : Dev Cert.AdamwPool.nD,
      r.2.mem ((c.tc : Thread Cert.AdamwPool.nD Cert.AdamwPool.τ).loc Cert.AdamwPool.main_arg0) = m ((c.tc : Thread Cert.AdamwPool.nD Cert.AdamwPool.τ).loc Cert.AdamwPool.main_arg0)
      ∧ r.2.mem ((c.tc : Thread Cert.AdamwPool.nD Cert.AdamwPool.τ).loc Cert.AdamwPool.main_arg1) = m ((c.tc : Thread Cert.AdamwPool.nD Cert.AdamwPool.τ).loc Cert.AdamwPool.main_arg1)
      ∧ r.2.mem ((c.tc : Thread Cert.AdamwPool.nD Cert.AdamwPool.τ).loc Cert.AdamwPool.main_arg2) = m ((c.tc : Thread Cert.AdamwPool.nD Cert.AdamwPool.τ).loc Cert.AdamwPool.main_arg2)
      ∧ r.2.mem ((c.tc : Thread Cert.AdamwPool.nD Cert.AdamwPool.τ).loc Cert.AdamwPool.main_arg3) = m ((c.tc : Thread Cert.AdamwPool.nD Cert.AdamwPool.τ).loc Cert.AdamwPool.main_arg3))
      ∧ r.2.sem = fun _ => 0)

def quiescent_AdamwPoolIdeal [hAdamwPoolIdeal : Cert.AdamwPoolIdeal.Facts] : Prop :=
  ∀ (m : (ℓ : Loc Cert.AdamwPoolIdeal.nD Cert.AdamwPoolIdeal.τ Cert.AdamwPoolIdeal.sig) → Buf (Elt Ideal) ℓ) (g : Dev Cert.AdamwPoolIdeal.nD → PrngReg), Pre_AdamwPoolIdeal m →
    θ_run (Cert.AdamwPoolIdeal.defs (F := Ideal)) (onTc (τ := Cert.AdamwPoolIdeal.τ) (Cert.AdamwPoolIdeal.main (F := Ideal))) ⟨m, fun _ => 0, g⟩ (fun r => (∀ c : Dev Cert.AdamwPoolIdeal.nD,
      r.2.mem ((c.tc : Thread Cert.AdamwPoolIdeal.nD Cert.AdamwPoolIdeal.τ).loc Cert.AdamwPoolIdeal.main_arg0) = m ((c.tc : Thread Cert.AdamwPoolIdeal.nD Cert.AdamwPoolIdeal.τ).loc Cert.AdamwPoolIdeal.main_arg0)
      ∧ r.2.mem ((c.tc : Thread Cert.AdamwPoolIdeal.nD Cert.AdamwPoolIdeal.τ).loc Cert.AdamwPoolIdeal.main_arg1) = m ((c.tc : Thread Cert.AdamwPoolIdeal.nD Cert.AdamwPoolIdeal.τ).loc Cert.AdamwPoolIdeal.main_arg1)
      ∧ r.2.mem ((c.tc : Thread Cert.AdamwPoolIdeal.nD Cert.AdamwPoolIdeal.τ).loc Cert.AdamwPoolIdeal.main_arg2) = m ((c.tc : Thread Cert.AdamwPoolIdeal.nD Cert.AdamwPoolIdeal.τ).loc Cert.AdamwPoolIdeal.main_arg2)
      ∧ r.2.mem ((c.tc : Thread Cert.AdamwPoolIdeal.nD Cert.AdamwPoolIdeal.τ).loc Cert.AdamwPoolIdeal.main_arg3) = m ((c.tc : Thread Cert.AdamwPoolIdeal.nD Cert.AdamwPoolIdeal.τ).loc Cert.AdamwPoolIdeal.main_arg3))
      ∧ r.2.sem = fun _ => 0)

def quiescent_ReferenceAdamwPoolIdeal [hReferenceAdamwPoolIdeal : Cert.ReferenceAdamwPoolIdeal.Facts] : Prop :=
  ∀ (m : (ℓ : Loc Cert.ReferenceAdamwPoolIdeal.nD Cert.ReferenceAdamwPoolIdeal.τ Cert.ReferenceAdamwPoolIdeal.sig) → Buf (Elt Ideal) ℓ) (g : Dev Cert.ReferenceAdamwPoolIdeal.nD → PrngReg), Pre_ReferenceAdamwPoolIdeal m →
    θ_run (Cert.ReferenceAdamwPoolIdeal.defs (F := Ideal)) (onTc (τ := Cert.ReferenceAdamwPoolIdeal.τ) (Cert.ReferenceAdamwPoolIdeal.main (F := Ideal))) ⟨m, fun _ => 0, g⟩ (fun r => (∀ c : Dev Cert.ReferenceAdamwPoolIdeal.nD,
      r.2.mem ((c.tc : Thread Cert.ReferenceAdamwPoolIdeal.nD Cert.ReferenceAdamwPoolIdeal.τ).loc Cert.ReferenceAdamwPoolIdeal.main_arg0) = m ((c.tc : Thread Cert.ReferenceAdamwPoolIdeal.nD Cert.ReferenceAdamwPoolIdeal.τ).loc Cert.ReferenceAdamwPoolIdeal.main_arg0)
      ∧ r.2.mem ((c.tc : Thread Cert.ReferenceAdamwPoolIdeal.nD Cert.ReferenceAdamwPoolIdeal.τ).loc Cert.ReferenceAdamwPoolIdeal.main_arg1) = m ((c.tc : Thread Cert.ReferenceAdamwPoolIdeal.nD Cert.ReferenceAdamwPoolIdeal.τ).loc Cert.ReferenceAdamwPoolIdeal.main_arg1)
      ∧ r.2.mem ((c.tc : Thread Cert.ReferenceAdamwPoolIdeal.nD Cert.ReferenceAdamwPoolIdeal.τ).loc Cert.ReferenceAdamwPoolIdeal.main_arg2) = m ((c.tc : Thread Cert.ReferenceAdamwPoolIdeal.nD Cert.ReferenceAdamwPoolIdeal.τ).loc Cert.ReferenceAdamwPoolIdeal.main_arg2)
      ∧ r.2.mem ((c.tc : Thread Cert.ReferenceAdamwPoolIdeal.nD Cert.ReferenceAdamwPoolIdeal.τ).loc Cert.ReferenceAdamwPoolIdeal.main_arg3) = m ((c.tc : Thread Cert.ReferenceAdamwPoolIdeal.nD Cert.ReferenceAdamwPoolIdeal.τ).loc Cert.ReferenceAdamwPoolIdeal.main_arg3))
      ∧ r.2.sem = fun _ => 0)

def quiescent_AdamwWidth [hAdamwWidth : Cert.AdamwWidth.Facts] : Prop :=
  ∀ (m : (ℓ : Loc Cert.AdamwWidth.nD Cert.AdamwWidth.τ Cert.AdamwWidth.sig) → Buf (Elt Bits) ℓ) (g : Dev Cert.AdamwWidth.nD → PrngReg), Pre_AdamwWidth m →
    θ_run (Cert.AdamwWidth.defs (F := Bits)) (onTc (τ := Cert.AdamwWidth.τ) (Cert.AdamwWidth.main (F := Bits))) ⟨m, fun _ => 0, g⟩ (fun r => (∀ c : Dev Cert.AdamwWidth.nD,
      r.2.mem ((c.tc : Thread Cert.AdamwWidth.nD Cert.AdamwWidth.τ).loc Cert.AdamwWidth.main_arg0) = m ((c.tc : Thread Cert.AdamwWidth.nD Cert.AdamwWidth.τ).loc Cert.AdamwWidth.main_arg0)
      ∧ r.2.mem ((c.tc : Thread Cert.AdamwWidth.nD Cert.AdamwWidth.τ).loc Cert.AdamwWidth.main_arg1) = m ((c.tc : Thread Cert.AdamwWidth.nD Cert.AdamwWidth.τ).loc Cert.AdamwWidth.main_arg1)
      ∧ r.2.mem ((c.tc : Thread Cert.AdamwWidth.nD Cert.AdamwWidth.τ).loc Cert.AdamwWidth.main_arg2) = m ((c.tc : Thread Cert.AdamwWidth.nD Cert.AdamwWidth.τ).loc Cert.AdamwWidth.main_arg2)
      ∧ r.2.mem ((c.tc : Thread Cert.AdamwWidth.nD Cert.AdamwWidth.τ).loc Cert.AdamwWidth.main_arg3) = m ((c.tc : Thread Cert.AdamwWidth.nD Cert.AdamwWidth.τ).loc Cert.AdamwWidth.main_arg3))
      ∧ r.2.sem = fun _ => 0)

def quiescent_AdamwWidthIdeal [hAdamwWidthIdeal : Cert.AdamwWidthIdeal.Facts] : Prop :=
  ∀ (m : (ℓ : Loc Cert.AdamwWidthIdeal.nD Cert.AdamwWidthIdeal.τ Cert.AdamwWidthIdeal.sig) → Buf (Elt Ideal) ℓ) (g : Dev Cert.AdamwWidthIdeal.nD → PrngReg), Pre_AdamwWidthIdeal m →
    θ_run (Cert.AdamwWidthIdeal.defs (F := Ideal)) (onTc (τ := Cert.AdamwWidthIdeal.τ) (Cert.AdamwWidthIdeal.main (F := Ideal))) ⟨m, fun _ => 0, g⟩ (fun r => (∀ c : Dev Cert.AdamwWidthIdeal.nD,
      r.2.mem ((c.tc : Thread Cert.AdamwWidthIdeal.nD Cert.AdamwWidthIdeal.τ).loc Cert.AdamwWidthIdeal.main_arg0) = m ((c.tc : Thread Cert.AdamwWidthIdeal.nD Cert.AdamwWidthIdeal.τ).loc Cert.AdamwWidthIdeal.main_arg0)
      ∧ r.2.mem ((c.tc : Thread Cert.AdamwWidthIdeal.nD Cert.AdamwWidthIdeal.τ).loc Cert.AdamwWidthIdeal.main_arg1) = m ((c.tc : Thread Cert.AdamwWidthIdeal.nD Cert.AdamwWidthIdeal.τ).loc Cert.AdamwWidthIdeal.main_arg1)
      ∧ r.2.mem ((c.tc : Thread Cert.AdamwWidthIdeal.nD Cert.AdamwWidthIdeal.τ).loc Cert.AdamwWidthIdeal.main_arg2) = m ((c.tc : Thread Cert.AdamwWidthIdeal.nD Cert.AdamwWidthIdeal.τ).loc Cert.AdamwWidthIdeal.main_arg2)
      ∧ r.2.mem ((c.tc : Thread Cert.AdamwWidthIdeal.nD Cert.AdamwWidthIdeal.τ).loc Cert.AdamwWidthIdeal.main_arg3) = m ((c.tc : Thread Cert.AdamwWidthIdeal.nD Cert.AdamwWidthIdeal.τ).loc Cert.AdamwWidthIdeal.main_arg3))
      ∧ r.2.sem = fun _ => 0)

def quiescent_ReferenceAdamwWidthIdeal [hReferenceAdamwWidthIdeal : Cert.ReferenceAdamwWidthIdeal.Facts] : Prop :=
  ∀ (m : (ℓ : Loc Cert.ReferenceAdamwWidthIdeal.nD Cert.ReferenceAdamwWidthIdeal.τ Cert.ReferenceAdamwWidthIdeal.sig) → Buf (Elt Ideal) ℓ) (g : Dev Cert.ReferenceAdamwWidthIdeal.nD → PrngReg), Pre_ReferenceAdamwWidthIdeal m →
    θ_run (Cert.ReferenceAdamwWidthIdeal.defs (F := Ideal)) (onTc (τ := Cert.ReferenceAdamwWidthIdeal.τ) (Cert.ReferenceAdamwWidthIdeal.main (F := Ideal))) ⟨m, fun _ => 0, g⟩ (fun r => (∀ c : Dev Cert.ReferenceAdamwWidthIdeal.nD,
      r.2.mem ((c.tc : Thread Cert.ReferenceAdamwWidthIdeal.nD Cert.ReferenceAdamwWidthIdeal.τ).loc Cert.ReferenceAdamwWidthIdeal.main_arg0) = m ((c.tc : Thread Cert.ReferenceAdamwWidthIdeal.nD Cert.ReferenceAdamwWidthIdeal.τ).loc Cert.ReferenceAdamwWidthIdeal.main_arg0)
      ∧ r.2.mem ((c.tc : Thread Cert.ReferenceAdamwWidthIdeal.nD Cert.ReferenceAdamwWidthIdeal.τ).loc Cert.ReferenceAdamwWidthIdeal.main_arg1) = m ((c.tc : Thread Cert.ReferenceAdamwWidthIdeal.nD Cert.ReferenceAdamwWidthIdeal.τ).loc Cert.ReferenceAdamwWidthIdeal.main_arg1)
      ∧ r.2.mem ((c.tc : Thread Cert.ReferenceAdamwWidthIdeal.nD Cert.ReferenceAdamwWidthIdeal.τ).loc Cert.ReferenceAdamwWidthIdeal.main_arg2) = m ((c.tc : Thread Cert.ReferenceAdamwWidthIdeal.nD Cert.ReferenceAdamwWidthIdeal.τ).loc Cert.ReferenceAdamwWidthIdeal.main_arg2)
      ∧ r.2.mem ((c.tc : Thread Cert.ReferenceAdamwWidthIdeal.nD Cert.ReferenceAdamwWidthIdeal.τ).loc Cert.ReferenceAdamwWidthIdeal.main_arg3) = m ((c.tc : Thread Cert.ReferenceAdamwWidthIdeal.nD Cert.ReferenceAdamwWidthIdeal.τ).loc Cert.ReferenceAdamwWidthIdeal.main_arg3))
      ∧ r.2.sem = fun _ => 0)

def quiescent_AdamwBias [hAdamwBias : Cert.AdamwBias.Facts] : Prop :=
  ∀ (m : (ℓ : Loc Cert.AdamwBias.nD Cert.AdamwBias.τ Cert.AdamwBias.sig) → Buf (Elt Bits) ℓ) (g : Dev Cert.AdamwBias.nD → PrngReg), Pre_AdamwBias m →
    θ_run (Cert.AdamwBias.defs (F := Bits)) (onTc (τ := Cert.AdamwBias.τ) (Cert.AdamwBias.main (F := Bits))) ⟨m, fun _ => 0, g⟩ (fun r => (∀ c : Dev Cert.AdamwBias.nD,
      r.2.mem ((c.tc : Thread Cert.AdamwBias.nD Cert.AdamwBias.τ).loc Cert.AdamwBias.main_arg0) = m ((c.tc : Thread Cert.AdamwBias.nD Cert.AdamwBias.τ).loc Cert.AdamwBias.main_arg0)
      ∧ r.2.mem ((c.tc : Thread Cert.AdamwBias.nD Cert.AdamwBias.τ).loc Cert.AdamwBias.main_arg1) = m ((c.tc : Thread Cert.AdamwBias.nD Cert.AdamwBias.τ).loc Cert.AdamwBias.main_arg1)
      ∧ r.2.mem ((c.tc : Thread Cert.AdamwBias.nD Cert.AdamwBias.τ).loc Cert.AdamwBias.main_arg2) = m ((c.tc : Thread Cert.AdamwBias.nD Cert.AdamwBias.τ).loc Cert.AdamwBias.main_arg2)
      ∧ r.2.mem ((c.tc : Thread Cert.AdamwBias.nD Cert.AdamwBias.τ).loc Cert.AdamwBias.main_arg3) = m ((c.tc : Thread Cert.AdamwBias.nD Cert.AdamwBias.τ).loc Cert.AdamwBias.main_arg3))
      ∧ r.2.sem = fun _ => 0)

def quiescent_AdamwBiasIdeal [hAdamwBiasIdeal : Cert.AdamwBiasIdeal.Facts] : Prop :=
  ∀ (m : (ℓ : Loc Cert.AdamwBiasIdeal.nD Cert.AdamwBiasIdeal.τ Cert.AdamwBiasIdeal.sig) → Buf (Elt Ideal) ℓ) (g : Dev Cert.AdamwBiasIdeal.nD → PrngReg), Pre_AdamwBiasIdeal m →
    θ_run (Cert.AdamwBiasIdeal.defs (F := Ideal)) (onTc (τ := Cert.AdamwBiasIdeal.τ) (Cert.AdamwBiasIdeal.main (F := Ideal))) ⟨m, fun _ => 0, g⟩ (fun r => (∀ c : Dev Cert.AdamwBiasIdeal.nD,
      r.2.mem ((c.tc : Thread Cert.AdamwBiasIdeal.nD Cert.AdamwBiasIdeal.τ).loc Cert.AdamwBiasIdeal.main_arg0) = m ((c.tc : Thread Cert.AdamwBiasIdeal.nD Cert.AdamwBiasIdeal.τ).loc Cert.AdamwBiasIdeal.main_arg0)
      ∧ r.2.mem ((c.tc : Thread Cert.AdamwBiasIdeal.nD Cert.AdamwBiasIdeal.τ).loc Cert.AdamwBiasIdeal.main_arg1) = m ((c.tc : Thread Cert.AdamwBiasIdeal.nD Cert.AdamwBiasIdeal.τ).loc Cert.AdamwBiasIdeal.main_arg1)
      ∧ r.2.mem ((c.tc : Thread Cert.AdamwBiasIdeal.nD Cert.AdamwBiasIdeal.τ).loc Cert.AdamwBiasIdeal.main_arg2) = m ((c.tc : Thread Cert.AdamwBiasIdeal.nD Cert.AdamwBiasIdeal.τ).loc Cert.AdamwBiasIdeal.main_arg2)
      ∧ r.2.mem ((c.tc : Thread Cert.AdamwBiasIdeal.nD Cert.AdamwBiasIdeal.τ).loc Cert.AdamwBiasIdeal.main_arg3) = m ((c.tc : Thread Cert.AdamwBiasIdeal.nD Cert.AdamwBiasIdeal.τ).loc Cert.AdamwBiasIdeal.main_arg3))
      ∧ r.2.sem = fun _ => 0)

def quiescent_ReferenceAdamwBiasIdeal [hReferenceAdamwBiasIdeal : Cert.ReferenceAdamwBiasIdeal.Facts] : Prop :=
  ∀ (m : (ℓ : Loc Cert.ReferenceAdamwBiasIdeal.nD Cert.ReferenceAdamwBiasIdeal.τ Cert.ReferenceAdamwBiasIdeal.sig) → Buf (Elt Ideal) ℓ) (g : Dev Cert.ReferenceAdamwBiasIdeal.nD → PrngReg), Pre_ReferenceAdamwBiasIdeal m →
    θ_run (Cert.ReferenceAdamwBiasIdeal.defs (F := Ideal)) (onTc (τ := Cert.ReferenceAdamwBiasIdeal.τ) (Cert.ReferenceAdamwBiasIdeal.main (F := Ideal))) ⟨m, fun _ => 0, g⟩ (fun r => (∀ c : Dev Cert.ReferenceAdamwBiasIdeal.nD,
      r.2.mem ((c.tc : Thread Cert.ReferenceAdamwBiasIdeal.nD Cert.ReferenceAdamwBiasIdeal.τ).loc Cert.ReferenceAdamwBiasIdeal.main_arg0) = m ((c.tc : Thread Cert.ReferenceAdamwBiasIdeal.nD Cert.ReferenceAdamwBiasIdeal.τ).loc Cert.ReferenceAdamwBiasIdeal.main_arg0)
      ∧ r.2.mem ((c.tc : Thread Cert.ReferenceAdamwBiasIdeal.nD Cert.ReferenceAdamwBiasIdeal.τ).loc Cert.ReferenceAdamwBiasIdeal.main_arg1) = m ((c.tc : Thread Cert.ReferenceAdamwBiasIdeal.nD Cert.ReferenceAdamwBiasIdeal.τ).loc Cert.ReferenceAdamwBiasIdeal.main_arg1)
      ∧ r.2.mem ((c.tc : Thread Cert.ReferenceAdamwBiasIdeal.nD Cert.ReferenceAdamwBiasIdeal.τ).loc Cert.ReferenceAdamwBiasIdeal.main_arg2) = m ((c.tc : Thread Cert.ReferenceAdamwBiasIdeal.nD Cert.ReferenceAdamwBiasIdeal.τ).loc Cert.ReferenceAdamwBiasIdeal.main_arg2)
      ∧ r.2.mem ((c.tc : Thread Cert.ReferenceAdamwBiasIdeal.nD Cert.ReferenceAdamwBiasIdeal.τ).loc Cert.ReferenceAdamwBiasIdeal.main_arg3) = m ((c.tc : Thread Cert.ReferenceAdamwBiasIdeal.nD Cert.ReferenceAdamwBiasIdeal.τ).loc Cert.ReferenceAdamwBiasIdeal.main_arg3))
      ∧ r.2.sem = fun _ => 0)

def quiescent_AdamwFinal [hAdamwFinal : Cert.AdamwFinal.Facts] : Prop :=
  ∀ (m : (ℓ : Loc Cert.AdamwFinal.nD Cert.AdamwFinal.τ Cert.AdamwFinal.sig) → Buf (Elt Bits) ℓ) (g : Dev Cert.AdamwFinal.nD → PrngReg), Pre_AdamwFinal m →
    θ_run (Cert.AdamwFinal.defs (F := Bits)) (onTc (τ := Cert.AdamwFinal.τ) (Cert.AdamwFinal.main (F := Bits))) ⟨m, fun _ => 0, g⟩ (fun r => (∀ c : Dev Cert.AdamwFinal.nD,
      r.2.mem ((c.tc : Thread Cert.AdamwFinal.nD Cert.AdamwFinal.τ).loc Cert.AdamwFinal.main_arg0) = m ((c.tc : Thread Cert.AdamwFinal.nD Cert.AdamwFinal.τ).loc Cert.AdamwFinal.main_arg0)
      ∧ r.2.mem ((c.tc : Thread Cert.AdamwFinal.nD Cert.AdamwFinal.τ).loc Cert.AdamwFinal.main_arg1) = m ((c.tc : Thread Cert.AdamwFinal.nD Cert.AdamwFinal.τ).loc Cert.AdamwFinal.main_arg1)
      ∧ r.2.mem ((c.tc : Thread Cert.AdamwFinal.nD Cert.AdamwFinal.τ).loc Cert.AdamwFinal.main_arg2) = m ((c.tc : Thread Cert.AdamwFinal.nD Cert.AdamwFinal.τ).loc Cert.AdamwFinal.main_arg2)
      ∧ r.2.mem ((c.tc : Thread Cert.AdamwFinal.nD Cert.AdamwFinal.τ).loc Cert.AdamwFinal.main_arg3) = m ((c.tc : Thread Cert.AdamwFinal.nD Cert.AdamwFinal.τ).loc Cert.AdamwFinal.main_arg3))
      ∧ r.2.sem = fun _ => 0)

def quiescent_AdamwFinalIdeal [hAdamwFinalIdeal : Cert.AdamwFinalIdeal.Facts] : Prop :=
  ∀ (m : (ℓ : Loc Cert.AdamwFinalIdeal.nD Cert.AdamwFinalIdeal.τ Cert.AdamwFinalIdeal.sig) → Buf (Elt Ideal) ℓ) (g : Dev Cert.AdamwFinalIdeal.nD → PrngReg), Pre_AdamwFinalIdeal m →
    θ_run (Cert.AdamwFinalIdeal.defs (F := Ideal)) (onTc (τ := Cert.AdamwFinalIdeal.τ) (Cert.AdamwFinalIdeal.main (F := Ideal))) ⟨m, fun _ => 0, g⟩ (fun r => (∀ c : Dev Cert.AdamwFinalIdeal.nD,
      r.2.mem ((c.tc : Thread Cert.AdamwFinalIdeal.nD Cert.AdamwFinalIdeal.τ).loc Cert.AdamwFinalIdeal.main_arg0) = m ((c.tc : Thread Cert.AdamwFinalIdeal.nD Cert.AdamwFinalIdeal.τ).loc Cert.AdamwFinalIdeal.main_arg0)
      ∧ r.2.mem ((c.tc : Thread Cert.AdamwFinalIdeal.nD Cert.AdamwFinalIdeal.τ).loc Cert.AdamwFinalIdeal.main_arg1) = m ((c.tc : Thread Cert.AdamwFinalIdeal.nD Cert.AdamwFinalIdeal.τ).loc Cert.AdamwFinalIdeal.main_arg1)
      ∧ r.2.mem ((c.tc : Thread Cert.AdamwFinalIdeal.nD Cert.AdamwFinalIdeal.τ).loc Cert.AdamwFinalIdeal.main_arg2) = m ((c.tc : Thread Cert.AdamwFinalIdeal.nD Cert.AdamwFinalIdeal.τ).loc Cert.AdamwFinalIdeal.main_arg2)
      ∧ r.2.mem ((c.tc : Thread Cert.AdamwFinalIdeal.nD Cert.AdamwFinalIdeal.τ).loc Cert.AdamwFinalIdeal.main_arg3) = m ((c.tc : Thread Cert.AdamwFinalIdeal.nD Cert.AdamwFinalIdeal.τ).loc Cert.AdamwFinalIdeal.main_arg3))
      ∧ r.2.sem = fun _ => 0)

def quiescent_ReferenceAdamwFinalIdeal [hReferenceAdamwFinalIdeal : Cert.ReferenceAdamwFinalIdeal.Facts] : Prop :=
  ∀ (m : (ℓ : Loc Cert.ReferenceAdamwFinalIdeal.nD Cert.ReferenceAdamwFinalIdeal.τ Cert.ReferenceAdamwFinalIdeal.sig) → Buf (Elt Ideal) ℓ) (g : Dev Cert.ReferenceAdamwFinalIdeal.nD → PrngReg), Pre_ReferenceAdamwFinalIdeal m →
    θ_run (Cert.ReferenceAdamwFinalIdeal.defs (F := Ideal)) (onTc (τ := Cert.ReferenceAdamwFinalIdeal.τ) (Cert.ReferenceAdamwFinalIdeal.main (F := Ideal))) ⟨m, fun _ => 0, g⟩ (fun r => (∀ c : Dev Cert.ReferenceAdamwFinalIdeal.nD,
      r.2.mem ((c.tc : Thread Cert.ReferenceAdamwFinalIdeal.nD Cert.ReferenceAdamwFinalIdeal.τ).loc Cert.ReferenceAdamwFinalIdeal.main_arg0) = m ((c.tc : Thread Cert.ReferenceAdamwFinalIdeal.nD Cert.ReferenceAdamwFinalIdeal.τ).loc Cert.ReferenceAdamwFinalIdeal.main_arg0)
      ∧ r.2.mem ((c.tc : Thread Cert.ReferenceAdamwFinalIdeal.nD Cert.ReferenceAdamwFinalIdeal.τ).loc Cert.ReferenceAdamwFinalIdeal.main_arg1) = m ((c.tc : Thread Cert.ReferenceAdamwFinalIdeal.nD Cert.ReferenceAdamwFinalIdeal.τ).loc Cert.ReferenceAdamwFinalIdeal.main_arg1)
      ∧ r.2.mem ((c.tc : Thread Cert.ReferenceAdamwFinalIdeal.nD Cert.ReferenceAdamwFinalIdeal.τ).loc Cert.ReferenceAdamwFinalIdeal.main_arg2) = m ((c.tc : Thread Cert.ReferenceAdamwFinalIdeal.nD Cert.ReferenceAdamwFinalIdeal.τ).loc Cert.ReferenceAdamwFinalIdeal.main_arg2)
      ∧ r.2.mem ((c.tc : Thread Cert.ReferenceAdamwFinalIdeal.nD Cert.ReferenceAdamwFinalIdeal.τ).loc Cert.ReferenceAdamwFinalIdeal.main_arg3) = m ((c.tc : Thread Cert.ReferenceAdamwFinalIdeal.nD Cert.ReferenceAdamwFinalIdeal.τ).loc Cert.ReferenceAdamwFinalIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2))
      ∧ r.2.sem = fun _ => 0)

def quiescent_LossDx [hLossDx : Cert.LossDx.Facts] : Prop :=
  ∀ (m : (ℓ : Loc Cert.LossDx.nD Cert.LossDx.τ Cert.LossDx.sig) → Buf (Elt Bits) ℓ) (g : Dev Cert.LossDx.nD → PrngReg), Pre_LossDx m →
    θ_run (Cert.LossDx.defs (F := Bits)) (onTc (τ := Cert.LossDx.τ) (Cert.LossDx.main (F := Bits))) ⟨m, fun _ => 0, g⟩ (fun r => (∀ c : Dev Cert.LossDx.nD,
      r.2.mem ((c.tc : Thread Cert.LossDx.nD Cert.LossDx.τ).loc Cert.LossDx.main_arg0) = m ((c.tc : Thread Cert.LossDx.nD Cert.LossDx.τ).loc Cert.LossDx.main_arg0)
      ∧ r.2.mem ((c.tc : Thread Cert.LossDx.nD Cert.LossDx.τ).loc Cert.LossDx.main_arg1) = m ((c.tc : Thread Cert.LossDx.nD Cert.LossDx.τ).loc Cert.LossDx.main_arg1)
      ∧ r.2.mem ((c.tc : Thread Cert.LossDx.nD Cert.LossDx.τ).loc Cert.LossDx.main_arg2) = m ((c.tc : Thread Cert.LossDx.nD Cert.LossDx.τ).loc Cert.LossDx.main_arg2))
      ∧ r.2.sem = fun _ => 0)

def quiescent_LossDxIdeal [hLossDxIdeal : Cert.LossDxIdeal.Facts] : Prop :=
  ∀ (m : (ℓ : Loc Cert.LossDxIdeal.nD Cert.LossDxIdeal.τ Cert.LossDxIdeal.sig) → Buf (Elt Ideal) ℓ) (g : Dev Cert.LossDxIdeal.nD → PrngReg), Pre_LossDxIdeal m →
    θ_run (Cert.LossDxIdeal.defs (F := Ideal)) (onTc (τ := Cert.LossDxIdeal.τ) (Cert.LossDxIdeal.main (F := Ideal))) ⟨m, fun _ => 0, g⟩ (fun r => (∀ c : Dev Cert.LossDxIdeal.nD,
      r.2.mem ((c.tc : Thread Cert.LossDxIdeal.nD Cert.LossDxIdeal.τ).loc Cert.LossDxIdeal.main_arg0) = m ((c.tc : Thread Cert.LossDxIdeal.nD Cert.LossDxIdeal.τ).loc Cert.LossDxIdeal.main_arg0)
      ∧ r.2.mem ((c.tc : Thread Cert.LossDxIdeal.nD Cert.LossDxIdeal.τ).loc Cert.LossDxIdeal.main_arg1) = m ((c.tc : Thread Cert.LossDxIdeal.nD Cert.LossDxIdeal.τ).loc Cert.LossDxIdeal.main_arg1)
      ∧ r.2.mem ((c.tc : Thread Cert.LossDxIdeal.nD Cert.LossDxIdeal.τ).loc Cert.LossDxIdeal.main_arg2) = m ((c.tc : Thread Cert.LossDxIdeal.nD Cert.LossDxIdeal.τ).loc Cert.LossDxIdeal.main_arg2))
      ∧ r.2.sem = fun _ => 0)

def quiescent_ReferenceLossDxIdeal [hReferenceLossDxIdeal : Cert.ReferenceLossDxIdeal.Facts] : Prop :=
  ∀ (m : (ℓ : Loc Cert.ReferenceLossDxIdeal.nD Cert.ReferenceLossDxIdeal.τ Cert.ReferenceLossDxIdeal.sig) → Buf (Elt Ideal) ℓ) (g : Dev Cert.ReferenceLossDxIdeal.nD → PrngReg), Pre_ReferenceLossDxIdeal m →
    θ_run (Cert.ReferenceLossDxIdeal.defs (F := Ideal)) (onTc (τ := Cert.ReferenceLossDxIdeal.τ) (Cert.ReferenceLossDxIdeal.main (F := Ideal))) ⟨m, fun _ => 0, g⟩ (fun r => (∀ c : Dev Cert.ReferenceLossDxIdeal.nD,
      r.2.mem ((c.tc : Thread Cert.ReferenceLossDxIdeal.nD Cert.ReferenceLossDxIdeal.τ).loc Cert.ReferenceLossDxIdeal.main_arg0) = m ((c.tc : Thread Cert.ReferenceLossDxIdeal.nD Cert.ReferenceLossDxIdeal.τ).loc Cert.ReferenceLossDxIdeal.main_arg0)
      ∧ r.2.mem ((c.tc : Thread Cert.ReferenceLossDxIdeal.nD Cert.ReferenceLossDxIdeal.τ).loc Cert.ReferenceLossDxIdeal.main_arg1) = m ((c.tc : Thread Cert.ReferenceLossDxIdeal.nD Cert.ReferenceLossDxIdeal.τ).loc Cert.ReferenceLossDxIdeal.main_arg1)
      ∧ r.2.mem ((c.tc : Thread Cert.ReferenceLossDxIdeal.nD Cert.ReferenceLossDxIdeal.τ).loc Cert.ReferenceLossDxIdeal.main_arg2) = m ((c.tc : Thread Cert.ReferenceLossDxIdeal.nD Cert.ReferenceLossDxIdeal.τ).loc Cert.ReferenceLossDxIdeal.main_arg2))
      ∧ r.2.sem = fun _ => 0)

def quiescent_MixNorm [hMixNorm : Cert.MixNorm.Facts] : Prop :=
  ∀ (m : (ℓ : Loc Cert.MixNorm.nD Cert.MixNorm.τ Cert.MixNorm.sig) → Buf (Elt Bits) ℓ) (g : Dev Cert.MixNorm.nD → PrngReg), Pre_MixNorm m →
    θ_run (Cert.MixNorm.defs (F := Bits)) (onTc (τ := Cert.MixNorm.τ) (Cert.MixNorm.main (F := Bits))) ⟨m, fun _ => 0, g⟩ (fun r => (∀ c : Dev Cert.MixNorm.nD,
      r.2.mem ((c.tc : Thread Cert.MixNorm.nD Cert.MixNorm.τ).loc Cert.MixNorm.main_arg0) = m ((c.tc : Thread Cert.MixNorm.nD Cert.MixNorm.τ).loc Cert.MixNorm.main_arg0)
      ∧ r.2.mem ((c.tc : Thread Cert.MixNorm.nD Cert.MixNorm.τ).loc Cert.MixNorm.main_arg1) = m ((c.tc : Thread Cert.MixNorm.nD Cert.MixNorm.τ).loc Cert.MixNorm.main_arg1))
      ∧ r.2.sem = fun _ => 0)

def quiescent_MixNormIdeal [hMixNormIdeal : Cert.MixNormIdeal.Facts] : Prop :=
  ∀ (m : (ℓ : Loc Cert.MixNormIdeal.nD Cert.MixNormIdeal.τ Cert.MixNormIdeal.sig) → Buf (Elt Ideal) ℓ) (g : Dev Cert.MixNormIdeal.nD → PrngReg), Pre_MixNormIdeal m →
    θ_run (Cert.MixNormIdeal.defs (F := Ideal)) (onTc (τ := Cert.MixNormIdeal.τ) (Cert.MixNormIdeal.main (F := Ideal))) ⟨m, fun _ => 0, g⟩ (fun r => (∀ c : Dev Cert.MixNormIdeal.nD,
      r.2.mem ((c.tc : Thread Cert.MixNormIdeal.nD Cert.MixNormIdeal.τ).loc Cert.MixNormIdeal.main_arg0) = m ((c.tc : Thread Cert.MixNormIdeal.nD Cert.MixNormIdeal.τ).loc Cert.MixNormIdeal.main_arg0)
      ∧ r.2.mem ((c.tc : Thread Cert.MixNormIdeal.nD Cert.MixNormIdeal.τ).loc Cert.MixNormIdeal.main_arg1) = m ((c.tc : Thread Cert.MixNormIdeal.nD Cert.MixNormIdeal.τ).loc Cert.MixNormIdeal.main_arg1))
      ∧ r.2.sem = fun _ => 0)

def quiescent_ReferenceMixNormIdeal [hReferenceMixNormIdeal : Cert.ReferenceMixNormIdeal.Facts] : Prop :=
  ∀ (m : (ℓ : Loc Cert.ReferenceMixNormIdeal.nD Cert.ReferenceMixNormIdeal.τ Cert.ReferenceMixNormIdeal.sig) → Buf (Elt Ideal) ℓ) (g : Dev Cert.ReferenceMixNormIdeal.nD → PrngReg), Pre_ReferenceMixNormIdeal m →
    θ_run (Cert.ReferenceMixNormIdeal.defs (F := Ideal)) (onTc (τ := Cert.ReferenceMixNormIdeal.τ) (Cert.ReferenceMixNormIdeal.main (F := Ideal))) ⟨m, fun _ => 0, g⟩ (fun r => (∀ c : Dev Cert.ReferenceMixNormIdeal.nD,
      r.2.mem ((c.tc : Thread Cert.ReferenceMixNormIdeal.nD Cert.ReferenceMixNormIdeal.τ).loc Cert.ReferenceMixNormIdeal.main_arg0) = m ((c.tc : Thread Cert.ReferenceMixNormIdeal.nD Cert.ReferenceMixNormIdeal.τ).loc Cert.ReferenceMixNormIdeal.main_arg0)
      ∧ r.2.mem ((c.tc : Thread Cert.ReferenceMixNormIdeal.nD Cert.ReferenceMixNormIdeal.τ).loc Cert.ReferenceMixNormIdeal.main_arg1) = m ((c.tc : Thread Cert.ReferenceMixNormIdeal.nD Cert.ReferenceMixNormIdeal.τ).loc Cert.ReferenceMixNormIdeal.main_arg1))
      ∧ r.2.sem = fun _ => 0)

def quiescent_MixDmix [hMixDmix : Cert.MixDmix.Facts] : Prop :=
  ∀ (m : (ℓ : Loc Cert.MixDmix.nD Cert.MixDmix.τ Cert.MixDmix.sig) → Buf (Elt Bits) ℓ) (g : Dev Cert.MixDmix.nD → PrngReg), Pre_MixDmix m →
    θ_run (Cert.MixDmix.defs (F := Bits)) (onTc (τ := Cert.MixDmix.τ) (Cert.MixDmix.main (F := Bits))) ⟨m, fun _ => 0, g⟩ (fun r => (∀ c : Dev Cert.MixDmix.nD,
      r.2.mem ((c.tc : Thread Cert.MixDmix.nD Cert.MixDmix.τ).loc Cert.MixDmix.main_arg0) = m ((c.tc : Thread Cert.MixDmix.nD Cert.MixDmix.τ).loc Cert.MixDmix.main_arg0)
      ∧ r.2.mem ((c.tc : Thread Cert.MixDmix.nD Cert.MixDmix.τ).loc Cert.MixDmix.main_arg1) = m ((c.tc : Thread Cert.MixDmix.nD Cert.MixDmix.τ).loc Cert.MixDmix.main_arg1)
      ∧ r.2.mem ((c.tc : Thread Cert.MixDmix.nD Cert.MixDmix.τ).loc Cert.MixDmix.main_arg2) = m ((c.tc : Thread Cert.MixDmix.nD Cert.MixDmix.τ).loc Cert.MixDmix.main_arg2)
      ∧ r.2.mem ((c.tc : Thread Cert.MixDmix.nD Cert.MixDmix.τ).loc Cert.MixDmix.main_arg3) = m ((c.tc : Thread Cert.MixDmix.nD Cert.MixDmix.τ).loc Cert.MixDmix.main_arg3))
      ∧ r.2.sem = fun _ => 0)

def quiescent_MixDmixIdeal [hMixDmixIdeal : Cert.MixDmixIdeal.Facts] : Prop :=
  ∀ (m : (ℓ : Loc Cert.MixDmixIdeal.nD Cert.MixDmixIdeal.τ Cert.MixDmixIdeal.sig) → Buf (Elt Ideal) ℓ) (g : Dev Cert.MixDmixIdeal.nD → PrngReg), Pre_MixDmixIdeal m →
    θ_run (Cert.MixDmixIdeal.defs (F := Ideal)) (onTc (τ := Cert.MixDmixIdeal.τ) (Cert.MixDmixIdeal.main (F := Ideal))) ⟨m, fun _ => 0, g⟩ (fun r => (∀ c : Dev Cert.MixDmixIdeal.nD,
      r.2.mem ((c.tc : Thread Cert.MixDmixIdeal.nD Cert.MixDmixIdeal.τ).loc Cert.MixDmixIdeal.main_arg0) = m ((c.tc : Thread Cert.MixDmixIdeal.nD Cert.MixDmixIdeal.τ).loc Cert.MixDmixIdeal.main_arg0)
      ∧ r.2.mem ((c.tc : Thread Cert.MixDmixIdeal.nD Cert.MixDmixIdeal.τ).loc Cert.MixDmixIdeal.main_arg1) = m ((c.tc : Thread Cert.MixDmixIdeal.nD Cert.MixDmixIdeal.τ).loc Cert.MixDmixIdeal.main_arg1)
      ∧ r.2.mem ((c.tc : Thread Cert.MixDmixIdeal.nD Cert.MixDmixIdeal.τ).loc Cert.MixDmixIdeal.main_arg2) = m ((c.tc : Thread Cert.MixDmixIdeal.nD Cert.MixDmixIdeal.τ).loc Cert.MixDmixIdeal.main_arg2)
      ∧ r.2.mem ((c.tc : Thread Cert.MixDmixIdeal.nD Cert.MixDmixIdeal.τ).loc Cert.MixDmixIdeal.main_arg3) = m ((c.tc : Thread Cert.MixDmixIdeal.nD Cert.MixDmixIdeal.τ).loc Cert.MixDmixIdeal.main_arg3))
      ∧ r.2.sem = fun _ => 0)

def quiescent_ReferenceMixDmixIdeal [hReferenceMixDmixIdeal : Cert.ReferenceMixDmixIdeal.Facts] : Prop :=
  ∀ (m : (ℓ : Loc Cert.ReferenceMixDmixIdeal.nD Cert.ReferenceMixDmixIdeal.τ Cert.ReferenceMixDmixIdeal.sig) → Buf (Elt Ideal) ℓ) (g : Dev Cert.ReferenceMixDmixIdeal.nD → PrngReg), Pre_ReferenceMixDmixIdeal m →
    θ_run (Cert.ReferenceMixDmixIdeal.defs (F := Ideal)) (onTc (τ := Cert.ReferenceMixDmixIdeal.τ) (Cert.ReferenceMixDmixIdeal.main (F := Ideal))) ⟨m, fun _ => 0, g⟩ (fun r => (∀ c : Dev Cert.ReferenceMixDmixIdeal.nD,
      r.2.mem ((c.tc : Thread Cert.ReferenceMixDmixIdeal.nD Cert.ReferenceMixDmixIdeal.τ).loc Cert.ReferenceMixDmixIdeal.main_arg0) = m ((c.tc : Thread Cert.ReferenceMixDmixIdeal.nD Cert.ReferenceMixDmixIdeal.τ).loc Cert.ReferenceMixDmixIdeal.main_arg0)
      ∧ r.2.mem ((c.tc : Thread Cert.ReferenceMixDmixIdeal.nD Cert.ReferenceMixDmixIdeal.τ).loc Cert.ReferenceMixDmixIdeal.main_arg1) = m ((c.tc : Thread Cert.ReferenceMixDmixIdeal.nD Cert.ReferenceMixDmixIdeal.τ).loc Cert.ReferenceMixDmixIdeal.main_arg1)
      ∧ r.2.mem ((c.tc : Thread Cert.ReferenceMixDmixIdeal.nD Cert.ReferenceMixDmixIdeal.τ).loc Cert.ReferenceMixDmixIdeal.main_arg2) = m ((c.tc : Thread Cert.ReferenceMixDmixIdeal.nD Cert.ReferenceMixDmixIdeal.τ).loc Cert.ReferenceMixDmixIdeal.main_arg2)
      ∧ r.2.mem ((c.tc : Thread Cert.ReferenceMixDmixIdeal.nD Cert.ReferenceMixDmixIdeal.τ).loc Cert.ReferenceMixDmixIdeal.main_arg3) = m ((c.tc : Thread Cert.ReferenceMixDmixIdeal.nD Cert.ReferenceMixDmixIdeal.τ).loc Cert.ReferenceMixDmixIdeal.main_arg3))
      ∧ r.2.sem = fun _ => 0)

def quiescent_OdDwout [hOdDwout : Cert.OdDwout.Facts] : Prop :=
  ∀ (m : (ℓ : Loc Cert.OdDwout.nD Cert.OdDwout.τ Cert.OdDwout.sig) → Buf (Elt Bits) ℓ) (g : Dev Cert.OdDwout.nD → PrngReg), Pre_OdDwout m →
    θ_run (Cert.OdDwout.defs (F := Bits)) (onTc (τ := Cert.OdDwout.τ) (Cert.OdDwout.main (F := Bits))) ⟨m, fun _ => 0, g⟩ (fun r => (∀ c : Dev Cert.OdDwout.nD,
      r.2.mem ((c.tc : Thread Cert.OdDwout.nD Cert.OdDwout.τ).loc Cert.OdDwout.main_arg0) = m ((c.tc : Thread Cert.OdDwout.nD Cert.OdDwout.τ).loc Cert.OdDwout.main_arg0)
      ∧ r.2.mem ((c.tc : Thread Cert.OdDwout.nD Cert.OdDwout.τ).loc Cert.OdDwout.main_arg1) = m ((c.tc : Thread Cert.OdDwout.nD Cert.OdDwout.τ).loc Cert.OdDwout.main_arg1)
      ∧ r.2.mem ((c.tc : Thread Cert.OdDwout.nD Cert.OdDwout.τ).loc Cert.OdDwout.main_arg2) = m ((c.tc : Thread Cert.OdDwout.nD Cert.OdDwout.τ).loc Cert.OdDwout.main_arg2)
      ∧ r.2.mem ((c.tc : Thread Cert.OdDwout.nD Cert.OdDwout.τ).loc Cert.OdDwout.main_arg3) = m ((c.tc : Thread Cert.OdDwout.nD Cert.OdDwout.τ).loc Cert.OdDwout.main_arg3))
      ∧ r.2.sem = fun _ => 0)

def quiescent_OdDwoutIdeal [hOdDwoutIdeal : Cert.OdDwoutIdeal.Facts] : Prop :=
  ∀ (m : (ℓ : Loc Cert.OdDwoutIdeal.nD Cert.OdDwoutIdeal.τ Cert.OdDwoutIdeal.sig) → Buf (Elt Ideal) ℓ) (g : Dev Cert.OdDwoutIdeal.nD → PrngReg), Pre_OdDwoutIdeal m →
    θ_run (Cert.OdDwoutIdeal.defs (F := Ideal)) (onTc (τ := Cert.OdDwoutIdeal.τ) (Cert.OdDwoutIdeal.main (F := Ideal))) ⟨m, fun _ => 0, g⟩ (fun r => (∀ c : Dev Cert.OdDwoutIdeal.nD,
      r.2.mem ((c.tc : Thread Cert.OdDwoutIdeal.nD Cert.OdDwoutIdeal.τ).loc Cert.OdDwoutIdeal.main_arg0) = m ((c.tc : Thread Cert.OdDwoutIdeal.nD Cert.OdDwoutIdeal.τ).loc Cert.OdDwoutIdeal.main_arg0)
      ∧ r.2.mem ((c.tc : Thread Cert.OdDwoutIdeal.nD Cert.OdDwoutIdeal.τ).loc Cert.OdDwoutIdeal.main_arg1) = m ((c.tc : Thread Cert.OdDwoutIdeal.nD Cert.OdDwoutIdeal.τ).loc Cert.OdDwoutIdeal.main_arg1)
      ∧ r.2.mem ((c.tc : Thread Cert.OdDwoutIdeal.nD Cert.OdDwoutIdeal.τ).loc Cert.OdDwoutIdeal.main_arg2) = m ((c.tc : Thread Cert.OdDwoutIdeal.nD Cert.OdDwoutIdeal.τ).loc Cert.OdDwoutIdeal.main_arg2)
      ∧ r.2.mem ((c.tc : Thread Cert.OdDwoutIdeal.nD Cert.OdDwoutIdeal.τ).loc Cert.OdDwoutIdeal.main_arg3) = m ((c.tc : Thread Cert.OdDwoutIdeal.nD Cert.OdDwoutIdeal.τ).loc Cert.OdDwoutIdeal.main_arg3))
      ∧ r.2.sem = fun _ => 0)

def quiescent_ReferenceOdDwoutIdeal [hReferenceOdDwoutIdeal : Cert.ReferenceOdDwoutIdeal.Facts] : Prop :=
  ∀ (m : (ℓ : Loc Cert.ReferenceOdDwoutIdeal.nD Cert.ReferenceOdDwoutIdeal.τ Cert.ReferenceOdDwoutIdeal.sig) → Buf (Elt Ideal) ℓ) (g : Dev Cert.ReferenceOdDwoutIdeal.nD → PrngReg), Pre_ReferenceOdDwoutIdeal m →
    θ_run (Cert.ReferenceOdDwoutIdeal.defs (F := Ideal)) (onTc (τ := Cert.ReferenceOdDwoutIdeal.τ) (Cert.ReferenceOdDwoutIdeal.main (F := Ideal))) ⟨m, fun _ => 0, g⟩ (fun r => (∀ c : Dev Cert.ReferenceOdDwoutIdeal.nD,
      r.2.mem ((c.tc : Thread Cert.ReferenceOdDwoutIdeal.nD Cert.ReferenceOdDwoutIdeal.τ).loc Cert.ReferenceOdDwoutIdeal.main_arg0) = m ((c.tc : Thread Cert.ReferenceOdDwoutIdeal.nD Cert.ReferenceOdDwoutIdeal.τ).loc Cert.ReferenceOdDwoutIdeal.main_arg0)
      ∧ r.2.mem ((c.tc : Thread Cert.ReferenceOdDwoutIdeal.nD Cert.ReferenceOdDwoutIdeal.τ).loc Cert.ReferenceOdDwoutIdeal.main_arg1) = m ((c.tc : Thread Cert.ReferenceOdDwoutIdeal.nD Cert.ReferenceOdDwoutIdeal.τ).loc Cert.ReferenceOdDwoutIdeal.main_arg1)
      ∧ r.2.mem ((c.tc : Thread Cert.ReferenceOdDwoutIdeal.nD Cert.ReferenceOdDwoutIdeal.τ).loc Cert.ReferenceOdDwoutIdeal.main_arg2) = m ((c.tc : Thread Cert.ReferenceOdDwoutIdeal.nD Cert.ReferenceOdDwoutIdeal.τ).loc Cert.ReferenceOdDwoutIdeal.main_arg2)
      ∧ r.2.mem ((c.tc : Thread Cert.ReferenceOdDwoutIdeal.nD Cert.ReferenceOdDwoutIdeal.τ).loc Cert.ReferenceOdDwoutIdeal.main_arg3) = m ((c.tc : Thread Cert.ReferenceOdDwoutIdeal.nD Cert.ReferenceOdDwoutIdeal.τ).loc Cert.ReferenceOdDwoutIdeal.main_arg3))
      ∧ r.2.sem = fun _ => 0)

def quiescent_EvDwout [hEvDwout : Cert.EvDwout.Facts] : Prop :=
  ∀ (m : (ℓ : Loc Cert.EvDwout.nD Cert.EvDwout.τ Cert.EvDwout.sig) → Buf (Elt Bits) ℓ) (g : Dev Cert.EvDwout.nD → PrngReg), Pre_EvDwout m →
    θ_run (Cert.EvDwout.defs (F := Bits)) (onTc (τ := Cert.EvDwout.τ) (Cert.EvDwout.main (F := Bits))) ⟨m, fun _ => 0, g⟩ (fun r => (∀ c : Dev Cert.EvDwout.nD,
      r.2.mem ((c.tc : Thread Cert.EvDwout.nD Cert.EvDwout.τ).loc Cert.EvDwout.main_arg0) = m ((c.tc : Thread Cert.EvDwout.nD Cert.EvDwout.τ).loc Cert.EvDwout.main_arg0)
      ∧ r.2.mem ((c.tc : Thread Cert.EvDwout.nD Cert.EvDwout.τ).loc Cert.EvDwout.main_arg1) = m ((c.tc : Thread Cert.EvDwout.nD Cert.EvDwout.τ).loc Cert.EvDwout.main_arg1)
      ∧ r.2.mem ((c.tc : Thread Cert.EvDwout.nD Cert.EvDwout.τ).loc Cert.EvDwout.main_arg2) = m ((c.tc : Thread Cert.EvDwout.nD Cert.EvDwout.τ).loc Cert.EvDwout.main_arg2)
      ∧ r.2.mem ((c.tc : Thread Cert.EvDwout.nD Cert.EvDwout.τ).loc Cert.EvDwout.main_arg3) = m ((c.tc : Thread Cert.EvDwout.nD Cert.EvDwout.τ).loc Cert.EvDwout.main_arg3)
      ∧ r.2.mem ((c.tc : Thread Cert.EvDwout.nD Cert.EvDwout.τ).loc Cert.EvDwout.main_arg4) = m ((c.tc : Thread Cert.EvDwout.nD Cert.EvDwout.τ).loc Cert.EvDwout.main_arg4))
      ∧ r.2.sem = fun _ => 0)

def quiescent_EvDwoutIdeal [hEvDwoutIdeal : Cert.EvDwoutIdeal.Facts] : Prop :=
  ∀ (m : (ℓ : Loc Cert.EvDwoutIdeal.nD Cert.EvDwoutIdeal.τ Cert.EvDwoutIdeal.sig) → Buf (Elt Ideal) ℓ) (g : Dev Cert.EvDwoutIdeal.nD → PrngReg), Pre_EvDwoutIdeal m →
    θ_run (Cert.EvDwoutIdeal.defs (F := Ideal)) (onTc (τ := Cert.EvDwoutIdeal.τ) (Cert.EvDwoutIdeal.main (F := Ideal))) ⟨m, fun _ => 0, g⟩ (fun r => (∀ c : Dev Cert.EvDwoutIdeal.nD,
      r.2.mem ((c.tc : Thread Cert.EvDwoutIdeal.nD Cert.EvDwoutIdeal.τ).loc Cert.EvDwoutIdeal.main_arg0) = m ((c.tc : Thread Cert.EvDwoutIdeal.nD Cert.EvDwoutIdeal.τ).loc Cert.EvDwoutIdeal.main_arg0)
      ∧ r.2.mem ((c.tc : Thread Cert.EvDwoutIdeal.nD Cert.EvDwoutIdeal.τ).loc Cert.EvDwoutIdeal.main_arg1) = m ((c.tc : Thread Cert.EvDwoutIdeal.nD Cert.EvDwoutIdeal.τ).loc Cert.EvDwoutIdeal.main_arg1)
      ∧ r.2.mem ((c.tc : Thread Cert.EvDwoutIdeal.nD Cert.EvDwoutIdeal.τ).loc Cert.EvDwoutIdeal.main_arg2) = m ((c.tc : Thread Cert.EvDwoutIdeal.nD Cert.EvDwoutIdeal.τ).loc Cert.EvDwoutIdeal.main_arg2)
      ∧ r.2.mem ((c.tc : Thread Cert.EvDwoutIdeal.nD Cert.EvDwoutIdeal.τ).loc Cert.EvDwoutIdeal.main_arg3) = m ((c.tc : Thread Cert.EvDwoutIdeal.nD Cert.EvDwoutIdeal.τ).loc Cert.EvDwoutIdeal.main_arg3)
      ∧ r.2.mem ((c.tc : Thread Cert.EvDwoutIdeal.nD Cert.EvDwoutIdeal.τ).loc Cert.EvDwoutIdeal.main_arg4) = m ((c.tc : Thread Cert.EvDwoutIdeal.nD Cert.EvDwoutIdeal.τ).loc Cert.EvDwoutIdeal.main_arg4))
      ∧ r.2.sem = fun _ => 0)

def quiescent_ReferenceEvDwoutIdeal [hReferenceEvDwoutIdeal : Cert.ReferenceEvDwoutIdeal.Facts] : Prop :=
  ∀ (m : (ℓ : Loc Cert.ReferenceEvDwoutIdeal.nD Cert.ReferenceEvDwoutIdeal.τ Cert.ReferenceEvDwoutIdeal.sig) → Buf (Elt Ideal) ℓ) (g : Dev Cert.ReferenceEvDwoutIdeal.nD → PrngReg), Pre_ReferenceEvDwoutIdeal m →
    θ_run (Cert.ReferenceEvDwoutIdeal.defs (F := Ideal)) (onTc (τ := Cert.ReferenceEvDwoutIdeal.τ) (Cert.ReferenceEvDwoutIdeal.main (F := Ideal))) ⟨m, fun _ => 0, g⟩ (fun r => (∀ c : Dev Cert.ReferenceEvDwoutIdeal.nD,
      r.2.mem ((c.tc : Thread Cert.ReferenceEvDwoutIdeal.nD Cert.ReferenceEvDwoutIdeal.τ).loc Cert.ReferenceEvDwoutIdeal.main_arg0) = m ((c.tc : Thread Cert.ReferenceEvDwoutIdeal.nD Cert.ReferenceEvDwoutIdeal.τ).loc Cert.ReferenceEvDwoutIdeal.main_arg0)
      ∧ r.2.mem ((c.tc : Thread Cert.ReferenceEvDwoutIdeal.nD Cert.ReferenceEvDwoutIdeal.τ).loc Cert.ReferenceEvDwoutIdeal.main_arg1) = m ((c.tc : Thread Cert.ReferenceEvDwoutIdeal.nD Cert.ReferenceEvDwoutIdeal.τ).loc Cert.ReferenceEvDwoutIdeal.main_arg1)
      ∧ r.2.mem ((c.tc : Thread Cert.ReferenceEvDwoutIdeal.nD Cert.ReferenceEvDwoutIdeal.τ).loc Cert.ReferenceEvDwoutIdeal.main_arg2) = m ((c.tc : Thread Cert.ReferenceEvDwoutIdeal.nD Cert.ReferenceEvDwoutIdeal.τ).loc Cert.ReferenceEvDwoutIdeal.main_arg2)
      ∧ r.2.mem ((c.tc : Thread Cert.ReferenceEvDwoutIdeal.nD Cert.ReferenceEvDwoutIdeal.τ).loc Cert.ReferenceEvDwoutIdeal.main_arg3) = m ((c.tc : Thread Cert.ReferenceEvDwoutIdeal.nD Cert.ReferenceEvDwoutIdeal.τ).loc Cert.ReferenceEvDwoutIdeal.main_arg3)
      ∧ r.2.mem ((c.tc : Thread Cert.ReferenceEvDwoutIdeal.nD Cert.ReferenceEvDwoutIdeal.τ).loc Cert.ReferenceEvDwoutIdeal.main_arg4) = m ((c.tc : Thread Cert.ReferenceEvDwoutIdeal.nD Cert.ReferenceEvDwoutIdeal.τ).loc Cert.ReferenceEvDwoutIdeal.main_arg4))
      ∧ r.2.sem = fun _ => 0)

def quiescent_OdDwin [hOdDwin : Cert.OdDwin.Facts] : Prop :=
  ∀ (m : (ℓ : Loc Cert.OdDwin.nD Cert.OdDwin.τ Cert.OdDwin.sig) → Buf (Elt Bits) ℓ) (g : Dev Cert.OdDwin.nD → PrngReg), Pre_OdDwin m →
    θ_run (Cert.OdDwin.defs (F := Bits)) (onTc (τ := Cert.OdDwin.τ) (Cert.OdDwin.main (F := Bits))) ⟨m, fun _ => 0, g⟩ (fun r => (∀ c : Dev Cert.OdDwin.nD,
      r.2.mem ((c.tc : Thread Cert.OdDwin.nD Cert.OdDwin.τ).loc Cert.OdDwin.main_arg0) = m ((c.tc : Thread Cert.OdDwin.nD Cert.OdDwin.τ).loc Cert.OdDwin.main_arg0)
      ∧ r.2.mem ((c.tc : Thread Cert.OdDwin.nD Cert.OdDwin.τ).loc Cert.OdDwin.main_arg1) = m ((c.tc : Thread Cert.OdDwin.nD Cert.OdDwin.τ).loc Cert.OdDwin.main_arg1)
      ∧ r.2.mem ((c.tc : Thread Cert.OdDwin.nD Cert.OdDwin.τ).loc Cert.OdDwin.main_arg2) = m ((c.tc : Thread Cert.OdDwin.nD Cert.OdDwin.τ).loc Cert.OdDwin.main_arg2)
      ∧ r.2.mem ((c.tc : Thread Cert.OdDwin.nD Cert.OdDwin.τ).loc Cert.OdDwin.main_arg3) = m ((c.tc : Thread Cert.OdDwin.nD Cert.OdDwin.τ).loc Cert.OdDwin.main_arg3))
      ∧ r.2.sem = fun _ => 0)

def quiescent_OdDwinIdeal [hOdDwinIdeal : Cert.OdDwinIdeal.Facts] : Prop :=
  ∀ (m : (ℓ : Loc Cert.OdDwinIdeal.nD Cert.OdDwinIdeal.τ Cert.OdDwinIdeal.sig) → Buf (Elt Ideal) ℓ) (g : Dev Cert.OdDwinIdeal.nD → PrngReg), Pre_OdDwinIdeal m →
    θ_run (Cert.OdDwinIdeal.defs (F := Ideal)) (onTc (τ := Cert.OdDwinIdeal.τ) (Cert.OdDwinIdeal.main (F := Ideal))) ⟨m, fun _ => 0, g⟩ (fun r => (∀ c : Dev Cert.OdDwinIdeal.nD,
      r.2.mem ((c.tc : Thread Cert.OdDwinIdeal.nD Cert.OdDwinIdeal.τ).loc Cert.OdDwinIdeal.main_arg0) = m ((c.tc : Thread Cert.OdDwinIdeal.nD Cert.OdDwinIdeal.τ).loc Cert.OdDwinIdeal.main_arg0)
      ∧ r.2.mem ((c.tc : Thread Cert.OdDwinIdeal.nD Cert.OdDwinIdeal.τ).loc Cert.OdDwinIdeal.main_arg1) = m ((c.tc : Thread Cert.OdDwinIdeal.nD Cert.OdDwinIdeal.τ).loc Cert.OdDwinIdeal.main_arg1)
      ∧ r.2.mem ((c.tc : Thread Cert.OdDwinIdeal.nD Cert.OdDwinIdeal.τ).loc Cert.OdDwinIdeal.main_arg2) = m ((c.tc : Thread Cert.OdDwinIdeal.nD Cert.OdDwinIdeal.τ).loc Cert.OdDwinIdeal.main_arg2)
      ∧ r.2.mem ((c.tc : Thread Cert.OdDwinIdeal.nD Cert.OdDwinIdeal.τ).loc Cert.OdDwinIdeal.main_arg3) = m ((c.tc : Thread Cert.OdDwinIdeal.nD Cert.OdDwinIdeal.τ).loc Cert.OdDwinIdeal.main_arg3))
      ∧ r.2.sem = fun _ => 0)

def quiescent_ReferenceOdDwinIdeal [hReferenceOdDwinIdeal : Cert.ReferenceOdDwinIdeal.Facts] : Prop :=
  ∀ (m : (ℓ : Loc Cert.ReferenceOdDwinIdeal.nD Cert.ReferenceOdDwinIdeal.τ Cert.ReferenceOdDwinIdeal.sig) → Buf (Elt Ideal) ℓ) (g : Dev Cert.ReferenceOdDwinIdeal.nD → PrngReg), Pre_ReferenceOdDwinIdeal m →
    θ_run (Cert.ReferenceOdDwinIdeal.defs (F := Ideal)) (onTc (τ := Cert.ReferenceOdDwinIdeal.τ) (Cert.ReferenceOdDwinIdeal.main (F := Ideal))) ⟨m, fun _ => 0, g⟩ (fun r => (∀ c : Dev Cert.ReferenceOdDwinIdeal.nD,
      r.2.mem ((c.tc : Thread Cert.ReferenceOdDwinIdeal.nD Cert.ReferenceOdDwinIdeal.τ).loc Cert.ReferenceOdDwinIdeal.main_arg0) = m ((c.tc : Thread Cert.ReferenceOdDwinIdeal.nD Cert.ReferenceOdDwinIdeal.τ).loc Cert.ReferenceOdDwinIdeal.main_arg0)
      ∧ r.2.mem ((c.tc : Thread Cert.ReferenceOdDwinIdeal.nD Cert.ReferenceOdDwinIdeal.τ).loc Cert.ReferenceOdDwinIdeal.main_arg1) = m ((c.tc : Thread Cert.ReferenceOdDwinIdeal.nD Cert.ReferenceOdDwinIdeal.τ).loc Cert.ReferenceOdDwinIdeal.main_arg1)
      ∧ r.2.mem ((c.tc : Thread Cert.ReferenceOdDwinIdeal.nD Cert.ReferenceOdDwinIdeal.τ).loc Cert.ReferenceOdDwinIdeal.main_arg2) = m ((c.tc : Thread Cert.ReferenceOdDwinIdeal.nD Cert.ReferenceOdDwinIdeal.τ).loc Cert.ReferenceOdDwinIdeal.main_arg2)
      ∧ r.2.mem ((c.tc : Thread Cert.ReferenceOdDwinIdeal.nD Cert.ReferenceOdDwinIdeal.τ).loc Cert.ReferenceOdDwinIdeal.main_arg3) = m ((c.tc : Thread Cert.ReferenceOdDwinIdeal.nD Cert.ReferenceOdDwinIdeal.τ).loc Cert.ReferenceOdDwinIdeal.main_arg3))
      ∧ r.2.sem = fun _ => 0)

def quiescent_OdDh [hOdDh : Cert.OdDh.Facts] : Prop :=
  ∀ (m : (ℓ : Loc Cert.OdDh.nD Cert.OdDh.τ Cert.OdDh.sig) → Buf (Elt Bits) ℓ) (g : Dev Cert.OdDh.nD → PrngReg), Pre_OdDh m →
    θ_run (Cert.OdDh.defs (F := Bits)) (onTc (τ := Cert.OdDh.τ) (Cert.OdDh.main (F := Bits))) ⟨m, fun _ => 0, g⟩ (fun r => (∀ c : Dev Cert.OdDh.nD,
      r.2.mem ((c.tc : Thread Cert.OdDh.nD Cert.OdDh.τ).loc Cert.OdDh.main_arg0) = m ((c.tc : Thread Cert.OdDh.nD Cert.OdDh.τ).loc Cert.OdDh.main_arg0)
      ∧ r.2.mem ((c.tc : Thread Cert.OdDh.nD Cert.OdDh.τ).loc Cert.OdDh.main_arg1) = m ((c.tc : Thread Cert.OdDh.nD Cert.OdDh.τ).loc Cert.OdDh.main_arg1)
      ∧ r.2.mem ((c.tc : Thread Cert.OdDh.nD Cert.OdDh.τ).loc Cert.OdDh.main_arg2) = m ((c.tc : Thread Cert.OdDh.nD Cert.OdDh.τ).loc Cert.OdDh.main_arg2)
      ∧ r.2.mem ((c.tc : Thread Cert.OdDh.nD Cert.OdDh.τ).loc Cert.OdDh.main_arg3) = m ((c.tc : Thread Cert.OdDh.nD Cert.OdDh.τ).loc Cert.OdDh.main_arg3)
      ∧ r.2.mem ((c.tc : Thread Cert.OdDh.nD Cert.OdDh.τ).loc Cert.OdDh.main_arg4) = m ((c.tc : Thread Cert.OdDh.nD Cert.OdDh.τ).loc Cert.OdDh.main_arg4))
      ∧ r.2.sem = fun _ => 0)

def quiescent_OdDhIdeal [hOdDhIdeal : Cert.OdDhIdeal.Facts] : Prop :=
  ∀ (m : (ℓ : Loc Cert.OdDhIdeal.nD Cert.OdDhIdeal.τ Cert.OdDhIdeal.sig) → Buf (Elt Ideal) ℓ) (g : Dev Cert.OdDhIdeal.nD → PrngReg), Pre_OdDhIdeal m →
    θ_run (Cert.OdDhIdeal.defs (F := Ideal)) (onTc (τ := Cert.OdDhIdeal.τ) (Cert.OdDhIdeal.main (F := Ideal))) ⟨m, fun _ => 0, g⟩ (fun r => (∀ c : Dev Cert.OdDhIdeal.nD,
      r.2.mem ((c.tc : Thread Cert.OdDhIdeal.nD Cert.OdDhIdeal.τ).loc Cert.OdDhIdeal.main_arg0) = m ((c.tc : Thread Cert.OdDhIdeal.nD Cert.OdDhIdeal.τ).loc Cert.OdDhIdeal.main_arg0)
      ∧ r.2.mem ((c.tc : Thread Cert.OdDhIdeal.nD Cert.OdDhIdeal.τ).loc Cert.OdDhIdeal.main_arg1) = m ((c.tc : Thread Cert.OdDhIdeal.nD Cert.OdDhIdeal.τ).loc Cert.OdDhIdeal.main_arg1)
      ∧ r.2.mem ((c.tc : Thread Cert.OdDhIdeal.nD Cert.OdDhIdeal.τ).loc Cert.OdDhIdeal.main_arg2) = m ((c.tc : Thread Cert.OdDhIdeal.nD Cert.OdDhIdeal.τ).loc Cert.OdDhIdeal.main_arg2)
      ∧ r.2.mem ((c.tc : Thread Cert.OdDhIdeal.nD Cert.OdDhIdeal.τ).loc Cert.OdDhIdeal.main_arg3) = m ((c.tc : Thread Cert.OdDhIdeal.nD Cert.OdDhIdeal.τ).loc Cert.OdDhIdeal.main_arg3)
      ∧ r.2.mem ((c.tc : Thread Cert.OdDhIdeal.nD Cert.OdDhIdeal.τ).loc Cert.OdDhIdeal.main_arg4) = m ((c.tc : Thread Cert.OdDhIdeal.nD Cert.OdDhIdeal.τ).loc Cert.OdDhIdeal.main_arg4))
      ∧ r.2.sem = fun _ => 0)

def quiescent_ReferenceOdDhIdeal [hReferenceOdDhIdeal : Cert.ReferenceOdDhIdeal.Facts] : Prop :=
  ∀ (m : (ℓ : Loc Cert.ReferenceOdDhIdeal.nD Cert.ReferenceOdDhIdeal.τ Cert.ReferenceOdDhIdeal.sig) → Buf (Elt Ideal) ℓ) (g : Dev Cert.ReferenceOdDhIdeal.nD → PrngReg), Pre_ReferenceOdDhIdeal m →
    θ_run (Cert.ReferenceOdDhIdeal.defs (F := Ideal)) (onTc (τ := Cert.ReferenceOdDhIdeal.τ) (Cert.ReferenceOdDhIdeal.main (F := Ideal))) ⟨m, fun _ => 0, g⟩ (fun r => (∀ c : Dev Cert.ReferenceOdDhIdeal.nD,
      r.2.mem ((c.tc : Thread Cert.ReferenceOdDhIdeal.nD Cert.ReferenceOdDhIdeal.τ).loc Cert.ReferenceOdDhIdeal.main_arg0) = m ((c.tc : Thread Cert.ReferenceOdDhIdeal.nD Cert.ReferenceOdDhIdeal.τ).loc Cert.ReferenceOdDhIdeal.main_arg0)
      ∧ r.2.mem ((c.tc : Thread Cert.ReferenceOdDhIdeal.nD Cert.ReferenceOdDhIdeal.τ).loc Cert.ReferenceOdDhIdeal.main_arg1) = m ((c.tc : Thread Cert.ReferenceOdDhIdeal.nD Cert.ReferenceOdDhIdeal.τ).loc Cert.ReferenceOdDhIdeal.main_arg1)
      ∧ r.2.mem ((c.tc : Thread Cert.ReferenceOdDhIdeal.nD Cert.ReferenceOdDhIdeal.τ).loc Cert.ReferenceOdDhIdeal.main_arg2) = m ((c.tc : Thread Cert.ReferenceOdDhIdeal.nD Cert.ReferenceOdDhIdeal.τ).loc Cert.ReferenceOdDhIdeal.main_arg2)
      ∧ r.2.mem ((c.tc : Thread Cert.ReferenceOdDhIdeal.nD Cert.ReferenceOdDhIdeal.τ).loc Cert.ReferenceOdDhIdeal.main_arg3) = m ((c.tc : Thread Cert.ReferenceOdDhIdeal.nD Cert.ReferenceOdDhIdeal.τ).loc Cert.ReferenceOdDhIdeal.main_arg3)
      ∧ r.2.mem ((c.tc : Thread Cert.ReferenceOdDhIdeal.nD Cert.ReferenceOdDhIdeal.τ).loc Cert.ReferenceOdDhIdeal.main_arg4) = m ((c.tc : Thread Cert.ReferenceOdDhIdeal.nD Cert.ReferenceOdDhIdeal.τ).loc Cert.ReferenceOdDhIdeal.main_arg4))
      ∧ r.2.sem = fun _ => 0)

def quiescent_OdIn [hOdIn : Cert.OdIn.Facts] : Prop :=
  ∀ (m : (ℓ : Loc Cert.OdIn.nD Cert.OdIn.τ Cert.OdIn.sig) → Buf (Elt Bits) ℓ) (g : Dev Cert.OdIn.nD → PrngReg), Pre_OdIn m →
    θ_run (Cert.OdIn.defs (F := Bits)) (onTc (τ := Cert.OdIn.τ) (Cert.OdIn.main (F := Bits))) ⟨m, fun _ => 0, g⟩ (fun r => (∀ c : Dev Cert.OdIn.nD,
      r.2.mem ((c.tc : Thread Cert.OdIn.nD Cert.OdIn.τ).loc Cert.OdIn.main_arg0) = m ((c.tc : Thread Cert.OdIn.nD Cert.OdIn.τ).loc Cert.OdIn.main_arg0)
      ∧ r.2.mem ((c.tc : Thread Cert.OdIn.nD Cert.OdIn.τ).loc Cert.OdIn.main_arg1) = m ((c.tc : Thread Cert.OdIn.nD Cert.OdIn.τ).loc Cert.OdIn.main_arg1))
      ∧ r.2.sem = fun _ => 0)

def quiescent_OdInIdeal [hOdInIdeal : Cert.OdInIdeal.Facts] : Prop :=
  ∀ (m : (ℓ : Loc Cert.OdInIdeal.nD Cert.OdInIdeal.τ Cert.OdInIdeal.sig) → Buf (Elt Ideal) ℓ) (g : Dev Cert.OdInIdeal.nD → PrngReg), Pre_OdInIdeal m →
    θ_run (Cert.OdInIdeal.defs (F := Ideal)) (onTc (τ := Cert.OdInIdeal.τ) (Cert.OdInIdeal.main (F := Ideal))) ⟨m, fun _ => 0, g⟩ (fun r => (∀ c : Dev Cert.OdInIdeal.nD,
      r.2.mem ((c.tc : Thread Cert.OdInIdeal.nD Cert.OdInIdeal.τ).loc Cert.OdInIdeal.main_arg0) = m ((c.tc : Thread Cert.OdInIdeal.nD Cert.OdInIdeal.τ).loc Cert.OdInIdeal.main_arg0)
      ∧ r.2.mem ((c.tc : Thread Cert.OdInIdeal.nD Cert.OdInIdeal.τ).loc Cert.OdInIdeal.main_arg1) = m ((c.tc : Thread Cert.OdInIdeal.nD Cert.OdInIdeal.τ).loc Cert.OdInIdeal.main_arg1))
      ∧ r.2.sem = fun _ => 0)

def quiescent_ReferenceOdInIdeal [hReferenceOdInIdeal : Cert.ReferenceOdInIdeal.Facts] : Prop :=
  ∀ (m : (ℓ : Loc Cert.ReferenceOdInIdeal.nD Cert.ReferenceOdInIdeal.τ Cert.ReferenceOdInIdeal.sig) → Buf (Elt Ideal) ℓ) (g : Dev Cert.ReferenceOdInIdeal.nD → PrngReg), Pre_ReferenceOdInIdeal m →
    θ_run (Cert.ReferenceOdInIdeal.defs (F := Ideal)) (onTc (τ := Cert.ReferenceOdInIdeal.τ) (Cert.ReferenceOdInIdeal.main (F := Ideal))) ⟨m, fun _ => 0, g⟩ (fun r => (∀ c : Dev Cert.ReferenceOdInIdeal.nD,
      r.2.mem ((c.tc : Thread Cert.ReferenceOdInIdeal.nD Cert.ReferenceOdInIdeal.τ).loc Cert.ReferenceOdInIdeal.main_arg0) = m ((c.tc : Thread Cert.ReferenceOdInIdeal.nD Cert.ReferenceOdInIdeal.τ).loc Cert.ReferenceOdInIdeal.main_arg0)
      ∧ r.2.mem ((c.tc : Thread Cert.ReferenceOdInIdeal.nD Cert.ReferenceOdInIdeal.τ).loc Cert.ReferenceOdInIdeal.main_arg1) = m ((c.tc : Thread Cert.ReferenceOdInIdeal.nD Cert.ReferenceOdInIdeal.τ).loc Cert.ReferenceOdInIdeal.main_arg1))
      ∧ r.2.sem = fun _ => 0)

def quiescent_EvIn [hEvIn : Cert.EvIn.Facts] : Prop :=
  ∀ (m : (ℓ : Loc Cert.EvIn.nD Cert.EvIn.τ Cert.EvIn.sig) → Buf (Elt Bits) ℓ) (g : Dev Cert.EvIn.nD → PrngReg), Pre_EvIn m →
    θ_run (Cert.EvIn.defs (F := Bits)) (onTc (τ := Cert.EvIn.τ) (Cert.EvIn.main (F := Bits))) ⟨m, fun _ => 0, g⟩ (fun r => (∀ c : Dev Cert.EvIn.nD,
      r.2.mem ((c.tc : Thread Cert.EvIn.nD Cert.EvIn.τ).loc Cert.EvIn.main_arg0) = m ((c.tc : Thread Cert.EvIn.nD Cert.EvIn.τ).loc Cert.EvIn.main_arg0)
      ∧ r.2.mem ((c.tc : Thread Cert.EvIn.nD Cert.EvIn.τ).loc Cert.EvIn.main_arg1) = m ((c.tc : Thread Cert.EvIn.nD Cert.EvIn.τ).loc Cert.EvIn.main_arg1))
      ∧ r.2.sem = fun _ => 0)

def quiescent_EvInIdeal [hEvInIdeal : Cert.EvInIdeal.Facts] : Prop :=
  ∀ (m : (ℓ : Loc Cert.EvInIdeal.nD Cert.EvInIdeal.τ Cert.EvInIdeal.sig) → Buf (Elt Ideal) ℓ) (g : Dev Cert.EvInIdeal.nD → PrngReg), Pre_EvInIdeal m →
    θ_run (Cert.EvInIdeal.defs (F := Ideal)) (onTc (τ := Cert.EvInIdeal.τ) (Cert.EvInIdeal.main (F := Ideal))) ⟨m, fun _ => 0, g⟩ (fun r => (∀ c : Dev Cert.EvInIdeal.nD,
      r.2.mem ((c.tc : Thread Cert.EvInIdeal.nD Cert.EvInIdeal.τ).loc Cert.EvInIdeal.main_arg0) = m ((c.tc : Thread Cert.EvInIdeal.nD Cert.EvInIdeal.τ).loc Cert.EvInIdeal.main_arg0)
      ∧ r.2.mem ((c.tc : Thread Cert.EvInIdeal.nD Cert.EvInIdeal.τ).loc Cert.EvInIdeal.main_arg1) = m ((c.tc : Thread Cert.EvInIdeal.nD Cert.EvInIdeal.τ).loc Cert.EvInIdeal.main_arg1))
      ∧ r.2.sem = fun _ => 0)

def quiescent_ReferenceEvInIdeal [hReferenceEvInIdeal : Cert.ReferenceEvInIdeal.Facts] : Prop :=
  ∀ (m : (ℓ : Loc Cert.ReferenceEvInIdeal.nD Cert.ReferenceEvInIdeal.τ Cert.ReferenceEvInIdeal.sig) → Buf (Elt Ideal) ℓ) (g : Dev Cert.ReferenceEvInIdeal.nD → PrngReg), Pre_ReferenceEvInIdeal m →
    θ_run (Cert.ReferenceEvInIdeal.defs (F := Ideal)) (onTc (τ := Cert.ReferenceEvInIdeal.τ) (Cert.ReferenceEvInIdeal.main (F := Ideal))) ⟨m, fun _ => 0, g⟩ (fun r => (∀ c : Dev Cert.ReferenceEvInIdeal.nD,
      r.2.mem ((c.tc : Thread Cert.ReferenceEvInIdeal.nD Cert.ReferenceEvInIdeal.τ).loc Cert.ReferenceEvInIdeal.main_arg0) = m ((c.tc : Thread Cert.ReferenceEvInIdeal.nD Cert.ReferenceEvInIdeal.τ).loc Cert.ReferenceEvInIdeal.main_arg0)
      ∧ r.2.mem ((c.tc : Thread Cert.ReferenceEvInIdeal.nD Cert.ReferenceEvInIdeal.τ).loc Cert.ReferenceEvInIdeal.main_arg1) = m ((c.tc : Thread Cert.ReferenceEvInIdeal.nD Cert.ReferenceEvInIdeal.τ).loc Cert.ReferenceEvInIdeal.main_arg1))
      ∧ r.2.sem = fun _ => 0)

def quiescent_OdOut [hOdOut : Cert.OdOut.Facts] : Prop :=
  ∀ (m : (ℓ : Loc Cert.OdOut.nD Cert.OdOut.τ Cert.OdOut.sig) → Buf (Elt Bits) ℓ) (g : Dev Cert.OdOut.nD → PrngReg), Pre_OdOut m →
    θ_run (Cert.OdOut.defs (F := Bits)) (onTc (τ := Cert.OdOut.τ) (Cert.OdOut.main (F := Bits))) ⟨m, fun _ => 0, g⟩ (fun r => (∀ c : Dev Cert.OdOut.nD,
      r.2.mem ((c.tc : Thread Cert.OdOut.nD Cert.OdOut.τ).loc Cert.OdOut.main_arg0) = m ((c.tc : Thread Cert.OdOut.nD Cert.OdOut.τ).loc Cert.OdOut.main_arg0)
      ∧ r.2.mem ((c.tc : Thread Cert.OdOut.nD Cert.OdOut.τ).loc Cert.OdOut.main_arg1) = m ((c.tc : Thread Cert.OdOut.nD Cert.OdOut.τ).loc Cert.OdOut.main_arg1)
      ∧ r.2.mem ((c.tc : Thread Cert.OdOut.nD Cert.OdOut.τ).loc Cert.OdOut.main_arg2) = m ((c.tc : Thread Cert.OdOut.nD Cert.OdOut.τ).loc Cert.OdOut.main_arg2))
      ∧ r.2.sem = fun _ => 0)

def quiescent_OdOutIdeal [hOdOutIdeal : Cert.OdOutIdeal.Facts] : Prop :=
  ∀ (m : (ℓ : Loc Cert.OdOutIdeal.nD Cert.OdOutIdeal.τ Cert.OdOutIdeal.sig) → Buf (Elt Ideal) ℓ) (g : Dev Cert.OdOutIdeal.nD → PrngReg), Pre_OdOutIdeal m →
    θ_run (Cert.OdOutIdeal.defs (F := Ideal)) (onTc (τ := Cert.OdOutIdeal.τ) (Cert.OdOutIdeal.main (F := Ideal))) ⟨m, fun _ => 0, g⟩ (fun r => (∀ c : Dev Cert.OdOutIdeal.nD,
      r.2.mem ((c.tc : Thread Cert.OdOutIdeal.nD Cert.OdOutIdeal.τ).loc Cert.OdOutIdeal.main_arg0) = m ((c.tc : Thread Cert.OdOutIdeal.nD Cert.OdOutIdeal.τ).loc Cert.OdOutIdeal.main_arg0)
      ∧ r.2.mem ((c.tc : Thread Cert.OdOutIdeal.nD Cert.OdOutIdeal.τ).loc Cert.OdOutIdeal.main_arg1) = m ((c.tc : Thread Cert.OdOutIdeal.nD Cert.OdOutIdeal.τ).loc Cert.OdOutIdeal.main_arg1)
      ∧ r.2.mem ((c.tc : Thread Cert.OdOutIdeal.nD Cert.OdOutIdeal.τ).loc Cert.OdOutIdeal.main_arg2) = m ((c.tc : Thread Cert.OdOutIdeal.nD Cert.OdOutIdeal.τ).loc Cert.OdOutIdeal.main_arg2))
      ∧ r.2.sem = fun _ => 0)

def quiescent_ReferenceOdOutIdeal [hReferenceOdOutIdeal : Cert.ReferenceOdOutIdeal.Facts] : Prop :=
  ∀ (m : (ℓ : Loc Cert.ReferenceOdOutIdeal.nD Cert.ReferenceOdOutIdeal.τ Cert.ReferenceOdOutIdeal.sig) → Buf (Elt Ideal) ℓ) (g : Dev Cert.ReferenceOdOutIdeal.nD → PrngReg), Pre_ReferenceOdOutIdeal m →
    θ_run (Cert.ReferenceOdOutIdeal.defs (F := Ideal)) (onTc (τ := Cert.ReferenceOdOutIdeal.τ) (Cert.ReferenceOdOutIdeal.main (F := Ideal))) ⟨m, fun _ => 0, g⟩ (fun r => (∀ c : Dev Cert.ReferenceOdOutIdeal.nD,
      r.2.mem ((c.tc : Thread Cert.ReferenceOdOutIdeal.nD Cert.ReferenceOdOutIdeal.τ).loc Cert.ReferenceOdOutIdeal.main_arg0) = m ((c.tc : Thread Cert.ReferenceOdOutIdeal.nD Cert.ReferenceOdOutIdeal.τ).loc Cert.ReferenceOdOutIdeal.main_arg0)
      ∧ r.2.mem ((c.tc : Thread Cert.ReferenceOdOutIdeal.nD Cert.ReferenceOdOutIdeal.τ).loc Cert.ReferenceOdOutIdeal.main_arg1) = m ((c.tc : Thread Cert.ReferenceOdOutIdeal.nD Cert.ReferenceOdOutIdeal.τ).loc Cert.ReferenceOdOutIdeal.main_arg1)
      ∧ r.2.mem ((c.tc : Thread Cert.ReferenceOdOutIdeal.nD Cert.ReferenceOdOutIdeal.τ).loc Cert.ReferenceOdOutIdeal.main_arg2) = m ((c.tc : Thread Cert.ReferenceOdOutIdeal.nD Cert.ReferenceOdOutIdeal.τ).loc Cert.ReferenceOdOutIdeal.main_arg2))
      ∧ r.2.sem = fun _ => 0)

def quiescent_EvOut [hEvOut : Cert.EvOut.Facts] : Prop :=
  ∀ (m : (ℓ : Loc Cert.EvOut.nD Cert.EvOut.τ Cert.EvOut.sig) → Buf (Elt Bits) ℓ) (g : Dev Cert.EvOut.nD → PrngReg), Pre_EvOut m →
    θ_run (Cert.EvOut.defs (F := Bits)) (onTc (τ := Cert.EvOut.τ) (Cert.EvOut.main (F := Bits))) ⟨m, fun _ => 0, g⟩ (fun r => (∀ c : Dev Cert.EvOut.nD,
      r.2.mem ((c.tc : Thread Cert.EvOut.nD Cert.EvOut.τ).loc Cert.EvOut.main_arg0) = m ((c.tc : Thread Cert.EvOut.nD Cert.EvOut.τ).loc Cert.EvOut.main_arg0)
      ∧ r.2.mem ((c.tc : Thread Cert.EvOut.nD Cert.EvOut.τ).loc Cert.EvOut.main_arg1) = m ((c.tc : Thread Cert.EvOut.nD Cert.EvOut.τ).loc Cert.EvOut.main_arg1)
      ∧ r.2.mem ((c.tc : Thread Cert.EvOut.nD Cert.EvOut.τ).loc Cert.EvOut.main_arg2) = m ((c.tc : Thread Cert.EvOut.nD Cert.EvOut.τ).loc Cert.EvOut.main_arg2)
      ∧ r.2.mem ((c.tc : Thread Cert.EvOut.nD Cert.EvOut.τ).loc Cert.EvOut.main_arg3) = m ((c.tc : Thread Cert.EvOut.nD Cert.EvOut.τ).loc Cert.EvOut.main_arg3))
      ∧ r.2.sem = fun _ => 0)

def quiescent_EvOutIdeal [hEvOutIdeal : Cert.EvOutIdeal.Facts] : Prop :=
  ∀ (m : (ℓ : Loc Cert.EvOutIdeal.nD Cert.EvOutIdeal.τ Cert.EvOutIdeal.sig) → Buf (Elt Ideal) ℓ) (g : Dev Cert.EvOutIdeal.nD → PrngReg), Pre_EvOutIdeal m →
    θ_run (Cert.EvOutIdeal.defs (F := Ideal)) (onTc (τ := Cert.EvOutIdeal.τ) (Cert.EvOutIdeal.main (F := Ideal))) ⟨m, fun _ => 0, g⟩ (fun r => (∀ c : Dev Cert.EvOutIdeal.nD,
      r.2.mem ((c.tc : Thread Cert.EvOutIdeal.nD Cert.EvOutIdeal.τ).loc Cert.EvOutIdeal.main_arg0) = m ((c.tc : Thread Cert.EvOutIdeal.nD Cert.EvOutIdeal.τ).loc Cert.EvOutIdeal.main_arg0)
      ∧ r.2.mem ((c.tc : Thread Cert.EvOutIdeal.nD Cert.EvOutIdeal.τ).loc Cert.EvOutIdeal.main_arg1) = m ((c.tc : Thread Cert.EvOutIdeal.nD Cert.EvOutIdeal.τ).loc Cert.EvOutIdeal.main_arg1)
      ∧ r.2.mem ((c.tc : Thread Cert.EvOutIdeal.nD Cert.EvOutIdeal.τ).loc Cert.EvOutIdeal.main_arg2) = m ((c.tc : Thread Cert.EvOutIdeal.nD Cert.EvOutIdeal.τ).loc Cert.EvOutIdeal.main_arg2)
      ∧ r.2.mem ((c.tc : Thread Cert.EvOutIdeal.nD Cert.EvOutIdeal.τ).loc Cert.EvOutIdeal.main_arg3) = m ((c.tc : Thread Cert.EvOutIdeal.nD Cert.EvOutIdeal.τ).loc Cert.EvOutIdeal.main_arg3))
      ∧ r.2.sem = fun _ => 0)

def quiescent_ReferenceEvOutIdeal [hReferenceEvOutIdeal : Cert.ReferenceEvOutIdeal.Facts] : Prop :=
  ∀ (m : (ℓ : Loc Cert.ReferenceEvOutIdeal.nD Cert.ReferenceEvOutIdeal.τ Cert.ReferenceEvOutIdeal.sig) → Buf (Elt Ideal) ℓ) (g : Dev Cert.ReferenceEvOutIdeal.nD → PrngReg), Pre_ReferenceEvOutIdeal m →
    θ_run (Cert.ReferenceEvOutIdeal.defs (F := Ideal)) (onTc (τ := Cert.ReferenceEvOutIdeal.τ) (Cert.ReferenceEvOutIdeal.main (F := Ideal))) ⟨m, fun _ => 0, g⟩ (fun r => (∀ c : Dev Cert.ReferenceEvOutIdeal.nD,
      r.2.mem ((c.tc : Thread Cert.ReferenceEvOutIdeal.nD Cert.ReferenceEvOutIdeal.τ).loc Cert.ReferenceEvOutIdeal.main_arg0) = m ((c.tc : Thread Cert.ReferenceEvOutIdeal.nD Cert.ReferenceEvOutIdeal.τ).loc Cert.ReferenceEvOutIdeal.main_arg0)
      ∧ r.2.mem ((c.tc : Thread Cert.ReferenceEvOutIdeal.nD Cert.ReferenceEvOutIdeal.τ).loc Cert.ReferenceEvOutIdeal.main_arg1) = m ((c.tc : Thread Cert.ReferenceEvOutIdeal.nD Cert.ReferenceEvOutIdeal.τ).loc Cert.ReferenceEvOutIdeal.main_arg1)
      ∧ r.2.mem ((c.tc : Thread Cert.ReferenceEvOutIdeal.nD Cert.ReferenceEvOutIdeal.τ).loc Cert.ReferenceEvOutIdeal.main_arg2) = m ((c.tc : Thread Cert.ReferenceEvOutIdeal.nD Cert.ReferenceEvOutIdeal.τ).loc Cert.ReferenceEvOutIdeal.main_arg2)
      ∧ r.2.mem ((c.tc : Thread Cert.ReferenceEvOutIdeal.nD Cert.ReferenceEvOutIdeal.τ).loc Cert.ReferenceEvOutIdeal.main_arg3) = m ((c.tc : Thread Cert.ReferenceEvOutIdeal.nD Cert.ReferenceEvOutIdeal.τ).loc Cert.ReferenceEvOutIdeal.main_arg3))
      ∧ r.2.sem = fun _ => 0)

def quiescent_EvDwin [hEvDwin : Cert.EvDwin.Facts] : Prop :=
  ∀ (m : (ℓ : Loc Cert.EvDwin.nD Cert.EvDwin.τ Cert.EvDwin.sig) → Buf (Elt Bits) ℓ) (g : Dev Cert.EvDwin.nD → PrngReg), Pre_EvDwin m →
    θ_run (Cert.EvDwin.defs (F := Bits)) (onTc (τ := Cert.EvDwin.τ) (Cert.EvDwin.main (F := Bits))) ⟨m, fun _ => 0, g⟩ (fun r => (∀ c : Dev Cert.EvDwin.nD,
      r.2.mem ((c.tc : Thread Cert.EvDwin.nD Cert.EvDwin.τ).loc Cert.EvDwin.main_arg0) = m ((c.tc : Thread Cert.EvDwin.nD Cert.EvDwin.τ).loc Cert.EvDwin.main_arg0)
      ∧ r.2.mem ((c.tc : Thread Cert.EvDwin.nD Cert.EvDwin.τ).loc Cert.EvDwin.main_arg1) = m ((c.tc : Thread Cert.EvDwin.nD Cert.EvDwin.τ).loc Cert.EvDwin.main_arg1)
      ∧ r.2.mem ((c.tc : Thread Cert.EvDwin.nD Cert.EvDwin.τ).loc Cert.EvDwin.main_arg2) = m ((c.tc : Thread Cert.EvDwin.nD Cert.EvDwin.τ).loc Cert.EvDwin.main_arg2)
      ∧ r.2.mem ((c.tc : Thread Cert.EvDwin.nD Cert.EvDwin.τ).loc Cert.EvDwin.main_arg3) = m ((c.tc : Thread Cert.EvDwin.nD Cert.EvDwin.τ).loc Cert.EvDwin.main_arg3)
      ∧ r.2.mem ((c.tc : Thread Cert.EvDwin.nD Cert.EvDwin.τ).loc Cert.EvDwin.main_arg4) = m ((c.tc : Thread Cert.EvDwin.nD Cert.EvDwin.τ).loc Cert.EvDwin.main_arg4)
      ∧ r.2.mem ((c.tc : Thread Cert.EvDwin.nD Cert.EvDwin.τ).loc Cert.EvDwin.main_arg5) = m ((c.tc : Thread Cert.EvDwin.nD Cert.EvDwin.τ).loc Cert.EvDwin.main_arg5)
      ∧ r.2.mem ((c.tc : Thread Cert.EvDwin.nD Cert.EvDwin.τ).loc Cert.EvDwin.main_arg6) = m ((c.tc : Thread Cert.EvDwin.nD Cert.EvDwin.τ).loc Cert.EvDwin.main_arg6)
      ∧ r.2.mem ((c.tc : Thread Cert.EvDwin.nD Cert.EvDwin.τ).loc Cert.EvDwin.main_arg7) = m ((c.tc : Thread Cert.EvDwin.nD Cert.EvDwin.τ).loc Cert.EvDwin.main_arg7)
      ∧ r.2.mem ((c.tc : Thread Cert.EvDwin.nD Cert.EvDwin.τ).loc Cert.EvDwin.main_arg8) = m ((c.tc : Thread Cert.EvDwin.nD Cert.EvDwin.τ).loc Cert.EvDwin.main_arg8))
      ∧ r.2.sem = fun _ => 0)

def quiescent_EvDwinIdeal [hEvDwinIdeal : Cert.EvDwinIdeal.Facts] : Prop :=
  ∀ (m : (ℓ : Loc Cert.EvDwinIdeal.nD Cert.EvDwinIdeal.τ Cert.EvDwinIdeal.sig) → Buf (Elt Ideal) ℓ) (g : Dev Cert.EvDwinIdeal.nD → PrngReg), Pre_EvDwinIdeal m →
    θ_run (Cert.EvDwinIdeal.defs (F := Ideal)) (onTc (τ := Cert.EvDwinIdeal.τ) (Cert.EvDwinIdeal.main (F := Ideal))) ⟨m, fun _ => 0, g⟩ (fun r => (∀ c : Dev Cert.EvDwinIdeal.nD,
      r.2.mem ((c.tc : Thread Cert.EvDwinIdeal.nD Cert.EvDwinIdeal.τ).loc Cert.EvDwinIdeal.main_arg0) = m ((c.tc : Thread Cert.EvDwinIdeal.nD Cert.EvDwinIdeal.τ).loc Cert.EvDwinIdeal.main_arg0)
      ∧ r.2.mem ((c.tc : Thread Cert.EvDwinIdeal.nD Cert.EvDwinIdeal.τ).loc Cert.EvDwinIdeal.main_arg1) = m ((c.tc : Thread Cert.EvDwinIdeal.nD Cert.EvDwinIdeal.τ).loc Cert.EvDwinIdeal.main_arg1)
      ∧ r.2.mem ((c.tc : Thread Cert.EvDwinIdeal.nD Cert.EvDwinIdeal.τ).loc Cert.EvDwinIdeal.main_arg2) = m ((c.tc : Thread Cert.EvDwinIdeal.nD Cert.EvDwinIdeal.τ).loc Cert.EvDwinIdeal.main_arg2)
      ∧ r.2.mem ((c.tc : Thread Cert.EvDwinIdeal.nD Cert.EvDwinIdeal.τ).loc Cert.EvDwinIdeal.main_arg3) = m ((c.tc : Thread Cert.EvDwinIdeal.nD Cert.EvDwinIdeal.τ).loc Cert.EvDwinIdeal.main_arg3)
      ∧ r.2.mem ((c.tc : Thread Cert.EvDwinIdeal.nD Cert.EvDwinIdeal.τ).loc Cert.EvDwinIdeal.main_arg4) = m ((c.tc : Thread Cert.EvDwinIdeal.nD Cert.EvDwinIdeal.τ).loc Cert.EvDwinIdeal.main_arg4)
      ∧ r.2.mem ((c.tc : Thread Cert.EvDwinIdeal.nD Cert.EvDwinIdeal.τ).loc Cert.EvDwinIdeal.main_arg5) = m ((c.tc : Thread Cert.EvDwinIdeal.nD Cert.EvDwinIdeal.τ).loc Cert.EvDwinIdeal.main_arg5)
      ∧ r.2.mem ((c.tc : Thread Cert.EvDwinIdeal.nD Cert.EvDwinIdeal.τ).loc Cert.EvDwinIdeal.main_arg6) = m ((c.tc : Thread Cert.EvDwinIdeal.nD Cert.EvDwinIdeal.τ).loc Cert.EvDwinIdeal.main_arg6)
      ∧ r.2.mem ((c.tc : Thread Cert.EvDwinIdeal.nD Cert.EvDwinIdeal.τ).loc Cert.EvDwinIdeal.main_arg7) = m ((c.tc : Thread Cert.EvDwinIdeal.nD Cert.EvDwinIdeal.τ).loc Cert.EvDwinIdeal.main_arg7)
      ∧ r.2.mem ((c.tc : Thread Cert.EvDwinIdeal.nD Cert.EvDwinIdeal.τ).loc Cert.EvDwinIdeal.main_arg8) = m ((c.tc : Thread Cert.EvDwinIdeal.nD Cert.EvDwinIdeal.τ).loc Cert.EvDwinIdeal.main_arg8))
      ∧ r.2.sem = fun _ => 0)

def quiescent_ReferenceEvDwinIdeal [hReferenceEvDwinIdeal : Cert.ReferenceEvDwinIdeal.Facts] : Prop :=
  ∀ (m : (ℓ : Loc Cert.ReferenceEvDwinIdeal.nD Cert.ReferenceEvDwinIdeal.τ Cert.ReferenceEvDwinIdeal.sig) → Buf (Elt Ideal) ℓ) (g : Dev Cert.ReferenceEvDwinIdeal.nD → PrngReg), Pre_ReferenceEvDwinIdeal m →
    θ_run (Cert.ReferenceEvDwinIdeal.defs (F := Ideal)) (onTc (τ := Cert.ReferenceEvDwinIdeal.τ) (Cert.ReferenceEvDwinIdeal.main (F := Ideal))) ⟨m, fun _ => 0, g⟩ (fun r => (∀ c : Dev Cert.ReferenceEvDwinIdeal.nD,
      r.2.mem ((c.tc : Thread Cert.ReferenceEvDwinIdeal.nD Cert.ReferenceEvDwinIdeal.τ).loc Cert.ReferenceEvDwinIdeal.main_arg0) = m ((c.tc : Thread Cert.ReferenceEvDwinIdeal.nD Cert.ReferenceEvDwinIdeal.τ).loc Cert.ReferenceEvDwinIdeal.main_arg0)
      ∧ r.2.mem ((c.tc : Thread Cert.ReferenceEvDwinIdeal.nD Cert.ReferenceEvDwinIdeal.τ).loc Cert.ReferenceEvDwinIdeal.main_arg1) = m ((c.tc : Thread Cert.ReferenceEvDwinIdeal.nD Cert.ReferenceEvDwinIdeal.τ).loc Cert.ReferenceEvDwinIdeal.main_arg1)
      ∧ r.2.mem ((c.tc : Thread Cert.ReferenceEvDwinIdeal.nD Cert.ReferenceEvDwinIdeal.τ).loc Cert.ReferenceEvDwinIdeal.main_arg2) = m ((c.tc : Thread Cert.ReferenceEvDwinIdeal.nD Cert.ReferenceEvDwinIdeal.τ).loc Cert.ReferenceEvDwinIdeal.main_arg2)
      ∧ r.2.mem ((c.tc : Thread Cert.ReferenceEvDwinIdeal.nD Cert.ReferenceEvDwinIdeal.τ).loc Cert.ReferenceEvDwinIdeal.main_arg3) = m ((c.tc : Thread Cert.ReferenceEvDwinIdeal.nD Cert.ReferenceEvDwinIdeal.τ).loc Cert.ReferenceEvDwinIdeal.main_arg3)
      ∧ r.2.mem ((c.tc : Thread Cert.ReferenceEvDwinIdeal.nD Cert.ReferenceEvDwinIdeal.τ).loc Cert.ReferenceEvDwinIdeal.main_arg4) = m ((c.tc : Thread Cert.ReferenceEvDwinIdeal.nD Cert.ReferenceEvDwinIdeal.τ).loc Cert.ReferenceEvDwinIdeal.main_arg4)
      ∧ r.2.mem ((c.tc : Thread Cert.ReferenceEvDwinIdeal.nD Cert.ReferenceEvDwinIdeal.τ).loc Cert.ReferenceEvDwinIdeal.main_arg5) = m ((c.tc : Thread Cert.ReferenceEvDwinIdeal.nD Cert.ReferenceEvDwinIdeal.τ).loc Cert.ReferenceEvDwinIdeal.main_arg5)
      ∧ r.2.mem ((c.tc : Thread Cert.ReferenceEvDwinIdeal.nD Cert.ReferenceEvDwinIdeal.τ).loc Cert.ReferenceEvDwinIdeal.main_arg6) = m ((c.tc : Thread Cert.ReferenceEvDwinIdeal.nD Cert.ReferenceEvDwinIdeal.τ).loc Cert.ReferenceEvDwinIdeal.main_arg6)
      ∧ r.2.mem ((c.tc : Thread Cert.ReferenceEvDwinIdeal.nD Cert.ReferenceEvDwinIdeal.τ).loc Cert.ReferenceEvDwinIdeal.main_arg7) = m ((c.tc : Thread Cert.ReferenceEvDwinIdeal.nD Cert.ReferenceEvDwinIdeal.τ).loc Cert.ReferenceEvDwinIdeal.main_arg7)
      ∧ r.2.mem ((c.tc : Thread Cert.ReferenceEvDwinIdeal.nD Cert.ReferenceEvDwinIdeal.τ).loc Cert.ReferenceEvDwinIdeal.main_arg8) = m ((c.tc : Thread Cert.ReferenceEvDwinIdeal.nD Cert.ReferenceEvDwinIdeal.τ).loc Cert.ReferenceEvDwinIdeal.main_arg8))
      ∧ r.2.sem = fun _ => 0)

def quiescent_EvDh [hEvDh : Cert.EvDh.Facts] : Prop :=
  ∀ (m : (ℓ : Loc Cert.EvDh.nD Cert.EvDh.τ Cert.EvDh.sig) → Buf (Elt Bits) ℓ) (g : Dev Cert.EvDh.nD → PrngReg), Pre_EvDh m →
    θ_run (Cert.EvDh.defs (F := Bits)) (onTc (τ := Cert.EvDh.τ) (Cert.EvDh.main (F := Bits))) ⟨m, fun _ => 0, g⟩ (fun r => (∀ c : Dev Cert.EvDh.nD,
      r.2.mem ((c.tc : Thread Cert.EvDh.nD Cert.EvDh.τ).loc Cert.EvDh.main_arg0) = m ((c.tc : Thread Cert.EvDh.nD Cert.EvDh.τ).loc Cert.EvDh.main_arg0)
      ∧ r.2.mem ((c.tc : Thread Cert.EvDh.nD Cert.EvDh.τ).loc Cert.EvDh.main_arg1) = m ((c.tc : Thread Cert.EvDh.nD Cert.EvDh.τ).loc Cert.EvDh.main_arg1)
      ∧ r.2.mem ((c.tc : Thread Cert.EvDh.nD Cert.EvDh.τ).loc Cert.EvDh.main_arg2) = m ((c.tc : Thread Cert.EvDh.nD Cert.EvDh.τ).loc Cert.EvDh.main_arg2)
      ∧ r.2.mem ((c.tc : Thread Cert.EvDh.nD Cert.EvDh.τ).loc Cert.EvDh.main_arg3) = m ((c.tc : Thread Cert.EvDh.nD Cert.EvDh.τ).loc Cert.EvDh.main_arg3)
      ∧ r.2.mem ((c.tc : Thread Cert.EvDh.nD Cert.EvDh.τ).loc Cert.EvDh.main_arg4) = m ((c.tc : Thread Cert.EvDh.nD Cert.EvDh.τ).loc Cert.EvDh.main_arg4)
      ∧ r.2.mem ((c.tc : Thread Cert.EvDh.nD Cert.EvDh.τ).loc Cert.EvDh.main_arg5) = m ((c.tc : Thread Cert.EvDh.nD Cert.EvDh.τ).loc Cert.EvDh.main_arg5)
      ∧ r.2.mem ((c.tc : Thread Cert.EvDh.nD Cert.EvDh.τ).loc Cert.EvDh.main_arg6) = m ((c.tc : Thread Cert.EvDh.nD Cert.EvDh.τ).loc Cert.EvDh.main_arg6)
      ∧ r.2.mem ((c.tc : Thread Cert.EvDh.nD Cert.EvDh.τ).loc Cert.EvDh.main_arg7) = m ((c.tc : Thread Cert.EvDh.nD Cert.EvDh.τ).loc Cert.EvDh.main_arg7)
      ∧ r.2.mem ((c.tc : Thread Cert.EvDh.nD Cert.EvDh.τ).loc Cert.EvDh.main_arg8) = m ((c.tc : Thread Cert.EvDh.nD Cert.EvDh.τ).loc Cert.EvDh.main_arg8)
      ∧ r.2.mem ((c.tc : Thread Cert.EvDh.nD Cert.EvDh.τ).loc Cert.EvDh.main_arg9) = m ((c.tc : Thread Cert.EvDh.nD Cert.EvDh.τ).loc Cert.EvDh.main_arg9))
      ∧ r.2.sem = fun _ => 0)

def quiescent_EvDhIdeal [hEvDhIdeal : Cert.EvDhIdeal.Facts] : Prop :=
  ∀ (m : (ℓ : Loc Cert.EvDhIdeal.nD Cert.EvDhIdeal.τ Cert.EvDhIdeal.sig) → Buf (Elt Ideal) ℓ) (g : Dev Cert.EvDhIdeal.nD → PrngReg), Pre_EvDhIdeal m →
    θ_run (Cert.EvDhIdeal.defs (F := Ideal)) (onTc (τ := Cert.EvDhIdeal.τ) (Cert.EvDhIdeal.main (F := Ideal))) ⟨m, fun _ => 0, g⟩ (fun r => (∀ c : Dev Cert.EvDhIdeal.nD,
      r.2.mem ((c.tc : Thread Cert.EvDhIdeal.nD Cert.EvDhIdeal.τ).loc Cert.EvDhIdeal.main_arg0) = m ((c.tc : Thread Cert.EvDhIdeal.nD Cert.EvDhIdeal.τ).loc Cert.EvDhIdeal.main_arg0)
      ∧ r.2.mem ((c.tc : Thread Cert.EvDhIdeal.nD Cert.EvDhIdeal.τ).loc Cert.EvDhIdeal.main_arg1) = m ((c.tc : Thread Cert.EvDhIdeal.nD Cert.EvDhIdeal.τ).loc Cert.EvDhIdeal.main_arg1)
      ∧ r.2.mem ((c.tc : Thread Cert.EvDhIdeal.nD Cert.EvDhIdeal.τ).loc Cert.EvDhIdeal.main_arg2) = m ((c.tc : Thread Cert.EvDhIdeal.nD Cert.EvDhIdeal.τ).loc Cert.EvDhIdeal.main_arg2)
      ∧ r.2.mem ((c.tc : Thread Cert.EvDhIdeal.nD Cert.EvDhIdeal.τ).loc Cert.EvDhIdeal.main_arg3) = m ((c.tc : Thread Cert.EvDhIdeal.nD Cert.EvDhIdeal.τ).loc Cert.EvDhIdeal.main_arg3)
      ∧ r.2.mem ((c.tc : Thread Cert.EvDhIdeal.nD Cert.EvDhIdeal.τ).loc Cert.EvDhIdeal.main_arg4) = m ((c.tc : Thread Cert.EvDhIdeal.nD Cert.EvDhIdeal.τ).loc Cert.EvDhIdeal.main_arg4)
      ∧ r.2.mem ((c.tc : Thread Cert.EvDhIdeal.nD Cert.EvDhIdeal.τ).loc Cert.EvDhIdeal.main_arg5) = m ((c.tc : Thread Cert.EvDhIdeal.nD Cert.EvDhIdeal.τ).loc Cert.EvDhIdeal.main_arg5)
      ∧ r.2.mem ((c.tc : Thread Cert.EvDhIdeal.nD Cert.EvDhIdeal.τ).loc Cert.EvDhIdeal.main_arg6) = m ((c.tc : Thread Cert.EvDhIdeal.nD Cert.EvDhIdeal.τ).loc Cert.EvDhIdeal.main_arg6)
      ∧ r.2.mem ((c.tc : Thread Cert.EvDhIdeal.nD Cert.EvDhIdeal.τ).loc Cert.EvDhIdeal.main_arg7) = m ((c.tc : Thread Cert.EvDhIdeal.nD Cert.EvDhIdeal.τ).loc Cert.EvDhIdeal.main_arg7)
      ∧ r.2.mem ((c.tc : Thread Cert.EvDhIdeal.nD Cert.EvDhIdeal.τ).loc Cert.EvDhIdeal.main_arg8) = m ((c.tc : Thread Cert.EvDhIdeal.nD Cert.EvDhIdeal.τ).loc Cert.EvDhIdeal.main_arg8)
      ∧ r.2.mem ((c.tc : Thread Cert.EvDhIdeal.nD Cert.EvDhIdeal.τ).loc Cert.EvDhIdeal.main_arg9) = m ((c.tc : Thread Cert.EvDhIdeal.nD Cert.EvDhIdeal.τ).loc Cert.EvDhIdeal.main_arg9))
      ∧ r.2.sem = fun _ => 0)

def quiescent_ReferenceEvDhIdeal [hReferenceEvDhIdeal : Cert.ReferenceEvDhIdeal.Facts] : Prop :=
  ∀ (m : (ℓ : Loc Cert.ReferenceEvDhIdeal.nD Cert.ReferenceEvDhIdeal.τ Cert.ReferenceEvDhIdeal.sig) → Buf (Elt Ideal) ℓ) (g : Dev Cert.ReferenceEvDhIdeal.nD → PrngReg), Pre_ReferenceEvDhIdeal m →
    θ_run (Cert.ReferenceEvDhIdeal.defs (F := Ideal)) (onTc (τ := Cert.ReferenceEvDhIdeal.τ) (Cert.ReferenceEvDhIdeal.main (F := Ideal))) ⟨m, fun _ => 0, g⟩ (fun r => (∀ c : Dev Cert.ReferenceEvDhIdeal.nD,
      r.2.mem ((c.tc : Thread Cert.ReferenceEvDhIdeal.nD Cert.ReferenceEvDhIdeal.τ).loc Cert.ReferenceEvDhIdeal.main_arg0) = m ((c.tc : Thread Cert.ReferenceEvDhIdeal.nD Cert.ReferenceEvDhIdeal.τ).loc Cert.ReferenceEvDhIdeal.main_arg0)
      ∧ r.2.mem ((c.tc : Thread Cert.ReferenceEvDhIdeal.nD Cert.ReferenceEvDhIdeal.τ).loc Cert.ReferenceEvDhIdeal.main_arg1) = m ((c.tc : Thread Cert.ReferenceEvDhIdeal.nD Cert.ReferenceEvDhIdeal.τ).loc Cert.ReferenceEvDhIdeal.main_arg1)
      ∧ r.2.mem ((c.tc : Thread Cert.ReferenceEvDhIdeal.nD Cert.ReferenceEvDhIdeal.τ).loc Cert.ReferenceEvDhIdeal.main_arg2) = m ((c.tc : Thread Cert.ReferenceEvDhIdeal.nD Cert.ReferenceEvDhIdeal.τ).loc Cert.ReferenceEvDhIdeal.main_arg2)
      ∧ r.2.mem ((c.tc : Thread Cert.ReferenceEvDhIdeal.nD Cert.ReferenceEvDhIdeal.τ).loc Cert.ReferenceEvDhIdeal.main_arg3) = m ((c.tc : Thread Cert.ReferenceEvDhIdeal.nD Cert.ReferenceEvDhIdeal.τ).loc Cert.ReferenceEvDhIdeal.main_arg3)
      ∧ r.2.mem ((c.tc : Thread Cert.ReferenceEvDhIdeal.nD Cert.ReferenceEvDhIdeal.τ).loc Cert.ReferenceEvDhIdeal.main_arg4) = m ((c.tc : Thread Cert.ReferenceEvDhIdeal.nD Cert.ReferenceEvDhIdeal.τ).loc Cert.ReferenceEvDhIdeal.main_arg4)
      ∧ r.2.mem ((c.tc : Thread Cert.ReferenceEvDhIdeal.nD Cert.ReferenceEvDhIdeal.τ).loc Cert.ReferenceEvDhIdeal.main_arg5) = m ((c.tc : Thread Cert.ReferenceEvDhIdeal.nD Cert.ReferenceEvDhIdeal.τ).loc Cert.ReferenceEvDhIdeal.main_arg5)
      ∧ r.2.mem ((c.tc : Thread Cert.ReferenceEvDhIdeal.nD Cert.ReferenceEvDhIdeal.τ).loc Cert.ReferenceEvDhIdeal.main_arg6) = m ((c.tc : Thread Cert.ReferenceEvDhIdeal.nD Cert.ReferenceEvDhIdeal.τ).loc Cert.ReferenceEvDhIdeal.main_arg6)
      ∧ r.2.mem ((c.tc : Thread Cert.ReferenceEvDhIdeal.nD Cert.ReferenceEvDhIdeal.τ).loc Cert.ReferenceEvDhIdeal.main_arg7) = m ((c.tc : Thread Cert.ReferenceEvDhIdeal.nD Cert.ReferenceEvDhIdeal.τ).loc Cert.ReferenceEvDhIdeal.main_arg7)
      ∧ r.2.mem ((c.tc : Thread Cert.ReferenceEvDhIdeal.nD Cert.ReferenceEvDhIdeal.τ).loc Cert.ReferenceEvDhIdeal.main_arg8) = m ((c.tc : Thread Cert.ReferenceEvDhIdeal.nD Cert.ReferenceEvDhIdeal.τ).loc Cert.ReferenceEvDhIdeal.main_arg8)
      ∧ r.2.mem ((c.tc : Thread Cert.ReferenceEvDhIdeal.nD Cert.ReferenceEvDhIdeal.τ).loc Cert.ReferenceEvDhIdeal.main_arg9) = m ((c.tc : Thread Cert.ReferenceEvDhIdeal.nD Cert.ReferenceEvDhIdeal.τ).loc Cert.ReferenceEvDhIdeal.main_arg9))
      ∧ r.2.sem = fun _ => 0)

def preserves_Fwd_FwdIdeal : Prop :=
  True

def algebraic_FwdIdeal_ReferenceFwdIdeal [hFwdIdeal : Cert.FwdIdeal.Facts] [hReferenceFwdIdeal : Cert.ReferenceFwdIdeal.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.ReferenceFwdIdeal.nD Cert.ReferenceFwdIdeal.τ Cert.ReferenceFwdIdeal.sig) → Buf (Elt Ideal) ℓ) (g' : Dev Cert.ReferenceFwdIdeal.nD → PrngReg), Pre_FwdIdeal m →
    (∀ c : Dev Cert.FwdIdeal.nD,
      m' ((c.tc : Thread Cert.ReferenceFwdIdeal.nD Cert.ReferenceFwdIdeal.τ).loc Cert.ReferenceFwdIdeal.main_arg0) = m ((c.tc : Thread Cert.FwdIdeal.nD Cert.FwdIdeal.τ).loc Cert.FwdIdeal.main_arg0)
      ∧ m' ((c.tc : Thread Cert.ReferenceFwdIdeal.nD Cert.ReferenceFwdIdeal.τ).loc Cert.ReferenceFwdIdeal.main_arg1) = m ((c.tc : Thread Cert.FwdIdeal.nD Cert.FwdIdeal.τ).loc Cert.FwdIdeal.main_arg1)
      ∧ m' ((c.tc : Thread Cert.ReferenceFwdIdeal.nD Cert.ReferenceFwdIdeal.τ).loc Cert.ReferenceFwdIdeal.main_arg2) = m ((c.tc : Thread Cert.FwdIdeal.nD Cert.FwdIdeal.τ).loc Cert.FwdIdeal.main_arg2)
      ∧ m' ((c.tc : Thread Cert.ReferenceFwdIdeal.nD Cert.ReferenceFwdIdeal.τ).loc Cert.ReferenceFwdIdeal.main_arg3) = m ((c.tc : Thread Cert.FwdIdeal.nD Cert.FwdIdeal.τ).loc Cert.FwdIdeal.main_arg3)) →
    ∃ (v0 : (c : Dev Cert.FwdIdeal.nD) → Buf (Elt Ideal) ((c.tc : Thread Cert.FwdIdeal.nD Cert.FwdIdeal.τ).loc Cert.FwdIdeal.main_v6)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v6) = v0 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3))
      ∧ θ_run (Cert.ReferenceFwdIdeal.defs (F := Ideal)) (onTc (τ := Cert.ReferenceFwdIdeal.τ) (Cert.ReferenceFwdIdeal.main (F := Ideal))) ⟨m', fun _ => 0, g'⟩ (fun r => ∀ c : Dev Cert.ReferenceFwdIdeal.nD,
          r.2.mem ((c.tc : Thread Cert.ReferenceFwdIdeal.nD Cert.ReferenceFwdIdeal.τ).loc Cert.ReferenceFwdIdeal.main_v21) = v0 c
          ∧ r.2.mem ((c.tc : Thread Cert.ReferenceFwdIdeal.nD Cert.ReferenceFwdIdeal.τ).loc Cert.ReferenceFwdIdeal.main_arg0) = m' ((c.tc : Thread Cert.ReferenceFwdIdeal.nD Cert.ReferenceFwdIdeal.τ).loc Cert.ReferenceFwdIdeal.main_arg0)
          ∧ r.2.mem ((c.tc : Thread Cert.ReferenceFwdIdeal.nD Cert.ReferenceFwdIdeal.τ).loc Cert.ReferenceFwdIdeal.main_arg1) = m' ((c.tc : Thread Cert.ReferenceFwdIdeal.nD Cert.ReferenceFwdIdeal.τ).loc Cert.ReferenceFwdIdeal.main_arg1)
          ∧ r.2.mem ((c.tc : Thread Cert.ReferenceFwdIdeal.nD Cert.ReferenceFwdIdeal.τ).loc Cert.ReferenceFwdIdeal.main_arg2) = m' ((c.tc : Thread Cert.ReferenceFwdIdeal.nD Cert.ReferenceFwdIdeal.τ).loc Cert.ReferenceFwdIdeal.main_arg2)
          ∧ r.2.mem ((c.tc : Thread Cert.ReferenceFwdIdeal.nD Cert.ReferenceFwdIdeal.τ).loc Cert.ReferenceFwdIdeal.main_arg3) = m' ((c.tc : Thread Cert.ReferenceFwdIdeal.nD Cert.ReferenceFwdIdeal.τ).loc Cert.ReferenceFwdIdeal.main_arg3))

def preserves_Dwout_DwoutIdeal : Prop :=
  True

def algebraic_DwoutIdeal_ReferenceDwoutIdeal [hDwoutIdeal : Cert.DwoutIdeal.Facts] [hReferenceDwoutIdeal : Cert.ReferenceDwoutIdeal.Facts] : Prop :=
  ∀ (m : (ℓ : Loc Cert.DwoutIdeal.nD Cert.DwoutIdeal.τ Cert.DwoutIdeal.sig) → Buf (Elt Ideal) ℓ) (g : Dev Cert.DwoutIdeal.nD → PrngReg)
    (m' : (ℓ : Loc Cert.ReferenceDwoutIdeal.nD Cert.ReferenceDwoutIdeal.τ Cert.ReferenceDwoutIdeal.sig) → Buf (Elt Ideal) ℓ) (g' : Dev Cert.ReferenceDwoutIdeal.nD → PrngReg), Pre_DwoutIdeal m →
    (∀ c : Dev Cert.DwoutIdeal.nD,
      m' ((c.tc : Thread Cert.ReferenceDwoutIdeal.nD Cert.ReferenceDwoutIdeal.τ).loc Cert.ReferenceDwoutIdeal.main_arg0) = m ((c.tc : Thread Cert.DwoutIdeal.nD Cert.DwoutIdeal.τ).loc Cert.DwoutIdeal.main_arg0)
      ∧ m' ((c.tc : Thread Cert.ReferenceDwoutIdeal.nD Cert.ReferenceDwoutIdeal.τ).loc Cert.ReferenceDwoutIdeal.main_arg1) = m ((c.tc : Thread Cert.DwoutIdeal.nD Cert.DwoutIdeal.τ).loc Cert.DwoutIdeal.main_arg1)
      ∧ m' ((c.tc : Thread Cert.ReferenceDwoutIdeal.nD Cert.ReferenceDwoutIdeal.τ).loc Cert.ReferenceDwoutIdeal.main_arg2) = m ((c.tc : Thread Cert.DwoutIdeal.nD Cert.DwoutIdeal.τ).loc Cert.DwoutIdeal.main_arg2)
      ∧ m' ((c.tc : Thread Cert.ReferenceDwoutIdeal.nD Cert.ReferenceDwoutIdeal.τ).loc Cert.ReferenceDwoutIdeal.main_arg3) = m ((c.tc : Thread Cert.DwoutIdeal.nD Cert.DwoutIdeal.τ).loc Cert.DwoutIdeal.main_arg3)
      ∧ m' ((c.tc : Thread Cert.ReferenceDwoutIdeal.nD Cert.ReferenceDwoutIdeal.τ).loc Cert.ReferenceDwoutIdeal.main_arg4) = m ((c.tc : Thread Cert.DwoutIdeal.nD Cert.DwoutIdeal.τ).loc Cert.DwoutIdeal.main_arg4)) →
    ∃ (v0 : (c : Dev Cert.DwoutIdeal.nD) → Buf (Elt Ideal) ((c.tc : Thread Cert.DwoutIdeal.nD Cert.DwoutIdeal.τ).loc Cert.DwoutIdeal.main_v21)),
      θ_run (Cert.DwoutIdeal.defs (F := Ideal)) (onTc (τ := Cert.DwoutIdeal.τ) (Cert.DwoutIdeal.main (F := Ideal))) ⟨m, fun _ => 0, g⟩ (fun r => ∀ c : Dev Cert.DwoutIdeal.nD,
          r.2.mem ((c.tc : Thread Cert.DwoutIdeal.nD Cert.DwoutIdeal.τ).loc Cert.DwoutIdeal.main_v21) = v0 c
          ∧ r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
          ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1)
          ∧ r.2.mem ((c.tc : Thread Cert.DwoutIdeal.nD Cert.DwoutIdeal.τ).loc Cert.DwoutIdeal.main_arg2) = m ((c.tc : Thread Cert.DwoutIdeal.nD Cert.DwoutIdeal.τ).loc Cert.DwoutIdeal.main_arg2)
          ∧ r.2.mem ((c.tc : Thread Cert.DwoutIdeal.nD Cert.DwoutIdeal.τ).loc Cert.DwoutIdeal.main_arg3) = m ((c.tc : Thread Cert.DwoutIdeal.nD Cert.DwoutIdeal.τ).loc Cert.DwoutIdeal.main_arg3)
          ∧ r.2.mem ((c.tc : Thread Cert.DwoutIdeal.nD Cert.DwoutIdeal.τ).loc Cert.DwoutIdeal.main_arg4) = m ((c.tc : Thread Cert.DwoutIdeal.nD Cert.DwoutIdeal.τ).loc Cert.DwoutIdeal.main_arg4))
      ∧ θ_run (Cert.ReferenceDwoutIdeal.defs (F := Ideal)) (onTc (τ := Cert.ReferenceDwoutIdeal.τ) (Cert.ReferenceDwoutIdeal.main (F := Ideal))) ⟨m', fun _ => 0, g'⟩ (fun r => ∀ c : Dev Cert.ReferenceDwoutIdeal.nD,
          r.2.mem ((c.tc : Thread Cert.ReferenceDwoutIdeal.nD Cert.ReferenceDwoutIdeal.τ).loc Cert.ReferenceDwoutIdeal.main_v26) = v0 c
          ∧ r.2.mem ((c.tc : Thread Cert.ReferenceDwoutIdeal.nD Cert.ReferenceDwoutIdeal.τ).loc Cert.ReferenceDwoutIdeal.main_arg0) = m' ((c.tc : Thread Cert.ReferenceDwoutIdeal.nD Cert.ReferenceDwoutIdeal.τ).loc Cert.ReferenceDwoutIdeal.main_arg0)
          ∧ r.2.mem ((c.tc : Thread Cert.ReferenceDwoutIdeal.nD Cert.ReferenceDwoutIdeal.τ).loc Cert.ReferenceDwoutIdeal.main_arg1) = m' ((c.tc : Thread Cert.ReferenceDwoutIdeal.nD Cert.ReferenceDwoutIdeal.τ).loc Cert.ReferenceDwoutIdeal.main_arg1)
          ∧ r.2.mem ((c.tc : Thread Cert.ReferenceDwoutIdeal.nD Cert.ReferenceDwoutIdeal.τ).loc Cert.ReferenceDwoutIdeal.main_arg2) = m' ((c.tc : Thread Cert.ReferenceDwoutIdeal.nD Cert.ReferenceDwoutIdeal.τ).loc Cert.ReferenceDwoutIdeal.main_arg2)
          ∧ r.2.mem ((c.tc : Thread Cert.ReferenceDwoutIdeal.nD Cert.ReferenceDwoutIdeal.τ).loc Cert.ReferenceDwoutIdeal.main_arg3) = m' ((c.tc : Thread Cert.ReferenceDwoutIdeal.nD Cert.ReferenceDwoutIdeal.τ).loc Cert.ReferenceDwoutIdeal.main_arg3)
          ∧ r.2.mem ((c.tc : Thread Cert.ReferenceDwoutIdeal.nD Cert.ReferenceDwoutIdeal.τ).loc Cert.ReferenceDwoutIdeal.main_arg4) = m' ((c.tc : Thread Cert.ReferenceDwoutIdeal.nD Cert.ReferenceDwoutIdeal.τ).loc Cert.ReferenceDwoutIdeal.main_arg4))

def preserves_Dwin_DwinIdeal : Prop :=
  True

def algebraic_DwinIdeal_ReferenceDwinIdeal [hDwinIdeal : Cert.DwinIdeal.Facts] [hReferenceDwinIdeal : Cert.ReferenceDwinIdeal.Facts] : Prop :=
  ∀ (m : (ℓ : Loc Cert.DwinIdeal.nD Cert.DwinIdeal.τ Cert.DwinIdeal.sig) → Buf (Elt Ideal) ℓ) (g : Dev Cert.DwinIdeal.nD → PrngReg)
    (m' : (ℓ : Loc Cert.ReferenceDwinIdeal.nD Cert.ReferenceDwinIdeal.τ Cert.ReferenceDwinIdeal.sig) → Buf (Elt Ideal) ℓ) (g' : Dev Cert.ReferenceDwinIdeal.nD → PrngReg), Pre_DwinIdeal m →
    (∀ c : Dev Cert.DwinIdeal.nD,
      m' ((c.tc : Thread Cert.ReferenceDwinIdeal.nD Cert.ReferenceDwinIdeal.τ).loc Cert.ReferenceDwinIdeal.main_arg0) = m ((c.tc : Thread Cert.DwinIdeal.nD Cert.DwinIdeal.τ).loc Cert.DwinIdeal.main_arg0)
      ∧ m' ((c.tc : Thread Cert.ReferenceDwinIdeal.nD Cert.ReferenceDwinIdeal.τ).loc Cert.ReferenceDwinIdeal.main_arg1) = m ((c.tc : Thread Cert.DwinIdeal.nD Cert.DwinIdeal.τ).loc Cert.DwinIdeal.main_arg1)
      ∧ m' ((c.tc : Thread Cert.ReferenceDwinIdeal.nD Cert.ReferenceDwinIdeal.τ).loc Cert.ReferenceDwinIdeal.main_arg2) = m ((c.tc : Thread Cert.DwinIdeal.nD Cert.DwinIdeal.τ).loc Cert.DwinIdeal.main_arg2)
      ∧ m' ((c.tc : Thread Cert.ReferenceDwinIdeal.nD Cert.ReferenceDwinIdeal.τ).loc Cert.ReferenceDwinIdeal.main_arg3) = m ((c.tc : Thread Cert.DwinIdeal.nD Cert.DwinIdeal.τ).loc Cert.DwinIdeal.main_arg3)
      ∧ m' ((c.tc : Thread Cert.ReferenceDwinIdeal.nD Cert.ReferenceDwinIdeal.τ).loc Cert.ReferenceDwinIdeal.main_arg4) = m ((c.tc : Thread Cert.DwinIdeal.nD Cert.DwinIdeal.τ).loc Cert.DwinIdeal.main_arg4)) →
    ∃ (v0 : (c : Dev Cert.DwinIdeal.nD) → Buf (Elt Ideal) ((c.tc : Thread Cert.DwinIdeal.nD Cert.DwinIdeal.τ).loc Cert.DwinIdeal.main_v49)),
      θ_run (Cert.DwinIdeal.defs (F := Ideal)) (onTc (τ := Cert.DwinIdeal.τ) (Cert.DwinIdeal.main (F := Ideal))) ⟨m, fun _ => 0, g⟩ (fun r => ∀ c : Dev Cert.DwinIdeal.nD,
          r.2.mem ((c.tc : Thread Cert.DwinIdeal.nD Cert.DwinIdeal.τ).loc Cert.DwinIdeal.main_v49) = v0 c
          ∧ r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
          ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1)
          ∧ r.2.mem ((c.tc : Thread Cert.DwinIdeal.nD Cert.DwinIdeal.τ).loc Cert.DwinIdeal.main_arg2) = m ((c.tc : Thread Cert.DwinIdeal.nD Cert.DwinIdeal.τ).loc Cert.DwinIdeal.main_arg2)
          ∧ r.2.mem ((c.tc : Thread Cert.DwinIdeal.nD Cert.DwinIdeal.τ).loc Cert.DwinIdeal.main_arg3) = m ((c.tc : Thread Cert.DwinIdeal.nD Cert.DwinIdeal.τ).loc Cert.DwinIdeal.main_arg3)
          ∧ r.2.mem ((c.tc : Thread Cert.DwinIdeal.nD Cert.DwinIdeal.τ).loc Cert.DwinIdeal.main_arg4) = m ((c.tc : Thread Cert.DwinIdeal.nD Cert.DwinIdeal.τ).loc Cert.DwinIdeal.main_arg4))
      ∧ θ_run (Cert.ReferenceDwinIdeal.defs (F := Ideal)) (onTc (τ := Cert.ReferenceDwinIdeal.τ) (Cert.ReferenceDwinIdeal.main (F := Ideal))) ⟨m', fun _ => 0, g'⟩ (fun r => ∀ c : Dev Cert.ReferenceDwinIdeal.nD,
          r.2.mem ((c.tc : Thread Cert.ReferenceDwinIdeal.nD Cert.ReferenceDwinIdeal.τ).loc Cert.ReferenceDwinIdeal.main_v40) = v0 c
          ∧ r.2.mem ((c.tc : Thread Cert.ReferenceDwinIdeal.nD Cert.ReferenceDwinIdeal.τ).loc Cert.ReferenceDwinIdeal.main_arg0) = m' ((c.tc : Thread Cert.ReferenceDwinIdeal.nD Cert.ReferenceDwinIdeal.τ).loc Cert.ReferenceDwinIdeal.main_arg0)
          ∧ r.2.mem ((c.tc : Thread Cert.ReferenceDwinIdeal.nD Cert.ReferenceDwinIdeal.τ).loc Cert.ReferenceDwinIdeal.main_arg1) = m' ((c.tc : Thread Cert.ReferenceDwinIdeal.nD Cert.ReferenceDwinIdeal.τ).loc Cert.ReferenceDwinIdeal.main_arg1)
          ∧ r.2.mem ((c.tc : Thread Cert.ReferenceDwinIdeal.nD Cert.ReferenceDwinIdeal.τ).loc Cert.ReferenceDwinIdeal.main_arg2) = m' ((c.tc : Thread Cert.ReferenceDwinIdeal.nD Cert.ReferenceDwinIdeal.τ).loc Cert.ReferenceDwinIdeal.main_arg2)
          ∧ r.2.mem ((c.tc : Thread Cert.ReferenceDwinIdeal.nD Cert.ReferenceDwinIdeal.τ).loc Cert.ReferenceDwinIdeal.main_arg3) = m' ((c.tc : Thread Cert.ReferenceDwinIdeal.nD Cert.ReferenceDwinIdeal.τ).loc Cert.ReferenceDwinIdeal.main_arg3)
          ∧ r.2.mem ((c.tc : Thread Cert.ReferenceDwinIdeal.nD Cert.ReferenceDwinIdeal.τ).loc Cert.ReferenceDwinIdeal.main_arg4) = m' ((c.tc : Thread Cert.ReferenceDwinIdeal.nD Cert.ReferenceDwinIdeal.τ).loc Cert.ReferenceDwinIdeal.main_arg4))

def preserves_Dh_DhIdeal : Prop :=
  True

def algebraic_DhIdeal_ReferenceDhIdeal [hDhIdeal : Cert.DhIdeal.Facts] [hReferenceDhIdeal : Cert.ReferenceDhIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.ReferenceDhIdeal.nD Cert.ReferenceDhIdeal.τ Cert.ReferenceDhIdeal.sig) → Buf (Elt Ideal) ℓ) (g' : Dev Cert.ReferenceDhIdeal.nD → PrngReg), Pre_DhIdeal m →
    (∀ c : Dev Cert.DhIdeal.nD,
      m' ((c.tc : Thread Cert.ReferenceDhIdeal.nD Cert.ReferenceDhIdeal.τ).loc Cert.ReferenceDhIdeal.main_arg0) = m ((c.tc : Thread Cert.DhIdeal.nD Cert.DhIdeal.τ).loc Cert.DhIdeal.main_arg0)
      ∧ m' ((c.tc : Thread Cert.ReferenceDhIdeal.nD Cert.ReferenceDhIdeal.τ).loc Cert.ReferenceDhIdeal.main_arg1) = m ((c.tc : Thread Cert.DhIdeal.nD Cert.DhIdeal.τ).loc Cert.DhIdeal.main_arg1)
      ∧ m' ((c.tc : Thread Cert.ReferenceDhIdeal.nD Cert.ReferenceDhIdeal.τ).loc Cert.ReferenceDhIdeal.main_arg2) = m ((c.tc : Thread Cert.DhIdeal.nD Cert.DhIdeal.τ).loc Cert.DhIdeal.main_arg2)
      ∧ m' ((c.tc : Thread Cert.ReferenceDhIdeal.nD Cert.ReferenceDhIdeal.τ).loc Cert.ReferenceDhIdeal.main_arg3) = m ((c.tc : Thread Cert.DhIdeal.nD Cert.DhIdeal.τ).loc Cert.DhIdeal.main_arg3)
      ∧ m' ((c.tc : Thread Cert.ReferenceDhIdeal.nD Cert.ReferenceDhIdeal.τ).loc Cert.ReferenceDhIdeal.main_arg4) = m ((c.tc : Thread Cert.DhIdeal.nD Cert.DhIdeal.τ).loc Cert.DhIdeal.main_arg4)) →
    ∃ (v0 : (c : Dev Cert.DhIdeal.nD) → Buf (Elt Ideal) ((c.tc : Thread Cert.DhIdeal.nD Cert.DhIdeal.τ).loc Cert.DhIdeal.main_v39_0)) (v1 : (c : Dev Cert.DhIdeal.nD) → Buf (Elt Ideal) ((c.tc : Thread Cert.DhIdeal.nD Cert.DhIdeal.τ).loc Cert.DhIdeal.main_v39_2)) (v2 : (c : Dev Cert.DhIdeal.nD) → Buf (Elt Ideal) ((c.tc : Thread Cert.DhIdeal.nD Cert.DhIdeal.τ).loc Cert.DhIdeal.main_v39_1)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v39_0) = v0 c
          ∧ r.2.mem ((c.tc : Thread Cert.DhIdeal.nD Cert.DhIdeal.τ).loc Cert.DhIdeal.main_v39_2) = v1 c
          ∧ r.2.mem ((c.tc : Thread Cert.DhIdeal.nD Cert.DhIdeal.τ).loc Cert.DhIdeal.main_v39_1) = v2 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
          ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
          ∧ r.2.mem ((c.tc : Thread Cert.DhIdeal.nD Cert.DhIdeal.τ).loc Cert.DhIdeal.main_arg4) = m ((c.tc : Thread Cert.DhIdeal.nD Cert.DhIdeal.τ).loc Cert.DhIdeal.main_arg4))
      ∧ θ_run (Cert.ReferenceDhIdeal.defs (F := Ideal)) (onTc (τ := Cert.ReferenceDhIdeal.τ) (Cert.ReferenceDhIdeal.main (F := Ideal))) ⟨m', fun _ => 0, g'⟩ (fun r => ∀ c : Dev Cert.ReferenceDhIdeal.nD,
          r.2.mem ((c.tc : Thread Cert.ReferenceDhIdeal.nD Cert.ReferenceDhIdeal.τ).loc Cert.ReferenceDhIdeal.main_v54) = v0 c
          ∧ r.2.mem ((c.tc : Thread Cert.ReferenceDhIdeal.nD Cert.ReferenceDhIdeal.τ).loc Cert.ReferenceDhIdeal.main_v55) = v1 c
          ∧ r.2.mem ((c.tc : Thread Cert.ReferenceDhIdeal.nD Cert.ReferenceDhIdeal.τ).loc Cert.ReferenceDhIdeal.main_v56) = v2 c
          ∧ r.2.mem ((c.tc : Thread Cert.ReferenceDhIdeal.nD Cert.ReferenceDhIdeal.τ).loc Cert.ReferenceDhIdeal.main_arg0) = m' ((c.tc : Thread Cert.ReferenceDhIdeal.nD Cert.ReferenceDhIdeal.τ).loc Cert.ReferenceDhIdeal.main_arg0)
          ∧ r.2.mem ((c.tc : Thread Cert.ReferenceDhIdeal.nD Cert.ReferenceDhIdeal.τ).loc Cert.ReferenceDhIdeal.main_arg1) = m' ((c.tc : Thread Cert.ReferenceDhIdeal.nD Cert.ReferenceDhIdeal.τ).loc Cert.ReferenceDhIdeal.main_arg1)
          ∧ r.2.mem ((c.tc : Thread Cert.ReferenceDhIdeal.nD Cert.ReferenceDhIdeal.τ).loc Cert.ReferenceDhIdeal.main_arg2) = m' ((c.tc : Thread Cert.ReferenceDhIdeal.nD Cert.ReferenceDhIdeal.τ).loc Cert.ReferenceDhIdeal.main_arg2)
          ∧ r.2.mem ((c.tc : Thread Cert.ReferenceDhIdeal.nD Cert.ReferenceDhIdeal.τ).loc Cert.ReferenceDhIdeal.main_arg3) = m' ((c.tc : Thread Cert.ReferenceDhIdeal.nD Cert.ReferenceDhIdeal.τ).loc Cert.ReferenceDhIdeal.main_arg3)
          ∧ r.2.mem ((c.tc : Thread Cert.ReferenceDhIdeal.nD Cert.ReferenceDhIdeal.τ).loc Cert.ReferenceDhIdeal.main_arg4) = m' ((c.tc : Thread Cert.ReferenceDhIdeal.nD Cert.ReferenceDhIdeal.τ).loc Cert.ReferenceDhIdeal.main_arg4))

def preserves_Dact_DactIdeal : Prop :=
  True

def algebraic_DactIdeal_ReferenceDactIdeal_pre_finite [hDactIdeal : Cert.DactIdeal.Facts] [hReferenceDactIdeal : Cert.ReferenceDactIdeal.Facts] [hPre_finite : Cert.Pre_finite.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.ReferenceDactIdeal.nD Cert.ReferenceDactIdeal.τ Cert.ReferenceDactIdeal.sig) → Buf (Elt Ideal) ℓ) (g' : Dev Cert.ReferenceDactIdeal.nD → PrngReg), Pre_DactIdeal_finite m →
    (∀ c : Dev Cert.DactIdeal.nD,
      m' ((c.tc : Thread Cert.ReferenceDactIdeal.nD Cert.ReferenceDactIdeal.τ).loc Cert.ReferenceDactIdeal.main_arg0) = m ((c.tc : Thread Cert.DactIdeal.nD Cert.DactIdeal.τ).loc Cert.DactIdeal.main_arg0)
      ∧ m' ((c.tc : Thread Cert.ReferenceDactIdeal.nD Cert.ReferenceDactIdeal.τ).loc Cert.ReferenceDactIdeal.main_arg1) = m ((c.tc : Thread Cert.DactIdeal.nD Cert.DactIdeal.τ).loc Cert.DactIdeal.main_arg1)
      ∧ m' ((c.tc : Thread Cert.ReferenceDactIdeal.nD Cert.ReferenceDactIdeal.τ).loc Cert.ReferenceDactIdeal.main_arg2) = m ((c.tc : Thread Cert.DactIdeal.nD Cert.DactIdeal.τ).loc Cert.DactIdeal.main_arg2)
      ∧ m' ((c.tc : Thread Cert.ReferenceDactIdeal.nD Cert.ReferenceDactIdeal.τ).loc Cert.ReferenceDactIdeal.main_arg3) = m ((c.tc : Thread Cert.DactIdeal.nD Cert.DactIdeal.τ).loc Cert.DactIdeal.main_arg3)
      ∧ m' ((c.tc : Thread Cert.ReferenceDactIdeal.nD Cert.ReferenceDactIdeal.τ).loc Cert.ReferenceDactIdeal.main_arg4) = m ((c.tc : Thread Cert.DactIdeal.nD Cert.DactIdeal.τ).loc Cert.DactIdeal.main_arg4)) →
    ∃ (v0 : (c : Dev Cert.DactIdeal.nD) → Buf (Elt Ideal) ((c.tc : Thread Cert.DactIdeal.nD Cert.DactIdeal.τ).loc Cert.DactIdeal.main_v35)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v35) = v0 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
          ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
          ∧ r.2.mem ((c.tc : Thread Cert.DactIdeal.nD Cert.DactIdeal.τ).loc Cert.DactIdeal.main_arg3) = m ((c.tc : Thread Cert.DactIdeal.nD Cert.DactIdeal.τ).loc Cert.DactIdeal.main_arg3)
          ∧ r.2.mem ((c.tc : Thread Cert.DactIdeal.nD Cert.DactIdeal.τ).loc Cert.DactIdeal.main_arg4) = m ((c.tc : Thread Cert.DactIdeal.nD Cert.DactIdeal.τ).loc Cert.DactIdeal.main_arg4))
      ∧ θ_run (Cert.ReferenceDactIdeal.defs (F := Ideal)) (onTc (τ := Cert.ReferenceDactIdeal.τ) (Cert.ReferenceDactIdeal.main (F := Ideal))) ⟨m', fun _ => 0, g'⟩ (fun r => ∀ c : Dev Cert.ReferenceDactIdeal.nD,
          r.2.mem ((c.tc : Thread Cert.ReferenceDactIdeal.nD Cert.ReferenceDactIdeal.τ).loc Cert.ReferenceDactIdeal.main_v34) = v0 c
          ∧ r.2.mem ((c.tc : Thread Cert.ReferenceDactIdeal.nD Cert.ReferenceDactIdeal.τ).loc Cert.ReferenceDactIdeal.main_arg0) = m' ((c.tc : Thread Cert.ReferenceDactIdeal.nD Cert.ReferenceDactIdeal.τ).loc Cert.ReferenceDactIdeal.main_arg0)
          ∧ r.2.mem ((c.tc : Thread Cert.ReferenceDactIdeal.nD Cert.ReferenceDactIdeal.τ).loc Cert.ReferenceDactIdeal.main_arg1) = m' ((c.tc : Thread Cert.ReferenceDactIdeal.nD Cert.ReferenceDactIdeal.τ).loc Cert.ReferenceDactIdeal.main_arg1)
          ∧ r.2.mem ((c.tc : Thread Cert.ReferenceDactIdeal.nD Cert.ReferenceDactIdeal.τ).loc Cert.ReferenceDactIdeal.main_arg2) = m' ((c.tc : Thread Cert.ReferenceDactIdeal.nD Cert.ReferenceDactIdeal.τ).loc Cert.ReferenceDactIdeal.main_arg2)
          ∧ r.2.mem ((c.tc : Thread Cert.ReferenceDactIdeal.nD Cert.ReferenceDactIdeal.τ).loc Cert.ReferenceDactIdeal.main_arg3) = m' ((c.tc : Thread Cert.ReferenceDactIdeal.nD Cert.ReferenceDactIdeal.τ).loc Cert.ReferenceDactIdeal.main_arg3)
          ∧ r.2.mem ((c.tc : Thread Cert.ReferenceDactIdeal.nD Cert.ReferenceDactIdeal.τ).loc Cert.ReferenceDactIdeal.main_arg4) = m' ((c.tc : Thread Cert.ReferenceDactIdeal.nD Cert.ReferenceDactIdeal.τ).loc Cert.ReferenceDactIdeal.main_arg4))

def preserves_AdamwIn_AdamwInIdeal : Prop :=
  True

def algebraic_AdamwInIdeal_ReferenceAdamwInIdeal [hAdamwInIdeal : Cert.AdamwInIdeal.Facts] [hReferenceAdamwInIdeal : Cert.ReferenceAdamwInIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg)
    (m' : (ℓ : Loc Cert.ReferenceAdamwInIdeal.nD Cert.ReferenceAdamwInIdeal.τ Cert.ReferenceAdamwInIdeal.sig) → Buf (Elt Ideal) ℓ) (g' : Dev Cert.ReferenceAdamwInIdeal.nD → PrngReg), Pre_AdamwInIdeal m →
    (∀ c : Dev Cert.AdamwInIdeal.nD,
      m' ((c.tc : Thread Cert.ReferenceAdamwInIdeal.nD Cert.ReferenceAdamwInIdeal.τ).loc Cert.ReferenceAdamwInIdeal.main_arg0) = m ((c.tc : Thread Cert.AdamwInIdeal.nD Cert.AdamwInIdeal.τ).loc Cert.AdamwInIdeal.main_arg0)
      ∧ m' ((c.tc : Thread Cert.ReferenceAdamwInIdeal.nD Cert.ReferenceAdamwInIdeal.τ).loc Cert.ReferenceAdamwInIdeal.main_arg1) = m ((c.tc : Thread Cert.AdamwInIdeal.nD Cert.AdamwInIdeal.τ).loc Cert.AdamwInIdeal.main_arg1)
      ∧ m' ((c.tc : Thread Cert.ReferenceAdamwInIdeal.nD Cert.ReferenceAdamwInIdeal.τ).loc Cert.ReferenceAdamwInIdeal.main_arg2) = m ((c.tc : Thread Cert.AdamwInIdeal.nD Cert.AdamwInIdeal.τ).loc Cert.AdamwInIdeal.main_arg2)
      ∧ m' ((c.tc : Thread Cert.ReferenceAdamwInIdeal.nD Cert.ReferenceAdamwInIdeal.τ).loc Cert.ReferenceAdamwInIdeal.main_arg3) = m ((c.tc : Thread Cert.AdamwInIdeal.nD Cert.AdamwInIdeal.τ).loc Cert.AdamwInIdeal.main_arg3)) →
    ∃ (v0 : (c : Dev Cert.AdamwInIdeal.nD) → Buf (Elt Ideal) ((c.tc : Thread Cert.AdamwInIdeal.nD Cert.AdamwInIdeal.τ).loc Cert.AdamwInIdeal.main_v4_0)) (v1 : (c : Dev Cert.AdamwInIdeal.nD) → Buf (Elt Ideal) ((c.tc : Thread Cert.AdamwInIdeal.nD Cert.AdamwInIdeal.τ).loc Cert.AdamwInIdeal.main_v4_1)) (v2 : (c : Dev Cert.AdamwInIdeal.nD) → Buf (Elt Ideal) ((c.tc : Thread Cert.AdamwInIdeal.nD Cert.AdamwInIdeal.τ).loc Cert.AdamwInIdeal.main_v4_2)),
      θ_run (Cert.AdamwInIdeal.defs (F := Ideal)) (onTc (τ := Cert.AdamwInIdeal.τ) (Cert.AdamwInIdeal.main (F := Ideal))) ⟨m, fun _ => 0, g⟩ (fun r => ∀ c : Dev Cert.AdamwInIdeal.nD,
          r.2.mem ((c.tc : Thread Cert.AdamwInIdeal.nD Cert.AdamwInIdeal.τ).loc Cert.AdamwInIdeal.main_v4_0) = v0 c
          ∧ r.2.mem ((c.tc : Thread Cert.AdamwInIdeal.nD Cert.AdamwInIdeal.τ).loc Cert.AdamwInIdeal.main_v4_1) = v1 c
          ∧ r.2.mem ((c.tc : Thread Cert.AdamwInIdeal.nD Cert.AdamwInIdeal.τ).loc Cert.AdamwInIdeal.main_v4_2) = v2 c
          ∧ r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
          ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
          ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
          ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3))
      ∧ θ_run (Cert.ReferenceAdamwInIdeal.defs (F := Ideal)) (onTc (τ := Cert.ReferenceAdamwInIdeal.τ) (Cert.ReferenceAdamwInIdeal.main (F := Ideal))) ⟨m', fun _ => 0, g'⟩ (fun r => ∀ c : Dev Cert.ReferenceAdamwInIdeal.nD,
          r.2.mem ((c.tc : Thread Cert.ReferenceAdamwInIdeal.nD Cert.ReferenceAdamwInIdeal.τ).loc Cert.ReferenceAdamwInIdeal.main_v24) = v0 c
          ∧ r.2.mem ((c.tc : Thread Cert.ReferenceAdamwInIdeal.nD Cert.ReferenceAdamwInIdeal.τ).loc Cert.ReferenceAdamwInIdeal.main_v25) = v1 c
          ∧ r.2.mem ((c.tc : Thread Cert.ReferenceAdamwInIdeal.nD Cert.ReferenceAdamwInIdeal.τ).loc Cert.ReferenceAdamwInIdeal.main_v26) = v2 c
          ∧ r.2.mem ((c.tc : Thread Cert.ReferenceAdamwInIdeal.nD Cert.ReferenceAdamwInIdeal.τ).loc Cert.ReferenceAdamwInIdeal.main_arg0) = m' ((c.tc : Thread Cert.ReferenceAdamwInIdeal.nD Cert.ReferenceAdamwInIdeal.τ).loc Cert.ReferenceAdamwInIdeal.main_arg0)
          ∧ r.2.mem ((c.tc : Thread Cert.ReferenceAdamwInIdeal.nD Cert.ReferenceAdamwInIdeal.τ).loc Cert.ReferenceAdamwInIdeal.main_arg1) = m' ((c.tc : Thread Cert.ReferenceAdamwInIdeal.nD Cert.ReferenceAdamwInIdeal.τ).loc Cert.ReferenceAdamwInIdeal.main_arg1)
          ∧ r.2.mem ((c.tc : Thread Cert.ReferenceAdamwInIdeal.nD Cert.ReferenceAdamwInIdeal.τ).loc Cert.ReferenceAdamwInIdeal.main_arg2) = m' ((c.tc : Thread Cert.ReferenceAdamwInIdeal.nD Cert.ReferenceAdamwInIdeal.τ).loc Cert.ReferenceAdamwInIdeal.main_arg2)
          ∧ r.2.mem ((c.tc : Thread Cert.ReferenceAdamwInIdeal.nD Cert.ReferenceAdamwInIdeal.τ).loc Cert.ReferenceAdamwInIdeal.main_arg3) = m' ((c.tc : Thread Cert.ReferenceAdamwInIdeal.nD Cert.ReferenceAdamwInIdeal.τ).loc Cert.ReferenceAdamwInIdeal.main_arg3))

def preserves_AdamwOut_AdamwOutIdeal : Prop :=
  True

def algebraic_AdamwOutIdeal_ReferenceAdamwOutIdeal [hAdamwOutIdeal : Cert.AdamwOutIdeal.Facts] [hReferenceAdamwOutIdeal : Cert.ReferenceAdamwOutIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg)
    (m' : (ℓ : Loc Cert.ReferenceAdamwOutIdeal.nD Cert.ReferenceAdamwOutIdeal.τ Cert.ReferenceAdamwOutIdeal.sig) → Buf (Elt Ideal) ℓ) (g' : Dev Cert.ReferenceAdamwOutIdeal.nD → PrngReg), Pre_AdamwOutIdeal m →
    (∀ c : Dev Cert.AdamwOutIdeal.nD,
      m' ((c.tc : Thread Cert.ReferenceAdamwOutIdeal.nD Cert.ReferenceAdamwOutIdeal.τ).loc Cert.ReferenceAdamwOutIdeal.main_arg0) = m ((c.tc : Thread Cert.AdamwOutIdeal.nD Cert.AdamwOutIdeal.τ).loc Cert.AdamwOutIdeal.main_arg0)
      ∧ m' ((c.tc : Thread Cert.ReferenceAdamwOutIdeal.nD Cert.ReferenceAdamwOutIdeal.τ).loc Cert.ReferenceAdamwOutIdeal.main_arg1) = m ((c.tc : Thread Cert.AdamwOutIdeal.nD Cert.AdamwOutIdeal.τ).loc Cert.AdamwOutIdeal.main_arg1)
      ∧ m' ((c.tc : Thread Cert.ReferenceAdamwOutIdeal.nD Cert.ReferenceAdamwOutIdeal.τ).loc Cert.ReferenceAdamwOutIdeal.main_arg2) = m ((c.tc : Thread Cert.AdamwOutIdeal.nD Cert.AdamwOutIdeal.τ).loc Cert.AdamwOutIdeal.main_arg2)
      ∧ m' ((c.tc : Thread Cert.ReferenceAdamwOutIdeal.nD Cert.ReferenceAdamwOutIdeal.τ).loc Cert.ReferenceAdamwOutIdeal.main_arg3) = m ((c.tc : Thread Cert.AdamwOutIdeal.nD Cert.AdamwOutIdeal.τ).loc Cert.AdamwOutIdeal.main_arg3)) →
    ∃ (v0 : (c : Dev Cert.AdamwOutIdeal.nD) → Buf (Elt Ideal) ((c.tc : Thread Cert.AdamwOutIdeal.nD Cert.AdamwOutIdeal.τ).loc Cert.AdamwOutIdeal.main_v4_0)) (v1 : (c : Dev Cert.AdamwOutIdeal.nD) → Buf (Elt Ideal) ((c.tc : Thread Cert.AdamwOutIdeal.nD Cert.AdamwOutIdeal.τ).loc Cert.AdamwOutIdeal.main_v4_1)) (v2 : (c : Dev Cert.AdamwOutIdeal.nD) → Buf (Elt Ideal) ((c.tc : Thread Cert.AdamwOutIdeal.nD Cert.AdamwOutIdeal.τ).loc Cert.AdamwOutIdeal.main_v4_2)),
      θ_run (Cert.AdamwOutIdeal.defs (F := Ideal)) (onTc (τ := Cert.AdamwOutIdeal.τ) (Cert.AdamwOutIdeal.main (F := Ideal))) ⟨m, fun _ => 0, g⟩ (fun r => ∀ c : Dev Cert.AdamwOutIdeal.nD,
          r.2.mem ((c.tc : Thread Cert.AdamwOutIdeal.nD Cert.AdamwOutIdeal.τ).loc Cert.AdamwOutIdeal.main_v4_0) = v0 c
          ∧ r.2.mem ((c.tc : Thread Cert.AdamwOutIdeal.nD Cert.AdamwOutIdeal.τ).loc Cert.AdamwOutIdeal.main_v4_1) = v1 c
          ∧ r.2.mem ((c.tc : Thread Cert.AdamwOutIdeal.nD Cert.AdamwOutIdeal.τ).loc Cert.AdamwOutIdeal.main_v4_2) = v2 c
          ∧ r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
          ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
          ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
          ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3))
      ∧ θ_run (Cert.ReferenceAdamwOutIdeal.defs (F := Ideal)) (onTc (τ := Cert.ReferenceAdamwOutIdeal.τ) (Cert.ReferenceAdamwOutIdeal.main (F := Ideal))) ⟨m', fun _ => 0, g'⟩ (fun r => ∀ c : Dev Cert.ReferenceAdamwOutIdeal.nD,
          r.2.mem ((c.tc : Thread Cert.ReferenceAdamwOutIdeal.nD Cert.ReferenceAdamwOutIdeal.τ).loc Cert.ReferenceAdamwOutIdeal.main_v24) = v0 c
          ∧ r.2.mem ((c.tc : Thread Cert.ReferenceAdamwOutIdeal.nD Cert.ReferenceAdamwOutIdeal.τ).loc Cert.ReferenceAdamwOutIdeal.main_v25) = v1 c
          ∧ r.2.mem ((c.tc : Thread Cert.ReferenceAdamwOutIdeal.nD Cert.ReferenceAdamwOutIdeal.τ).loc Cert.ReferenceAdamwOutIdeal.main_v26) = v2 c
          ∧ r.2.mem ((c.tc : Thread Cert.ReferenceAdamwOutIdeal.nD Cert.ReferenceAdamwOutIdeal.τ).loc Cert.ReferenceAdamwOutIdeal.main_arg0) = m' ((c.tc : Thread Cert.ReferenceAdamwOutIdeal.nD Cert.ReferenceAdamwOutIdeal.τ).loc Cert.ReferenceAdamwOutIdeal.main_arg0)
          ∧ r.2.mem ((c.tc : Thread Cert.ReferenceAdamwOutIdeal.nD Cert.ReferenceAdamwOutIdeal.τ).loc Cert.ReferenceAdamwOutIdeal.main_arg1) = m' ((c.tc : Thread Cert.ReferenceAdamwOutIdeal.nD Cert.ReferenceAdamwOutIdeal.τ).loc Cert.ReferenceAdamwOutIdeal.main_arg1)
          ∧ r.2.mem ((c.tc : Thread Cert.ReferenceAdamwOutIdeal.nD Cert.ReferenceAdamwOutIdeal.τ).loc Cert.ReferenceAdamwOutIdeal.main_arg2) = m' ((c.tc : Thread Cert.ReferenceAdamwOutIdeal.nD Cert.ReferenceAdamwOutIdeal.τ).loc Cert.ReferenceAdamwOutIdeal.main_arg2)
          ∧ r.2.mem ((c.tc : Thread Cert.ReferenceAdamwOutIdeal.nD Cert.ReferenceAdamwOutIdeal.τ).loc Cert.ReferenceAdamwOutIdeal.main_arg3) = m' ((c.tc : Thread Cert.ReferenceAdamwOutIdeal.nD Cert.ReferenceAdamwOutIdeal.τ).loc Cert.ReferenceAdamwOutIdeal.main_arg3))

def preserves_AdamwEvIn_AdamwEvInIdeal : Prop :=
  True

def algebraic_AdamwEvInIdeal_ReferenceAdamwEvInIdeal [hAdamwEvInIdeal : Cert.AdamwEvInIdeal.Facts] [hReferenceAdamwEvInIdeal : Cert.ReferenceAdamwEvInIdeal.Facts] : Prop :=
  ∀ (m : (ℓ : Loc Cert.AdamwEvInIdeal.nD Cert.AdamwEvInIdeal.τ Cert.AdamwEvInIdeal.sig) → Buf (Elt Ideal) ℓ) (g : Dev Cert.AdamwEvInIdeal.nD → PrngReg)
    (m' : (ℓ : Loc Cert.ReferenceAdamwEvInIdeal.nD Cert.ReferenceAdamwEvInIdeal.τ Cert.ReferenceAdamwEvInIdeal.sig) → Buf (Elt Ideal) ℓ) (g' : Dev Cert.ReferenceAdamwEvInIdeal.nD → PrngReg), Pre_AdamwEvInIdeal m →
    (∀ c : Dev Cert.AdamwEvInIdeal.nD,
      m' ((c.tc : Thread Cert.ReferenceAdamwEvInIdeal.nD Cert.ReferenceAdamwEvInIdeal.τ).loc Cert.ReferenceAdamwEvInIdeal.main_arg0) = m ((c.tc : Thread Cert.AdamwEvInIdeal.nD Cert.AdamwEvInIdeal.τ).loc Cert.AdamwEvInIdeal.main_arg0)
      ∧ m' ((c.tc : Thread Cert.ReferenceAdamwEvInIdeal.nD Cert.ReferenceAdamwEvInIdeal.τ).loc Cert.ReferenceAdamwEvInIdeal.main_arg1) = m ((c.tc : Thread Cert.AdamwEvInIdeal.nD Cert.AdamwEvInIdeal.τ).loc Cert.AdamwEvInIdeal.main_arg1)
      ∧ m' ((c.tc : Thread Cert.ReferenceAdamwEvInIdeal.nD Cert.ReferenceAdamwEvInIdeal.τ).loc Cert.ReferenceAdamwEvInIdeal.main_arg2) = m ((c.tc : Thread Cert.AdamwEvInIdeal.nD Cert.AdamwEvInIdeal.τ).loc Cert.AdamwEvInIdeal.main_arg2)
      ∧ m' ((c.tc : Thread Cert.ReferenceAdamwEvInIdeal.nD Cert.ReferenceAdamwEvInIdeal.τ).loc Cert.ReferenceAdamwEvInIdeal.main_arg3) = m ((c.tc : Thread Cert.AdamwEvInIdeal.nD Cert.AdamwEvInIdeal.τ).loc Cert.AdamwEvInIdeal.main_arg3)) →
    ∃ (v0 : (c : Dev Cert.AdamwEvInIdeal.nD) → Buf (Elt Ideal) ((c.tc : Thread Cert.AdamwEvInIdeal.nD Cert.AdamwEvInIdeal.τ).loc Cert.AdamwEvInIdeal.main_v4_0)) (v1 : (c : Dev Cert.AdamwEvInIdeal.nD) → Buf (Elt Ideal) ((c.tc : Thread Cert.AdamwEvInIdeal.nD Cert.AdamwEvInIdeal.τ).loc Cert.AdamwEvInIdeal.main_v4_1)) (v2 : (c : Dev Cert.AdamwEvInIdeal.nD) → Buf (Elt Ideal) ((c.tc : Thread Cert.AdamwEvInIdeal.nD Cert.AdamwEvInIdeal.τ).loc Cert.AdamwEvInIdeal.main_v4_2)),
      θ_run (Cert.AdamwEvInIdeal.defs (F := Ideal)) (onTc (τ := Cert.AdamwEvInIdeal.τ) (Cert.AdamwEvInIdeal.main (F := Ideal))) ⟨m, fun _ => 0, g⟩ (fun r => ∀ c : Dev Cert.AdamwEvInIdeal.nD,
          r.2.mem ((c.tc : Thread Cert.AdamwEvInIdeal.nD Cert.AdamwEvInIdeal.τ).loc Cert.AdamwEvInIdeal.main_v4_0) = v0 c
          ∧ r.2.mem ((c.tc : Thread Cert.AdamwEvInIdeal.nD Cert.AdamwEvInIdeal.τ).loc Cert.AdamwEvInIdeal.main_v4_1) = v1 c
          ∧ r.2.mem ((c.tc : Thread Cert.AdamwEvInIdeal.nD Cert.AdamwEvInIdeal.τ).loc Cert.AdamwEvInIdeal.main_v4_2) = v2 c
          ∧ r.2.mem ((c.tc : Thread Cert.AdamwEvInIdeal.nD Cert.AdamwEvInIdeal.τ).loc Cert.AdamwEvInIdeal.main_arg0) = m ((c.tc : Thread Cert.AdamwEvInIdeal.nD Cert.AdamwEvInIdeal.τ).loc Cert.AdamwEvInIdeal.main_arg0)
          ∧ r.2.mem ((c.tc : Thread Cert.AdamwEvInIdeal.nD Cert.AdamwEvInIdeal.τ).loc Cert.AdamwEvInIdeal.main_arg1) = m ((c.tc : Thread Cert.AdamwEvInIdeal.nD Cert.AdamwEvInIdeal.τ).loc Cert.AdamwEvInIdeal.main_arg1)
          ∧ r.2.mem ((c.tc : Thread Cert.AdamwEvInIdeal.nD Cert.AdamwEvInIdeal.τ).loc Cert.AdamwEvInIdeal.main_arg2) = m ((c.tc : Thread Cert.AdamwEvInIdeal.nD Cert.AdamwEvInIdeal.τ).loc Cert.AdamwEvInIdeal.main_arg2)
          ∧ r.2.mem ((c.tc : Thread Cert.AdamwEvInIdeal.nD Cert.AdamwEvInIdeal.τ).loc Cert.AdamwEvInIdeal.main_arg3) = m ((c.tc : Thread Cert.AdamwEvInIdeal.nD Cert.AdamwEvInIdeal.τ).loc Cert.AdamwEvInIdeal.main_arg3))
      ∧ θ_run (Cert.ReferenceAdamwEvInIdeal.defs (F := Ideal)) (onTc (τ := Cert.ReferenceAdamwEvInIdeal.τ) (Cert.ReferenceAdamwEvInIdeal.main (F := Ideal))) ⟨m', fun _ => 0, g'⟩ (fun r => ∀ c : Dev Cert.ReferenceAdamwEvInIdeal.nD,
          r.2.mem ((c.tc : Thread Cert.ReferenceAdamwEvInIdeal.nD Cert.ReferenceAdamwEvInIdeal.τ).loc Cert.ReferenceAdamwEvInIdeal.main_v24) = v0 c
          ∧ r.2.mem ((c.tc : Thread Cert.ReferenceAdamwEvInIdeal.nD Cert.ReferenceAdamwEvInIdeal.τ).loc Cert.ReferenceAdamwEvInIdeal.main_v25) = v1 c
          ∧ r.2.mem ((c.tc : Thread Cert.ReferenceAdamwEvInIdeal.nD Cert.ReferenceAdamwEvInIdeal.τ).loc Cert.ReferenceAdamwEvInIdeal.main_v26) = v2 c
          ∧ r.2.mem ((c.tc : Thread Cert.ReferenceAdamwEvInIdeal.nD Cert.ReferenceAdamwEvInIdeal.τ).loc Cert.ReferenceAdamwEvInIdeal.main_arg0) = m' ((c.tc : Thread Cert.ReferenceAdamwEvInIdeal.nD Cert.ReferenceAdamwEvInIdeal.τ).loc Cert.ReferenceAdamwEvInIdeal.main_arg0)
          ∧ r.2.mem ((c.tc : Thread Cert.ReferenceAdamwEvInIdeal.nD Cert.ReferenceAdamwEvInIdeal.τ).loc Cert.ReferenceAdamwEvInIdeal.main_arg1) = m' ((c.tc : Thread Cert.ReferenceAdamwEvInIdeal.nD Cert.ReferenceAdamwEvInIdeal.τ).loc Cert.ReferenceAdamwEvInIdeal.main_arg1)
          ∧ r.2.mem ((c.tc : Thread Cert.ReferenceAdamwEvInIdeal.nD Cert.ReferenceAdamwEvInIdeal.τ).loc Cert.ReferenceAdamwEvInIdeal.main_arg2) = m' ((c.tc : Thread Cert.ReferenceAdamwEvInIdeal.nD Cert.ReferenceAdamwEvInIdeal.τ).loc Cert.ReferenceAdamwEvInIdeal.main_arg2)
          ∧ r.2.mem ((c.tc : Thread Cert.ReferenceAdamwEvInIdeal.nD Cert.ReferenceAdamwEvInIdeal.τ).loc Cert.ReferenceAdamwEvInIdeal.main_arg3) = m' ((c.tc : Thread Cert.ReferenceAdamwEvInIdeal.nD Cert.ReferenceAdamwEvInIdeal.τ).loc Cert.ReferenceAdamwEvInIdeal.main_arg3))

def preserves_AdamwOdIn_AdamwOdInIdeal : Prop :=
  True

def algebraic_AdamwOdInIdeal_ReferenceAdamwOdInIdeal [hAdamwOdInIdeal : Cert.AdamwOdInIdeal.Facts] [hReferenceAdamwOdInIdeal : Cert.ReferenceAdamwOdInIdeal.Facts] : Prop :=
  ∀ (m : (ℓ : Loc Cert.AdamwOdInIdeal.nD Cert.AdamwOdInIdeal.τ Cert.AdamwOdInIdeal.sig) → Buf (Elt Ideal) ℓ) (g : Dev Cert.AdamwOdInIdeal.nD → PrngReg)
    (m' : (ℓ : Loc Cert.ReferenceAdamwOdInIdeal.nD Cert.ReferenceAdamwOdInIdeal.τ Cert.ReferenceAdamwOdInIdeal.sig) → Buf (Elt Ideal) ℓ) (g' : Dev Cert.ReferenceAdamwOdInIdeal.nD → PrngReg), Pre_AdamwOdInIdeal m →
    (∀ c : Dev Cert.AdamwOdInIdeal.nD,
      m' ((c.tc : Thread Cert.ReferenceAdamwOdInIdeal.nD Cert.ReferenceAdamwOdInIdeal.τ).loc Cert.ReferenceAdamwOdInIdeal.main_arg0) = m ((c.tc : Thread Cert.AdamwOdInIdeal.nD Cert.AdamwOdInIdeal.τ).loc Cert.AdamwOdInIdeal.main_arg0)
      ∧ m' ((c.tc : Thread Cert.ReferenceAdamwOdInIdeal.nD Cert.ReferenceAdamwOdInIdeal.τ).loc Cert.ReferenceAdamwOdInIdeal.main_arg1) = m ((c.tc : Thread Cert.AdamwOdInIdeal.nD Cert.AdamwOdInIdeal.τ).loc Cert.AdamwOdInIdeal.main_arg1)
      ∧ m' ((c.tc : Thread Cert.ReferenceAdamwOdInIdeal.nD Cert.ReferenceAdamwOdInIdeal.τ).loc Cert.ReferenceAdamwOdInIdeal.main_arg2) = m ((c.tc : Thread Cert.AdamwOdInIdeal.nD Cert.AdamwOdInIdeal.τ).loc Cert.AdamwOdInIdeal.main_arg2)
      ∧ m' ((c.tc : Thread Cert.ReferenceAdamwOdInIdeal.nD Cert.ReferenceAdamwOdInIdeal.τ).loc Cert.ReferenceAdamwOdInIdeal.main_arg3) = m ((c.tc : Thread Cert.AdamwOdInIdeal.nD Cert.AdamwOdInIdeal.τ).loc Cert.AdamwOdInIdeal.main_arg3)) →
    ∃ (v0 : (c : Dev Cert.AdamwOdInIdeal.nD) → Buf (Elt Ideal) ((c.tc : Thread Cert.AdamwOdInIdeal.nD Cert.AdamwOdInIdeal.τ).loc Cert.AdamwOdInIdeal.main_v4_0)) (v1 : (c : Dev Cert.AdamwOdInIdeal.nD) → Buf (Elt Ideal) ((c.tc : Thread Cert.AdamwOdInIdeal.nD Cert.AdamwOdInIdeal.τ).loc Cert.AdamwOdInIdeal.main_v4_1)) (v2 : (c : Dev Cert.AdamwOdInIdeal.nD) → Buf (Elt Ideal) ((c.tc : Thread Cert.AdamwOdInIdeal.nD Cert.AdamwOdInIdeal.τ).loc Cert.AdamwOdInIdeal.main_v4_2)),
      θ_run (Cert.AdamwOdInIdeal.defs (F := Ideal)) (onTc (τ := Cert.AdamwOdInIdeal.τ) (Cert.AdamwOdInIdeal.main (F := Ideal))) ⟨m, fun _ => 0, g⟩ (fun r => ∀ c : Dev Cert.AdamwOdInIdeal.nD,
          r.2.mem ((c.tc : Thread Cert.AdamwOdInIdeal.nD Cert.AdamwOdInIdeal.τ).loc Cert.AdamwOdInIdeal.main_v4_0) = v0 c
          ∧ r.2.mem ((c.tc : Thread Cert.AdamwOdInIdeal.nD Cert.AdamwOdInIdeal.τ).loc Cert.AdamwOdInIdeal.main_v4_1) = v1 c
          ∧ r.2.mem ((c.tc : Thread Cert.AdamwOdInIdeal.nD Cert.AdamwOdInIdeal.τ).loc Cert.AdamwOdInIdeal.main_v4_2) = v2 c
          ∧ r.2.mem ((c.tc : Thread Cert.AdamwOdInIdeal.nD Cert.AdamwOdInIdeal.τ).loc Cert.AdamwOdInIdeal.main_arg0) = m ((c.tc : Thread Cert.AdamwOdInIdeal.nD Cert.AdamwOdInIdeal.τ).loc Cert.AdamwOdInIdeal.main_arg0)
          ∧ r.2.mem ((c.tc : Thread Cert.AdamwOdInIdeal.nD Cert.AdamwOdInIdeal.τ).loc Cert.AdamwOdInIdeal.main_arg1) = m ((c.tc : Thread Cert.AdamwOdInIdeal.nD Cert.AdamwOdInIdeal.τ).loc Cert.AdamwOdInIdeal.main_arg1)
          ∧ r.2.mem ((c.tc : Thread Cert.AdamwOdInIdeal.nD Cert.AdamwOdInIdeal.τ).loc Cert.AdamwOdInIdeal.main_arg2) = m ((c.tc : Thread Cert.AdamwOdInIdeal.nD Cert.AdamwOdInIdeal.τ).loc Cert.AdamwOdInIdeal.main_arg2)
          ∧ r.2.mem ((c.tc : Thread Cert.AdamwOdInIdeal.nD Cert.AdamwOdInIdeal.τ).loc Cert.AdamwOdInIdeal.main_arg3) = m ((c.tc : Thread Cert.AdamwOdInIdeal.nD Cert.AdamwOdInIdeal.τ).loc Cert.AdamwOdInIdeal.main_arg3))
      ∧ θ_run (Cert.ReferenceAdamwOdInIdeal.defs (F := Ideal)) (onTc (τ := Cert.ReferenceAdamwOdInIdeal.τ) (Cert.ReferenceAdamwOdInIdeal.main (F := Ideal))) ⟨m', fun _ => 0, g'⟩ (fun r => ∀ c : Dev Cert.ReferenceAdamwOdInIdeal.nD,
          r.2.mem ((c.tc : Thread Cert.ReferenceAdamwOdInIdeal.nD Cert.ReferenceAdamwOdInIdeal.τ).loc Cert.ReferenceAdamwOdInIdeal.main_v24) = v0 c
          ∧ r.2.mem ((c.tc : Thread Cert.ReferenceAdamwOdInIdeal.nD Cert.ReferenceAdamwOdInIdeal.τ).loc Cert.ReferenceAdamwOdInIdeal.main_v25) = v1 c
          ∧ r.2.mem ((c.tc : Thread Cert.ReferenceAdamwOdInIdeal.nD Cert.ReferenceAdamwOdInIdeal.τ).loc Cert.ReferenceAdamwOdInIdeal.main_v26) = v2 c
          ∧ r.2.mem ((c.tc : Thread Cert.ReferenceAdamwOdInIdeal.nD Cert.ReferenceAdamwOdInIdeal.τ).loc Cert.ReferenceAdamwOdInIdeal.main_arg0) = m' ((c.tc : Thread Cert.ReferenceAdamwOdInIdeal.nD Cert.ReferenceAdamwOdInIdeal.τ).loc Cert.ReferenceAdamwOdInIdeal.main_arg0)
          ∧ r.2.mem ((c.tc : Thread Cert.ReferenceAdamwOdInIdeal.nD Cert.ReferenceAdamwOdInIdeal.τ).loc Cert.ReferenceAdamwOdInIdeal.main_arg1) = m' ((c.tc : Thread Cert.ReferenceAdamwOdInIdeal.nD Cert.ReferenceAdamwOdInIdeal.τ).loc Cert.ReferenceAdamwOdInIdeal.main_arg1)
          ∧ r.2.mem ((c.tc : Thread Cert.ReferenceAdamwOdInIdeal.nD Cert.ReferenceAdamwOdInIdeal.τ).loc Cert.ReferenceAdamwOdInIdeal.main_arg2) = m' ((c.tc : Thread Cert.ReferenceAdamwOdInIdeal.nD Cert.ReferenceAdamwOdInIdeal.τ).loc Cert.ReferenceAdamwOdInIdeal.main_arg2)
          ∧ r.2.mem ((c.tc : Thread Cert.ReferenceAdamwOdInIdeal.nD Cert.ReferenceAdamwOdInIdeal.τ).loc Cert.ReferenceAdamwOdInIdeal.main_arg3) = m' ((c.tc : Thread Cert.ReferenceAdamwOdInIdeal.nD Cert.ReferenceAdamwOdInIdeal.τ).loc Cert.ReferenceAdamwOdInIdeal.main_arg3))

def preserves_AdamwMixOut_AdamwMixOutIdeal : Prop :=
  True

def algebraic_AdamwMixOutIdeal_ReferenceAdamwMixOutIdeal [hAdamwMixOutIdeal : Cert.AdamwMixOutIdeal.Facts] [hReferenceAdamwMixOutIdeal : Cert.ReferenceAdamwMixOutIdeal.Facts] : Prop :=
  ∀ (m : (ℓ : Loc Cert.AdamwMixOutIdeal.nD Cert.AdamwMixOutIdeal.τ Cert.AdamwMixOutIdeal.sig) → Buf (Elt Ideal) ℓ) (g : Dev Cert.AdamwMixOutIdeal.nD → PrngReg)
    (m' : (ℓ : Loc Cert.ReferenceAdamwMixOutIdeal.nD Cert.ReferenceAdamwMixOutIdeal.τ Cert.ReferenceAdamwMixOutIdeal.sig) → Buf (Elt Ideal) ℓ) (g' : Dev Cert.ReferenceAdamwMixOutIdeal.nD → PrngReg), Pre_AdamwMixOutIdeal m →
    (∀ c : Dev Cert.AdamwMixOutIdeal.nD,
      m' ((c.tc : Thread Cert.ReferenceAdamwMixOutIdeal.nD Cert.ReferenceAdamwMixOutIdeal.τ).loc Cert.ReferenceAdamwMixOutIdeal.main_arg0) = m ((c.tc : Thread Cert.AdamwMixOutIdeal.nD Cert.AdamwMixOutIdeal.τ).loc Cert.AdamwMixOutIdeal.main_arg0)
      ∧ m' ((c.tc : Thread Cert.ReferenceAdamwMixOutIdeal.nD Cert.ReferenceAdamwMixOutIdeal.τ).loc Cert.ReferenceAdamwMixOutIdeal.main_arg1) = m ((c.tc : Thread Cert.AdamwMixOutIdeal.nD Cert.AdamwMixOutIdeal.τ).loc Cert.AdamwMixOutIdeal.main_arg1)
      ∧ m' ((c.tc : Thread Cert.ReferenceAdamwMixOutIdeal.nD Cert.ReferenceAdamwMixOutIdeal.τ).loc Cert.ReferenceAdamwMixOutIdeal.main_arg2) = m ((c.tc : Thread Cert.AdamwMixOutIdeal.nD Cert.AdamwMixOutIdeal.τ).loc Cert.AdamwMixOutIdeal.main_arg2)
      ∧ m' ((c.tc : Thread Cert.ReferenceAdamwMixOutIdeal.nD Cert.ReferenceAdamwMixOutIdeal.τ).loc Cert.ReferenceAdamwMixOutIdeal.main_arg3) = m ((c.tc : Thread Cert.AdamwMixOutIdeal.nD Cert.AdamwMixOutIdeal.τ).loc Cert.AdamwMixOutIdeal.main_arg3)) →
    ∃ (v0 : (c : Dev Cert.AdamwMixOutIdeal.nD) → Buf (Elt Ideal) ((c.tc : Thread Cert.AdamwMixOutIdeal.nD Cert.AdamwMixOutIdeal.τ).loc Cert.AdamwMixOutIdeal.main_v4_0)) (v1 : (c : Dev Cert.AdamwMixOutIdeal.nD) → Buf (Elt Ideal) ((c.tc : Thread Cert.AdamwMixOutIdeal.nD Cert.AdamwMixOutIdeal.τ).loc Cert.AdamwMixOutIdeal.main_v4_1)) (v2 : (c : Dev Cert.AdamwMixOutIdeal.nD) → Buf (Elt Ideal) ((c.tc : Thread Cert.AdamwMixOutIdeal.nD Cert.AdamwMixOutIdeal.τ).loc Cert.AdamwMixOutIdeal.main_v4_2)),
      θ_run (Cert.AdamwMixOutIdeal.defs (F := Ideal)) (onTc (τ := Cert.AdamwMixOutIdeal.τ) (Cert.AdamwMixOutIdeal.main (F := Ideal))) ⟨m, fun _ => 0, g⟩ (fun r => ∀ c : Dev Cert.AdamwMixOutIdeal.nD,
          r.2.mem ((c.tc : Thread Cert.AdamwMixOutIdeal.nD Cert.AdamwMixOutIdeal.τ).loc Cert.AdamwMixOutIdeal.main_v4_0) = v0 c
          ∧ r.2.mem ((c.tc : Thread Cert.AdamwMixOutIdeal.nD Cert.AdamwMixOutIdeal.τ).loc Cert.AdamwMixOutIdeal.main_v4_1) = v1 c
          ∧ r.2.mem ((c.tc : Thread Cert.AdamwMixOutIdeal.nD Cert.AdamwMixOutIdeal.τ).loc Cert.AdamwMixOutIdeal.main_v4_2) = v2 c
          ∧ r.2.mem ((c.tc : Thread Cert.AdamwMixOutIdeal.nD Cert.AdamwMixOutIdeal.τ).loc Cert.AdamwMixOutIdeal.main_arg0) = m ((c.tc : Thread Cert.AdamwMixOutIdeal.nD Cert.AdamwMixOutIdeal.τ).loc Cert.AdamwMixOutIdeal.main_arg0)
          ∧ r.2.mem ((c.tc : Thread Cert.AdamwMixOutIdeal.nD Cert.AdamwMixOutIdeal.τ).loc Cert.AdamwMixOutIdeal.main_arg1) = m ((c.tc : Thread Cert.AdamwMixOutIdeal.nD Cert.AdamwMixOutIdeal.τ).loc Cert.AdamwMixOutIdeal.main_arg1)
          ∧ r.2.mem ((c.tc : Thread Cert.AdamwMixOutIdeal.nD Cert.AdamwMixOutIdeal.τ).loc Cert.AdamwMixOutIdeal.main_arg2) = m ((c.tc : Thread Cert.AdamwMixOutIdeal.nD Cert.AdamwMixOutIdeal.τ).loc Cert.AdamwMixOutIdeal.main_arg2)
          ∧ r.2.mem ((c.tc : Thread Cert.AdamwMixOutIdeal.nD Cert.AdamwMixOutIdeal.τ).loc Cert.AdamwMixOutIdeal.main_arg3) = m ((c.tc : Thread Cert.AdamwMixOutIdeal.nD Cert.AdamwMixOutIdeal.τ).loc Cert.AdamwMixOutIdeal.main_arg3))
      ∧ θ_run (Cert.ReferenceAdamwMixOutIdeal.defs (F := Ideal)) (onTc (τ := Cert.ReferenceAdamwMixOutIdeal.τ) (Cert.ReferenceAdamwMixOutIdeal.main (F := Ideal))) ⟨m', fun _ => 0, g'⟩ (fun r => ∀ c : Dev Cert.ReferenceAdamwMixOutIdeal.nD,
          r.2.mem ((c.tc : Thread Cert.ReferenceAdamwMixOutIdeal.nD Cert.ReferenceAdamwMixOutIdeal.τ).loc Cert.ReferenceAdamwMixOutIdeal.main_v24) = v0 c
          ∧ r.2.mem ((c.tc : Thread Cert.ReferenceAdamwMixOutIdeal.nD Cert.ReferenceAdamwMixOutIdeal.τ).loc Cert.ReferenceAdamwMixOutIdeal.main_v25) = v1 c
          ∧ r.2.mem ((c.tc : Thread Cert.ReferenceAdamwMixOutIdeal.nD Cert.ReferenceAdamwMixOutIdeal.τ).loc Cert.ReferenceAdamwMixOutIdeal.main_v26) = v2 c
          ∧ r.2.mem ((c.tc : Thread Cert.ReferenceAdamwMixOutIdeal.nD Cert.ReferenceAdamwMixOutIdeal.τ).loc Cert.ReferenceAdamwMixOutIdeal.main_arg0) = m' ((c.tc : Thread Cert.ReferenceAdamwMixOutIdeal.nD Cert.ReferenceAdamwMixOutIdeal.τ).loc Cert.ReferenceAdamwMixOutIdeal.main_arg0)
          ∧ r.2.mem ((c.tc : Thread Cert.ReferenceAdamwMixOutIdeal.nD Cert.ReferenceAdamwMixOutIdeal.τ).loc Cert.ReferenceAdamwMixOutIdeal.main_arg1) = m' ((c.tc : Thread Cert.ReferenceAdamwMixOutIdeal.nD Cert.ReferenceAdamwMixOutIdeal.τ).loc Cert.ReferenceAdamwMixOutIdeal.main_arg1)
          ∧ r.2.mem ((c.tc : Thread Cert.ReferenceAdamwMixOutIdeal.nD Cert.ReferenceAdamwMixOutIdeal.τ).loc Cert.ReferenceAdamwMixOutIdeal.main_arg2) = m' ((c.tc : Thread Cert.ReferenceAdamwMixOutIdeal.nD Cert.ReferenceAdamwMixOutIdeal.τ).loc Cert.ReferenceAdamwMixOutIdeal.main_arg2)
          ∧ r.2.mem ((c.tc : Thread Cert.ReferenceAdamwMixOutIdeal.nD Cert.ReferenceAdamwMixOutIdeal.τ).loc Cert.ReferenceAdamwMixOutIdeal.main_arg3) = m' ((c.tc : Thread Cert.ReferenceAdamwMixOutIdeal.nD Cert.ReferenceAdamwMixOutIdeal.τ).loc Cert.ReferenceAdamwMixOutIdeal.main_arg3))

def preserves_AdamwNorm_AdamwNormIdeal : Prop :=
  True

def algebraic_AdamwNormIdeal_ReferenceAdamwNormIdeal [hAdamwNormIdeal : Cert.AdamwNormIdeal.Facts] [hReferenceAdamwNormIdeal : Cert.ReferenceAdamwNormIdeal.Facts] : Prop :=
  ∀ (m : (ℓ : Loc Cert.AdamwNormIdeal.nD Cert.AdamwNormIdeal.τ Cert.AdamwNormIdeal.sig) → Buf (Elt Ideal) ℓ) (g : Dev Cert.AdamwNormIdeal.nD → PrngReg)
    (m' : (ℓ : Loc Cert.ReferenceAdamwNormIdeal.nD Cert.ReferenceAdamwNormIdeal.τ Cert.ReferenceAdamwNormIdeal.sig) → Buf (Elt Ideal) ℓ) (g' : Dev Cert.ReferenceAdamwNormIdeal.nD → PrngReg), Pre_AdamwNormIdeal m →
    (∀ c : Dev Cert.AdamwNormIdeal.nD,
      m' ((c.tc : Thread Cert.ReferenceAdamwNormIdeal.nD Cert.ReferenceAdamwNormIdeal.τ).loc Cert.ReferenceAdamwNormIdeal.main_arg0) = m ((c.tc : Thread Cert.AdamwNormIdeal.nD Cert.AdamwNormIdeal.τ).loc Cert.AdamwNormIdeal.main_arg0)
      ∧ m' ((c.tc : Thread Cert.ReferenceAdamwNormIdeal.nD Cert.ReferenceAdamwNormIdeal.τ).loc Cert.ReferenceAdamwNormIdeal.main_arg1) = m ((c.tc : Thread Cert.AdamwNormIdeal.nD Cert.AdamwNormIdeal.τ).loc Cert.AdamwNormIdeal.main_arg1)
      ∧ m' ((c.tc : Thread Cert.ReferenceAdamwNormIdeal.nD Cert.ReferenceAdamwNormIdeal.τ).loc Cert.ReferenceAdamwNormIdeal.main_arg2) = m ((c.tc : Thread Cert.AdamwNormIdeal.nD Cert.AdamwNormIdeal.τ).loc Cert.AdamwNormIdeal.main_arg2)
      ∧ m' ((c.tc : Thread Cert.ReferenceAdamwNormIdeal.nD Cert.ReferenceAdamwNormIdeal.τ).loc Cert.ReferenceAdamwNormIdeal.main_arg3) = m ((c.tc : Thread Cert.AdamwNormIdeal.nD Cert.AdamwNormIdeal.τ).loc Cert.AdamwNormIdeal.main_arg3)) →
    ∃ (v0 : (c : Dev Cert.AdamwNormIdeal.nD) → Buf (Elt Ideal) ((c.tc : Thread Cert.AdamwNormIdeal.nD Cert.AdamwNormIdeal.τ).loc Cert.AdamwNormIdeal.main_v0_0)) (v1 : (c : Dev Cert.AdamwNormIdeal.nD) → Buf (Elt Ideal) ((c.tc : Thread Cert.AdamwNormIdeal.nD Cert.AdamwNormIdeal.τ).loc Cert.AdamwNormIdeal.main_v0_1)) (v2 : (c : Dev Cert.AdamwNormIdeal.nD) → Buf (Elt Ideal) ((c.tc : Thread Cert.AdamwNormIdeal.nD Cert.AdamwNormIdeal.τ).loc Cert.AdamwNormIdeal.main_v0_2)),
      θ_run (Cert.AdamwNormIdeal.defs (F := Ideal)) (onTc (τ := Cert.AdamwNormIdeal.τ) (Cert.AdamwNormIdeal.main (F := Ideal))) ⟨m, fun _ => 0, g⟩ (fun r => ∀ c : Dev Cert.AdamwNormIdeal.nD,
          r.2.mem ((c.tc : Thread Cert.AdamwNormIdeal.nD Cert.AdamwNormIdeal.τ).loc Cert.AdamwNormIdeal.main_v0_0) = v0 c
          ∧ r.2.mem ((c.tc : Thread Cert.AdamwNormIdeal.nD Cert.AdamwNormIdeal.τ).loc Cert.AdamwNormIdeal.main_v0_1) = v1 c
          ∧ r.2.mem ((c.tc : Thread Cert.AdamwNormIdeal.nD Cert.AdamwNormIdeal.τ).loc Cert.AdamwNormIdeal.main_v0_2) = v2 c
          ∧ r.2.mem ((c.tc : Thread Cert.AdamwNormIdeal.nD Cert.AdamwNormIdeal.τ).loc Cert.AdamwNormIdeal.main_arg0) = m ((c.tc : Thread Cert.AdamwNormIdeal.nD Cert.AdamwNormIdeal.τ).loc Cert.AdamwNormIdeal.main_arg0)
          ∧ r.2.mem ((c.tc : Thread Cert.AdamwNormIdeal.nD Cert.AdamwNormIdeal.τ).loc Cert.AdamwNormIdeal.main_arg1) = m ((c.tc : Thread Cert.AdamwNormIdeal.nD Cert.AdamwNormIdeal.τ).loc Cert.AdamwNormIdeal.main_arg1)
          ∧ r.2.mem ((c.tc : Thread Cert.AdamwNormIdeal.nD Cert.AdamwNormIdeal.τ).loc Cert.AdamwNormIdeal.main_arg2) = m ((c.tc : Thread Cert.AdamwNormIdeal.nD Cert.AdamwNormIdeal.τ).loc Cert.AdamwNormIdeal.main_arg2)
          ∧ r.2.mem ((c.tc : Thread Cert.AdamwNormIdeal.nD Cert.AdamwNormIdeal.τ).loc Cert.AdamwNormIdeal.main_arg3) = m ((c.tc : Thread Cert.AdamwNormIdeal.nD Cert.AdamwNormIdeal.τ).loc Cert.AdamwNormIdeal.main_arg3))
      ∧ θ_run (Cert.ReferenceAdamwNormIdeal.defs (F := Ideal)) (onTc (τ := Cert.ReferenceAdamwNormIdeal.τ) (Cert.ReferenceAdamwNormIdeal.main (F := Ideal))) ⟨m', fun _ => 0, g'⟩ (fun r => ∀ c : Dev Cert.ReferenceAdamwNormIdeal.nD,
          r.2.mem ((c.tc : Thread Cert.ReferenceAdamwNormIdeal.nD Cert.ReferenceAdamwNormIdeal.τ).loc Cert.ReferenceAdamwNormIdeal.main_v23) = v0 c
          ∧ r.2.mem ((c.tc : Thread Cert.ReferenceAdamwNormIdeal.nD Cert.ReferenceAdamwNormIdeal.τ).loc Cert.ReferenceAdamwNormIdeal.main_v4) = v1 c
          ∧ r.2.mem ((c.tc : Thread Cert.ReferenceAdamwNormIdeal.nD Cert.ReferenceAdamwNormIdeal.τ).loc Cert.ReferenceAdamwNormIdeal.main_v10) = v2 c
          ∧ r.2.mem ((c.tc : Thread Cert.ReferenceAdamwNormIdeal.nD Cert.ReferenceAdamwNormIdeal.τ).loc Cert.ReferenceAdamwNormIdeal.main_arg0) = m' ((c.tc : Thread Cert.ReferenceAdamwNormIdeal.nD Cert.ReferenceAdamwNormIdeal.τ).loc Cert.ReferenceAdamwNormIdeal.main_arg0)
          ∧ r.2.mem ((c.tc : Thread Cert.ReferenceAdamwNormIdeal.nD Cert.ReferenceAdamwNormIdeal.τ).loc Cert.ReferenceAdamwNormIdeal.main_arg1) = m' ((c.tc : Thread Cert.ReferenceAdamwNormIdeal.nD Cert.ReferenceAdamwNormIdeal.τ).loc Cert.ReferenceAdamwNormIdeal.main_arg1)
          ∧ r.2.mem ((c.tc : Thread Cert.ReferenceAdamwNormIdeal.nD Cert.ReferenceAdamwNormIdeal.τ).loc Cert.ReferenceAdamwNormIdeal.main_arg2) = m' ((c.tc : Thread Cert.ReferenceAdamwNormIdeal.nD Cert.ReferenceAdamwNormIdeal.τ).loc Cert.ReferenceAdamwNormIdeal.main_arg2)
          ∧ r.2.mem ((c.tc : Thread Cert.ReferenceAdamwNormIdeal.nD Cert.ReferenceAdamwNormIdeal.τ).loc Cert.ReferenceAdamwNormIdeal.main_arg3) = m' ((c.tc : Thread Cert.ReferenceAdamwNormIdeal.nD Cert.ReferenceAdamwNormIdeal.τ).loc Cert.ReferenceAdamwNormIdeal.main_arg3))

def preserves_AdamwConv_AdamwConvIdeal : Prop :=
  True

def algebraic_AdamwConvIdeal_ReferenceAdamwConvIdeal [hAdamwConvIdeal : Cert.AdamwConvIdeal.Facts] [hReferenceAdamwConvIdeal : Cert.ReferenceAdamwConvIdeal.Facts] : Prop :=
  ∀ (m : (ℓ : Loc Cert.AdamwConvIdeal.nD Cert.AdamwConvIdeal.τ Cert.AdamwConvIdeal.sig) → Buf (Elt Ideal) ℓ) (g : Dev Cert.AdamwConvIdeal.nD → PrngReg)
    (m' : (ℓ : Loc Cert.ReferenceAdamwConvIdeal.nD Cert.ReferenceAdamwConvIdeal.τ Cert.ReferenceAdamwConvIdeal.sig) → Buf (Elt Ideal) ℓ) (g' : Dev Cert.ReferenceAdamwConvIdeal.nD → PrngReg), Pre_AdamwConvIdeal m →
    (∀ c : Dev Cert.AdamwConvIdeal.nD,
      m' ((c.tc : Thread Cert.ReferenceAdamwConvIdeal.nD Cert.ReferenceAdamwConvIdeal.τ).loc Cert.ReferenceAdamwConvIdeal.main_arg0) = m ((c.tc : Thread Cert.AdamwConvIdeal.nD Cert.AdamwConvIdeal.τ).loc Cert.AdamwConvIdeal.main_arg0)
      ∧ m' ((c.tc : Thread Cert.ReferenceAdamwConvIdeal.nD Cert.ReferenceAdamwConvIdeal.τ).loc Cert.ReferenceAdamwConvIdeal.main_arg1) = m ((c.tc : Thread Cert.AdamwConvIdeal.nD Cert.AdamwConvIdeal.τ).loc Cert.AdamwConvIdeal.main_arg1)
      ∧ m' ((c.tc : Thread Cert.ReferenceAdamwConvIdeal.nD Cert.ReferenceAdamwConvIdeal.τ).loc Cert.ReferenceAdamwConvIdeal.main_arg2) = m ((c.tc : Thread Cert.AdamwConvIdeal.nD Cert.AdamwConvIdeal.τ).loc Cert.AdamwConvIdeal.main_arg2)
      ∧ m' ((c.tc : Thread Cert.ReferenceAdamwConvIdeal.nD Cert.ReferenceAdamwConvIdeal.τ).loc Cert.ReferenceAdamwConvIdeal.main_arg3) = m ((c.tc : Thread Cert.AdamwConvIdeal.nD Cert.AdamwConvIdeal.τ).loc Cert.AdamwConvIdeal.main_arg3)) →
    ∃ (v0 : (c : Dev Cert.AdamwConvIdeal.nD) → Buf (Elt Ideal) ((c.tc : Thread Cert.AdamwConvIdeal.nD Cert.AdamwConvIdeal.τ).loc Cert.AdamwConvIdeal.main_v4_0)) (v1 : (c : Dev Cert.AdamwConvIdeal.nD) → Buf (Elt Ideal) ((c.tc : Thread Cert.AdamwConvIdeal.nD Cert.AdamwConvIdeal.τ).loc Cert.AdamwConvIdeal.main_v4_1)) (v2 : (c : Dev Cert.AdamwConvIdeal.nD) → Buf (Elt Ideal) ((c.tc : Thread Cert.AdamwConvIdeal.nD Cert.AdamwConvIdeal.τ).loc Cert.AdamwConvIdeal.main_v4_2)),
      θ_run (Cert.AdamwConvIdeal.defs (F := Ideal)) (onTc (τ := Cert.AdamwConvIdeal.τ) (Cert.AdamwConvIdeal.main (F := Ideal))) ⟨m, fun _ => 0, g⟩ (fun r => ∀ c : Dev Cert.AdamwConvIdeal.nD,
          r.2.mem ((c.tc : Thread Cert.AdamwConvIdeal.nD Cert.AdamwConvIdeal.τ).loc Cert.AdamwConvIdeal.main_v4_0) = v0 c
          ∧ r.2.mem ((c.tc : Thread Cert.AdamwConvIdeal.nD Cert.AdamwConvIdeal.τ).loc Cert.AdamwConvIdeal.main_v4_1) = v1 c
          ∧ r.2.mem ((c.tc : Thread Cert.AdamwConvIdeal.nD Cert.AdamwConvIdeal.τ).loc Cert.AdamwConvIdeal.main_v4_2) = v2 c
          ∧ r.2.mem ((c.tc : Thread Cert.AdamwConvIdeal.nD Cert.AdamwConvIdeal.τ).loc Cert.AdamwConvIdeal.main_arg0) = m ((c.tc : Thread Cert.AdamwConvIdeal.nD Cert.AdamwConvIdeal.τ).loc Cert.AdamwConvIdeal.main_arg0)
          ∧ r.2.mem ((c.tc : Thread Cert.AdamwConvIdeal.nD Cert.AdamwConvIdeal.τ).loc Cert.AdamwConvIdeal.main_arg1) = m ((c.tc : Thread Cert.AdamwConvIdeal.nD Cert.AdamwConvIdeal.τ).loc Cert.AdamwConvIdeal.main_arg1)
          ∧ r.2.mem ((c.tc : Thread Cert.AdamwConvIdeal.nD Cert.AdamwConvIdeal.τ).loc Cert.AdamwConvIdeal.main_arg2) = m ((c.tc : Thread Cert.AdamwConvIdeal.nD Cert.AdamwConvIdeal.τ).loc Cert.AdamwConvIdeal.main_arg2)
          ∧ r.2.mem ((c.tc : Thread Cert.AdamwConvIdeal.nD Cert.AdamwConvIdeal.τ).loc Cert.AdamwConvIdeal.main_arg3) = m ((c.tc : Thread Cert.AdamwConvIdeal.nD Cert.AdamwConvIdeal.τ).loc Cert.AdamwConvIdeal.main_arg3))
      ∧ θ_run (Cert.ReferenceAdamwConvIdeal.defs (F := Ideal)) (onTc (τ := Cert.ReferenceAdamwConvIdeal.τ) (Cert.ReferenceAdamwConvIdeal.main (F := Ideal))) ⟨m', fun _ => 0, g'⟩ (fun r => ∀ c : Dev Cert.ReferenceAdamwConvIdeal.nD,
          r.2.mem ((c.tc : Thread Cert.ReferenceAdamwConvIdeal.nD Cert.ReferenceAdamwConvIdeal.τ).loc Cert.ReferenceAdamwConvIdeal.main_v24) = v0 c
          ∧ r.2.mem ((c.tc : Thread Cert.ReferenceAdamwConvIdeal.nD Cert.ReferenceAdamwConvIdeal.τ).loc Cert.ReferenceAdamwConvIdeal.main_v25) = v1 c
          ∧ r.2.mem ((c.tc : Thread Cert.ReferenceAdamwConvIdeal.nD Cert.ReferenceAdamwConvIdeal.τ).loc Cert.ReferenceAdamwConvIdeal.main_v26) = v2 c
          ∧ r.2.mem ((c.tc : Thread Cert.ReferenceAdamwConvIdeal.nD Cert.ReferenceAdamwConvIdeal.τ).loc Cert.ReferenceAdamwConvIdeal.main_arg0) = m' ((c.tc : Thread Cert.ReferenceAdamwConvIdeal.nD Cert.ReferenceAdamwConvIdeal.τ).loc Cert.ReferenceAdamwConvIdeal.main_arg0)
          ∧ r.2.mem ((c.tc : Thread Cert.ReferenceAdamwConvIdeal.nD Cert.ReferenceAdamwConvIdeal.τ).loc Cert.ReferenceAdamwConvIdeal.main_arg1) = m' ((c.tc : Thread Cert.ReferenceAdamwConvIdeal.nD Cert.ReferenceAdamwConvIdeal.τ).loc Cert.ReferenceAdamwConvIdeal.main_arg1)
          ∧ r.2.mem ((c.tc : Thread Cert.ReferenceAdamwConvIdeal.nD Cert.ReferenceAdamwConvIdeal.τ).loc Cert.ReferenceAdamwConvIdeal.main_arg2) = m' ((c.tc : Thread Cert.ReferenceAdamwConvIdeal.nD Cert.ReferenceAdamwConvIdeal.τ).loc Cert.ReferenceAdamwConvIdeal.main_arg2)
          ∧ r.2.mem ((c.tc : Thread Cert.ReferenceAdamwConvIdeal.nD Cert.ReferenceAdamwConvIdeal.τ).loc Cert.ReferenceAdamwConvIdeal.main_arg3) = m' ((c.tc : Thread Cert.ReferenceAdamwConvIdeal.nD Cert.ReferenceAdamwConvIdeal.τ).loc Cert.ReferenceAdamwConvIdeal.main_arg3))

def preserves_AdamwHead_AdamwHeadIdeal : Prop :=
  True

def algebraic_AdamwHeadIdeal_ReferenceAdamwHeadIdeal [hAdamwHeadIdeal : Cert.AdamwHeadIdeal.Facts] [hReferenceAdamwHeadIdeal : Cert.ReferenceAdamwHeadIdeal.Facts] : Prop :=
  ∀ (m : (ℓ : Loc Cert.AdamwHeadIdeal.nD Cert.AdamwHeadIdeal.τ Cert.AdamwHeadIdeal.sig) → Buf (Elt Ideal) ℓ) (g : Dev Cert.AdamwHeadIdeal.nD → PrngReg)
    (m' : (ℓ : Loc Cert.ReferenceAdamwHeadIdeal.nD Cert.ReferenceAdamwHeadIdeal.τ Cert.ReferenceAdamwHeadIdeal.sig) → Buf (Elt Ideal) ℓ) (g' : Dev Cert.ReferenceAdamwHeadIdeal.nD → PrngReg), Pre_AdamwHeadIdeal m →
    (∀ c : Dev Cert.AdamwHeadIdeal.nD,
      m' ((c.tc : Thread Cert.ReferenceAdamwHeadIdeal.nD Cert.ReferenceAdamwHeadIdeal.τ).loc Cert.ReferenceAdamwHeadIdeal.main_arg0) = m ((c.tc : Thread Cert.AdamwHeadIdeal.nD Cert.AdamwHeadIdeal.τ).loc Cert.AdamwHeadIdeal.main_arg0)
      ∧ m' ((c.tc : Thread Cert.ReferenceAdamwHeadIdeal.nD Cert.ReferenceAdamwHeadIdeal.τ).loc Cert.ReferenceAdamwHeadIdeal.main_arg1) = m ((c.tc : Thread Cert.AdamwHeadIdeal.nD Cert.AdamwHeadIdeal.τ).loc Cert.AdamwHeadIdeal.main_arg1)
      ∧ m' ((c.tc : Thread Cert.ReferenceAdamwHeadIdeal.nD Cert.ReferenceAdamwHeadIdeal.τ).loc Cert.ReferenceAdamwHeadIdeal.main_arg2) = m ((c.tc : Thread Cert.AdamwHeadIdeal.nD Cert.AdamwHeadIdeal.τ).loc Cert.AdamwHeadIdeal.main_arg2)
      ∧ m' ((c.tc : Thread Cert.ReferenceAdamwHeadIdeal.nD Cert.ReferenceAdamwHeadIdeal.τ).loc Cert.ReferenceAdamwHeadIdeal.main_arg3) = m ((c.tc : Thread Cert.AdamwHeadIdeal.nD Cert.AdamwHeadIdeal.τ).loc Cert.AdamwHeadIdeal.main_arg3)) →
    ∃ (v0 : (c : Dev Cert.AdamwHeadIdeal.nD) → Buf (Elt Ideal) ((c.tc : Thread Cert.AdamwHeadIdeal.nD Cert.AdamwHeadIdeal.τ).loc Cert.AdamwHeadIdeal.main_v0_0)) (v1 : (c : Dev Cert.AdamwHeadIdeal.nD) → Buf (Elt Ideal) ((c.tc : Thread Cert.AdamwHeadIdeal.nD Cert.AdamwHeadIdeal.τ).loc Cert.AdamwHeadIdeal.main_v0_1)) (v2 : (c : Dev Cert.AdamwHeadIdeal.nD) → Buf (Elt Ideal) ((c.tc : Thread Cert.AdamwHeadIdeal.nD Cert.AdamwHeadIdeal.τ).loc Cert.AdamwHeadIdeal.main_v0_2)),
      θ_run (Cert.AdamwHeadIdeal.defs (F := Ideal)) (onTc (τ := Cert.AdamwHeadIdeal.τ) (Cert.AdamwHeadIdeal.main (F := Ideal))) ⟨m, fun _ => 0, g⟩ (fun r => ∀ c : Dev Cert.AdamwHeadIdeal.nD,
          r.2.mem ((c.tc : Thread Cert.AdamwHeadIdeal.nD Cert.AdamwHeadIdeal.τ).loc Cert.AdamwHeadIdeal.main_v0_0) = v0 c
          ∧ r.2.mem ((c.tc : Thread Cert.AdamwHeadIdeal.nD Cert.AdamwHeadIdeal.τ).loc Cert.AdamwHeadIdeal.main_v0_1) = v1 c
          ∧ r.2.mem ((c.tc : Thread Cert.AdamwHeadIdeal.nD Cert.AdamwHeadIdeal.τ).loc Cert.AdamwHeadIdeal.main_v0_2) = v2 c
          ∧ r.2.mem ((c.tc : Thread Cert.AdamwHeadIdeal.nD Cert.AdamwHeadIdeal.τ).loc Cert.AdamwHeadIdeal.main_arg0) = m ((c.tc : Thread Cert.AdamwHeadIdeal.nD Cert.AdamwHeadIdeal.τ).loc Cert.AdamwHeadIdeal.main_arg0)
          ∧ r.2.mem ((c.tc : Thread Cert.AdamwHeadIdeal.nD Cert.AdamwHeadIdeal.τ).loc Cert.AdamwHeadIdeal.main_arg1) = m ((c.tc : Thread Cert.AdamwHeadIdeal.nD Cert.AdamwHeadIdeal.τ).loc Cert.AdamwHeadIdeal.main_arg1)
          ∧ r.2.mem ((c.tc : Thread Cert.AdamwHeadIdeal.nD Cert.AdamwHeadIdeal.τ).loc Cert.AdamwHeadIdeal.main_arg2) = m ((c.tc : Thread Cert.AdamwHeadIdeal.nD Cert.AdamwHeadIdeal.τ).loc Cert.AdamwHeadIdeal.main_arg2)
          ∧ r.2.mem ((c.tc : Thread Cert.AdamwHeadIdeal.nD Cert.AdamwHeadIdeal.τ).loc Cert.AdamwHeadIdeal.main_arg3) = m ((c.tc : Thread Cert.AdamwHeadIdeal.nD Cert.AdamwHeadIdeal.τ).loc Cert.AdamwHeadIdeal.main_arg3))
      ∧ θ_run (Cert.ReferenceAdamwHeadIdeal.defs (F := Ideal)) (onTc (τ := Cert.ReferenceAdamwHeadIdeal.τ) (Cert.ReferenceAdamwHeadIdeal.main (F := Ideal))) ⟨m', fun _ => 0, g'⟩ (fun r => ∀ c : Dev Cert.ReferenceAdamwHeadIdeal.nD,
          r.2.mem ((c.tc : Thread Cert.ReferenceAdamwHeadIdeal.nD Cert.ReferenceAdamwHeadIdeal.τ).loc Cert.ReferenceAdamwHeadIdeal.main_v23) = v0 c
          ∧ r.2.mem ((c.tc : Thread Cert.ReferenceAdamwHeadIdeal.nD Cert.ReferenceAdamwHeadIdeal.τ).loc Cert.ReferenceAdamwHeadIdeal.main_v4) = v1 c
          ∧ r.2.mem ((c.tc : Thread Cert.ReferenceAdamwHeadIdeal.nD Cert.ReferenceAdamwHeadIdeal.τ).loc Cert.ReferenceAdamwHeadIdeal.main_v10) = v2 c
          ∧ r.2.mem ((c.tc : Thread Cert.ReferenceAdamwHeadIdeal.nD Cert.ReferenceAdamwHeadIdeal.τ).loc Cert.ReferenceAdamwHeadIdeal.main_arg0) = m' ((c.tc : Thread Cert.ReferenceAdamwHeadIdeal.nD Cert.ReferenceAdamwHeadIdeal.τ).loc Cert.ReferenceAdamwHeadIdeal.main_arg0)
          ∧ r.2.mem ((c.tc : Thread Cert.ReferenceAdamwHeadIdeal.nD Cert.ReferenceAdamwHeadIdeal.τ).loc Cert.ReferenceAdamwHeadIdeal.main_arg1) = m' ((c.tc : Thread Cert.ReferenceAdamwHeadIdeal.nD Cert.ReferenceAdamwHeadIdeal.τ).loc Cert.ReferenceAdamwHeadIdeal.main_arg1)
          ∧ r.2.mem ((c.tc : Thread Cert.ReferenceAdamwHeadIdeal.nD Cert.ReferenceAdamwHeadIdeal.τ).loc Cert.ReferenceAdamwHeadIdeal.main_arg2) = m' ((c.tc : Thread Cert.ReferenceAdamwHeadIdeal.nD Cert.ReferenceAdamwHeadIdeal.τ).loc Cert.ReferenceAdamwHeadIdeal.main_arg2)
          ∧ r.2.mem ((c.tc : Thread Cert.ReferenceAdamwHeadIdeal.nD Cert.ReferenceAdamwHeadIdeal.τ).loc Cert.ReferenceAdamwHeadIdeal.main_arg3) = m' ((c.tc : Thread Cert.ReferenceAdamwHeadIdeal.nD Cert.ReferenceAdamwHeadIdeal.τ).loc Cert.ReferenceAdamwHeadIdeal.main_arg3))

def preserves_AdamwPool_AdamwPoolIdeal : Prop :=
  True

def algebraic_AdamwPoolIdeal_ReferenceAdamwPoolIdeal [hAdamwPoolIdeal : Cert.AdamwPoolIdeal.Facts] [hReferenceAdamwPoolIdeal : Cert.ReferenceAdamwPoolIdeal.Facts] : Prop :=
  ∀ (m : (ℓ : Loc Cert.AdamwPoolIdeal.nD Cert.AdamwPoolIdeal.τ Cert.AdamwPoolIdeal.sig) → Buf (Elt Ideal) ℓ) (g : Dev Cert.AdamwPoolIdeal.nD → PrngReg)
    (m' : (ℓ : Loc Cert.ReferenceAdamwPoolIdeal.nD Cert.ReferenceAdamwPoolIdeal.τ Cert.ReferenceAdamwPoolIdeal.sig) → Buf (Elt Ideal) ℓ) (g' : Dev Cert.ReferenceAdamwPoolIdeal.nD → PrngReg), Pre_AdamwPoolIdeal m →
    (∀ c : Dev Cert.AdamwPoolIdeal.nD,
      m' ((c.tc : Thread Cert.ReferenceAdamwPoolIdeal.nD Cert.ReferenceAdamwPoolIdeal.τ).loc Cert.ReferenceAdamwPoolIdeal.main_arg0) = m ((c.tc : Thread Cert.AdamwPoolIdeal.nD Cert.AdamwPoolIdeal.τ).loc Cert.AdamwPoolIdeal.main_arg0)
      ∧ m' ((c.tc : Thread Cert.ReferenceAdamwPoolIdeal.nD Cert.ReferenceAdamwPoolIdeal.τ).loc Cert.ReferenceAdamwPoolIdeal.main_arg1) = m ((c.tc : Thread Cert.AdamwPoolIdeal.nD Cert.AdamwPoolIdeal.τ).loc Cert.AdamwPoolIdeal.main_arg1)
      ∧ m' ((c.tc : Thread Cert.ReferenceAdamwPoolIdeal.nD Cert.ReferenceAdamwPoolIdeal.τ).loc Cert.ReferenceAdamwPoolIdeal.main_arg2) = m ((c.tc : Thread Cert.AdamwPoolIdeal.nD Cert.AdamwPoolIdeal.τ).loc Cert.AdamwPoolIdeal.main_arg2)
      ∧ m' ((c.tc : Thread Cert.ReferenceAdamwPoolIdeal.nD Cert.ReferenceAdamwPoolIdeal.τ).loc Cert.ReferenceAdamwPoolIdeal.main_arg3) = m ((c.tc : Thread Cert.AdamwPoolIdeal.nD Cert.AdamwPoolIdeal.τ).loc Cert.AdamwPoolIdeal.main_arg3)) →
    ∃ (v0 : (c : Dev Cert.AdamwPoolIdeal.nD) → Buf (Elt Ideal) ((c.tc : Thread Cert.AdamwPoolIdeal.nD Cert.AdamwPoolIdeal.τ).loc Cert.AdamwPoolIdeal.main_v4_0)) (v1 : (c : Dev Cert.AdamwPoolIdeal.nD) → Buf (Elt Ideal) ((c.tc : Thread Cert.AdamwPoolIdeal.nD Cert.AdamwPoolIdeal.τ).loc Cert.AdamwPoolIdeal.main_v4_1)) (v2 : (c : Dev Cert.AdamwPoolIdeal.nD) → Buf (Elt Ideal) ((c.tc : Thread Cert.AdamwPoolIdeal.nD Cert.AdamwPoolIdeal.τ).loc Cert.AdamwPoolIdeal.main_v4_2)),
      θ_run (Cert.AdamwPoolIdeal.defs (F := Ideal)) (onTc (τ := Cert.AdamwPoolIdeal.τ) (Cert.AdamwPoolIdeal.main (F := Ideal))) ⟨m, fun _ => 0, g⟩ (fun r => ∀ c : Dev Cert.AdamwPoolIdeal.nD,
          r.2.mem ((c.tc : Thread Cert.AdamwPoolIdeal.nD Cert.AdamwPoolIdeal.τ).loc Cert.AdamwPoolIdeal.main_v4_0) = v0 c
          ∧ r.2.mem ((c.tc : Thread Cert.AdamwPoolIdeal.nD Cert.AdamwPoolIdeal.τ).loc Cert.AdamwPoolIdeal.main_v4_1) = v1 c
          ∧ r.2.mem ((c.tc : Thread Cert.AdamwPoolIdeal.nD Cert.AdamwPoolIdeal.τ).loc Cert.AdamwPoolIdeal.main_v4_2) = v2 c
          ∧ r.2.mem ((c.tc : Thread Cert.AdamwPoolIdeal.nD Cert.AdamwPoolIdeal.τ).loc Cert.AdamwPoolIdeal.main_arg0) = m ((c.tc : Thread Cert.AdamwPoolIdeal.nD Cert.AdamwPoolIdeal.τ).loc Cert.AdamwPoolIdeal.main_arg0)
          ∧ r.2.mem ((c.tc : Thread Cert.AdamwPoolIdeal.nD Cert.AdamwPoolIdeal.τ).loc Cert.AdamwPoolIdeal.main_arg1) = m ((c.tc : Thread Cert.AdamwPoolIdeal.nD Cert.AdamwPoolIdeal.τ).loc Cert.AdamwPoolIdeal.main_arg1)
          ∧ r.2.mem ((c.tc : Thread Cert.AdamwPoolIdeal.nD Cert.AdamwPoolIdeal.τ).loc Cert.AdamwPoolIdeal.main_arg2) = m ((c.tc : Thread Cert.AdamwPoolIdeal.nD Cert.AdamwPoolIdeal.τ).loc Cert.AdamwPoolIdeal.main_arg2)
          ∧ r.2.mem ((c.tc : Thread Cert.AdamwPoolIdeal.nD Cert.AdamwPoolIdeal.τ).loc Cert.AdamwPoolIdeal.main_arg3) = m ((c.tc : Thread Cert.AdamwPoolIdeal.nD Cert.AdamwPoolIdeal.τ).loc Cert.AdamwPoolIdeal.main_arg3))
      ∧ θ_run (Cert.ReferenceAdamwPoolIdeal.defs (F := Ideal)) (onTc (τ := Cert.ReferenceAdamwPoolIdeal.τ) (Cert.ReferenceAdamwPoolIdeal.main (F := Ideal))) ⟨m', fun _ => 0, g'⟩ (fun r => ∀ c : Dev Cert.ReferenceAdamwPoolIdeal.nD,
          r.2.mem ((c.tc : Thread Cert.ReferenceAdamwPoolIdeal.nD Cert.ReferenceAdamwPoolIdeal.τ).loc Cert.ReferenceAdamwPoolIdeal.main_v24) = v0 c
          ∧ r.2.mem ((c.tc : Thread Cert.ReferenceAdamwPoolIdeal.nD Cert.ReferenceAdamwPoolIdeal.τ).loc Cert.ReferenceAdamwPoolIdeal.main_v25) = v1 c
          ∧ r.2.mem ((c.tc : Thread Cert.ReferenceAdamwPoolIdeal.nD Cert.ReferenceAdamwPoolIdeal.τ).loc Cert.ReferenceAdamwPoolIdeal.main_v26) = v2 c
          ∧ r.2.mem ((c.tc : Thread Cert.ReferenceAdamwPoolIdeal.nD Cert.ReferenceAdamwPoolIdeal.τ).loc Cert.ReferenceAdamwPoolIdeal.main_arg0) = m' ((c.tc : Thread Cert.ReferenceAdamwPoolIdeal.nD Cert.ReferenceAdamwPoolIdeal.τ).loc Cert.ReferenceAdamwPoolIdeal.main_arg0)
          ∧ r.2.mem ((c.tc : Thread Cert.ReferenceAdamwPoolIdeal.nD Cert.ReferenceAdamwPoolIdeal.τ).loc Cert.ReferenceAdamwPoolIdeal.main_arg1) = m' ((c.tc : Thread Cert.ReferenceAdamwPoolIdeal.nD Cert.ReferenceAdamwPoolIdeal.τ).loc Cert.ReferenceAdamwPoolIdeal.main_arg1)
          ∧ r.2.mem ((c.tc : Thread Cert.ReferenceAdamwPoolIdeal.nD Cert.ReferenceAdamwPoolIdeal.τ).loc Cert.ReferenceAdamwPoolIdeal.main_arg2) = m' ((c.tc : Thread Cert.ReferenceAdamwPoolIdeal.nD Cert.ReferenceAdamwPoolIdeal.τ).loc Cert.ReferenceAdamwPoolIdeal.main_arg2)
          ∧ r.2.mem ((c.tc : Thread Cert.ReferenceAdamwPoolIdeal.nD Cert.ReferenceAdamwPoolIdeal.τ).loc Cert.ReferenceAdamwPoolIdeal.main_arg3) = m' ((c.tc : Thread Cert.ReferenceAdamwPoolIdeal.nD Cert.ReferenceAdamwPoolIdeal.τ).loc Cert.ReferenceAdamwPoolIdeal.main_arg3))

def preserves_AdamwWidth_AdamwWidthIdeal : Prop :=
  True

def algebraic_AdamwWidthIdeal_ReferenceAdamwWidthIdeal [hAdamwWidthIdeal : Cert.AdamwWidthIdeal.Facts] [hReferenceAdamwWidthIdeal : Cert.ReferenceAdamwWidthIdeal.Facts] : Prop :=
  ∀ (m : (ℓ : Loc Cert.AdamwWidthIdeal.nD Cert.AdamwWidthIdeal.τ Cert.AdamwWidthIdeal.sig) → Buf (Elt Ideal) ℓ) (g : Dev Cert.AdamwWidthIdeal.nD → PrngReg)
    (m' : (ℓ : Loc Cert.ReferenceAdamwWidthIdeal.nD Cert.ReferenceAdamwWidthIdeal.τ Cert.ReferenceAdamwWidthIdeal.sig) → Buf (Elt Ideal) ℓ) (g' : Dev Cert.ReferenceAdamwWidthIdeal.nD → PrngReg), Pre_AdamwWidthIdeal m →
    (∀ c : Dev Cert.AdamwWidthIdeal.nD,
      m' ((c.tc : Thread Cert.ReferenceAdamwWidthIdeal.nD Cert.ReferenceAdamwWidthIdeal.τ).loc Cert.ReferenceAdamwWidthIdeal.main_arg0) = m ((c.tc : Thread Cert.AdamwWidthIdeal.nD Cert.AdamwWidthIdeal.τ).loc Cert.AdamwWidthIdeal.main_arg0)
      ∧ m' ((c.tc : Thread Cert.ReferenceAdamwWidthIdeal.nD Cert.ReferenceAdamwWidthIdeal.τ).loc Cert.ReferenceAdamwWidthIdeal.main_arg1) = m ((c.tc : Thread Cert.AdamwWidthIdeal.nD Cert.AdamwWidthIdeal.τ).loc Cert.AdamwWidthIdeal.main_arg1)
      ∧ m' ((c.tc : Thread Cert.ReferenceAdamwWidthIdeal.nD Cert.ReferenceAdamwWidthIdeal.τ).loc Cert.ReferenceAdamwWidthIdeal.main_arg2) = m ((c.tc : Thread Cert.AdamwWidthIdeal.nD Cert.AdamwWidthIdeal.τ).loc Cert.AdamwWidthIdeal.main_arg2)
      ∧ m' ((c.tc : Thread Cert.ReferenceAdamwWidthIdeal.nD Cert.ReferenceAdamwWidthIdeal.τ).loc Cert.ReferenceAdamwWidthIdeal.main_arg3) = m ((c.tc : Thread Cert.AdamwWidthIdeal.nD Cert.AdamwWidthIdeal.τ).loc Cert.AdamwWidthIdeal.main_arg3)) →
    ∃ (v0 : (c : Dev Cert.AdamwWidthIdeal.nD) → Buf (Elt Ideal) ((c.tc : Thread Cert.AdamwWidthIdeal.nD Cert.AdamwWidthIdeal.τ).loc Cert.AdamwWidthIdeal.main_v0_0)) (v1 : (c : Dev Cert.AdamwWidthIdeal.nD) → Buf (Elt Ideal) ((c.tc : Thread Cert.AdamwWidthIdeal.nD Cert.AdamwWidthIdeal.τ).loc Cert.AdamwWidthIdeal.main_v0_1)) (v2 : (c : Dev Cert.AdamwWidthIdeal.nD) → Buf (Elt Ideal) ((c.tc : Thread Cert.AdamwWidthIdeal.nD Cert.AdamwWidthIdeal.τ).loc Cert.AdamwWidthIdeal.main_v0_2)),
      θ_run (Cert.AdamwWidthIdeal.defs (F := Ideal)) (onTc (τ := Cert.AdamwWidthIdeal.τ) (Cert.AdamwWidthIdeal.main (F := Ideal))) ⟨m, fun _ => 0, g⟩ (fun r => ∀ c : Dev Cert.AdamwWidthIdeal.nD,
          r.2.mem ((c.tc : Thread Cert.AdamwWidthIdeal.nD Cert.AdamwWidthIdeal.τ).loc Cert.AdamwWidthIdeal.main_v0_0) = v0 c
          ∧ r.2.mem ((c.tc : Thread Cert.AdamwWidthIdeal.nD Cert.AdamwWidthIdeal.τ).loc Cert.AdamwWidthIdeal.main_v0_1) = v1 c
          ∧ r.2.mem ((c.tc : Thread Cert.AdamwWidthIdeal.nD Cert.AdamwWidthIdeal.τ).loc Cert.AdamwWidthIdeal.main_v0_2) = v2 c
          ∧ r.2.mem ((c.tc : Thread Cert.AdamwWidthIdeal.nD Cert.AdamwWidthIdeal.τ).loc Cert.AdamwWidthIdeal.main_arg0) = m ((c.tc : Thread Cert.AdamwWidthIdeal.nD Cert.AdamwWidthIdeal.τ).loc Cert.AdamwWidthIdeal.main_arg0)
          ∧ r.2.mem ((c.tc : Thread Cert.AdamwWidthIdeal.nD Cert.AdamwWidthIdeal.τ).loc Cert.AdamwWidthIdeal.main_arg1) = m ((c.tc : Thread Cert.AdamwWidthIdeal.nD Cert.AdamwWidthIdeal.τ).loc Cert.AdamwWidthIdeal.main_arg1)
          ∧ r.2.mem ((c.tc : Thread Cert.AdamwWidthIdeal.nD Cert.AdamwWidthIdeal.τ).loc Cert.AdamwWidthIdeal.main_arg2) = m ((c.tc : Thread Cert.AdamwWidthIdeal.nD Cert.AdamwWidthIdeal.τ).loc Cert.AdamwWidthIdeal.main_arg2)
          ∧ r.2.mem ((c.tc : Thread Cert.AdamwWidthIdeal.nD Cert.AdamwWidthIdeal.τ).loc Cert.AdamwWidthIdeal.main_arg3) = m ((c.tc : Thread Cert.AdamwWidthIdeal.nD Cert.AdamwWidthIdeal.τ).loc Cert.AdamwWidthIdeal.main_arg3))
      ∧ θ_run (Cert.ReferenceAdamwWidthIdeal.defs (F := Ideal)) (onTc (τ := Cert.ReferenceAdamwWidthIdeal.τ) (Cert.ReferenceAdamwWidthIdeal.main (F := Ideal))) ⟨m', fun _ => 0, g'⟩ (fun r => ∀ c : Dev Cert.ReferenceAdamwWidthIdeal.nD,
          r.2.mem ((c.tc : Thread Cert.ReferenceAdamwWidthIdeal.nD Cert.ReferenceAdamwWidthIdeal.τ).loc Cert.ReferenceAdamwWidthIdeal.main_v23) = v0 c
          ∧ r.2.mem ((c.tc : Thread Cert.ReferenceAdamwWidthIdeal.nD Cert.ReferenceAdamwWidthIdeal.τ).loc Cert.ReferenceAdamwWidthIdeal.main_v4) = v1 c
          ∧ r.2.mem ((c.tc : Thread Cert.ReferenceAdamwWidthIdeal.nD Cert.ReferenceAdamwWidthIdeal.τ).loc Cert.ReferenceAdamwWidthIdeal.main_v10) = v2 c
          ∧ r.2.mem ((c.tc : Thread Cert.ReferenceAdamwWidthIdeal.nD Cert.ReferenceAdamwWidthIdeal.τ).loc Cert.ReferenceAdamwWidthIdeal.main_arg0) = m' ((c.tc : Thread Cert.ReferenceAdamwWidthIdeal.nD Cert.ReferenceAdamwWidthIdeal.τ).loc Cert.ReferenceAdamwWidthIdeal.main_arg0)
          ∧ r.2.mem ((c.tc : Thread Cert.ReferenceAdamwWidthIdeal.nD Cert.ReferenceAdamwWidthIdeal.τ).loc Cert.ReferenceAdamwWidthIdeal.main_arg1) = m' ((c.tc : Thread Cert.ReferenceAdamwWidthIdeal.nD Cert.ReferenceAdamwWidthIdeal.τ).loc Cert.ReferenceAdamwWidthIdeal.main_arg1)
          ∧ r.2.mem ((c.tc : Thread Cert.ReferenceAdamwWidthIdeal.nD Cert.ReferenceAdamwWidthIdeal.τ).loc Cert.ReferenceAdamwWidthIdeal.main_arg2) = m' ((c.tc : Thread Cert.ReferenceAdamwWidthIdeal.nD Cert.ReferenceAdamwWidthIdeal.τ).loc Cert.ReferenceAdamwWidthIdeal.main_arg2)
          ∧ r.2.mem ((c.tc : Thread Cert.ReferenceAdamwWidthIdeal.nD Cert.ReferenceAdamwWidthIdeal.τ).loc Cert.ReferenceAdamwWidthIdeal.main_arg3) = m' ((c.tc : Thread Cert.ReferenceAdamwWidthIdeal.nD Cert.ReferenceAdamwWidthIdeal.τ).loc Cert.ReferenceAdamwWidthIdeal.main_arg3))

def preserves_AdamwBias_AdamwBiasIdeal : Prop :=
  True

def algebraic_AdamwBiasIdeal_ReferenceAdamwBiasIdeal [hAdamwBiasIdeal : Cert.AdamwBiasIdeal.Facts] [hReferenceAdamwBiasIdeal : Cert.ReferenceAdamwBiasIdeal.Facts] : Prop :=
  ∀ (m : (ℓ : Loc Cert.AdamwBiasIdeal.nD Cert.AdamwBiasIdeal.τ Cert.AdamwBiasIdeal.sig) → Buf (Elt Ideal) ℓ) (g : Dev Cert.AdamwBiasIdeal.nD → PrngReg)
    (m' : (ℓ : Loc Cert.ReferenceAdamwBiasIdeal.nD Cert.ReferenceAdamwBiasIdeal.τ Cert.ReferenceAdamwBiasIdeal.sig) → Buf (Elt Ideal) ℓ) (g' : Dev Cert.ReferenceAdamwBiasIdeal.nD → PrngReg), Pre_AdamwBiasIdeal m →
    (∀ c : Dev Cert.AdamwBiasIdeal.nD,
      m' ((c.tc : Thread Cert.ReferenceAdamwBiasIdeal.nD Cert.ReferenceAdamwBiasIdeal.τ).loc Cert.ReferenceAdamwBiasIdeal.main_arg0) = m ((c.tc : Thread Cert.AdamwBiasIdeal.nD Cert.AdamwBiasIdeal.τ).loc Cert.AdamwBiasIdeal.main_arg0)
      ∧ m' ((c.tc : Thread Cert.ReferenceAdamwBiasIdeal.nD Cert.ReferenceAdamwBiasIdeal.τ).loc Cert.ReferenceAdamwBiasIdeal.main_arg1) = m ((c.tc : Thread Cert.AdamwBiasIdeal.nD Cert.AdamwBiasIdeal.τ).loc Cert.AdamwBiasIdeal.main_arg1)
      ∧ m' ((c.tc : Thread Cert.ReferenceAdamwBiasIdeal.nD Cert.ReferenceAdamwBiasIdeal.τ).loc Cert.ReferenceAdamwBiasIdeal.main_arg2) = m ((c.tc : Thread Cert.AdamwBiasIdeal.nD Cert.AdamwBiasIdeal.τ).loc Cert.AdamwBiasIdeal.main_arg2)
      ∧ m' ((c.tc : Thread Cert.ReferenceAdamwBiasIdeal.nD Cert.ReferenceAdamwBiasIdeal.τ).loc Cert.ReferenceAdamwBiasIdeal.main_arg3) = m ((c.tc : Thread Cert.AdamwBiasIdeal.nD Cert.AdamwBiasIdeal.τ).loc Cert.AdamwBiasIdeal.main_arg3)) →
    ∃ (v0 : (c : Dev Cert.AdamwBiasIdeal.nD) → Buf (Elt Ideal) ((c.tc : Thread Cert.AdamwBiasIdeal.nD Cert.AdamwBiasIdeal.τ).loc Cert.AdamwBiasIdeal.main_v4_0)) (v1 : (c : Dev Cert.AdamwBiasIdeal.nD) → Buf (Elt Ideal) ((c.tc : Thread Cert.AdamwBiasIdeal.nD Cert.AdamwBiasIdeal.τ).loc Cert.AdamwBiasIdeal.main_v4_1)) (v2 : (c : Dev Cert.AdamwBiasIdeal.nD) → Buf (Elt Ideal) ((c.tc : Thread Cert.AdamwBiasIdeal.nD Cert.AdamwBiasIdeal.τ).loc Cert.AdamwBiasIdeal.main_v4_2)),
      θ_run (Cert.AdamwBiasIdeal.defs (F := Ideal)) (onTc (τ := Cert.AdamwBiasIdeal.τ) (Cert.AdamwBiasIdeal.main (F := Ideal))) ⟨m, fun _ => 0, g⟩ (fun r => ∀ c : Dev Cert.AdamwBiasIdeal.nD,
          r.2.mem ((c.tc : Thread Cert.AdamwBiasIdeal.nD Cert.AdamwBiasIdeal.τ).loc Cert.AdamwBiasIdeal.main_v4_0) = v0 c
          ∧ r.2.mem ((c.tc : Thread Cert.AdamwBiasIdeal.nD Cert.AdamwBiasIdeal.τ).loc Cert.AdamwBiasIdeal.main_v4_1) = v1 c
          ∧ r.2.mem ((c.tc : Thread Cert.AdamwBiasIdeal.nD Cert.AdamwBiasIdeal.τ).loc Cert.AdamwBiasIdeal.main_v4_2) = v2 c
          ∧ r.2.mem ((c.tc : Thread Cert.AdamwBiasIdeal.nD Cert.AdamwBiasIdeal.τ).loc Cert.AdamwBiasIdeal.main_arg0) = m ((c.tc : Thread Cert.AdamwBiasIdeal.nD Cert.AdamwBiasIdeal.τ).loc Cert.AdamwBiasIdeal.main_arg0)
          ∧ r.2.mem ((c.tc : Thread Cert.AdamwBiasIdeal.nD Cert.AdamwBiasIdeal.τ).loc Cert.AdamwBiasIdeal.main_arg1) = m ((c.tc : Thread Cert.AdamwBiasIdeal.nD Cert.AdamwBiasIdeal.τ).loc Cert.AdamwBiasIdeal.main_arg1)
          ∧ r.2.mem ((c.tc : Thread Cert.AdamwBiasIdeal.nD Cert.AdamwBiasIdeal.τ).loc Cert.AdamwBiasIdeal.main_arg2) = m ((c.tc : Thread Cert.AdamwBiasIdeal.nD Cert.AdamwBiasIdeal.τ).loc Cert.AdamwBiasIdeal.main_arg2)
          ∧ r.2.mem ((c.tc : Thread Cert.AdamwBiasIdeal.nD Cert.AdamwBiasIdeal.τ).loc Cert.AdamwBiasIdeal.main_arg3) = m ((c.tc : Thread Cert.AdamwBiasIdeal.nD Cert.AdamwBiasIdeal.τ).loc Cert.AdamwBiasIdeal.main_arg3))
      ∧ θ_run (Cert.ReferenceAdamwBiasIdeal.defs (F := Ideal)) (onTc (τ := Cert.ReferenceAdamwBiasIdeal.τ) (Cert.ReferenceAdamwBiasIdeal.main (F := Ideal))) ⟨m', fun _ => 0, g'⟩ (fun r => ∀ c : Dev Cert.ReferenceAdamwBiasIdeal.nD,
          r.2.mem ((c.tc : Thread Cert.ReferenceAdamwBiasIdeal.nD Cert.ReferenceAdamwBiasIdeal.τ).loc Cert.ReferenceAdamwBiasIdeal.main_v24) = v0 c
          ∧ r.2.mem ((c.tc : Thread Cert.ReferenceAdamwBiasIdeal.nD Cert.ReferenceAdamwBiasIdeal.τ).loc Cert.ReferenceAdamwBiasIdeal.main_v25) = v1 c
          ∧ r.2.mem ((c.tc : Thread Cert.ReferenceAdamwBiasIdeal.nD Cert.ReferenceAdamwBiasIdeal.τ).loc Cert.ReferenceAdamwBiasIdeal.main_v26) = v2 c
          ∧ r.2.mem ((c.tc : Thread Cert.ReferenceAdamwBiasIdeal.nD Cert.ReferenceAdamwBiasIdeal.τ).loc Cert.ReferenceAdamwBiasIdeal.main_arg0) = m' ((c.tc : Thread Cert.ReferenceAdamwBiasIdeal.nD Cert.ReferenceAdamwBiasIdeal.τ).loc Cert.ReferenceAdamwBiasIdeal.main_arg0)
          ∧ r.2.mem ((c.tc : Thread Cert.ReferenceAdamwBiasIdeal.nD Cert.ReferenceAdamwBiasIdeal.τ).loc Cert.ReferenceAdamwBiasIdeal.main_arg1) = m' ((c.tc : Thread Cert.ReferenceAdamwBiasIdeal.nD Cert.ReferenceAdamwBiasIdeal.τ).loc Cert.ReferenceAdamwBiasIdeal.main_arg1)
          ∧ r.2.mem ((c.tc : Thread Cert.ReferenceAdamwBiasIdeal.nD Cert.ReferenceAdamwBiasIdeal.τ).loc Cert.ReferenceAdamwBiasIdeal.main_arg2) = m' ((c.tc : Thread Cert.ReferenceAdamwBiasIdeal.nD Cert.ReferenceAdamwBiasIdeal.τ).loc Cert.ReferenceAdamwBiasIdeal.main_arg2)
          ∧ r.2.mem ((c.tc : Thread Cert.ReferenceAdamwBiasIdeal.nD Cert.ReferenceAdamwBiasIdeal.τ).loc Cert.ReferenceAdamwBiasIdeal.main_arg3) = m' ((c.tc : Thread Cert.ReferenceAdamwBiasIdeal.nD Cert.ReferenceAdamwBiasIdeal.τ).loc Cert.ReferenceAdamwBiasIdeal.main_arg3))

def preserves_AdamwFinal_AdamwFinalIdeal : Prop :=
  True

def algebraic_AdamwFinalIdeal_ReferenceAdamwFinalIdeal [hAdamwFinalIdeal : Cert.AdamwFinalIdeal.Facts] [hReferenceAdamwFinalIdeal : Cert.ReferenceAdamwFinalIdeal.Facts] : Prop :=
  ∀ (m : (ℓ : Loc Cert.AdamwFinalIdeal.nD Cert.AdamwFinalIdeal.τ Cert.AdamwFinalIdeal.sig) → Buf (Elt Ideal) ℓ) (g : Dev Cert.AdamwFinalIdeal.nD → PrngReg)
    (m' : (ℓ : Loc Cert.ReferenceAdamwFinalIdeal.nD Cert.ReferenceAdamwFinalIdeal.τ Cert.ReferenceAdamwFinalIdeal.sig) → Buf (Elt Ideal) ℓ) (g' : Dev Cert.ReferenceAdamwFinalIdeal.nD → PrngReg), Pre_AdamwFinalIdeal m →
    (∀ c : Dev Cert.AdamwFinalIdeal.nD,
      m' ((c.tc : Thread Cert.ReferenceAdamwFinalIdeal.nD Cert.ReferenceAdamwFinalIdeal.τ).loc Cert.ReferenceAdamwFinalIdeal.main_arg0) = m ((c.tc : Thread Cert.AdamwFinalIdeal.nD Cert.AdamwFinalIdeal.τ).loc Cert.AdamwFinalIdeal.main_arg0)
      ∧ m' ((c.tc : Thread Cert.ReferenceAdamwFinalIdeal.nD Cert.ReferenceAdamwFinalIdeal.τ).loc Cert.ReferenceAdamwFinalIdeal.main_arg1) = m ((c.tc : Thread Cert.AdamwFinalIdeal.nD Cert.AdamwFinalIdeal.τ).loc Cert.AdamwFinalIdeal.main_arg1)
      ∧ m' ((c.tc : Thread Cert.ReferenceAdamwFinalIdeal.nD Cert.ReferenceAdamwFinalIdeal.τ).loc Cert.ReferenceAdamwFinalIdeal.main_arg2) = m ((c.tc : Thread Cert.AdamwFinalIdeal.nD Cert.AdamwFinalIdeal.τ).loc Cert.AdamwFinalIdeal.main_arg2)
      ∧ m' ((c.tc : Thread Cert.ReferenceAdamwFinalIdeal.nD Cert.ReferenceAdamwFinalIdeal.τ).loc Cert.ReferenceAdamwFinalIdeal.main_arg3) = m ((c.tc : Thread Cert.AdamwFinalIdeal.nD Cert.AdamwFinalIdeal.τ).loc Cert.AdamwFinalIdeal.main_arg3)) →
    ∃ (v0 : (c : Dev Cert.AdamwFinalIdeal.nD) → Buf (Elt Ideal) ((c.tc : Thread Cert.AdamwFinalIdeal.nD Cert.AdamwFinalIdeal.τ).loc Cert.AdamwFinalIdeal.main_v4_0)) (v1 : (c : Dev Cert.AdamwFinalIdeal.nD) → Buf (Elt Ideal) ((c.tc : Thread Cert.AdamwFinalIdeal.nD Cert.AdamwFinalIdeal.τ).loc Cert.AdamwFinalIdeal.main_v4_1)) (v2 : (c : Dev Cert.AdamwFinalIdeal.nD) → Buf (Elt Ideal) ((c.tc : Thread Cert.AdamwFinalIdeal.nD Cert.AdamwFinalIdeal.τ).loc Cert.AdamwFinalIdeal.main_v4_2)),
      θ_run (Cert.AdamwFinalIdeal.defs (F := Ideal)) (onTc (τ := Cert.AdamwFinalIdeal.τ) (Cert.AdamwFinalIdeal.main (F := Ideal))) ⟨m, fun _ => 0, g⟩ (fun r => ∀ c : Dev Cert.AdamwFinalIdeal.nD,
          r.2.mem ((c.tc : Thread Cert.AdamwFinalIdeal.nD Cert.AdamwFinalIdeal.τ).loc Cert.AdamwFinalIdeal.main_v4_0) = v0 c
          ∧ r.2.mem ((c.tc : Thread Cert.AdamwFinalIdeal.nD Cert.AdamwFinalIdeal.τ).loc Cert.AdamwFinalIdeal.main_v4_1) = v1 c
          ∧ r.2.mem ((c.tc : Thread Cert.AdamwFinalIdeal.nD Cert.AdamwFinalIdeal.τ).loc Cert.AdamwFinalIdeal.main_v4_2) = v2 c
          ∧ r.2.mem ((c.tc : Thread Cert.AdamwFinalIdeal.nD Cert.AdamwFinalIdeal.τ).loc Cert.AdamwFinalIdeal.main_arg0) = m ((c.tc : Thread Cert.AdamwFinalIdeal.nD Cert.AdamwFinalIdeal.τ).loc Cert.AdamwFinalIdeal.main_arg0)
          ∧ r.2.mem ((c.tc : Thread Cert.AdamwFinalIdeal.nD Cert.AdamwFinalIdeal.τ).loc Cert.AdamwFinalIdeal.main_arg1) = m ((c.tc : Thread Cert.AdamwFinalIdeal.nD Cert.AdamwFinalIdeal.τ).loc Cert.AdamwFinalIdeal.main_arg1)
          ∧ r.2.mem ((c.tc : Thread Cert.AdamwFinalIdeal.nD Cert.AdamwFinalIdeal.τ).loc Cert.AdamwFinalIdeal.main_arg2) = m ((c.tc : Thread Cert.AdamwFinalIdeal.nD Cert.AdamwFinalIdeal.τ).loc Cert.AdamwFinalIdeal.main_arg2)
          ∧ r.2.mem ((c.tc : Thread Cert.AdamwFinalIdeal.nD Cert.AdamwFinalIdeal.τ).loc Cert.AdamwFinalIdeal.main_arg3) = m ((c.tc : Thread Cert.AdamwFinalIdeal.nD Cert.AdamwFinalIdeal.τ).loc Cert.AdamwFinalIdeal.main_arg3))
      ∧ θ_run (Cert.ReferenceAdamwFinalIdeal.defs (F := Ideal)) (onTc (τ := Cert.ReferenceAdamwFinalIdeal.τ) (Cert.ReferenceAdamwFinalIdeal.main (F := Ideal))) ⟨m', fun _ => 0, g'⟩ (fun r => ∀ c : Dev Cert.ReferenceAdamwFinalIdeal.nD,
          r.2.mem ((c.tc : Thread Cert.ReferenceAdamwFinalIdeal.nD Cert.ReferenceAdamwFinalIdeal.τ).loc Cert.ReferenceAdamwFinalIdeal.main_v24) = v0 c
          ∧ r.2.mem ((c.tc : Thread Cert.ReferenceAdamwFinalIdeal.nD Cert.ReferenceAdamwFinalIdeal.τ).loc Cert.ReferenceAdamwFinalIdeal.main_v25) = v1 c
          ∧ r.2.mem ((c.tc : Thread Cert.ReferenceAdamwFinalIdeal.nD Cert.ReferenceAdamwFinalIdeal.τ).loc Cert.ReferenceAdamwFinalIdeal.main_v26) = v2 c
          ∧ r.2.mem ((c.tc : Thread Cert.ReferenceAdamwFinalIdeal.nD Cert.ReferenceAdamwFinalIdeal.τ).loc Cert.ReferenceAdamwFinalIdeal.main_arg0) = m' ((c.tc : Thread Cert.ReferenceAdamwFinalIdeal.nD Cert.ReferenceAdamwFinalIdeal.τ).loc Cert.ReferenceAdamwFinalIdeal.main_arg0)
          ∧ r.2.mem ((c.tc : Thread Cert.ReferenceAdamwFinalIdeal.nD Cert.ReferenceAdamwFinalIdeal.τ).loc Cert.ReferenceAdamwFinalIdeal.main_arg1) = m' ((c.tc : Thread Cert.ReferenceAdamwFinalIdeal.nD Cert.ReferenceAdamwFinalIdeal.τ).loc Cert.ReferenceAdamwFinalIdeal.main_arg1)
          ∧ r.2.mem ((c.tc : Thread Cert.ReferenceAdamwFinalIdeal.nD Cert.ReferenceAdamwFinalIdeal.τ).loc Cert.ReferenceAdamwFinalIdeal.main_arg2) = m' ((c.tc : Thread Cert.ReferenceAdamwFinalIdeal.nD Cert.ReferenceAdamwFinalIdeal.τ).loc Cert.ReferenceAdamwFinalIdeal.main_arg2)
          ∧ r.2.mem ((c.tc : Thread Cert.ReferenceAdamwFinalIdeal.nD Cert.ReferenceAdamwFinalIdeal.τ).loc Cert.ReferenceAdamwFinalIdeal.main_arg3) = m' ((c.tc : Thread Cert.ReferenceAdamwFinalIdeal.nD Cert.ReferenceAdamwFinalIdeal.τ).loc Cert.ReferenceAdamwFinalIdeal.main_arg3))

def preserves_Loss_LossIdeal : Prop :=
  True

def algebraic_LossIdeal_ReferenceLossIdeal [hLossIdeal : Cert.LossIdeal.Facts] [hReferenceLossIdeal : Cert.ReferenceLossIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_LossIdeal m →
    (∀ c : Dev Cert.LossIdeal.nD,
      m' ((c.tc : Thread Cert.ReferenceLossIdeal.nD Cert.ReferenceLossIdeal.τ).loc Cert.ReferenceLossIdeal.main_arg0) = m ((c.tc : Thread Cert.LossIdeal.nD Cert.LossIdeal.τ).loc Cert.LossIdeal.main_arg0)
      ∧ m' ((c.tc : Thread Cert.ReferenceLossIdeal.nD Cert.ReferenceLossIdeal.τ).loc Cert.ReferenceLossIdeal.main_arg1) = m ((c.tc : Thread Cert.LossIdeal.nD Cert.LossIdeal.τ).loc Cert.LossIdeal.main_arg1)
      ∧ m' ((c.tc : Thread Cert.ReferenceLossIdeal.nD Cert.ReferenceLossIdeal.τ).loc Cert.ReferenceLossIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_2)) (v1 : (c : Dev Cert.LossIdeal.nD) → Buf (Elt Ideal) ((c.tc : Thread Cert.LossIdeal.nD Cert.LossIdeal.τ).loc Cert.LossIdeal.main_v1_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_2) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v32) = v0 c
          ∧ r.2.mem ((c.tc : Thread Cert.ReferenceLossIdeal.nD Cert.ReferenceLossIdeal.τ).loc Cert.ReferenceLossIdeal.main_v33) = v1 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2))

def preserves_LossDx_LossDxIdeal : Prop :=
  True

def algebraic_LossDxIdeal_ReferenceLossDxIdeal [hLossDxIdeal : Cert.LossDxIdeal.Facts] [hReferenceLossDxIdeal : Cert.ReferenceLossDxIdeal.Facts] : Prop :=
  ∀ (m : (ℓ : Loc Cert.LossDxIdeal.nD Cert.LossDxIdeal.τ Cert.LossDxIdeal.sig) → Buf (Elt Ideal) ℓ) (g : Dev Cert.LossDxIdeal.nD → PrngReg)
    (m' : (ℓ : Loc Cert.ReferenceLossDxIdeal.nD Cert.ReferenceLossDxIdeal.τ Cert.ReferenceLossDxIdeal.sig) → Buf (Elt Ideal) ℓ) (g' : Dev Cert.ReferenceLossDxIdeal.nD → PrngReg), Pre_LossDxIdeal m →
    (∀ c : Dev Cert.LossDxIdeal.nD,
      m' ((c.tc : Thread Cert.ReferenceLossDxIdeal.nD Cert.ReferenceLossDxIdeal.τ).loc Cert.ReferenceLossDxIdeal.main_arg0) = m ((c.tc : Thread Cert.LossDxIdeal.nD Cert.LossDxIdeal.τ).loc Cert.LossDxIdeal.main_arg0)
      ∧ m' ((c.tc : Thread Cert.ReferenceLossDxIdeal.nD Cert.ReferenceLossDxIdeal.τ).loc Cert.ReferenceLossDxIdeal.main_arg1) = m ((c.tc : Thread Cert.LossDxIdeal.nD Cert.LossDxIdeal.τ).loc Cert.LossDxIdeal.main_arg1)
      ∧ m' ((c.tc : Thread Cert.ReferenceLossDxIdeal.nD Cert.ReferenceLossDxIdeal.τ).loc Cert.ReferenceLossDxIdeal.main_arg2) = m ((c.tc : Thread Cert.LossDxIdeal.nD Cert.LossDxIdeal.τ).loc Cert.LossDxIdeal.main_arg2)) →
    ∃ (v0 : (c : Dev Cert.LossDxIdeal.nD) → Buf (Elt Ideal) ((c.tc : Thread Cert.LossDxIdeal.nD Cert.LossDxIdeal.τ).loc Cert.LossDxIdeal.main_v1_0)) (v1 : (c : Dev Cert.LossDxIdeal.nD) → Buf (Elt Ideal) ((c.tc : Thread Cert.LossDxIdeal.nD Cert.LossDxIdeal.τ).loc Cert.LossDxIdeal.main_v1_3)),
      θ_run (Cert.LossDxIdeal.defs (F := Ideal)) (onTc (τ := Cert.LossDxIdeal.τ) (Cert.LossDxIdeal.main (F := Ideal))) ⟨m, fun _ => 0, g⟩ (fun r => ∀ c : Dev Cert.LossDxIdeal.nD,
          r.2.mem ((c.tc : Thread Cert.LossDxIdeal.nD Cert.LossDxIdeal.τ).loc Cert.LossDxIdeal.main_v1_0) = v0 c
          ∧ r.2.mem ((c.tc : Thread Cert.LossDxIdeal.nD Cert.LossDxIdeal.τ).loc Cert.LossDxIdeal.main_v1_3) = v1 c
          ∧ r.2.mem ((c.tc : Thread Cert.LossDxIdeal.nD Cert.LossDxIdeal.τ).loc Cert.LossDxIdeal.main_arg0) = m ((c.tc : Thread Cert.LossDxIdeal.nD Cert.LossDxIdeal.τ).loc Cert.LossDxIdeal.main_arg0)
          ∧ r.2.mem ((c.tc : Thread Cert.LossDxIdeal.nD Cert.LossDxIdeal.τ).loc Cert.LossDxIdeal.main_arg1) = m ((c.tc : Thread Cert.LossDxIdeal.nD Cert.LossDxIdeal.τ).loc Cert.LossDxIdeal.main_arg1)
          ∧ r.2.mem ((c.tc : Thread Cert.LossDxIdeal.nD Cert.LossDxIdeal.τ).loc Cert.LossDxIdeal.main_arg2) = m ((c.tc : Thread Cert.LossDxIdeal.nD Cert.LossDxIdeal.τ).loc Cert.LossDxIdeal.main_arg2))
      ∧ θ_run (Cert.ReferenceLossDxIdeal.defs (F := Ideal)) (onTc (τ := Cert.ReferenceLossDxIdeal.τ) (Cert.ReferenceLossDxIdeal.main (F := Ideal))) ⟨m', fun _ => 0, g'⟩ (fun r => ∀ c : Dev Cert.ReferenceLossDxIdeal.nD,
          r.2.mem ((c.tc : Thread Cert.ReferenceLossDxIdeal.nD Cert.ReferenceLossDxIdeal.τ).loc Cert.ReferenceLossDxIdeal.main_v46) = v0 c
          ∧ r.2.mem ((c.tc : Thread Cert.ReferenceLossDxIdeal.nD Cert.ReferenceLossDxIdeal.τ).loc Cert.ReferenceLossDxIdeal.main_v47) = v1 c
          ∧ r.2.mem ((c.tc : Thread Cert.ReferenceLossDxIdeal.nD Cert.ReferenceLossDxIdeal.τ).loc Cert.ReferenceLossDxIdeal.main_arg0) = m' ((c.tc : Thread Cert.ReferenceLossDxIdeal.nD Cert.ReferenceLossDxIdeal.τ).loc Cert.ReferenceLossDxIdeal.main_arg0)
          ∧ r.2.mem ((c.tc : Thread Cert.ReferenceLossDxIdeal.nD Cert.ReferenceLossDxIdeal.τ).loc Cert.ReferenceLossDxIdeal.main_arg1) = m' ((c.tc : Thread Cert.ReferenceLossDxIdeal.nD Cert.ReferenceLossDxIdeal.τ).loc Cert.ReferenceLossDxIdeal.main_arg1)
          ∧ r.2.mem ((c.tc : Thread Cert.ReferenceLossDxIdeal.nD Cert.ReferenceLossDxIdeal.τ).loc Cert.ReferenceLossDxIdeal.main_arg2) = m' ((c.tc : Thread Cert.ReferenceLossDxIdeal.nD Cert.ReferenceLossDxIdeal.τ).loc Cert.ReferenceLossDxIdeal.main_arg2))

def preserves_MixNorm_MixNormIdeal : Prop :=
  True

def algebraic_MixNormIdeal_ReferenceMixNormIdeal [hMixNormIdeal : Cert.MixNormIdeal.Facts] [hReferenceMixNormIdeal : Cert.ReferenceMixNormIdeal.Facts] : Prop :=
  ∀ (m : (ℓ : Loc Cert.MixNormIdeal.nD Cert.MixNormIdeal.τ Cert.MixNormIdeal.sig) → Buf (Elt Ideal) ℓ) (g : Dev Cert.MixNormIdeal.nD → PrngReg)
    (m' : (ℓ : Loc Cert.ReferenceMixNormIdeal.nD Cert.ReferenceMixNormIdeal.τ Cert.ReferenceMixNormIdeal.sig) → Buf (Elt Ideal) ℓ) (g' : Dev Cert.ReferenceMixNormIdeal.nD → PrngReg), Pre_MixNormIdeal m →
    (∀ c : Dev Cert.MixNormIdeal.nD,
      m' ((c.tc : Thread Cert.ReferenceMixNormIdeal.nD Cert.ReferenceMixNormIdeal.τ).loc Cert.ReferenceMixNormIdeal.main_arg0) = m ((c.tc : Thread Cert.MixNormIdeal.nD Cert.MixNormIdeal.τ).loc Cert.MixNormIdeal.main_arg0)
      ∧ m' ((c.tc : Thread Cert.ReferenceMixNormIdeal.nD Cert.ReferenceMixNormIdeal.τ).loc Cert.ReferenceMixNormIdeal.main_arg1) = m ((c.tc : Thread Cert.MixNormIdeal.nD Cert.MixNormIdeal.τ).loc Cert.MixNormIdeal.main_arg1)) →
    ∃ (v0 : (c : Dev Cert.MixNormIdeal.nD) → Buf (Elt Ideal) ((c.tc : Thread Cert.MixNormIdeal.nD Cert.MixNormIdeal.τ).loc Cert.MixNormIdeal.main_v1)),
      θ_run (Cert.MixNormIdeal.defs (F := Ideal)) (onTc (τ := Cert.MixNormIdeal.τ) (Cert.MixNormIdeal.main (F := Ideal))) ⟨m, fun _ => 0, g⟩ (fun r => ∀ c : Dev Cert.MixNormIdeal.nD,
          r.2.mem ((c.tc : Thread Cert.MixNormIdeal.nD Cert.MixNormIdeal.τ).loc Cert.MixNormIdeal.main_v1) = v0 c
          ∧ r.2.mem ((c.tc : Thread Cert.MixNormIdeal.nD Cert.MixNormIdeal.τ).loc Cert.MixNormIdeal.main_arg0) = m ((c.tc : Thread Cert.MixNormIdeal.nD Cert.MixNormIdeal.τ).loc Cert.MixNormIdeal.main_arg0)
          ∧ r.2.mem ((c.tc : Thread Cert.MixNormIdeal.nD Cert.MixNormIdeal.τ).loc Cert.MixNormIdeal.main_arg1) = m ((c.tc : Thread Cert.MixNormIdeal.nD Cert.MixNormIdeal.τ).loc Cert.MixNormIdeal.main_arg1))
      ∧ θ_run (Cert.ReferenceMixNormIdeal.defs (F := Ideal)) (onTc (τ := Cert.ReferenceMixNormIdeal.τ) (Cert.ReferenceMixNormIdeal.main (F := Ideal))) ⟨m', fun _ => 0, g'⟩ (fun r => ∀ c : Dev Cert.ReferenceMixNormIdeal.nD,
          r.2.mem ((c.tc : Thread Cert.ReferenceMixNormIdeal.nD Cert.ReferenceMixNormIdeal.τ).loc Cert.ReferenceMixNormIdeal.main_v13) = v0 c
          ∧ r.2.mem ((c.tc : Thread Cert.ReferenceMixNormIdeal.nD Cert.ReferenceMixNormIdeal.τ).loc Cert.ReferenceMixNormIdeal.main_arg0) = m' ((c.tc : Thread Cert.ReferenceMixNormIdeal.nD Cert.ReferenceMixNormIdeal.τ).loc Cert.ReferenceMixNormIdeal.main_arg0)
          ∧ r.2.mem ((c.tc : Thread Cert.ReferenceMixNormIdeal.nD Cert.ReferenceMixNormIdeal.τ).loc Cert.ReferenceMixNormIdeal.main_arg1) = m' ((c.tc : Thread Cert.ReferenceMixNormIdeal.nD Cert.ReferenceMixNormIdeal.τ).loc Cert.ReferenceMixNormIdeal.main_arg1))

def preserves_MixDmix_MixDmixIdeal : Prop :=
  True

def algebraic_MixDmixIdeal_ReferenceMixDmixIdeal [hMixDmixIdeal : Cert.MixDmixIdeal.Facts] [hReferenceMixDmixIdeal : Cert.ReferenceMixDmixIdeal.Facts] : Prop :=
  ∀ (m : (ℓ : Loc Cert.MixDmixIdeal.nD Cert.MixDmixIdeal.τ Cert.MixDmixIdeal.sig) → Buf (Elt Ideal) ℓ) (g : Dev Cert.MixDmixIdeal.nD → PrngReg)
    (m' : (ℓ : Loc Cert.ReferenceMixDmixIdeal.nD Cert.ReferenceMixDmixIdeal.τ Cert.ReferenceMixDmixIdeal.sig) → Buf (Elt Ideal) ℓ) (g' : Dev Cert.ReferenceMixDmixIdeal.nD → PrngReg), Pre_MixDmixIdeal m →
    (∀ c : Dev Cert.MixDmixIdeal.nD,
      m' ((c.tc : Thread Cert.ReferenceMixDmixIdeal.nD Cert.ReferenceMixDmixIdeal.τ).loc Cert.ReferenceMixDmixIdeal.main_arg0) = m ((c.tc : Thread Cert.MixDmixIdeal.nD Cert.MixDmixIdeal.τ).loc Cert.MixDmixIdeal.main_arg0)
      ∧ m' ((c.tc : Thread Cert.ReferenceMixDmixIdeal.nD Cert.ReferenceMixDmixIdeal.τ).loc Cert.ReferenceMixDmixIdeal.main_arg1) = m ((c.tc : Thread Cert.MixDmixIdeal.nD Cert.MixDmixIdeal.τ).loc Cert.MixDmixIdeal.main_arg1)
      ∧ m' ((c.tc : Thread Cert.ReferenceMixDmixIdeal.nD Cert.ReferenceMixDmixIdeal.τ).loc Cert.ReferenceMixDmixIdeal.main_arg2) = m ((c.tc : Thread Cert.MixDmixIdeal.nD Cert.MixDmixIdeal.τ).loc Cert.MixDmixIdeal.main_arg2)
      ∧ m' ((c.tc : Thread Cert.ReferenceMixDmixIdeal.nD Cert.ReferenceMixDmixIdeal.τ).loc Cert.ReferenceMixDmixIdeal.main_arg3) = m ((c.tc : Thread Cert.MixDmixIdeal.nD Cert.MixDmixIdeal.τ).loc Cert.MixDmixIdeal.main_arg3)) →
    ∃ (v0 : (c : Dev Cert.MixDmixIdeal.nD) → Buf (Elt Ideal) ((c.tc : Thread Cert.MixDmixIdeal.nD Cert.MixDmixIdeal.τ).loc Cert.MixDmixIdeal.main_v2)),
      θ_run (Cert.MixDmixIdeal.defs (F := Ideal)) (onTc (τ := Cert.MixDmixIdeal.τ) (Cert.MixDmixIdeal.main (F := Ideal))) ⟨m, fun _ => 0, g⟩ (fun r => ∀ c : Dev Cert.MixDmixIdeal.nD,
          r.2.mem ((c.tc : Thread Cert.MixDmixIdeal.nD Cert.MixDmixIdeal.τ).loc Cert.MixDmixIdeal.main_v2) = v0 c
          ∧ r.2.mem ((c.tc : Thread Cert.MixDmixIdeal.nD Cert.MixDmixIdeal.τ).loc Cert.MixDmixIdeal.main_arg0) = m ((c.tc : Thread Cert.MixDmixIdeal.nD Cert.MixDmixIdeal.τ).loc Cert.MixDmixIdeal.main_arg0)
          ∧ r.2.mem ((c.tc : Thread Cert.MixDmixIdeal.nD Cert.MixDmixIdeal.τ).loc Cert.MixDmixIdeal.main_arg1) = m ((c.tc : Thread Cert.MixDmixIdeal.nD Cert.MixDmixIdeal.τ).loc Cert.MixDmixIdeal.main_arg1)
          ∧ r.2.mem ((c.tc : Thread Cert.MixDmixIdeal.nD Cert.MixDmixIdeal.τ).loc Cert.MixDmixIdeal.main_arg2) = m ((c.tc : Thread Cert.MixDmixIdeal.nD Cert.MixDmixIdeal.τ).loc Cert.MixDmixIdeal.main_arg2)
          ∧ r.2.mem ((c.tc : Thread Cert.MixDmixIdeal.nD Cert.MixDmixIdeal.τ).loc Cert.MixDmixIdeal.main_arg3) = m ((c.tc : Thread Cert.MixDmixIdeal.nD Cert.MixDmixIdeal.τ).loc Cert.MixDmixIdeal.main_arg3))
      ∧ θ_run (Cert.ReferenceMixDmixIdeal.defs (F := Ideal)) (onTc (τ := Cert.ReferenceMixDmixIdeal.τ) (Cert.ReferenceMixDmixIdeal.main (F := Ideal))) ⟨m', fun _ => 0, g'⟩ (fun r => ∀ c : Dev Cert.ReferenceMixDmixIdeal.nD,
          r.2.mem ((c.tc : Thread Cert.ReferenceMixDmixIdeal.nD Cert.ReferenceMixDmixIdeal.τ).loc Cert.ReferenceMixDmixIdeal.main_v2) = v0 c
          ∧ r.2.mem ((c.tc : Thread Cert.ReferenceMixDmixIdeal.nD Cert.ReferenceMixDmixIdeal.τ).loc Cert.ReferenceMixDmixIdeal.main_arg0) = m' ((c.tc : Thread Cert.ReferenceMixDmixIdeal.nD Cert.ReferenceMixDmixIdeal.τ).loc Cert.ReferenceMixDmixIdeal.main_arg0)
          ∧ r.2.mem ((c.tc : Thread Cert.ReferenceMixDmixIdeal.nD Cert.ReferenceMixDmixIdeal.τ).loc Cert.ReferenceMixDmixIdeal.main_arg1) = m' ((c.tc : Thread Cert.ReferenceMixDmixIdeal.nD Cert.ReferenceMixDmixIdeal.τ).loc Cert.ReferenceMixDmixIdeal.main_arg1)
          ∧ r.2.mem ((c.tc : Thread Cert.ReferenceMixDmixIdeal.nD Cert.ReferenceMixDmixIdeal.τ).loc Cert.ReferenceMixDmixIdeal.main_arg2) = m' ((c.tc : Thread Cert.ReferenceMixDmixIdeal.nD Cert.ReferenceMixDmixIdeal.τ).loc Cert.ReferenceMixDmixIdeal.main_arg2)
          ∧ r.2.mem ((c.tc : Thread Cert.ReferenceMixDmixIdeal.nD Cert.ReferenceMixDmixIdeal.τ).loc Cert.ReferenceMixDmixIdeal.main_arg3) = m' ((c.tc : Thread Cert.ReferenceMixDmixIdeal.nD Cert.ReferenceMixDmixIdeal.τ).loc Cert.ReferenceMixDmixIdeal.main_arg3))

def preserves_OdDwout_OdDwoutIdeal : Prop :=
  True

def algebraic_OdDwoutIdeal_ReferenceOdDwoutIdeal [hOdDwoutIdeal : Cert.OdDwoutIdeal.Facts] [hReferenceOdDwoutIdeal : Cert.ReferenceOdDwoutIdeal.Facts] : Prop :=
  ∀ (m : (ℓ : Loc Cert.OdDwoutIdeal.nD Cert.OdDwoutIdeal.τ Cert.OdDwoutIdeal.sig) → Buf (Elt Ideal) ℓ) (g : Dev Cert.OdDwoutIdeal.nD → PrngReg)
    (m' : (ℓ : Loc Cert.ReferenceOdDwoutIdeal.nD Cert.ReferenceOdDwoutIdeal.τ Cert.ReferenceOdDwoutIdeal.sig) → Buf (Elt Ideal) ℓ) (g' : Dev Cert.ReferenceOdDwoutIdeal.nD → PrngReg), Pre_OdDwoutIdeal m →
    (∀ c : Dev Cert.OdDwoutIdeal.nD,
      m' ((c.tc : Thread Cert.ReferenceOdDwoutIdeal.nD Cert.ReferenceOdDwoutIdeal.τ).loc Cert.ReferenceOdDwoutIdeal.main_arg0) = m ((c.tc : Thread Cert.OdDwoutIdeal.nD Cert.OdDwoutIdeal.τ).loc Cert.OdDwoutIdeal.main_arg0)
      ∧ m' ((c.tc : Thread Cert.ReferenceOdDwoutIdeal.nD Cert.ReferenceOdDwoutIdeal.τ).loc Cert.ReferenceOdDwoutIdeal.main_arg1) = m ((c.tc : Thread Cert.OdDwoutIdeal.nD Cert.OdDwoutIdeal.τ).loc Cert.OdDwoutIdeal.main_arg1)
      ∧ m' ((c.tc : Thread Cert.ReferenceOdDwoutIdeal.nD Cert.ReferenceOdDwoutIdeal.τ).loc Cert.ReferenceOdDwoutIdeal.main_arg2) = m ((c.tc : Thread Cert.OdDwoutIdeal.nD Cert.OdDwoutIdeal.τ).loc Cert.OdDwoutIdeal.main_arg2)
      ∧ m' ((c.tc : Thread Cert.ReferenceOdDwoutIdeal.nD Cert.ReferenceOdDwoutIdeal.τ).loc Cert.ReferenceOdDwoutIdeal.main_arg3) = m ((c.tc : Thread Cert.OdDwoutIdeal.nD Cert.OdDwoutIdeal.τ).loc Cert.OdDwoutIdeal.main_arg3)) →
    ∃ (v0 : (c : Dev Cert.OdDwoutIdeal.nD) → Buf (Elt Ideal) ((c.tc : Thread Cert.OdDwoutIdeal.nD Cert.OdDwoutIdeal.τ).loc Cert.OdDwoutIdeal.main_v3)),
      θ_run (Cert.OdDwoutIdeal.defs (F := Ideal)) (onTc (τ := Cert.OdDwoutIdeal.τ) (Cert.OdDwoutIdeal.main (F := Ideal))) ⟨m, fun _ => 0, g⟩ (fun r => ∀ c : Dev Cert.OdDwoutIdeal.nD,
          r.2.mem ((c.tc : Thread Cert.OdDwoutIdeal.nD Cert.OdDwoutIdeal.τ).loc Cert.OdDwoutIdeal.main_v3) = v0 c
          ∧ r.2.mem ((c.tc : Thread Cert.OdDwoutIdeal.nD Cert.OdDwoutIdeal.τ).loc Cert.OdDwoutIdeal.main_arg0) = m ((c.tc : Thread Cert.OdDwoutIdeal.nD Cert.OdDwoutIdeal.τ).loc Cert.OdDwoutIdeal.main_arg0)
          ∧ r.2.mem ((c.tc : Thread Cert.OdDwoutIdeal.nD Cert.OdDwoutIdeal.τ).loc Cert.OdDwoutIdeal.main_arg1) = m ((c.tc : Thread Cert.OdDwoutIdeal.nD Cert.OdDwoutIdeal.τ).loc Cert.OdDwoutIdeal.main_arg1)
          ∧ r.2.mem ((c.tc : Thread Cert.OdDwoutIdeal.nD Cert.OdDwoutIdeal.τ).loc Cert.OdDwoutIdeal.main_arg2) = m ((c.tc : Thread Cert.OdDwoutIdeal.nD Cert.OdDwoutIdeal.τ).loc Cert.OdDwoutIdeal.main_arg2)
          ∧ r.2.mem ((c.tc : Thread Cert.OdDwoutIdeal.nD Cert.OdDwoutIdeal.τ).loc Cert.OdDwoutIdeal.main_arg3) = m ((c.tc : Thread Cert.OdDwoutIdeal.nD Cert.OdDwoutIdeal.τ).loc Cert.OdDwoutIdeal.main_arg3))
      ∧ θ_run (Cert.ReferenceOdDwoutIdeal.defs (F := Ideal)) (onTc (τ := Cert.ReferenceOdDwoutIdeal.τ) (Cert.ReferenceOdDwoutIdeal.main (F := Ideal))) ⟨m', fun _ => 0, g'⟩ (fun r => ∀ c : Dev Cert.ReferenceOdDwoutIdeal.nD,
          r.2.mem ((c.tc : Thread Cert.ReferenceOdDwoutIdeal.nD Cert.ReferenceOdDwoutIdeal.τ).loc Cert.ReferenceOdDwoutIdeal.main_v4) = v0 c
          ∧ r.2.mem ((c.tc : Thread Cert.ReferenceOdDwoutIdeal.nD Cert.ReferenceOdDwoutIdeal.τ).loc Cert.ReferenceOdDwoutIdeal.main_arg0) = m' ((c.tc : Thread Cert.ReferenceOdDwoutIdeal.nD Cert.ReferenceOdDwoutIdeal.τ).loc Cert.ReferenceOdDwoutIdeal.main_arg0)
          ∧ r.2.mem ((c.tc : Thread Cert.ReferenceOdDwoutIdeal.nD Cert.ReferenceOdDwoutIdeal.τ).loc Cert.ReferenceOdDwoutIdeal.main_arg1) = m' ((c.tc : Thread Cert.ReferenceOdDwoutIdeal.nD Cert.ReferenceOdDwoutIdeal.τ).loc Cert.ReferenceOdDwoutIdeal.main_arg1)
          ∧ r.2.mem ((c.tc : Thread Cert.ReferenceOdDwoutIdeal.nD Cert.ReferenceOdDwoutIdeal.τ).loc Cert.ReferenceOdDwoutIdeal.main_arg2) = m' ((c.tc : Thread Cert.ReferenceOdDwoutIdeal.nD Cert.ReferenceOdDwoutIdeal.τ).loc Cert.ReferenceOdDwoutIdeal.main_arg2)
          ∧ r.2.mem ((c.tc : Thread Cert.ReferenceOdDwoutIdeal.nD Cert.ReferenceOdDwoutIdeal.τ).loc Cert.ReferenceOdDwoutIdeal.main_arg3) = m' ((c.tc : Thread Cert.ReferenceOdDwoutIdeal.nD Cert.ReferenceOdDwoutIdeal.τ).loc Cert.ReferenceOdDwoutIdeal.main_arg3))

def preserves_EvDwout_EvDwoutIdeal : Prop :=
  True

def algebraic_EvDwoutIdeal_ReferenceEvDwoutIdeal [hEvDwoutIdeal : Cert.EvDwoutIdeal.Facts] [hReferenceEvDwoutIdeal : Cert.ReferenceEvDwoutIdeal.Facts] : Prop :=
  ∀ (m : (ℓ : Loc Cert.EvDwoutIdeal.nD Cert.EvDwoutIdeal.τ Cert.EvDwoutIdeal.sig) → Buf (Elt Ideal) ℓ) (g : Dev Cert.EvDwoutIdeal.nD → PrngReg)
    (m' : (ℓ : Loc Cert.ReferenceEvDwoutIdeal.nD Cert.ReferenceEvDwoutIdeal.τ Cert.ReferenceEvDwoutIdeal.sig) → Buf (Elt Ideal) ℓ) (g' : Dev Cert.ReferenceEvDwoutIdeal.nD → PrngReg), Pre_EvDwoutIdeal m →
    (∀ c : Dev Cert.EvDwoutIdeal.nD,
      m' ((c.tc : Thread Cert.ReferenceEvDwoutIdeal.nD Cert.ReferenceEvDwoutIdeal.τ).loc Cert.ReferenceEvDwoutIdeal.main_arg0) = m ((c.tc : Thread Cert.EvDwoutIdeal.nD Cert.EvDwoutIdeal.τ).loc Cert.EvDwoutIdeal.main_arg0)
      ∧ m' ((c.tc : Thread Cert.ReferenceEvDwoutIdeal.nD Cert.ReferenceEvDwoutIdeal.τ).loc Cert.ReferenceEvDwoutIdeal.main_arg1) = m ((c.tc : Thread Cert.EvDwoutIdeal.nD Cert.EvDwoutIdeal.τ).loc Cert.EvDwoutIdeal.main_arg1)
      ∧ m' ((c.tc : Thread Cert.ReferenceEvDwoutIdeal.nD Cert.ReferenceEvDwoutIdeal.τ).loc Cert.ReferenceEvDwoutIdeal.main_arg2) = m ((c.tc : Thread Cert.EvDwoutIdeal.nD Cert.EvDwoutIdeal.τ).loc Cert.EvDwoutIdeal.main_arg2)
      ∧ m' ((c.tc : Thread Cert.ReferenceEvDwoutIdeal.nD Cert.ReferenceEvDwoutIdeal.τ).loc Cert.ReferenceEvDwoutIdeal.main_arg3) = m ((c.tc : Thread Cert.EvDwoutIdeal.nD Cert.EvDwoutIdeal.τ).loc Cert.EvDwoutIdeal.main_arg3)
      ∧ m' ((c.tc : Thread Cert.ReferenceEvDwoutIdeal.nD Cert.ReferenceEvDwoutIdeal.τ).loc Cert.ReferenceEvDwoutIdeal.main_arg4) = m ((c.tc : Thread Cert.EvDwoutIdeal.nD Cert.EvDwoutIdeal.τ).loc Cert.EvDwoutIdeal.main_arg4)) →
    ∃ (v0 : (c : Dev Cert.EvDwoutIdeal.nD) → Buf (Elt Ideal) ((c.tc : Thread Cert.EvDwoutIdeal.nD Cert.EvDwoutIdeal.τ).loc Cert.EvDwoutIdeal.main_v4)),
      θ_run (Cert.EvDwoutIdeal.defs (F := Ideal)) (onTc (τ := Cert.EvDwoutIdeal.τ) (Cert.EvDwoutIdeal.main (F := Ideal))) ⟨m, fun _ => 0, g⟩ (fun r => ∀ c : Dev Cert.EvDwoutIdeal.nD,
          r.2.mem ((c.tc : Thread Cert.EvDwoutIdeal.nD Cert.EvDwoutIdeal.τ).loc Cert.EvDwoutIdeal.main_v4) = v0 c
          ∧ r.2.mem ((c.tc : Thread Cert.EvDwoutIdeal.nD Cert.EvDwoutIdeal.τ).loc Cert.EvDwoutIdeal.main_arg0) = m ((c.tc : Thread Cert.EvDwoutIdeal.nD Cert.EvDwoutIdeal.τ).loc Cert.EvDwoutIdeal.main_arg0)
          ∧ r.2.mem ((c.tc : Thread Cert.EvDwoutIdeal.nD Cert.EvDwoutIdeal.τ).loc Cert.EvDwoutIdeal.main_arg1) = m ((c.tc : Thread Cert.EvDwoutIdeal.nD Cert.EvDwoutIdeal.τ).loc Cert.EvDwoutIdeal.main_arg1)
          ∧ r.2.mem ((c.tc : Thread Cert.EvDwoutIdeal.nD Cert.EvDwoutIdeal.τ).loc Cert.EvDwoutIdeal.main_arg2) = m ((c.tc : Thread Cert.EvDwoutIdeal.nD Cert.EvDwoutIdeal.τ).loc Cert.EvDwoutIdeal.main_arg2)
          ∧ r.2.mem ((c.tc : Thread Cert.EvDwoutIdeal.nD Cert.EvDwoutIdeal.τ).loc Cert.EvDwoutIdeal.main_arg3) = m ((c.tc : Thread Cert.EvDwoutIdeal.nD Cert.EvDwoutIdeal.τ).loc Cert.EvDwoutIdeal.main_arg3)
          ∧ r.2.mem ((c.tc : Thread Cert.EvDwoutIdeal.nD Cert.EvDwoutIdeal.τ).loc Cert.EvDwoutIdeal.main_arg4) = m ((c.tc : Thread Cert.EvDwoutIdeal.nD Cert.EvDwoutIdeal.τ).loc Cert.EvDwoutIdeal.main_arg4))
      ∧ θ_run (Cert.ReferenceEvDwoutIdeal.defs (F := Ideal)) (onTc (τ := Cert.ReferenceEvDwoutIdeal.τ) (Cert.ReferenceEvDwoutIdeal.main (F := Ideal))) ⟨m', fun _ => 0, g'⟩ (fun r => ∀ c : Dev Cert.ReferenceEvDwoutIdeal.nD,
          r.2.mem ((c.tc : Thread Cert.ReferenceEvDwoutIdeal.nD Cert.ReferenceEvDwoutIdeal.τ).loc Cert.ReferenceEvDwoutIdeal.main_v5) = v0 c
          ∧ r.2.mem ((c.tc : Thread Cert.ReferenceEvDwoutIdeal.nD Cert.ReferenceEvDwoutIdeal.τ).loc Cert.ReferenceEvDwoutIdeal.main_arg0) = m' ((c.tc : Thread Cert.ReferenceEvDwoutIdeal.nD Cert.ReferenceEvDwoutIdeal.τ).loc Cert.ReferenceEvDwoutIdeal.main_arg0)
          ∧ r.2.mem ((c.tc : Thread Cert.ReferenceEvDwoutIdeal.nD Cert.ReferenceEvDwoutIdeal.τ).loc Cert.ReferenceEvDwoutIdeal.main_arg1) = m' ((c.tc : Thread Cert.ReferenceEvDwoutIdeal.nD Cert.ReferenceEvDwoutIdeal.τ).loc Cert.ReferenceEvDwoutIdeal.main_arg1)
          ∧ r.2.mem ((c.tc : Thread Cert.ReferenceEvDwoutIdeal.nD Cert.ReferenceEvDwoutIdeal.τ).loc Cert.ReferenceEvDwoutIdeal.main_arg2) = m' ((c.tc : Thread Cert.ReferenceEvDwoutIdeal.nD Cert.ReferenceEvDwoutIdeal.τ).loc Cert.ReferenceEvDwoutIdeal.main_arg2)
          ∧ r.2.mem ((c.tc : Thread Cert.ReferenceEvDwoutIdeal.nD Cert.ReferenceEvDwoutIdeal.τ).loc Cert.ReferenceEvDwoutIdeal.main_arg3) = m' ((c.tc : Thread Cert.ReferenceEvDwoutIdeal.nD Cert.ReferenceEvDwoutIdeal.τ).loc Cert.ReferenceEvDwoutIdeal.main_arg3)
          ∧ r.2.mem ((c.tc : Thread Cert.ReferenceEvDwoutIdeal.nD Cert.ReferenceEvDwoutIdeal.τ).loc Cert.ReferenceEvDwoutIdeal.main_arg4) = m' ((c.tc : Thread Cert.ReferenceEvDwoutIdeal.nD Cert.ReferenceEvDwoutIdeal.τ).loc Cert.ReferenceEvDwoutIdeal.main_arg4))

def preserves_OdDwin_OdDwinIdeal : Prop :=
  True

def algebraic_OdDwinIdeal_ReferenceOdDwinIdeal [hOdDwinIdeal : Cert.OdDwinIdeal.Facts] [hReferenceOdDwinIdeal : Cert.ReferenceOdDwinIdeal.Facts] : Prop :=
  ∀ (m : (ℓ : Loc Cert.OdDwinIdeal.nD Cert.OdDwinIdeal.τ Cert.OdDwinIdeal.sig) → Buf (Elt Ideal) ℓ) (g : Dev Cert.OdDwinIdeal.nD → PrngReg)
    (m' : (ℓ : Loc Cert.ReferenceOdDwinIdeal.nD Cert.ReferenceOdDwinIdeal.τ Cert.ReferenceOdDwinIdeal.sig) → Buf (Elt Ideal) ℓ) (g' : Dev Cert.ReferenceOdDwinIdeal.nD → PrngReg), Pre_OdDwinIdeal m →
    (∀ c : Dev Cert.OdDwinIdeal.nD,
      m' ((c.tc : Thread Cert.ReferenceOdDwinIdeal.nD Cert.ReferenceOdDwinIdeal.τ).loc Cert.ReferenceOdDwinIdeal.main_arg0) = m ((c.tc : Thread Cert.OdDwinIdeal.nD Cert.OdDwinIdeal.τ).loc Cert.OdDwinIdeal.main_arg0)
      ∧ m' ((c.tc : Thread Cert.ReferenceOdDwinIdeal.nD Cert.ReferenceOdDwinIdeal.τ).loc Cert.ReferenceOdDwinIdeal.main_arg1) = m ((c.tc : Thread Cert.OdDwinIdeal.nD Cert.OdDwinIdeal.τ).loc Cert.OdDwinIdeal.main_arg1)
      ∧ m' ((c.tc : Thread Cert.ReferenceOdDwinIdeal.nD Cert.ReferenceOdDwinIdeal.τ).loc Cert.ReferenceOdDwinIdeal.main_arg2) = m ((c.tc : Thread Cert.OdDwinIdeal.nD Cert.OdDwinIdeal.τ).loc Cert.OdDwinIdeal.main_arg2)
      ∧ m' ((c.tc : Thread Cert.ReferenceOdDwinIdeal.nD Cert.ReferenceOdDwinIdeal.τ).loc Cert.ReferenceOdDwinIdeal.main_arg3) = m ((c.tc : Thread Cert.OdDwinIdeal.nD Cert.OdDwinIdeal.τ).loc Cert.OdDwinIdeal.main_arg3)) →
    ∃ (v0 : (c : Dev Cert.OdDwinIdeal.nD) → Buf (Elt Ideal) ((c.tc : Thread Cert.OdDwinIdeal.nD Cert.OdDwinIdeal.τ).loc Cert.OdDwinIdeal.main_v16)),
      θ_run (Cert.OdDwinIdeal.defs (F := Ideal)) (onTc (τ := Cert.OdDwinIdeal.τ) (Cert.OdDwinIdeal.main (F := Ideal))) ⟨m, fun _ => 0, g⟩ (fun r => ∀ c : Dev Cert.OdDwinIdeal.nD,
          r.2.mem ((c.tc : Thread Cert.OdDwinIdeal.nD Cert.OdDwinIdeal.τ).loc Cert.OdDwinIdeal.main_v16) = v0 c
          ∧ r.2.mem ((c.tc : Thread Cert.OdDwinIdeal.nD Cert.OdDwinIdeal.τ).loc Cert.OdDwinIdeal.main_arg0) = m ((c.tc : Thread Cert.OdDwinIdeal.nD Cert.OdDwinIdeal.τ).loc Cert.OdDwinIdeal.main_arg0)
          ∧ r.2.mem ((c.tc : Thread Cert.OdDwinIdeal.nD Cert.OdDwinIdeal.τ).loc Cert.OdDwinIdeal.main_arg1) = m ((c.tc : Thread Cert.OdDwinIdeal.nD Cert.OdDwinIdeal.τ).loc Cert.OdDwinIdeal.main_arg1)
          ∧ r.2.mem ((c.tc : Thread Cert.OdDwinIdeal.nD Cert.OdDwinIdeal.τ).loc Cert.OdDwinIdeal.main_arg2) = m ((c.tc : Thread Cert.OdDwinIdeal.nD Cert.OdDwinIdeal.τ).loc Cert.OdDwinIdeal.main_arg2)
          ∧ r.2.mem ((c.tc : Thread Cert.OdDwinIdeal.nD Cert.OdDwinIdeal.τ).loc Cert.OdDwinIdeal.main_arg3) = m ((c.tc : Thread Cert.OdDwinIdeal.nD Cert.OdDwinIdeal.τ).loc Cert.OdDwinIdeal.main_arg3))
      ∧ θ_run (Cert.ReferenceOdDwinIdeal.defs (F := Ideal)) (onTc (τ := Cert.ReferenceOdDwinIdeal.τ) (Cert.ReferenceOdDwinIdeal.main (F := Ideal))) ⟨m', fun _ => 0, g'⟩ (fun r => ∀ c : Dev Cert.ReferenceOdDwinIdeal.nD,
          r.2.mem ((c.tc : Thread Cert.ReferenceOdDwinIdeal.nD Cert.ReferenceOdDwinIdeal.τ).loc Cert.ReferenceOdDwinIdeal.main_v16) = v0 c
          ∧ r.2.mem ((c.tc : Thread Cert.ReferenceOdDwinIdeal.nD Cert.ReferenceOdDwinIdeal.τ).loc Cert.ReferenceOdDwinIdeal.main_arg0) = m' ((c.tc : Thread Cert.ReferenceOdDwinIdeal.nD Cert.ReferenceOdDwinIdeal.τ).loc Cert.ReferenceOdDwinIdeal.main_arg0)
          ∧ r.2.mem ((c.tc : Thread Cert.ReferenceOdDwinIdeal.nD Cert.ReferenceOdDwinIdeal.τ).loc Cert.ReferenceOdDwinIdeal.main_arg1) = m' ((c.tc : Thread Cert.ReferenceOdDwinIdeal.nD Cert.ReferenceOdDwinIdeal.τ).loc Cert.ReferenceOdDwinIdeal.main_arg1)
          ∧ r.2.mem ((c.tc : Thread Cert.ReferenceOdDwinIdeal.nD Cert.ReferenceOdDwinIdeal.τ).loc Cert.ReferenceOdDwinIdeal.main_arg2) = m' ((c.tc : Thread Cert.ReferenceOdDwinIdeal.nD Cert.ReferenceOdDwinIdeal.τ).loc Cert.ReferenceOdDwinIdeal.main_arg2)
          ∧ r.2.mem ((c.tc : Thread Cert.ReferenceOdDwinIdeal.nD Cert.ReferenceOdDwinIdeal.τ).loc Cert.ReferenceOdDwinIdeal.main_arg3) = m' ((c.tc : Thread Cert.ReferenceOdDwinIdeal.nD Cert.ReferenceOdDwinIdeal.τ).loc Cert.ReferenceOdDwinIdeal.main_arg3))

def preserves_OdDh_OdDhIdeal : Prop :=
  True

def algebraic_OdDhIdeal_ReferenceOdDhIdeal [hOdDhIdeal : Cert.OdDhIdeal.Facts] [hReferenceOdDhIdeal : Cert.ReferenceOdDhIdeal.Facts] : Prop :=
  ∀ (m : (ℓ : Loc Cert.OdDhIdeal.nD Cert.OdDhIdeal.τ Cert.OdDhIdeal.sig) → Buf (Elt Ideal) ℓ) (g : Dev Cert.OdDhIdeal.nD → PrngReg)
    (m' : (ℓ : Loc Cert.ReferenceOdDhIdeal.nD Cert.ReferenceOdDhIdeal.τ Cert.ReferenceOdDhIdeal.sig) → Buf (Elt Ideal) ℓ) (g' : Dev Cert.ReferenceOdDhIdeal.nD → PrngReg), Pre_OdDhIdeal m →
    (∀ c : Dev Cert.OdDhIdeal.nD,
      m' ((c.tc : Thread Cert.ReferenceOdDhIdeal.nD Cert.ReferenceOdDhIdeal.τ).loc Cert.ReferenceOdDhIdeal.main_arg0) = m ((c.tc : Thread Cert.OdDhIdeal.nD Cert.OdDhIdeal.τ).loc Cert.OdDhIdeal.main_arg0)
      ∧ m' ((c.tc : Thread Cert.ReferenceOdDhIdeal.nD Cert.ReferenceOdDhIdeal.τ).loc Cert.ReferenceOdDhIdeal.main_arg1) = m ((c.tc : Thread Cert.OdDhIdeal.nD Cert.OdDhIdeal.τ).loc Cert.OdDhIdeal.main_arg1)
      ∧ m' ((c.tc : Thread Cert.ReferenceOdDhIdeal.nD Cert.ReferenceOdDhIdeal.τ).loc Cert.ReferenceOdDhIdeal.main_arg2) = m ((c.tc : Thread Cert.OdDhIdeal.nD Cert.OdDhIdeal.τ).loc Cert.OdDhIdeal.main_arg2)
      ∧ m' ((c.tc : Thread Cert.ReferenceOdDhIdeal.nD Cert.ReferenceOdDhIdeal.τ).loc Cert.ReferenceOdDhIdeal.main_arg3) = m ((c.tc : Thread Cert.OdDhIdeal.nD Cert.OdDhIdeal.τ).loc Cert.OdDhIdeal.main_arg3)
      ∧ m' ((c.tc : Thread Cert.ReferenceOdDhIdeal.nD Cert.ReferenceOdDhIdeal.τ).loc Cert.ReferenceOdDhIdeal.main_arg4) = m ((c.tc : Thread Cert.OdDhIdeal.nD Cert.OdDhIdeal.τ).loc Cert.OdDhIdeal.main_arg4)) →
    ∃ (v0 : (c : Dev Cert.OdDhIdeal.nD) → Buf (Elt Ideal) ((c.tc : Thread Cert.OdDhIdeal.nD Cert.OdDhIdeal.τ).loc Cert.OdDhIdeal.main_v3_0)) (v1 : (c : Dev Cert.OdDhIdeal.nD) → Buf (Elt Ideal) ((c.tc : Thread Cert.OdDhIdeal.nD Cert.OdDhIdeal.τ).loc Cert.OdDhIdeal.main_v3_2)) (v2 : (c : Dev Cert.OdDhIdeal.nD) → Buf (Elt Ideal) ((c.tc : Thread Cert.OdDhIdeal.nD Cert.OdDhIdeal.τ).loc Cert.OdDhIdeal.main_v3_1)),
      θ_run (Cert.OdDhIdeal.defs (F := Ideal)) (onTc (τ := Cert.OdDhIdeal.τ) (Cert.OdDhIdeal.main (F := Ideal))) ⟨m, fun _ => 0, g⟩ (fun r => ∀ c : Dev Cert.OdDhIdeal.nD,
          r.2.mem ((c.tc : Thread Cert.OdDhIdeal.nD Cert.OdDhIdeal.τ).loc Cert.OdDhIdeal.main_v3_0) = v0 c
          ∧ r.2.mem ((c.tc : Thread Cert.OdDhIdeal.nD Cert.OdDhIdeal.τ).loc Cert.OdDhIdeal.main_v3_2) = v1 c
          ∧ r.2.mem ((c.tc : Thread Cert.OdDhIdeal.nD Cert.OdDhIdeal.τ).loc Cert.OdDhIdeal.main_v3_1) = v2 c
          ∧ r.2.mem ((c.tc : Thread Cert.OdDhIdeal.nD Cert.OdDhIdeal.τ).loc Cert.OdDhIdeal.main_arg0) = m ((c.tc : Thread Cert.OdDhIdeal.nD Cert.OdDhIdeal.τ).loc Cert.OdDhIdeal.main_arg0)
          ∧ r.2.mem ((c.tc : Thread Cert.OdDhIdeal.nD Cert.OdDhIdeal.τ).loc Cert.OdDhIdeal.main_arg1) = m ((c.tc : Thread Cert.OdDhIdeal.nD Cert.OdDhIdeal.τ).loc Cert.OdDhIdeal.main_arg1)
          ∧ r.2.mem ((c.tc : Thread Cert.OdDhIdeal.nD Cert.OdDhIdeal.τ).loc Cert.OdDhIdeal.main_arg2) = m ((c.tc : Thread Cert.OdDhIdeal.nD Cert.OdDhIdeal.τ).loc Cert.OdDhIdeal.main_arg2)
          ∧ r.2.mem ((c.tc : Thread Cert.OdDhIdeal.nD Cert.OdDhIdeal.τ).loc Cert.OdDhIdeal.main_arg3) = m ((c.tc : Thread Cert.OdDhIdeal.nD Cert.OdDhIdeal.τ).loc Cert.OdDhIdeal.main_arg3)
          ∧ r.2.mem ((c.tc : Thread Cert.OdDhIdeal.nD Cert.OdDhIdeal.τ).loc Cert.OdDhIdeal.main_arg4) = m ((c.tc : Thread Cert.OdDhIdeal.nD Cert.OdDhIdeal.τ).loc Cert.OdDhIdeal.main_arg4))
      ∧ θ_run (Cert.ReferenceOdDhIdeal.defs (F := Ideal)) (onTc (τ := Cert.ReferenceOdDhIdeal.τ) (Cert.ReferenceOdDhIdeal.main (F := Ideal))) ⟨m', fun _ => 0, g'⟩ (fun r => ∀ c : Dev Cert.ReferenceOdDhIdeal.nD,
          r.2.mem ((c.tc : Thread Cert.ReferenceOdDhIdeal.nD Cert.ReferenceOdDhIdeal.τ).loc Cert.ReferenceOdDhIdeal.main_v38) = v0 c
          ∧ r.2.mem ((c.tc : Thread Cert.ReferenceOdDhIdeal.nD Cert.ReferenceOdDhIdeal.τ).loc Cert.ReferenceOdDhIdeal.main_v39) = v1 c
          ∧ r.2.mem ((c.tc : Thread Cert.ReferenceOdDhIdeal.nD Cert.ReferenceOdDhIdeal.τ).loc Cert.ReferenceOdDhIdeal.main_v40) = v2 c
          ∧ r.2.mem ((c.tc : Thread Cert.ReferenceOdDhIdeal.nD Cert.ReferenceOdDhIdeal.τ).loc Cert.ReferenceOdDhIdeal.main_arg0) = m' ((c.tc : Thread Cert.ReferenceOdDhIdeal.nD Cert.ReferenceOdDhIdeal.τ).loc Cert.ReferenceOdDhIdeal.main_arg0)
          ∧ r.2.mem ((c.tc : Thread Cert.ReferenceOdDhIdeal.nD Cert.ReferenceOdDhIdeal.τ).loc Cert.ReferenceOdDhIdeal.main_arg1) = m' ((c.tc : Thread Cert.ReferenceOdDhIdeal.nD Cert.ReferenceOdDhIdeal.τ).loc Cert.ReferenceOdDhIdeal.main_arg1)
          ∧ r.2.mem ((c.tc : Thread Cert.ReferenceOdDhIdeal.nD Cert.ReferenceOdDhIdeal.τ).loc Cert.ReferenceOdDhIdeal.main_arg2) = m' ((c.tc : Thread Cert.ReferenceOdDhIdeal.nD Cert.ReferenceOdDhIdeal.τ).loc Cert.ReferenceOdDhIdeal.main_arg2)
          ∧ r.2.mem ((c.tc : Thread Cert.ReferenceOdDhIdeal.nD Cert.ReferenceOdDhIdeal.τ).loc Cert.ReferenceOdDhIdeal.main_arg3) = m' ((c.tc : Thread Cert.ReferenceOdDhIdeal.nD Cert.ReferenceOdDhIdeal.τ).loc Cert.ReferenceOdDhIdeal.main_arg3)
          ∧ r.2.mem ((c.tc : Thread Cert.ReferenceOdDhIdeal.nD Cert.ReferenceOdDhIdeal.τ).loc Cert.ReferenceOdDhIdeal.main_arg4) = m' ((c.tc : Thread Cert.ReferenceOdDhIdeal.nD Cert.ReferenceOdDhIdeal.τ).loc Cert.ReferenceOdDhIdeal.main_arg4))

def preserves_OdIn_OdInIdeal : Prop :=
  True

def algebraic_OdInIdeal_ReferenceOdInIdeal [hOdInIdeal : Cert.OdInIdeal.Facts] [hReferenceOdInIdeal : Cert.ReferenceOdInIdeal.Facts] : Prop :=
  ∀ (m : (ℓ : Loc Cert.OdInIdeal.nD Cert.OdInIdeal.τ Cert.OdInIdeal.sig) → Buf (Elt Ideal) ℓ) (g : Dev Cert.OdInIdeal.nD → PrngReg)
    (m' : (ℓ : Loc Cert.ReferenceOdInIdeal.nD Cert.ReferenceOdInIdeal.τ Cert.ReferenceOdInIdeal.sig) → Buf (Elt Ideal) ℓ) (g' : Dev Cert.ReferenceOdInIdeal.nD → PrngReg), Pre_OdInIdeal m →
    (∀ c : Dev Cert.OdInIdeal.nD,
      m' ((c.tc : Thread Cert.ReferenceOdInIdeal.nD Cert.ReferenceOdInIdeal.τ).loc Cert.ReferenceOdInIdeal.main_arg0) = m ((c.tc : Thread Cert.OdInIdeal.nD Cert.OdInIdeal.τ).loc Cert.OdInIdeal.main_arg0)
      ∧ m' ((c.tc : Thread Cert.ReferenceOdInIdeal.nD Cert.ReferenceOdInIdeal.τ).loc Cert.ReferenceOdInIdeal.main_arg1) = m ((c.tc : Thread Cert.OdInIdeal.nD Cert.OdInIdeal.τ).loc Cert.OdInIdeal.main_arg1)) →
    ∃ (v0 : (c : Dev Cert.OdInIdeal.nD) → Buf (Elt Ideal) ((c.tc : Thread Cert.OdInIdeal.nD Cert.OdInIdeal.τ).loc Cert.OdInIdeal.main_v2)),
      θ_run (Cert.OdInIdeal.defs (F := Ideal)) (onTc (τ := Cert.OdInIdeal.τ) (Cert.OdInIdeal.main (F := Ideal))) ⟨m, fun _ => 0, g⟩ (fun r => ∀ c : Dev Cert.OdInIdeal.nD,
          r.2.mem ((c.tc : Thread Cert.OdInIdeal.nD Cert.OdInIdeal.τ).loc Cert.OdInIdeal.main_v2) = v0 c
          ∧ r.2.mem ((c.tc : Thread Cert.OdInIdeal.nD Cert.OdInIdeal.τ).loc Cert.OdInIdeal.main_arg0) = m ((c.tc : Thread Cert.OdInIdeal.nD Cert.OdInIdeal.τ).loc Cert.OdInIdeal.main_arg0)
          ∧ r.2.mem ((c.tc : Thread Cert.OdInIdeal.nD Cert.OdInIdeal.τ).loc Cert.OdInIdeal.main_arg1) = m ((c.tc : Thread Cert.OdInIdeal.nD Cert.OdInIdeal.τ).loc Cert.OdInIdeal.main_arg1))
      ∧ θ_run (Cert.ReferenceOdInIdeal.defs (F := Ideal)) (onTc (τ := Cert.ReferenceOdInIdeal.τ) (Cert.ReferenceOdInIdeal.main (F := Ideal))) ⟨m', fun _ => 0, g'⟩ (fun r => ∀ c : Dev Cert.ReferenceOdInIdeal.nD,
          r.2.mem ((c.tc : Thread Cert.ReferenceOdInIdeal.nD Cert.ReferenceOdInIdeal.τ).loc Cert.ReferenceOdInIdeal.main_v1) = v0 c
          ∧ r.2.mem ((c.tc : Thread Cert.ReferenceOdInIdeal.nD Cert.ReferenceOdInIdeal.τ).loc Cert.ReferenceOdInIdeal.main_arg0) = m' ((c.tc : Thread Cert.ReferenceOdInIdeal.nD Cert.ReferenceOdInIdeal.τ).loc Cert.ReferenceOdInIdeal.main_arg0)
          ∧ r.2.mem ((c.tc : Thread Cert.ReferenceOdInIdeal.nD Cert.ReferenceOdInIdeal.τ).loc Cert.ReferenceOdInIdeal.main_arg1) = m' ((c.tc : Thread Cert.ReferenceOdInIdeal.nD Cert.ReferenceOdInIdeal.τ).loc Cert.ReferenceOdInIdeal.main_arg1))

def preserves_EvIn_EvInIdeal : Prop :=
  True

def algebraic_EvInIdeal_ReferenceEvInIdeal [hEvInIdeal : Cert.EvInIdeal.Facts] [hReferenceEvInIdeal : Cert.ReferenceEvInIdeal.Facts] : Prop :=
  ∀ (m : (ℓ : Loc Cert.EvInIdeal.nD Cert.EvInIdeal.τ Cert.EvInIdeal.sig) → Buf (Elt Ideal) ℓ) (g : Dev Cert.EvInIdeal.nD → PrngReg)
    (m' : (ℓ : Loc Cert.ReferenceEvInIdeal.nD Cert.ReferenceEvInIdeal.τ Cert.ReferenceEvInIdeal.sig) → Buf (Elt Ideal) ℓ) (g' : Dev Cert.ReferenceEvInIdeal.nD → PrngReg), Pre_EvInIdeal m →
    (∀ c : Dev Cert.EvInIdeal.nD,
      m' ((c.tc : Thread Cert.ReferenceEvInIdeal.nD Cert.ReferenceEvInIdeal.τ).loc Cert.ReferenceEvInIdeal.main_arg0) = m ((c.tc : Thread Cert.EvInIdeal.nD Cert.EvInIdeal.τ).loc Cert.EvInIdeal.main_arg0)
      ∧ m' ((c.tc : Thread Cert.ReferenceEvInIdeal.nD Cert.ReferenceEvInIdeal.τ).loc Cert.ReferenceEvInIdeal.main_arg1) = m ((c.tc : Thread Cert.EvInIdeal.nD Cert.EvInIdeal.τ).loc Cert.EvInIdeal.main_arg1)) →
    ∃ (v0 : (c : Dev Cert.EvInIdeal.nD) → Buf (Elt Ideal) ((c.tc : Thread Cert.EvInIdeal.nD Cert.EvInIdeal.τ).loc Cert.EvInIdeal.main_v2)),
      θ_run (Cert.EvInIdeal.defs (F := Ideal)) (onTc (τ := Cert.EvInIdeal.τ) (Cert.EvInIdeal.main (F := Ideal))) ⟨m, fun _ => 0, g⟩ (fun r => ∀ c : Dev Cert.EvInIdeal.nD,
          r.2.mem ((c.tc : Thread Cert.EvInIdeal.nD Cert.EvInIdeal.τ).loc Cert.EvInIdeal.main_v2) = v0 c
          ∧ r.2.mem ((c.tc : Thread Cert.EvInIdeal.nD Cert.EvInIdeal.τ).loc Cert.EvInIdeal.main_arg0) = m ((c.tc : Thread Cert.EvInIdeal.nD Cert.EvInIdeal.τ).loc Cert.EvInIdeal.main_arg0)
          ∧ r.2.mem ((c.tc : Thread Cert.EvInIdeal.nD Cert.EvInIdeal.τ).loc Cert.EvInIdeal.main_arg1) = m ((c.tc : Thread Cert.EvInIdeal.nD Cert.EvInIdeal.τ).loc Cert.EvInIdeal.main_arg1))
      ∧ θ_run (Cert.ReferenceEvInIdeal.defs (F := Ideal)) (onTc (τ := Cert.ReferenceEvInIdeal.τ) (Cert.ReferenceEvInIdeal.main (F := Ideal))) ⟨m', fun _ => 0, g'⟩ (fun r => ∀ c : Dev Cert.ReferenceEvInIdeal.nD,
          r.2.mem ((c.tc : Thread Cert.ReferenceEvInIdeal.nD Cert.ReferenceEvInIdeal.τ).loc Cert.ReferenceEvInIdeal.main_v1) = v0 c
          ∧ r.2.mem ((c.tc : Thread Cert.ReferenceEvInIdeal.nD Cert.ReferenceEvInIdeal.τ).loc Cert.ReferenceEvInIdeal.main_arg0) = m' ((c.tc : Thread Cert.ReferenceEvInIdeal.nD Cert.ReferenceEvInIdeal.τ).loc Cert.ReferenceEvInIdeal.main_arg0)
          ∧ r.2.mem ((c.tc : Thread Cert.ReferenceEvInIdeal.nD Cert.ReferenceEvInIdeal.τ).loc Cert.ReferenceEvInIdeal.main_arg1) = m' ((c.tc : Thread Cert.ReferenceEvInIdeal.nD Cert.ReferenceEvInIdeal.τ).loc Cert.ReferenceEvInIdeal.main_arg1))

def preserves_OdOut_OdOutIdeal : Prop :=
  True

def algebraic_OdOutIdeal_ReferenceOdOutIdeal [hOdOutIdeal : Cert.OdOutIdeal.Facts] [hReferenceOdOutIdeal : Cert.ReferenceOdOutIdeal.Facts] : Prop :=
  ∀ (m : (ℓ : Loc Cert.OdOutIdeal.nD Cert.OdOutIdeal.τ Cert.OdOutIdeal.sig) → Buf (Elt Ideal) ℓ) (g : Dev Cert.OdOutIdeal.nD → PrngReg)
    (m' : (ℓ : Loc Cert.ReferenceOdOutIdeal.nD Cert.ReferenceOdOutIdeal.τ Cert.ReferenceOdOutIdeal.sig) → Buf (Elt Ideal) ℓ) (g' : Dev Cert.ReferenceOdOutIdeal.nD → PrngReg), Pre_OdOutIdeal m →
    (∀ c : Dev Cert.OdOutIdeal.nD,
      m' ((c.tc : Thread Cert.ReferenceOdOutIdeal.nD Cert.ReferenceOdOutIdeal.τ).loc Cert.ReferenceOdOutIdeal.main_arg0) = m ((c.tc : Thread Cert.OdOutIdeal.nD Cert.OdOutIdeal.τ).loc Cert.OdOutIdeal.main_arg0)
      ∧ m' ((c.tc : Thread Cert.ReferenceOdOutIdeal.nD Cert.ReferenceOdOutIdeal.τ).loc Cert.ReferenceOdOutIdeal.main_arg1) = m ((c.tc : Thread Cert.OdOutIdeal.nD Cert.OdOutIdeal.τ).loc Cert.OdOutIdeal.main_arg1)
      ∧ m' ((c.tc : Thread Cert.ReferenceOdOutIdeal.nD Cert.ReferenceOdOutIdeal.τ).loc Cert.ReferenceOdOutIdeal.main_arg2) = m ((c.tc : Thread Cert.OdOutIdeal.nD Cert.OdOutIdeal.τ).loc Cert.OdOutIdeal.main_arg2)) →
    ∃ (v0 : (c : Dev Cert.OdOutIdeal.nD) → Buf (Elt Ideal) ((c.tc : Thread Cert.OdOutIdeal.nD Cert.OdOutIdeal.τ).loc Cert.OdOutIdeal.main_v2)),
      θ_run (Cert.OdOutIdeal.defs (F := Ideal)) (onTc (τ := Cert.OdOutIdeal.τ) (Cert.OdOutIdeal.main (F := Ideal))) ⟨m, fun _ => 0, g⟩ (fun r => ∀ c : Dev Cert.OdOutIdeal.nD,
          r.2.mem ((c.tc : Thread Cert.OdOutIdeal.nD Cert.OdOutIdeal.τ).loc Cert.OdOutIdeal.main_v2) = v0 c
          ∧ r.2.mem ((c.tc : Thread Cert.OdOutIdeal.nD Cert.OdOutIdeal.τ).loc Cert.OdOutIdeal.main_arg0) = m ((c.tc : Thread Cert.OdOutIdeal.nD Cert.OdOutIdeal.τ).loc Cert.OdOutIdeal.main_arg0)
          ∧ r.2.mem ((c.tc : Thread Cert.OdOutIdeal.nD Cert.OdOutIdeal.τ).loc Cert.OdOutIdeal.main_arg1) = m ((c.tc : Thread Cert.OdOutIdeal.nD Cert.OdOutIdeal.τ).loc Cert.OdOutIdeal.main_arg1)
          ∧ r.2.mem ((c.tc : Thread Cert.OdOutIdeal.nD Cert.OdOutIdeal.τ).loc Cert.OdOutIdeal.main_arg2) = m ((c.tc : Thread Cert.OdOutIdeal.nD Cert.OdOutIdeal.τ).loc Cert.OdOutIdeal.main_arg2))
      ∧ θ_run (Cert.ReferenceOdOutIdeal.defs (F := Ideal)) (onTc (τ := Cert.ReferenceOdOutIdeal.τ) (Cert.ReferenceOdOutIdeal.main (F := Ideal))) ⟨m', fun _ => 0, g'⟩ (fun r => ∀ c : Dev Cert.ReferenceOdOutIdeal.nD,
          r.2.mem ((c.tc : Thread Cert.ReferenceOdOutIdeal.nD Cert.ReferenceOdOutIdeal.τ).loc Cert.ReferenceOdOutIdeal.main_v1) = v0 c
          ∧ r.2.mem ((c.tc : Thread Cert.ReferenceOdOutIdeal.nD Cert.ReferenceOdOutIdeal.τ).loc Cert.ReferenceOdOutIdeal.main_arg0) = m' ((c.tc : Thread Cert.ReferenceOdOutIdeal.nD Cert.ReferenceOdOutIdeal.τ).loc Cert.ReferenceOdOutIdeal.main_arg0)
          ∧ r.2.mem ((c.tc : Thread Cert.ReferenceOdOutIdeal.nD Cert.ReferenceOdOutIdeal.τ).loc Cert.ReferenceOdOutIdeal.main_arg1) = m' ((c.tc : Thread Cert.ReferenceOdOutIdeal.nD Cert.ReferenceOdOutIdeal.τ).loc Cert.ReferenceOdOutIdeal.main_arg1)
          ∧ r.2.mem ((c.tc : Thread Cert.ReferenceOdOutIdeal.nD Cert.ReferenceOdOutIdeal.τ).loc Cert.ReferenceOdOutIdeal.main_arg2) = m' ((c.tc : Thread Cert.ReferenceOdOutIdeal.nD Cert.ReferenceOdOutIdeal.τ).loc Cert.ReferenceOdOutIdeal.main_arg2))

def preserves_EvOut_EvOutIdeal : Prop :=
  True

def algebraic_EvOutIdeal_ReferenceEvOutIdeal [hEvOutIdeal : Cert.EvOutIdeal.Facts] [hReferenceEvOutIdeal : Cert.ReferenceEvOutIdeal.Facts] : Prop :=
  ∀ (m : (ℓ : Loc Cert.EvOutIdeal.nD Cert.EvOutIdeal.τ Cert.EvOutIdeal.sig) → Buf (Elt Ideal) ℓ) (g : Dev Cert.EvOutIdeal.nD → PrngReg)
    (m' : (ℓ : Loc Cert.ReferenceEvOutIdeal.nD Cert.ReferenceEvOutIdeal.τ Cert.ReferenceEvOutIdeal.sig) → Buf (Elt Ideal) ℓ) (g' : Dev Cert.ReferenceEvOutIdeal.nD → PrngReg), Pre_EvOutIdeal m →
    (∀ c : Dev Cert.EvOutIdeal.nD,
      m' ((c.tc : Thread Cert.ReferenceEvOutIdeal.nD Cert.ReferenceEvOutIdeal.τ).loc Cert.ReferenceEvOutIdeal.main_arg0) = m ((c.tc : Thread Cert.EvOutIdeal.nD Cert.EvOutIdeal.τ).loc Cert.EvOutIdeal.main_arg0)
      ∧ m' ((c.tc : Thread Cert.ReferenceEvOutIdeal.nD Cert.ReferenceEvOutIdeal.τ).loc Cert.ReferenceEvOutIdeal.main_arg1) = m ((c.tc : Thread Cert.EvOutIdeal.nD Cert.EvOutIdeal.τ).loc Cert.EvOutIdeal.main_arg1)
      ∧ m' ((c.tc : Thread Cert.ReferenceEvOutIdeal.nD Cert.ReferenceEvOutIdeal.τ).loc Cert.ReferenceEvOutIdeal.main_arg2) = m ((c.tc : Thread Cert.EvOutIdeal.nD Cert.EvOutIdeal.τ).loc Cert.EvOutIdeal.main_arg2)
      ∧ m' ((c.tc : Thread Cert.ReferenceEvOutIdeal.nD Cert.ReferenceEvOutIdeal.τ).loc Cert.ReferenceEvOutIdeal.main_arg3) = m ((c.tc : Thread Cert.EvOutIdeal.nD Cert.EvOutIdeal.τ).loc Cert.EvOutIdeal.main_arg3)) →
    ∃ (v0 : (c : Dev Cert.EvOutIdeal.nD) → Buf (Elt Ideal) ((c.tc : Thread Cert.EvOutIdeal.nD Cert.EvOutIdeal.τ).loc Cert.EvOutIdeal.main_v3)),
      θ_run (Cert.EvOutIdeal.defs (F := Ideal)) (onTc (τ := Cert.EvOutIdeal.τ) (Cert.EvOutIdeal.main (F := Ideal))) ⟨m, fun _ => 0, g⟩ (fun r => ∀ c : Dev Cert.EvOutIdeal.nD,
          r.2.mem ((c.tc : Thread Cert.EvOutIdeal.nD Cert.EvOutIdeal.τ).loc Cert.EvOutIdeal.main_v3) = v0 c
          ∧ r.2.mem ((c.tc : Thread Cert.EvOutIdeal.nD Cert.EvOutIdeal.τ).loc Cert.EvOutIdeal.main_arg0) = m ((c.tc : Thread Cert.EvOutIdeal.nD Cert.EvOutIdeal.τ).loc Cert.EvOutIdeal.main_arg0)
          ∧ r.2.mem ((c.tc : Thread Cert.EvOutIdeal.nD Cert.EvOutIdeal.τ).loc Cert.EvOutIdeal.main_arg1) = m ((c.tc : Thread Cert.EvOutIdeal.nD Cert.EvOutIdeal.τ).loc Cert.EvOutIdeal.main_arg1)
          ∧ r.2.mem ((c.tc : Thread Cert.EvOutIdeal.nD Cert.EvOutIdeal.τ).loc Cert.EvOutIdeal.main_arg2) = m ((c.tc : Thread Cert.EvOutIdeal.nD Cert.EvOutIdeal.τ).loc Cert.EvOutIdeal.main_arg2)
          ∧ r.2.mem ((c.tc : Thread Cert.EvOutIdeal.nD Cert.EvOutIdeal.τ).loc Cert.EvOutIdeal.main_arg3) = m ((c.tc : Thread Cert.EvOutIdeal.nD Cert.EvOutIdeal.τ).loc Cert.EvOutIdeal.main_arg3))
      ∧ θ_run (Cert.ReferenceEvOutIdeal.defs (F := Ideal)) (onTc (τ := Cert.ReferenceEvOutIdeal.τ) (Cert.ReferenceEvOutIdeal.main (F := Ideal))) ⟨m', fun _ => 0, g'⟩ (fun r => ∀ c : Dev Cert.ReferenceEvOutIdeal.nD,
          r.2.mem ((c.tc : Thread Cert.ReferenceEvOutIdeal.nD Cert.ReferenceEvOutIdeal.τ).loc Cert.ReferenceEvOutIdeal.main_v2) = v0 c
          ∧ r.2.mem ((c.tc : Thread Cert.ReferenceEvOutIdeal.nD Cert.ReferenceEvOutIdeal.τ).loc Cert.ReferenceEvOutIdeal.main_arg0) = m' ((c.tc : Thread Cert.ReferenceEvOutIdeal.nD Cert.ReferenceEvOutIdeal.τ).loc Cert.ReferenceEvOutIdeal.main_arg0)
          ∧ r.2.mem ((c.tc : Thread Cert.ReferenceEvOutIdeal.nD Cert.ReferenceEvOutIdeal.τ).loc Cert.ReferenceEvOutIdeal.main_arg1) = m' ((c.tc : Thread Cert.ReferenceEvOutIdeal.nD Cert.ReferenceEvOutIdeal.τ).loc Cert.ReferenceEvOutIdeal.main_arg1)
          ∧ r.2.mem ((c.tc : Thread Cert.ReferenceEvOutIdeal.nD Cert.ReferenceEvOutIdeal.τ).loc Cert.ReferenceEvOutIdeal.main_arg2) = m' ((c.tc : Thread Cert.ReferenceEvOutIdeal.nD Cert.ReferenceEvOutIdeal.τ).loc Cert.ReferenceEvOutIdeal.main_arg2)
          ∧ r.2.mem ((c.tc : Thread Cert.ReferenceEvOutIdeal.nD Cert.ReferenceEvOutIdeal.τ).loc Cert.ReferenceEvOutIdeal.main_arg3) = m' ((c.tc : Thread Cert.ReferenceEvOutIdeal.nD Cert.ReferenceEvOutIdeal.τ).loc Cert.ReferenceEvOutIdeal.main_arg3))

def preserves_EvDwin_EvDwinIdeal : Prop :=
  True

def algebraic_EvDwinIdeal_ReferenceEvDwinIdeal [hEvDwinIdeal : Cert.EvDwinIdeal.Facts] [hReferenceEvDwinIdeal : Cert.ReferenceEvDwinIdeal.Facts] : Prop :=
  ∀ (m : (ℓ : Loc Cert.EvDwinIdeal.nD Cert.EvDwinIdeal.τ Cert.EvDwinIdeal.sig) → Buf (Elt Ideal) ℓ) (g : Dev Cert.EvDwinIdeal.nD → PrngReg)
    (m' : (ℓ : Loc Cert.ReferenceEvDwinIdeal.nD Cert.ReferenceEvDwinIdeal.τ Cert.ReferenceEvDwinIdeal.sig) → Buf (Elt Ideal) ℓ) (g' : Dev Cert.ReferenceEvDwinIdeal.nD → PrngReg), Pre_EvDwinIdeal m →
    (∀ c : Dev Cert.EvDwinIdeal.nD,
      m' ((c.tc : Thread Cert.ReferenceEvDwinIdeal.nD Cert.ReferenceEvDwinIdeal.τ).loc Cert.ReferenceEvDwinIdeal.main_arg0) = m ((c.tc : Thread Cert.EvDwinIdeal.nD Cert.EvDwinIdeal.τ).loc Cert.EvDwinIdeal.main_arg0)
      ∧ m' ((c.tc : Thread Cert.ReferenceEvDwinIdeal.nD Cert.ReferenceEvDwinIdeal.τ).loc Cert.ReferenceEvDwinIdeal.main_arg1) = m ((c.tc : Thread Cert.EvDwinIdeal.nD Cert.EvDwinIdeal.τ).loc Cert.EvDwinIdeal.main_arg1)
      ∧ m' ((c.tc : Thread Cert.ReferenceEvDwinIdeal.nD Cert.ReferenceEvDwinIdeal.τ).loc Cert.ReferenceEvDwinIdeal.main_arg2) = m ((c.tc : Thread Cert.EvDwinIdeal.nD Cert.EvDwinIdeal.τ).loc Cert.EvDwinIdeal.main_arg2)
      ∧ m' ((c.tc : Thread Cert.ReferenceEvDwinIdeal.nD Cert.ReferenceEvDwinIdeal.τ).loc Cert.ReferenceEvDwinIdeal.main_arg3) = m ((c.tc : Thread Cert.EvDwinIdeal.nD Cert.EvDwinIdeal.τ).loc Cert.EvDwinIdeal.main_arg3)
      ∧ m' ((c.tc : Thread Cert.ReferenceEvDwinIdeal.nD Cert.ReferenceEvDwinIdeal.τ).loc Cert.ReferenceEvDwinIdeal.main_arg4) = m ((c.tc : Thread Cert.EvDwinIdeal.nD Cert.EvDwinIdeal.τ).loc Cert.EvDwinIdeal.main_arg4)
      ∧ m' ((c.tc : Thread Cert.ReferenceEvDwinIdeal.nD Cert.ReferenceEvDwinIdeal.τ).loc Cert.ReferenceEvDwinIdeal.main_arg5) = m ((c.tc : Thread Cert.EvDwinIdeal.nD Cert.EvDwinIdeal.τ).loc Cert.EvDwinIdeal.main_arg5)
      ∧ m' ((c.tc : Thread Cert.ReferenceEvDwinIdeal.nD Cert.ReferenceEvDwinIdeal.τ).loc Cert.ReferenceEvDwinIdeal.main_arg6) = m ((c.tc : Thread Cert.EvDwinIdeal.nD Cert.EvDwinIdeal.τ).loc Cert.EvDwinIdeal.main_arg6)
      ∧ m' ((c.tc : Thread Cert.ReferenceEvDwinIdeal.nD Cert.ReferenceEvDwinIdeal.τ).loc Cert.ReferenceEvDwinIdeal.main_arg7) = m ((c.tc : Thread Cert.EvDwinIdeal.nD Cert.EvDwinIdeal.τ).loc Cert.EvDwinIdeal.main_arg7)
      ∧ m' ((c.tc : Thread Cert.ReferenceEvDwinIdeal.nD Cert.ReferenceEvDwinIdeal.τ).loc Cert.ReferenceEvDwinIdeal.main_arg8) = m ((c.tc : Thread Cert.EvDwinIdeal.nD Cert.EvDwinIdeal.τ).loc Cert.EvDwinIdeal.main_arg8)) →
    ∃ (v0 : (c : Dev Cert.EvDwinIdeal.nD) → Buf (Elt Ideal) ((c.tc : Thread Cert.EvDwinIdeal.nD Cert.EvDwinIdeal.τ).loc Cert.EvDwinIdeal.main_v20)),
      θ_run (Cert.EvDwinIdeal.defs (F := Ideal)) (onTc (τ := Cert.EvDwinIdeal.τ) (Cert.EvDwinIdeal.main (F := Ideal))) ⟨m, fun _ => 0, g⟩ (fun r => ∀ c : Dev Cert.EvDwinIdeal.nD,
          r.2.mem ((c.tc : Thread Cert.EvDwinIdeal.nD Cert.EvDwinIdeal.τ).loc Cert.EvDwinIdeal.main_v20) = v0 c
          ∧ r.2.mem ((c.tc : Thread Cert.EvDwinIdeal.nD Cert.EvDwinIdeal.τ).loc Cert.EvDwinIdeal.main_arg0) = m ((c.tc : Thread Cert.EvDwinIdeal.nD Cert.EvDwinIdeal.τ).loc Cert.EvDwinIdeal.main_arg0)
          ∧ r.2.mem ((c.tc : Thread Cert.EvDwinIdeal.nD Cert.EvDwinIdeal.τ).loc Cert.EvDwinIdeal.main_arg1) = m ((c.tc : Thread Cert.EvDwinIdeal.nD Cert.EvDwinIdeal.τ).loc Cert.EvDwinIdeal.main_arg1)
          ∧ r.2.mem ((c.tc : Thread Cert.EvDwinIdeal.nD Cert.EvDwinIdeal.τ).loc Cert.EvDwinIdeal.main_arg2) = m ((c.tc : Thread Cert.EvDwinIdeal.nD Cert.EvDwinIdeal.τ).loc Cert.EvDwinIdeal.main_arg2)
          ∧ r.2.mem ((c.tc : Thread Cert.EvDwinIdeal.nD Cert.EvDwinIdeal.τ).loc Cert.EvDwinIdeal.main_arg3) = m ((c.tc : Thread Cert.EvDwinIdeal.nD Cert.EvDwinIdeal.τ).loc Cert.EvDwinIdeal.main_arg3)
          ∧ r.2.mem ((c.tc : Thread Cert.EvDwinIdeal.nD Cert.EvDwinIdeal.τ).loc Cert.EvDwinIdeal.main_arg4) = m ((c.tc : Thread Cert.EvDwinIdeal.nD Cert.EvDwinIdeal.τ).loc Cert.EvDwinIdeal.main_arg4)
          ∧ r.2.mem ((c.tc : Thread Cert.EvDwinIdeal.nD Cert.EvDwinIdeal.τ).loc Cert.EvDwinIdeal.main_arg5) = m ((c.tc : Thread Cert.EvDwinIdeal.nD Cert.EvDwinIdeal.τ).loc Cert.EvDwinIdeal.main_arg5)
          ∧ r.2.mem ((c.tc : Thread Cert.EvDwinIdeal.nD Cert.EvDwinIdeal.τ).loc Cert.EvDwinIdeal.main_arg6) = m ((c.tc : Thread Cert.EvDwinIdeal.nD Cert.EvDwinIdeal.τ).loc Cert.EvDwinIdeal.main_arg6)
          ∧ r.2.mem ((c.tc : Thread Cert.EvDwinIdeal.nD Cert.EvDwinIdeal.τ).loc Cert.EvDwinIdeal.main_arg7) = m ((c.tc : Thread Cert.EvDwinIdeal.nD Cert.EvDwinIdeal.τ).loc Cert.EvDwinIdeal.main_arg7)
          ∧ r.2.mem ((c.tc : Thread Cert.EvDwinIdeal.nD Cert.EvDwinIdeal.τ).loc Cert.EvDwinIdeal.main_arg8) = m ((c.tc : Thread Cert.EvDwinIdeal.nD Cert.EvDwinIdeal.τ).loc Cert.EvDwinIdeal.main_arg8))
      ∧ θ_run (Cert.ReferenceEvDwinIdeal.defs (F := Ideal)) (onTc (τ := Cert.ReferenceEvDwinIdeal.τ) (Cert.ReferenceEvDwinIdeal.main (F := Ideal))) ⟨m', fun _ => 0, g'⟩ (fun r => ∀ c : Dev Cert.ReferenceEvDwinIdeal.nD,
          r.2.mem ((c.tc : Thread Cert.ReferenceEvDwinIdeal.nD Cert.ReferenceEvDwinIdeal.τ).loc Cert.ReferenceEvDwinIdeal.main_v17) = v0 c
          ∧ r.2.mem ((c.tc : Thread Cert.ReferenceEvDwinIdeal.nD Cert.ReferenceEvDwinIdeal.τ).loc Cert.ReferenceEvDwinIdeal.main_arg0) = m' ((c.tc : Thread Cert.ReferenceEvDwinIdeal.nD Cert.ReferenceEvDwinIdeal.τ).loc Cert.ReferenceEvDwinIdeal.main_arg0)
          ∧ r.2.mem ((c.tc : Thread Cert.ReferenceEvDwinIdeal.nD Cert.ReferenceEvDwinIdeal.τ).loc Cert.ReferenceEvDwinIdeal.main_arg1) = m' ((c.tc : Thread Cert.ReferenceEvDwinIdeal.nD Cert.ReferenceEvDwinIdeal.τ).loc Cert.ReferenceEvDwinIdeal.main_arg1)
          ∧ r.2.mem ((c.tc : Thread Cert.ReferenceEvDwinIdeal.nD Cert.ReferenceEvDwinIdeal.τ).loc Cert.ReferenceEvDwinIdeal.main_arg2) = m' ((c.tc : Thread Cert.ReferenceEvDwinIdeal.nD Cert.ReferenceEvDwinIdeal.τ).loc Cert.ReferenceEvDwinIdeal.main_arg2)
          ∧ r.2.mem ((c.tc : Thread Cert.ReferenceEvDwinIdeal.nD Cert.ReferenceEvDwinIdeal.τ).loc Cert.ReferenceEvDwinIdeal.main_arg3) = m' ((c.tc : Thread Cert.ReferenceEvDwinIdeal.nD Cert.ReferenceEvDwinIdeal.τ).loc Cert.ReferenceEvDwinIdeal.main_arg3)
          ∧ r.2.mem ((c.tc : Thread Cert.ReferenceEvDwinIdeal.nD Cert.ReferenceEvDwinIdeal.τ).loc Cert.ReferenceEvDwinIdeal.main_arg4) = m' ((c.tc : Thread Cert.ReferenceEvDwinIdeal.nD Cert.ReferenceEvDwinIdeal.τ).loc Cert.ReferenceEvDwinIdeal.main_arg4)
          ∧ r.2.mem ((c.tc : Thread Cert.ReferenceEvDwinIdeal.nD Cert.ReferenceEvDwinIdeal.τ).loc Cert.ReferenceEvDwinIdeal.main_arg5) = m' ((c.tc : Thread Cert.ReferenceEvDwinIdeal.nD Cert.ReferenceEvDwinIdeal.τ).loc Cert.ReferenceEvDwinIdeal.main_arg5)
          ∧ r.2.mem ((c.tc : Thread Cert.ReferenceEvDwinIdeal.nD Cert.ReferenceEvDwinIdeal.τ).loc Cert.ReferenceEvDwinIdeal.main_arg6) = m' ((c.tc : Thread Cert.ReferenceEvDwinIdeal.nD Cert.ReferenceEvDwinIdeal.τ).loc Cert.ReferenceEvDwinIdeal.main_arg6)
          ∧ r.2.mem ((c.tc : Thread Cert.ReferenceEvDwinIdeal.nD Cert.ReferenceEvDwinIdeal.τ).loc Cert.ReferenceEvDwinIdeal.main_arg7) = m' ((c.tc : Thread Cert.ReferenceEvDwinIdeal.nD Cert.ReferenceEvDwinIdeal.τ).loc Cert.ReferenceEvDwinIdeal.main_arg7)
          ∧ r.2.mem ((c.tc : Thread Cert.ReferenceEvDwinIdeal.nD Cert.ReferenceEvDwinIdeal.τ).loc Cert.ReferenceEvDwinIdeal.main_arg8) = m' ((c.tc : Thread Cert.ReferenceEvDwinIdeal.nD Cert.ReferenceEvDwinIdeal.τ).loc Cert.ReferenceEvDwinIdeal.main_arg8))

def preserves_EvDh_EvDhIdeal : Prop :=
  True

def algebraic_EvDhIdeal_ReferenceEvDhIdeal [hEvDhIdeal : Cert.EvDhIdeal.Facts] [hReferenceEvDhIdeal : Cert.ReferenceEvDhIdeal.Facts] : Prop :=
  ∀ (m : (ℓ : Loc Cert.EvDhIdeal.nD Cert.EvDhIdeal.τ Cert.EvDhIdeal.sig) → Buf (Elt Ideal) ℓ) (g : Dev Cert.EvDhIdeal.nD → PrngReg)
    (m' : (ℓ : Loc Cert.ReferenceEvDhIdeal.nD Cert.ReferenceEvDhIdeal.τ Cert.ReferenceEvDhIdeal.sig) → Buf (Elt Ideal) ℓ) (g' : Dev Cert.ReferenceEvDhIdeal.nD → PrngReg), Pre_EvDhIdeal m →
    (∀ c : Dev Cert.EvDhIdeal.nD,
      m' ((c.tc : Thread Cert.ReferenceEvDhIdeal.nD Cert.ReferenceEvDhIdeal.τ).loc Cert.ReferenceEvDhIdeal.main_arg0) = m ((c.tc : Thread Cert.EvDhIdeal.nD Cert.EvDhIdeal.τ).loc Cert.EvDhIdeal.main_arg0)
      ∧ m' ((c.tc : Thread Cert.ReferenceEvDhIdeal.nD Cert.ReferenceEvDhIdeal.τ).loc Cert.ReferenceEvDhIdeal.main_arg1) = m ((c.tc : Thread Cert.EvDhIdeal.nD Cert.EvDhIdeal.τ).loc Cert.EvDhIdeal.main_arg1)
      ∧ m' ((c.tc : Thread Cert.ReferenceEvDhIdeal.nD Cert.ReferenceEvDhIdeal.τ).loc Cert.ReferenceEvDhIdeal.main_arg2) = m ((c.tc : Thread Cert.EvDhIdeal.nD Cert.EvDhIdeal.τ).loc Cert.EvDhIdeal.main_arg2)
      ∧ m' ((c.tc : Thread Cert.ReferenceEvDhIdeal.nD Cert.ReferenceEvDhIdeal.τ).loc Cert.ReferenceEvDhIdeal.main_arg3) = m ((c.tc : Thread Cert.EvDhIdeal.nD Cert.EvDhIdeal.τ).loc Cert.EvDhIdeal.main_arg3)
      ∧ m' ((c.tc : Thread Cert.ReferenceEvDhIdeal.nD Cert.ReferenceEvDhIdeal.τ).loc Cert.ReferenceEvDhIdeal.main_arg4) = m ((c.tc : Thread Cert.EvDhIdeal.nD Cert.EvDhIdeal.τ).loc Cert.EvDhIdeal.main_arg4)
      ∧ m' ((c.tc : Thread Cert.ReferenceEvDhIdeal.nD Cert.ReferenceEvDhIdeal.τ).loc Cert.ReferenceEvDhIdeal.main_arg5) = m ((c.tc : Thread Cert.EvDhIdeal.nD Cert.EvDhIdeal.τ).loc Cert.EvDhIdeal.main_arg5)
      ∧ m' ((c.tc : Thread Cert.ReferenceEvDhIdeal.nD Cert.ReferenceEvDhIdeal.τ).loc Cert.ReferenceEvDhIdeal.main_arg6) = m ((c.tc : Thread Cert.EvDhIdeal.nD Cert.EvDhIdeal.τ).loc Cert.EvDhIdeal.main_arg6)
      ∧ m' ((c.tc : Thread Cert.ReferenceEvDhIdeal.nD Cert.ReferenceEvDhIdeal.τ).loc Cert.ReferenceEvDhIdeal.main_arg7) = m ((c.tc : Thread Cert.EvDhIdeal.nD Cert.EvDhIdeal.τ).loc Cert.EvDhIdeal.main_arg7)
      ∧ m' ((c.tc : Thread Cert.ReferenceEvDhIdeal.nD Cert.ReferenceEvDhIdeal.τ).loc Cert.ReferenceEvDhIdeal.main_arg8) = m ((c.tc : Thread Cert.EvDhIdeal.nD Cert.EvDhIdeal.τ).loc Cert.EvDhIdeal.main_arg8)
      ∧ m' ((c.tc : Thread Cert.ReferenceEvDhIdeal.nD Cert.ReferenceEvDhIdeal.τ).loc Cert.ReferenceEvDhIdeal.main_arg9) = m ((c.tc : Thread Cert.EvDhIdeal.nD Cert.EvDhIdeal.τ).loc Cert.EvDhIdeal.main_arg9)) →
    ∃ (v0 : (c : Dev Cert.EvDhIdeal.nD) → Buf (Elt Ideal) ((c.tc : Thread Cert.EvDhIdeal.nD Cert.EvDhIdeal.τ).loc Cert.EvDhIdeal.main_v7_0)) (v1 : (c : Dev Cert.EvDhIdeal.nD) → Buf (Elt Ideal) ((c.tc : Thread Cert.EvDhIdeal.nD Cert.EvDhIdeal.τ).loc Cert.EvDhIdeal.main_v7_2)) (v2 : (c : Dev Cert.EvDhIdeal.nD) → Buf (Elt Ideal) ((c.tc : Thread Cert.EvDhIdeal.nD Cert.EvDhIdeal.τ).loc Cert.EvDhIdeal.main_v7_1)),
      θ_run (Cert.EvDhIdeal.defs (F := Ideal)) (onTc (τ := Cert.EvDhIdeal.τ) (Cert.EvDhIdeal.main (F := Ideal))) ⟨m, fun _ => 0, g⟩ (fun r => ∀ c : Dev Cert.EvDhIdeal.nD,
          r.2.mem ((c.tc : Thread Cert.EvDhIdeal.nD Cert.EvDhIdeal.τ).loc Cert.EvDhIdeal.main_v7_0) = v0 c
          ∧ r.2.mem ((c.tc : Thread Cert.EvDhIdeal.nD Cert.EvDhIdeal.τ).loc Cert.EvDhIdeal.main_v7_2) = v1 c
          ∧ r.2.mem ((c.tc : Thread Cert.EvDhIdeal.nD Cert.EvDhIdeal.τ).loc Cert.EvDhIdeal.main_v7_1) = v2 c
          ∧ r.2.mem ((c.tc : Thread Cert.EvDhIdeal.nD Cert.EvDhIdeal.τ).loc Cert.EvDhIdeal.main_arg0) = m ((c.tc : Thread Cert.EvDhIdeal.nD Cert.EvDhIdeal.τ).loc Cert.EvDhIdeal.main_arg0)
          ∧ r.2.mem ((c.tc : Thread Cert.EvDhIdeal.nD Cert.EvDhIdeal.τ).loc Cert.EvDhIdeal.main_arg1) = m ((c.tc : Thread Cert.EvDhIdeal.nD Cert.EvDhIdeal.τ).loc Cert.EvDhIdeal.main_arg1)
          ∧ r.2.mem ((c.tc : Thread Cert.EvDhIdeal.nD Cert.EvDhIdeal.τ).loc Cert.EvDhIdeal.main_arg2) = m ((c.tc : Thread Cert.EvDhIdeal.nD Cert.EvDhIdeal.τ).loc Cert.EvDhIdeal.main_arg2)
          ∧ r.2.mem ((c.tc : Thread Cert.EvDhIdeal.nD Cert.EvDhIdeal.τ).loc Cert.EvDhIdeal.main_arg3) = m ((c.tc : Thread Cert.EvDhIdeal.nD Cert.EvDhIdeal.τ).loc Cert.EvDhIdeal.main_arg3)
          ∧ r.2.mem ((c.tc : Thread Cert.EvDhIdeal.nD Cert.EvDhIdeal.τ).loc Cert.EvDhIdeal.main_arg4) = m ((c.tc : Thread Cert.EvDhIdeal.nD Cert.EvDhIdeal.τ).loc Cert.EvDhIdeal.main_arg4)
          ∧ r.2.mem ((c.tc : Thread Cert.EvDhIdeal.nD Cert.EvDhIdeal.τ).loc Cert.EvDhIdeal.main_arg5) = m ((c.tc : Thread Cert.EvDhIdeal.nD Cert.EvDhIdeal.τ).loc Cert.EvDhIdeal.main_arg5)
          ∧ r.2.mem ((c.tc : Thread Cert.EvDhIdeal.nD Cert.EvDhIdeal.τ).loc Cert.EvDhIdeal.main_arg6) = m ((c.tc : Thread Cert.EvDhIdeal.nD Cert.EvDhIdeal.τ).loc Cert.EvDhIdeal.main_arg6)
          ∧ r.2.mem ((c.tc : Thread Cert.EvDhIdeal.nD Cert.EvDhIdeal.τ).loc Cert.EvDhIdeal.main_arg7) = m ((c.tc : Thread Cert.EvDhIdeal.nD Cert.EvDhIdeal.τ).loc Cert.EvDhIdeal.main_arg7)
          ∧ r.2.mem ((c.tc : Thread Cert.EvDhIdeal.nD Cert.EvDhIdeal.τ).loc Cert.EvDhIdeal.main_arg8) = m ((c.tc : Thread Cert.EvDhIdeal.nD Cert.EvDhIdeal.τ).loc Cert.EvDhIdeal.main_arg8)
          ∧ r.2.mem ((c.tc : Thread Cert.EvDhIdeal.nD Cert.EvDhIdeal.τ).loc Cert.EvDhIdeal.main_arg9) = m ((c.tc : Thread Cert.EvDhIdeal.nD Cert.EvDhIdeal.τ).loc Cert.EvDhIdeal.main_arg9))
      ∧ θ_run (Cert.ReferenceEvDhIdeal.defs (F := Ideal)) (onTc (τ := Cert.ReferenceEvDhIdeal.τ) (Cert.ReferenceEvDhIdeal.main (F := Ideal))) ⟨m', fun _ => 0, g'⟩ (fun r => ∀ c : Dev Cert.ReferenceEvDhIdeal.nD,
          r.2.mem ((c.tc : Thread Cert.ReferenceEvDhIdeal.nD Cert.ReferenceEvDhIdeal.τ).loc Cert.ReferenceEvDhIdeal.main_v39) = v0 c
          ∧ r.2.mem ((c.tc : Thread Cert.ReferenceEvDhIdeal.nD Cert.ReferenceEvDhIdeal.τ).loc Cert.ReferenceEvDhIdeal.main_v40) = v1 c
          ∧ r.2.mem ((c.tc : Thread Cert.ReferenceEvDhIdeal.nD Cert.ReferenceEvDhIdeal.τ).loc Cert.ReferenceEvDhIdeal.main_v41) = v2 c
          ∧ r.2.mem ((c.tc : Thread Cert.ReferenceEvDhIdeal.nD Cert.ReferenceEvDhIdeal.τ).loc Cert.ReferenceEvDhIdeal.main_arg0) = m' ((c.tc : Thread Cert.ReferenceEvDhIdeal.nD Cert.ReferenceEvDhIdeal.τ).loc Cert.ReferenceEvDhIdeal.main_arg0)
          ∧ r.2.mem ((c.tc : Thread Cert.ReferenceEvDhIdeal.nD Cert.ReferenceEvDhIdeal.τ).loc Cert.ReferenceEvDhIdeal.main_arg1) = m' ((c.tc : Thread Cert.ReferenceEvDhIdeal.nD Cert.ReferenceEvDhIdeal.τ).loc Cert.ReferenceEvDhIdeal.main_arg1)
          ∧ r.2.mem ((c.tc : Thread Cert.ReferenceEvDhIdeal.nD Cert.ReferenceEvDhIdeal.τ).loc Cert.ReferenceEvDhIdeal.main_arg2) = m' ((c.tc : Thread Cert.ReferenceEvDhIdeal.nD Cert.ReferenceEvDhIdeal.τ).loc Cert.ReferenceEvDhIdeal.main_arg2)
          ∧ r.2.mem ((c.tc : Thread Cert.ReferenceEvDhIdeal.nD Cert.ReferenceEvDhIdeal.τ).loc Cert.ReferenceEvDhIdeal.main_arg3) = m' ((c.tc : Thread Cert.ReferenceEvDhIdeal.nD Cert.ReferenceEvDhIdeal.τ).loc Cert.ReferenceEvDhIdeal.main_arg3)
          ∧ r.2.mem ((c.tc : Thread Cert.ReferenceEvDhIdeal.nD Cert.ReferenceEvDhIdeal.τ).loc Cert.ReferenceEvDhIdeal.main_arg4) = m' ((c.tc : Thread Cert.ReferenceEvDhIdeal.nD Cert.ReferenceEvDhIdeal.τ).loc Cert.ReferenceEvDhIdeal.main_arg4)
          ∧ r.2.mem ((c.tc : Thread Cert.ReferenceEvDhIdeal.nD Cert.ReferenceEvDhIdeal.τ).loc Cert.ReferenceEvDhIdeal.main_arg5) = m' ((c.tc : Thread Cert.ReferenceEvDhIdeal.nD Cert.ReferenceEvDhIdeal.τ).loc Cert.ReferenceEvDhIdeal.main_arg5)
          ∧ r.2.mem ((c.tc : Thread Cert.ReferenceEvDhIdeal.nD Cert.ReferenceEvDhIdeal.τ).loc Cert.ReferenceEvDhIdeal.main_arg6) = m' ((c.tc : Thread Cert.ReferenceEvDhIdeal.nD Cert.ReferenceEvDhIdeal.τ).loc Cert.ReferenceEvDhIdeal.main_arg6)
          ∧ r.2.mem ((c.tc : Thread Cert.ReferenceEvDhIdeal.nD Cert.ReferenceEvDhIdeal.τ).loc Cert.ReferenceEvDhIdeal.main_arg7) = m' ((c.tc : Thread Cert.ReferenceEvDhIdeal.nD Cert.ReferenceEvDhIdeal.τ).loc Cert.ReferenceEvDhIdeal.main_arg7)
          ∧ r.2.mem ((c.tc : Thread Cert.ReferenceEvDhIdeal.nD Cert.ReferenceEvDhIdeal.τ).loc Cert.ReferenceEvDhIdeal.main_arg8) = m' ((c.tc : Thread Cert.ReferenceEvDhIdeal.nD Cert.ReferenceEvDhIdeal.τ).loc Cert.ReferenceEvDhIdeal.main_arg8)
          ∧ r.2.mem ((c.tc : Thread Cert.ReferenceEvDhIdeal.nD Cert.ReferenceEvDhIdeal.τ).loc Cert.ReferenceEvDhIdeal.main_arg9) = m' ((c.tc : Thread Cert.ReferenceEvDhIdeal.nD Cert.ReferenceEvDhIdeal.τ).loc Cert.ReferenceEvDhIdeal.main_arg9))

def Claim : Prop :=
  ∃ (hFwd : Cert.Fwd.Facts) (hFwdIdeal : Cert.FwdIdeal.Facts) (hReferenceFwdIdeal : Cert.ReferenceFwdIdeal.Facts) (hDwout : Cert.Dwout.Facts) (hDwoutIdeal : Cert.DwoutIdeal.Facts) (hReferenceDwoutIdeal : Cert.ReferenceDwoutIdeal.Facts) (hDwin : Cert.Dwin.Facts) (hDwinIdeal : Cert.DwinIdeal.Facts) (hReferenceDwinIdeal : Cert.ReferenceDwinIdeal.Facts) (hDh : Cert.Dh.Facts) (hDhIdeal : Cert.DhIdeal.Facts) (hReferenceDhIdeal : Cert.ReferenceDhIdeal.Facts) (hDact : Cert.Dact.Facts) (hDactIdeal : Cert.DactIdeal.Facts) (hReferenceDactIdeal : Cert.ReferenceDactIdeal.Facts) (hAdamwIn : Cert.AdamwIn.Facts) (hAdamwInIdeal : Cert.AdamwInIdeal.Facts) (hReferenceAdamwInIdeal : Cert.ReferenceAdamwInIdeal.Facts) (hAdamwOut : Cert.AdamwOut.Facts) (hAdamwOutIdeal : Cert.AdamwOutIdeal.Facts) (hReferenceAdamwOutIdeal : Cert.ReferenceAdamwOutIdeal.Facts) (hAdamwEvIn : Cert.AdamwEvIn.Facts) (hAdamwEvInIdeal : Cert.AdamwEvInIdeal.Facts) (hReferenceAdamwEvInIdeal : Cert.ReferenceAdamwEvInIdeal.Facts) (hAdamwOdIn : Cert.AdamwOdIn.Facts) (hAdamwOdInIdeal : Cert.AdamwOdInIdeal.Facts) (hReferenceAdamwOdInIdeal : Cert.ReferenceAdamwOdInIdeal.Facts) (hAdamwMixOut : Cert.AdamwMixOut.Facts) (hAdamwMixOutIdeal : Cert.AdamwMixOutIdeal.Facts) (hReferenceAdamwMixOutIdeal : Cert.ReferenceAdamwMixOutIdeal.Facts) (hAdamwNorm : Cert.AdamwNorm.Facts) (hAdamwNormIdeal : Cert.AdamwNormIdeal.Facts) (hReferenceAdamwNormIdeal : Cert.ReferenceAdamwNormIdeal.Facts) (hAdamwConv : Cert.AdamwConv.Facts) (hAdamwConvIdeal : Cert.AdamwConvIdeal.Facts) (hReferenceAdamwConvIdeal : Cert.ReferenceAdamwConvIdeal.Facts) (hAdamwHead : Cert.AdamwHead.Facts) (hAdamwHeadIdeal : Cert.AdamwHeadIdeal.Facts) (hReferenceAdamwHeadIdeal : Cert.ReferenceAdamwHeadIdeal.Facts) (hAdamwPool : Cert.AdamwPool.Facts) (hAdamwPoolIdeal : Cert.AdamwPoolIdeal.Facts) (hReferenceAdamwPoolIdeal : Cert.ReferenceAdamwPoolIdeal.Facts) (hAdamwWidth : Cert.AdamwWidth.Facts) (hAdamwWidthIdeal : Cert.AdamwWidthIdeal.Facts) (hReferenceAdamwWidthIdeal : Cert.ReferenceAdamwWidthIdeal.Facts) (hAdamwBias : Cert.AdamwBias.Facts) (hAdamwBiasIdeal : Cert.AdamwBiasIdeal.Facts) (hReferenceAdamwBiasIdeal : Cert.ReferenceAdamwBiasIdeal.Facts) (hAdamwFinal : Cert.AdamwFinal.Facts) (hAdamwFinalIdeal : Cert.AdamwFinalIdeal.Facts) (hReferenceAdamwFinalIdeal : Cert.ReferenceAdamwFinalIdeal.Facts) (hLoss : Cert.Loss.Facts) (hLossIdeal : Cert.LossIdeal.Facts) (hReferenceLossIdeal : Cert.ReferenceLossIdeal.Facts) (hLossDx : Cert.LossDx.Facts) (hLossDxIdeal : Cert.LossDxIdeal.Facts) (hReferenceLossDxIdeal : Cert.ReferenceLossDxIdeal.Facts) (hMixNorm : Cert.MixNorm.Facts) (hMixNormIdeal : Cert.MixNormIdeal.Facts) (hReferenceMixNormIdeal : Cert.ReferenceMixNormIdeal.Facts) (hMixDmix : Cert.MixDmix.Facts) (hMixDmixIdeal : Cert.MixDmixIdeal.Facts) (hReferenceMixDmixIdeal : Cert.ReferenceMixDmixIdeal.Facts) (hOdDwout : Cert.OdDwout.Facts) (hOdDwoutIdeal : Cert.OdDwoutIdeal.Facts) (hReferenceOdDwoutIdeal : Cert.ReferenceOdDwoutIdeal.Facts) (hEvDwout : Cert.EvDwout.Facts) (hEvDwoutIdeal : Cert.EvDwoutIdeal.Facts) (hReferenceEvDwoutIdeal : Cert.ReferenceEvDwoutIdeal.Facts) (hOdDwin : Cert.OdDwin.Facts) (hOdDwinIdeal : Cert.OdDwinIdeal.Facts) (hReferenceOdDwinIdeal : Cert.ReferenceOdDwinIdeal.Facts) (hOdDh : Cert.OdDh.Facts) (hOdDhIdeal : Cert.OdDhIdeal.Facts) (hReferenceOdDhIdeal : Cert.ReferenceOdDhIdeal.Facts) (hOdIn : Cert.OdIn.Facts) (hOdInIdeal : Cert.OdInIdeal.Facts) (hReferenceOdInIdeal : Cert.ReferenceOdInIdeal.Facts) (hEvIn : Cert.EvIn.Facts) (hEvInIdeal : Cert.EvInIdeal.Facts) (hReferenceEvInIdeal : Cert.ReferenceEvInIdeal.Facts) (hOdOut : Cert.OdOut.Facts) (hOdOutIdeal : Cert.OdOutIdeal.Facts) (hReferenceOdOutIdeal : Cert.ReferenceOdOutIdeal.Facts) (hEvOut : Cert.EvOut.Facts) (hEvOutIdeal : Cert.EvOutIdeal.Facts) (hReferenceEvOutIdeal : Cert.ReferenceEvOutIdeal.Facts) (hEvDwin : Cert.EvDwin.Facts) (hEvDwinIdeal : Cert.EvDwinIdeal.Facts) (hReferenceEvDwinIdeal : Cert.ReferenceEvDwinIdeal.Facts) (hEvDh : Cert.EvDh.Facts) (hEvDhIdeal : Cert.EvDhIdeal.Facts) (hReferenceEvDhIdeal : Cert.ReferenceEvDhIdeal.Facts) (hPre_finite : Cert.Pre_finite.Facts),
    quiescent_Fwd (hFwd := hFwd)
    ∧ quiescent_FwdIdeal (hFwdIdeal := hFwdIdeal)
    ∧ quiescent_ReferenceFwdIdeal (hReferenceFwdIdeal := hReferenceFwdIdeal)
    ∧ quiescent_Dwout (hDwout := hDwout)
    ∧ quiescent_DwoutIdeal (hDwoutIdeal := hDwoutIdeal)
    ∧ quiescent_ReferenceDwoutIdeal (hReferenceDwoutIdeal := hReferenceDwoutIdeal)
    ∧ quiescent_Dwin (hDwin := hDwin)
    ∧ quiescent_DwinIdeal (hDwinIdeal := hDwinIdeal)
    ∧ quiescent_ReferenceDwinIdeal (hReferenceDwinIdeal := hReferenceDwinIdeal)
    ∧ quiescent_Dh (hDh := hDh)
    ∧ quiescent_DhIdeal (hDhIdeal := hDhIdeal)
    ∧ quiescent_ReferenceDhIdeal (hReferenceDhIdeal := hReferenceDhIdeal)
    ∧ quiescent_Dact (hDact := hDact)
    ∧ quiescent_DactIdeal (hDactIdeal := hDactIdeal)
    ∧ quiescent_DactIdeal_pre_finite (hDactIdeal := hDactIdeal) (hPre_finite := hPre_finite)
    ∧ quiescent_ReferenceDactIdeal (hReferenceDactIdeal := hReferenceDactIdeal)
    ∧ quiescent_ReferenceDactIdeal_pre_finite (hReferenceDactIdeal := hReferenceDactIdeal) (hPre_finite := hPre_finite)
    ∧ quiescent_AdamwIn (hAdamwIn := hAdamwIn)
    ∧ quiescent_AdamwInIdeal (hAdamwInIdeal := hAdamwInIdeal)
    ∧ quiescent_ReferenceAdamwInIdeal (hReferenceAdamwInIdeal := hReferenceAdamwInIdeal)
    ∧ quiescent_AdamwOut (hAdamwOut := hAdamwOut)
    ∧ quiescent_AdamwOutIdeal (hAdamwOutIdeal := hAdamwOutIdeal)
    ∧ quiescent_ReferenceAdamwOutIdeal (hReferenceAdamwOutIdeal := hReferenceAdamwOutIdeal)
    ∧ quiescent_AdamwEvIn (hAdamwEvIn := hAdamwEvIn)
    ∧ quiescent_AdamwEvInIdeal (hAdamwEvInIdeal := hAdamwEvInIdeal)
    ∧ quiescent_ReferenceAdamwEvInIdeal (hReferenceAdamwEvInIdeal := hReferenceAdamwEvInIdeal)
    ∧ quiescent_AdamwOdIn (hAdamwOdIn := hAdamwOdIn)
    ∧ quiescent_AdamwOdInIdeal (hAdamwOdInIdeal := hAdamwOdInIdeal)
    ∧ quiescent_ReferenceAdamwOdInIdeal (hReferenceAdamwOdInIdeal := hReferenceAdamwOdInIdeal)
    ∧ quiescent_AdamwMixOut (hAdamwMixOut := hAdamwMixOut)
    ∧ quiescent_AdamwMixOutIdeal (hAdamwMixOutIdeal := hAdamwMixOutIdeal)
    ∧ quiescent_ReferenceAdamwMixOutIdeal (hReferenceAdamwMixOutIdeal := hReferenceAdamwMixOutIdeal)
    ∧ quiescent_AdamwNorm (hAdamwNorm := hAdamwNorm)
    ∧ quiescent_AdamwNormIdeal (hAdamwNormIdeal := hAdamwNormIdeal)
    ∧ quiescent_ReferenceAdamwNormIdeal (hReferenceAdamwNormIdeal := hReferenceAdamwNormIdeal)
    ∧ quiescent_AdamwConv (hAdamwConv := hAdamwConv)
    ∧ quiescent_AdamwConvIdeal (hAdamwConvIdeal := hAdamwConvIdeal)
    ∧ quiescent_ReferenceAdamwConvIdeal (hReferenceAdamwConvIdeal := hReferenceAdamwConvIdeal)
    ∧ quiescent_AdamwHead (hAdamwHead := hAdamwHead)
    ∧ quiescent_AdamwHeadIdeal (hAdamwHeadIdeal := hAdamwHeadIdeal)
    ∧ quiescent_ReferenceAdamwHeadIdeal (hReferenceAdamwHeadIdeal := hReferenceAdamwHeadIdeal)
    ∧ quiescent_AdamwPool (hAdamwPool := hAdamwPool)
    ∧ quiescent_AdamwPoolIdeal (hAdamwPoolIdeal := hAdamwPoolIdeal)
    ∧ quiescent_ReferenceAdamwPoolIdeal (hReferenceAdamwPoolIdeal := hReferenceAdamwPoolIdeal)
    ∧ quiescent_AdamwWidth (hAdamwWidth := hAdamwWidth)
    ∧ quiescent_AdamwWidthIdeal (hAdamwWidthIdeal := hAdamwWidthIdeal)
    ∧ quiescent_ReferenceAdamwWidthIdeal (hReferenceAdamwWidthIdeal := hReferenceAdamwWidthIdeal)
    ∧ quiescent_AdamwBias (hAdamwBias := hAdamwBias)
    ∧ quiescent_AdamwBiasIdeal (hAdamwBiasIdeal := hAdamwBiasIdeal)
    ∧ quiescent_ReferenceAdamwBiasIdeal (hReferenceAdamwBiasIdeal := hReferenceAdamwBiasIdeal)
    ∧ quiescent_AdamwFinal (hAdamwFinal := hAdamwFinal)
    ∧ quiescent_AdamwFinalIdeal (hAdamwFinalIdeal := hAdamwFinalIdeal)
    ∧ quiescent_ReferenceAdamwFinalIdeal (hReferenceAdamwFinalIdeal := hReferenceAdamwFinalIdeal)
    ∧ quiescent_Loss (hLoss := hLoss)
    ∧ quiescent_LossIdeal (hLossIdeal := hLossIdeal)
    ∧ quiescent_ReferenceLossIdeal (hReferenceLossIdeal := hReferenceLossIdeal)
    ∧ quiescent_LossDx (hLossDx := hLossDx)
    ∧ quiescent_LossDxIdeal (hLossDxIdeal := hLossDxIdeal)
    ∧ quiescent_ReferenceLossDxIdeal (hReferenceLossDxIdeal := hReferenceLossDxIdeal)
    ∧ quiescent_MixNorm (hMixNorm := hMixNorm)
    ∧ quiescent_MixNormIdeal (hMixNormIdeal := hMixNormIdeal)
    ∧ quiescent_ReferenceMixNormIdeal (hReferenceMixNormIdeal := hReferenceMixNormIdeal)
    ∧ quiescent_MixDmix (hMixDmix := hMixDmix)
    ∧ quiescent_MixDmixIdeal (hMixDmixIdeal := hMixDmixIdeal)
    ∧ quiescent_ReferenceMixDmixIdeal (hReferenceMixDmixIdeal := hReferenceMixDmixIdeal)
    ∧ quiescent_OdDwout (hOdDwout := hOdDwout)
    ∧ quiescent_OdDwoutIdeal (hOdDwoutIdeal := hOdDwoutIdeal)
    ∧ quiescent_ReferenceOdDwoutIdeal (hReferenceOdDwoutIdeal := hReferenceOdDwoutIdeal)
    ∧ quiescent_EvDwout (hEvDwout := hEvDwout)
    ∧ quiescent_EvDwoutIdeal (hEvDwoutIdeal := hEvDwoutIdeal)
    ∧ quiescent_ReferenceEvDwoutIdeal (hReferenceEvDwoutIdeal := hReferenceEvDwoutIdeal)
    ∧ quiescent_OdDwin (hOdDwin := hOdDwin)
    ∧ quiescent_OdDwinIdeal (hOdDwinIdeal := hOdDwinIdeal)
    ∧ quiescent_ReferenceOdDwinIdeal (hReferenceOdDwinIdeal := hReferenceOdDwinIdeal)
    ∧ quiescent_OdDh (hOdDh := hOdDh)
    ∧ quiescent_OdDhIdeal (hOdDhIdeal := hOdDhIdeal)
    ∧ quiescent_ReferenceOdDhIdeal (hReferenceOdDhIdeal := hReferenceOdDhIdeal)
    ∧ quiescent_OdIn (hOdIn := hOdIn)
    ∧ quiescent_OdInIdeal (hOdInIdeal := hOdInIdeal)
    ∧ quiescent_ReferenceOdInIdeal (hReferenceOdInIdeal := hReferenceOdInIdeal)
    ∧ quiescent_EvIn (hEvIn := hEvIn)
    ∧ quiescent_EvInIdeal (hEvInIdeal := hEvInIdeal)
    ∧ quiescent_ReferenceEvInIdeal (hReferenceEvInIdeal := hReferenceEvInIdeal)
    ∧ quiescent_OdOut (hOdOut := hOdOut)
    ∧ quiescent_OdOutIdeal (hOdOutIdeal := hOdOutIdeal)
    ∧ quiescent_ReferenceOdOutIdeal (hReferenceOdOutIdeal := hReferenceOdOutIdeal)
    ∧ quiescent_EvOut (hEvOut := hEvOut)
    ∧ quiescent_EvOutIdeal (hEvOutIdeal := hEvOutIdeal)
    ∧ quiescent_ReferenceEvOutIdeal (hReferenceEvOutIdeal := hReferenceEvOutIdeal)
    ∧ quiescent_EvDwin (hEvDwin := hEvDwin)
    ∧ quiescent_EvDwinIdeal (hEvDwinIdeal := hEvDwinIdeal)
    ∧ quiescent_ReferenceEvDwinIdeal (hReferenceEvDwinIdeal := hReferenceEvDwinIdeal)
    ∧ quiescent_EvDh (hEvDh := hEvDh)
    ∧ quiescent_EvDhIdeal (hEvDhIdeal := hEvDhIdeal)
    ∧ quiescent_ReferenceEvDhIdeal (hReferenceEvDhIdeal := hReferenceEvDhIdeal)
    ∧ preserves_Fwd_FwdIdeal
    ∧ algebraic_FwdIdeal_ReferenceFwdIdeal (hFwdIdeal := hFwdIdeal) (hReferenceFwdIdeal := hReferenceFwdIdeal)
    ∧ preserves_Dwout_DwoutIdeal
    ∧ algebraic_DwoutIdeal_ReferenceDwoutIdeal (hDwoutIdeal := hDwoutIdeal) (hReferenceDwoutIdeal := hReferenceDwoutIdeal)
    ∧ preserves_Dwin_DwinIdeal
    ∧ algebraic_DwinIdeal_ReferenceDwinIdeal (hDwinIdeal := hDwinIdeal) (hReferenceDwinIdeal := hReferenceDwinIdeal)
    ∧ preserves_Dh_DhIdeal
    ∧ algebraic_DhIdeal_ReferenceDhIdeal (hDhIdeal := hDhIdeal) (hReferenceDhIdeal := hReferenceDhIdeal)
    ∧ preserves_Dact_DactIdeal
    ∧ algebraic_DactIdeal_ReferenceDactIdeal_pre_finite (hDactIdeal := hDactIdeal) (hReferenceDactIdeal := hReferenceDactIdeal) (hPre_finite := hPre_finite)
    ∧ preserves_AdamwIn_AdamwInIdeal
    ∧ algebraic_AdamwInIdeal_ReferenceAdamwInIdeal (hAdamwInIdeal := hAdamwInIdeal) (hReferenceAdamwInIdeal := hReferenceAdamwInIdeal)
    ∧ preserves_AdamwOut_AdamwOutIdeal
    ∧ algebraic_AdamwOutIdeal_ReferenceAdamwOutIdeal (hAdamwOutIdeal := hAdamwOutIdeal) (hReferenceAdamwOutIdeal := hReferenceAdamwOutIdeal)
    ∧ preserves_AdamwEvIn_AdamwEvInIdeal
    ∧ algebraic_AdamwEvInIdeal_ReferenceAdamwEvInIdeal (hAdamwEvInIdeal := hAdamwEvInIdeal) (hReferenceAdamwEvInIdeal := hReferenceAdamwEvInIdeal)
    ∧ preserves_AdamwOdIn_AdamwOdInIdeal
    ∧ algebraic_AdamwOdInIdeal_ReferenceAdamwOdInIdeal (hAdamwOdInIdeal := hAdamwOdInIdeal) (hReferenceAdamwOdInIdeal := hReferenceAdamwOdInIdeal)
    ∧ preserves_AdamwMixOut_AdamwMixOutIdeal
    ∧ algebraic_AdamwMixOutIdeal_ReferenceAdamwMixOutIdeal (hAdamwMixOutIdeal := hAdamwMixOutIdeal) (hReferenceAdamwMixOutIdeal := hReferenceAdamwMixOutIdeal)
    ∧ preserves_AdamwNorm_AdamwNormIdeal
    ∧ algebraic_AdamwNormIdeal_ReferenceAdamwNormIdeal (hAdamwNormIdeal := hAdamwNormIdeal) (hReferenceAdamwNormIdeal := hReferenceAdamwNormIdeal)
    ∧ preserves_AdamwConv_AdamwConvIdeal
    ∧ algebraic_AdamwConvIdeal_ReferenceAdamwConvIdeal (hAdamwConvIdeal := hAdamwConvIdeal) (hReferenceAdamwConvIdeal := hReferenceAdamwConvIdeal)
    ∧ preserves_AdamwHead_AdamwHeadIdeal
    ∧ algebraic_AdamwHeadIdeal_ReferenceAdamwHeadIdeal (hAdamwHeadIdeal := hAdamwHeadIdeal) (hReferenceAdamwHeadIdeal := hReferenceAdamwHeadIdeal)
    ∧ preserves_AdamwPool_AdamwPoolIdeal
    ∧ algebraic_AdamwPoolIdeal_ReferenceAdamwPoolIdeal (hAdamwPoolIdeal := hAdamwPoolIdeal) (hReferenceAdamwPoolIdeal := hReferenceAdamwPoolIdeal)
    ∧ preserves_AdamwWidth_AdamwWidthIdeal
    ∧ algebraic_AdamwWidthIdeal_ReferenceAdamwWidthIdeal (hAdamwWidthIdeal := hAdamwWidthIdeal) (hReferenceAdamwWidthIdeal := hReferenceAdamwWidthIdeal)
    ∧ preserves_AdamwBias_AdamwBiasIdeal
    ∧ algebraic_AdamwBiasIdeal_ReferenceAdamwBiasIdeal (hAdamwBiasIdeal := hAdamwBiasIdeal) (hReferenceAdamwBiasIdeal := hReferenceAdamwBiasIdeal)
    ∧ preserves_AdamwFinal_AdamwFinalIdeal
    ∧ algebraic_AdamwFinalIdeal_ReferenceAdamwFinalIdeal (hAdamwFinalIdeal := hAdamwFinalIdeal) (hReferenceAdamwFinalIdeal := hReferenceAdamwFinalIdeal)
    ∧ preserves_Loss_LossIdeal
    ∧ algebraic_LossIdeal_ReferenceLossIdeal (hLossIdeal := hLossIdeal) (hReferenceLossIdeal := hReferenceLossIdeal)
    ∧ preserves_LossDx_LossDxIdeal
    ∧ algebraic_LossDxIdeal_ReferenceLossDxIdeal (hLossDxIdeal := hLossDxIdeal) (hReferenceLossDxIdeal := hReferenceLossDxIdeal)
    ∧ preserves_MixNorm_MixNormIdeal
    ∧ algebraic_MixNormIdeal_ReferenceMixNormIdeal (hMixNormIdeal := hMixNormIdeal) (hReferenceMixNormIdeal := hReferenceMixNormIdeal)
    ∧ preserves_MixDmix_MixDmixIdeal
    ∧ algebraic_MixDmixIdeal_ReferenceMixDmixIdeal (hMixDmixIdeal := hMixDmixIdeal) (hReferenceMixDmixIdeal := hReferenceMixDmixIdeal)
    ∧ preserves_OdDwout_OdDwoutIdeal
    ∧ algebraic_OdDwoutIdeal_ReferenceOdDwoutIdeal (hOdDwoutIdeal := hOdDwoutIdeal) (hReferenceOdDwoutIdeal := hReferenceOdDwoutIdeal)
    ∧ preserves_EvDwout_EvDwoutIdeal
    ∧ algebraic_EvDwoutIdeal_ReferenceEvDwoutIdeal (hEvDwoutIdeal := hEvDwoutIdeal) (hReferenceEvDwoutIdeal := hReferenceEvDwoutIdeal)
    ∧ preserves_OdDwin_OdDwinIdeal
    ∧ algebraic_OdDwinIdeal_ReferenceOdDwinIdeal (hOdDwinIdeal := hOdDwinIdeal) (hReferenceOdDwinIdeal := hReferenceOdDwinIdeal)
    ∧ preserves_OdDh_OdDhIdeal
    ∧ algebraic_OdDhIdeal_ReferenceOdDhIdeal (hOdDhIdeal := hOdDhIdeal) (hReferenceOdDhIdeal := hReferenceOdDhIdeal)
    ∧ preserves_OdIn_OdInIdeal
    ∧ algebraic_OdInIdeal_ReferenceOdInIdeal (hOdInIdeal := hOdInIdeal) (hReferenceOdInIdeal := hReferenceOdInIdeal)
    ∧ preserves_EvIn_EvInIdeal
    ∧ algebraic_EvInIdeal_ReferenceEvInIdeal (hEvInIdeal := hEvInIdeal) (hReferenceEvInIdeal := hReferenceEvInIdeal)
    ∧ preserves_OdOut_OdOutIdeal
    ∧ algebraic_OdOutIdeal_ReferenceOdOutIdeal (hOdOutIdeal := hOdOutIdeal) (hReferenceOdOutIdeal := hReferenceOdOutIdeal)
    ∧ preserves_EvOut_EvOutIdeal
    ∧ algebraic_EvOutIdeal_ReferenceEvOutIdeal (hEvOutIdeal := hEvOutIdeal) (hReferenceEvOutIdeal := hReferenceEvOutIdeal)
    ∧ preserves_EvDwin_EvDwinIdeal
    ∧ algebraic_EvDwinIdeal_ReferenceEvDwinIdeal (hEvDwinIdeal := hEvDwinIdeal) (hReferenceEvDwinIdeal := hReferenceEvDwinIdeal)
    ∧ preserves_EvDh_EvDhIdeal
    ∧ algebraic_EvDhIdeal_ReferenceEvDhIdeal (hEvDhIdeal := hEvDhIdeal) (hReferenceEvDhIdeal := hReferenceEvDhIdeal)
-- ==== Pre_finite.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S1024 .f32) (main_arg2 : FVec F S1024x5632 .f32) (main_arg3 : FVec F S2816x1024 .f32) (main_arg4 : FVec F S4096x1024 .f32) : IVec S4096x1024 1 × IVec S1024 1 × IVec S1024x5632 1 × IVec S2816x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x5632 .f32 := Host.absf main_arg2
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Fwd.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S1024x4x1408 : Shape := ⟨3, ![1024, 4, 1408]⟩
abbrev S4x1024x1408 : Shape := ⟨3, ![4, 1024, 1408]⟩
abbrev S1x1024 : Shape := ⟨2, ![1, 1024]⟩
abbrev S2x4096x2816 : Shape := ⟨3, ![2, 4096, 2816]⟩
abbrev S1024x1024 : Shape := ⟨2, ![1024, 1024]⟩
abbrev S1x1024x1408 : Shape := ⟨3, ![1, 1024, 1408]⟩
abbrev S1024x1 : Shape := ⟨2, ![1024, 1]⟩
abbrev S1024x1408 : Shape := ⟨2, ![1024, 1408]⟩
abbrev S1x512x2816 : Shape := ⟨3, ![1, 512, 2816]⟩
abbrev S512x1024 : Shape := ⟨2, ![512, 1024]⟩
abbrev S512x2816 : Shape := ⟨2, ![512, 2816]⟩

abbrev nBuf : Space → Nat
  | .hbm => 12
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024x5632, .bf16⟩
  | .hbm, ⟨5, _⟩ => ⟨S1024x4x1408, .bf16⟩
  | .hbm, ⟨6, _⟩ => ⟨S4x1024x1408, .bf16⟩
  | .hbm, ⟨7, _⟩ => ⟨S2816x1024, .bf16⟩
  | .hbm, ⟨8, _⟩ => ⟨S1x1024, .f32⟩
  | .hbm, ⟨9, _⟩ => ⟨S2x4096x2816, .bf16⟩
  | .hbm, ⟨10, _⟩ => ⟨S4096x1024, .bf16⟩
  | .hbm, ⟨11, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S1024x1024, .bf16⟩
  | .local _ .vmem, ⟨8, _⟩ => ⟨S1024x1024, .bf16⟩
  | .local _ .vmem, ⟨9, _⟩ => ⟨S1x512x2816, .bf16⟩
  | .local _ .vmem, ⟨10, _⟩ => ⟨S1x512x2816, .bf16⟩
  | .local _ .vmem, ⟨11, _⟩ => ⟨S1x512x2816, .bf16⟩
  | .local _ .vmem, ⟨12, _⟩ => ⟨S1x512x2816, .bf16⟩
  | .local _ .vmem, ⟨13, _⟩ => ⟨S2816x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev grid1 : Pipeline.Grid := ⟨3, ![8, 1, 1], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage1_0 : Fin 2 → Memref sig .tc .vmem S1x512x2816 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, false]

abbrev stage1_1 : Fin 2 → Memref sig .tc .vmem S1x512x2816 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, false]

abbrev stage1_2 : Fin 1 → Memref sig .tc .vmem S2816x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, false]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false, false]
-- ==== ReferenceFwdIdeal.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x5632, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== Dwout.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S1x1024x1408 : Shape := ⟨3, ![1, 1024, 1408]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 30
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S4096x1024, .f32⟩
  | .hbm, ⟨5, _⟩ => ⟨S4096x1024, .bf16⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x5632, .f32⟩
  | .hbm, ⟨23, _⟩ => ⟨S4096x2816, .f32⟩
  | .hbm, ⟨24, _⟩ => ⟨S4096x2816, .f32⟩
  | .hbm, ⟨25, _⟩ => ⟨S1x4096x2816, .f32⟩
  | .hbm, ⟨26, _⟩ => ⟨S1x4096x2816, .f32⟩
  | .hbm, ⟨27, _⟩ => ⟨S2x4096x2816, .f32⟩
  | .hbm, ⟨28, _⟩ => ⟨S2x4096x2816, .bf16⟩
  | .hbm, ⟨29, _⟩ => ⟨S2816x1024, .bf16⟩
  | .local _ .vmem, ⟨0, _⟩ => ⟨S1x1024x1408, .bf16⟩
  | .local _ .vmem, ⟨1, _⟩ => ⟨S1x1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .bf16⟩
  | .local _ .vmem, ⟨5, _⟩ => ⟨S1024x1024, .bf16⟩
  | .local _ .vmem, ⟨6, _⟩ => ⟨S1408x1024, .bf16⟩
  | .local _ .vmem, ⟨7, _⟩ => ⟨S1408x1024, .bf16⟩
  | .local _ .vmem, ⟨8, _⟩ => ⟨S1408x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_13 : BitVec 32 := 3#32
  let v24 : BitVec 1 := Scalar.cmpi .eq arg2 c3_i32_13
  let v25 : BitVec 32 := Scalar.extui v24
  let c0_i32_14 : BitVec 32 := 0#32
  let v26 : BitVec 1 := Scalar.cmpi .ne v25 c0_i32_14
  v26

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== ReferenceDwoutIdeal.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S1024x2816 : Shape := ⟨2, ![1024, 2816]⟩

abbrev nBuf : Space → Nat
  | .hbm => 45
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x5632, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S1024x2816, .f32⟩
  | .hbm, ⟨43, _⟩ => ⟨S2816x1024, .f32⟩
  | .hbm, ⟨44, _⟩ => ⟨S2816x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩

abbrev nD : Nat := 1
abbrev τ : Topo := Topo.v7x

variable {F : FTy → Type} [FloatOps F]
-- ==== Dwin.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S4x1024x1408 : Shape := ⟨3, ![4, 1024, 1408]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S1024x1408 : Shape := ⟨2, ![1024, 1408]⟩
abbrev S2048x1408 : Shape := ⟨2, ![2048, 1408]⟩

abbrev nBuf : Space → Nat
  | .hbm => 78
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x5632, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S4096x5632, .f32⟩
  | .hbm, ⟨54, _⟩ => ⟨S4096x2816, .f32⟩
  | .hbm, ⟨55, _⟩ => ⟨S4096x2816, .f32⟩
  | .hbm, ⟨56, _⟩ => ⟨S1x4096x2816, .f32⟩
  | .hbm, ⟨57, _⟩ => ⟨S1x4096x2816, .f32⟩
  | .hbm, ⟨58, _⟩ => ⟨S2x4096x2816, .f32⟩
  | .hbm, ⟨59, _⟩ => ⟨S2x4096x2816, .bf16⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S4096x1, .f32⟩
  | .hbm, ⟨71, _⟩ => ⟨S4096x1024, .f32⟩
  | .hbm, ⟨72, _⟩ => ⟨S4096x1024, .f32⟩
  | .hbm, ⟨73, _⟩ => ⟨S1x1024, .f32⟩
  | .hbm, ⟨74, _⟩ => ⟨S4096x1024, .f32⟩
  | .hbm, ⟨75, _⟩ => ⟨S4096x1024, .f32⟩
  | .hbm, ⟨76, _⟩ => ⟨S4096x1024, .bf16⟩
  | .hbm, ⟨77, _⟩ => ⟨S4x1024x1408, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_v16_2 : Ref sig .tc := ⟨.hbm, 31, rfl⟩
abbrev main_call0_cst_1 : Ref sig .tc := ⟨.hbm, 32, rfl⟩
abbrev main_call0_v6 : Ref sig .tc := ⟨.hbm, 33, rfl⟩
abbrev main_call0_v7 : Ref sig .tc := ⟨.hbm, 34, rfl⟩
abbrev main_v16_1 : Ref sig .tc := ⟨.hbm, 35, rfl⟩
abbrev main_v16_0 : Ref sig .tc := ⟨.hbm, 36, rfl⟩
abbrev main_v17 : Ref sig .tc := ⟨.hbm, 37, rfl⟩
abbrev main_v18 : Ref sig .tc := ⟨.hbm, 38, rfl⟩
abbrev main_cst_2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_4 : Ref sig .tc := ⟨.hbm, 61, rfl⟩
abbrev main_v36 : Ref sig .tc := ⟨.hbm, 62, rfl⟩
abbrev main_v37 : Ref sig .tc := ⟨.hbm, 63, rfl⟩
abbrev main_cst_5 : Ref sig .tc := ⟨.hbm, 64, rfl⟩
abbrev main_v38 : Ref sig .tc := ⟨.hbm, 65, rfl⟩
abbrev main_v39 : Ref sig .tc := ⟨.hbm, 66, rfl⟩
abbrev main_cst_6 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32_7 : BitVec 32 := 1#32
  let v13 : BitVec 1 := Scalar.cmpi .eq arg2 c1_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== ReferenceDwinIdeal.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S5632x1024 : Shape := ⟨2, ![5632, 1024]⟩
abbrev S1024x1408 : Shape := ⟨2, ![1024, 1408]⟩
abbrev S1x1024x1408 : Shape := ⟨3, ![1, 1024, 1408]⟩
abbrev S4x1024x1408 : Shape := ⟨3, ![4, 1024, 1408]⟩

abbrev nBuf : Space → Nat
  | .hbm => 66
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x5632, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S4096x5632, .f32⟩
  | .hbm, ⟨54, _⟩ => ⟨S5632x1024, .f32⟩
  | .hbm, ⟨55, _⟩ => ⟨S1024x5632, .f32⟩
  | .hbm, ⟨56, _⟩ => ⟨S1024x1408, .f32⟩
  | .hbm, ⟨57, _⟩ => ⟨S1024x1408, .f32⟩
  | .hbm, ⟨58, _⟩ => ⟨S1024x1408, .f32⟩
  | .hbm, ⟨59, _⟩ => ⟨S1024x1408, .f32⟩
  | .hbm, ⟨60, _⟩ => ⟨S1x1024x1408, .f32⟩
  | .hbm, ⟨61, _⟩ => ⟨S1x1024x1408, .f32⟩
  | .hbm, ⟨62, _⟩ => ⟨S1x1024x1408, .f32⟩
  | .hbm, ⟨63, _⟩ => ⟨S1x1024x1408, .f32⟩
  | .hbm, ⟨64, _⟩ => ⟨S4x1024x1408, .f32⟩
  | .hbm, ⟨65, _⟩ => ⟨S4x1024x1408, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_v16_2 : Ref sig .tc := ⟨.hbm, 31, rfl⟩
abbrev main_call0_cst_1 : Ref sig .tc := ⟨.hbm, 32, rfl⟩
abbrev main_call0_v6 : Ref sig .tc := ⟨.hbm, 33, rfl⟩
abbrev main_call0_v7 : Ref sig .tc := ⟨.hbm, 34, rfl⟩
abbrev main_v16_1 : Ref sig .tc := ⟨.hbm, 35, rfl⟩
abbrev main_v16_0 : Ref sig .tc := ⟨.hbm, 36, rfl⟩
abbrev main_v17 : Ref sig .tc := ⟨.hbm, 37, rfl⟩
abbrev main_v18 : Ref sig .tc := ⟨.hbm, 38, rfl⟩
abbrev main_cst_2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩

abbrev nD : Nat := 1
abbrev τ : Topo := Topo.v7x

variable {F : FTy → Type} [FloatOps F]
-- ==== Dh.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S1024x4x1408 : Shape := ⟨3, ![1024, 4, 1408]⟩
abbrev S4x1024x1408 : Shape := ⟨3, ![4, 1024, 1408]⟩
abbrev S1x512x2816 : Shape := ⟨3, ![1, 512, 2816]⟩
abbrev S512x1024 : Shape := ⟨2, ![512, 1024]⟩
abbrev S512x2816 : Shape := ⟨2, ![512, 2816]⟩
abbrev S1x1024x1408 : Shape := ⟨3, ![1, 1024, 1408]⟩
abbrev S1024x1408 : Shape := ⟨2, ![1024, 1408]⟩
abbrev S1024x2816 : Shape := ⟨2, ![1024, 2816]⟩
abbrev S512 : Shape := ⟨1, ![512]⟩
abbrev S512x1 : Shape := ⟨2, ![512, 1]⟩

abbrev nBuf : Space → Nat
  | .hbm => 67
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x5632, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S4096x5632, .f32⟩
  | .hbm, ⟨54, _⟩ => ⟨S4096x2816, .f32⟩
  | .hbm, ⟨55, _⟩ => ⟨S4096x2816, .f32⟩
  | .hbm, ⟨56, _⟩ => ⟨S1x4096x2816, .f32⟩
  | .hbm, ⟨57, _⟩ => ⟨S1x4096x2816, .f32⟩
  | .hbm, ⟨58, _⟩ => ⟨S2x4096x2816, .f32⟩
  | .hbm, ⟨59, _⟩ => ⟨S2x4096x2816, .bf16⟩
  | .hbm, ⟨60, _⟩ => ⟨S1024x5632, .bf16⟩
  | .hbm, ⟨61, _⟩ => ⟨S1024x4x1408, .bf16⟩
  | .hbm, ⟨62, _⟩ => ⟨S4x1024x1408, .bf16⟩
  | .hbm, ⟨63, _⟩ => ⟨S1x1024, .f32⟩
  | .hbm, ⟨64, _⟩ => ⟨S4096x1024, .f32⟩
  | .hbm, ⟨65, _⟩ => ⟨S1x1024, .f32⟩
  | .hbm, ⟨66, _⟩ => ⟨S4096x1024, .bf16⟩
  | .local _ .vmem, ⟨0, _⟩ => ⟨S1x512x2816, .bf16⟩
  | .local _ .vmem, ⟨1, _⟩ => ⟨S1x512x2816, .bf16⟩
  | .local _ .vmem, ⟨2, _⟩ => ⟨S4x1024x1408, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_v16_2 : Ref sig .tc := ⟨.hbm, 31, rfl⟩
abbrev main_call0_cst_1 : Ref sig .tc := ⟨.hbm, 32, rfl⟩
abbrev main_call0_v6 : Ref sig .tc := ⟨.hbm, 33, rfl⟩
abbrev main_call0_v7 : Ref sig .tc := ⟨.hbm, 34, rfl⟩
abbrev main_v16_1 : Ref sig .tc := ⟨.hbm, 35, rfl⟩
abbrev main_v16_0 : Ref sig .tc := ⟨.hbm, 36, rfl⟩
abbrev main_v17 : Ref sig .tc := ⟨.hbm, 37, rfl⟩
abbrev main_v18 : Ref sig .tc := ⟨.hbm, 38, rfl⟩
abbrev main_cst_2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39_0 : Ref sig .tc := ⟨.hbm, 64, rfl⟩
abbrev main_v39_1 : Ref sig .tc := ⟨.hbm, 65, rfl⟩
abbrev main_v39_2 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![8, 1, 2], ![false, false, false]⟩

def k0_off1 (i : grid0.Coords) : Fin 3 → Nat :=
  let c2_i32 : BitVec 32 := 2#32
  let arg2 : BitVec 32 := BitVec.ofNat 32 (i 2).val
  let v2 : BitVec 32 := Scalar.muli c2_i32 arg2
  let v3 : Index := Scalar.indexCast v2
  let c0_2 : Index := 0#32
  let c0_3 : Index := 0#32
  ![v3.toNat, 0, 0]
def k0_off2 (i : grid0.Coords) : Fin 3 → Nat :=
  let c2_i32_4 : BitVec 32 := 2#32
  let arg2 : BitVec 32 := BitVec.ofNat 32 (i 2).val
  let v6 : BitVec 32 := Scalar.muli c2_i32_4 arg2
  let c1_i32 : BitVec 32 := 1#32
  let v7 : BitVec 32 := Scalar.addi v6 c1_i32
  let v8 : Index := Scalar.indexCast v7
  let c0_5 : Index := 0#32
  let c0_6 : Index := 0#32
  ![v8.toNat, 0, 0]
def k0_cond3 (i : grid0.Coords) : BitVec 1 :=
  let arg2 : BitVec 32 := BitVec.ofNat 32 (i 2).val
  let c1_i32_11 : BitVec 32 := 1#32
  let v21 : BitVec 1 := Scalar.cmpi .eq arg2 c1_i32_11
  let v22 : BitVec 32 := Scalar.extui v21
  let c0_i32_12 : BitVec 32 := 0#32
  let v23 : BitVec 1 := Scalar.cmpi .ne v22 c0_i32_12
  v23

def k0_cond4 (i : grid0.Coords) : BitVec 1 :=
  let arg0 : BitVec 32 := BitVec.ofNat 32 (i 0).val
  let c0_i32_31 : BitVec 32 := 0#32
  let v59 : BitVec 1 := Scalar.cmpi .eq arg0 c0_i32_31
  let v60 : BitVec 32 := Scalar.extui v59
  let c0_i32_32 : BitVec 32 := 0#32
  let v61 : BitVec 1 := Scalar.cmpi .ne v60 c0_i32_32
  v61

def k0_cond5 (i : grid0.Coords) : BitVec 1 :=
  let arg0 : BitVec 32 := BitVec.ofNat 32 (i 0).val
  let c0_i32_33 : BitVec 32 := 0#32
  let v62 : BitVec 1 := Scalar.cmpi .sgt arg0 c0_i32_33
  let v63 : BitVec 32 := Scalar.extui v62
  let c0_i32_34 : BitVec 32 := 0#32
  let v64 : BitVec 1 := Scalar.cmpi .ne v63 c0_i32_34
  v64

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== ReferenceDhIdeal.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩

abbrev nBuf : Space → Nat
  | .hbm => 88
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x5632, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S_, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S4096x2816, .f32⟩
  | .hbm, ⟨55, _⟩ => ⟨S4096x2816, .f32⟩
  | .hbm, ⟨56, _⟩ => ⟨S4096x2816, .f32⟩
  | .hbm, ⟨57, _⟩ => ⟨S4096x2816, .f32⟩
  | .hbm, ⟨58, _⟩ => ⟨S4096x5632, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S1024, .f32⟩
  | .hbm, ⟨68, _⟩ => ⟨S4096x1024, .f32⟩
  | .hbm, ⟨69, _⟩ => ⟨S_, .f32⟩
  | .hbm, ⟨70, _⟩ => ⟨S4096, .f32⟩
  | .hbm, ⟨71, _⟩ => ⟨S4096x1, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1, .f32⟩
  | .hbm, ⟨76, _⟩ => ⟨S_, .f32⟩
  | .hbm, ⟨77, _⟩ => ⟨S4096x1, .f32⟩
  | .hbm, ⟨78, _⟩ => ⟨S4096x1, .f32⟩
  | .hbm, ⟨79, _⟩ => ⟨S_, .f32⟩
  | .hbm, ⟨80, _⟩ => ⟨S4096, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .bf16⟩
  | .hbm, ⟨87, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v19_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v19_1 : Ref sig .tc := ⟨.hbm, 39, rfl⟩
abbrev main_v19_0 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_4 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_5 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_6 : Ref sig .tc := ⟨.hbm, 66, rfl⟩
abbrev main_v39 : Ref sig .tc := ⟨.hbm, 67, rfl⟩
abbrev main_v40 : Ref sig .tc := ⟨.hbm, 68, rfl⟩
abbrev main_cst_7 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_8 : Ref sig .tc := ⟨.hbm, 76, rfl⟩
abbrev main_v47 : Ref sig .tc := ⟨.hbm, 77, rfl⟩
abbrev main_v48 : Ref sig .tc := ⟨.hbm, 78, rfl⟩
abbrev main_cst_9 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩

abbrev nD : Nat := 1
abbrev τ : Topo := Topo.v7x

variable {F : FTy → Type} [FloatOps F]
-- ==== Dact.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S1024x1024 : Shape := ⟨2, ![1024, 1024]⟩
abbrev S1x1024x1408 : Shape := ⟨3, ![1, 1024, 1408]⟩
abbrev S2x1024x1408 : Shape := ⟨3, ![2, 1024, 1408]⟩
abbrev S1408x1024 : Shape := ⟨2, ![1408, 1024]⟩
abbrev S1024x1408 : Shape := ⟨2, ![1024, 1408]⟩

abbrev nBuf : Space → Nat
  | .hbm => 47
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x5632, .f32⟩
  | .hbm, ⟨38, _⟩ => ⟨S4096x2816, .f32⟩
  | .hbm, ⟨39, _⟩ => ⟨S4096x2816, .f32⟩
  | .hbm, ⟨40, _⟩ => ⟨S1x4096x2816, .f32⟩
  | .hbm, ⟨41, _⟩ => ⟨S1x4096x2816, .f32⟩
  | .hbm, ⟨42, _⟩ => ⟨S2x4096x2816, .f32⟩
  | .hbm, ⟨43, _⟩ => ⟨S2x4096x2816, .bf16⟩
  | .hbm, ⟨44, _⟩ => ⟨S4096x1024, .bf16⟩
  | .hbm, ⟨45, _⟩ => ⟨S2816x1024, .bf16⟩
  | .hbm, ⟨46, _⟩ => ⟨S2x4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S2816x1024, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S2x1024x1408, .bf16⟩
  | .local _ .vmem, ⟨8, _⟩ => ⟨S2x1024x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 2, 1], ![false, false, false]⟩

def k0_mult1 (i : grid0.Coords) : BitVec 32 :=
  let arg1 : BitVec 32 := BitVec.ofNat 32 (i 1).val
  let c1408_i32 : BitVec 32 := 1408#32
  let v2 : BitVec 32 := Scalar.muli arg1 c1408_i32
  v2
def k0_off1 (i : grid0.Coords) : Fin 2 → Nat :=
  let arg1 : BitVec 32 := BitVec.ofNat 32 (i 1).val
  let c1408_i32 : BitVec 32 := 1408#32
  let v2 : BitVec 32 := Scalar.muli arg1 c1408_i32
  let v3 : BitVec 32 := v2
  let v4 : Index := Scalar.indexCast v3
  let c0_1 : Index := 0#32
  ![v4.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2x1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== ReferenceDactIdeal.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x5632, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S4096x5632, .f32⟩
  | .hbm, ⟨54, _⟩ => ⟨S4096x2816, .f32⟩
  | .hbm, ⟨55, _⟩ => ⟨S4096x2816, .f32⟩
  | .hbm, ⟨56, _⟩ => ⟨S1x4096x2816, .f32⟩
  | .hbm, ⟨57, _⟩ => ⟨S1x4096x2816, .f32⟩
  | .hbm, ⟨58, _⟩ => ⟨S2x4096x2816, .f32⟩
  | .hbm, ⟨59, _⟩ => ⟨S2x4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_v16_2 : Ref sig .tc := ⟨.hbm, 31, rfl⟩
abbrev main_call0_cst_1 : Ref sig .tc := ⟨.hbm, 32, rfl⟩
abbrev main_call0_v6 : Ref sig .tc := ⟨.hbm, 33, rfl⟩
abbrev main_call0_v7 : Ref sig .tc := ⟨.hbm, 34, rfl⟩
abbrev main_v16_1 : Ref sig .tc := ⟨.hbm, 35, rfl⟩
abbrev main_v16_0 : Ref sig .tc := ⟨.hbm, 36, rfl⟩
abbrev main_v17 : Ref sig .tc := ⟨.hbm, 37, rfl⟩
abbrev main_v18 : Ref sig .tc := ⟨.hbm, 38, rfl⟩
abbrev main_cst_2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩

abbrev nD : Nat := 1
abbrev τ : Topo := Topo.v7x

variable {F : FTy → Type} [FloatOps F]
-- ==== AdamwIn.lean ====
abbrev S4x1024x1408 : Shape := ⟨3, ![4, 1024, 1408]⟩
abbrev S4096x1408 : Shape := ⟨2, ![4096, 1408]⟩
abbrev S128x1408 : Shape := ⟨2, ![128, 1408]⟩

abbrev nBuf : Space → Nat
  | .hbm => 12
  | .vmem => 16
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .hbm, ⟨8, _⟩ => ⟨S4096x1408, .f32⟩
  | .hbm, ⟨9, _⟩ => ⟨S4096x1408, .f32⟩
  | .hbm, ⟨10, _⟩ => ⟨S4096x1408, .f32⟩
  | .hbm, ⟨11, _⟩ => ⟨S4096x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | .local _ .vmem, ⟨14, _⟩ => ⟨S128x1408, .f32⟩
  | .local _ .vmem, ⟨15, _⟩ => ⟨S128x1408, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwInIdeal.lean ====
abbrev S4x1024x1408 : Shape := ⟨3, ![4, 1024, 1408]⟩
abbrev S4096x1408 : Shape := ⟨2, ![4096, 1408]⟩
abbrev S128x1408 : Shape := ⟨2, ![128, 1408]⟩

abbrev nBuf : Space → Nat
  | .hbm => 12
  | .vmem => 16
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .hbm, ⟨8, _⟩ => ⟨S4096x1408, .f32⟩
  | .hbm, ⟨9, _⟩ => ⟨S4096x1408, .f32⟩
  | .hbm, ⟨10, _⟩ => ⟨S4096x1408, .f32⟩
  | .hbm, ⟨11, _⟩ => ⟨S4096x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | .local _ .vmem, ⟨14, _⟩ => ⟨S128x1408, .f32⟩
  | .local _ .vmem, ⟨15, _⟩ => ⟨S128x1408, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdamwInIdeal.lean ====
abbrev S4x1024x1408 : Shape := ⟨3, ![4, 1024, 1408]⟩
abbrev S_ : Shape := ⟨0, ![]⟩
abbrev S4096x1408 : Shape := ⟨2, ![4096, 1408]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S_, .f32⟩
  | .hbm, ⟨5, _⟩ => ⟨S4x1024x1408, .f32⟩
  | .hbm, ⟨6, _⟩ => ⟨S4x1024x1408, .f32⟩
  | .hbm, ⟨7, _⟩ => ⟨S_, .f32⟩
  | .hbm, ⟨8, _⟩ => ⟨S4x1024x1408, .f32⟩
  | .hbm, ⟨9, _⟩ => ⟨S4x1024x1408, .f32⟩
  | .hbm, ⟨10, _⟩ => ⟨S4x1024x1408, .f32⟩
  | .hbm, ⟨11, _⟩ => ⟨S_, .f32⟩
  | .hbm, ⟨12, _⟩ => ⟨S4x1024x1408, .f32⟩
  | .hbm, ⟨13, _⟩ => ⟨S4x1024x1408, .f32⟩
  | .hbm, ⟨14, _⟩ => ⟨S4x1024x1408, .f32⟩
  | .hbm, ⟨15, _⟩ => ⟨S_, .f32⟩
  | .hbm, ⟨16, _⟩ => ⟨S4x1024x1408, .f32⟩
  | .hbm, ⟨17, _⟩ => ⟨S4x1024x1408, .f32⟩
  | .hbm, ⟨18, _⟩ => ⟨S4x1024x1408, .f32⟩
  | .hbm, ⟨19, _⟩ => ⟨S_, .f32⟩
  | .hbm, ⟨20, _⟩ => ⟨S4x1024x1408, .f32⟩
  | .hbm, ⟨21, _⟩ => ⟨S4x1024x1408, .f32⟩
  | .hbm, ⟨22, _⟩ => ⟨S_, .f32⟩
  | .hbm, ⟨23, _⟩ => ⟨S4x1024x1408, .f32⟩
  | .hbm, ⟨24, _⟩ => ⟨S4x1024x1408, .f32⟩
  | .hbm, ⟨25, _⟩ => ⟨S4x1024x1408, .f32⟩
  | .hbm, ⟨26, _⟩ => ⟨S_, .f32⟩
  | .hbm, ⟨27, _⟩ => ⟨S4x1024x1408, .f32⟩
  | .hbm, ⟨28, _⟩ => ⟨S4x1024x1408, .f32⟩
  | .hbm, ⟨29, _⟩ => ⟨S4x1024x1408, .f32⟩
  | .hbm, ⟨30, _⟩ => ⟨S_, .f32⟩
  | .hbm, ⟨31, _⟩ => ⟨S4x1024x1408, .f32⟩
  | .hbm, ⟨32, _⟩ => ⟨S4x1024x1408, .f32⟩
  | .hbm, ⟨33, _⟩ => ⟨S4x1024x1408, .f32⟩
  | .hbm, ⟨34, _⟩ => ⟨S_, .f32⟩
  | .hbm, ⟨35, _⟩ => ⟨S4x1024x1408, .f32⟩
  | .hbm, ⟨36, _⟩ => ⟨S4x1024x1408, .f32⟩
  | .hbm, ⟨37, _⟩ => ⟨S4096x1408, .f32⟩
  | .hbm, ⟨38, _⟩ => ⟨S4096x1408, .f32⟩
  | .hbm, ⟨39, _⟩ => ⟨S4096x1408, .f32⟩
  | _, _ => ⟨S4x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamwOut.lean ====
abbrev S4x704x1024 : Shape := ⟨3, ![4, 704, 1024]⟩
abbrev S2816x1024 : Shape := ⟨2, ![2816, 1024]⟩
abbrev S256x1024 : Shape := ⟨2, ![256, 1024]⟩

abbrev nBuf : Space → Nat
  | .hbm => 12
  | .vmem => 16
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S2816x1024, .f32⟩
  | .hbm, ⟨9, _⟩ => ⟨S2816x1024, .f32⟩
  | .hbm, ⟨10, _⟩ => ⟨S2816x1024, .f32⟩
  | .hbm, ⟨11, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwOutIdeal.lean ====
abbrev S4x704x1024 : Shape := ⟨3, ![4, 704, 1024]⟩
abbrev S2816x1024 : Shape := ⟨2, ![2816, 1024]⟩
abbrev S256x1024 : Shape := ⟨2, ![256, 1024]⟩

abbrev nBuf : Space → Nat
  | .hbm => 12
  | .vmem => 16
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S2816x1024, .f32⟩
  | .hbm, ⟨9, _⟩ => ⟨S2816x1024, .f32⟩
  | .hbm, ⟨10, _⟩ => ⟨S2816x1024, .f32⟩
  | .hbm, ⟨11, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdamwOutIdeal.lean ====
abbrev S4x704x1024 : Shape := ⟨3, ![4, 704, 1024]⟩
abbrev S_ : Shape := ⟨0, ![]⟩
abbrev S2816x1024 : Shape := ⟨2, ![2816, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S_, .f32⟩
  | .hbm, ⟨5, _⟩ => ⟨S4x704x1024, .f32⟩
  | .hbm, ⟨6, _⟩ => ⟨S4x704x1024, .f32⟩
  | .hbm, ⟨7, _⟩ => ⟨S_, .f32⟩
  | .hbm, ⟨8, _⟩ => ⟨S4x704x1024, .f32⟩
  | .hbm, ⟨9, _⟩ => ⟨S4x704x1024, .f32⟩
  | .hbm, ⟨10, _⟩ => ⟨S4x704x1024, .f32⟩
  | .hbm, ⟨11, _⟩ => ⟨S_, .f32⟩
  | .hbm, ⟨12, _⟩ => ⟨S4x704x1024, .f32⟩
  | .hbm, ⟨13, _⟩ => ⟨S4x704x1024, .f32⟩
  | .hbm, ⟨14, _⟩ => ⟨S4x704x1024, .f32⟩
  | .hbm, ⟨15, _⟩ => ⟨S_, .f32⟩
  | .hbm, ⟨16, _⟩ => ⟨S4x704x1024, .f32⟩
  | .hbm, ⟨17, _⟩ => ⟨S4x704x1024, .f32⟩
  | .hbm, ⟨18, _⟩ => ⟨S4x704x1024, .f32⟩
  | .hbm, ⟨19, _⟩ => ⟨S_, .f32⟩
  | .hbm, ⟨20, _⟩ => ⟨S4x704x1024, .f32⟩
  | .hbm, ⟨21, _⟩ => ⟨S4x704x1024, .f32⟩
  | .hbm, ⟨22, _⟩ => ⟨S_, .f32⟩
  | .hbm, ⟨23, _⟩ => ⟨S4x704x1024, .f32⟩
  | .hbm, ⟨24, _⟩ => ⟨S4x704x1024, .f32⟩
  | .hbm, ⟨25, _⟩ => ⟨S4x704x1024, .f32⟩
  | .hbm, ⟨26, _⟩ => ⟨S_, .f32⟩
  | .hbm, ⟨27, _⟩ => ⟨S4x704x1024, .f32⟩
  | .hbm, ⟨28, _⟩ => ⟨S4x704x1024, .f32⟩
  | .hbm, ⟨29, _⟩ => ⟨S4x704x1024, .f32⟩
  | .hbm, ⟨30, _⟩ => ⟨S_, .f32⟩
  | .hbm, ⟨31, _⟩ => ⟨S4x704x1024, .f32⟩
  | .hbm, ⟨32, _⟩ => ⟨S4x704x1024, .f32⟩
  | .hbm, ⟨33, _⟩ => ⟨S4x704x1024, .f32⟩
  | .hbm, ⟨34, _⟩ => ⟨S_, .f32⟩
  | .hbm, ⟨35, _⟩ => ⟨S4x704x1024, .f32⟩
  | .hbm, ⟨36, _⟩ => ⟨S4x704x1024, .f32⟩
  | .hbm, ⟨37, _⟩ => ⟨S2816x1024, .f32⟩
  | .hbm, ⟨38, _⟩ => ⟨S2816x1024, .f32⟩
  | .hbm, ⟨39, _⟩ => ⟨S2816x1024, .f32⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamwEvIn.lean ====
abbrev S2x1024x576 : Shape := ⟨3, ![2, 1024, 576]⟩
abbrev S2048x576 : Shape := ⟨2, ![2048, 576]⟩
abbrev S256x576 : Shape := ⟨2, ![256, 576]⟩

abbrev nBuf : Space → Nat
  | .hbm => 12
  | .vmem => 16
  | .smem => 0
  | _ => 0

abbrev bufTy : (tb : Table) → Fin (tcTables nBuf tb) → BufTy
  | .hbm, ⟨0, _⟩ => ⟨S2x1024x576, .f32⟩
  | .hbm, ⟨1, _⟩ => ⟨S2x1024x576, .f32⟩
  | .hbm, ⟨2, _⟩ => ⟨S2x1024x576, .f32⟩
  | .hbm, ⟨3, _⟩ => ⟨S2x1024x576, .f32⟩
  | .hbm, ⟨4, _⟩ => ⟨S2048x576, .f32⟩
  | .hbm, ⟨5, _⟩ => ⟨S2048x576, .f32⟩
  | .hbm, ⟨6, _⟩ => ⟨S2048x576, .f32⟩
  | .hbm, ⟨7, _⟩ => ⟨S2048x576, .f32⟩
  | .hbm, ⟨8, _⟩ => ⟨S2048x576, .f32⟩
  | .hbm, ⟨9, _⟩ => ⟨S2048x576, .f32⟩
  | .hbm, ⟨10, _⟩ => ⟨S2048x576, .f32⟩
  | .hbm, ⟨11, _⟩ => ⟨S2048x576, .f32⟩
  | .local _ .vmem, ⟨0, _⟩ => ⟨S256x576, .f32⟩
  | .local _ .vmem, ⟨1, _⟩ => ⟨S256x576, .f32⟩
  | .local _ .vmem, ⟨2, _⟩ => ⟨S256x576, .f32⟩
  | .local _ .vmem, ⟨3, _⟩ => ⟨S256x576, .f32⟩
  | .local _ .vmem, ⟨4, _⟩ => ⟨S256x576, .f32⟩
  | .local _ .vmem, ⟨5, _⟩ => ⟨S256x576, .f32⟩
  | .local _ .vmem, ⟨6, _⟩ => ⟨S256x576, .f32⟩
  | .local _ .vmem, ⟨7, _⟩ => ⟨S256x576, .f32⟩
  | .local _ .vmem, ⟨8, _⟩ => ⟨S256x576, .f32⟩
  | .local _ .vmem, ⟨9, _⟩ => ⟨S256x576, .f32⟩
  | .local _ .vmem, ⟨10, _⟩ => ⟨S256x576, .f32⟩
  | .local _ .vmem, ⟨11, _⟩ => ⟨S256x576, .f32⟩
  | .local _ .vmem, ⟨12, _⟩ => ⟨S256x576, .f32⟩
  | .local _ .vmem, ⟨13, _⟩ => ⟨S256x576, .f32⟩
  | .local _ .vmem, ⟨14, _⟩ => ⟨S256x576, .f32⟩
  | .local _ .vmem, ⟨15, _⟩ => ⟨S256x576, .f32⟩
  | _, _ => ⟨S2x1024x576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x576 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x576 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x576 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x576 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x576 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x576 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x576 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwEvInIdeal.lean ====
abbrev S2x1024x576 : Shape := ⟨3, ![2, 1024, 576]⟩
abbrev S2048x576 : Shape := ⟨2, ![2048, 576]⟩
abbrev S256x576 : Shape := ⟨2, ![256, 576]⟩

abbrev nBuf : Space → Nat
  | .hbm => 12
  | .vmem => 16
  | .smem => 0
  | _ => 0

abbrev bufTy : (tb : Table) → Fin (tcTables nBuf tb) → BufTy
  | .hbm, ⟨0, _⟩ => ⟨S2x1024x576, .f32⟩
  | .hbm, ⟨1, _⟩ => ⟨S2x1024x576, .f32⟩
  | .hbm, ⟨2, _⟩ => ⟨S2x1024x576, .f32⟩
  | .hbm, ⟨3, _⟩ => ⟨S2x1024x576, .f32⟩
  | .hbm, ⟨4, _⟩ => ⟨S2048x576, .f32⟩
  | .hbm, ⟨5, _⟩ => ⟨S2048x576, .f32⟩
  | .hbm, ⟨6, _⟩ => ⟨S2048x576, .f32⟩
  | .hbm, ⟨7, _⟩ => ⟨S2048x576, .f32⟩
  | .hbm, ⟨8, _⟩ => ⟨S2048x576, .f32⟩
  | .hbm, ⟨9, _⟩ => ⟨S2048x576, .f32⟩
  | .hbm, ⟨10, _⟩ => ⟨S2048x576, .f32⟩
  | .hbm, ⟨11, _⟩ => ⟨S2048x576, .f32⟩
  | .local _ .vmem, ⟨0, _⟩ => ⟨S256x576, .f32⟩
  | .local _ .vmem, ⟨1, _⟩ => ⟨S256x576, .f32⟩
  | .local _ .vmem, ⟨2, _⟩ => ⟨S256x576, .f32⟩
  | .local _ .vmem, ⟨3, _⟩ => ⟨S256x576, .f32⟩
  | .local _ .vmem, ⟨4, _⟩ => ⟨S256x576, .f32⟩
  | .local _ .vmem, ⟨5, _⟩ => ⟨S256x576, .f32⟩
  | .local _ .vmem, ⟨6, _⟩ => ⟨S256x576, .f32⟩
  | .local _ .vmem, ⟨7, _⟩ => ⟨S256x576, .f32⟩
  | .local _ .vmem, ⟨8, _⟩ => ⟨S256x576, .f32⟩
  | .local _ .vmem, ⟨9, _⟩ => ⟨S256x576, .f32⟩
  | .local _ .vmem, ⟨10, _⟩ => ⟨S256x576, .f32⟩
  | .local _ .vmem, ⟨11, _⟩ => ⟨S256x576, .f32⟩
  | .local _ .vmem, ⟨12, _⟩ => ⟨S256x576, .f32⟩
  | .local _ .vmem, ⟨13, _⟩ => ⟨S256x576, .f32⟩
  | .local _ .vmem, ⟨14, _⟩ => ⟨S256x576, .f32⟩
  | .local _ .vmem, ⟨15, _⟩ => ⟨S256x576, .f32⟩
  | _, _ => ⟨S2x1024x576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x576 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x576 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x576 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x576 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x576 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x576 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x576 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdamwEvInIdeal.lean ====
abbrev S2x1024x576 : Shape := ⟨3, ![2, 1024, 576]⟩
abbrev S_ : Shape := ⟨0, ![]⟩
abbrev S2048x576 : Shape := ⟨2, ![2048, 576]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x576, .f32⟩
  | .hbm, ⟨1, _⟩ => ⟨S2x1024x576, .f32⟩
  | .hbm, ⟨2, _⟩ => ⟨S2x1024x576, .f32⟩
  | .hbm, ⟨3, _⟩ => ⟨S2x1024x576, .f32⟩
  | .hbm, ⟨4, _⟩ => ⟨S_, .f32⟩
  | .hbm, ⟨5, _⟩ => ⟨S2x1024x576, .f32⟩
  | .hbm, ⟨6, _⟩ => ⟨S2x1024x576, .f32⟩
  | .hbm, ⟨7, _⟩ => ⟨S_, .f32⟩
  | .hbm, ⟨8, _⟩ => ⟨S2x1024x576, .f32⟩
  | .hbm, ⟨9, _⟩ => ⟨S2x1024x576, .f32⟩
  | .hbm, ⟨10, _⟩ => ⟨S2x1024x576, .f32⟩
  | .hbm, ⟨11, _⟩ => ⟨S_, .f32⟩
  | .hbm, ⟨12, _⟩ => ⟨S2x1024x576, .f32⟩
  | .hbm, ⟨13, _⟩ => ⟨S2x1024x576, .f32⟩
  | .hbm, ⟨14, _⟩ => ⟨S2x1024x576, .f32⟩
  | .hbm, ⟨15, _⟩ => ⟨S_, .f32⟩
  | .hbm, ⟨16, _⟩ => ⟨S2x1024x576, .f32⟩
  | .hbm, ⟨17, _⟩ => ⟨S2x1024x576, .f32⟩
  | .hbm, ⟨18, _⟩ => ⟨S2x1024x576, .f32⟩
  | .hbm, ⟨19, _⟩ => ⟨S_, .f32⟩
  | .hbm, ⟨20, _⟩ => ⟨S2x1024x576, .f32⟩
  | .hbm, ⟨21, _⟩ => ⟨S2x1024x576, .f32⟩
  | .hbm, ⟨22, _⟩ => ⟨S_, .f32⟩
  | .hbm, ⟨23, _⟩ => ⟨S2x1024x576, .f32⟩
  | .hbm, ⟨24, _⟩ => ⟨S2x1024x576, .f32⟩
  | .hbm, ⟨25, _⟩ => ⟨S2x1024x576, .f32⟩
  | .hbm, ⟨26, _⟩ => ⟨S_, .f32⟩
  | .hbm, ⟨27, _⟩ => ⟨S2x1024x576, .f32⟩
  | .hbm, ⟨28, _⟩ => ⟨S2x1024x576, .f32⟩
  | .hbm, ⟨29, _⟩ => ⟨S2x1024x576, .f32⟩
  | .hbm, ⟨30, _⟩ => ⟨S_, .f32⟩
  | .hbm, ⟨31, _⟩ => ⟨S2x1024x576, .f32⟩
  | .hbm, ⟨32, _⟩ => ⟨S2x1024x576, .f32⟩
  | .hbm, ⟨33, _⟩ => ⟨S2x1024x576, .f32⟩
  | .hbm, ⟨34, _⟩ => ⟨S_, .f32⟩
  | .hbm, ⟨35, _⟩ => ⟨S2x1024x576, .f32⟩
  | .hbm, ⟨36, _⟩ => ⟨S2x1024x576, .f32⟩
  | .hbm, ⟨37, _⟩ => ⟨S2048x576, .f32⟩
  | .hbm, ⟨38, _⟩ => ⟨S2048x576, .f32⟩
  | .hbm, ⟨39, _⟩ => ⟨S2048x576, .f32⟩
  | _, _ => ⟨S2x1024x576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamwOdIn.lean ====
abbrev S2x1024x384 : Shape := ⟨3, ![2, 1024, 384]⟩
abbrev S2048x384 : Shape := ⟨2, ![2048, 384]⟩
abbrev S512x384 : Shape := ⟨2, ![512, 384]⟩

abbrev nBuf : Space → Nat
  | .hbm => 12
  | .vmem => 16
  | .smem => 0
  | _ => 0

abbrev bufTy : (tb : Table) → Fin (tcTables nBuf tb) → BufTy
  | .hbm, ⟨0, _⟩ => ⟨S2x1024x384, .f32⟩
  | .hbm, ⟨1, _⟩ => ⟨S2x1024x384, .f32⟩
  | .hbm, ⟨2, _⟩ => ⟨S2x1024x384, .f32⟩
  | .hbm, ⟨3, _⟩ => ⟨S2x1024x384, .f32⟩
  | .hbm, ⟨4, _⟩ => ⟨S2048x384, .f32⟩
  | .hbm, ⟨5, _⟩ => ⟨S2048x384, .f32⟩
  | .hbm, ⟨6, _⟩ => ⟨S2048x384, .f32⟩
  | .hbm, ⟨7, _⟩ => ⟨S2048x384, .f32⟩
  | .hbm, ⟨8, _⟩ => ⟨S2048x384, .f32⟩
  | .hbm, ⟨9, _⟩ => ⟨S2048x384, .f32⟩
  | .hbm, ⟨10, _⟩ => ⟨S2048x384, .f32⟩
  | .hbm, ⟨11, _⟩ => ⟨S2048x384, .f32⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S512x384, .f32⟩
  | .local _ .vmem, ⟨13, _⟩ => ⟨S512x384, .f32⟩
  | .local _ .vmem, ⟨14, _⟩ => ⟨S512x384, .f32⟩
  | .local _ .vmem, ⟨15, _⟩ => ⟨S512x384, .f32⟩
  | _, _ => ⟨S2x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwOdInIdeal.lean ====
abbrev S2x1024x384 : Shape := ⟨3, ![2, 1024, 384]⟩
abbrev S2048x384 : Shape := ⟨2, ![2048, 384]⟩
abbrev S512x384 : Shape := ⟨2, ![512, 384]⟩

abbrev nBuf : Space → Nat
  | .hbm => 12
  | .vmem => 16
  | .smem => 0
  | _ => 0

abbrev bufTy : (tb : Table) → Fin (tcTables nBuf tb) → BufTy
  | .hbm, ⟨0, _⟩ => ⟨S2x1024x384, .f32⟩
  | .hbm, ⟨1, _⟩ => ⟨S2x1024x384, .f32⟩
  | .hbm, ⟨2, _⟩ => ⟨S2x1024x384, .f32⟩
  | .hbm, ⟨3, _⟩ => ⟨S2x1024x384, .f32⟩
  | .hbm, ⟨4, _⟩ => ⟨S2048x384, .f32⟩
  | .hbm, ⟨5, _⟩ => ⟨S2048x384, .f32⟩
  | .hbm, ⟨6, _⟩ => ⟨S2048x384, .f32⟩
  | .hbm, ⟨7, _⟩ => ⟨S2048x384, .f32⟩
  | .hbm, ⟨8, _⟩ => ⟨S2048x384, .f32⟩
  | .hbm, ⟨9, _⟩ => ⟨S2048x384, .f32⟩
  | .hbm, ⟨10, _⟩ => ⟨S2048x384, .f32⟩
  | .hbm, ⟨11, _⟩ => ⟨S2048x384, .f32⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S512x384, .f32⟩
  | .local _ .vmem, ⟨13, _⟩ => ⟨S512x384, .f32⟩
  | .local _ .vmem, ⟨14, _⟩ => ⟨S512x384, .f32⟩
  | .local _ .vmem, ⟨15, _⟩ => ⟨S512x384, .f32⟩
  | _, _ => ⟨S2x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdamwOdInIdeal.lean ====
abbrev S2x1024x384 : Shape := ⟨3, ![2, 1024, 384]⟩
abbrev S_ : Shape := ⟨0, ![]⟩
abbrev S2048x384 : Shape := ⟨2, ![2048, 384]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x384, .f32⟩
  | .hbm, ⟨1, _⟩ => ⟨S2x1024x384, .f32⟩
  | .hbm, ⟨2, _⟩ => ⟨S2x1024x384, .f32⟩
  | .hbm, ⟨3, _⟩ => ⟨S2x1024x384, .f32⟩
  | .hbm, ⟨4, _⟩ => ⟨S_, .f32⟩
  | .hbm, ⟨5, _⟩ => ⟨S2x1024x384, .f32⟩
  | .hbm, ⟨6, _⟩ => ⟨S2x1024x384, .f32⟩
  | .hbm, ⟨7, _⟩ => ⟨S_, .f32⟩
  | .hbm, ⟨8, _⟩ => ⟨S2x1024x384, .f32⟩
  | .hbm, ⟨9, _⟩ => ⟨S2x1024x384, .f32⟩
  | .hbm, ⟨10, _⟩ => ⟨S2x1024x384, .f32⟩
  | .hbm, ⟨11, _⟩ => ⟨S_, .f32⟩
  | .hbm, ⟨12, _⟩ => ⟨S2x1024x384, .f32⟩
  | .hbm, ⟨13, _⟩ => ⟨S2x1024x384, .f32⟩
  | .hbm, ⟨14, _⟩ => ⟨S2x1024x384, .f32⟩
  | .hbm, ⟨15, _⟩ => ⟨S_, .f32⟩
  | .hbm, ⟨16, _⟩ => ⟨S2x1024x384, .f32⟩
  | .hbm, ⟨17, _⟩ => ⟨S2x1024x384, .f32⟩
  | .hbm, ⟨18, _⟩ => ⟨S2x1024x384, .f32⟩
  | .hbm, ⟨19, _⟩ => ⟨S_, .f32⟩
  | .hbm, ⟨20, _⟩ => ⟨S2x1024x384, .f32⟩
  | .hbm, ⟨21, _⟩ => ⟨S2x1024x384, .f32⟩
  | .hbm, ⟨22, _⟩ => ⟨S_, .f32⟩
  | .hbm, ⟨23, _⟩ => ⟨S2x1024x384, .f32⟩
  | .hbm, ⟨24, _⟩ => ⟨S2x1024x384, .f32⟩
  | .hbm, ⟨25, _⟩ => ⟨S2x1024x384, .f32⟩
  | .hbm, ⟨26, _⟩ => ⟨S_, .f32⟩
  | .hbm, ⟨27, _⟩ => ⟨S2x1024x384, .f32⟩
  | .hbm, ⟨28, _⟩ => ⟨S2x1024x384, .f32⟩
  | .hbm, ⟨29, _⟩ => ⟨S2x1024x384, .f32⟩
  | .hbm, ⟨30, _⟩ => ⟨S_, .f32⟩
  | .hbm, ⟨31, _⟩ => ⟨S2x1024x384, .f32⟩
  | .hbm, ⟨32, _⟩ => ⟨S2x1024x384, .f32⟩
  | .hbm, ⟨33, _⟩ => ⟨S2x1024x384, .f32⟩
  | .hbm, ⟨34, _⟩ => ⟨S_, .f32⟩
  | .hbm, ⟨35, _⟩ => ⟨S2x1024x384, .f32⟩
  | .hbm, ⟨36, _⟩ => ⟨S2x1024x384, .f32⟩
  | .hbm, ⟨37, _⟩ => ⟨S2048x384, .f32⟩
  | .hbm, ⟨38, _⟩ => ⟨S2048x384, .f32⟩
  | .hbm, ⟨39, _⟩ => ⟨S2048x384, .f32⟩
  | _, _ => ⟨S2x1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamwMixOut.lean ====
abbrev S2x256x1024 : Shape := ⟨3, ![2, 256, 1024]⟩
abbrev S512x1024 : Shape := ⟨2, ![512, 1024]⟩
abbrev S256x1024 : Shape := ⟨2, ![256, 1024]⟩

abbrev nBuf : Space → Nat
  | .hbm => 12
  | .vmem => 16
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwMixOutIdeal.lean ====
abbrev S2x256x1024 : Shape := ⟨3, ![2, 256, 1024]⟩
abbrev S512x1024 : Shape := ⟨2, ![512, 1024]⟩
abbrev S256x1024 : Shape := ⟨2, ![256, 1024]⟩

abbrev nBuf : Space → Nat
  | .hbm => 12
  | .vmem => 16
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdamwMixOutIdeal.lean ====
abbrev S2x256x1024 : Shape := ⟨3, ![2, 256, 1024]⟩
abbrev S_ : Shape := ⟨0, ![]⟩
abbrev S512x1024 : Shape := ⟨2, ![512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | .hbm, ⟨37, _⟩ => ⟨S512x1024, .f32⟩
  | .hbm, ⟨38, _⟩ => ⟨S512x1024, .f32⟩
  | .hbm, ⟨39, _⟩ => ⟨S512x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamwNorm.lean ====
abbrev S4x1024 : Shape := ⟨2, ![4, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .hbm, ⟨7, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | .local _ .vmem, ⟨7, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwNormIdeal.lean ====
abbrev S4x1024 : Shape := ⟨2, ![4, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .hbm, ⟨7, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | .local _ .vmem, ⟨7, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceAdamwNormIdeal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwConv.lean ====
abbrev S2x3x128 : Shape := ⟨3, ![2, 3, 128]⟩
abbrev S6x128 : Shape := ⟨2, ![6, 128]⟩

abbrev nBuf : Space → Nat
  | .hbm => 12
  | .vmem => 8
  | .smem => 0
  | _ => 0

abbrev bufTy : (tb : Table) → Fin (tcTables nBuf tb) → BufTy
  | .hbm, ⟨0, _⟩ => ⟨S2x3x128, .f32⟩
  | .hbm, ⟨1, _⟩ => ⟨S2x3x128, .f32⟩
  | .hbm, ⟨2, _⟩ => ⟨S2x3x128, .f32⟩
  | .hbm, ⟨3, _⟩ => ⟨S2x3x128, .f32⟩
  | .hbm, ⟨4, _⟩ => ⟨S6x128, .f32⟩
  | .hbm, ⟨5, _⟩ => ⟨S6x128, .f32⟩
  | .hbm, ⟨6, _⟩ => ⟨S6x128, .f32⟩
  | .hbm, ⟨7, _⟩ => ⟨S6x128, .f32⟩
  | .hbm, ⟨8, _⟩ => ⟨S6x128, .f32⟩
  | .hbm, ⟨9, _⟩ => ⟨S6x128, .f32⟩
  | .hbm, ⟨10, _⟩ => ⟨S6x128, .f32⟩
  | .hbm, ⟨11, _⟩ => ⟨S6x128, .f32⟩
  | .local _ .vmem, ⟨0, _⟩ => ⟨S6x128, .f32⟩
  | .local _ .vmem, ⟨1, _⟩ => ⟨S6x128, .f32⟩
  | .local _ .vmem, ⟨2, _⟩ => ⟨S6x128, .f32⟩
  | .local _ .vmem, ⟨3, _⟩ => ⟨S6x128, .f32⟩
  | .local _ .vmem, ⟨4, _⟩ => ⟨S6x128, .f32⟩
  | .local _ .vmem, ⟨5, _⟩ => ⟨S6x128, .f32⟩
  | .local _ .vmem, ⟨6, _⟩ => ⟨S6x128, .f32⟩
  | .local _ .vmem, ⟨7, _⟩ => ⟨S6x128, .f32⟩
  | _, _ => ⟨S2x3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S6x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S6x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S6x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S6x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S6x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S6x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S6x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S6x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwConvIdeal.lean ====
abbrev S2x3x128 : Shape := ⟨3, ![2, 3, 128]⟩
abbrev S6x128 : Shape := ⟨2, ![6, 128]⟩

abbrev nBuf : Space → Nat
  | .hbm => 12
  | .vmem => 8
  | .smem => 0
  | _ => 0

abbrev bufTy : (tb : Table) → Fin (tcTables nBuf tb) → BufTy
  | .hbm, ⟨0, _⟩ => ⟨S2x3x128, .f32⟩
  | .hbm, ⟨1, _⟩ => ⟨S2x3x128, .f32⟩
  | .hbm, ⟨2, _⟩ => ⟨S2x3x128, .f32⟩
  | .hbm, ⟨3, _⟩ => ⟨S2x3x128, .f32⟩
  | .hbm, ⟨4, _⟩ => ⟨S6x128, .f32⟩
  | .hbm, ⟨5, _⟩ => ⟨S6x128, .f32⟩
  | .hbm, ⟨6, _⟩ => ⟨S6x128, .f32⟩
  | .hbm, ⟨7, _⟩ => ⟨S6x128, .f32⟩
  | .hbm, ⟨8, _⟩ => ⟨S6x128, .f32⟩
  | .hbm, ⟨9, _⟩ => ⟨S6x128, .f32⟩
  | .hbm, ⟨10, _⟩ => ⟨S6x128, .f32⟩
  | .hbm, ⟨11, _⟩ => ⟨S6x128, .f32⟩
  | .local _ .vmem, ⟨0, _⟩ => ⟨S6x128, .f32⟩
  | .local _ .vmem, ⟨1, _⟩ => ⟨S6x128, .f32⟩
  | .local _ .vmem, ⟨2, _⟩ => ⟨S6x128, .f32⟩
  | .local _ .vmem, ⟨3, _⟩ => ⟨S6x128, .f32⟩
  | .local _ .vmem, ⟨4, _⟩ => ⟨S6x128, .f32⟩
  | .local _ .vmem, ⟨5, _⟩ => ⟨S6x128, .f32⟩
  | .local _ .vmem, ⟨6, _⟩ => ⟨S6x128, .f32⟩
  | .local _ .vmem, ⟨7, _⟩ => ⟨S6x128, .f32⟩
  | _, _ => ⟨S2x3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S6x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S6x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S6x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S6x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S6x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S6x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S6x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S6x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceAdamwConvIdeal.lean ====
abbrev S2x3x128 : Shape := ⟨3, ![2, 3, 128]⟩
abbrev S_ : Shape := ⟨0, ![]⟩
abbrev S6x128 : Shape := ⟨2, ![6, 128]⟩

abbrev nBuf : Space → Nat
  | .hbm => 40
  | .vmem => 0
  | .smem => 0
  | _ => 0

abbrev bufTy : (tb : Table) → Fin (tcTables nBuf tb) → BufTy
  | .hbm, ⟨0, _⟩ => ⟨S2x3x128, .f32⟩
  | .hbm, ⟨1, _⟩ => ⟨S2x3x128, .f32⟩
  | .hbm, ⟨2, _⟩ => ⟨S2x3x128, .f32⟩
  | .hbm, ⟨3, _⟩ => ⟨S2x3x128, .f32⟩
  | .hbm, ⟨4, _⟩ => ⟨S_, .f32⟩
  | .hbm, ⟨5, _⟩ => ⟨S2x3x128, .f32⟩
  | .hbm, ⟨6, _⟩ => ⟨S2x3x128, .f32⟩
  | .hbm, ⟨7, _⟩ => ⟨S_, .f32⟩
  | .hbm, ⟨8, _⟩ => ⟨S2x3x128, .f32⟩
  | .hbm, ⟨9, _⟩ => ⟨S2x3x128, .f32⟩
  | .hbm, ⟨10, _⟩ => ⟨S2x3x128, .f32⟩
  | .hbm, ⟨11, _⟩ => ⟨S_, .f32⟩
  | .hbm, ⟨12, _⟩ => ⟨S2x3x128, .f32⟩
  | .hbm, ⟨13, _⟩ => ⟨S2x3x128, .f32⟩
  | .hbm, ⟨14, _⟩ => ⟨S2x3x128, .f32⟩
  | .hbm, ⟨15, _⟩ => ⟨S_, .f32⟩
  | .hbm, ⟨16, _⟩ => ⟨S2x3x128, .f32⟩
  | .hbm, ⟨17, _⟩ => ⟨S2x3x128, .f32⟩
  | .hbm, ⟨18, _⟩ => ⟨S2x3x128, .f32⟩
  | .hbm, ⟨19, _⟩ => ⟨S_, .f32⟩
  | .hbm, ⟨20, _⟩ => ⟨S2x3x128, .f32⟩
  | .hbm, ⟨21, _⟩ => ⟨S2x3x128, .f32⟩
  | .hbm, ⟨22, _⟩ => ⟨S_, .f32⟩
  | .hbm, ⟨23, _⟩ => ⟨S2x3x128, .f32⟩
  | .hbm, ⟨24, _⟩ => ⟨S2x3x128, .f32⟩
  | .hbm, ⟨25, _⟩ => ⟨S2x3x128, .f32⟩
  | .hbm, ⟨26, _⟩ => ⟨S_, .f32⟩
  | .hbm, ⟨27, _⟩ => ⟨S2x3x128, .f32⟩
  | .hbm, ⟨28, _⟩ => ⟨S2x3x128, .f32⟩
  | .hbm, ⟨29, _⟩ => ⟨S2x3x128, .f32⟩
  | .hbm, ⟨30, _⟩ => ⟨S_, .f32⟩
  | .hbm, ⟨31, _⟩ => ⟨S2x3x128, .f32⟩
  | .hbm, ⟨32, _⟩ => ⟨S2x3x128, .f32⟩
  | .hbm, ⟨33, _⟩ => ⟨S2x3x128, .f32⟩
  | .hbm, ⟨34, _⟩ => ⟨S_, .f32⟩
  | .hbm, ⟨35, _⟩ => ⟨S2x3x128, .f32⟩
  | .hbm, ⟨36, _⟩ => ⟨S2x3x128, .f32⟩
  | .hbm, ⟨37, _⟩ => ⟨S6x128, .f32⟩
  | .hbm, ⟨38, _⟩ => ⟨S6x128, .f32⟩
  | .hbm, ⟨39, _⟩ => ⟨S6x128, .f32⟩
  | _, _ => ⟨S2x3x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamwHead.lean ====
abbrev S2x64 : Shape := ⟨2, ![2, 64]⟩

abbrev nBuf : Space → Nat
  | .hbm => 8
  | .vmem => 8
  | .smem => 0
  | _ => 0

abbrev bufTy : (tb : Table) → Fin (tcTables nBuf tb) → BufTy
  | .hbm, ⟨0, _⟩ => ⟨S2x64, .f32⟩
  | .hbm, ⟨1, _⟩ => ⟨S2x64, .f32⟩
  | .hbm, ⟨2, _⟩ => ⟨S2x64, .f32⟩
  | .hbm, ⟨3, _⟩ => ⟨S2x64, .f32⟩
  | .hbm, ⟨4, _⟩ => ⟨S2x64, .f32⟩
  | .hbm, ⟨5, _⟩ => ⟨S2x64, .f32⟩
  | .hbm, ⟨6, _⟩ => ⟨S2x64, .f32⟩
  | .hbm, ⟨7, _⟩ => ⟨S2x64, .f32⟩
  | .local _ .vmem, ⟨0, _⟩ => ⟨S2x64, .f32⟩
  | .local _ .vmem, ⟨1, _⟩ => ⟨S2x64, .f32⟩
  | .local _ .vmem, ⟨2, _⟩ => ⟨S2x64, .f32⟩
  | .local _ .vmem, ⟨3, _⟩ => ⟨S2x64, .f32⟩
  | .local _ .vmem, ⟨4, _⟩ => ⟨S2x64, .f32⟩
  | .local _ .vmem, ⟨5, _⟩ => ⟨S2x64, .f32⟩
  | .local _ .vmem, ⟨6, _⟩ => ⟨S2x64, .f32⟩
  | .local _ .vmem, ⟨7, _⟩ => ⟨S2x64, .f32⟩
  | _, _ => ⟨S2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwHeadIdeal.lean ====
abbrev S2x64 : Shape := ⟨2, ![2, 64]⟩

abbrev nBuf : Space → Nat
  | .hbm => 8
  | .vmem => 8
  | .smem => 0
  | _ => 0

abbrev bufTy : (tb : Table) → Fin (tcTables nBuf tb) → BufTy
  | .hbm, ⟨0, _⟩ => ⟨S2x64, .f32⟩
  | .hbm, ⟨1, _⟩ => ⟨S2x64, .f32⟩
  | .hbm, ⟨2, _⟩ => ⟨S2x64, .f32⟩
  | .hbm, ⟨3, _⟩ => ⟨S2x64, .f32⟩
  | .hbm, ⟨4, _⟩ => ⟨S2x64, .f32⟩
  | .hbm, ⟨5, _⟩ => ⟨S2x64, .f32⟩
  | .hbm, ⟨6, _⟩ => ⟨S2x64, .f32⟩
  | .hbm, ⟨7, _⟩ => ⟨S2x64, .f32⟩
  | .local _ .vmem, ⟨0, _⟩ => ⟨S2x64, .f32⟩
  | .local _ .vmem, ⟨1, _⟩ => ⟨S2x64, .f32⟩
  | .local _ .vmem, ⟨2, _⟩ => ⟨S2x64, .f32⟩
  | .local _ .vmem, ⟨3, _⟩ => ⟨S2x64, .f32⟩
  | .local _ .vmem, ⟨4, _⟩ => ⟨S2x64, .f32⟩
  | .local _ .vmem, ⟨5, _⟩ => ⟨S2x64, .f32⟩
  | .local _ .vmem, ⟨6, _⟩ => ⟨S2x64, .f32⟩
  | .local _ .vmem, ⟨7, _⟩ => ⟨S2x64, .f32⟩
  | _, _ => ⟨S2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceAdamwHeadIdeal.lean ====
abbrev S2x64 : Shape := ⟨2, ![2, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x64, .f32⟩
  | .hbm, ⟨1, _⟩ => ⟨S2x64, .f32⟩
  | .hbm, ⟨2, _⟩ => ⟨S2x64, .f32⟩
  | .hbm, ⟨3, _⟩ => ⟨S2x64, .f32⟩
  | .hbm, ⟨4, _⟩ => ⟨S_, .f32⟩
  | .hbm, ⟨5, _⟩ => ⟨S2x64, .f32⟩
  | .hbm, ⟨6, _⟩ => ⟨S2x64, .f32⟩
  | .hbm, ⟨7, _⟩ => ⟨S_, .f32⟩
  | .hbm, ⟨8, _⟩ => ⟨S2x64, .f32⟩
  | .hbm, ⟨9, _⟩ => ⟨S2x64, .f32⟩
  | .hbm, ⟨10, _⟩ => ⟨S2x64, .f32⟩
  | .hbm, ⟨11, _⟩ => ⟨S_, .f32⟩
  | .hbm, ⟨12, _⟩ => ⟨S2x64, .f32⟩
  | .hbm, ⟨13, _⟩ => ⟨S2x64, .f32⟩
  | .hbm, ⟨14, _⟩ => ⟨S2x64, .f32⟩
  | .hbm, ⟨15, _⟩ => ⟨S_, .f32⟩
  | .hbm, ⟨16, _⟩ => ⟨S2x64, .f32⟩
  | .hbm, ⟨17, _⟩ => ⟨S2x64, .f32⟩
  | .hbm, ⟨18, _⟩ => ⟨S2x64, .f32⟩
  | .hbm, ⟨19, _⟩ => ⟨S_, .f32⟩
  | .hbm, ⟨20, _⟩ => ⟨S2x64, .f32⟩
  | .hbm, ⟨21, _⟩ => ⟨S2x64, .f32⟩
  | .hbm, ⟨22, _⟩ => ⟨S_, .f32⟩
  | .hbm, ⟨23, _⟩ => ⟨S2x64, .f32⟩
  | .hbm, ⟨24, _⟩ => ⟨S2x64, .f32⟩
  | .hbm, ⟨25, _⟩ => ⟨S2x64, .f32⟩
  | .hbm, ⟨26, _⟩ => ⟨S_, .f32⟩
  | .hbm, ⟨27, _⟩ => ⟨S2x64, .f32⟩
  | .hbm, ⟨28, _⟩ => ⟨S2x64, .f32⟩
  | .hbm, ⟨29, _⟩ => ⟨S2x64, .f32⟩
  | .hbm, ⟨30, _⟩ => ⟨S_, .f32⟩
  | .hbm, ⟨31, _⟩ => ⟨S2x64, .f32⟩
  | .hbm, ⟨32, _⟩ => ⟨S2x64, .f32⟩
  | .hbm, ⟨33, _⟩ => ⟨S2x64, .f32⟩
  | .hbm, ⟨34, _⟩ => ⟨S_, .f32⟩
  | .hbm, ⟨35, _⟩ => ⟨S2x64, .f32⟩
  | .hbm, ⟨36, _⟩ => ⟨S2x64, .f32⟩
  | _, _ => ⟨S2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwPool.lean ====
abbrev S2x4x128x128 : Shape := ⟨4, ![2, 4, 128, 128]⟩
abbrev S1024x128 : Shape := ⟨2, ![1024, 128]⟩

abbrev nBuf : Space → Nat
  | .hbm => 12
  | .vmem => 8
  | .smem => 0
  | _ => 0

abbrev bufTy : (tb : Table) → Fin (tcTables nBuf tb) → BufTy
  | .hbm, ⟨0, _⟩ => ⟨S2x4x128x128, .f32⟩
  | .hbm, ⟨1, _⟩ => ⟨S2x4x128x128, .f32⟩
  | .hbm, ⟨2, _⟩ => ⟨S2x4x128x128, .f32⟩
  | .hbm, ⟨3, _⟩ => ⟨S2x4x128x128, .f32⟩
  | .hbm, ⟨4, _⟩ => ⟨S1024x128, .f32⟩
  | .hbm, ⟨5, _⟩ => ⟨S1024x128, .f32⟩
  | .hbm, ⟨6, _⟩ => ⟨S1024x128, .f32⟩
  | .hbm, ⟨7, _⟩ => ⟨S1024x128, .f32⟩
  | .hbm, ⟨8, _⟩ => ⟨S1024x128, .f32⟩
  | .hbm, ⟨9, _⟩ => ⟨S1024x128, .f32⟩
  | .hbm, ⟨10, _⟩ => ⟨S1024x128, .f32⟩
  | .hbm, ⟨11, _⟩ => ⟨S1024x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | _, _ => ⟨S2x4x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwPoolIdeal.lean ====
abbrev S2x4x128x128 : Shape := ⟨4, ![2, 4, 128, 128]⟩
abbrev S1024x128 : Shape := ⟨2, ![1024, 128]⟩

abbrev nBuf : Space → Nat
  | .hbm => 12
  | .vmem => 8
  | .smem => 0
  | _ => 0

abbrev bufTy : (tb : Table) → Fin (tcTables nBuf tb) → BufTy
  | .hbm, ⟨0, _⟩ => ⟨S2x4x128x128, .f32⟩
  | .hbm, ⟨1, _⟩ => ⟨S2x4x128x128, .f32⟩
  | .hbm, ⟨2, _⟩ => ⟨S2x4x128x128, .f32⟩
  | .hbm, ⟨3, _⟩ => ⟨S2x4x128x128, .f32⟩
  | .hbm, ⟨4, _⟩ => ⟨S1024x128, .f32⟩
  | .hbm, ⟨5, _⟩ => ⟨S1024x128, .f32⟩
  | .hbm, ⟨6, _⟩ => ⟨S1024x128, .f32⟩
  | .hbm, ⟨7, _⟩ => ⟨S1024x128, .f32⟩
  | .hbm, ⟨8, _⟩ => ⟨S1024x128, .f32⟩
  | .hbm, ⟨9, _⟩ => ⟨S1024x128, .f32⟩
  | .hbm, ⟨10, _⟩ => ⟨S1024x128, .f32⟩
  | .hbm, ⟨11, _⟩ => ⟨S1024x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | _, _ => ⟨S2x4x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceAdamwPoolIdeal.lean ====
abbrev S2x4x128x128 : Shape := ⟨4, ![2, 4, 128, 128]⟩
abbrev S_ : Shape := ⟨0, ![]⟩
abbrev S1024x128 : Shape := ⟨2, ![1024, 128]⟩

abbrev nBuf : Space → Nat
  | .hbm => 40
  | .vmem => 0
  | .smem => 0
  | _ => 0

abbrev bufTy : (tb : Table) → Fin (tcTables nBuf tb) → BufTy
  | .hbm, ⟨0, _⟩ => ⟨S2x4x128x128, .f32⟩
  | .hbm, ⟨1, _⟩ => ⟨S2x4x128x128, .f32⟩
  | .hbm, ⟨2, _⟩ => ⟨S2x4x128x128, .f32⟩
  | .hbm, ⟨3, _⟩ => ⟨S2x4x128x128, .f32⟩
  | .hbm, ⟨4, _⟩ => ⟨S_, .f32⟩
  | .hbm, ⟨5, _⟩ => ⟨S2x4x128x128, .f32⟩
  | .hbm, ⟨6, _⟩ => ⟨S2x4x128x128, .f32⟩
  | .hbm, ⟨7, _⟩ => ⟨S_, .f32⟩
  | .hbm, ⟨8, _⟩ => ⟨S2x4x128x128, .f32⟩
  | .hbm, ⟨9, _⟩ => ⟨S2x4x128x128, .f32⟩
  | .hbm, ⟨10, _⟩ => ⟨S2x4x128x128, .f32⟩
  | .hbm, ⟨11, _⟩ => ⟨S_, .f32⟩
  | .hbm, ⟨12, _⟩ => ⟨S2x4x128x128, .f32⟩
  | .hbm, ⟨13, _⟩ => ⟨S2x4x128x128, .f32⟩
  | .hbm, ⟨14, _⟩ => ⟨S2x4x128x128, .f32⟩
  | .hbm, ⟨15, _⟩ => ⟨S_, .f32⟩
  | .hbm, ⟨16, _⟩ => ⟨S2x4x128x128, .f32⟩
  | .hbm, ⟨17, _⟩ => ⟨S2x4x128x128, .f32⟩
  | .hbm, ⟨18, _⟩ => ⟨S2x4x128x128, .f32⟩
  | .hbm, ⟨19, _⟩ => ⟨S_, .f32⟩
  | .hbm, ⟨20, _⟩ => ⟨S2x4x128x128, .f32⟩
  | .hbm, ⟨21, _⟩ => ⟨S2x4x128x128, .f32⟩
  | .hbm, ⟨22, _⟩ => ⟨S_, .f32⟩
  | .hbm, ⟨23, _⟩ => ⟨S2x4x128x128, .f32⟩
  | .hbm, ⟨24, _⟩ => ⟨S2x4x128x128, .f32⟩
  | .hbm, ⟨25, _⟩ => ⟨S2x4x128x128, .f32⟩
  | .hbm, ⟨26, _⟩ => ⟨S_, .f32⟩
  | .hbm, ⟨27, _⟩ => ⟨S2x4x128x128, .f32⟩
  | .hbm, ⟨28, _⟩ => ⟨S2x4x128x128, .f32⟩
  | .hbm, ⟨29, _⟩ => ⟨S2x4x128x128, .f32⟩
  | .hbm, ⟨30, _⟩ => ⟨S_, .f32⟩
  | .hbm, ⟨31, _⟩ => ⟨S2x4x128x128, .f32⟩
  | .hbm, ⟨32, _⟩ => ⟨S2x4x128x128, .f32⟩
  | .hbm, ⟨33, _⟩ => ⟨S2x4x128x128, .f32⟩
  | .hbm, ⟨34, _⟩ => ⟨S_, .f32⟩
  | .hbm, ⟨35, _⟩ => ⟨S2x4x128x128, .f32⟩
  | .hbm, ⟨36, _⟩ => ⟨S2x4x128x128, .f32⟩
  | .hbm, ⟨37, _⟩ => ⟨S1024x128, .f32⟩
  | .hbm, ⟨38, _⟩ => ⟨S1024x128, .f32⟩
  | .hbm, ⟨39, _⟩ => ⟨S1024x128, .f32⟩
  | _, _ => ⟨S2x4x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamwWidth.lean ====
abbrev S2x128 : Shape := ⟨2, ![2, 128]⟩

abbrev nBuf : Space → Nat
  | .hbm => 8
  | .vmem => 8
  | .smem => 0
  | _ => 0

abbrev bufTy : (tb : Table) → Fin (tcTables nBuf tb) → BufTy
  | .hbm, ⟨0, _⟩ => ⟨S2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S2x128, .f32⟩
  | .hbm, ⟨5, _⟩ => ⟨S2x128, .f32⟩
  | .hbm, ⟨6, _⟩ => ⟨S2x128, .f32⟩
  | .hbm, ⟨7, _⟩ => ⟨S2x128, .f32⟩
  | .local _ .vmem, ⟨0, _⟩ => ⟨S2x128, .f32⟩
  | .local _ .vmem, ⟨1, _⟩ => ⟨S2x128, .f32⟩
  | .local _ .vmem, ⟨2, _⟩ => ⟨S2x128, .f32⟩
  | .local _ .vmem, ⟨3, _⟩ => ⟨S2x128, .f32⟩
  | .local _ .vmem, ⟨4, _⟩ => ⟨S2x128, .f32⟩
  | .local _ .vmem, ⟨5, _⟩ => ⟨S2x128, .f32⟩
  | .local _ .vmem, ⟨6, _⟩ => ⟨S2x128, .f32⟩
  | .local _ .vmem, ⟨7, _⟩ => ⟨S2x128, .f32⟩
  | _, _ => ⟨S2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwWidthIdeal.lean ====
abbrev S2x128 : Shape := ⟨2, ![2, 128]⟩

abbrev nBuf : Space → Nat
  | .hbm => 8
  | .vmem => 8
  | .smem => 0
  | _ => 0

abbrev bufTy : (tb : Table) → Fin (tcTables nBuf tb) → BufTy
  | .hbm, ⟨0, _⟩ => ⟨S2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S2x128, .f32⟩
  | .hbm, ⟨5, _⟩ => ⟨S2x128, .f32⟩
  | .hbm, ⟨6, _⟩ => ⟨S2x128, .f32⟩
  | .hbm, ⟨7, _⟩ => ⟨S2x128, .f32⟩
  | .local _ .vmem, ⟨0, _⟩ => ⟨S2x128, .f32⟩
  | .local _ .vmem, ⟨1, _⟩ => ⟨S2x128, .f32⟩
  | .local _ .vmem, ⟨2, _⟩ => ⟨S2x128, .f32⟩
  | .local _ .vmem, ⟨3, _⟩ => ⟨S2x128, .f32⟩
  | .local _ .vmem, ⟨4, _⟩ => ⟨S2x128, .f32⟩
  | .local _ .vmem, ⟨5, _⟩ => ⟨S2x128, .f32⟩
  | .local _ .vmem, ⟨6, _⟩ => ⟨S2x128, .f32⟩
  | .local _ .vmem, ⟨7, _⟩ => ⟨S2x128, .f32⟩
  | _, _ => ⟨S2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceAdamwWidthIdeal.lean ====
abbrev S2x128 : Shape := ⟨2, ![2, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S_, .f32⟩
  | .hbm, ⟨5, _⟩ => ⟨S2x128, .f32⟩
  | .hbm, ⟨6, _⟩ => ⟨S2x128, .f32⟩
  | .hbm, ⟨7, _⟩ => ⟨S_, .f32⟩
  | .hbm, ⟨8, _⟩ => ⟨S2x128, .f32⟩
  | .hbm, ⟨9, _⟩ => ⟨S2x128, .f32⟩
  | .hbm, ⟨10, _⟩ => ⟨S2x128, .f32⟩
  | .hbm, ⟨11, _⟩ => ⟨S_, .f32⟩
  | .hbm, ⟨12, _⟩ => ⟨S2x128, .f32⟩
  | .hbm, ⟨13, _⟩ => ⟨S2x128, .f32⟩
  | .hbm, ⟨14, _⟩ => ⟨S2x128, .f32⟩
  | .hbm, ⟨15, _⟩ => ⟨S_, .f32⟩
  | .hbm, ⟨16, _⟩ => ⟨S2x128, .f32⟩
  | .hbm, ⟨17, _⟩ => ⟨S2x128, .f32⟩
  | .hbm, ⟨18, _⟩ => ⟨S2x128, .f32⟩
  | .hbm, ⟨19, _⟩ => ⟨S_, .f32⟩
  | .hbm, ⟨20, _⟩ => ⟨S2x128, .f32⟩
  | .hbm, ⟨21, _⟩ => ⟨S2x128, .f32⟩
  | .hbm, ⟨22, _⟩ => ⟨S_, .f32⟩
  | .hbm, ⟨23, _⟩ => ⟨S2x128, .f32⟩
  | .hbm, ⟨24, _⟩ => ⟨S2x128, .f32⟩
  | .hbm, ⟨25, _⟩ => ⟨S2x128, .f32⟩
  | .hbm, ⟨26, _⟩ => ⟨S_, .f32⟩
  | .hbm, ⟨27, _⟩ => ⟨S2x128, .f32⟩
  | .hbm, ⟨28, _⟩ => ⟨S2x128, .f32⟩
  | .hbm, ⟨29, _⟩ => ⟨S2x128, .f32⟩
  | .hbm, ⟨30, _⟩ => ⟨S_, .f32⟩
  | .hbm, ⟨31, _⟩ => ⟨S2x128, .f32⟩
  | .hbm, ⟨32, _⟩ => ⟨S2x128, .f32⟩
  | .hbm, ⟨33, _⟩ => ⟨S2x128, .f32⟩
  | .hbm, ⟨34, _⟩ => ⟨S_, .f32⟩
  | .hbm, ⟨35, _⟩ => ⟨S2x128, .f32⟩
  | .hbm, ⟨36, _⟩ => ⟨S2x128, .f32⟩
  | _, _ => ⟨S2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwBias.lean ====
abbrev S2x4x128 : Shape := ⟨3, ![2, 4, 128]⟩
abbrev S8x128 : Shape := ⟨2, ![8, 128]⟩

abbrev nBuf : Space → Nat
  | .hbm => 12
  | .vmem => 8
  | .smem => 0
  | _ => 0

abbrev bufTy : (tb : Table) → Fin (tcTables nBuf tb) → BufTy
  | .hbm, ⟨0, _⟩ => ⟨S2x4x128, .f32⟩
  | .hbm, ⟨1, _⟩ => ⟨S2x4x128, .f32⟩
  | .hbm, ⟨2, _⟩ => ⟨S2x4x128, .f32⟩
  | .hbm, ⟨3, _⟩ => ⟨S2x4x128, .f32⟩
  | .hbm, ⟨4, _⟩ => ⟨S8x128, .f32⟩
  | .hbm, ⟨5, _⟩ => ⟨S8x128, .f32⟩
  | .hbm, ⟨6, _⟩ => ⟨S8x128, .f32⟩
  | .hbm, ⟨7, _⟩ => ⟨S8x128, .f32⟩
  | .hbm, ⟨8, _⟩ => ⟨S8x128, .f32⟩
  | .hbm, ⟨9, _⟩ => ⟨S8x128, .f32⟩
  | .hbm, ⟨10, _⟩ => ⟨S8x128, .f32⟩
  | .hbm, ⟨11, _⟩ => ⟨S8x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | _, _ => ⟨S2x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwBiasIdeal.lean ====
abbrev S2x4x128 : Shape := ⟨3, ![2, 4, 128]⟩
abbrev S8x128 : Shape := ⟨2, ![8, 128]⟩

abbrev nBuf : Space → Nat
  | .hbm => 12
  | .vmem => 8
  | .smem => 0
  | _ => 0

abbrev bufTy : (tb : Table) → Fin (tcTables nBuf tb) → BufTy
  | .hbm, ⟨0, _⟩ => ⟨S2x4x128, .f32⟩
  | .hbm, ⟨1, _⟩ => ⟨S2x4x128, .f32⟩
  | .hbm, ⟨2, _⟩ => ⟨S2x4x128, .f32⟩
  | .hbm, ⟨3, _⟩ => ⟨S2x4x128, .f32⟩
  | .hbm, ⟨4, _⟩ => ⟨S8x128, .f32⟩
  | .hbm, ⟨5, _⟩ => ⟨S8x128, .f32⟩
  | .hbm, ⟨6, _⟩ => ⟨S8x128, .f32⟩
  | .hbm, ⟨7, _⟩ => ⟨S8x128, .f32⟩
  | .hbm, ⟨8, _⟩ => ⟨S8x128, .f32⟩
  | .hbm, ⟨9, _⟩ => ⟨S8x128, .f32⟩
  | .hbm, ⟨10, _⟩ => ⟨S8x128, .f32⟩
  | .hbm, ⟨11, _⟩ => ⟨S8x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | _, _ => ⟨S2x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceAdamwBiasIdeal.lean ====
abbrev S2x4x128 : Shape := ⟨3, ![2, 4, 128]⟩
abbrev S_ : Shape := ⟨0, ![]⟩
abbrev S8x128 : Shape := ⟨2, ![8, 128]⟩

abbrev nBuf : Space → Nat
  | .hbm => 40
  | .vmem => 0
  | .smem => 0
  | _ => 0

abbrev bufTy : (tb : Table) → Fin (tcTables nBuf tb) → BufTy
  | .hbm, ⟨0, _⟩ => ⟨S2x4x128, .f32⟩
  | .hbm, ⟨1, _⟩ => ⟨S2x4x128, .f32⟩
  | .hbm, ⟨2, _⟩ => ⟨S2x4x128, .f32⟩
  | .hbm, ⟨3, _⟩ => ⟨S2x4x128, .f32⟩
  | .hbm, ⟨4, _⟩ => ⟨S_, .f32⟩
  | .hbm, ⟨5, _⟩ => ⟨S2x4x128, .f32⟩
  | .hbm, ⟨6, _⟩ => ⟨S2x4x128, .f32⟩
  | .hbm, ⟨7, _⟩ => ⟨S_, .f32⟩
  | .hbm, ⟨8, _⟩ => ⟨S2x4x128, .f32⟩
  | .hbm, ⟨9, _⟩ => ⟨S2x4x128, .f32⟩
  | .hbm, ⟨10, _⟩ => ⟨S2x4x128, .f32⟩
  | .hbm, ⟨11, _⟩ => ⟨S_, .f32⟩
  | .hbm, ⟨12, _⟩ => ⟨S2x4x128, .f32⟩
  | .hbm, ⟨13, _⟩ => ⟨S2x4x128, .f32⟩
  | .hbm, ⟨14, _⟩ => ⟨S2x4x128, .f32⟩
  | .hbm, ⟨15, _⟩ => ⟨S_, .f32⟩
  | .hbm, ⟨16, _⟩ => ⟨S2x4x128, .f32⟩
  | .hbm, ⟨17, _⟩ => ⟨S2x4x128, .f32⟩
  | .hbm, ⟨18, _⟩ => ⟨S2x4x128, .f32⟩
  | .hbm, ⟨19, _⟩ => ⟨S_, .f32⟩
  | .hbm, ⟨20, _⟩ => ⟨S2x4x128, .f32⟩
  | .hbm, ⟨21, _⟩ => ⟨S2x4x128, .f32⟩
  | .hbm, ⟨22, _⟩ => ⟨S_, .f32⟩
  | .hbm, ⟨23, _⟩ => ⟨S2x4x128, .f32⟩
  | .hbm, ⟨24, _⟩ => ⟨S2x4x128, .f32⟩
  | .hbm, ⟨25, _⟩ => ⟨S2x4x128, .f32⟩
  | .hbm, ⟨26, _⟩ => ⟨S_, .f32⟩
  | .hbm, ⟨27, _⟩ => ⟨S2x4x128, .f32⟩
  | .hbm, ⟨28, _⟩ => ⟨S2x4x128, .f32⟩
  | .hbm, ⟨29, _⟩ => ⟨S2x4x128, .f32⟩
  | .hbm, ⟨30, _⟩ => ⟨S_, .f32⟩
  | .hbm, ⟨31, _⟩ => ⟨S2x4x128, .f32⟩
  | .hbm, ⟨32, _⟩ => ⟨S2x4x128, .f32⟩
  | .hbm, ⟨33, _⟩ => ⟨S2x4x128, .f32⟩
  | .hbm, ⟨34, _⟩ => ⟨S_, .f32⟩
  | .hbm, ⟨35, _⟩ => ⟨S2x4x128, .f32⟩
  | .hbm, ⟨36, _⟩ => ⟨S2x4x128, .f32⟩
  | .hbm, ⟨37, _⟩ => ⟨S8x128, .f32⟩
  | .hbm, ⟨38, _⟩ => ⟨S8x128, .f32⟩
  | .hbm, ⟨39, _⟩ => ⟨S8x128, .f32⟩
  | _, _ => ⟨S2x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamwFinal.lean ====
abbrev S1024 : Shape := ⟨1, ![1024]⟩
abbrev S1x1024 : Shape := ⟨2, ![1, 1024]⟩

abbrev nBuf : Space → Nat
  | .hbm => 12
  | .vmem => 8
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceAdamwFinalIdeal.lean ====
abbrev S1024 : Shape := ⟨1, ![1024]⟩
abbrev S_ : Shape := ⟨0, ![]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1x1024, .f32⟩
  | .hbm, ⟨38, _⟩ => ⟨S1x1024, .f32⟩
  | .hbm, ⟨39, _⟩ => ⟨S1x1024, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Loss.lean ====
abbrev S4096x1024 : Shape := ⟨2, ![4096, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1x1024, .f32⟩
  | .hbm, ⟨6, _⟩ => ⟨S1x128, .f32⟩
  | .hbm, ⟨7, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x128, .f32⟩
  | .local _ .vmem, ⟨9, _⟩ => ⟨S512x1024, .bf16⟩
  | .local _ .vmem, ⟨10, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v48 : BitVec 1 := Scalar.cmpi .eq arg0 c0_i32
  let v49 : BitVec 32 := Scalar.extui v48
  let c0_i32_19 : BitVec 32 := 0#32
  let v50 : BitVec 1 := Scalar.cmpi .ne v49 c0_i32_19
  v50

def k0_cond2 (i : grid0.Coords) : BitVec 1 :=
  let arg0 : BitVec 32 := BitVec.ofNat 32 (i 0).val
  let c0_i32_20 : BitVec 32 := 0#32
  let v51 : BitVec 1 := Scalar.cmpi .sgt arg0 c0_i32_20
  let v52 : BitVec 32 := Scalar.extui v51
  let c0_i32_21 : BitVec 32 := 0#32
  let v53 : BitVec 1 := Scalar.cmpi .ne v52 c0_i32_21
  v53

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceLossIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x128 : Shape := ⟨2, ![1, 128]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S4096, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S_, .f32⟩
  | .hbm, ⟨47, _⟩ => ⟨S1024, .f32⟩
  | .hbm, ⟨48, _⟩ => ⟨S1x128, .f32⟩
  | .hbm, ⟨49, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_cst_7 : Ref sig .tc := ⟨.hbm, 33, rfl⟩
abbrev main_cst_8 : Ref sig .tc := ⟨.hbm, 34, rfl⟩
abbrev main_v22 : Ref sig .tc := ⟨.hbm, 35, rfl⟩
abbrev main_v23 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_10 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩

abbrev nD : Nat := 1
abbrev τ : Topo := Topo.v7x

variable {F : FTy → Type} [FloatOps F]
-- ==== LossDx.lean ====
abbrev S4096x1024 : Shape := ⟨2, ![4096, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1x1024, .f32⟩
  | .hbm, ⟨6, _⟩ => ⟨S1x128, .f32⟩
  | .hbm, ⟨7, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x128, .f32⟩
  | .local _ .vmem, ⟨9, _⟩ => ⟨S512x1024, .bf16⟩
  | .local _ .vmem, ⟨10, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v48 : BitVec 1 := Scalar.cmpi .eq arg0 c0_i32
  let v49 : BitVec 32 := Scalar.extui v48
  let c0_i32_19 : BitVec 32 := 0#32
  let v50 : BitVec 1 := Scalar.cmpi .ne v49 c0_i32_19
  v50

def k0_cond2 (i : grid0.Coords) : BitVec 1 :=
  let arg0 : BitVec 32 := BitVec.ofNat 32 (i 0).val
  let c0_i32_20 : BitVec 32 := 0#32
  let v51 : BitVec 1 := Scalar.cmpi .sgt arg0 c0_i32_20
  let v52 : BitVec 32 := Scalar.extui v51
  let c0_i32_21 : BitVec 32 := 0#32
  let v53 : BitVec 1 := Scalar.cmpi .ne v52 c0_i32_21
  v53

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceLossDxIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 66
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S4096x1024, .f32⟩
  | .hbm, ⟨53, _⟩ => ⟨S4096x1024, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S_, .f32⟩
  | .hbm, ⟨59, _⟩ => ⟨S4096, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_11 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_12 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩

abbrev nD : Nat := 1
abbrev τ : Topo := Topo.v7x

variable {F : FTy → Type} [FloatOps F]
-- ==== MixNorm.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceMixNormIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== MixDmix.lean ====
abbrev S4096x1024 : Shape := ⟨2, ![4096, 1024]⟩
abbrev S1024x1024 : Shape := ⟨2, ![1024, 1024]⟩

abbrev nBuf : Space → Nat
  | .hbm => 7
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S4096x1024, .f32⟩
  | .hbm, ⟨4, _⟩ => ⟨S4096x1024, .bf16⟩
  | .hbm, ⟨5, _⟩ => ⟨S1024x1024, .bf16⟩
  | .hbm, ⟨6, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== ReferenceMixDmixIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== OdDwout.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 8
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S4096x1024, .f32⟩
  | .hbm, ⟨4, _⟩ => ⟨S4096x1024, .bf16⟩
  | .hbm, ⟨5, _⟩ => ⟨S4096x1024, .bf16⟩
  | .hbm, ⟨6, _⟩ => ⟨S1024x1024, .bf16⟩
  | .hbm, ⟨7, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== ReferenceOdDwoutIdeal.lean ====
abbrev S4096x1024 : Shape := ⟨2, ![4096, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== EvDwout.lean ====
abbrev S4096x1024 : Shape := ⟨2, ![4096, 1024]⟩
abbrev S4096x512 : Shape := ⟨2, ![4096, 512]⟩
abbrev S1024x1024 : Shape := ⟨2, ![1024, 1024]⟩
abbrev S2048x512 : Shape := ⟨2, ![2048, 512]⟩
abbrev S2048x1024 : Shape := ⟨2, ![2048, 1024]⟩

abbrev nBuf : Space → Nat
  | .hbm => 10
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S1024x1024, .f32⟩
  | .hbm, ⟨4, _⟩ => ⟨S4096x1024, .f32⟩
  | .hbm, ⟨5, _⟩ => ⟨S4096x1024, .bf16⟩
  | .hbm, ⟨6, _⟩ => ⟨S4096x512, .bf16⟩
  | .hbm, ⟨7, _⟩ => ⟨S4096x512, .bf16⟩
  | .hbm, ⟨8, _⟩ => ⟨S1024x1024, .bf16⟩
  | .hbm, ⟨9, _⟩ => ⟨S1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x1024, .bf16⟩
  | .local _ .vmem, ⟨5, _⟩ => ⟨S2048x1024, .bf16⟩
  | .local _ .vmem, ⟨6, _⟩ => ⟨S1024x1024, .bf16⟩
  | .local _ .vmem, ⟨7, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_8 : BitVec 32 := 1#32
  let v16 : BitVec 1 := Scalar.cmpi .eq arg2 c1_i32_8
  let v17 : BitVec 32 := Scalar.extui v16
  let c0_i32_9 : BitVec 32 := 0#32
  let v18 : BitVec 1 := Scalar.cmpi .ne v17 c0_i32_9
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]
-- ==== ReferenceEvDwoutIdeal.lean ====
abbrev S4096x1024 : Shape := ⟨2, ![4096, 1024]⟩
abbrev S4096x512 : Shape := ⟨2, ![4096, 512]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== OdDwin.lean ====
abbrev S4096x1024 : Shape := ⟨2, ![4096, 1024]⟩
abbrev S1024 : Shape := ⟨1, ![1024]⟩
abbrev S1024x1536 : Shape := ⟨2, ![1024, 1536]⟩
abbrev S4096x1536 : Shape := ⟨2, ![4096, 1536]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x1024 : Shape := ⟨2, ![1024, 1024]⟩

abbrev nBuf : Space → Nat
  | .hbm => 24
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1536, .f32⟩
  | .hbm, ⟨3, _⟩ => ⟨S4096x1536, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S4096x1536, .bf16⟩
  | .hbm, ⟨22, _⟩ => ⟨S1024x1536, .bf16⟩
  | .hbm, ⟨23, _⟩ => ⟨S1024x1536, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .bf16⟩
  | .local _ .vmem, ⟨5, _⟩ => ⟨S1024x1536, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== ReferenceOdDwinIdeal.lean ====
abbrev S4096x1024 : Shape := ⟨2, ![4096, 1024]⟩
abbrev S1024 : Shape := ⟨1, ![1024]⟩
abbrev S1024x1536 : Shape := ⟨2, ![1024, 1536]⟩
abbrev S4096x1536 : Shape := ⟨2, ![4096, 1536]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1536x1024 : Shape := ⟨2, ![1536, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1536, .f32⟩
  | .hbm, ⟨3, _⟩ => ⟨S4096x1536, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1536, .f32⟩
  | .hbm, ⟨21, _⟩ => ⟨S1536x1024, .f32⟩
  | .hbm, ⟨22, _⟩ => ⟨S1024x1536, .f32⟩
  | .hbm, ⟨23, _⟩ => ⟨S1024x1536, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== OdDh.lean ====
abbrev S4096x1024 : Shape := ⟨2, ![4096, 1024]⟩
abbrev S1024 : Shape := ⟨1, ![1024]⟩
abbrev S1024x1536 : Shape := ⟨2, ![1024, 1536]⟩
abbrev S4096x1536 : Shape := ⟨2, ![4096, 1536]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 11
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1536, .f32⟩
  | .hbm, ⟨3, _⟩ => ⟨S4096x1536, .f32⟩
  | .hbm, ⟨4, _⟩ => ⟨S4096x1024, .f32⟩
  | .hbm, ⟨5, _⟩ => ⟨S4096x1536, .bf16⟩
  | .hbm, ⟨6, _⟩ => ⟨S1024x1536, .bf16⟩
  | .hbm, ⟨7, _⟩ => ⟨S1x1024, .f32⟩
  | .hbm, ⟨8, _⟩ => ⟨S4096x1024, .f32⟩
  | .hbm, ⟨9, _⟩ => ⟨S1x1024, .f32⟩
  | .hbm, ⟨10, _⟩ => ⟨S4096x1024, .bf16⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1024x1024, .bf16⟩
  | .local _ .vmem, ⟨12, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![4, 1, 1], ![false, false, false]⟩

def k0_cond1 (i : grid0.Coords) : BitVec 1 :=
  let arg0 : BitVec 32 := BitVec.ofNat 32 (i 0).val
  let c0_i32 : BitVec 32 := 0#32
  let v38 : BitVec 1 := Scalar.cmpi .eq arg0 c0_i32
  let v39 : BitVec 32 := Scalar.extui v38
  let c0_i32_19 : BitVec 32 := 0#32
  let v40 : BitVec 1 := Scalar.cmpi .ne v39 c0_i32_19
  v40

def k0_cond2 (i : grid0.Coords) : BitVec 1 :=
  let arg0 : BitVec 32 := BitVec.ofNat 32 (i 0).val
  let c0_i32_20 : BitVec 32 := 0#32
  let v41 : BitVec 1 := Scalar.cmpi .sgt arg0 c0_i32_20
  let v42 : BitVec 32 := Scalar.extui v41
  let c0_i32_21 : BitVec 32 := 0#32
  let v43 : BitVec 1 := Scalar.cmpi .ne v42 c0_i32_21
  v43

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== ReferenceOdDhIdeal.lean ====
abbrev S4096x1024 : Shape := ⟨2, ![4096, 1024]⟩
abbrev S1024 : Shape := ⟨1, ![1024]⟩
abbrev S1024x1536 : Shape := ⟨2, ![1024, 1536]⟩
abbrev S4096x1536 : Shape := ⟨2, ![4096, 1536]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1536, .f32⟩
  | .hbm, ⟨3, _⟩ => ⟨S4096x1536, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1536, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .bf16⟩
  | .hbm, ⟨54, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== OdIn.lean ====
abbrev S4096x1024 : Shape := ⟨2, ![4096, 1024]⟩
abbrev S1024x1536 : Shape := ⟨2, ![1024, 1536]⟩
abbrev S4096x1536 : Shape := ⟨2, ![4096, 1536]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1536, .f32⟩
  | .hbm, ⟨2, _⟩ => ⟨S4096x1024, .bf16⟩
  | .hbm, ⟨3, _⟩ => ⟨S1024x1536, .bf16⟩
  | .hbm, ⟨4, _⟩ => ⟨S4096x1536, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== ReferenceOdInIdeal.lean ====
abbrev S4096x1024 : Shape := ⟨2, ![4096, 1024]⟩
abbrev S1024x1536 : Shape := ⟨2, ![1024, 1536]⟩
abbrev S4096x1536 : Shape := ⟨2, ![4096, 1536]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1536, .f32⟩
  | .hbm, ⟨2, _⟩ => ⟨S4096x1536, .f32⟩
  | .hbm, ⟨3, _⟩ => ⟨S4096x1536, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== EvIn.lean ====
abbrev S4096x1024 : Shape := ⟨2, ![4096, 1024]⟩
abbrev S1024x2304 : Shape := ⟨2, ![1024, 2304]⟩
abbrev S4096x2304 : Shape := ⟨2, ![4096, 2304]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x2304, .f32⟩
  | .hbm, ⟨2, _⟩ => ⟨S4096x1024, .bf16⟩
  | .hbm, ⟨3, _⟩ => ⟨S1024x2304, .bf16⟩
  | .hbm, ⟨4, _⟩ => ⟨S4096x2304, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2304, .bf16⟩
  | .local _ .vmem, ⟨3, _⟩ => ⟨S1024x2304, .bf16⟩
  | .local _ .vmem, ⟨4, _⟩ => ⟨S1024x2304, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== ReferenceEvInIdeal.lean ====
abbrev S4096x1024 : Shape := ⟨2, ![4096, 1024]⟩
abbrev S1024x2304 : Shape := ⟨2, ![1024, 2304]⟩
abbrev S4096x2304 : Shape := ⟨2, ![4096, 2304]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2304, .f32⟩
  | .hbm, ⟨2, _⟩ => ⟨S4096x2304, .f32⟩
  | .hbm, ⟨3, _⟩ => ⟨S4096x2304, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OdOut.lean ====
abbrev S4096x1024 : Shape := ⟨2, ![4096, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S4096x1024, .bf16⟩
  | .hbm, ⟨4, _⟩ => ⟨S1024x1024, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== ReferenceOdOutIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== EvOut.lean ====
abbrev S4096x1024 : Shape := ⟨2, ![4096, 1024]⟩
abbrev S4096x512 : Shape := ⟨2, ![4096, 512]⟩
abbrev S1024x1024 : Shape := ⟨2, ![1024, 1024]⟩
abbrev S1024x512 : Shape := ⟨2, ![1024, 512]⟩

abbrev nBuf : Space → Nat
  | .hbm => 8
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S1024x1024, .f32⟩
  | .hbm, ⟨4, _⟩ => ⟨S4096x512, .bf16⟩
  | .hbm, ⟨5, _⟩ => ⟨S4096x512, .bf16⟩
  | .hbm, ⟨6, _⟩ => ⟨S1024x1024, .bf16⟩
  | .hbm, ⟨7, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== ReferenceEvOutIdeal.lean ====
abbrev S4096x1024 : Shape := ⟨2, ![4096, 1024]⟩
abbrev S4096x512 : Shape := ⟨2, ![4096, 512]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== EvDwin.lean ====
abbrev S4096x1024 : Shape := ⟨2, ![4096, 1024]⟩
abbrev S1024 : Shape := ⟨1, ![1024]⟩
abbrev S1024x2304 : Shape := ⟨2, ![1024, 2304]⟩
abbrev S4096x512 : Shape := ⟨2, ![4096, 512]⟩
abbrev S4096x128 : Shape := ⟨2, ![4096, 128]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x1024 : Shape := ⟨2, ![1024, 1024]⟩
abbrev S1024x512 : Shape := ⟨2, ![1024, 512]⟩
abbrev S1024x128 : Shape := ⟨2, ![1024, 128]⟩

abbrev nBuf : Space → Nat
  | .hbm => 33
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2304, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x128, .f32⟩
  | .hbm, ⟨8, _⟩ => ⟨S4096x128, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .bf16⟩
  | .hbm, ⟨26, _⟩ => ⟨S4096x512, .bf16⟩
  | .hbm, ⟨27, _⟩ => ⟨S4096x512, .bf16⟩
  | .hbm, ⟨28, _⟩ => ⟨S4096x512, .bf16⟩
  | .hbm, ⟨29, _⟩ => ⟨S4096x512, .bf16⟩
  | .hbm, ⟨30, _⟩ => ⟨S4096x128, .bf16⟩
  | .hbm, ⟨31, _⟩ => ⟨S1024x2304, .bf16⟩
  | .hbm, ⟨32, _⟩ => ⟨S1024x2304, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x128, .bf16⟩
  | .local _ .vmem, ⟨11, _⟩ => ⟨S1024x128, .bf16⟩
  | .local _ .vmem, ⟨12, _⟩ => ⟨S1024x128, .f32⟩
  | .local _ .vmem, ⟨13, _⟩ => ⟨S1024x128, .f32⟩
  | .local _ .vmem, ⟨14, _⟩ => ⟨S1024x2304, .bf16⟩
  | .local _ .vmem, ⟨15, _⟩ => ⟨S1024x2304, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_16 : BitVec 32 := 3#32
  let v24 : BitVec 1 := Scalar.cmpi .eq arg2 c3_i32_16
  let v25 : BitVec 32 := Scalar.extui v24
  let c0_i32_17 : BitVec 32 := 0#32
  let v26 : BitVec 1 := Scalar.cmpi .ne v25 c0_i32_17
  v26

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 1 → Memref sig .tc .vmem S1024x2304 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== ReferenceEvDwinIdeal.lean ====
abbrev S4096x1024 : Shape := ⟨2, ![4096, 1024]⟩
abbrev S1024 : Shape := ⟨1, ![1024]⟩
abbrev S1024x2304 : Shape := ⟨2, ![1024, 2304]⟩
abbrev S4096x512 : Shape := ⟨2, ![4096, 512]⟩
abbrev S4096x128 : Shape := ⟨2, ![4096, 128]⟩
abbrev S4096x2304 : Shape := ⟨2, ![4096, 2304]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S2304x1024 : Shape := ⟨2, ![2304, 1024]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2304, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x128, .f32⟩
  | .hbm, ⟨8, _⟩ => ⟨S4096x128, .f32⟩
  | .hbm, ⟨9, _⟩ => ⟨S4096x2304, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x2304, .f32⟩
  | .hbm, ⟨27, _⟩ => ⟨S2304x1024, .f32⟩
  | .hbm, ⟨28, _⟩ => ⟨S1024x2304, .f32⟩
  | .hbm, ⟨29, _⟩ => ⟨S1024x2304, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩

abbrev nD : Nat := 1
abbrev τ : Topo := Topo.v7x

variable {F : FTy → Type} [FloatOps F]
-- ==== EvDh.lean ====
abbrev S4096x1024 : Shape := ⟨2, ![4096, 1024]⟩
abbrev S1024 : Shape := ⟨1, ![1024]⟩
abbrev S1024x2304 : Shape := ⟨2, ![1024, 2304]⟩
abbrev S4096x512 : Shape := ⟨2, ![4096, 512]⟩
abbrev S4096x128 : Shape := ⟨2, ![4096, 128]⟩
abbrev S1x1024 : Shape := ⟨2, ![1, 1024]⟩
abbrev S1024x512 : Shape := ⟨2, ![1024, 512]⟩
abbrev S1024x128 : Shape := ⟨2, ![1024, 128]⟩
abbrev S1024x1024 : Shape := ⟨2, ![1024, 1024]⟩
abbrev S1024x1 : Shape := ⟨2, ![1024, 1]⟩

abbrev nBuf : Space → Nat
  | .hbm => 20
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2304, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x128, .f32⟩
  | .hbm, ⟨8, _⟩ => ⟨S4096x128, .f32⟩
  | .hbm, ⟨9, _⟩ => ⟨S4096x1024, .f32⟩
  | .hbm, ⟨10, _⟩ => ⟨S4096x512, .bf16⟩
  | .hbm, ⟨11, _⟩ => ⟨S4096x512, .bf16⟩
  | .hbm, ⟨12, _⟩ => ⟨S4096x512, .bf16⟩
  | .hbm, ⟨13, _⟩ => ⟨S4096x512, .bf16⟩
  | .hbm, ⟨14, _⟩ => ⟨S4096x128, .bf16⟩
  | .hbm, ⟨15, _⟩ => ⟨S1024x2304, .bf16⟩
  | .hbm, ⟨16, _⟩ => ⟨S1x1024, .f32⟩
  | .hbm, ⟨17, _⟩ => ⟨S4096x1024, .f32⟩
  | .hbm, ⟨18, _⟩ => ⟨S1x1024, .f32⟩
  | .hbm, ⟨19, _⟩ => ⟨S4096x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x128, .bf16⟩
  | .local _ .vmem, ⟨9, _⟩ => ⟨S1024x128, .bf16⟩
  | .local _ .vmem, ⟨10, _⟩ => ⟨S1024x128, .f32⟩
  | .local _ .vmem, ⟨11, _⟩ => ⟨S1024x128, .f32⟩
  | .local _ .vmem, ⟨12, _⟩ => ⟨S1024x2304, .bf16⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | .local _ .vmem, ⟨17, _⟩ => ⟨S1x1024, .f32⟩
  | .local _ .vmem, ⟨18, _⟩ => ⟨S1024x1024, .f32⟩
  | .local _ .vmem, ⟨19, _⟩ => ⟨S1024x1024, .f32⟩
  | .local _ .vmem, ⟨20, _⟩ => ⟨S1x1024, .f32⟩
  | .local _ .vmem, ⟨21, _⟩ => ⟨S1024x1024, .bf16⟩
  | .local _ .vmem, ⟨22, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨3, ![4, 1, 1], ![false, false, false]⟩

def k0_cond1 (i : grid0.Coords) : BitVec 1 :=
  let arg0 : BitVec 32 := BitVec.ofNat 32 (i 0).val
  let c0_i32 : BitVec 32 := 0#32
  let v49 : BitVec 1 := Scalar.cmpi .eq arg0 c0_i32
  let v50 : BitVec 32 := Scalar.extui v49
  let c0_i32_29 : BitVec 32 := 0#32
  let v51 : BitVec 1 := Scalar.cmpi .ne v50 c0_i32_29
  v51

def k0_cond2 (i : grid0.Coords) : BitVec 1 :=
  let arg0 : BitVec 32 := BitVec.ofNat 32 (i 0).val
  let c0_i32_30 : BitVec 32 := 0#32
  let v52 : BitVec 1 := Scalar.cmpi .sgt arg0 c0_i32_30
  let v53 : BitVec 32 := Scalar.extui v52
  let c0_i32_31 : BitVec 32 := 0#32
  let v54 : BitVec 1 := Scalar.cmpi .ne v53 c0_i32_31
  v54

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1024x2304 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 2 → Memref sig .tc .vmem S1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false, false]
-- ==== ReferenceEvDhIdeal.lean ====
abbrev S4096x1024 : Shape := ⟨2, ![4096, 1024]⟩
abbrev S1024 : Shape := ⟨1, ![1024]⟩
abbrev S1024x2304 : Shape := ⟨2, ![1024, 2304]⟩
abbrev S4096x512 : Shape := ⟨2, ![4096, 512]⟩
abbrev S4096x128 : Shape := ⟨2, ![4096, 128]⟩
abbrev S4096x2304 : Shape := ⟨2, ![4096, 2304]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 61
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2304, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x128, .f32⟩
  | .hbm, ⟨8, _⟩ => ⟨S4096x128, .f32⟩
  | .hbm, ⟨9, _⟩ => ⟨S4096x1024, .f32⟩
  | .hbm, ⟨10, _⟩ => ⟨S4096x2304, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x2304, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S4096x1024, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S_, .f32⟩
  | .hbm, ⟨53, _⟩ => ⟨S4096, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .bf16⟩
  | .hbm, ⟨60, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩

abbrev nD : Nat := 1
abbrev τ : Topo := Topo.v7x

variable {F : FTy → Type} [FloatOps F]
-- ==== Proof.FwdRun.lean ====
/- The feed-forward block's two regions run one after the other: what the result array holds when the run ends. -/
module

public import proofs.«01_k».proof.Proof.Gen.FwdIdeal.Frame

@[expose] public section

set_option maxRecDepth 16384

noncomputable section

namespace Cert.FwdIdeal.Hand

open Cert.FwdIdeal Cert.FwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
/-- Every fair run ends with the result array as the second region's write-backs leave it and the arguments as launched. -/
theorem run : θ_run (defs (F := F)) (onTc (τ := τ) (main (F := F))) ⟨m, fun _ => 0, ρ⟩ (fun r => ∀ c : Dev nD,
      r.2.mem ((c.tc : Thread nD τ).loc main_v6) = (dat1 (V2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => fun c =>
      ⟨(h c _ (mem_uc main_v6 (by decide))).trans (W3_arr m ρ c 4),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.FwdIdeal.Hand

end
-- ==== Proof.FwdValue.lean ====
/- The feed-forward block: the array the second region leaves is the reference's result. The first region writes the
   product of the normalised rows with the first matrix in two halves, gate and up; the second multiplies the gated product
   with the second matrix and adds the rows. -/
module

public import proofs.«01_k».proof.Proof.Gen.FwdIdeal.Frame
public import proofs.«01_k».proof.Proof.Gen.ReferenceFwdIdeal.Read
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

namespace Cert.FwdIdeal.Hand

open Cert.FwdIdeal Cert.FwdIdeal.Gen Idealize.ShloMosaic Idealize.ShloMosaic.TcCoe Idealize.SL.Sem
open Idealize.ShloMosaic.Pipeline (Dat)
open Cert.ReferenceFwdIdeal.Read

variable (m : (ℓ : Loc nD τ sig) → Buf (Elt Ideal) ℓ) (ρ : Dev nD → PrngReg)

abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)

/-- The quarters of the first matrix's columns. -/
abbrev quarters (w : FVec Ideal S1024x5632 .f32) : FVec Ideal S4x1024x1408 .bf16 :=
  transpose S4x1024x1408 [1, 0, 2] (shapeCast S1024x4x1408 (truncf .bf16 w bitsLt_bf16_f32 : FVec Ideal S1024x5632 .bf16)
    shapeCasts_S1024x5632_S1024x4x1408) transposes_S1024x4x1408_S4x1024x1408_1_0_2

theorem quarters_at (w : FVec Ideal S1024x5632 .f32) (i : S4x1024x1408.Idx) (j : S1024x5632.Idx)
    (h0 : (j 0 : ℕ) = i 1) (h1 : (j 1 : ℕ) = (i 0 : ℕ) * 1408 + i 2) : quarters w i = w j := by
  pointwise [quarters]
  blk_point []

/-- The arrays the first region is entered with. -/
theorem entry_w (c : Dev nD) : V1 m ρ c main_v2 = quarters (a2 m c) := by
  show StableHlo.after hostOps0 _ _ = _
  entry_read
  rfl

theorem entry_o (c : Dev nD) : V1 m ρ c main_v3 = (truncf .bf16 (a3 m c) bitsLt_bf16_f32 : FVec Ideal S2816x1024 .bf16) := by
  show StableHlo.after hostOps0 _ _ = _
  entry_read
  rfl

theorem entry_g (c : Dev nD) : V1 m ρ c main_v4 = (shapeCast S1x1024 (a1 m c) shapeCasts_S1024_S1x1024 : FVec Ideal S1x1024 .f32) := by
  show StableHlo.after hostOps0 _ _ = _
  entry_read
  rfl

theorem entry_x (c : Dev nD) : V1 m ρ c main_arg0 = a0 m c := W1_args m ρ c main_arg0 (by decide)

/-- The arrays the second region is entered with. -/
theorem later_x (c : Dev nD) : V2 m ρ c main_arg0 = a0 m c := W2_args m ρ c main_arg0 (by decide)

theorem later_o (c : Dev nD) : V2 m ρ c main_v3 = (truncf .bf16 (a3 m c) bitsLt_bf16_f32 : FVec Ideal S2816x1024 .bf16) :=
  (W2_of m ρ c main_v3 (by decide)).trans (entry_o m ρ c)

theorem later_gu (c : Dev nD) : V2 m ρ c main_v5_0 = (dat0 (V1 m ρ) c).arrAt 3 cfg0.N := W2_arr m ρ c 3

/-- The block indices of the first region's windows at each grid point. -/
theorem idx0 : ∀ t : Fin cfg0.N, win0_0.index t = ![t.val / 4, 0] ∧ win0_1.index t = ![0, 0]
    ∧ win0_2.index t = ![t.val % 4, 0, 0] ∧ win0_3.index t = ![t.val % 4 / 2, t.val / 4, t.val % 2] :=
  (by decide +kernel : ∀ t : Fin grid0.N, _)

/-- The block indices of the second region's windows at each grid point. -/
theorem idx1 : ∀ t : Fin cfg1.N, win1_0.index t = ![0, t.val, 0] ∧ win1_1.index t = ![1, t.val, 0]
    ∧ win1_2.index t = ![0, 0] ∧ win1_3.index t = ![t.val, 0] ∧ win1_4.index t = ![t.val, 0] :=
  (by decide +kernel : ∀ t : Fin grid1.N, _)

theorem blk0_x (c : Dev nD) (t : Fin cfg0.N) (k : Fin 1024) (q : Fin 1024) (p : Fin 4096) (hp : (p : ℕ) = t.val / 4 * 1024 + k) :
    (iblk0 (V1 m ρ) c 0 t : FVec Ideal S1024x1024 .f32) (ix2 k q) = a0 m c (ix2 p q) := by
  rw [← entry_x m ρ c]
  blk_ext [iblk0, idx0 t]

theorem blk0_g (c : Dev nD) (t : Fin cfg0.N) (q : Fin 1024) :
    (iblk0 (V1 m ρ) c 1 t : FVec Ideal S1x1024 .f32) (ix2 (0 : Fin 1) q) = a1 m c (ix1 q) := by
  have : a1 m c (ix1 q) = (V1 m ρ c main_v4 : FVec Ideal S1x1024 .f32) (ix2 (0 : Fin 1) q) := by
    rw [entry_g]; generalize a1 m c = g; pointwise
  rw [this]
  blk_ext [iblk0, idx0 t]

theorem blk0_w (c : Dev nD) (t : Fin cfg0.N) (r : Fin 1024) (q : Fin 1408) (j : Fin 5632) (hj : (j : ℕ) = t.val % 4 * 1408 + q) :
    (iblk0 (V1 m ρ) c 2 t : FVec Ideal S1x1024x1408 .bf16) (ix3 (0 : Fin 1) r q) = a2 m c (ix2 r j) := by
  rw [← quarters_at (a2 m c) (ix3 (⟨t.val % 4, by omega⟩ : Fin 4) r q) (ix2 r j) rfl hj, ← entry_w m ρ c]
  blk_ext [iblk0, idx0 t]

/-- The reference's normalised rows, written out. -/
theorem norm_ref (x0 : FVec Ideal S4096x1024 .f32) (x1 : FVec Ideal S1024 .f32) (p : Fin 4096) (q : Fin 1024) :
    val_main_v12 (F := Ideal) x0 x1 (ix2 p q) = x0 (ix2 p q)
      * Ideal.rsqrt (Ideal.div (∑ j : Fin 1024, x0 (ix2 p j) * x0 (ix2 p j)) (Ideal.ofBits .f32 0x44800000#32) + Ideal.ofBits .f32 0x358637BD#32)
      * x1 (ix1 q) := by
  rw [val_main_v12_apply, val_main_v11_apply, val_main_v10_apply, val_main_v9_apply, val_main_v8_apply, val_main_v7_apply,
    val_main_v6_apply, val_main_v5_apply, val_main_cst_1_apply, val_main_v4_apply, val_main_v3_apply, val_main_cst_0_apply,
    val_main_v2_apply, val_main_v1_apply, val_main_cst_apply]
  show _ * Ideal.rsqrt (Ideal.div (Ideal.ofBits .f32 0x00000000#32 + _) (Ideal.ofBits .f32 0x44800000#32) + Ideal.ofBits .f32 0x358637BD#32) * _ = _
  rw [show Ideal.ofBits .f32 0x00000000#32 = 0 from by simp [Ideal.ofBits, Ideal.ieee], zero_add]
  congr 2
  · congr 3
    refine Fin.sum_fin_congr fun j => ?_
    rw [val_main_v0_apply]
    show x0 _ * x0 _ = _
    congr 1 <;> (congr 1; blk_ext)
  · blk_ext

/-- One entry of what a point of the first region stores. -/
theorem stored0 (X : FVec Ideal S1024x1024 .f32) (G : FVec Ideal S1x1024 .f32) (W : FVec Ideal S1x1024x1408 .bf16) (k : Fin 1024) (q : Fin 1408) :
    k0_pay3 (F := Ideal) X G W (ix3 (0 : Fin 1) k q) = ∑ j : Fin 1024, X (ix2 k j)
      * Ideal.rsqrt (Ideal.div (∑ l : Fin 1024, X (ix2 k l) * X (ix2 k l)) (Ideal.ofBits .f32 0x44800000#32) + Ideal.ofBits .f32 0x358637BD#32)
      * G (ix2 (0 : Fin 1) j) * W (ix3 (0 : Fin 1) j q) := by
  pointwise [k0_pay3, k0_pay1]

/-- The product with the first matrix in two halves. -/
def halves (x0 : FVec Ideal S4096x1024 .f32) (x1 : FVec Ideal S1024 .f32) (x2 : FVec Ideal S1024x5632 .f32) : FVec Ideal S2x4096x2816 .bf16 :=
  fun i => val_main_v13 (F := Ideal) x0 x1 x2
    (ix2 (⟨(i 1).val, (i 1).isLt⟩ : Fin 4096) (⟨(i 0).val * 2816 + (i 2).val, by have h0 : (i 0).val < 2 := (i 0).isLt; have h2 : (i 2).val < 2816 := (i 2).isLt; omega⟩ : Fin 5632))

theorem halves_at (x0 : FVec Ideal S4096x1024 .f32) (x1 : FVec Ideal S1024 .f32) (x2 : FVec Ideal S1024x5632 .f32) (i : S2x4096x2816.Idx)
    (p : Fin 4096) (r : Fin 5632) (hp : (p : ℕ) = i 1) (hr : (r : ℕ) = (i 0 : ℕ) * 2816 + i 2) :
    halves x0 x1 x2 i = val_main_v13 (F := Ideal) x0 x1 x2 (ix2 p r) := by
  unfold halves
  congr 1
  blk_ext

/-- What a point of the first region stores is the reference's product. -/
theorem point0 (c : Dev nD) (t : Fin cfg0.N) (k : Fin 1024) (q : Fin 1408) (p : Fin 4096) (r : Fin 5632)
    (hp : (p : ℕ) = t.val / 4 * 1024 + k) (hr : (r : ℕ) = t.val % 4 * 1408 + q) :
    k0_pay3 (F := Ideal) (iblk0 (V1 m ρ) c 0 t) (iblk0 (V1 m ρ) c 1 t) (iblk0 (V1 m ρ) c 2 t) (ix3 (0 : Fin 1) k q)
      = val_main_v13 (F := Ideal) (a0 m c) (a1 m c) (a2 m c) (ix2 p r) := by
  rw [stored0, val_main_v13_apply]
  simp only [blk0_x m ρ c t k _ p hp, blk0_g m ρ c t]
  refine Fin.sum_fin_congr fun j => ?_
  rw [blk0_w m ρ c t j q r hr, ← norm_ref]
  congr 1
  · congr 1; blk_ext
  · congr 1; blk_ext

/-- The first region leaves the two halves. -/
theorem final0 (c : Dev nD) : (dat0 (V1 m ρ) c).arrAt 3 cfg0.N = halves (a0 m c) (a1 m c) (a2 m c) := by
  refine (dat0 (V1 m ρ) c).arrAt_eq_of_covers 3 _ (by decide +kernel) fun t hf y => ?_
  have ht : t.val < 16 := lt_of_lt_of_eq t.isLt N_0
  blk_simp
  rw [after0_3]
  unfold out0_3
  frame_out
  have y1_lt : (y 1).val < 1024 := (y 1).isLt
  have y2_lt : (y 2).val < 1408 := (y 2).isLt
  have hy : y = ix3 (0 : Fin 1) (⟨(y 1).val, y1_lt⟩ : Fin 1024) (⟨(y 2).val, y2_lt⟩ : Fin 1408) := by blk_ext
  refine Eq.trans ?_ (halves_at _ _ _ _ (⟨t.val / 4 * 1024 + (y 1).val, by omega⟩ : Fin 4096) (⟨t.val % 4 * 1408 + (y 2).val, by omega⟩ : Fin 5632) ?_ ?_).symm
  · refine Eq.trans ?_ (point0 m ρ c t _ _ _ _ rfl rfl)
    exact congrArg _ hy
  all_goals (blk_simp [idx0 t] <;> (try dsimp only) <;> try omega)

theorem blk1_g (c : Dev nD) (t : Fin cfg1.N) (k : Fin 512) (q : Fin 2816) (p : Fin 4096) (hp : (p : ℕ) = t.val * 512 + k) :
    (iblk1 (V2 m ρ) c 0 t : FVec Ideal S1x512x2816 .bf16) (ix3 (0 : Fin 1) k q)
      = val_main_v14 (F := Ideal) (a0 m c) (a1 m c) (a2 m c) (ix2 p q) := by
  have : val_main_v14 (F := Ideal) (a0 m c) (a1 m c) (a2 m c) (ix2 p q)
      = (V2 m ρ c main_v5_0 : FVec Ideal S2x4096x2816 .bf16) (ix3 (0 : Fin 2) p q) := by
    rw [later_gu, final0, val_main_v14_apply, halves_at _ _ _ _ p (⟨q.val, by omega⟩ : Fin 5632) rfl (by show q.val = 0 * 2816 + q.val; omega)]
    congr 1; blk_ext
  rw [this]
  blk_ext [iblk1, idx1 t]

theorem blk1_u (c : Dev nD) (t : Fin cfg1.N) (k : Fin 512) (q : Fin 2816) (p : Fin 4096) (hp : (p : ℕ) = t.val * 512 + k) :
    (iblk1 (V2 m ρ) c 1 t : FVec Ideal S1x512x2816 .bf16) (ix3 (0 : Fin 1) k q)
      = val_main_v15 (F := Ideal) (a0 m c) (a1 m c) (a2 m c) (ix2 p q) := by
  have : val_main_v15 (F := Ideal) (a0 m c) (a1 m c) (a2 m c) (ix2 p q)
      = (V2 m ρ c main_v5_0 : FVec Ideal S2x4096x2816 .bf16) (ix3 (1 : Fin 2) p q) := by
    rw [later_gu, final0, val_main_v15_apply, halves_at _ _ _ _ p (⟨2816 + q.val, by omega⟩ : Fin 5632) rfl (by show 2816 + q.val = 1 * 2816 + q.val; omega)]
    congr 1; blk_ext
  rw [this]
  blk_ext [iblk1, idx1 t]

theorem blk1_w (c : Dev nD) (t : Fin cfg1.N) (r : Fin 2816) (q : Fin 1024) :
    (iblk1 (V2 m ρ) c 2 t : FVec Ideal S2816x1024 .bf16) (ix2 r q) = a3 m c (ix2 r q) := by
  have : a3 m c (ix2 r q) = (V2 m ρ c main_v3 : FVec Ideal S2816x1024 .bf16) (ix2 r q) := by
    rw [later_o]; rfl
  rw [this]
  blk_ext [iblk1, idx1 t]

theorem blk1_x (c : Dev nD) (t : Fin cfg1.N) (k : Fin 512) (q : Fin 1024) (p : Fin 4096) (hp : (p : ℕ) = t.val * 512 + k) :
    (iblk1 (V2 m ρ) c 3 t : FVec Ideal S512x1024 .f32) (ix2 k q) = a0 m c (ix2 p q) := by
  rw [← later_x m ρ c]
  blk_ext [iblk1, idx1 t]

/-- The reference's gated product, written out. -/
theorem gated_ref (x0 : FVec Ideal S4096x1024 .f32) (x1 : FVec Ideal S1024 .f32) (x2 : FVec Ideal S1024x5632 .f32) (i : Cert.ReferenceFwdIdeal.S4096x2816.Idx) :
    val_main_v17 (F := Ideal) x0 x1 x2 i = val_main_v14 (F := Ideal) x0 x1 x2 i
      * Ideal.div 1 (1 + Ideal.exp (-(val_main_v14 (F := Ideal) x0 x1 x2 i))) * val_main_v15 (F := Ideal) x0 x1 x2 i := by
  rw [val_main_v17_apply, val_main_v16_apply, val_main_call0_v5_apply, val_main_call0_v4_apply, val_main_call0_v3_apply,
    val_main_call0_v2_apply, val_main_call0_v1_apply, val_main_call0_v0_apply, val_main_call0_cst_0_apply, val_main_call0_cst_apply]
  show _ * Ideal.div (Ideal.ofBits .f32 0x3F800000#32) (Ideal.ofBits .f32 0x3F800000#32 + Ideal.exp (-_)) * _ = _
  rw [Ideal.ofBits_one_f32]

/-- One entry of what a point of the second region stores. -/
theorem stored1 (G U : FVec Ideal S1x512x2816 .bf16) (W : FVec Ideal S2816x1024 .bf16) (X : FVec Ideal S512x1024 .f32) (k : Fin 512) (q : Fin 1024) :
    k1_pay1 (F := Ideal) G U W X (ix2 k q) = X (ix2 k q) + Ideal.ofBits .f32 0x3F000000#32 * ∑ j : Fin 2816, G (ix3 (0 : Fin 1) k j)
      * Ideal.div 1 (1 + Ideal.exp (-(G (ix3 (0 : Fin 1) k j)))) * U (ix3 (0 : Fin 1) k j) * W (ix2 j q) := by
  pointwise [k1_pay1]
  simp only [zero_sub]

/-- What a point of the second region stores is the reference's result. -/
theorem point1 (c : Dev nD) (t : Fin cfg1.N) (k : Fin 512) (q : Fin 1024) (p : Fin 4096) (hp : (p : ℕ) = t.val * 512 + k) :
    k1_pay1 (F := Ideal) (iblk1 (V2 m ρ) c 0 t) (iblk1 (V2 m ρ) c 1 t) (iblk1 (V2 m ρ) c 2 t) (iblk1 (V2 m ρ) c 3 t) (ix2 k q)
      = val_main_v21 (F := Ideal) (a0 m c) (a1 m c) (a2 m c) (a3 m c) (ix2 p q) := by
  rw [stored1, val_main_v21_apply, val_main_v20_apply, val_main_v19_apply, val_main_cst_2_apply, val_main_v18_apply, blk1_x m ρ c t k q p hp]
  show _ = _ + Ideal.ofBits .f32 0x3F000000#32 * _
  congr 2
  refine Fin.sum_fin_congr fun j => ?_
  rw [blk1_g m ρ c t k j p hp, blk1_u m ρ c t k j p hp, blk1_w, ← gated_ref]
  congr 1
  · congr 1; blk_ext
  · congr 1; blk_ext

/-- The result array after the run is the reference's result. -/
theorem final (c : Dev nD) : (dat1 (V2 m ρ) c).arrAt 4 cfg1.N
    = val_main_v21 (F := Ideal) (a0 m c) (a1 m c) (a2 m c) (a3 m c) := by
  refine (dat1 (V2 m ρ) c).arrAt_eq_of_covers 4 _ (by decide +kernel) fun t hf y => ?_
  have ht : t.val < 8 := lt_of_lt_of_eq t.isLt N_1
  blk_simp
  rw [after1_4]
  unfold out1_4
  frame_out
  have y0_lt : (y 0).val < 512 := (y 0).isLt
  have y1_lt : (y 1).val < 1024 := (y 1).isLt
  have hy : y = ix2 (⟨(y 0).val, y0_lt⟩ : Fin 512) (⟨(y 1).val, y1_lt⟩ : Fin 1024) := by blk_ext
  refine Eq.trans ?_ ((point1 m ρ c t (⟨(y 0).val, y0_lt⟩ : Fin 512) (⟨(y 1).val, y1_lt⟩ : Fin 1024) (⟨t.val * 512 + (y 0).val, by omega⟩ : Fin 4096) rfl).trans ?_)
  · exact congrArg _ hy
  · congr 1
    blk_ext [idx1 t]

end Cert.FwdIdeal.Hand

end
-- ==== Proof.FwdClaim.lean ====
/- The claims about the feed-forward block's forward pass. -/
module

public import proofs.«01_k».proof.Defs
public import proofs.«01_k».proof.Proof.Gen.Fwd.Frame
public import proofs.«01_k».proof.Proof.FwdRun
public import proofs.«01_k».proof.Proof.FwdValue
public import proofs.«01_k».proof.Proof.Gen.ReferenceFwdIdeal.Run

@[expose] public section

set_option maxRecDepth 16384

noncomputable section

namespace Cert.FwdClaim

open Idealize.ShloMosaic Idealize.ShloMosaic.TcCoe Idealize.SL.Sem

set_option maxHeartbeats 1600000 in
theorem algebraic : Cert.algebraic_FwdIdeal_ReferenceFwdIdeal := by
  pair_intro
  · run_from Cert.FwdIdeal.Hand.run m g
  · run_from Cert.ReferenceFwdIdeal.Value.run m' g'
    rw [Cert.ReferenceFwdIdeal.Read.val_main_v21_eq]
    exact (Cert.FwdIdeal.Hand.final m g c).symm

theorem quiescent_reference : Cert.quiescent_ReferenceFwdIdeal := fun m g _ =>
  (θ_run Cert.ReferenceFwdIdeal.defs _ _).mono
    (fun r h => ⟨fun c => (h c).2, Idealize.ShloMosaic.sem_eq_zero_of_no_sems (by decide) r.2⟩)
    (Cert.ReferenceFwdIdeal.Value.run m g)

theorem all : Cert.quiescent_Fwd ∧ Cert.quiescent_FwdIdeal ∧ Cert.quiescent_ReferenceFwdIdeal
    ∧ Cert.preserves_Fwd_FwdIdeal ∧ Cert.algebraic_FwdIdeal_ReferenceFwdIdeal :=
  ⟨fun m g _ => Cert.Fwd.Gen.frame m g, fun m g _ => Cert.FwdIdeal.Gen.frame m g, quiescent_reference, trivial, algebraic⟩

end Cert.FwdClaim

end
-- ==== Proof.Sums.lean ====
/- Facts about sums of extended reals that every part of the proof uses: a nonnegative real factor moves through a sum,
   a contraction accumulated over the points of a run is the contraction in one piece, sums of real numbers are real. -/
module

public import Idealize.ShloMosaic.Lib.Pipeline.ValueKit
public import Idealize.ShloMosaic.Lib.Pointwise

@[expose] public section

set_option maxRecDepth 16384

noncomputable section

namespace Cert.Sums

open Idealize.ShloMosaic

/-- The f32 pattern of one half is the real one half. -/
theorem half_eq : Ideal.ofBits .f32 0x3F000000#32 = (((1 / 2 : ℝ) : ℝ) : EReal) := by
  simp [Ideal.ofBits, Ideal.ieee, -EReal.coe_mul]; norm_num

/-- The bf16 pattern of one half is the real one half. -/
theorem half_eq_bf16 : Ideal.ofBits .bf16 0x3F00#16 = (((1 / 2 : ℝ) : ℝ) : EReal) := by
  simp [Ideal.ofBits, Ideal.ieee, -EReal.coe_mul]; norm_num

/-- A nonnegative real factor distributes over the sum of two extended reals. -/
theorem coe_mul_add {c : ℝ} (hc : 0 ≤ c) (x y : EReal) : (c : EReal) * (x + y) = c * x + c * y :=
  EReal.left_distrib_of_nonneg_of_ne_top (EReal.coe_nonneg.mpr hc) (EReal.coe_ne_top c) x y

/-- A nonnegative real factor moves into a finite sum of extended reals. -/
theorem coe_mul_sum {ι : Type*} {c : ℝ} (hc : 0 ≤ c) (s : Finset ι) (f : ι → EReal) :
    (c : EReal) * ∑ i ∈ s, f i = ∑ i ∈ s, (c : EReal) * f i := by
  classical
  induction s using Finset.induction_on with
  | empty => simp
  | insert a s ha ih => rw [Finset.sum_insert ha, Finset.sum_insert ha, coe_mul_add hc, ih]

/-- One half moves into a finite sum. -/
theorem half_mul_sum {ι : Type*} (s : Finset ι) (f : ι → EReal) :
    Ideal.ofBits .f32 0x3F000000#32 * ∑ i ∈ s, f i = ∑ i ∈ s, Ideal.ofBits .f32 0x3F000000#32 * f i := by
  rw [half_eq]; exact coe_mul_sum (by norm_num) s f

/-- A scratch that the first point of a run of `J` resets to its term, that the middle points add their terms to, and whose
    contents the last point adds its own term to: the last point then has the terms of the whole run. -/
theorem carried_sum {N J : ℕ} [NeZero J] {ι : Type*} (f : (n : ℕ) → n < N → ι → EReal) (term : Fin N → ι → EReal)
    (hJ : 2 ≤ J)
    (h0 : ∀ t : Fin N, t.val % J = 0 → ∀ i, f t.val t.isLt i = term t i)
    (hs : ∀ t : Fin N, ¬t.val % J = 0 → ¬t.val % J = J - 1 → ∀ i,
      f t.val t.isLt i = f (t.val - 1) (Nat.lt_of_le_of_lt (Nat.sub_le _ _) t.isLt) i + term t i)
    (t : Fin N) (hr : t.val % J = J - 1) (i : ι) :
    f (t.val - 1) (Nat.lt_of_le_of_lt (Nat.sub_le _ _) t.isLt) i + term t i
      = ∑ s : Fin J, term ⟨J * (t.val / J) + s.val, Pipeline.run_point_lt_of_flush t hr s⟩ i := by
  have key := Pipeline.eq_sum_fin_of_reset_step_apply_of_flush
    (fun n h => if n % J = J - 1 then
        (fun i => f (n - 1) (Nat.lt_of_le_of_lt (Nat.sub_le _ _) h) i + term ⟨n, h⟩ i) else f n h)
    J (fun _ => 0) term
    (fun u hu j => by
      have : ¬u.val % J = J - 1 := by omega
      simp only [if_neg this, zero_add]; exact h0 u hu j)
    (fun u hu j => by
      have hne : ¬(u.val - 1) % J = J - 1 := by
        intro h
        apply hu
        have hu0 : 0 < u.val := by
          rcases Nat.eq_zero_or_pos u.val with h0 | h0
          · rw [h0, Nat.zero_mod] at hu; exact absurd rfl hu
          · exact h0
        have e : u.val = (u.val - 1) + 1 := by omega
        rw [e, Nat.add_mod, h, Nat.mod_eq_of_lt (show 1 < J by omega), show J - 1 + 1 = J by omega, Nat.mod_self]
      by_cases hl : u.val % J = J - 1
      · simp only [if_pos hl, if_neg hne]
      · simp only [if_neg hl, if_neg hne]; exact hs u hu hl j)
    t hr i
  simp only [if_pos hr, zero_add] at key
  exact key

/-- A finite sum of real numbers, read in the extended reals. -/
theorem sum_coe {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

end Cert.Sums

end
-- ==== Proof.DwoutValue.lean ====
/- The gradient of the feed-forward block's second matrix: what the kernel leaves in its result array is the reference's
   value. The kernel walks the tokens in four tiles per tile of rows, carries the sum in a scratch, and halves it at the end;
   the reference halves the incoming gradient and contracts all tokens at once. -/
module

public import proofs.«01_k».proof.Proof.Gen.DwoutIdeal.Value
public import proofs.«01_k».proof.Proof.Gen.ReferenceDwoutIdeal.Read
public import proofs.«01_k».proof.Proof.Sums
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

namespace Cert.DwoutIdeal.Hand

open Cert.DwoutIdeal Cert.DwoutIdeal.Gen Idealize.ShloMosaic Idealize.ShloMosaic.TcCoe Idealize.SL.Sem
open Idealize.ShloMosaic.Pipeline (Dat)
open Cert.ReferenceDwoutIdeal.Read

variable (m : (ℓ : Loc nD τ sig) → Buf (Elt Ideal) ℓ)

abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a4 (c : Dev nD) := m ((c.tc : Thread nD τ).loc main_arg4)

/-- The block indices of the four windows at each grid point. -/
theorem idx : ∀ t : Fin cfg0.N, win0_0.index t = ![0, t.val % 4, t.val / 4] ∧ win0_1.index t = ![1, t.val % 4, t.val / 4]
    ∧ win0_2.index t = ![t.val % 4, 0] ∧ win0_3.index t = ![t.val / 4, 0] :=
  (by decide +kernel : ∀ t : Fin grid0.N, _)

/-- The incoming gradient enters the region as passed. -/
theorem entry_dxo (c : Dev nD) : V m c main_v0 = (truncf .bf16 (a4 m c) bitsLt_bf16_f32 : FVec Ideal S4096x1024 .bf16) := by
  entry_read
  rfl

/-- Two halves stacked, then rounded: each half is read where it was put. -/
abbrev stacked (g u : FVec Ideal S4096x2816 .f32) : FVec Ideal S2x4096x2816 .bf16 :=
  truncf .bf16 (concatenate S2x4096x2816 0
        [⟨S1x4096x2816, broadcastInDim S1x4096x2816 ![1, 2] bcast_S4096x2816_S1x4096x2816_1_2 g⟩,
         ⟨S1x4096x2816, broadcastInDim S1x4096x2816 ![1, 2] bcast_S4096x2816_S1x4096x2816_1_2 u⟩]
        concatenates_S1x4096x2816_S1x4096x2816_S2x4096x2816_d0 : FVec Ideal S2x4096x2816 .f32) bitsLt_bf16_f32

theorem stacked_g (g u : FVec Ideal S4096x2816 .f32) (p : Fin 4096) (q : Fin 2816) :
    stacked g u (ix3 (0 : Fin 2) p q) = g (ix2 p q) := by
  pointwise [stacked]

theorem stacked_u (g u : FVec Ideal S4096x2816 .f32) (p : Fin 4096) (q : Fin 2816) :
    stacked g u (ix3 (1 : Fin 2) p q) = u (ix2 p q) := by
  pointwise [stacked]

/-- The two halves enter the region as the halves of the reference's product. -/
theorem entry_gu (c : Dev nD) : V m c main_v20
    = stacked (val_main_v14 (F := Ideal) (a0 m c) (a1 m c) (a2 m c)) (val_main_v15 (F := Ideal) (a0 m c) (a1 m c) (a2 m c)) := by
  entry_read
  rfl

/-- The reference's gated product at a token and a row. -/
theorem gated_at (x0 : FVec Ideal S4096x1024 .f32) (x1 : FVec Ideal S1024 .f32) (x2 : FVec Ideal S1024x5632 .f32) (i : S4096x2816.Idx) :
    val_main_v17 (F := Ideal) x0 x1 x2 i
      = val_main_v14 (F := Ideal) x0 x1 x2 i * Ideal.div 1 (1 + Ideal.exp (-(val_main_v14 (F := Ideal) x0 x1 x2 i)))
        * val_main_v15 (F := Ideal) x0 x1 x2 i := by
  rw [val_main_v17_apply, val_main_v16_apply, val_main_call0_v5_apply, val_main_call0_v4_apply, val_main_call0_v3_apply,
    val_main_call0_v2_apply, val_main_call0_v1_apply, val_main_call0_v0_apply,
    val_main_call0_cst_0_apply, val_main_call0_cst_apply]
  show _ * Ideal.div (Ideal.ofBits .f32 0x3F800000#32) (Ideal.ofBits .f32 0x3F800000#32 + Ideal.exp (-_)) * _ = _
  rw [Ideal.ofBits_one_f32]

/-- The terms one point adds: its tile of tokens. -/
def term (c : Dev nD) (t : Fin cfg0.N) (i : S1408x1024.Idx) : EReal :=
  k0_pay1 (F := Ideal) (iblk m c 0 t) (iblk m c 1 t) (iblk m c 2 t) i

theorem scratch_A (c : Dev nD) (t : Fin cfg0.N) (h : t.val % 4 = 0) (i : S1408x1024.Idx) :
    (outsAt0 m c t.val t.isLt).2 i = term m c t i := by
  rw [outsAt0_A m c t h (by omega) (by omega)]
  frame_out
  unfold term
  pointwise [k0_pay2]

theorem scratch_B (c : Dev nD) (t : Fin cfg0.N) (h : ¬t.val % 4 = 0) (h3 : ¬t.val % 4 = 4 - 1) (i : S1408x1024.Idx) :
    (outsAt0 m c t.val t.isLt).2 i = (outsAt0 m c (t.val - 1) (Nat.lt_of_le_of_lt (Nat.sub_le _ _) t.isLt)).2 i + term m c t i := by
  rw [outsAt0_B m c t h (by omega) (by omega)]
  frame_out
  unfold term
  rw [read_unread_whole]
  pointwise [k0_pay3]

/-- What the last point of a run writes back: half of the whole contraction. -/
theorem out_C (c : Dev nD) (t : Fin cfg0.N) (h3 : t.val % 4 = 4 - 1) (i : S1408x1024.Idx) :
    (outsAt0 m c t.val t.isLt).1 i = Ideal.ofBits .f32 0x3F000000#32 *
      ∑ s : Fin 4, term m c ⟨4 * (t.val / 4) + s.val, Pipeline.run_point_lt_of_flush t h3 s⟩ i := by
  rw [← Cert.Sums.carried_sum (fun n h => (outsAt0 m c n h).2) (term m c) (by norm_num) (scratch_A m c) (scratch_B m c) t h3 i]
  rw [outsAt0_C m c t (by omega) (by omega) h3]
  frame_out
  unfold term
  rw [read_unread_whole]
  pointwise [k0_pay4]

theorem blk_g (c : Dev nD) (t : Fin cfg0.N) (k : Fin 1024) (q : Fin 1408) (p : Fin 4096) (r : Fin 2816)
    (hp : (p : ℕ) = t.val % 4 * 1024 + k) (hr : (r : ℕ) = t.val / 4 * 1408 + q) :
    (iblk m c 0 t : FVec Ideal S1x1024x1408 .bf16) (ix3 (0 : Fin 1) k q) = val_main_v14 (F := Ideal) (a0 m c) (a1 m c) (a2 m c) (ix2 p r) := by
  rw [← stacked_g (val_main_v14 (F := Ideal) (a0 m c) (a1 m c) (a2 m c)) (val_main_v15 (F := Ideal) (a0 m c) (a1 m c) (a2 m c)) p r, ← entry_gu m c]
  blk_ext [iblk, idx t]

theorem blk_u (c : Dev nD) (t : Fin cfg0.N) (k : Fin 1024) (q : Fin 1408) (p : Fin 4096) (r : Fin 2816)
    (hp : (p : ℕ) = t.val % 4 * 1024 + k) (hr : (r : ℕ) = t.val / 4 * 1408 + q) :
    (iblk m c 1 t : FVec Ideal S1x1024x1408 .bf16) (ix3 (0 : Fin 1) k q) = val_main_v15 (F := Ideal) (a0 m c) (a1 m c) (a2 m c) (ix2 p r) := by
  rw [← stacked_u (val_main_v14 (F := Ideal) (a0 m c) (a1 m c) (a2 m c)) (val_main_v15 (F := Ideal) (a0 m c) (a1 m c) (a2 m c)) p r, ← entry_gu m c]
  blk_ext [iblk, idx t]

theorem blk_d (c : Dev nD) (t : Fin cfg0.N) (k : Fin 1024) (q : Fin 1024) (p : Fin 4096)
    (hp : (p : ℕ) = t.val % 4 * 1024 + k) :
    (iblk m c 2 t : FVec Ideal S1024x1024 .bf16) (ix2 k q) = a4 m c (ix2 p q) := by
  have : a4 m c (ix2 p q) = (V m c main_v0 : FVec Ideal S4096x1024 .bf16) (ix2 p q) := by rw [entry_dxo]; pointwise
  rw [this]
  blk_ext [iblk, idx t]

/-- One product of the contraction, over the block the point holds. -/
theorem term_at (c : Dev nD) (t : Fin cfg0.N) (i : S1408x1024.Idx) (p : Fin 1024 → Fin 4096) (r : Fin 2816)
    (hp : ∀ k, (p k : ℕ) = t.val % 4 * 1024 + k) (hr : (r : ℕ) = t.val / 4 * 1408 + i 0) : term m c t i = ∑ k : Fin 1024,
    val_main_v17 (F := Ideal) (a0 m c) (a1 m c) (a2 m c) (ix2 (p k) r) * a4 m c (ix2 (p k) (i 1)) := by
  unfold term
  pointwise [k0_pay1]
  refine Fin.sum_fin_congr fun k => ?_
  rw [gated_at, blk_g m c t k (i 0) (p k) r (hp k) hr, blk_u m c t k (i 0) (p k) r (hp k) hr, blk_d m c t k (i 1) (p k) (hp k), zero_sub]

/-- Half of the sum over a run is the reference's contraction of the halved gradient. -/
theorem point (c : Dev nD) (t : Fin cfg0.N) (h3 : t.val % 4 = 4 - 1) (y : S1408x1024.Idx) (i : S2816x1024.Idx)
    (h0 : (i 0 : ℕ) = t.val / 4 * 1408 + y 0) (h1 : (i 1 : ℕ) = y 1) :
    Ideal.ofBits .f32 0x3F000000#32 * ∑ s : Fin 4, term m c ⟨4 * (t.val / 4) + s.val, Pipeline.run_point_lt_of_flush t h3 s⟩ y
      = val_main_v26 (F := Ideal) (a0 m c) (a1 m c) (a2 m c) (a4 m c) i := by
  rw [val_main_v26_apply, val_main_v25_apply, val_main_v24_apply, Cert.Sums.half_mul_sum]
  show _ = ∑ k : Fin 4096, _
  have hs : ∀ s : Fin 4, Ideal.ofBits .f32 0x3F000000#32 * term m c ⟨4 * (t.val / 4) + s.val, Pipeline.run_point_lt_of_flush t h3 s⟩ y
      = ∑ k : Fin 1024, Ideal.ofBits .f32 0x3F000000#32 *
        (val_main_v17 (F := Ideal) (a0 m c) (a1 m c) (a2 m c) (ix2 (⟨s.val * 1024 + k.val, by omega⟩ : Fin 4096) (i 0))
          * a4 m c (ix2 (⟨s.val * 1024 + k.val, by omega⟩ : Fin 4096) (y 1))) := fun s => by
    rw [term_at m c _ y (fun k => ⟨s.val * 1024 + k.val, by omega⟩) (i 0) (fun k => by show _ = (4 * (t.val / 4) + s.val) % 4 * 1024 + k.val; dsimp only; omega)
      (by show (i 0 : ℕ) = (4 * (t.val / 4) + s.val) / 4 * 1408 + y 0; omega), Cert.Sums.half_mul_sum]
  simp only [hs]
  refine Fin.sum_mul_add_congr fun s k hk => ?_
  rw [val_main_v23_apply, val_main_v22_apply, val_main_cst_3_apply]
  show _ = Ideal.ofBits .f32 0x3F000000#32 * _ * _
  rw [mul_comm (val_main_v17 _ _ _ _), mul_assoc]
  congr 2
  · congr 1; blk_ext
  · congr 1; blk_ext

/-- The result array after the run is the reference's gradient. -/
theorem final (c : Dev nD) : (dats m 0 c).arrAt 3 cfg0.N = val_main_v26 (F := Ideal) (a0 m c) (a1 m c) (a2 m c) (a4 m c) := by
  refine (dats m 0 c).arrAt_eq_of_covers 3 _ (by decide +kernel) fun t hf y => ?_
  have h3 : t.val % 4 = 4 - 1 := (flush0_3 t).mp hf
  blk_simp
  rw [after0_3, out_C m c t h3]
  exact point m c t h3 y _ (by blk_simp [idx t]) (by blk_simp [idx t])

end Cert.DwoutIdeal.Hand

end
-- ==== Proof.DwoutClaim.lean ====
/- The claims about the gradient of the feed-forward block's second matrix. -/
module

public import proofs.«01_k».proof.Defs
public import proofs.«01_k».proof.Proof.Gen.Dwout.Frame
public import proofs.«01_k».proof.Proof.DwoutValue
public import proofs.«01_k».proof.Proof.Gen.ReferenceDwoutIdeal.Run

@[expose] public section

set_option maxRecDepth 16384

noncomputable section

namespace Cert.DwoutClaim

open Idealize.ShloMosaic Idealize.ShloMosaic.TcCoe Idealize.SL.Sem

set_option maxHeartbeats 1600000 in
theorem algebraic : Cert.algebraic_DwoutIdeal_ReferenceDwoutIdeal := by
  pair_intro
  · run_from Cert.DwoutIdeal.Gen.run_main m g
  · run_from Cert.ReferenceDwoutIdeal.Value.run m' g'
    exact (Cert.DwoutIdeal.Hand.final m c).symm

theorem quiescent_reference : Cert.quiescent_ReferenceDwoutIdeal := fun m g _ =>
  (θ_run Cert.ReferenceDwoutIdeal.defs _ _).mono
    (fun r h => ⟨fun c => (h c).2, Idealize.ShloMosaic.sem_eq_zero_of_no_sems (by decide) r.2⟩)
    (Cert.ReferenceDwoutIdeal.Value.run m g)

theorem all : Cert.quiescent_Dwout ∧ Cert.quiescent_DwoutIdeal ∧ Cert.quiescent_ReferenceDwoutIdeal
    ∧ Cert.preserves_Dwout_DwoutIdeal ∧ Cert.algebraic_DwoutIdeal_ReferenceDwoutIdeal :=
  ⟨fun m g _ => Cert.Dwout.Gen.frame m g, fun m g _ => Cert.DwoutIdeal.Gen.frame m g, quiescent_reference, trivial, algebraic⟩

end Cert.DwoutClaim

end
-- ==== Proof.DwinValue.lean ====
/- The gradient of the feed-forward block's first matrix: what the kernel leaves in its result array is the reference's
   value. The kernel walks the tokens in two tiles per quarter of the columns and carries the sum in a scratch; the reference
   contracts all tokens at once, with the factors the other way round, and cuts the quarters afterwards. -/
module

public import proofs.«01_k».proof.Proof.Gen.DwinIdeal.Value
public import proofs.«01_k».proof.Proof.Gen.ReferenceDwinIdeal.Read
public import proofs.«01_k».proof.Proof.Sums
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

namespace Cert.DwinIdeal.Hand

open Cert.DwinIdeal Cert.DwinIdeal.Gen Idealize.ShloMosaic Idealize.ShloMosaic.TcCoe Idealize.SL.Sem
open Idealize.ShloMosaic.Pipeline (Dat)
open Cert.ReferenceDwinIdeal.Read

variable (m : (ℓ : Loc nD τ sig) → Buf (Elt Ideal) ℓ)

abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)
abbrev a4 (c : Dev nD) := m ((c.tc : Thread nD τ).loc main_arg4)

/-- The block indices of the three windows at each grid point. -/
theorem idx : ∀ t : Fin cfg0.N, win0_0.index t = ![t.val % 2, 0] ∧ win0_1.index t = ![t.val / 4, t.val % 2, t.val / 2 % 2]
    ∧ win0_2.index t = ![t.val / 2, 0, 0] :=
  (by decide +kernel : ∀ t : Fin grid0.N, _)

/-- The two halves of the columns stacked, then rounded. -/
abbrev stacked (d : FVec Ideal S4096x5632 .f32) : FVec Ideal S2x4096x2816 .bf16 :=
  truncf .bf16 (concatenate S2x4096x2816 0
        [⟨S1x4096x2816, broadcastInDim S1x4096x2816 ![1, 2] bcast_S4096x2816_S1x4096x2816_1_2
            (extractStridedSlice S4096x2816 ![0, 0] d slices_S4096x5632_S4096x2816_0_0)⟩,
         ⟨S1x4096x2816, broadcastInDim S1x4096x2816 ![1, 2] bcast_S4096x2816_S1x4096x2816_1_2
            (extractStridedSlice S4096x2816 ![0, 2816] d slices_S4096x5632_S4096x2816_0_2816)⟩]
        concatenates_S1x4096x2816_S1x4096x2816_S2x4096x2816_d0 : FVec Ideal S2x4096x2816 .f32) bitsLt_bf16_f32

theorem stacked_at (d : FVec Ideal S4096x5632 .f32) (i : S2x4096x2816.Idx) (j : S4096x5632.Idx)
    (h0 : (j 0 : ℕ) = i 1) (h1 : (j 1 : ℕ) = (i 0 : ℕ) * 2816 + i 2) : stacked d i = d j := by
  pointwise [stacked]
  blk_point []

/-- The reference's last step: the quarters of the columns stacked, then rounded. -/
theorem quarters_at (x0 : FVec Ideal S4096x1024 .f32) (x1 : FVec Ideal S1024 .f32) (x2 : FVec Ideal S1024x5632 .f32)
    (x3 : FVec Ideal S2816x1024 .f32) (x4 : FVec Ideal S4096x1024 .f32) (i : S4x1024x1408.Idx) (j : S1024x5632.Idx)
    (h0 : (j 0 : ℕ) = i 1) (h1 : (j 1 : ℕ) = (i 0 : ℕ) * 1408 + i 2) :
    val_main_v40 (F := Ideal) x0 x1 x2 x3 x4 i = val_main_v30 (F := Ideal) x0 x1 x2 x3 x4 j := by
  unfold val_main_v40 val_main_v39 val_main_v38 val_main_v37 val_main_v36 val_main_v35 val_main_v34 val_main_v33 val_main_v32 val_main_v31
  generalize val_main_v30 (F := Ideal) x0 x1 x2 x3 x4 = d
  pointwise
  blk_point []

set_option maxHeartbeats 3200000 in
/-- The gradient at the gate enters the region as the reference's, in halves. -/
theorem entry_d (c : Dev nD) : V m c main_v34
    = stacked (val_main_v28 (F := Ideal) (a0 m c) (a1 m c) (a2 m c) (a3 m c) (a4 m c)) := by
  show StableHlo.after [hostOps0, hostOps0_1, hostOps0_2, hostOps0_3, hostOps0_4].flatten _ _ = _
  simp only [hostOps0, hostOps0_1, hostOps0_2, hostOps0_3, hostOps0_4, List.flatten_cons, List.flatten_nil, List.append_nil, List.cons_append, List.nil_append]
  entry_read
  rfl

/-- The normalised rows enter the region as the reference's. -/
theorem entry_h (c : Dev nD) : V m c main_v48
    = (truncf .bf16 (val_main_v12 (F := Ideal) (a0 m c) (a1 m c)) bitsLt_bf16_f32 : FVec Ideal S4096x1024 .bf16) := by
  entry_read
  rfl

/-- The terms one point adds: its tile of tokens. -/
def term (c : Dev nD) (t : Fin cfg0.N) (i : S1024x1408.Idx) : EReal :=
  k0_pay1 (F := Ideal) (iblk m c 0 t) (iblk m c 1 t) i

theorem scratch_A (c : Dev nD) (t : Fin cfg0.N) (h : t.val % 2 = 0) (i : S1024x1408.Idx) :
    (outsAt0 m c t.val t.isLt).2 i = term m c t i := by
  rw [outsAt0_A m c t h (by omega)]
  frame_out
  unfold term
  pointwise [k0_pay2]

/-- What the last point of a run writes back: the whole contraction. -/
theorem out_B (c : Dev nD) (t : Fin cfg0.N) (h3 : t.val % 2 = 2 - 1) (y : S1x1024x1408.Idx) (i : S1024x1408.Idx)
    (h0 : (i 0 : ℕ) = y 1) (h1 : (i 1 : ℕ) = y 2) :
    (outsAt0 m c t.val t.isLt).1 y = ∑ s : Fin 2, term m c ⟨2 * (t.val / 2) + s.val, Pipeline.run_point_lt_of_flush t h3 s⟩ i := by
  rw [← Cert.Sums.carried_sum (fun n h => (outsAt0 m c n h).2) (term m c) (by norm_num) (scratch_A m c)
    (fun t h h' => absurd h' (by omega)) t h3 i]
  rw [outsAt0_B m c t (by omega) h3]
  frame_out
  unfold term
  rw [read_unread_whole]
  pointwise [k0_pay4]
  generalize k0_pay1 (F := Ideal) _ _ = z
  blk_point []

theorem blk_h (c : Dev nD) (t : Fin cfg0.N) (k : Fin 2048) (q : Fin 1024) (p : Fin 4096) (hp : (p : ℕ) = t.val % 2 * 2048 + k) :
    (iblk m c 0 t : FVec Ideal S2048x1024 .bf16) (ix2 k q) = val_main_v12 (F := Ideal) (a0 m c) (a1 m c) (ix2 p q) := by
  have : val_main_v12 (F := Ideal) (a0 m c) (a1 m c) (ix2 p q) = (V m c main_v48 : FVec Ideal S4096x1024 .bf16) (ix2 p q) := by
    rw [entry_h]; rfl
  rw [this]
  blk_ext [iblk, idx t]

theorem blk_d (c : Dev nD) (t : Fin cfg0.N) (k : Fin 2048) (q : Fin 1408) (p : Fin 4096) (r : Fin 5632)
    (hp : (p : ℕ) = t.val % 2 * 2048 + k) (hr : (r : ℕ) = t.val / 2 * 1408 + q) :
    (iblk m c 1 t : FVec Ideal S1x2048x1408 .bf16) (ix3 (0 : Fin 1) k q)
      = val_main_v28 (F := Ideal) (a0 m c) (a1 m c) (a2 m c) (a3 m c) (a4 m c) (ix2 p r) := by
  have ht : t.val < 8 := lt_of_lt_of_eq t.isLt N_0
  obtain_idx i : S2x4096x2816 := [t.val / 4, (p : ℕ), t.val / 2 % 2 * 1408 + (q : ℕ)] with hi
  rw [← stacked_at (val_main_v28 (F := Ideal) (a0 m c) (a1 m c) (a2 m c) (a3 m c) (a4 m c)) i (ix2 p r) (by show (p : ℕ) = i 1; omega) (by show (r : ℕ) = (i 0 : ℕ) * 2816 + i 2; omega), ← entry_d m c]
  blk_ext [iblk, idx t]

/-- One product of the contraction, over the block the point holds. -/
theorem term_at (c : Dev nD) (t : Fin cfg0.N) (i : S1024x1408.Idx) (p : Fin 2048 → Fin 4096) (r : Fin 5632)
    (hp : ∀ k, (p k : ℕ) = t.val % 2 * 2048 + k) (hr : (r : ℕ) = t.val / 2 * 1408 + i 1) : term m c t i = ∑ k : Fin 2048,
    val_main_v12 (F := Ideal) (a0 m c) (a1 m c) (ix2 (p k) (i 0))
      * val_main_v28 (F := Ideal) (a0 m c) (a1 m c) (a2 m c) (a3 m c) (a4 m c) (ix2 (p k) r) := by
  unfold term
  pointwise [k0_pay1]
  refine Fin.sum_fin_congr fun k => ?_
  rw [blk_h m c t k (i 0) (p k) (hp k), blk_d m c t k (i 1) (p k) r (hp k) hr]

/-- The sum over a run is the reference's contraction. -/
theorem point (c : Dev nD) (t : Fin cfg0.N) (h3 : t.val % 2 = 2 - 1) (y : S1024x1408.Idx) (i : S4x1024x1408.Idx)
    (h0 : (i 0 : ℕ) = t.val / 2) (h1 : (i 1 : ℕ) = y 0) (h2 : (i 2 : ℕ) = y 1) :
    ∑ s : Fin 2, term m c ⟨2 * (t.val / 2) + s.val, Pipeline.run_point_lt_of_flush t h3 s⟩ y
      = val_main_v40 (F := Ideal) (a0 m c) (a1 m c) (a2 m c) (a3 m c) (a4 m c) i := by
  have ht : t.val < 8 := lt_of_lt_of_eq t.isLt N_0
  obtain_idx j : S1024x5632 := [(y 0 : ℕ), t.val / 2 * 1408 + (y 1 : ℕ)] with hj
  rw [quarters_at _ _ _ _ _ i j (by omega) (by omega), val_main_v30_apply, val_main_v29_apply]
  have hs : ∀ s : Fin 2, term m c ⟨2 * (t.val / 2) + s.val, Pipeline.run_point_lt_of_flush t h3 s⟩ y
      = ∑ k : Fin 2048, val_main_v12 (F := Ideal) (a0 m c) (a1 m c) (ix2 (⟨s.val * 2048 + k.val, by omega⟩ : Fin 4096) (y 0))
          * val_main_v28 (F := Ideal) (a0 m c) (a1 m c) (a2 m c) (a3 m c) (a4 m c) (ix2 (⟨s.val * 2048 + k.val, by omega⟩ : Fin 4096) (j 1)) := fun s => by
    rw [term_at m c _ y (fun k => ⟨s.val * 2048 + k.val, by omega⟩) (j 1)
      (fun k => by show _ = (2 * (t.val / 2) + s.val) % 2 * 2048 + k.val; dsimp only; omega)
      (by show (j 1 : ℕ) = (2 * (t.val / 2) + s.val) / 2 * 1408 + y 1; omega)]
  simp only [hs]
  refine Fin.sum_mul_add_congr fun s k hk => ?_
  rw [mul_comm]
  congr 1
  · congr 1; blk_ext
  · congr 1; blk_ext

/-- The result array after the run is the reference's gradient. -/
theorem final (c : Dev nD) : (dats m 0 c).arrAt 2 cfg0.N
    = val_main_v40 (F := Ideal) (a0 m c) (a1 m c) (a2 m c) (a3 m c) (a4 m c) := by
  refine (dats m 0 c).arrAt_eq_of_covers 2 _ (by decide +kernel) fun t hf y => ?_
  have h3 : t.val % 2 = 2 - 1 := (flush0_2 t).mp hf
  blk_simp
  rw [after0_2]
  refine (out_B m c t h3 y (ix2 (⟨(y 1).val, (y 1).isLt⟩ : Fin 1024) (⟨(y 2).val, (y 2).isLt⟩ : Fin 1408)) rfl rfl).trans ?_
  exact point m c t h3 _ _ (by blk_simp [idx t]) (by blk_simp [idx t]) (by blk_simp [idx t])

end Cert.DwinIdeal.Hand

end
-- ==== Proof.DwinClaim.lean ====
/- The claims about the gradient of the feed-forward block's first matrix. -/
module

public import proofs.«01_k».proof.Defs
public import proofs.«01_k».proof.Proof.Gen.Dwin.Frame
public import proofs.«01_k».proof.Proof.DwinValue
public import proofs.«01_k».proof.Proof.Gen.ReferenceDwinIdeal.Run

@[expose] public section

set_option maxRecDepth 16384

noncomputable section

namespace Cert.DwinClaim

open Idealize.ShloMosaic Idealize.ShloMosaic.TcCoe Idealize.SL.Sem

set_option maxHeartbeats 1600000 in
theorem algebraic : Cert.algebraic_DwinIdeal_ReferenceDwinIdeal := by
  pair_intro
  · run_from Cert.DwinIdeal.Value.run_blocks m g
  · run_from Cert.ReferenceDwinIdeal.Value.run m' g'
    rw [Cert.ReferenceDwinIdeal.Read.val_main_v40_eq, (hagree c).1, (hagree c).2.1, (hagree c).2.2.1, (hagree c).2.2.2.1, (hagree c).2.2.2.2]
    exact (Cert.DwinIdeal.Hand.final m c).symm

theorem quiescent_reference : Cert.quiescent_ReferenceDwinIdeal := fun m g _ =>
  (θ_run Cert.ReferenceDwinIdeal.defs _ _).mono
    (fun r h => ⟨fun c => (h c).2, Idealize.ShloMosaic.sem_eq_zero_of_no_sems (by decide) r.2⟩)
    (Cert.ReferenceDwinIdeal.Value.run m g)

theorem all : Cert.quiescent_Dwin ∧ Cert.quiescent_DwinIdeal ∧ Cert.quiescent_ReferenceDwinIdeal
    ∧ Cert.preserves_Dwin_DwinIdeal ∧ Cert.algebraic_DwinIdeal_ReferenceDwinIdeal :=
  ⟨fun m g _ => Cert.Dwin.Gen.frame m g, fun m g _ => Cert.DwinIdeal.Gen.frame m g, quiescent_reference, trivial, algebraic⟩

end Cert.DwinClaim

end
-- ==== Proof.Reals.lean ====
/- Extended reals that are real numbers: what the gate and the norm compute at finite arguments stays real, and over the
   reals the kernel's arrangement of the two derivatives is the reference's. -/
module

public import proofs.«01_k».proof.Proof.Sums

@[expose] public section

set_option maxRecDepth 16384

noncomputable section

namespace Cert.Reals

open Idealize.ShloMosaic

/-- The extended real is a real number. -/
def IsReal (z : EReal) : Prop := ∃ r : ℝ, z = r

theorem IsReal.coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.sum {ι : Type*} {s : Finset ι} {f : ι → EReal} (h : ∀ i, IsReal (f i)) : IsReal (∑ i ∈ s, f i) := by
  choose r hr using h
  exact ⟨∑ i ∈ s, r i, by rw [← Cert.Sums.sum_coe]; exact Finset.sum_congr rfl fun i _ => hr i⟩

theorem IsReal.zero : IsReal 0 := ⟨0, rfl⟩

theorem IsReal.half : IsReal (Ideal.ofBits .f32 0x3F000000#32) := ⟨_, Cert.Sums.half_eq⟩

/-- The absolute value below the pattern of infinity: a real number. -/
theorem IsReal.of_abs_lt {x : EReal} (h : (x.abs : EReal) < ⊤) : IsReal x := by
  induction x with
  | bot => simp at h
  | top => simp at h
  | coe r => exact ⟨r, rfl⟩

/-- The logistic function of a real number. -/
theorem sigmoid_coe (g : ℝ) : Ideal.div 1 (1 + Ideal.exp (-(g : EReal))) = (((1 / (1 + Real.exp (-g))) : ℝ) : EReal) := by
  have h : (1 : EReal) + Ideal.exp (-(g : EReal)) = ((1 + Real.exp (-g) : ℝ) : EReal) := by
    rw [← EReal.coe_neg, Ideal.exp_coe, EReal.coe_add, EReal.coe_one]
  rw [h, Ideal.div_coe (by positivity), one_mul]

theorem IsReal.sigmoid {g : EReal} (hg : IsReal g) : IsReal (Ideal.div 1 (1 + Ideal.exp (-g))) := by
  obtain ⟨a, rfl⟩ := hg; exact ⟨_, sigmoid_coe a⟩

/-- The f32 pattern of 1024. -/
theorem width_eq : Ideal.ofBits .f32 0x44800000#32 = ((1024 : ℝ) : EReal) := by
  simp [Ideal.ofBits, Ideal.ieee, -EReal.coe_mul]; norm_num

/-- The f32 pattern of minus one half. -/
theorem neg_half_eq : Ideal.ofBits .f32 0xBF000000#32 = (((-1 / 2 : ℝ) : ℝ) : EReal) := by
  simp [Ideal.ofBits, Ideal.ieee, -EReal.coe_mul]; norm_num

/-- The norm's small constant is a positive real. -/
theorem eps_eq : ∃ e : ℝ, 0 < e ∧ Ideal.ofBits .f32 0x358637BD#32 = (e : EReal) := by
  refine ⟨_, ?_, by simp [Ideal.ofBits, Ideal.ieee, -EReal.coe_mul]; rfl⟩
  norm_num

/-- A sum of squares of extended reals is a nonnegative real number or infinite. -/
theorem squares_cases {n : ℕ} (x : Fin n → EReal) : (∃ T : ℝ, 0 ≤ T ∧ ∑ j, x j * x j = (T : EReal)) ∨ ∑ j, x j * x j = ⊤ := by
  have h : (0 : EReal) ≤ ∑ j, x j * x j := Finset.sum_nonneg fun j _ => by
    induction x j with
    | bot => simp
    | top => simp
    | coe r => rw [← EReal.coe_mul]; exact EReal.coe_nonneg.mpr (mul_self_nonneg r)
  generalize ∑ j, x j * x j = S at h
  induction S with
  | bot => simp at h
  | top => exact Or.inr rfl
  | coe T => exact Or.inl ⟨T, EReal.coe_nonneg.mp h, rfl⟩

/-- Two halves of an extended real. -/
theorem halves (Z : EReal) : ((1 / 2 : ℝ) : EReal) * Z + ((1 / 2 : ℝ) : EReal) * Z = Z := by
  have h : (0 : EReal) ≤ ((1 / 2 : ℝ) : EReal) := EReal.coe_nonneg.mpr (by norm_num)
  rw [← EReal.right_distrib_of_nonneg h h, ← EReal.coe_add, show (1 / 2 + 1 / 2 : ℝ) = 1 by norm_num, EReal.coe_one, one_mul]

/-- One entry of the input's gradient through the norm, as the kernel arranges it and as the derivative of the norm's own
    lines does: `r` is the reciprocal root of the row's mean square, and `r / (mean square) = r ^ 3`. No entry need be finite:
    `r` is a positive real number, which distributes over every sum, or the mean square is infinite and `r` is zero. -/
theorem norm_row {n : ℕ} (x g D : Fin n → EReal) (o : EReal) (q : Fin n) (ms r w : EReal)
    (hms : ms = Ideal.div (∑ j, x j * x j) (Ideal.ofBits .f32 0x44800000#32) + Ideal.ofBits .f32 0x358637BD#32)
    (hr : r = Ideal.rsqrt ms)
    (hw : w = Ideal.div ((∑ j, x j * (D j * g j)) * (Ideal.ofBits .f32 0xBF000000#32 * Ideal.div r ms)) (Ideal.ofBits .f32 0x44800000#32)) :
    o + r * (D q * g q - x q * r * Ideal.div (∑ j, D j * g j * (x j * r)) (Ideal.ofBits .f32 0x44800000#32))
      = o + D q * g q * r + x q * w + w * x q := by
  obtain ⟨e, he, heq⟩ := eps_eq
  rw [width_eq, Ideal.div_coe (by norm_num)] at hms hw ⊢
  rw [heq] at hms
  rcases squares_cases x with ⟨T, hT, hS⟩ | hS
  · have hpos : 0 < T * (1 / 1024) + e := by positivity
    rw [hS, ← EReal.coe_mul, ← EReal.coe_add] at hms
    generalize T * (1 / 1024) + e = M at hpos hms
    have hR : r = (((Real.sqrt M)⁻¹ : ℝ) : EReal) := by
      rw [hr, hms, Ideal.rsqrt_coe, if_neg (not_lt.mpr hpos.le), if_neg hpos.ne']
    have hs : Real.sqrt M * Real.sqrt M = M := Real.mul_self_sqrt hpos.le
    have hs0 : 0 < Real.sqrt M := Real.sqrt_pos.mpr hpos
    have hinv : 1 / M = (Real.sqrt M)⁻¹ * (Real.sqrt M)⁻¹ := by rw [← mul_inv, hs, one_div]
    rw [hms, Ideal.div_coe hpos.ne', hinv, neg_half_eq, hR] at hw
    rw [hR]
    have hR0 : 0 ≤ (Real.sqrt M)⁻¹ := (inv_pos.mpr hs0).le
    generalize (Real.sqrt M)⁻¹ = R at hw hR0
    have hsum : ∑ j, D j * g j * (x j * (R : EReal)) = (R : EReal) * ∑ j, x j * (D j * g j) := by
      rw [Cert.Sums.coe_mul_sum hR0]
      exact Finset.sum_congr rfl fun j _ => by rw [mul_comm (D j * g j), mul_comm (x j), mul_assoc]
    rw [hsum]
    generalize ∑ j, x j * (D j * g j) = S at hw
    have hZ : x q * w = ((1 / 2 : ℝ) : EReal) * -((R : EReal) * (x q * R * (R * S * ((1 / 1024 : ℝ) : EReal)))) := by
      have h1 : (R : EReal) * (x q * R * (R * S * ((1 / 1024 : ℝ) : EReal))) = x q * S * ((R * R * R * (1 / 1024) : ℝ) : EReal) := by
        simp only [EReal.coe_mul]; ac_rfl
      have h2 : x q * w = x q * S * (((-(1 / 2)) * (R * R * R * (1 / 1024)) : ℝ) : EReal) := by
        rw [hw, show (-(1 / 2)) * (R * R * R * (1 / 1024)) = (-1 / 2) * (R * (R * R)) * (1 / 1024) by ring]
        simp only [EReal.coe_mul]; ac_rfl
      rw [h1, h2, show (-(1 / 2)) * (R * R * R * (1 / 1024)) = -((1 / 2) * (R * R * R * (1 / 1024))) by ring, EReal.coe_neg,
        mul_neg, mul_neg, EReal.coe_mul (1 / 2)]
      congr 1
      ac_rfl
    rw [mul_comm w, add_assoc, hZ, halves, sub_eq_add_neg, Cert.Sums.coe_mul_add hR0, mul_neg, mul_comm (R : EReal) (D q * g q), ← add_assoc]
  · have hM : ms = ⊤ := by
      rw [hms, hS, EReal.top_mul_coe_of_pos (by norm_num), EReal.top_add_coe]
    have hR : r = 0 := by rw [hr, hM]; rfl
    have hdiv : Ideal.div 0 ⊤ = 0 := by simp [Ideal.div]
    rw [hM, hR, hdiv, mul_zero, mul_zero, zero_mul] at hw
    rw [hw, hR]
    simp

/-- The norm's factor of a row of real numbers is a real number. -/
theorem IsReal.rms {n : ℕ} {x : Fin n → EReal} (hx : ∀ j, IsReal (x j)) :
    IsReal (Ideal.rsqrt (Ideal.div (∑ j, x j * x j) (Ideal.ofBits .f32 0x44800000#32) + Ideal.ofBits .f32 0x358637BD#32)) := by
  choose X hX using hx
  obtain ⟨e, he, heq⟩ := eps_eq
  have hpos : 0 < (∑ j, X j * X j) / 1024 + e := by
    have : 0 ≤ ∑ j, X j * X j := Finset.sum_nonneg fun j _ => mul_self_nonneg _
    positivity
  have hM : Ideal.div (∑ j, x j * x j) (Ideal.ofBits .f32 0x44800000#32) + Ideal.ofBits .f32 0x358637BD#32
      = (((∑ j, X j * X j) / 1024 + e : ℝ) : EReal) := by
    rw [width_eq, heq, Ideal.div_coe (by norm_num)]
    simp only [hX, ← EReal.coe_mul, Cert.Sums.sum_coe, ← EReal.coe_add]
    congr 1; ring
  rw [hM, Ideal.rsqrt_coe, if_neg (not_lt.mpr hpos.le), if_neg hpos.ne']
  exact ⟨_, rfl⟩

/-- The gate's gradient with respect to its own half, as the kernel arranges it and as the derivative of `g * sigmoid g` does. -/
theorem gate_grad {g u d : EReal} (hg : IsReal g) (hu : IsReal u) (hd : IsReal d) (s : EReal) (hs : s = Ideal.div 1 (1 + Ideal.exp (-g))) :
    d * u * (s + g * s * (1 - s)) = d * u * s + g * (d * u) * (s * (1 - s)) := by
  obtain ⟨b, hb⟩ : IsReal s := hs ▸ IsReal.sigmoid hg
  obtain ⟨a, rfl⟩ := hg; obtain ⟨u, rfl⟩ := hu; obtain ⟨d, rfl⟩ := hd
  rw [hb, ← EReal.coe_one]
  simp only [← EReal.coe_mul, ← EReal.coe_add, ← EReal.coe_sub]
  congr 1; ring

end Cert.Reals

end
-- ==== Proof.DhEntry.lean ====
/- The arrays the last part of the feed-forward block's backward pass takes into its region, as the reference's own. -/
module

public import proofs.«01_k».proof.Proof.Gen.DhIdeal.Value
public import proofs.«01_k».proof.Proof.Gen.ReferenceDhIdeal.Read
public import proofs.«01_k».proof.Proof.Reals
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

namespace Cert.DhIdeal.Hand

open Cert.DhIdeal Cert.DhIdeal.Gen Idealize.ShloMosaic Idealize.ShloMosaic.TcCoe Idealize.SL.Sem
open Idealize.ShloMosaic.Pipeline (Dat)
open Cert.ReferenceDhIdeal.Read Cert.Reals

variable (m : (ℓ : Loc nD τ sig) → Buf (Elt Ideal) ℓ)

abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)
abbrev a4 (c : Dev nD) := m ((c.tc : Thread nD τ).loc main_arg4)

/-- The two halves of the columns stacked, then rounded. -/
abbrev stacked (d : FVec Ideal S4096x5632 .f32) : FVec Ideal S2x4096x2816 .bf16 :=
  truncf .bf16 (concatenate S2x4096x2816 0
        [⟨S1x4096x2816, broadcastInDim S1x4096x2816 ![1, 2] bcast_S4096x2816_S1x4096x2816_1_2
            (extractStridedSlice S4096x2816 ![0, 0] d slices_S4096x5632_S4096x2816_0_0)⟩,
         ⟨S1x4096x2816, broadcastInDim S1x4096x2816 ![1, 2] bcast_S4096x2816_S1x4096x2816_1_2
            (extractStridedSlice S4096x2816 ![0, 2816] d slices_S4096x5632_S4096x2816_0_2816)⟩]
        concatenates_S1x4096x2816_S1x4096x2816_S2x4096x2816_d0 : FVec Ideal S2x4096x2816 .f32) bitsLt_bf16_f32

theorem stacked_at (d : FVec Ideal S4096x5632 .f32) (i : S2x4096x2816.Idx) (j : S4096x5632.Idx)
    (h0 : (j 0 : ℕ) = i 1) (h1 : (j 1 : ℕ) = (i 0 : ℕ) * 2816 + i 2) : stacked d i = d j := by
  pointwise [stacked]
  blk_point []

/-- The quarters of the first matrix's columns. -/
abbrev quarters (w : FVec Ideal S1024x5632 .f32) : FVec Ideal S4x1024x1408 .bf16 :=
  transpose S4x1024x1408 [1, 0, 2] (shapeCast S1024x4x1408 (truncf .bf16 w bitsLt_bf16_f32 : FVec Ideal S1024x5632 .bf16)
    shapeCasts_S1024x5632_S1024x4x1408) transposes_S1024x4x1408_S4x1024x1408_1_0_2

theorem quarters_at (w : FVec Ideal S1024x5632 .f32) (i : S4x1024x1408.Idx) (j : S1024x5632.Idx)
    (h0 : (j 0 : ℕ) = i 1) (h1 : (j 1 : ℕ) = (i 0 : ℕ) * 1408 + i 2) : quarters w i = w j := by
  pointwise [quarters]
  blk_point []

/-- The reference's reshape of the incoming gradient to its own shape changes nothing. -/
theorem reshaped (x4 : FVec Ideal S4096x1024 .f32) : val_main_v25 (F := Ideal) x4 = x4 := by
  unfold val_main_v25
  funext i
  rw [eq_ix2 i]
  generalize i 0 = p
  generalize i 1 = q
  pointwise

/-- The gradient at the gated product, without that reshape. -/
def plain_v28 (x3 : FVec Ideal S2816x1024 .f32) (x4 : FVec Ideal S4096x1024 .f32) : FVec Ideal S4096x2816 .f32 :=
  Host.dotGeneral Cert.ReferenceDhIdeal.dot_S4096x1024_S2816x1024_S4096x2816_1_1_0_0_n_n none
    (mulf (val_main_v26 (F := Ideal)) x4 : FVec Ideal S4096x1024 .f32) x3

/-- The gradient at the gate, without that reshape. -/
def plain (x0 : FVec Ideal S4096x1024 .f32) (x1 : FVec Ideal S1024 .f32) (x2 : FVec Ideal S1024x5632 .f32)
    (x3 : FVec Ideal S2816x1024 .f32) (x4 : FVec Ideal S4096x1024 .f32) : FVec Ideal S4096x5632 .f32 :=
  concatenate S4096x5632 1
    [⟨S4096x2816, addf (mulf (mulf (plain_v28 x3 x4) (val_main_v18 (F := Ideal) x0 x1 x2)) (val_main_v19_2 (F := Ideal) x0 x1 x2))
        (mulf (mulf (val_main_v17 (F := Ideal) x0 x1 x2) (mulf (plain_v28 x3 x4) (val_main_v18 (F := Ideal) x0 x1 x2)))
          (val_main_v19_1 (F := Ideal) x0 x1 x2))⟩,
      ⟨S4096x2816, mulf (val_main_v19_0 (F := Ideal) x0 x1 x2) (plain_v28 x3 x4)⟩]
    Cert.ReferenceDhIdeal.Gen.concatenates_S4096x2816_S4096x2816_S4096x5632_d1

theorem plain_eq (x0 : FVec Ideal S4096x1024 .f32) (x1 : FVec Ideal S1024 .f32) (x2 : FVec Ideal S1024x5632 .f32)
    (x3 : FVec Ideal S2816x1024 .f32) (x4 : FVec Ideal S4096x1024 .f32) :
    val_main_v32 (F := Ideal) x0 x1 x2 x3 x4 = plain x0 x1 x2 x3 x4 := by
  unfold val_main_v32 val_main_v31 val_main_v29 val_main_call1_v1 val_main_call1_v2 val_main_call1_v0 val_main_v30 val_main_v28 val_main_v27
  rw [reshaped]
  rfl

set_option maxHeartbeats 3200000 in
/-- The gradient at the gate enters the region as the reference's, in halves. -/
theorem entry_d (c : Dev nD) : V m c main_v34
    = stacked (val_main_v32 (F := Ideal) (a0 m c) (a1 m c) (a2 m c) (a3 m c) (a4 m c)) := by
  refine Eq.trans ?_ (congrArg stacked (plain_eq (a0 m c) (a1 m c) (a2 m c) (a3 m c) (a4 m c))).symm
  show StableHlo.after [hostOps0, hostOps0_1, hostOps0_2, hostOps0_3, hostOps0_4].flatten _ _ = _
  simp only [hostOps0, hostOps0_1, hostOps0_2, hostOps0_3, hostOps0_4, List.flatten_cons, List.flatten_nil, List.append_nil, List.cons_append, List.nil_append]
  entry_read
  rfl

/-- The first matrix enters the region in quarters. -/
theorem entry_w (c : Dev nD) : V m c main_v37 = quarters (a2 m c) := by
  entry_read
  rfl

/-- The gain enters the region as one row. -/
theorem entry_g (c : Dev nD) : V m c main_v38 = (shapeCast S1x1024 (a1 m c) shapeCasts_S1024_S1x1024 : FVec Ideal S1x1024 .f32) := by
  entry_read
  rfl

end Cert.DhIdeal.Hand

end
-- ==== Proof.DhValue.lean ====
/- The last part of the feed-forward block's backward pass: what the kernel leaves in its three result arrays is the
   reference's value. The kernel contracts the columns in two steps held in a
   scratch and sums the gain's gradient over the tiles of tokens; the reference contracts all columns at once, adds the two
   halves of the derivative of the squared rows separately and sums all tokens at once. -/
module

public import proofs.«01_k».proof.Proof.DhEntry
public import proofs.«01_k».proof.Proof.Reals
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

namespace Cert.DhIdeal.Hand

open Cert.DhIdeal Cert.DhIdeal.Gen Idealize.ShloMosaic Idealize.ShloMosaic.TcCoe Idealize.SL.Sem
open Idealize.ShloMosaic.Pipeline (Dat)
open Cert.ReferenceDhIdeal.Read Cert.Reals

variable (m : (ℓ : Loc nD τ sig) → Buf (Elt Ideal) ℓ)

/-- The block indices of the eight windows at each grid point. -/
theorem idx : ∀ t : Fin cfg0.N, win0_0.index t = ![t.val % 2, t.val / 2, 0] ∧ win0_1.index t = ![0, 0, 0]
    ∧ win0_2.index t = ![t.val / 2, 0] ∧ win0_3.index t = ![t.val / 2, 0] ∧ win0_4.index t = ![0, 0]
    ∧ win0_5.index t = ![t.val / 2, 0] ∧ win0_6.index t = ![0, 0] ∧ win0_7.index t = ![t.val / 2, 0] :=
  (by decide +kernel : ∀ t : Fin grid0.N, _)

/-- Where the two slabs of the first matrix start at each grid point. -/
theorem slab1 : ∀ t : Fin cfg0.N, k0_off1 (grid0.coords t) = ![2 * (t.val % 2), 0, 0] :=
  (by decide +kernel : ∀ t : Fin grid0.N, _)

theorem slab2 : ∀ t : Fin cfg0.N, k0_off2 (grid0.coords t) = ![2 * (t.val % 2) + 1, 0, 0] :=
  (by decide +kernel : ∀ t : Fin grid0.N, _)

theorem blk_d (c : Dev nD) (t : Fin cfg0.N) (k : Fin 512) (q : Fin 2816) (p : Fin 4096) (r : Fin 5632)
    (hp : (p : ℕ) = t.val / 2 * 512 + k) (hr : (r : ℕ) = t.val % 2 * 2816 + q) :
    (iblk m c 0 t : FVec Ideal S1x512x2816 .bf16) (ix3 (0 : Fin 1) k q)
      = val_main_v32 (F := Ideal) (a0 m c) (a1 m c) (a2 m c) (a3 m c) (a4 m c) (ix2 p r) := by
  have ht : t.val < 16 := lt_of_lt_of_eq t.isLt N_0
  obtain_idx i : S2x4096x2816 := [t.val % 2, (p : ℕ), (q : ℕ)] with hi
  rw [← stacked_at (val_main_v32 (F := Ideal) (a0 m c) (a1 m c) (a2 m c) (a3 m c) (a4 m c)) i (ix2 p r) (by show (p : ℕ) = i 1; omega) (by show (r : ℕ) = (i 0 : ℕ) * 2816 + i 2; omega), ← entry_d m c]
  blk_ext [iblk, idx t]

theorem blk_w (c : Dev nD) (t : Fin cfg0.N) (s : Fin 4) (r : Fin 1024) (q : Fin 1408) (j : Fin 5632) (hj : (j : ℕ) = (s : ℕ) * 1408 + q) :
    (iblk m c 1 t : FVec Ideal S4x1024x1408 .bf16) (ix3 s r q) = a2 m c (ix2 r j) := by
  rw [← quarters_at (a2 m c) (ix3 s r q) (ix2 r j) rfl hj, ← entry_w m c]
  blk_ext [iblk, idx t]

theorem blk_x (c : Dev nD) (t : Fin cfg0.N) (k : Fin 512) (q : Fin 1024) (p : Fin 4096) (hp : (p : ℕ) = t.val / 2 * 512 + k) :
    (iblk m c 2 t : FVec Ideal S512x1024 .f32) (ix2 k q) = a0 m c (ix2 p q) := by
  have : a0 m c (ix2 p q) = (V m c main_arg0 : FVec Ideal S4096x1024 .f32) (ix2 p q) := by rw [V_main_arg0]
  rw [this]
  blk_ext [iblk, idx t]

theorem blk_o (c : Dev nD) (t : Fin cfg0.N) (k : Fin 512) (q : Fin 1024) (p : Fin 4096) (hp : (p : ℕ) = t.val / 2 * 512 + k) :
    (iblk m c 3 t : FVec Ideal S512x1024 .f32) (ix2 k q) = a4 m c (ix2 p q) := by
  have : a4 m c (ix2 p q) = (V m c main_arg4 : FVec Ideal S4096x1024 .f32) (ix2 p q) := by rw [V_main_arg4]
  rw [this]
  blk_ext [iblk, idx t]

theorem blk_g (c : Dev nD) (t : Fin cfg0.N) (q : Fin 1024) :
    (iblk m c 4 t : FVec Ideal S1x1024 .f32) (ix2 (0 : Fin 1) q) = a1 m c (ix1 q) := by
  have : a1 m c (ix1 q) = (V m c main_v38 : FVec Ideal S1x1024 .f32) (ix2 (0 : Fin 1) q) := by
    rw [entry_g]; generalize a1 m c = g; pointwise
  rw [this]
  blk_ext [iblk, idx t]

/-- The two slabs of the first matrix the body reads. -/
abbrev wlo (c : Dev nD) (t : Fin cfg0.N) : FVec Ideal S1x1024x1408 .bf16 :=
  View.ld (iblk m c 1 t : FVec Ideal S4x1024x1408 .bf16) (Rect.unit (s := S4x1024x1408) (k0_off1 (grid0.coords t)) S1x1024x1408.size (k0_off1_inb (grid0.coords t)))

abbrev whi (c : Dev nD) (t : Fin cfg0.N) : FVec Ideal S1x1024x1408 .bf16 :=
  View.ld (iblk m c 1 t : FVec Ideal S4x1024x1408 .bf16) (Rect.unit (s := S4x1024x1408) (k0_off2 (grid0.coords t)) S1x1024x1408.size (k0_off2_inb (grid0.coords t)))

/-- A slab read out of a whole array, at an entry. -/
theorem ld_at (X : Vec Ideal S4x1024x1408 .bf16) (off : Fin 3 → ℕ) (inb) (s : ℕ) (ho : off = ![s, 0, 0]) (r : Fin 1024) (q : Fin 1408) (u : Fin 4)
    (hu : (u : ℕ) = s) : View.ld (Val := Elt Ideal) (e' := .bf16) X (Rect.unit (s := S4x1024x1408) off S1x1024x1408.size inb) (ix3 (0 : Fin 1) r q) = X (ix3 u r q) := by
  subst ho
  pointwise
  blk_ext

theorem wlo_at (c : Dev nD) (t : Fin cfg0.N) (r : Fin 1024) (q : Fin 1408) (j : Fin 5632) (hj : (j : ℕ) = t.val % 2 * 2816 + q) :
    wlo m c t (ix3 (0 : Fin 1) r q) = a2 m c (ix2 r j) := by
  rw [← blk_w m c t ⟨2 * (t.val % 2), by omega⟩ r q j (by dsimp only; omega)]
  exact ld_at _ _ _ _ (slab1 t) r q _ rfl

theorem whi_at (c : Dev nD) (t : Fin cfg0.N) (r : Fin 1024) (q : Fin 1408) (j : Fin 5632) (hj : (j : ℕ) = t.val % 2 * 2816 + 1408 + q) :
    whi m c t (ix3 (0 : Fin 1) r q) = a2 m c (ix2 r j) := by
  rw [← blk_w m c t ⟨2 * (t.val % 2) + 1, by omega⟩ r q j (by dsimp only; omega)]
  exact ld_at _ _ _ _ (slab2 t) r q _ rfl

/-- One product of the contraction: half of the columns of a tile, against the two slabs put side by side. -/
theorem mul_at (G : FVec Ideal S1x512x2816 .bf16) (L H : FVec Ideal S1x1024x1408 .bf16) (i : S512x1024.Idx)
    (w : Fin 2816 → EReal) (hL : ∀ (q : Fin 1408) (k : Fin 2816), (k : ℕ) = q → L (ix3 (0 : Fin 1) (i 1) q) = w k)
    (hH : ∀ (q : Fin 1408) (k : Fin 2816), (k : ℕ) = 1408 + q → H (ix3 (0 : Fin 1) (i 1) q) = w k) :
    k0_pay1 (F := Ideal) G L H i = ∑ k : Fin 2816, G (ix3 (0 : Fin 1) (i 0) k) * w k := by
  pointwise [k0_pay1]
  refine Eq.trans ?_ (Fin.sum_univ_add (fun k : Fin (1408 + 1408) => G (ix3 (0 : Fin 1) (i 0) k) * w k)).symm
  congr 1
  · refine Finset.sum_congr rfl fun q _ => ?_
    rw [hL q (Fin.castAdd 1408 q) rfl]; rfl
  · refine Finset.sum_congr rfl fun q _ => ?_
    rw [hH q (Fin.natAdd 1408 q) rfl]; rfl

/-- What the kernel stores of the input's gradient, at an entry. -/
theorem stored_x (P S X O : FVec Ideal S512x1024 .f32) (G : FVec Ideal S1x1024 .f32) (k : Fin 512) (q : Fin 1024) (D x g : Fin 1024 → EReal) (o r : EReal)
    (hD : ∀ j, S (ix2 k j) + P (ix2 k j) = D j) (hx : ∀ j, X (ix2 k j) = x j) (hg : ∀ j, G (ix2 (0 : Fin 1) j) = g j) (ho : O (ix2 k q) = o)
    (hr : r = Ideal.rsqrt (Ideal.div (∑ j : Fin 1024, x j * x j) (Ideal.ofBits .f32 0x44800000#32) + Ideal.ofBits .f32 0x358637BD#32)) :
    k0_pay8 (F := Ideal) P S X O G (ix2 k q)
      = o + r * (D q * g q - x q * r * Ideal.div (∑ j : Fin 1024, D j * g j * (x j * r)) (Ideal.ofBits .f32 0x44800000#32)) := by
  pointwise [k0_pay8, k0_pay7, k0_pay6, k0_pay5]
  simp only [hD, hx, hg, ho]
  rw [← hr]

theorem stored_lo (P S X O : FVec Ideal S512x1024 .f32) (G : FVec Ideal S1x1024 .f32) (i : S512x1024.Idx) :
    k0_pay9 (F := Ideal) P S X O G i = k0_pay8 (F := Ideal) P S X O G i := rfl

/-- What a tile of tokens adds to the gain's gradient, at an entry. -/
theorem stored_g (P S X : FVec Ideal S512x1024 .f32) (q : Fin 1024) (D x : Fin 512 → Fin 1024 → EReal)
    (hD : ∀ k j, S (ix2 k j) + P (ix2 k j) = D k j) (hx : ∀ k j, X (ix2 k j) = x k j) :
    k0_pay10 (F := Ideal) P S X (ix2 (0 : Fin 1) q) = ∑ k : Fin 512, D k q * (x k q
      * Ideal.rsqrt (Ideal.div (∑ j : Fin 1024, x k j * x k j) (Ideal.ofBits .f32 0x44800000#32) + Ideal.ofBits .f32 0x358637BD#32)) := by
  pointwise [k0_pay10, k0_pay7, k0_pay6, k0_pay5]
  simp only [hD, hx]

theorem added_g (A B : FVec Ideal S1x1024 .f32) (i : S1x1024.Idx) : k0_pay4 (F := Ideal) A B i = B i + A i := by
  pointwise [k0_pay4]

/-- The reference's gradient of the input, at an entry. -/
theorem dx_ref (x0 : FVec Ideal S4096x1024 .f32) (x1 : FVec Ideal S1024 .f32) (x2 : FVec Ideal S1024x5632 .f32)
    (x3 : FVec Ideal S2816x1024 .f32) (x4 : FVec Ideal S4096x1024 .f32) (p : Fin 4096) (q : Fin 1024) (D : FVec Ideal S4096x1024 .f32)
    (hD : val_main_v33 (F := Ideal) x0 x1 x2 x3 x4 = D) (ms r w : EReal)
    (hms : ms = Ideal.div (∑ j : Fin 1024, x0 (ix2 p j) * x0 (ix2 p j)) (Ideal.ofBits .f32 0x44800000#32) + Ideal.ofBits .f32 0x358637BD#32)
    (hr : r = Ideal.rsqrt ms)
    (hw : w = Ideal.div ((∑ j : Fin 1024, x0 (ix2 p j) * (D (ix2 p j) * x1 (ix1 j))) * (Ideal.ofBits .f32 0xBF000000#32 * Ideal.div r ms)) (Ideal.ofBits .f32 0x44800000#32)) :
    val_main_v54 (F := Ideal) x0 x1 x2 x3 x4 (ix2 p q)
      = x4 (ix2 p q) + D (ix2 p q) * x1 (ix1 q) * r + x0 (ix2 p q) * w + w * x0 (ix2 p q) := by
  unfold val_main_v54 val_main_v53 val_main_v52 val_main_v51 val_main_v50 val_main_v49 val_main_v48 val_main_v46 val_main_v45 val_main_v44 val_main_v43 val_main_v42 val_main_v41 val_main_v40 val_main_v38 val_main_v37 val_main_v47
  rw [hD]
  clear hD
  unfold val_main_v13 val_main_v10 val_main_v9 val_main_v8 val_main_v7 val_main_v6 val_main_v5 val_main_v4 val_main_v3 val_main_v2 val_main_v1 val_main_v0
    val_main_cst val_main_cst_0 val_main_cst_1 val_main_cst_2 val_main_cst_7 val_main_cst_8 val_main_cst_9
  pointwise
  rw [hw, hr, hms]
  simp only [Fin.sum_univ_one]

/-- The reference's gradient of the gain, at an entry. -/
theorem dgain_ref (x0 : FVec Ideal S4096x1024 .f32) (x1 : FVec Ideal S1024 .f32) (x2 : FVec Ideal S1024x5632 .f32)
    (x3 : FVec Ideal S2816x1024 .f32) (x4 : FVec Ideal S4096x1024 .f32) (q : Fin 1024) (D : FVec Ideal S4096x1024 .f32)
    (hD : val_main_v33 (F := Ideal) x0 x1 x2 x3 x4 = D) :
    val_main_v56 (F := Ideal) x0 x1 x2 x3 x4 (ix2 (0 : Fin 1) q) = ∑ p : Fin 4096, x0 (ix2 p q)
      * Ideal.rsqrt (Ideal.div (∑ j : Fin 1024, x0 (ix2 p j) * x0 (ix2 p j)) (Ideal.ofBits .f32 0x44800000#32) + Ideal.ofBits .f32 0x358637BD#32) * D (ix2 p q) := by
  unfold val_main_v56 val_main_v39 val_main_v36 val_main_v35 val_main_v34
  rw [hD]
  clear hD
  unfold val_main_v12 val_main_v11 val_main_v7 val_main_v6 val_main_v5 val_main_v4 val_main_v3 val_main_v2 val_main_v1 val_main_v0
  unfold val_main_cst val_main_cst_0 val_main_cst_1 val_main_cst_5 val_main_cst_6
  pointwise
  exact Fin.sum_univ_one _

/-- The terms one point adds to the contraction: its half of the columns. -/
def term (c : Dev nD) (t : Fin cfg0.N) (i : S512x1024.Idx) : EReal :=
  k0_pay1 (F := Ideal) (iblk m c 0 t) (wlo m c t) (whi m c t) i

theorem scratch_A (c : Dev nD) (t : Fin cfg0.N) (h : t.val % 2 = 0) (i : S512x1024.Idx) :
    (outsAt0 m c t.val t.isLt).2.2.2 i = term m c t i := by
  rw [outsAt0_A m c t h (by omega)]
  frame_out
  unfold term
  pointwise [k0_pay2]
  rfl

theorem term_at (c : Dev nD) (t : Fin cfg0.N) (k : Fin 512) (q : Fin 1024) (p : Fin 4096) (r : Fin 2816 → Fin 5632)
    (hp : (p : ℕ) = t.val / 2 * 512 + k) (hr : ∀ j, (r j : ℕ) = t.val % 2 * 2816 + j) :
    term m c t (ix2 k q) = ∑ j : Fin 2816, val_main_v32 (F := Ideal) (a0 m c) (a1 m c) (a2 m c) (a3 m c) (a4 m c) (ix2 p (r j)) * a2 m c (ix2 q (r j)) := by
  unfold term
  rw [mul_at _ _ _ (ix2 k q) (fun j => a2 m c (ix2 q (r j)))
    (fun j l hl => wlo_at m c t q j (r l) (by rw [hr l]; omega)) (fun j l hl => whi_at m c t q j (r l) (by rw [hr l]; omega))]
  refine Fin.sum_fin_congr fun j => ?_
  rw [← blk_d m c t k j p (r j) hp (hr j)]
  rfl

/-- At the second of a tile's two points the scratch and the point's own terms make the whole contraction. -/
theorem acc_at (c : Dev nD) (t : Fin cfg0.N) (h : t.val % 2 = 2 - 1) (k : Fin 512) (q : Fin 1024) (p : Fin 4096)
    (hp : (p : ℕ) = t.val / 2 * 512 + k) :
    (outsAt0 m c (t.val - 1) (Nat.lt_of_le_of_lt (Nat.sub_le _ _) t.isLt)).2.2.2 (ix2 k q)
      + k0_pay1 (F := Ideal) (iblk m c 0 t) (wlo m c t) (whi m c t) (ix2 k q)
      = val_main_v33 (F := Ideal) (a0 m c) (a1 m c) (a2 m c) (a3 m c) (a4 m c) (ix2 p q) := by
  refine (Cert.Sums.carried_sum (fun n h => (outsAt0 m c n h).2.2.2) (term m c) (by norm_num) (scratch_A m c)
    (fun t h h' => absurd h' (by omega)) t h (ix2 k q)).trans ?_
  have hs : ∀ s : Fin 2, term m c ⟨2 * (t.val / 2) + s.val, Pipeline.run_point_lt_of_flush t h s⟩ (ix2 k q)
      = ∑ j : Fin 2816, val_main_v32 (F := Ideal) (a0 m c) (a1 m c) (a2 m c) (a3 m c) (a4 m c) (ix2 p (⟨s.val * 2816 + j.val, by omega⟩ : Fin 5632))
          * a2 m c (ix2 q (⟨s.val * 2816 + j.val, by omega⟩ : Fin 5632)) := fun s =>
    term_at m c _ k q p (fun j => ⟨s.val * 2816 + j.val, by omega⟩)
      (by show _ = (2 * (t.val / 2) + s.val) / 2 * 512 + k.val; omega)
      (fun j => by show _ = (2 * (t.val / 2) + s.val) % 2 * 2816 + j.val; dsimp only; omega)
  simp only [hs]
  rw [val_main_v33_apply]
  refine Fin.sum_mul_add_congr fun s j hj => ?_
  congr 1
  · congr 1; blk_ext
  · congr 1; blk_ext

/-- What the second of a tile's two points leaves of the input's gradient. -/
theorem out_x (c : Dev nD) (t : Fin cfg0.N) (h : t.val % 2 = 2 - 1) (i : S512x1024.Idx) : (outsAt0 m c t.val t.isLt).1 i
    = k0_pay8 (F := Ideal) (k0_pay1 (F := Ideal) (iblk m c 0 t) (wlo m c t) (whi m c t))
        (outsAt0 m c (t.val - 1) (Nat.lt_of_le_of_lt (Nat.sub_le _ _) t.isLt)).2.2.2 (iblk m c 2 t) (iblk m c 3 t) (iblk m c 4 t) i := by
  by_cases h3 : t.val < 2
  · rw [outsAt0_B m c t (by omega) h h3 (by omega)]
    frame_out
    rw [read_unread_whole]
    rfl
  · rw [outsAt0_C m c t (by omega) h h3 (by omega)]
    frame_out
    rw [read_unread_whole]
    rfl

/-- What it leaves of the rounded copy. -/
theorem out_lo (c : Dev nD) (t : Fin cfg0.N) (h : t.val % 2 = 2 - 1) (i : S512x1024.Idx) : (outsAt0 m c t.val t.isLt).2.2.1 i
    = k0_pay8 (F := Ideal) (k0_pay1 (F := Ideal) (iblk m c 0 t) (wlo m c t) (whi m c t))
        (outsAt0 m c (t.val - 1) (Nat.lt_of_le_of_lt (Nat.sub_le _ _) t.isLt)).2.2.2 (iblk m c 2 t) (iblk m c 3 t) (iblk m c 4 t) i := by
  by_cases h3 : t.val < 2
  · rw [outsAt0_B m c t (by omega) h h3 (by omega)]
    frame_out
    rw [read_unread_whole]
    rfl
  · rw [outsAt0_C m c t (by omega) h h3 (by omega)]
    frame_out
    rw [read_unread_whole]
    rfl

/-- The tile's part of the gain's gradient. -/
def part (c : Dev nD) (t : Fin cfg0.N) (i : S1x1024.Idx) : EReal :=
  k0_pay10 (F := Ideal) (k0_pay1 (F := Ideal) (iblk m c 0 t) (wlo m c t) (whi m c t))
    (outsAt0 m c (t.val - 1) (Nat.lt_of_le_of_lt (Nat.sub_le _ _) t.isLt)).2.2.2 (iblk m c 2 t) i

/-- The first tile leaves its part of the gain's gradient. -/
theorem gain_B (c : Dev nD) (t : Fin cfg0.N) (h : t.val % 2 = 2 - 1) (h3 : t.val < 2) (i : S1x1024.Idx) :
    (outsAt0 m c t.val t.isLt).2.1 i = part m c t i := by
  rw [outsAt0_B m c t (by omega) h h3 (by omega)]
  frame_out
  rw [read_unread_whole]
  rfl

/-- The others add theirs to what the tile before left. -/
theorem gain_C (c : Dev nD) (t : Fin cfg0.N) (h : t.val % 2 = 2 - 1) (h3 : ¬t.val < 2) (i : S1x1024.Idx) :
    (outsAt0 m c t.val t.isLt).2.1 i
      = (outsAt0 m c (t.val - 1) (Nat.lt_of_le_of_lt (Nat.sub_le _ _) t.isLt)).2.1 i + part m c t i := by
  rw [outsAt0_C m c t (by omega) h h3 (by omega)]
  frame_out
  rw [read_unread_whole, added_g]
  rfl

/-- A tile's first point leaves the gain's gradient as it found it. -/
theorem gain_A (c : Dev nD) (t : Fin cfg0.N) (h : t.val % 2 = 0) (h3 : 0 < t.val) (i : S1x1024.Idx) :
    (outsAt0 m c t.val t.isLt).2.1 i = (outsAt0 m c (t.val - 1) (Nat.lt_of_le_of_lt (Nat.sub_le _ _) t.isLt)).2.1 i := by
  rw [outsAt0_A m c t h (by omega)]
  unfold out0_A_6
  rfl

/-- After a tile, the gain's gradient is the sum of the parts so far. -/
theorem gain_sum (c : Dev nD) (i : S1x1024.Idx) (part' : ℕ → EReal) (hp : ∀ t : Fin cfg0.N, t.val % 2 = 2 - 1 → part' (t.val / 2) = part m c t i) :
    ∀ n (hn : 2 * n + 1 < cfg0.N), (outsAt0 m c (2 * n + 1) hn).2.1 i = ∑ s ∈ Finset.range (n + 1), part' s := by
  intro n
  induction n with
  | zero =>
    intro hn
    rw [gain_B m c ⟨1, hn⟩ rfl (by dsimp only; omega) i, ← hp ⟨1, hn⟩ rfl]
    simp
  | succ n ih =>
    intro hn
    have h2 : 2 * n + 1 < cfg0.N := by omega
    have h3 : 2 * n + 2 < cfg0.N := by omega
    rw [Finset.sum_range_succ, ← ih h2, gain_C m c ⟨2 * (n + 1) + 1, hn⟩ (by dsimp only; omega) (by dsimp only; omega) i, ← hp ⟨2 * (n + 1) + 1, hn⟩ (by dsimp only; omega)]
    have e : (outsAt0 m c (2 * (n + 1) + 1 - 1) (by omega)).2.1 i = (outsAt0 m c (2 * n + 1) h2).2.1 i :=
      gain_A m c ⟨2 * n + 2, h3⟩ (by dsimp only; omega) (by dsimp only; omega) i
    congr 1
    dsimp only
    rw [show (2 * (n + 1) + 1) / 2 = n + 1 by omega]

/-- One token's part of the gain's gradient. -/
def token (X D : FVec Ideal S4096x1024 .f32) (q : Fin 1024) (p : Fin 4096) : EReal :=
  D (ix2 p q) * (X (ix2 p q)
    * Ideal.rsqrt (Ideal.div (∑ j : Fin 1024, X (ix2 p j) * X (ix2 p j)) (Ideal.ofBits .f32 0x44800000#32) + Ideal.ofBits .f32 0x358637BD#32))

/-- The tile's part, as the reference's terms. -/
theorem part_at (c : Dev nD) (t : Fin cfg0.N) (h : t.val % 2 = 2 - 1) (q : Fin 1024) (p : Fin 512 → Fin 4096) (hp : ∀ k, (p k : ℕ) = t.val / 2 * 512 + k) :
    part m c t (ix2 (0 : Fin 1) q) = ∑ k : Fin 512, token (a0 m c) (val_main_v33 (F := Ideal) (a0 m c) (a1 m c) (a2 m c) (a3 m c) (a4 m c)) q (p k) :=
  stored_g _ _ _ q (fun k j => val_main_v33 (F := Ideal) (a0 m c) (a1 m c) (a2 m c) (a3 m c) (a4 m c) (ix2 (p k) j)) (fun k j => a0 m c (ix2 (p k) j))
    (fun k j => acc_at m c t h k j (p k) (hp k)) (fun k j => blk_x m c t k j (p k) (hp k))

/-- What the kernel stores of the input's gradient is the reference's. -/
theorem point (c : Dev nD) (t : Fin cfg0.N) (h : t.val % 2 = 2 - 1) (k : Fin 512) (q : Fin 1024) (p : Fin 4096)
    (hp : (p : ℕ) = t.val / 2 * 512 + k) :
    k0_pay8 (F := Ideal) (k0_pay1 (F := Ideal) (iblk m c 0 t) (wlo m c t) (whi m c t))
        (outsAt0 m c (t.val - 1) (Nat.lt_of_le_of_lt (Nat.sub_le _ _) t.isLt)).2.2.2 (iblk m c 2 t) (iblk m c 3 t) (iblk m c 4 t) (ix2 k q)
      = val_main_v54 (F := Ideal) (a0 m c) (a1 m c) (a2 m c) (a3 m c) (a4 m c) (ix2 p q) := by
  refine (stored_x _ _ _ _ _ k q (fun j => val_main_v33 (F := Ideal) (a0 m c) (a1 m c) (a2 m c) (a3 m c) (a4 m c) (ix2 p j)) (fun j => a0 m c (ix2 p j))
    (fun j => a1 m c (ix1 j)) (a4 m c (ix2 p q)) _ (fun j => acc_at m c t h k j p hp) (fun j => blk_x m c t k j p hp) (fun j => blk_g m c t j)
    (blk_o m c t k q p hp) rfl).trans ?_
  refine (norm_row (fun j => a0 m c (ix2 p j)) (fun j => a1 m c (ix1 j))
    (fun j => val_main_v33 (F := Ideal) (a0 m c) (a1 m c) (a2 m c) (a3 m c) (a4 m c) (ix2 p j)) (a4 m c (ix2 p q)) q _ _ _ rfl rfl rfl).trans ?_
  exact (dx_ref (a0 m c) (a1 m c) (a2 m c) (a3 m c) (a4 m c) p q _ rfl _ _ _ rfl rfl rfl).symm

/-- The first result array after the run is the reference's gradient of the input. -/
theorem final_x (c : Dev nD) : (dats m 0 c).arrAt 5 cfg0.N
    = val_main_v54 (F := Ideal) (a0 m c) (a1 m c) (a2 m c) (a3 m c) (a4 m c) := by
  refine (dats m 0 c).arrAt_eq_of_covers 5 _ (by decide +kernel) fun t hf y => ?_
  have ht : t.val < 16 := lt_of_lt_of_eq t.isLt N_0
  have h : t.val % 2 = 2 - 1 := (flush0_5 t).mp hf
  have y0 : (y 0).val < 512 := (y 0).isLt
  blk_simp
  rw [after0_5, out_x m c t h]
  have hy : y = ix2 (⟨(y 0).val, (y 0).isLt⟩ : Fin 512) (⟨(y 1).val, (y 1).isLt⟩ : Fin 1024) := by blk_ext
  rw [hy]
  refine (point m c t h _ _ (⟨t.val / 2 * 512 + (y 0).val, by omega⟩ : Fin 4096) rfl).trans ?_
  congr 1
  blk_ext [idx t]

/-- The rounded copy is the reference's. -/
theorem final_lo (c : Dev nD) : (dats m 0 c).arrAt 7 cfg0.N
    = val_main_v55 (F := Ideal) (a0 m c) (a1 m c) (a2 m c) (a3 m c) (a4 m c) := by
  refine (dats m 0 c).arrAt_eq_of_covers 7 _ (by decide +kernel) fun t hf y => ?_
  have ht : t.val < 16 := lt_of_lt_of_eq t.isLt N_0
  have h : t.val % 2 = 2 - 1 := (flush0_7 t).mp hf
  have y0 : (y 0).val < 512 := (y 0).isLt
  blk_simp
  rw [after0_7, out_lo m c t h]
  have hy : y = ix2 (⟨(y 0).val, (y 0).isLt⟩ : Fin 512) (⟨(y 1).val, (y 1).isLt⟩ : Fin 1024) := by blk_ext
  rw [hy]
  refine (point m c t h _ _ (⟨t.val / 2 * 512 + (y 0).val, by omega⟩ : Fin 4096) rfl).trans ?_
  show _ = val_main_v54 (F := Ideal) (a0 m c) (a1 m c) (a2 m c) (a3 m c) (a4 m c) _
  congr 1
  blk_ext [idx t]

/-- The gain's gradient after the run is the reference's. -/
theorem final_g (c : Dev nD) : (dats m 0 c).arrAt 6 cfg0.N
    = val_main_v56 (F := Ideal) (a0 m c) (a1 m c) (a2 m c) (a3 m c) (a4 m c) := by
  refine (dats m 0 c).arrAt_eq_of_covers 6 _ (by decide +kernel) fun t hf y => ?_
  have h16 : t.val < 16 := lt_of_lt_of_eq t.isLt N_0
  have h15 : t.val = 15 := by have := (flush0_6 t).mp hf; omega
  blk_simp
  rw [after0_6]
  have hy : y = ix2 (0 : Fin 1) (⟨(y 1).val, (y 1).isLt⟩ : Fin 1024) := by blk_ext
  generalize (⟨(y 1).val, (y 1).isLt⟩ : Fin 1024) = q at hy
  subst hy
  have he : (win0_6.blk t).view.emb (ix2 (0 : Fin 1) q) = ix2 (0 : Fin 1) q := by blk_ext [idx t]
  refine Eq.trans ?_ (congrArg (val_main_v56 (F := Ideal) (a0 m c) (a1 m c) (a2 m c) (a3 m c) (a4 m c)) he).symm
  refine Eq.trans ?_ (dgain_ref (a0 m c) (a1 m c) (a2 m c) (a3 m c) (a4 m c) q _ rfl).symm
  obtain rfl : t = ⟨2 * 7 + 1, lt_of_lt_of_eq (by norm_num) N_0.symm⟩ := Fin.ext h15
  refine (gain_sum m c (ix2 (0 : Fin 1) q) (fun s => if hs : s < 8 then ∑ k : Fin 512,
      token (a0 m c) (val_main_v33 (F := Ideal) (a0 m c) (a1 m c) (a2 m c) (a3 m c) (a4 m c)) q ⟨s * 512 + k.val, by omega⟩ else 0) (fun t h => ?_) 7 _).trans ?_
  · have ht : t.val < 16 := lt_of_lt_of_eq t.isLt N_0
    rw [dif_pos (show t.val / 2 < 8 by omega)]
    exact (part_at m c t h q (fun k => ⟨t.val / 2 * 512 + k.val, by omega⟩) (fun k => rfl)).symm
  · rw [Finset.sum_range]
    have hs : ∀ s : Fin 8, (if hs : s.val < 8 then ∑ k : Fin 512,
        token (a0 m c) (val_main_v33 (F := Ideal) (a0 m c) (a1 m c) (a2 m c) (a3 m c) (a4 m c)) q ⟨s.val * 512 + k.val, by omega⟩ else 0)
        = ∑ k : Fin 512, token (a0 m c) (val_main_v33 (F := Ideal) (a0 m c) (a1 m c) (a2 m c) (a3 m c) (a4 m c)) q ⟨s.val * 512 + k.val, by omega⟩ :=
      fun s => dif_pos s.isLt
    refine (Finset.sum_congr rfl fun s _ => hs s).trans ?_
    refine Fin.sum_mul_add_congr fun s k hk => ?_
    unfold token
    exact mul_comm _ _

end Cert.DhIdeal.Hand

end
-- ==== Proof.DhClaim.lean ====
/- The claims about the last part of the feed-forward block's backward pass. -/
module

public import proofs.«01_k».proof.Defs
public import proofs.«01_k».proof.Proof.Gen.Dh.Frame
public import proofs.«01_k».proof.Proof.DhValue
public import proofs.«01_k».proof.Proof.Gen.ReferenceDhIdeal.Run

@[expose] public section

set_option maxRecDepth 16384

noncomputable section

namespace Cert.DhClaim

open Idealize.ShloMosaic Idealize.ShloMosaic.TcCoe Idealize.SL.Sem

set_option maxHeartbeats 1600000 in
theorem algebraic : Cert.algebraic_DhIdeal_ReferenceDhIdeal := by
  pair_intro
  · run_from Cert.DhIdeal.Value.run_blocks m g
  · run_from Cert.ReferenceDhIdeal.Value.run m' g'
    · rw [Cert.ReferenceDhIdeal.Read.val_main_v54_eq, (hagree c).1, (hagree c).2.1, (hagree c).2.2.1, (hagree c).2.2.2.1, (hagree c).2.2.2.2]
      exact (Cert.DhIdeal.Hand.final_x m c).symm
    · rw [Cert.ReferenceDhIdeal.Read.val_main_v55_eq, (hagree c).1, (hagree c).2.1, (hagree c).2.2.1, (hagree c).2.2.2.1, (hagree c).2.2.2.2]
      exact (Cert.DhIdeal.Hand.final_lo m c).symm
    · rw [Cert.ReferenceDhIdeal.Read.val_main_v56_eq, (hagree c).1, (hagree c).2.1, (hagree c).2.2.1, (hagree c).2.2.2.1, (hagree c).2.2.2.2]
      exact (Cert.DhIdeal.Hand.final_g m c).symm

theorem quiescent_reference : Cert.quiescent_ReferenceDhIdeal := fun m g _ =>
  (θ_run Cert.ReferenceDhIdeal.defs _ _).mono
    (fun r h => ⟨fun c => (h c).2.2.2, Idealize.ShloMosaic.sem_eq_zero_of_no_sems (by decide) r.2⟩)
    (Cert.ReferenceDhIdeal.Value.run m g)

theorem all : Cert.quiescent_Dh ∧ Cert.quiescent_DhIdeal ∧ Cert.quiescent_ReferenceDhIdeal
    ∧ Cert.preserves_Dh_DhIdeal ∧ Cert.algebraic_DhIdeal_ReferenceDhIdeal :=
  ⟨fun m g _ => Cert.Dh.Gen.frame m g, fun m g _ => Cert.DhIdeal.Gen.frame m g, quiescent_reference, trivial, algebraic⟩

end Cert.DhClaim

end
-- ==== Proof.DactValue.lean ====
/- The gradient at the gate of the feed-forward block: what the kernel leaves in its result array is the reference's value,
   for arguments whose entries are real numbers. The kernel computes both halves of a tile in one pass and multiplies the
   gate's derivative in one factor; the reference adds the two halves of that derivative's product. -/
module

public import proofs.«01_k».proof.Proof.Gen.DactIdeal.Value
public import proofs.«01_k».proof.Proof.Gen.ReferenceDactIdeal.Read
public import proofs.«01_k».proof.Proof.Reals
public import Idealize.ShloMosaic.Lib.Pipeline.ValueKit
public import Idealize.ShloMosaic.Lib.Pointwise
public import Idealize.ShloMosaic.Lib.Claim

@[expose] public section

set_option maxRecDepth 16384

noncomputable section

namespace Cert.DactIdeal.Hand

open Cert.DactIdeal Cert.DactIdeal.Gen Idealize.ShloMosaic Idealize.ShloMosaic.TcCoe Idealize.SL.Sem
open Idealize.ShloMosaic.Pipeline (Dat)
open Cert.ReferenceDactIdeal.Read Cert.Reals

variable (m : (ℓ : Loc nD τ sig) → Buf (Elt Ideal) ℓ)

abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)
abbrev a4 (c : Dev nD) := m ((c.tc : Thread nD τ).loc main_arg4)

/-- The block indices of the five windows at each grid point. -/
theorem idx : ∀ t : Fin cfg0.N, win0_0.index t = ![t.val / 2, 0] ∧ win0_1.index t = ![0, 0]
    ∧ win0_2.index t = ![0, t.val / 2, t.val % 2] ∧ win0_3.index t = ![1, t.val / 2, t.val % 2]
    ∧ win0_4.index t = ![0, t.val / 2, t.val % 2] :=
  (by decide +kernel : ∀ t : Fin grid0.N, _)

/-- Where the second matrix's slab starts at each grid point. -/
theorem slab : ∀ t : Fin cfg0.N, k0_off1 (grid0.coords t) = ![t.val % 2 * 1408, 0] :=
  (by decide +kernel : ∀ t : Fin grid0.N, _)

/-- The incoming gradient enters the region as passed. -/
theorem entry_dxo (c : Dev nD) : V m c main_v33 = (truncf .bf16 (a4 m c) bitsLt_bf16_f32 : FVec Ideal S4096x1024 .bf16) := by
  entry_read
  rfl

/-- The second matrix enters the region as passed. -/
theorem entry_w (c : Dev nD) : V m c main_v34 = (truncf .bf16 (a3 m c) bitsLt_bf16_f32 : FVec Ideal S2816x1024 .bf16) := by
  entry_read
  rfl

/-- Two halves stacked, then rounded: each half is read where it was put. -/
abbrev stacked (g u : FVec Ideal S4096x2816 .f32) : FVec Ideal S2x4096x2816 .bf16 :=
  truncf .bf16 (concatenate S2x4096x2816 0
        [⟨S1x4096x2816, broadcastInDim S1x4096x2816 ![1, 2] bcast_S4096x2816_S1x4096x2816_1_2 g⟩,
         ⟨S1x4096x2816, broadcastInDim S1x4096x2816 ![1, 2] bcast_S4096x2816_S1x4096x2816_1_2 u⟩]
        concatenates_S1x4096x2816_S1x4096x2816_S2x4096x2816_d0 : FVec Ideal S2x4096x2816 .f32) bitsLt_bf16_f32

theorem stacked_g (g u : FVec Ideal S4096x2816 .f32) (p : Fin 4096) (q : Fin 2816) :
    stacked g u (ix3 (0 : Fin 2) p q) = g (ix2 p q) := by
  pointwise [stacked]

theorem stacked_u (g u : FVec Ideal S4096x2816 .f32) (p : Fin 4096) (q : Fin 2816) :
    stacked g u (ix3 (1 : Fin 2) p q) = u (ix2 p q) := by
  pointwise [stacked]

/-- The two halves enter the region as the halves of the reference's product. -/
theorem entry_gu (c : Dev nD) : V m c main_v32
    = stacked (val_main_v14 (F := Ideal) (a0 m c) (a1 m c) (a2 m c)) (val_main_v15 (F := Ideal) (a0 m c) (a1 m c) (a2 m c)) := by
  entry_read
  rfl

/-- The reference's result at the first half is the gate's gradient. -/
theorem result_g (x0 : FVec Ideal S4096x1024 .f32) (x1 : FVec Ideal S1024 .f32) (x2 : FVec Ideal S1024x5632 .f32)
    (x3 : FVec Ideal S2816x1024 .f32) (x4 : FVec Ideal S4096x1024 .f32) (i : S2x4096x2816.Idx) (j : S4096x2816.Idx)
    (h : (i 0 : ℕ) = 0) (h0 : (j 0 : ℕ) = i 1) (h1 : (j 1 : ℕ) = i 2) :
    val_main_v34 (F := Ideal) x0 x1 x2 x3 x4 i = val_main_v27 (F := Ideal) x0 x1 x2 x3 x4 j := by
  unfold val_main_v34 val_main_v33 val_main_v32 val_main_v31 val_main_v30 val_main_v29 val_main_v28
  generalize val_main_v27 (F := Ideal) x0 x1 x2 x3 x4 = d
  generalize val_main_v25 (F := Ideal) x0 x1 x2 x3 x4 = d'
  pointwise
  blk_point []
  all_goals (exfalso; omega)

/-- The reference's result at the second half is the gradient of the half the gate multiplies. -/
theorem result_u (x0 : FVec Ideal S4096x1024 .f32) (x1 : FVec Ideal S1024 .f32) (x2 : FVec Ideal S1024x5632 .f32)
    (x3 : FVec Ideal S2816x1024 .f32) (x4 : FVec Ideal S4096x1024 .f32) (i : S2x4096x2816.Idx) (j : S4096x2816.Idx)
    (h : (i 0 : ℕ) = 1) (h0 : (j 0 : ℕ) = i 1) (h1 : (j 1 : ℕ) = i 2) :
    val_main_v34 (F := Ideal) x0 x1 x2 x3 x4 i = val_main_v25 (F := Ideal) x0 x1 x2 x3 x4 j := by
  unfold val_main_v34 val_main_v33 val_main_v32 val_main_v31 val_main_v30 val_main_v29 val_main_v28
  generalize val_main_v27 (F := Ideal) x0 x1 x2 x3 x4 = d
  generalize val_main_v25 (F := Ideal) x0 x1 x2 x3 x4 = d'
  pointwise
  blk_point []
  all_goals (exfalso; omega)

/-- The reference's sigmoid at an entry. -/
theorem sig_at (x0 : FVec Ideal S4096x1024 .f32) (x1 : FVec Ideal S1024 .f32) (x2 : FVec Ideal S1024x5632 .f32) (i : S4096x2816.Idx) :
    val_main_v16_2 (F := Ideal) x0 x1 x2 i = Ideal.div 1 (1 + Ideal.exp (-(val_main_v14 (F := Ideal) x0 x1 x2 i))) := by
  rw [val_main_v16_2_apply, val_main_call0_v4_apply, val_main_call0_v3_apply, val_main_call0_v2_apply, val_main_call0_v1_apply,
    val_main_call0_v0_apply, val_main_call0_cst_0_apply, val_main_call0_cst_apply]
  show Ideal.div (Ideal.ofBits .f32 0x3F800000#32) (Ideal.ofBits .f32 0x3F800000#32 + Ideal.exp (-_)) = _
  rw [Ideal.ofBits_one_f32]

/-- The reference's normalised rows are real. -/
theorem real_norm (x0 : FVec Ideal S4096x1024 .f32) (x1 : FVec Ideal S1024 .f32) (h0 : ∀ i, IsReal (x0 i)) (h1 : ∀ i, IsReal (x1 i))
    (i : S4096x1024.Idx) : IsReal (val_main_v12 (F := Ideal) x0 x1 i) := by
  rw [val_main_v12_apply, val_main_v11_apply, val_main_v10_apply, val_main_v9_apply, val_main_v8_apply, val_main_v7_apply,
    val_main_v6_apply, val_main_v5_apply, val_main_cst_1_apply, val_main_v4_apply, val_main_v3_apply, val_main_cst_0_apply,
    val_main_v2_apply, val_main_v1_apply, val_main_cst_apply]
  show IsReal (_ * Ideal.rsqrt (Ideal.div (Ideal.ofBits .f32 0x00000000#32 + _) (Ideal.ofBits .f32 0x44800000#32) + Ideal.ofBits .f32 0x358637BD#32) * _)
  rw [show Ideal.ofBits .f32 0x00000000#32 = 0 from by simp [Ideal.ofBits, Ideal.ieee], zero_add]
  exact IsReal.mul (IsReal.mul (h0 _) (IsReal.rms (fun _ => h0 _))) (h1 _)

/-- The reference's product with the first matrix is real. -/
theorem real_gu (x0 : FVec Ideal S4096x1024 .f32) (x1 : FVec Ideal S1024 .f32) (x2 : FVec Ideal S1024x5632 .f32)
    (h0 : ∀ i, IsReal (x0 i)) (h1 : ∀ i, IsReal (x1 i)) (h2 : ∀ i, IsReal (x2 i)) (i : S4096x5632.Idx) :
    IsReal (val_main_v13 (F := Ideal) x0 x1 x2 i) := by
  rw [val_main_v13_apply]
  exact IsReal.sum fun k => IsReal.mul (real_norm x0 x1 h0 h1 _) (h2 _)

/-- The gradient at the gated product is real. -/
theorem real_da (x3 : FVec Ideal S2816x1024 .f32) (x4 : FVec Ideal S4096x1024 .f32)
    (h3 : ∀ i, IsReal (x3 i)) (h4 : ∀ i, IsReal (x4 i)) (i : S4096x2816.Idx) :
    IsReal (val_main_v24 (F := Ideal) x3 x4 i) := by
  rw [val_main_v24_apply]
  refine IsReal.sum fun k => IsReal.mul ?_ (h3 _)
  rw [val_main_v23_apply, val_main_v22_apply, val_main_cst_3_apply]
  exact IsReal.mul IsReal.half (h4 _)

theorem blk_g (c : Dev nD) (t : Fin cfg0.N) (k : Fin 1024) (q : Fin 1408) (p : Fin 4096) (r : Fin 2816)
    (hp : (p : ℕ) = t.val / 2 * 1024 + k) (hr : (r : ℕ) = t.val % 2 * 1408 + q) :
    (iblk m c 2 t : FVec Ideal S1x1024x1408 .bf16) (ix3 (0 : Fin 1) k q) = val_main_v14 (F := Ideal) (a0 m c) (a1 m c) (a2 m c) (ix2 p r) := by
  rw [← stacked_g (val_main_v14 (F := Ideal) (a0 m c) (a1 m c) (a2 m c)) (val_main_v15 (F := Ideal) (a0 m c) (a1 m c) (a2 m c)) p r, ← entry_gu m c]
  blk_ext [iblk, idx t]

theorem blk_u (c : Dev nD) (t : Fin cfg0.N) (k : Fin 1024) (q : Fin 1408) (p : Fin 4096) (r : Fin 2816)
    (hp : (p : ℕ) = t.val / 2 * 1024 + k) (hr : (r : ℕ) = t.val % 2 * 1408 + q) :
    (iblk m c 3 t : FVec Ideal S1x1024x1408 .bf16) (ix3 (0 : Fin 1) k q) = val_main_v15 (F := Ideal) (a0 m c) (a1 m c) (a2 m c) (ix2 p r) := by
  rw [← stacked_u (val_main_v14 (F := Ideal) (a0 m c) (a1 m c) (a2 m c)) (val_main_v15 (F := Ideal) (a0 m c) (a1 m c) (a2 m c)) p r, ← entry_gu m c]
  blk_ext [iblk, idx t]

theorem blk_d (c : Dev nD) (t : Fin cfg0.N) (k : Fin 1024) (q : Fin 1024) (p : Fin 4096)
    (hp : (p : ℕ) = t.val / 2 * 1024 + k) :
    (iblk m c 0 t : FVec Ideal S1024x1024 .bf16) (ix2 k q) = a4 m c (ix2 p q) := by
  have : a4 m c (ix2 p q) = (V m c main_v33 : FVec Ideal S4096x1024 .bf16) (ix2 p q) := by rw [entry_dxo]; pointwise
  rw [this]
  blk_ext [iblk, idx t]

theorem blk_w (c : Dev nD) (t : Fin cfg0.N) (r : Fin 2816) (q : Fin 1024) :
    (iblk m c 1 t : FVec Ideal S2816x1024 .bf16) (ix2 r q) = a3 m c (ix2 r q) := by
  have : a3 m c (ix2 r q) = (V m c main_v34 : FVec Ideal S2816x1024 .bf16) (ix2 r q) := by rw [entry_w]; pointwise
  rw [this]
  blk_ext [iblk, idx t]

/-- The slab of the second matrix the body reads. -/
abbrev wslab (c : Dev nD) (t : Fin cfg0.N) : FVec Ideal S1408x1024 .bf16 :=
  View.ld (iblk m c 1 t : FVec Ideal S2816x1024 .bf16) (Rect.unit (s := S2816x1024) (k0_off1 (grid0.coords t)) S1408x1024.size (k0_off1_inb (grid0.coords t)))

/-- The second half a point stores, at an entry. -/
theorem stored_u (D : FVec Ideal S1024x1024 .bf16) (W : FVec Ideal S1408x1024 .bf16) (G : FVec Ideal S1x1024x1408 .bf16)
    (p : Fin 1024) (q : Fin 1408) : k0_pay1 (F := Ideal) (k0_pay7 (F := Ideal) D W G) (ix3 (0 : Fin 1) p q)
      = Ideal.ofBits .f32 0x3F000000#32 * (∑ k : Fin 1024, D (ix2 p k) * W (ix2 q k))
        * (G (ix3 (0 : Fin 1) p q) * Ideal.div 1 (1 + Ideal.exp (-(G (ix3 (0 : Fin 1) p q))))) := by
  pointwise [k0_pay1, k0_pay7, k0_pay5, k0_pay4, k0_pay3, k0_pay2]
  rw [zero_sub]

/-- The first half a point stores, at an entry. -/
theorem stored_g (D : FVec Ideal S1024x1024 .bf16) (W : FVec Ideal S1408x1024 .bf16) (G U : FVec Ideal S1x1024x1408 .bf16)
    (p : Fin 1024) (q : Fin 1408) (s : EReal) (hs : s = Ideal.div 1 (1 + Ideal.exp (-(G (ix3 (0 : Fin 1) p q))))) :
    k0_pay6 (F := Ideal) D W G U (ix3 (0 : Fin 1) p q)
      = Ideal.ofBits .f32 0x3F000000#32 * (∑ k : Fin 1024, D (ix2 p k) * W (ix2 q k)) * U (ix3 (0 : Fin 1) p q)
        * (s + G (ix3 (0 : Fin 1) p q) * s * (1 - s)) := by
  pointwise [k0_pay6, k0_pay5, k0_pay4, k0_pay3, k0_pay2]
  rw [zero_sub, ← hs]

/-- The gradient at the gated product, from a tile of the incoming gradient and a slab of the second matrix. -/
theorem da_at (c : Dev nD) (D : FVec Ideal S1024x1024 .bf16) (W : FVec Ideal S1408x1024 .bf16) (k : Fin 1024) (q : Fin 1408)
    (i : S4096x2816.Idx) (hD : ∀ j, D (ix2 k j) = a4 m c (ix2 (i 0) j)) (hW : ∀ j, W (ix2 q j) = a3 m c (ix2 (i 1) j)) :
    Ideal.ofBits .f32 0x3F000000#32 * (∑ j : Fin 1024, D (ix2 k j) * W (ix2 q j)) = val_main_v24 (F := Ideal) (a3 m c) (a4 m c) i := by
  rw [val_main_v24_apply, Cert.Sums.half_mul_sum]
  refine Fin.sum_fin_congr fun j => ?_
  rw [val_main_v23_apply, val_main_v22_apply, val_main_cst_3_apply, hD, hW, ← mul_assoc]
  show _ = Ideal.ofBits .f32 0x3F000000#32 * _ * _
  congr 2
  · congr 1; blk_ext
  · congr 1; blk_ext

/-- A slab read out of a whole array, at an entry. -/
theorem ld_at (X : Vec Ideal S2816x1024 .bf16) (off : Fin 2 → ℕ) (inb) (s : ℕ) (ho : off = ![s, 0]) (q : Fin 1408) (j : Fin 1024) (r : Fin 2816)
    (hr : (r : ℕ) = s + q) : View.ld (Val := Elt Ideal) (e' := .bf16) X (Rect.unit (s := S2816x1024) off S1408x1024.size inb) (ix2 q j) = X (ix2 r j) := by
  subst ho
  pointwise
  blk_ext

theorem wslab_at (c : Dev nD) (t : Fin cfg0.N) (q : Fin 1408) (j : Fin 1024) (r : Fin 2816) (hr : (r : ℕ) = t.val % 2 * 1408 + q) :
    wslab m c t (ix2 q j) = a3 m c (ix2 r j) := by
  rw [← blk_w m c t r j]
  exact ld_at _ _ _ _ (slab t) q j r hr

/-- The second half a point stores is the reference's. -/
theorem point_u (c : Dev nD) (t : Fin cfg0.N) (k : Fin 1024) (q : Fin 1408) (p : Fin 4096) (r : Fin 2816)
    (hp : (p : ℕ) = t.val / 2 * 1024 + k) (hr : (r : ℕ) = t.val % 2 * 1408 + q) :
    k0_pay1 (F := Ideal) (k0_pay7 (F := Ideal) (iblk m c 0 t) (wslab m c t) (iblk m c 2 t)) (ix3 (0 : Fin 1) k q)
      = val_main_v25 (F := Ideal) (a0 m c) (a1 m c) (a2 m c) (a3 m c) (a4 m c) (ix2 p r) := by
  rw [stored_u, da_at m c _ _ k q (ix2 p r) (fun j => blk_d m c t k j p hp) (fun j => wslab_at m c t q j r hr),
    blk_g m c t k q p r hp hr, val_main_v25_apply, val_main_v16_0_apply, sig_at]
  exact mul_comm _ _

/-- The first half a point stores is the reference's. -/
theorem point_g (c : Dev nD) (h0 : ∀ i, IsReal (a0 m c i)) (h1 : ∀ i, IsReal (a1 m c i)) (h2 : ∀ i, IsReal (a2 m c i))
    (h3 : ∀ i, IsReal (a3 m c i)) (h4 : ∀ i, IsReal (a4 m c i)) (t : Fin cfg0.N) (k : Fin 1024) (q : Fin 1408) (p : Fin 4096) (r : Fin 2816)
    (hp : (p : ℕ) = t.val / 2 * 1024 + k) (hr : (r : ℕ) = t.val % 2 * 1408 + q) :
    k0_pay6 (F := Ideal) (iblk m c 0 t) (wslab m c t) (iblk m c 2 t) (iblk m c 3 t) (ix3 (0 : Fin 1) k q)
      = val_main_v27 (F := Ideal) (a0 m c) (a1 m c) (a2 m c) (a3 m c) (a4 m c) (ix2 p r) := by
  rw [stored_g _ _ _ _ k q _ rfl, da_at m c _ _ k q (ix2 p r) (fun j => blk_d m c t k j p hp) (fun j => wslab_at m c t q j r hr),
    blk_g m c t k q p r hp hr, blk_u m c t k q p r hp hr]
  have hg : IsReal (val_main_v14 (F := Ideal) (a0 m c) (a1 m c) (a2 m c) (ix2 p r)) := by
    rw [val_main_v14_apply]; exact real_gu _ _ _ h0 h1 h2 _
  have hu : IsReal (val_main_v15 (F := Ideal) (a0 m c) (a1 m c) (a2 m c) (ix2 p r)) := by
    rw [val_main_v15_apply]; exact real_gu _ _ _ h0 h1 h2 _
  refine (gate_grad hg hu (real_da (a3 m c) (a4 m c) h3 h4 (ix2 p r)) _ rfl).trans ?_
  rw [val_main_v27_apply, val_main_call1_v1_apply, val_main_call1_v2_apply, val_main_call1_v0_apply, val_main_v26_apply,
    val_main_v16_1_apply, val_main_call0_v7_apply, val_main_call0_v6_apply, val_main_call0_cst_1_apply, sig_at, ← Ideal.ofBits_one_f32]
  rfl

/-- The result array after the run is the reference's gradient. -/
theorem final (c : Dev nD) (h0 : ∀ i, IsReal (a0 m c i)) (h1 : ∀ i, IsReal (a1 m c i)) (h2 : ∀ i, IsReal (a2 m c i))
    (h3 : ∀ i, IsReal (a3 m c i)) (h4 : ∀ i, IsReal (a4 m c i)) : (dats m 0 c).arrAt 4 cfg0.N
    = val_main_v34 (F := Ideal) (a0 m c) (a1 m c) (a2 m c) (a3 m c) (a4 m c) := by
  have H0 := h0; have H1 := h1; have H2 := h2
  clear h0 h1 h2
  refine (dats m 0 c).arrAt_eq_of_covers 4 _ (by decide +kernel) fun t hf y => ?_
  have ht : t.val < 8 := lt_of_lt_of_eq t.isLt N_0
  blk_simp
  rw [after0_4]
  unfold outsAt0
  frame_out
  canon_tiles x h
  · have hx : x = ix3 (0 : Fin 1) (⟨(x 1).val, x1_lt⟩ : Fin 1024) (⟨(x 2).val, x2_lt⟩ : Fin 1408) := by blk_ext
    rw [hx]
    refine (point_u m c t _ _ (⟨t.val / 2 * 1024 + (x 1).val, by omega⟩ : Fin 4096) (⟨t.val % 2 * 1408 + (x 2).val, by omega⟩ : Fin 2816) rfl rfl).trans ?_
    refine (result_u _ _ _ _ _ _ _ ?_ ?_ ?_).symm
    all_goals (blk_simp [idx t] <;> (try dsimp only) <;> try omega)
  · have hx : x = ix3 (0 : Fin 1) (⟨(x 1).val, x1_lt⟩ : Fin 1024) (⟨(x 2).val, x2_lt⟩ : Fin 1408) := by blk_ext
    rw [hx]
    refine (point_g m c H0 H1 H2 h3 h4 t _ _ (⟨t.val / 2 * 1024 + (x 1).val, by omega⟩ : Fin 4096) (⟨t.val % 2 * 1408 + (x 2).val, by omega⟩ : Fin 2816) rfl rfl).trans ?_
    refine (result_g _ _ _ _ _ _ _ ?_ ?_ ?_).symm
    all_goals (blk_simp [idx t] <;> (try dsimp only) <;> try omega)

end Cert.DactIdeal.Hand

end
-- ==== Proof.Finite.lean ====
/- What the precondition says: every entry of the five arguments is a real number. -/
module

public import proofs.«01_k».proof.Pre_finite
public import proofs.«01_k».proof.Proof.Reals
public import Idealize.ShloMosaic.Lib.Pointwise

@[expose] public section

set_option maxRecDepth 16384

noncomputable section

namespace Cert.Finite

open Idealize.ShloMosaic Cert.Reals Cert.Pre_finite

/-- An absolute value that compares below infinity is that of a real number. -/
theorem real_of_cmp {x : Ideal .f32}
    (h : FloatOps.cmpf .olt (FloatOps.hostAbsf x) (FloatOps.ofBits (F := Ideal) .f32 0x7F800000#32) = 1#1) : IsReal (x : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  induction x using EReal.rec with
  | bot => simp at h'
  | top => simp at h'
  | coe r => exact ⟨r, rfl⟩

variable [Cert.Pre_finite.Facts]

/-- Every entry of every argument is a real number. -/
theorem entries (x0 : FVec Ideal S4096x1024 .f32) (x1 : FVec Ideal S1024 .f32) (x2 : FVec Ideal S1024x5632 .f32)
    (x3 : FVec Ideal S2816x1024 .f32) (x4 : FVec Ideal S4096x1024 .f32)
    (h : (fn (F := Ideal) x0 x1 x2 x3 x4).1 = (fun _ => 1#1) ∧ (fn (F := Ideal) x0 x1 x2 x3 x4).2.1 = (fun _ => 1#1)
      ∧ (fn (F := Ideal) x0 x1 x2 x3 x4).2.2.1 = (fun _ => 1#1) ∧ (fn (F := Ideal) x0 x1 x2 x3 x4).2.2.2.1 = (fun _ => 1#1)
      ∧ (fn (F := Ideal) x0 x1 x2 x3 x4).2.2.2.2 = (fun _ => 1#1)) :
    (∀ i, IsReal (x0 i)) ∧ (∀ i, IsReal (x1 i)) ∧ (∀ i, IsReal (x2 i)) ∧ (∀ i, IsReal (x3 i)) ∧ (∀ i, IsReal (x4 i)) :=
  ⟨fun i => real_of_cmp (congrFun h.1 i), fun i => real_of_cmp (congrFun h.2.1 i), fun i => real_of_cmp (congrFun h.2.2.1 i),
    fun i => real_of_cmp (congrFun h.2.2.2.1 i), fun i => real_of_cmp (congrFun h.2.2.2.2 i)⟩

end Cert.Finite

end
-- ==== Proof.DactClaim.lean ====
/- The claims about the gradient at the gate of the feed-forward block. -/
module

public import proofs.«01_k».proof.Defs
public import proofs.«01_k».proof.Proof.Gen.Dact.Frame
public import proofs.«01_k».proof.Proof.Gen.Pre_finite
public import proofs.«01_k».proof.Proof.DactValue
public import proofs.«01_k».proof.Proof.Finite
public import proofs.«01_k».proof.Proof.Gen.ReferenceDactIdeal.Run

@[expose] public section

set_option maxRecDepth 16384

noncomputable section

namespace Cert.DactClaim

open Idealize.ShloMosaic Idealize.ShloMosaic.TcCoe Idealize.SL.Sem

set_option maxHeartbeats 1600000 in
theorem algebraic : Cert.algebraic_DactIdeal_ReferenceDactIdeal_pre_finite := by
  pair_intro
  · run_from Cert.DactIdeal.Gen.run_main m g
  · run_from Cert.ReferenceDactIdeal.Value.run m' g'
    rw [Cert.ReferenceDactIdeal.Read.val_main_v34_eq, (hagree c).1, (hagree c).2.1, (hagree c).2.2.1, (hagree c).2.2.2.1, (hagree c).2.2.2.2]
    obtain ⟨h0, h1, h2, h3, h4⟩ := Cert.Finite.entries _ _ _ _ _ (hpre c)
    exact (Cert.DactIdeal.Hand.final m c h0 h1 h2 h3 h4).symm

theorem quiescent_reference : Cert.quiescent_ReferenceDactIdeal := fun m g _ =>
  (θ_run Cert.ReferenceDactIdeal.defs _ _).mono
    (fun r h => ⟨fun c => (h c).2, Idealize.ShloMosaic.sem_eq_zero_of_no_sems (by decide) r.2⟩)
    (Cert.ReferenceDactIdeal.Value.run m g)

theorem quiescent_kernel : Cert.quiescent_DactIdeal := fun m g _ => Cert.DactIdeal.Gen.frame m g

theorem all : Cert.quiescent_Dact ∧ Cert.quiescent_DactIdeal ∧ Cert.quiescent_DactIdeal_pre_finite
    ∧ Cert.quiescent_ReferenceDactIdeal ∧ Cert.quiescent_ReferenceDactIdeal_pre_finite
    ∧ Cert.preserves_Dact_DactIdeal ∧ Cert.algebraic_DactIdeal_ReferenceDactIdeal_pre_finite :=
  ⟨fun m g _ => Cert.Dact.Gen.frame m g, quiescent_kernel, fun m g _ => Cert.DactIdeal.Gen.frame m g,
    quiescent_reference, fun m g _ => quiescent_reference m g trivial, trivial, algebraic⟩

end Cert.DactClaim

end
-- ==== Proof.Adamw.lean ====
/- The optimiser's step for one entry of a weight, over the extended reals. -/
module

public import Idealize.ShloMosaic.Lib.Pointwise

@[expose] public section

noncomputable section

namespace Cert.Adamw

open Idealize.ShloMosaic

/-- A constant of the programs, by the bits of the float. -/
abbrev lit (b : BitVec 32) : EReal := Ideal.ofBits .f32 b

/-- The new first moment: 0.9 of the old one and 0.1 of the gradient. -/
def moment (g m : EReal) : EReal := lit 0x3F666666#32 * m + lit 0x3DCCCCCD#32 * g

/-- The new second moment: 0.999 of the old one and 0.001 of the gradient's square. -/
def square (g v : EReal) : EReal := lit 0x3F7FBE77#32 * v + lit 0x3A83126F#32 * (g * g)

/-- The change of the weight: -0.001 of the corrected first moment over the root of the corrected second
moment, plus 0.01 of the weight. -/
def delta (w g m v : EReal) : EReal :=
  lit 0xBA83126F#32 *
    (Ideal.div (Ideal.div (moment g m) (lit 0x3F26BD02#32))
        (Ideal.sqrt (Ideal.div (square g v) (lit 0x3C231ACC#32)) + lit 0x322BCC77#32)
      + lit 0x3C23D70A#32 * w)

end Cert.Adamw

end
-- ==== Proof.AdamwIn.lean ====
/- The optimiser's step on the weights of shape 4 by 1024 by 1408. -/
module

public import proofs.«01_k».proof.Defs
public import proofs.«01_k».proof.Proof.Adamw
public import proofs.«01_k».proof.Proof.Gen.AdamwIn.Frame
public import proofs.«01_k».proof.Proof.Gen.AdamwInIdeal.Value
public import proofs.«01_k».proof.Proof.Gen.ReferenceAdamwInIdeal.Read
public import proofs.«01_k».proof.Proof.Gen.ReferenceAdamwInIdeal.Run
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

namespace Cert.AdamwInIdeal.Hand

open Cert.AdamwInIdeal Cert.AdamwInIdeal.Gen Idealize.ShloMosaic Idealize.ShloMosaic.TcCoe Idealize.SL.Sem
open Idealize.ShloMosaic.Pipeline (Dat)
open Cert.ReferenceAdamwInIdeal.Read

variable (m : (ℓ : Loc nD τ sig) → Buf (Elt Ideal) ℓ)

abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)

/-- A weight in rows of its last axis. -/
abbrev rows (x : FVec Ideal S4x1024x1408 .f32) : FVec Ideal S4096x1408 .f32 := shapeCast S4096x1408 x shapeCasts_S4x1024x1408_S4096x1408

/-- The arguments enter the kernel in rows of the last axis. -/
theorem entry (c : Dev nD) : V m c main_v0 = rows (a0 m c) ∧ V m c main_v1 = rows (a1 m c) ∧ V m c main_v2 = rows (a2 m c) ∧ V m c main_v3 = rows (a3 m c) := by
  refine ⟨?_, ?_, ?_, ?_⟩ <;>
  · entry_read
    rfl

theorem pay_delta (G M V W : FVec Ideal S128x1408 .f32) (y : S128x1408.Idx) :
    k0_pay4 (F := Ideal) G M V W y = Adamw.delta (W y) (G y) (M y) (V y) := by
  rw [eq_ix2 y]
  generalize y 0 = p
  generalize y 1 = q
  pointwise [k0_pay4, k0_pay3, k0_pay2, k0_pay1]
  rfl

theorem ref_delta (x0 x1 x2 x3 : FVec Ideal S4x1024x1408 .f32) (i : S4096x1408.Idx) :
    val_main_v24 (F := Ideal) x0 x1 x2 x3 i = Adamw.delta (rows x0 i) (rows x1 i) (rows x2 i) (rows x3 i) := rfl

/-- The change of the weight is the reference's. -/
theorem final_delta (c : Dev nD) : (dats m 0 c).arrAt 4 cfg0.N
    = val_main_v24 (F := Ideal) (a0 m c) (a1 m c) (a2 m c) (a3 m c) := by
  refine (dats m 0 c).arrAt_eq_of_covers 4 _ (by decide +kernel) fun t hf y => ?_
  blk_simp
  rw [after0_4]
  unfold out0_4
  frame_out
  refine (pay_delta _ _ _ _ _).trans ?_
  obtain ⟨e0, e1, e2, e3⟩ := entry m c
  rw [ref_delta, ← e0, ← e1, ← e2, ← e3]
  congr 1

theorem pay_moment (G M : FVec Ideal S128x1408 .f32) (y : S128x1408.Idx) :
    k0_pay2 (F := Ideal) G M y = Adamw.moment (G y) (M y) := by
  rw [eq_ix2 y]
  generalize y 0 = p
  generalize y 1 = q
  pointwise [k0_pay4, k0_pay3, k0_pay2, k0_pay1]
  rfl

theorem ref_moment (x1 x2 : FVec Ideal S4x1024x1408 .f32) (i : S4096x1408.Idx) :
    val_main_v25 (F := Ideal) x1 x2 i = Adamw.moment (rows x1 i) (rows x2 i) := rfl

/-- The new first moment is the reference's. -/
theorem final_moment (c : Dev nD) : (dats m 0 c).arrAt 5 cfg0.N
    = val_main_v25 (F := Ideal) (a1 m c) (a2 m c) := by
  refine (dats m 0 c).arrAt_eq_of_covers 5 _ (by decide +kernel) fun t hf y => ?_
  blk_simp
  rw [after0_5]
  unfold out0_5
  frame_out
  refine (pay_moment _ _ _).trans ?_
  obtain ⟨e0, e1, e2, e3⟩ := entry m c
  rw [ref_moment, ← e1, ← e2]
  congr 1

theorem pay_square (G V : FVec Ideal S128x1408 .f32) (y : S128x1408.Idx) :
    k0_pay3 (F := Ideal) G V y = Adamw.square (G y) (V y) := by
  rw [eq_ix2 y]
  generalize y 0 = p
  generalize y 1 = q
  pointwise [k0_pay4, k0_pay3, k0_pay2, k0_pay1]
  rfl

theorem ref_square (x1 x3 : FVec Ideal S4x1024x1408 .f32) (i : S4096x1408.Idx) :
    val_main_v26 (F := Ideal) x1 x3 i = Adamw.square (rows x1 i) (rows x3 i) := rfl

/-- The new second moment is the reference's. -/
theorem final_square (c : Dev nD) : (dats m 0 c).arrAt 6 cfg0.N
    = val_main_v26 (F := Ideal) (a1 m c) (a3 m c) := by
  refine (dats m 0 c).arrAt_eq_of_covers 6 _ (by decide +kernel) fun t hf y => ?_
  blk_simp
  rw [after0_6]
  unfold out0_6
  frame_out
  refine (pay_square _ _ _).trans ?_
  obtain ⟨e0, e1, e2, e3⟩ := entry m c
  rw [ref_square, ← e1, ← e3]
  congr 1

end Cert.AdamwInIdeal.Hand

namespace Cert.AdamwInClaim

open Idealize.ShloMosaic Idealize.ShloMosaic.TcCoe Idealize.SL.Sem

set_option maxHeartbeats 1600000 in
theorem algebraic : Cert.algebraic_AdamwInIdeal_ReferenceAdamwInIdeal := by
  pair_intro
  · run_from Cert.AdamwInIdeal.Value.run_blocks m g
  · run_from Cert.ReferenceAdamwInIdeal.Value.run m' g'
    · rw [Cert.ReferenceAdamwInIdeal.Read.val_main_v24_eq]
      exact (Cert.AdamwInIdeal.Hand.final_delta m c).symm
    · rw [Cert.ReferenceAdamwInIdeal.Read.val_main_v25_eq]
      exact (Cert.AdamwInIdeal.Hand.final_moment m c).symm
    · rw [Cert.ReferenceAdamwInIdeal.Read.val_main_v26_eq]
      exact (Cert.AdamwInIdeal.Hand.final_square m c).symm

theorem quiescent_reference : Cert.quiescent_ReferenceAdamwInIdeal := fun m g _ =>
  (θ_run Cert.ReferenceAdamwInIdeal.defs _ _).mono
    (fun r h => ⟨fun c => (h c).2.2.2, Idealize.ShloMosaic.sem_eq_zero_of_no_sems (by decide) r.2⟩)
    (Cert.ReferenceAdamwInIdeal.Value.run m g)

theorem all : Cert.quiescent_AdamwIn ∧ Cert.quiescent_AdamwInIdeal ∧ Cert.quiescent_ReferenceAdamwInIdeal
    ∧ Cert.preserves_AdamwIn_AdamwInIdeal ∧ Cert.algebraic_AdamwInIdeal_ReferenceAdamwInIdeal :=
  ⟨fun m g _ => Cert.AdamwIn.Gen.frame m g, fun m g _ => Cert.AdamwInIdeal.Gen.frame m g, quiescent_reference, trivial, algebraic⟩

end Cert.AdamwInClaim

end
-- ==== Proof.AdamwOut.lean ====
/- The optimiser's step on the weights of shape 4 by 704 by 1024. -/
module

public import proofs.«01_k».proof.Defs
public import proofs.«01_k».proof.Proof.Adamw
public import proofs.«01_k».proof.Proof.Gen.AdamwOut.Frame
public import proofs.«01_k».proof.Proof.Gen.AdamwOutIdeal.Value
public import proofs.«01_k».proof.Proof.Gen.ReferenceAdamwOutIdeal.Read
public import proofs.«01_k».proof.Proof.Gen.ReferenceAdamwOutIdeal.Run
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

namespace Cert.AdamwOutIdeal.Hand

open Cert.AdamwOutIdeal Cert.AdamwOutIdeal.Gen Idealize.ShloMosaic Idealize.ShloMosaic.TcCoe Idealize.SL.Sem
open Idealize.ShloMosaic.Pipeline (Dat)
open Cert.ReferenceAdamwOutIdeal.Read

variable (m : (ℓ : Loc nD τ sig) → Buf (Elt Ideal) ℓ)

abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)

/-- A weight in rows of its last axis. -/
abbrev rows (x : FVec Ideal S4x704x1024 .f32) : FVec Ideal S2816x1024 .f32 := shapeCast S2816x1024 x shapeCasts_S4x704x1024_S2816x1024

/-- The arguments enter the kernel in rows of the last axis. -/
theorem entry (c : Dev nD) : V m c main_v0 = rows (a0 m c) ∧ V m c main_v1 = rows (a1 m c) ∧ V m c main_v2 = rows (a2 m c) ∧ V m c main_v3 = rows (a3 m c) := by
  refine ⟨?_, ?_, ?_, ?_⟩ <;>
  · entry_read
    rfl

theorem pay_delta (G M V W : FVec Ideal S256x1024 .f32) (y : S256x1024.Idx) :
    k0_pay4 (F := Ideal) G M V W y = Adamw.delta (W y) (G y) (M y) (V y) := by
  rw [eq_ix2 y]
  generalize y 0 = p
  generalize y 1 = q
  pointwise [k0_pay4, k0_pay3, k0_pay2, k0_pay1]
  rfl

theorem ref_delta (x0 x1 x2 x3 : FVec Ideal S4x704x1024 .f32) (i : S2816x1024.Idx) :
    val_main_v24 (F := Ideal) x0 x1 x2 x3 i = Adamw.delta (rows x0 i) (rows x1 i) (rows x2 i) (rows x3 i) := rfl

/-- The change of the weight is the reference's. -/
theorem final_delta (c : Dev nD) : (dats m 0 c).arrAt 4 cfg0.N
    = val_main_v24 (F := Ideal) (a0 m c) (a1 m c) (a2 m c) (a3 m c) := by
  refine (dats m 0 c).arrAt_eq_of_covers 4 _ (by decide +kernel) fun t hf y => ?_
  blk_simp
  rw [after0_4]
  unfold out0_4
  frame_out
  refine (pay_delta _ _ _ _ _).trans ?_
  obtain ⟨e0, e1, e2, e3⟩ := entry m c
  rw [ref_delta, ← e0, ← e1, ← e2, ← e3]
  congr 1

theorem pay_moment (G M : FVec Ideal S256x1024 .f32) (y : S256x1024.Idx) :
    k0_pay2 (F := Ideal) G M y = Adamw.moment (G y) (M y) := by
  rw [eq_ix2 y]
  generalize y 0 = p
  generalize y 1 = q
  pointwise [k0_pay4, k0_pay3, k0_pay2, k0_pay1]
  rfl

theorem ref_moment (x1 x2 : FVec Ideal S4x704x1024 .f32) (i : S2816x1024.Idx) :
    val_main_v25 (F := Ideal) x1 x2 i = Adamw.moment (rows x1 i) (rows x2 i) := rfl

/-- The new first moment is the reference's. -/
theorem final_moment (c : Dev nD) : (dats m 0 c).arrAt 5 cfg0.N
    = val_main_v25 (F := Ideal) (a1 m c) (a2 m c) := by
  refine (dats m 0 c).arrAt_eq_of_covers 5 _ (by decide +kernel) fun t hf y => ?_
  blk_simp
  rw [after0_5]
  unfold out0_5
  frame_out
  refine (pay_moment _ _ _).trans ?_
  obtain ⟨e0, e1, e2, e3⟩ := entry m c
  rw [ref_moment, ← e1, ← e2]
  congr 1

theorem pay_square (G V : FVec Ideal S256x1024 .f32) (y : S256x1024.Idx) :
    k0_pay3 (F := Ideal) G V y = Adamw.square (G y) (V y) := by
  rw [eq_ix2 y]
  generalize y 0 = p
  generalize y 1 = q
  pointwise [k0_pay4, k0_pay3, k0_pay2, k0_pay1]
  rfl

theorem ref_square (x1 x3 : FVec Ideal S4x704x1024 .f32) (i : S2816x1024.Idx) :
    val_main_v26 (F := Ideal) x1 x3 i = Adamw.square (rows x1 i) (rows x3 i) := rfl

/-- The new second moment is the reference's. -/
theorem final_square (c : Dev nD) : (dats m 0 c).arrAt 6 cfg0.N
    = val_main_v26 (F := Ideal) (a1 m c) (a3 m c) := by
  refine (dats m 0 c).arrAt_eq_of_covers 6 _ (by decide +kernel) fun t hf y => ?_
  blk_simp
  rw [after0_6]
  unfold out0_6
  frame_out
  refine (pay_square _ _ _).trans ?_
  obtain ⟨e0, e1, e2, e3⟩ := entry m c
  rw [ref_square, ← e1, ← e3]
  congr 1

end Cert.AdamwOutIdeal.Hand

namespace Cert.AdamwOutClaim

open Idealize.ShloMosaic Idealize.ShloMosaic.TcCoe Idealize.SL.Sem

set_option maxHeartbeats 1600000 in
theorem algebraic : Cert.algebraic_AdamwOutIdeal_ReferenceAdamwOutIdeal := by
  pair_intro
  · run_from Cert.AdamwOutIdeal.Value.run_blocks m g
  · run_from Cert.ReferenceAdamwOutIdeal.Value.run m' g'
    · rw [Cert.ReferenceAdamwOutIdeal.Read.val_main_v24_eq]
      exact (Cert.AdamwOutIdeal.Hand.final_delta m c).symm
    · rw [Cert.ReferenceAdamwOutIdeal.Read.val_main_v25_eq]
      exact (Cert.AdamwOutIdeal.Hand.final_moment m c).symm
    · rw [Cert.ReferenceAdamwOutIdeal.Read.val_main_v26_eq]
      exact (Cert.AdamwOutIdeal.Hand.final_square m c).symm

theorem quiescent_reference : Cert.quiescent_ReferenceAdamwOutIdeal := fun m g _ =>
  (θ_run Cert.ReferenceAdamwOutIdeal.defs _ _).mono
    (fun r h => ⟨fun c => (h c).2.2.2, Idealize.ShloMosaic.sem_eq_zero_of_no_sems (by decide) r.2⟩)
    (Cert.ReferenceAdamwOutIdeal.Value.run m g)

theorem all : Cert.quiescent_AdamwOut ∧ Cert.quiescent_AdamwOutIdeal ∧ Cert.quiescent_ReferenceAdamwOutIdeal
    ∧ Cert.preserves_AdamwOut_AdamwOutIdeal ∧ Cert.algebraic_AdamwOutIdeal_ReferenceAdamwOutIdeal :=
  ⟨fun m g _ => Cert.AdamwOut.Gen.frame m g, fun m g _ => Cert.AdamwOutIdeal.Gen.frame m g, quiescent_reference, trivial, algebraic⟩

end Cert.AdamwOutClaim

end
-- ==== Proof.AdamwEvIn.lean ====
/- The optimiser's step on the weight of shape 2 by 1024 by 576. -/
module

public import proofs.«01_k».proof.Defs
public import proofs.«01_k».proof.Proof.Adamw
public import proofs.«01_k».proof.Proof.Gen.AdamwEvIn.Frame
public import proofs.«01_k».proof.Proof.Gen.AdamwEvInIdeal.Value
public import proofs.«01_k».proof.Proof.Gen.ReferenceAdamwEvInIdeal.Read
public import proofs.«01_k».proof.Proof.Gen.ReferenceAdamwEvInIdeal.Run
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

namespace Cert.AdamwEvInIdeal.Hand

open Cert.AdamwEvInIdeal Cert.AdamwEvInIdeal.Gen Idealize.ShloMosaic Idealize.ShloMosaic.TcCoe Idealize.SL.Sem
open Idealize.ShloMosaic.Pipeline (Dat)
open Cert.ReferenceAdamwEvInIdeal.Read

variable (m : (ℓ : Loc nD τ sig) → Buf (Elt Ideal) ℓ)

abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)

/-- A weight in rows of its last axis. -/
abbrev rows (x : FVec Ideal S2x1024x576 .f32) : FVec Ideal S2048x576 .f32 := shapeCast S2048x576 x shapeCasts_S2x1024x576_S2048x576

/-- The arguments enter the kernel in rows of the last axis. -/
theorem entry (c : Dev nD) : V m c main_v0 = rows (a0 m c) ∧ V m c main_v1 = rows (a1 m c) ∧ V m c main_v2 = rows (a2 m c) ∧ V m c main_v3 = rows (a3 m c) := by
  refine ⟨?_, ?_, ?_, ?_⟩ <;>
  · entry_read
    rfl

theorem pay_delta (G M V W : FVec Ideal S256x576 .f32) (y : S256x576.Idx) :
    k0_pay4 (F := Ideal) G M V W y = Adamw.delta (W y) (G y) (M y) (V y) := by
  rw [eq_ix2 y]
  generalize y 0 = p
  generalize y 1 = q
  pointwise [k0_pay4, k0_pay3, k0_pay2, k0_pay1]
  rfl

theorem ref_delta (x0 x1 x2 x3 : FVec Ideal S2x1024x576 .f32) (i : S2048x576.Idx) :
    val_main_v24 (F := Ideal) x0 x1 x2 x3 i = Adamw.delta (rows x0 i) (rows x1 i) (rows x2 i) (rows x3 i) := rfl

/-- The change of the weight is the reference's. -/
theorem final_delta (c : Dev nD) : (dats m 0 c).arrAt 4 cfg0.N
    = val_main_v24 (F := Ideal) (a0 m c) (a1 m c) (a2 m c) (a3 m c) := by
  refine (dats m 0 c).arrAt_eq_of_covers 4 _ (by decide +kernel) fun t hf y => ?_
  blk_simp
  rw [after0_4]
  unfold out0_4
  frame_out
  refine (pay_delta _ _ _ _ _).trans ?_
  obtain ⟨e0, e1, e2, e3⟩ := entry m c
  rw [ref_delta, ← e0, ← e1, ← e2, ← e3]
  congr 1

theorem pay_moment (G M : FVec Ideal S256x576 .f32) (y : S256x576.Idx) :
    k0_pay2 (F := Ideal) G M y = Adamw.moment (G y) (M y) := by
  rw [eq_ix2 y]
  generalize y 0 = p
  generalize y 1 = q
  pointwise [k0_pay4, k0_pay3, k0_pay2, k0_pay1]
  rfl

theorem ref_moment (x1 x2 : FVec Ideal S2x1024x576 .f32) (i : S2048x576.Idx) :
    val_main_v25 (F := Ideal) x1 x2 i = Adamw.moment (rows x1 i) (rows x2 i) := rfl

/-- The new first moment is the reference's. -/
theorem final_moment (c : Dev nD) : (dats m 0 c).arrAt 5 cfg0.N
    = val_main_v25 (F := Ideal) (a1 m c) (a2 m c) := by
  refine (dats m 0 c).arrAt_eq_of_covers 5 _ (by decide +kernel) fun t hf y => ?_
  blk_simp
  rw [after0_5]
  unfold out0_5
  frame_out
  refine (pay_moment _ _ _).trans ?_
  obtain ⟨e0, e1, e2, e3⟩ := entry m c
  rw [ref_moment, ← e1, ← e2]
  congr 1

theorem pay_square (G V : FVec Ideal S256x576 .f32) (y : S256x576.Idx) :
    k0_pay3 (F := Ideal) G V y = Adamw.square (G y) (V y) := by
  rw [eq_ix2 y]
  generalize y 0 = p
  generalize y 1 = q
  pointwise [k0_pay4, k0_pay3, k0_pay2, k0_pay1]
  rfl

theorem ref_square (x1 x3 : FVec Ideal S2x1024x576 .f32) (i : S2048x576.Idx) :
    val_main_v26 (F := Ideal) x1 x3 i = Adamw.square (rows x1 i) (rows x3 i) := rfl

/-- The new second moment is the reference's. -/
theorem final_square (c : Dev nD) : (dats m 0 c).arrAt 6 cfg0.N
    = val_main_v26 (F := Ideal) (a1 m c) (a3 m c) := by
  refine (dats m 0 c).arrAt_eq_of_covers 6 _ (by decide +kernel) fun t hf y => ?_
  blk_simp
  rw [after0_6]
  unfold out0_6
  frame_out
  refine (pay_square _ _ _).trans ?_
  obtain ⟨e0, e1, e2, e3⟩ := entry m c
  rw [ref_square, ← e1, ← e3]
  congr 1

end Cert.AdamwEvInIdeal.Hand

namespace Cert.AdamwEvInClaim

open Idealize.ShloMosaic Idealize.ShloMosaic.TcCoe Idealize.SL.Sem

set_option maxHeartbeats 1600000 in
theorem algebraic : Cert.algebraic_AdamwEvInIdeal_ReferenceAdamwEvInIdeal := by
  pair_intro
  · run_from Cert.AdamwEvInIdeal.Value.run_blocks m g
  · run_from Cert.ReferenceAdamwEvInIdeal.Value.run m' g'
    · rw [Cert.ReferenceAdamwEvInIdeal.Read.val_main_v24_eq]
      exact (Cert.AdamwEvInIdeal.Hand.final_delta m c).symm
    · rw [Cert.ReferenceAdamwEvInIdeal.Read.val_main_v25_eq]
      exact (Cert.AdamwEvInIdeal.Hand.final_moment m c).symm
    · rw [Cert.ReferenceAdamwEvInIdeal.Read.val_main_v26_eq]
      exact (Cert.AdamwEvInIdeal.Hand.final_square m c).symm

theorem quiescent_reference : Cert.quiescent_ReferenceAdamwEvInIdeal := fun m g _ =>
  (θ_run Cert.ReferenceAdamwEvInIdeal.defs _ _).mono
    (fun r h => ⟨fun c => (h c).2.2.2, Idealize.ShloMosaic.sem_eq_zero_of_no_sems (by decide) r.2⟩)
    (Cert.ReferenceAdamwEvInIdeal.Value.run m g)

theorem all : Cert.quiescent_AdamwEvIn ∧ Cert.quiescent_AdamwEvInIdeal ∧ Cert.quiescent_ReferenceAdamwEvInIdeal
    ∧ Cert.preserves_AdamwEvIn_AdamwEvInIdeal ∧ Cert.algebraic_AdamwEvInIdeal_ReferenceAdamwEvInIdeal :=
  ⟨fun m g _ => Cert.AdamwEvIn.Gen.frame m g, fun m g _ => Cert.AdamwEvInIdeal.Gen.frame m g, quiescent_reference, trivial, algebraic⟩

end Cert.AdamwEvInClaim

end
-- ==== Proof.AdamwOdIn.lean ====
/- The optimiser's step on the weight of shape 2 by 1024 by 384. -/
module

public import proofs.«01_k».proof.Defs
public import proofs.«01_k».proof.Proof.Adamw
public import proofs.«01_k».proof.Proof.Gen.AdamwOdIn.Frame
public import proofs.«01_k».proof.Proof.Gen.AdamwOdInIdeal.Value
public import proofs.«01_k».proof.Proof.Gen.ReferenceAdamwOdInIdeal.Read
public import proofs.«01_k».proof.Proof.Gen.ReferenceAdamwOdInIdeal.Run
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

namespace Cert.AdamwOdInIdeal.Hand

open Cert.AdamwOdInIdeal Cert.AdamwOdInIdeal.Gen Idealize.ShloMosaic Idealize.ShloMosaic.TcCoe Idealize.SL.Sem
open Idealize.ShloMosaic.Pipeline (Dat)
open Cert.ReferenceAdamwOdInIdeal.Read

variable (m : (ℓ : Loc nD τ sig) → Buf (Elt Ideal) ℓ)

abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)

/-- A weight in rows of its last axis. -/
abbrev rows (x : FVec Ideal S2x1024x384 .f32) : FVec Ideal S2048x384 .f32 := shapeCast S2048x384 x shapeCasts_S2x1024x384_S2048x384

/-- The arguments enter the kernel in rows of the last axis. -/
theorem entry (c : Dev nD) : V m c main_v0 = rows (a0 m c) ∧ V m c main_v1 = rows (a1 m c) ∧ V m c main_v2 = rows (a2 m c) ∧ V m c main_v3 = rows (a3 m c) := by
  refine ⟨?_, ?_, ?_, ?_⟩ <;>
  · entry_read
    rfl

theorem pay_delta (G M V W : FVec Ideal S512x384 .f32) (y : S512x384.Idx) :
    k0_pay4 (F := Ideal) G M V W y = Adamw.delta (W y) (G y) (M y) (V y) := by
  rw [eq_ix2 y]
  generalize y 0 = p
  generalize y 1 = q
  pointwise [k0_pay4, k0_pay3, k0_pay2, k0_pay1]
  rfl

theorem ref_delta (x0 x1 x2 x3 : FVec Ideal S2x1024x384 .f32) (i : S2048x384.Idx) :
    val_main_v24 (F := Ideal) x0 x1 x2 x3 i = Adamw.delta (rows x0 i) (rows x1 i) (rows x2 i) (rows x3 i) := rfl

/-- The change of the weight is the reference's. -/
theorem final_delta (c : Dev nD) : (dats m 0 c).arrAt 4 cfg0.N
    = val_main_v24 (F := Ideal) (a0 m c) (a1 m c) (a2 m c) (a3 m c) := by
  refine (dats m 0 c).arrAt_eq_of_covers 4 _ (by decide +kernel) fun t hf y => ?_
  blk_simp
  rw [after0_4]
  unfold out0_4
  frame_out
  refine (pay_delta _ _ _ _ _).trans ?_
  obtain ⟨e0, e1, e2, e3⟩ := entry m c
  rw [ref_delta, ← e0, ← e1, ← e2, ← e3]
  congr 1

theorem pay_moment (G M : FVec Ideal S512x384 .f32) (y : S512x384.Idx) :
    k0_pay2 (F := Ideal) G M y = Adamw.moment (G y) (M y) := by
  rw [eq_ix2 y]
  generalize y 0 = p
  generalize y 1 = q
  pointwise [k0_pay4, k0_pay3, k0_pay2, k0_pay1]
  rfl

theorem ref_moment (x1 x2 : FVec Ideal S2x1024x384 .f32) (i : S2048x384.Idx) :
    val_main_v25 (F := Ideal) x1 x2 i = Adamw.moment (rows x1 i) (rows x2 i) := rfl

/-- The new first moment is the reference's. -/
theorem final_moment (c : Dev nD) : (dats m 0 c).arrAt 5 cfg0.N
    = val_main_v25 (F := Ideal) (a1 m c) (a2 m c) := by
  refine (dats m 0 c).arrAt_eq_of_covers 5 _ (by decide +kernel) fun t hf y => ?_
  blk_simp
  rw [after0_5]
  unfold out0_5
  frame_out
  refine (pay_moment _ _ _).trans ?_
  obtain ⟨e0, e1, e2, e3⟩ := entry m c
  rw [ref_moment, ← e1, ← e2]
  congr 1

theorem pay_square (G V : FVec Ideal S512x384 .f32) (y : S512x384.Idx) :
    k0_pay3 (F := Ideal) G V y = Adamw.square (G y) (V y) := by
  rw [eq_ix2 y]
  generalize y 0 = p
  generalize y 1 = q
  pointwise [k0_pay4, k0_pay3, k0_pay2, k0_pay1]
  rfl

theorem ref_square (x1 x3 : FVec Ideal S2x1024x384 .f32) (i : S2048x384.Idx) :
    val_main_v26 (F := Ideal) x1 x3 i = Adamw.square (rows x1 i) (rows x3 i) := rfl

/-- The new second moment is the reference's. -/
theorem final_square (c : Dev nD) : (dats m 0 c).arrAt 6 cfg0.N
    = val_main_v26 (F := Ideal) (a1 m c) (a3 m c) := by
  refine (dats m 0 c).arrAt_eq_of_covers 6 _ (by decide +kernel) fun t hf y => ?_
  blk_simp
  rw [after0_6]
  unfold out0_6
  frame_out
  refine (pay_square _ _ _).trans ?_
  obtain ⟨e0, e1, e2, e3⟩ := entry m c
  rw [ref_square, ← e1, ← e3]
  congr 1

end Cert.AdamwOdInIdeal.Hand

namespace Cert.AdamwOdInClaim

open Idealize.ShloMosaic Idealize.ShloMosaic.TcCoe Idealize.SL.Sem

set_option maxHeartbeats 1600000 in
theorem algebraic : Cert.algebraic_AdamwOdInIdeal_ReferenceAdamwOdInIdeal := by
  pair_intro
  · run_from Cert.AdamwOdInIdeal.Value.run_blocks m g
  · run_from Cert.ReferenceAdamwOdInIdeal.Value.run m' g'
    · rw [Cert.ReferenceAdamwOdInIdeal.Read.val_main_v24_eq]
      exact (Cert.AdamwOdInIdeal.Hand.final_delta m c).symm
    · rw [Cert.ReferenceAdamwOdInIdeal.Read.val_main_v25_eq]
      exact (Cert.AdamwOdInIdeal.Hand.final_moment m c).symm
    · rw [Cert.ReferenceAdamwOdInIdeal.Read.val_main_v26_eq]
      exact (Cert.AdamwOdInIdeal.Hand.final_square m c).symm

theorem quiescent_reference : Cert.quiescent_ReferenceAdamwOdInIdeal := fun m g _ =>
  (θ_run Cert.ReferenceAdamwOdInIdeal.defs _ _).mono
    (fun r h => ⟨fun c => (h c).2.2.2, Idealize.ShloMosaic.sem_eq_zero_of_no_sems (by decide) r.2⟩)
    (Cert.ReferenceAdamwOdInIdeal.Value.run m g)

theorem all : Cert.quiescent_AdamwOdIn ∧ Cert.quiescent_AdamwOdInIdeal ∧ Cert.quiescent_ReferenceAdamwOdInIdeal
    ∧ Cert.preserves_AdamwOdIn_AdamwOdInIdeal ∧ Cert.algebraic_AdamwOdInIdeal_ReferenceAdamwOdInIdeal :=
  ⟨fun m g _ => Cert.AdamwOdIn.Gen.frame m g, fun m g _ => Cert.AdamwOdInIdeal.Gen.frame m g, quiescent_reference, trivial, algebraic⟩

end Cert.AdamwOdInClaim

end
-- ==== Proof.AdamwMixOut.lean ====
/- The optimiser's step on the weights of shape 2 by 256 by 1024. -/
module

public import proofs.«01_k».proof.Defs
public import proofs.«01_k».proof.Proof.Adamw
public import proofs.«01_k».proof.Proof.Gen.AdamwMixOut.Frame
public import proofs.«01_k».proof.Proof.Gen.AdamwMixOutIdeal.Value
public import proofs.«01_k».proof.Proof.Gen.ReferenceAdamwMixOutIdeal.Read
public import proofs.«01_k».proof.Proof.Gen.ReferenceAdamwMixOutIdeal.Run
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

namespace Cert.AdamwMixOutIdeal.Hand

open Cert.AdamwMixOutIdeal Cert.AdamwMixOutIdeal.Gen Idealize.ShloMosaic Idealize.ShloMosaic.TcCoe Idealize.SL.Sem
open Idealize.ShloMosaic.Pipeline (Dat)
open Cert.ReferenceAdamwMixOutIdeal.Read

variable (m : (ℓ : Loc nD τ sig) → Buf (Elt Ideal) ℓ)

abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)

/-- A weight in rows of its last axis. -/
abbrev rows (x : FVec Ideal S2x256x1024 .f32) : FVec Ideal S512x1024 .f32 := shapeCast S512x1024 x shapeCasts_S2x256x1024_S512x1024

/-- The arguments enter the kernel in rows of the last axis. -/
theorem entry (c : Dev nD) : V m c main_v0 = rows (a0 m c) ∧ V m c main_v1 = rows (a1 m c) ∧ V m c main_v2 = rows (a2 m c) ∧ V m c main_v3 = rows (a3 m c) := by
  refine ⟨?_, ?_, ?_, ?_⟩ <;>
  · entry_read
    rfl

theorem pay_delta (G M V W : FVec Ideal S256x1024 .f32) (y : S256x1024.Idx) :
    k0_pay4 (F := Ideal) G M V W y = Adamw.delta (W y) (G y) (M y) (V y) := by
  rw [eq_ix2 y]
  generalize y 0 = p
  generalize y 1 = q
  pointwise [k0_pay4, k0_pay3, k0_pay2, k0_pay1]
  rfl

theorem ref_delta (x0 x1 x2 x3 : FVec Ideal S2x256x1024 .f32) (i : S512x1024.Idx) :
    val_main_v24 (F := Ideal) x0 x1 x2 x3 i = Adamw.delta (rows x0 i) (rows x1 i) (rows x2 i) (rows x3 i) := rfl

/-- The change of the weight is the reference's. -/
theorem final_delta (c : Dev nD) : (dats m 0 c).arrAt 4 cfg0.N
    = val_main_v24 (F := Ideal) (a0 m c) (a1 m c) (a2 m c) (a3 m c) := by
  refine (dats m 0 c).arrAt_eq_of_covers 4 _ (by decide +kernel) fun t hf y => ?_
  blk_simp
  rw [after0_4]
  unfold out0_4
  frame_out
  refine (pay_delta _ _ _ _ _).trans ?_
  obtain ⟨e0, e1, e2, e3⟩ := entry m c
  rw [ref_delta, ← e0, ← e1, ← e2, ← e3]
  congr 1

theorem pay_moment (G M : FVec Ideal S256x1024 .f32) (y : S256x1024.Idx) :
    k0_pay2 (F := Ideal) G M y = Adamw.moment (G y) (M y) := by
  rw [eq_ix2 y]
  generalize y 0 = p
  generalize y 1 = q
  pointwise [k0_pay4, k0_pay3, k0_pay2, k0_pay1]
  rfl

theorem ref_moment (x1 x2 : FVec Ideal S2x256x1024 .f32) (i : S512x1024.Idx) :
    val_main_v25 (F := Ideal) x1 x2 i = Adamw.moment (rows x1 i) (rows x2 i) := rfl

/-- The new first moment is the reference's. -/
theorem final_moment (c : Dev nD) : (dats m 0 c).arrAt 5 cfg0.N
    = val_main_v25 (F := Ideal) (a1 m c) (a2 m c) := by
  refine (dats m 0 c).arrAt_eq_of_covers 5 _ (by decide +kernel) fun t hf y => ?_
  blk_simp
  rw [after0_5]
  unfold out0_5
  frame_out
  refine (pay_moment _ _ _).trans ?_
  obtain ⟨e0, e1, e2, e3⟩ := entry m c
  rw [ref_moment, ← e1, ← e2]
  congr 1

theorem pay_square (G V : FVec Ideal S256x1024 .f32) (y : S256x1024.Idx) :
    k0_pay3 (F := Ideal) G V y = Adamw.square (G y) (V y) := by
  rw [eq_ix2 y]
  generalize y 0 = p
  generalize y 1 = q
  pointwise [k0_pay4, k0_pay3, k0_pay2, k0_pay1]
  rfl

theorem ref_square (x1 x3 : FVec Ideal S2x256x1024 .f32) (i : S512x1024.Idx) :
    val_main_v26 (F := Ideal) x1 x3 i = Adamw.square (rows x1 i) (rows x3 i) := rfl

/-- The new second moment is the reference's. -/
theorem final_square (c : Dev nD) : (dats m 0 c).arrAt 6 cfg0.N
    = val_main_v26 (F := Ideal) (a1 m c) (a3 m c) := by
  refine (dats m 0 c).arrAt_eq_of_covers 6 _ (by decide +kernel) fun t hf y => ?_
  blk_simp
  rw [after0_6]
  unfold out0_6
  frame_out
  refine (pay_square _ _ _).trans ?_
  obtain ⟨e0, e1, e2, e3⟩ := entry m c
  rw [ref_square, ← e1, ← e3]
  congr 1

end Cert.AdamwMixOutIdeal.Hand

namespace Cert.AdamwMixOutClaim

open Idealize.ShloMosaic Idealize.ShloMosaic.TcCoe Idealize.SL.Sem

set_option maxHeartbeats 1600000 in
theorem algebraic : Cert.algebraic_AdamwMixOutIdeal_ReferenceAdamwMixOutIdeal := by
  pair_intro
  · run_from Cert.AdamwMixOutIdeal.Value.run_blocks m g
  · run_from Cert.ReferenceAdamwMixOutIdeal.Value.run m' g'
    · rw [Cert.ReferenceAdamwMixOutIdeal.Read.val_main_v24_eq]
      exact (Cert.AdamwMixOutIdeal.Hand.final_delta m c).symm
    · rw [Cert.ReferenceAdamwMixOutIdeal.Read.val_main_v25_eq]
      exact (Cert.AdamwMixOutIdeal.Hand.final_moment m c).symm
    · rw [Cert.ReferenceAdamwMixOutIdeal.Read.val_main_v26_eq]
      exact (Cert.AdamwMixOutIdeal.Hand.final_square m c).symm

theorem quiescent_reference : Cert.quiescent_ReferenceAdamwMixOutIdeal := fun m g _ =>
  (θ_run Cert.ReferenceAdamwMixOutIdeal.defs _ _).mono
    (fun r h => ⟨fun c => (h c).2.2.2, Idealize.ShloMosaic.sem_eq_zero_of_no_sems (by decide) r.2⟩)
    (Cert.ReferenceAdamwMixOutIdeal.Value.run m g)

theorem all : Cert.quiescent_AdamwMixOut ∧ Cert.quiescent_AdamwMixOutIdeal ∧ Cert.quiescent_ReferenceAdamwMixOutIdeal
    ∧ Cert.preserves_AdamwMixOut_AdamwMixOutIdeal ∧ Cert.algebraic_AdamwMixOutIdeal_ReferenceAdamwMixOutIdeal :=
  ⟨fun m g _ => Cert.AdamwMixOut.Gen.frame m g, fun m g _ => Cert.AdamwMixOutIdeal.Gen.frame m g, quiescent_reference, trivial, algebraic⟩

end Cert.AdamwMixOutClaim

end
-- ==== Proof.AdamwNorm.lean ====
/- The optimiser's step on the weights of shape 4 by 1024. -/
module

public import proofs.«01_k».proof.Defs
public import proofs.«01_k».proof.Proof.Adamw
public import proofs.«01_k».proof.Proof.Gen.AdamwNorm.Frame
public import proofs.«01_k».proof.Proof.Gen.AdamwNormIdeal.Value
public import proofs.«01_k».proof.Proof.Gen.ReferenceAdamwNormIdeal.Read
public import proofs.«01_k».proof.Proof.Gen.ReferenceAdamwNormIdeal.Run
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

namespace Cert.AdamwNormIdeal.Hand

open Cert.AdamwNormIdeal Cert.AdamwNormIdeal.Gen Idealize.ShloMosaic Idealize.ShloMosaic.TcCoe Idealize.SL.Sem
open Idealize.ShloMosaic.Pipeline (Dat)
open Cert.ReferenceAdamwNormIdeal.Read

variable (m : (ℓ : Loc nD τ sig) → Buf (Elt Ideal) ℓ)

abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)

/-- The arguments enter the kernel as they are. -/
theorem entry (c : Dev nD) : V m c main_arg0 = a0 m c ∧ V m c main_arg1 = a1 m c ∧ V m c main_arg2 = a2 m c ∧ V m c main_arg3 = a3 m c :=
  ⟨V_main_arg0 m c, V_main_arg1 m c, V_main_arg2 m c, V_main_arg3 m c⟩

theorem pay_delta (G M V W : FVec Ideal S4x1024 .f32) (y : S4x1024.Idx) :
    k0_pay3 (F := Ideal) G M V W y = Adamw.delta (W y) (G y) (M y) (V y) := by
  rw [eq_ix2 y]
  generalize y 0 = p
  generalize y 1 = q
  pointwise [k0_pay3, k0_pay2, k0_pay1]
  rfl

theorem ref_delta (x0 x1 x2 x3 : FVec Ideal S4x1024 .f32) (i : S4x1024.Idx) :
    val_main_v23 (F := Ideal) x0 x1 x2 x3 i = Adamw.delta (x0 i) (x1 i) (x2 i) (x3 i) := rfl

/-- The change of the weight is the reference's. -/
theorem final_delta (c : Dev nD) : (dats m 0 c).arrAt 4 cfg0.N
    = val_main_v23 (F := Ideal) (a0 m c) (a1 m c) (a2 m c) (a3 m c) := by
  refine (dats m 0 c).arrAt_eq_of_covers 4 _ (by decide +kernel) fun t hf y => ?_
  blk_simp
  rw [after0_4]
  unfold out0_4
  frame_out
  refine (pay_delta _ _ _ _ _).trans ?_
  obtain ⟨e0, e1, e2, e3⟩ := entry m c
  rw [ref_delta, ← e0, ← e1, ← e2, ← e3]
  congr 1

theorem pay_moment (G M : FVec Ideal S4x1024 .f32) (y : S4x1024.Idx) :
    k0_pay1 (F := Ideal) G M y = Adamw.moment (G y) (M y) := by
  rw [eq_ix2 y]
  generalize y 0 = p
  generalize y 1 = q
  pointwise [k0_pay3, k0_pay2, k0_pay1]
  rfl

theorem ref_moment (x1 x2 : FVec Ideal S4x1024 .f32) (i : S4x1024.Idx) :
    val_main_v4 (F := Ideal) x1 x2 i = Adamw.moment (x1 i) (x2 i) := rfl

/-- The new first moment is the reference's. -/
theorem final_moment (c : Dev nD) : (dats m 0 c).arrAt 5 cfg0.N
    = val_main_v4 (F := Ideal) (a1 m c) (a2 m c) := by
  refine (dats m 0 c).arrAt_eq_of_covers 5 _ (by decide +kernel) fun t hf y => ?_
  blk_simp
  rw [after0_5]
  unfold out0_5
  frame_out
  refine (pay_moment _ _ _).trans ?_
  obtain ⟨e0, e1, e2, e3⟩ := entry m c
  rw [ref_moment, ← e1, ← e2]
  congr 1

theorem pay_square (G V : FVec Ideal S4x1024 .f32) (y : S4x1024.Idx) :
    k0_pay2 (F := Ideal) G V y = Adamw.square (G y) (V y) := by
  rw [eq_ix2 y]
  generalize y 0 = p
  generalize y 1 = q
  pointwise [k0_pay3, k0_pay2, k0_pay1]
  rfl

theorem ref_square (x1 x3 : FVec Ideal S4x1024 .f32) (i : S4x1024.Idx) :
    val_main_v10 (F := Ideal) x1 x3 i = Adamw.square (x1 i) (x3 i) := rfl

/-- The new second moment is the reference's. -/
theorem final_square (c : Dev nD) : (dats m 0 c).arrAt 6 cfg0.N
    = val_main_v10 (F := Ideal) (a1 m c) (a3 m c) := by
  refine (dats m 0 c).arrAt_eq_of_covers 6 _ (by decide +kernel) fun t hf y => ?_
  blk_simp
  rw [after0_6]
  unfold out0_6
  frame_out
  refine (pay_square _ _ _).trans ?_
  obtain ⟨e0, e1, e2, e3⟩ := entry m c
  rw [ref_square, ← e1, ← e3]
  congr 1

end Cert.AdamwNormIdeal.Hand

namespace Cert.AdamwNormClaim

open Idealize.ShloMosaic Idealize.ShloMosaic.TcCoe Idealize.SL.Sem

set_option maxHeartbeats 1600000 in
theorem algebraic : Cert.algebraic_AdamwNormIdeal_ReferenceAdamwNormIdeal := by
  pair_intro
  · run_from Cert.AdamwNormIdeal.Value.run_blocks m g
  · run_from Cert.ReferenceAdamwNormIdeal.Value.run m' g'
    · rw [Cert.ReferenceAdamwNormIdeal.Read.val_main_v23_eq]
      exact (Cert.AdamwNormIdeal.Hand.final_delta m c).symm
    · rw [Cert.ReferenceAdamwNormIdeal.Read.val_main_v4_eq]
      exact (Cert.AdamwNormIdeal.Hand.final_moment m c).symm
    · rw [Cert.ReferenceAdamwNormIdeal.Read.val_main_v10_eq]
      exact (Cert.AdamwNormIdeal.Hand.final_square m c).symm

theorem quiescent_reference : Cert.quiescent_ReferenceAdamwNormIdeal := fun m g _ =>
  (θ_run Cert.ReferenceAdamwNormIdeal.defs _ _).mono
    (fun r h => ⟨fun c => (h c).2.2.2, Idealize.ShloMosaic.sem_eq_zero_of_no_sems (by decide) r.2⟩)
    (Cert.ReferenceAdamwNormIdeal.Value.run m g)

theorem all : Cert.quiescent_AdamwNorm ∧ Cert.quiescent_AdamwNormIdeal ∧ Cert.quiescent_ReferenceAdamwNormIdeal
    ∧ Cert.preserves_AdamwNorm_AdamwNormIdeal ∧ Cert.algebraic_AdamwNormIdeal_ReferenceAdamwNormIdeal :=
  ⟨fun m g _ => Cert.AdamwNorm.Gen.frame m g, fun m g _ => Cert.AdamwNormIdeal.Gen.frame m g, quiescent_reference, trivial, algebraic⟩

end Cert.AdamwNormClaim

end
-- ==== Proof.AdamwConv.lean ====
/- The optimiser's step on the weight of shape 2 by 3 by 128. -/
module

public import proofs.«01_k».proof.Defs
public import proofs.«01_k».proof.Proof.Adamw
public import proofs.«01_k».proof.Proof.Gen.AdamwConv.Frame
public import proofs.«01_k».proof.Proof.Gen.AdamwConvIdeal.Value
public import proofs.«01_k».proof.Proof.Gen.ReferenceAdamwConvIdeal.Read
public import proofs.«01_k».proof.Proof.Gen.ReferenceAdamwConvIdeal.Run
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

namespace Cert.AdamwConvIdeal.Hand

open Cert.AdamwConvIdeal Cert.AdamwConvIdeal.Gen Idealize.ShloMosaic Idealize.ShloMosaic.TcCoe Idealize.SL.Sem
open Idealize.ShloMosaic.Pipeline (Dat)
open Cert.ReferenceAdamwConvIdeal.Read

variable (m : (ℓ : Loc nD τ sig) → Buf (Elt Ideal) ℓ)

abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)

/-- A weight in rows of its last axis. -/
abbrev rows (x : FVec Ideal S2x3x128 .f32) : FVec Ideal S6x128 .f32 := shapeCast S6x128 x shapeCasts_S2x3x128_S6x128

/-- The arguments enter the kernel in rows of the last axis. -/
theorem entry (c : Dev nD) : V m c main_v0 = rows (a0 m c) ∧ V m c main_v1 = rows (a1 m c) ∧ V m c main_v2 = rows (a2 m c) ∧ V m c main_v3 = rows (a3 m c) := by
  refine ⟨?_, ?_, ?_, ?_⟩ <;>
  · entry_read
    rfl

theorem pay_delta (G M V W : FVec Ideal S6x128 .f32) (y : S6x128.Idx) :
    k0_pay4 (F := Ideal) G M V W y = Adamw.delta (W y) (G y) (M y) (V y) := by
  rw [eq_ix2 y]
  generalize y 0 = p
  generalize y 1 = q
  pointwise [k0_pay4, k0_pay3, k0_pay2, k0_pay1]
  rfl

theorem ref_delta (x0 x1 x2 x3 : FVec Ideal S2x3x128 .f32) (i : S6x128.Idx) :
    val_main_v24 (F := Ideal) x0 x1 x2 x3 i = Adamw.delta (rows x0 i) (rows x1 i) (rows x2 i) (rows x3 i) := rfl

/-- The change of the weight is the reference's. -/
theorem final_delta (c : Dev nD) : (dats m 0 c).arrAt 4 cfg0.N
    = val_main_v24 (F := Ideal) (a0 m c) (a1 m c) (a2 m c) (a3 m c) := by
  refine (dats m 0 c).arrAt_eq_of_covers 4 _ (by decide +kernel) fun t hf y => ?_
  blk_simp
  rw [after0_4]
  unfold out0_4
  frame_out
  refine (pay_delta _ _ _ _ _).trans ?_
  obtain ⟨e0, e1, e2, e3⟩ := entry m c
  rw [ref_delta, ← e0, ← e1, ← e2, ← e3]
  congr 1

theorem pay_moment (G M : FVec Ideal S6x128 .f32) (y : S6x128.Idx) :
    k0_pay2 (F := Ideal) G M y = Adamw.moment (G y) (M y) := by
  rw [eq_ix2 y]
  generalize y 0 = p
  generalize y 1 = q
  pointwise [k0_pay4, k0_pay3, k0_pay2, k0_pay1]
  rfl

theorem ref_moment (x1 x2 : FVec Ideal S2x3x128 .f32) (i : S6x128.Idx) :
    val_main_v25 (F := Ideal) x1 x2 i = Adamw.moment (rows x1 i) (rows x2 i) := rfl

/-- The new first moment is the reference's. -/
theorem final_moment (c : Dev nD) : (dats m 0 c).arrAt 5 cfg0.N
    = val_main_v25 (F := Ideal) (a1 m c) (a2 m c) := by
  refine (dats m 0 c).arrAt_eq_of_covers 5 _ (by decide +kernel) fun t hf y => ?_
  blk_simp
  rw [after0_5]
  unfold out0_5
  frame_out
  refine (pay_moment _ _ _).trans ?_
  obtain ⟨e0, e1, e2, e3⟩ := entry m c
  rw [ref_moment, ← e1, ← e2]
  congr 1

theorem pay_square (G V : FVec Ideal S6x128 .f32) (y : S6x128.Idx) :
    k0_pay3 (F := Ideal) G V y = Adamw.square (G y) (V y) := by
  rw [eq_ix2 y]
  generalize y 0 = p
  generalize y 1 = q
  pointwise [k0_pay4, k0_pay3, k0_pay2, k0_pay1]
  rfl

theorem ref_square (x1 x3 : FVec Ideal S2x3x128 .f32) (i : S6x128.Idx) :
    val_main_v26 (F := Ideal) x1 x3 i = Adamw.square (rows x1 i) (rows x3 i) := rfl

/-- The new second moment is the reference's. -/
theorem final_square (c : Dev nD) : (dats m 0 c).arrAt 6 cfg0.N
    = val_main_v26 (F := Ideal) (a1 m c) (a3 m c) := by
  refine (dats m 0 c).arrAt_eq_of_covers 6 _ (by decide +kernel) fun t hf y => ?_
  blk_simp
  rw [after0_6]
  unfold out0_6
  frame_out
  refine (pay_square _ _ _).trans ?_
  obtain ⟨e0, e1, e2, e3⟩ := entry m c
  rw [ref_square, ← e1, ← e3]
  congr 1

end Cert.AdamwConvIdeal.Hand

namespace Cert.AdamwConvClaim

open Idealize.ShloMosaic Idealize.ShloMosaic.TcCoe Idealize.SL.Sem

set_option maxHeartbeats 1600000 in
theorem algebraic : Cert.algebraic_AdamwConvIdeal_ReferenceAdamwConvIdeal := by
  pair_intro
  · run_from Cert.AdamwConvIdeal.Value.run_blocks m g
  · run_from Cert.ReferenceAdamwConvIdeal.Value.run m' g'
    · rw [Cert.ReferenceAdamwConvIdeal.Read.val_main_v24_eq]
      exact (Cert.AdamwConvIdeal.Hand.final_delta m c).symm
    · rw [Cert.ReferenceAdamwConvIdeal.Read.val_main_v25_eq]
      exact (Cert.AdamwConvIdeal.Hand.final_moment m c).symm
    · rw [Cert.ReferenceAdamwConvIdeal.Read.val_main_v26_eq]
      exact (Cert.AdamwConvIdeal.Hand.final_square m c).symm

theorem quiescent_reference : Cert.quiescent_ReferenceAdamwConvIdeal := fun m g _ =>
  (θ_run Cert.ReferenceAdamwConvIdeal.defs _ _).mono
    (fun r h => ⟨fun c => (h c).2.2.2, Idealize.ShloMosaic.sem_eq_zero_of_no_sems (by decide) r.2⟩)
    (Cert.ReferenceAdamwConvIdeal.Value.run m g)

theorem all : Cert.quiescent_AdamwConv ∧ Cert.quiescent_AdamwConvIdeal ∧ Cert.quiescent_ReferenceAdamwConvIdeal
    ∧ Cert.preserves_AdamwConv_AdamwConvIdeal ∧ Cert.algebraic_AdamwConvIdeal_ReferenceAdamwConvIdeal :=
  ⟨fun m g _ => Cert.AdamwConv.Gen.frame m g, fun m g _ => Cert.AdamwConvIdeal.Gen.frame m g, quiescent_reference, trivial, algebraic⟩

end Cert.AdamwConvClaim

end
-- ==== Proof.AdamwHead.lean ====
/- The optimiser's step on the weights of shape 2 by 64. -/
module

public import proofs.«01_k».proof.Defs
public import proofs.«01_k».proof.Proof.Adamw
public import proofs.«01_k».proof.Proof.Gen.AdamwHead.Frame
public import proofs.«01_k».proof.Proof.Gen.AdamwHeadIdeal.Value
public import proofs.«01_k».proof.Proof.Gen.ReferenceAdamwHeadIdeal.Read
public import proofs.«01_k».proof.Proof.Gen.ReferenceAdamwHeadIdeal.Run
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

namespace Cert.AdamwHeadIdeal.Hand

open Cert.AdamwHeadIdeal Cert.AdamwHeadIdeal.Gen Idealize.ShloMosaic Idealize.ShloMosaic.TcCoe Idealize.SL.Sem
open Idealize.ShloMosaic.Pipeline (Dat)
open Cert.ReferenceAdamwHeadIdeal.Read

variable (m : (ℓ : Loc nD τ sig) → Buf (Elt Ideal) ℓ)

abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)

/-- The arguments enter the kernel as they are. -/
theorem entry (c : Dev nD) : V m c main_arg0 = a0 m c ∧ V m c main_arg1 = a1 m c ∧ V m c main_arg2 = a2 m c ∧ V m c main_arg3 = a3 m c :=
  ⟨V_main_arg0 m c, V_main_arg1 m c, V_main_arg2 m c, V_main_arg3 m c⟩

theorem pay_delta (G M V W : FVec Ideal S2x64 .f32) (y : S2x64.Idx) :
    k0_pay3 (F := Ideal) G M V W y = Adamw.delta (W y) (G y) (M y) (V y) := by
  rw [eq_ix2 y]
  generalize y 0 = p
  generalize y 1 = q
  pointwise [k0_pay3, k0_pay2, k0_pay1]
  rfl

theorem ref_delta (x0 x1 x2 x3 : FVec Ideal S2x64 .f32) (i : S2x64.Idx) :
    val_main_v23 (F := Ideal) x0 x1 x2 x3 i = Adamw.delta (x0 i) (x1 i) (x2 i) (x3 i) := rfl

/-- The change of the weight is the reference's. -/
theorem final_delta (c : Dev nD) : (dats m 0 c).arrAt 4 cfg0.N
    = val_main_v23 (F := Ideal) (a0 m c) (a1 m c) (a2 m c) (a3 m c) := by
  refine (dats m 0 c).arrAt_eq_of_covers 4 _ (by decide +kernel) fun t hf y => ?_
  blk_simp
  rw [after0_4]
  unfold out0_4
  frame_out
  refine (pay_delta _ _ _ _ _).trans ?_
  obtain ⟨e0, e1, e2, e3⟩ := entry m c
  rw [ref_delta, ← e0, ← e1, ← e2, ← e3]
  congr 1

theorem pay_moment (G M : FVec Ideal S2x64 .f32) (y : S2x64.Idx) :
    k0_pay1 (F := Ideal) G M y = Adamw.moment (G y) (M y) := by
  rw [eq_ix2 y]
  generalize y 0 = p
  generalize y 1 = q
  pointwise [k0_pay3, k0_pay2, k0_pay1]
  rfl

theorem ref_moment (x1 x2 : FVec Ideal S2x64 .f32) (i : S2x64.Idx) :
    val_main_v4 (F := Ideal) x1 x2 i = Adamw.moment (x1 i) (x2 i) := rfl

/-- The new first moment is the reference's. -/
theorem final_moment (c : Dev nD) : (dats m 0 c).arrAt 5 cfg0.N
    = val_main_v4 (F := Ideal) (a1 m c) (a2 m c) := by
  refine (dats m 0 c).arrAt_eq_of_covers 5 _ (by decide +kernel) fun t hf y => ?_
  blk_simp
  rw [after0_5]
  unfold out0_5
  frame_out
  refine (pay_moment _ _ _).trans ?_
  obtain ⟨e0, e1, e2, e3⟩ := entry m c
  rw [ref_moment, ← e1, ← e2]
  congr 1

theorem pay_square (G V : FVec Ideal S2x64 .f32) (y : S2x64.Idx) :
    k0_pay2 (F := Ideal) G V y = Adamw.square (G y) (V y) := by
  rw [eq_ix2 y]
  generalize y 0 = p
  generalize y 1 = q
  pointwise [k0_pay3, k0_pay2, k0_pay1]
  rfl

theorem ref_square (x1 x3 : FVec Ideal S2x64 .f32) (i : S2x64.Idx) :
    val_main_v10 (F := Ideal) x1 x3 i = Adamw.square (x1 i) (x3 i) := rfl

/-- The new second moment is the reference's. -/
theorem final_square (c : Dev nD) : (dats m 0 c).arrAt 6 cfg0.N
    = val_main_v10 (F := Ideal) (a1 m c) (a3 m c) := by
  refine (dats m 0 c).arrAt_eq_of_covers 6 _ (by decide +kernel) fun t hf y => ?_
  blk_simp
  rw [after0_6]
  unfold out0_6
  frame_out
  refine (pay_square _ _ _).trans ?_
  obtain ⟨e0, e1, e2, e3⟩ := entry m c
  rw [ref_square, ← e1, ← e3]
  congr 1

end Cert.AdamwHeadIdeal.Hand

namespace Cert.AdamwHeadClaim

open Idealize.ShloMosaic Idealize.ShloMosaic.TcCoe Idealize.SL.Sem

set_option maxHeartbeats 1600000 in
theorem algebraic : Cert.algebraic_AdamwHeadIdeal_ReferenceAdamwHeadIdeal := by
  pair_intro
  · run_from Cert.AdamwHeadIdeal.Value.run_blocks m g
  · run_from Cert.ReferenceAdamwHeadIdeal.Value.run m' g'
    · rw [Cert.ReferenceAdamwHeadIdeal.Read.val_main_v23_eq]
      exact (Cert.AdamwHeadIdeal.Hand.final_delta m c).symm
    · rw [Cert.ReferenceAdamwHeadIdeal.Read.val_main_v4_eq]
      exact (Cert.AdamwHeadIdeal.Hand.final_moment m c).symm
    · rw [Cert.ReferenceAdamwHeadIdeal.Read.val_main_v10_eq]
      exact (Cert.AdamwHeadIdeal.Hand.final_square m c).symm

theorem quiescent_reference : Cert.quiescent_ReferenceAdamwHeadIdeal := fun m g _ =>
  (θ_run Cert.ReferenceAdamwHeadIdeal.defs _ _).mono
    (fun r h => ⟨fun c => (h c).2.2.2, Idealize.ShloMosaic.sem_eq_zero_of_no_sems (by decide) r.2⟩)
    (Cert.ReferenceAdamwHeadIdeal.Value.run m g)

theorem all : Cert.quiescent_AdamwHead ∧ Cert.quiescent_AdamwHeadIdeal ∧ Cert.quiescent_ReferenceAdamwHeadIdeal
    ∧ Cert.preserves_AdamwHead_AdamwHeadIdeal ∧ Cert.algebraic_AdamwHeadIdeal_ReferenceAdamwHeadIdeal :=
  ⟨fun m g _ => Cert.AdamwHead.Gen.frame m g, fun m g _ => Cert.AdamwHeadIdeal.Gen.frame m g, quiescent_reference, trivial, algebraic⟩

end Cert.AdamwHeadClaim

end
-- ==== Proof.AdamwPool.lean ====
/- The optimiser's step on the weights of shape 2 by 4 by 128 by 128. -/
module

public import proofs.«01_k».proof.Defs
public import proofs.«01_k».proof.Proof.Adamw
public import proofs.«01_k».proof.Proof.Gen.AdamwPool.Frame
public import proofs.«01_k».proof.Proof.Gen.AdamwPoolIdeal.Value
public import proofs.«01_k».proof.Proof.Gen.ReferenceAdamwPoolIdeal.Read
public import proofs.«01_k».proof.Proof.Gen.ReferenceAdamwPoolIdeal.Run
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

namespace Cert.AdamwPoolIdeal.Hand

open Cert.AdamwPoolIdeal Cert.AdamwPoolIdeal.Gen Idealize.ShloMosaic Idealize.ShloMosaic.TcCoe Idealize.SL.Sem
open Idealize.ShloMosaic.Pipeline (Dat)
open Cert.ReferenceAdamwPoolIdeal.Read

variable (m : (ℓ : Loc nD τ sig) → Buf (Elt Ideal) ℓ)

abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)

/-- A weight in rows of its last axis. -/
abbrev rows (x : FVec Ideal S2x4x128x128 .f32) : FVec Ideal S1024x128 .f32 := shapeCast S1024x128 x shapeCasts_S2x4x128x128_S1024x128

/-- The arguments enter the kernel in rows of the last axis. -/
theorem entry (c : Dev nD) : V m c main_v0 = rows (a0 m c) ∧ V m c main_v1 = rows (a1 m c) ∧ V m c main_v2 = rows (a2 m c) ∧ V m c main_v3 = rows (a3 m c) := by
  refine ⟨?_, ?_, ?_, ?_⟩ <;>
  · entry_read
    rfl

theorem pay_delta (G M V W : FVec Ideal S1024x128 .f32) (y : S1024x128.Idx) :
    k0_pay4 (F := Ideal) G M V W y = Adamw.delta (W y) (G y) (M y) (V y) := by
  rw [eq_ix2 y]
  generalize y 0 = p
  generalize y 1 = q
  pointwise [k0_pay4, k0_pay3, k0_pay2, k0_pay1]
  rfl

theorem ref_delta (x0 x1 x2 x3 : FVec Ideal S2x4x128x128 .f32) (i : S1024x128.Idx) :
    val_main_v24 (F := Ideal) x0 x1 x2 x3 i = Adamw.delta (rows x0 i) (rows x1 i) (rows x2 i) (rows x3 i) := rfl

/-- The change of the weight is the reference's. -/
theorem final_delta (c : Dev nD) : (dats m 0 c).arrAt 4 cfg0.N
    = val_main_v24 (F := Ideal) (a0 m c) (a1 m c) (a2 m c) (a3 m c) := by
  refine (dats m 0 c).arrAt_eq_of_covers 4 _ (by decide +kernel) fun t hf y => ?_
  blk_simp
  rw [after0_4]
  unfold out0_4
  frame_out
  refine (pay_delta _ _ _ _ _).trans ?_
  obtain ⟨e0, e1, e2, e3⟩ := entry m c
  rw [ref_delta, ← e0, ← e1, ← e2, ← e3]
  congr 1

theorem pay_moment (G M : FVec Ideal S1024x128 .f32) (y : S1024x128.Idx) :
    k0_pay2 (F := Ideal) G M y = Adamw.moment (G y) (M y) := by
  rw [eq_ix2 y]
  generalize y 0 = p
  generalize y 1 = q
  pointwise [k0_pay4, k0_pay3, k0_pay2, k0_pay1]
  rfl

theorem ref_moment (x1 x2 : FVec Ideal S2x4x128x128 .f32) (i : S1024x128.Idx) :
    val_main_v25 (F := Ideal) x1 x2 i = Adamw.moment (rows x1 i) (rows x2 i) := rfl

/-- The new first moment is the reference's. -/
theorem final_moment (c : Dev nD) : (dats m 0 c).arrAt 5 cfg0.N
    = val_main_v25 (F := Ideal) (a1 m c) (a2 m c) := by
  refine (dats m 0 c).arrAt_eq_of_covers 5 _ (by decide +kernel) fun t hf y => ?_
  blk_simp
  rw [after0_5]
  unfold out0_5
  frame_out
  refine (pay_moment _ _ _).trans ?_
  obtain ⟨e0, e1, e2, e3⟩ := entry m c
  rw [ref_moment, ← e1, ← e2]
  congr 1

theorem pay_square (G V : FVec Ideal S1024x128 .f32) (y : S1024x128.Idx) :
    k0_pay3 (F := Ideal) G V y = Adamw.square (G y) (V y) := by
  rw [eq_ix2 y]
  generalize y 0 = p
  generalize y 1 = q
  pointwise [k0_pay4, k0_pay3, k0_pay2, k0_pay1]
  rfl

theorem ref_square (x1 x3 : FVec Ideal S2x4x128x128 .f32) (i : S1024x128.Idx) :
    val_main_v26 (F := Ideal) x1 x3 i = Adamw.square (rows x1 i) (rows x3 i) := rfl

/-- The new second moment is the reference's. -/
theorem final_square (c : Dev nD) : (dats m 0 c).arrAt 6 cfg0.N
    = val_main_v26 (F := Ideal) (a1 m c) (a3 m c) := by
  refine (dats m 0 c).arrAt_eq_of_covers 6 _ (by decide +kernel) fun t hf y => ?_
  blk_simp
  rw [after0_6]
  unfold out0_6
  frame_out
  refine (pay_square _ _ _).trans ?_
  obtain ⟨e0, e1, e2, e3⟩ := entry m c
  rw [ref_square, ← e1, ← e3]
  congr 1

end Cert.AdamwPoolIdeal.Hand

namespace Cert.AdamwPoolClaim

open Idealize.ShloMosaic Idealize.ShloMosaic.TcCoe Idealize.SL.Sem

set_option maxHeartbeats 1600000 in
theorem algebraic : Cert.algebraic_AdamwPoolIdeal_ReferenceAdamwPoolIdeal := by
  pair_intro
  · run_from Cert.AdamwPoolIdeal.Value.run_blocks m g
  · run_from Cert.ReferenceAdamwPoolIdeal.Value.run m' g'
    · rw [Cert.ReferenceAdamwPoolIdeal.Read.val_main_v24_eq]
      exact (Cert.AdamwPoolIdeal.Hand.final_delta m c).symm
    · rw [Cert.ReferenceAdamwPoolIdeal.Read.val_main_v25_eq]
      exact (Cert.AdamwPoolIdeal.Hand.final_moment m c).symm
    · rw [Cert.ReferenceAdamwPoolIdeal.Read.val_main_v26_eq]
      exact (Cert.AdamwPoolIdeal.Hand.final_square m c).symm

theorem quiescent_reference : Cert.quiescent_ReferenceAdamwPoolIdeal := fun m g _ =>
  (θ_run Cert.ReferenceAdamwPoolIdeal.defs _ _).mono
    (fun r h => ⟨fun c => (h c).2.2.2, Idealize.ShloMosaic.sem_eq_zero_of_no_sems (by decide) r.2⟩)
    (Cert.ReferenceAdamwPoolIdeal.Value.run m g)

theorem all : Cert.quiescent_AdamwPool ∧ Cert.quiescent_AdamwPoolIdeal ∧ Cert.quiescent_ReferenceAdamwPoolIdeal
    ∧ Cert.preserves_AdamwPool_AdamwPoolIdeal ∧ Cert.algebraic_AdamwPoolIdeal_ReferenceAdamwPoolIdeal :=
  ⟨fun m g _ => Cert.AdamwPool.Gen.frame m g, fun m g _ => Cert.AdamwPoolIdeal.Gen.frame m g, quiescent_reference, trivial, algebraic⟩

end Cert.AdamwPoolClaim

end
-- ==== Proof.AdamwWidth.lean ====
/- The optimiser's step on the weights of shape 2 by 128. -/
module

public import proofs.«01_k».proof.Defs
public import proofs.«01_k».proof.Proof.Adamw
public import proofs.«01_k».proof.Proof.Gen.AdamwWidth.Frame
public import proofs.«01_k».proof.Proof.Gen.AdamwWidthIdeal.Value
public import proofs.«01_k».proof.Proof.Gen.ReferenceAdamwWidthIdeal.Read
public import proofs.«01_k».proof.Proof.Gen.ReferenceAdamwWidthIdeal.Run
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

namespace Cert.AdamwWidthIdeal.Hand

open Cert.AdamwWidthIdeal Cert.AdamwWidthIdeal.Gen Idealize.ShloMosaic Idealize.ShloMosaic.TcCoe Idealize.SL.Sem
open Idealize.ShloMosaic.Pipeline (Dat)
open Cert.ReferenceAdamwWidthIdeal.Read

variable (m : (ℓ : Loc nD τ sig) → Buf (Elt Ideal) ℓ)

abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)

/-- The arguments enter the kernel as they are. -/
theorem entry (c : Dev nD) : V m c main_arg0 = a0 m c ∧ V m c main_arg1 = a1 m c ∧ V m c main_arg2 = a2 m c ∧ V m c main_arg3 = a3 m c :=
  ⟨V_main_arg0 m c, V_main_arg1 m c, V_main_arg2 m c, V_main_arg3 m c⟩

theorem pay_delta (G M V W : FVec Ideal S2x128 .f32) (y : S2x128.Idx) :
    k0_pay3 (F := Ideal) G M V W y = Adamw.delta (W y) (G y) (M y) (V y) := by
  rw [eq_ix2 y]
  generalize y 0 = p
  generalize y 1 = q
  pointwise [k0_pay3, k0_pay2, k0_pay1]
  rfl

theorem ref_delta (x0 x1 x2 x3 : FVec Ideal S2x128 .f32) (i : S2x128.Idx) :
    val_main_v23 (F := Ideal) x0 x1 x2 x3 i = Adamw.delta (x0 i) (x1 i) (x2 i) (x3 i) := rfl

/-- The change of the weight is the reference's. -/
theorem final_delta (c : Dev nD) : (dats m 0 c).arrAt 4 cfg0.N
    = val_main_v23 (F := Ideal) (a0 m c) (a1 m c) (a2 m c) (a3 m c) := by
  refine (dats m 0 c).arrAt_eq_of_covers 4 _ (by decide +kernel) fun t hf y => ?_
  blk_simp
  rw [after0_4]
  unfold out0_4
  frame_out
  refine (pay_delta _ _ _ _ _).trans ?_
  obtain ⟨e0, e1, e2, e3⟩ := entry m c
  rw [ref_delta, ← e0, ← e1, ← e2, ← e3]
  congr 1

theorem pay_moment (G M : FVec Ideal S2x128 .f32) (y : S2x128.Idx) :
    k0_pay1 (F := Ideal) G M y = Adamw.moment (G y) (M y) := by
  rw [eq_ix2 y]
  generalize y 0 = p
  generalize y 1 = q
  pointwise [k0_pay3, k0_pay2, k0_pay1]
  rfl

theorem ref_moment (x1 x2 : FVec Ideal S2x128 .f32) (i : S2x128.Idx) :
    val_main_v4 (F := Ideal) x1 x2 i = Adamw.moment (x1 i) (x2 i) := rfl

/-- The new first moment is the reference's. -/
theorem final_moment (c : Dev nD) : (dats m 0 c).arrAt 5 cfg0.N
    = val_main_v4 (F := Ideal) (a1 m c) (a2 m c) := by
  refine (dats m 0 c).arrAt_eq_of_covers 5 _ (by decide +kernel) fun t hf y => ?_
  blk_simp
  rw [after0_5]
  unfold out0_5
  frame_out
  refine (pay_moment _ _ _).trans ?_
  obtain ⟨e0, e1, e2, e3⟩ := entry m c
  rw [ref_moment, ← e1, ← e2]
  congr 1

theorem pay_square (G V : FVec Ideal S2x128 .f32) (y : S2x128.Idx) :
    k0_pay2 (F := Ideal) G V y = Adamw.square (G y) (V y) := by
  rw [eq_ix2 y]
  generalize y 0 = p
  generalize y 1 = q
  pointwise [k0_pay3, k0_pay2, k0_pay1]
  rfl

theorem ref_square (x1 x3 : FVec Ideal S2x128 .f32) (i : S2x128.Idx) :
    val_main_v10 (F := Ideal) x1 x3 i = Adamw.square (x1 i) (x3 i) := rfl

/-- The new second moment is the reference's. -/
theorem final_square (c : Dev nD) : (dats m 0 c).arrAt 6 cfg0.N
    = val_main_v10 (F := Ideal) (a1 m c) (a3 m c) := by
  refine (dats m 0 c).arrAt_eq_of_covers 6 _ (by decide +kernel) fun t hf y => ?_
  blk_simp
  rw [after0_6]
  unfold out0_6
  frame_out
  refine (pay_square _ _ _).trans ?_
  obtain ⟨e0, e1, e2, e3⟩ := entry m c
  rw [ref_square, ← e1, ← e3]
  congr 1

end Cert.AdamwWidthIdeal.Hand

namespace Cert.AdamwWidthClaim

open Idealize.ShloMosaic Idealize.ShloMosaic.TcCoe Idealize.SL.Sem

set_option maxHeartbeats 1600000 in
theorem algebraic : Cert.algebraic_AdamwWidthIdeal_ReferenceAdamwWidthIdeal := by
  pair_intro
  · run_from Cert.AdamwWidthIdeal.Value.run_blocks m g
  · run_from Cert.ReferenceAdamwWidthIdeal.Value.run m' g'
    · rw [Cert.ReferenceAdamwWidthIdeal.Read.val_main_v23_eq]
      exact (Cert.AdamwWidthIdeal.Hand.final_delta m c).symm
    · rw [Cert.ReferenceAdamwWidthIdeal.Read.val_main_v4_eq]
      exact (Cert.AdamwWidthIdeal.Hand.final_moment m c).symm
    · rw [Cert.ReferenceAdamwWidthIdeal.Read.val_main_v10_eq]
      exact (Cert.AdamwWidthIdeal.Hand.final_square m c).symm

theorem quiescent_reference : Cert.quiescent_ReferenceAdamwWidthIdeal := fun m g _ =>
  (θ_run Cert.ReferenceAdamwWidthIdeal.defs _ _).mono
    (fun r h => ⟨fun c => (h c).2.2.2, Idealize.ShloMosaic.sem_eq_zero_of_no_sems (by decide) r.2⟩)
    (Cert.ReferenceAdamwWidthIdeal.Value.run m g)

theorem all : Cert.quiescent_AdamwWidth ∧ Cert.quiescent_AdamwWidthIdeal ∧ Cert.quiescent_ReferenceAdamwWidthIdeal
    ∧ Cert.preserves_AdamwWidth_AdamwWidthIdeal ∧ Cert.algebraic_AdamwWidthIdeal_ReferenceAdamwWidthIdeal :=
  ⟨fun m g _ => Cert.AdamwWidth.Gen.frame m g, fun m g _ => Cert.AdamwWidthIdeal.Gen.frame m g, quiescent_reference, trivial, algebraic⟩

end Cert.AdamwWidthClaim

end
-- ==== Proof.AdamwBias.lean ====
/- The optimiser's step on the weight of shape 2 by 4 by 128. -/
module

public import proofs.«01_k».proof.Defs
public import proofs.«01_k».proof.Proof.Adamw
public import proofs.«01_k».proof.Proof.Gen.AdamwBias.Frame
public import proofs.«01_k».proof.Proof.Gen.AdamwBiasIdeal.Value
public import proofs.«01_k».proof.Proof.Gen.ReferenceAdamwBiasIdeal.Read
public import proofs.«01_k».proof.Proof.Gen.ReferenceAdamwBiasIdeal.Run
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

namespace Cert.AdamwBiasIdeal.Hand

open Cert.AdamwBiasIdeal Cert.AdamwBiasIdeal.Gen Idealize.ShloMosaic Idealize.ShloMosaic.TcCoe Idealize.SL.Sem
open Idealize.ShloMosaic.Pipeline (Dat)
open Cert.ReferenceAdamwBiasIdeal.Read

variable (m : (ℓ : Loc nD τ sig) → Buf (Elt Ideal) ℓ)

abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)

/-- A weight in rows of its last axis. -/
abbrev rows (x : FVec Ideal S2x4x128 .f32) : FVec Ideal S8x128 .f32 := shapeCast S8x128 x shapeCasts_S2x4x128_S8x128

/-- The arguments enter the kernel in rows of the last axis. -/
theorem entry (c : Dev nD) : V m c main_v0 = rows (a0 m c) ∧ V m c main_v1 = rows (a1 m c) ∧ V m c main_v2 = rows (a2 m c) ∧ V m c main_v3 = rows (a3 m c) := by
  refine ⟨?_, ?_, ?_, ?_⟩ <;>
  · entry_read
    rfl

theorem pay_delta (G M V W : FVec Ideal S8x128 .f32) (y : S8x128.Idx) :
    k0_pay4 (F := Ideal) G M V W y = Adamw.delta (W y) (G y) (M y) (V y) := by
  rw [eq_ix2 y]
  generalize y 0 = p
  generalize y 1 = q
  pointwise [k0_pay4, k0_pay3, k0_pay2, k0_pay1]
  rfl

theorem ref_delta (x0 x1 x2 x3 : FVec Ideal S2x4x128 .f32) (i : S8x128.Idx) :
    val_main_v24 (F := Ideal) x0 x1 x2 x3 i = Adamw.delta (rows x0 i) (rows x1 i) (rows x2 i) (rows x3 i) := rfl

/-- The change of the weight is the reference's. -/
theorem final_delta (c : Dev nD) : (dats m 0 c).arrAt 4 cfg0.N
    = val_main_v24 (F := Ideal) (a0 m c) (a1 m c) (a2 m c) (a3 m c) := by
  refine (dats m 0 c).arrAt_eq_of_covers 4 _ (by decide +kernel) fun t hf y => ?_
  blk_simp
  rw [after0_4]
  unfold out0_4
  frame_out
  refine (pay_delta _ _ _ _ _).trans ?_
  obtain ⟨e0, e1, e2, e3⟩ := entry m c
  rw [ref_delta, ← e0, ← e1, ← e2, ← e3]
  congr 1

theorem pay_moment (G M : FVec Ideal S8x128 .f32) (y : S8x128.Idx) :
    k0_pay2 (F := Ideal) G M y = Adamw.moment (G y) (M y) := by
  rw [eq_ix2 y]
  generalize y 0 = p
  generalize y 1 = q
  pointwise [k0_pay4, k0_pay3, k0_pay2, k0_pay1]
  rfl

theorem ref_moment (x1 x2 : FVec Ideal S2x4x128 .f32) (i : S8x128.Idx) :
    val_main_v25 (F := Ideal) x1 x2 i = Adamw.moment (rows x1 i) (rows x2 i) := rfl

/-- The new first moment is the reference's. -/
theorem final_moment (c : Dev nD) : (dats m 0 c).arrAt 5 cfg0.N
    = val_main_v25 (F := Ideal) (a1 m c) (a2 m c) := by
  refine (dats m 0 c).arrAt_eq_of_covers 5 _ (by decide +kernel) fun t hf y => ?_
  blk_simp
  rw [after0_5]
  unfold out0_5
  frame_out
  refine (pay_moment _ _ _).trans ?_
  obtain ⟨e0, e1, e2, e3⟩ := entry m c
  rw [ref_moment, ← e1, ← e2]
  congr 1

theorem pay_square (G V : FVec Ideal S8x128 .f32) (y : S8x128.Idx) :
    k0_pay3 (F := Ideal) G V y = Adamw.square (G y) (V y) := by
  rw [eq_ix2 y]
  generalize y 0 = p
  generalize y 1 = q
  pointwise [k0_pay4, k0_pay3, k0_pay2, k0_pay1]
  rfl

theorem ref_square (x1 x3 : FVec Ideal S2x4x128 .f32) (i : S8x128.Idx) :
    val_main_v26 (F := Ideal) x1 x3 i = Adamw.square (rows x1 i) (rows x3 i) := rfl

/-- The new second moment is the reference's. -/
theorem final_square (c : Dev nD) : (dats m 0 c).arrAt 6 cfg0.N
    = val_main_v26 (F := Ideal) (a1 m c) (a3 m c) := by
  refine (dats m 0 c).arrAt_eq_of_covers 6 _ (by decide +kernel) fun t hf y => ?_
  blk_simp
  rw [after0_6]
  unfold out0_6
  frame_out
  refine (pay_square _ _ _).trans ?_
  obtain ⟨e0, e1, e2, e3⟩ := entry m c
  rw [ref_square, ← e1, ← e3]
  congr 1

end Cert.AdamwBiasIdeal.Hand

namespace Cert.AdamwBiasClaim

open Idealize.ShloMosaic Idealize.ShloMosaic.TcCoe Idealize.SL.Sem

set_option maxHeartbeats 1600000 in
theorem algebraic : Cert.algebraic_AdamwBiasIdeal_ReferenceAdamwBiasIdeal := by
  pair_intro
  · run_from Cert.AdamwBiasIdeal.Value.run_blocks m g
  · run_from Cert.ReferenceAdamwBiasIdeal.Value.run m' g'
    · rw [Cert.ReferenceAdamwBiasIdeal.Read.val_main_v24_eq]
      exact (Cert.AdamwBiasIdeal.Hand.final_delta m c).symm
    · rw [Cert.ReferenceAdamwBiasIdeal.Read.val_main_v25_eq]
      exact (Cert.AdamwBiasIdeal.Hand.final_moment m c).symm
    · rw [Cert.ReferenceAdamwBiasIdeal.Read.val_main_v26_eq]
      exact (Cert.AdamwBiasIdeal.Hand.final_square m c).symm

theorem quiescent_reference : Cert.quiescent_ReferenceAdamwBiasIdeal := fun m g _ =>
  (θ_run Cert.ReferenceAdamwBiasIdeal.defs _ _).mono
    (fun r h => ⟨fun c => (h c).2.2.2, Idealize.ShloMosaic.sem_eq_zero_of_no_sems (by decide) r.2⟩)
    (Cert.ReferenceAdamwBiasIdeal.Value.run m g)

theorem all : Cert.quiescent_AdamwBias ∧ Cert.quiescent_AdamwBiasIdeal ∧ Cert.quiescent_ReferenceAdamwBiasIdeal
    ∧ Cert.preserves_AdamwBias_AdamwBiasIdeal ∧ Cert.algebraic_AdamwBiasIdeal_ReferenceAdamwBiasIdeal :=
  ⟨fun m g _ => Cert.AdamwBias.Gen.frame m g, fun m g _ => Cert.AdamwBiasIdeal.Gen.frame m g, quiescent_reference, trivial, algebraic⟩

end Cert.AdamwBiasClaim

end
-- ==== Proof.AdamwFinal.lean ====
/- The optimiser's step on the weight of shape 1024. -/
module

public import proofs.«01_k».proof.Defs
public import proofs.«01_k».proof.Proof.Adamw
public import proofs.«01_k».proof.Proof.Gen.AdamwFinal.Frame
public import proofs.«01_k».proof.Proof.Gen.AdamwFinalIdeal.Value
public import proofs.«01_k».proof.Proof.Gen.ReferenceAdamwFinalIdeal.Read
public import proofs.«01_k».proof.Proof.Gen.ReferenceAdamwFinalIdeal.Run
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

namespace Cert.AdamwFinalIdeal.Hand

open Cert.AdamwFinalIdeal Cert.AdamwFinalIdeal.Gen Idealize.ShloMosaic Idealize.ShloMosaic.TcCoe Idealize.SL.Sem
open Idealize.ShloMosaic.Pipeline (Dat)
open Cert.ReferenceAdamwFinalIdeal.Read

variable (m : (ℓ : Loc nD τ sig) → Buf (Elt Ideal) ℓ)

abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)

/-- A weight in rows of its last axis. -/
abbrev rows (x : FVec Ideal S1024 .f32) : FVec Ideal S1x1024 .f32 := shapeCast S1x1024 x shapeCasts_S1024_S1x1024

/-- The arguments enter the kernel in rows of the last axis. -/
theorem entry (c : Dev nD) : V m c main_v0 = rows (a0 m c) ∧ V m c main_v1 = rows (a1 m c) ∧ V m c main_v2 = rows (a2 m c) ∧ V m c main_v3 = rows (a3 m c) := by
  refine ⟨?_, ?_, ?_, ?_⟩ <;>
  · entry_read
    rfl

theorem pay_delta (G M V W : FVec Ideal S1x1024 .f32) (y : S1x1024.Idx) :
    k0_pay4 (F := Ideal) G M V W y = Adamw.delta (W y) (G y) (M y) (V y) := by
  rw [eq_ix2 y]
  generalize y 0 = p
  generalize y 1 = q
  pointwise [k0_pay4, k0_pay3, k0_pay2, k0_pay1]
  rfl

theorem ref_delta (x0 x1 x2 x3 : FVec Ideal S1024 .f32) (i : S1x1024.Idx) :
    val_main_v24 (F := Ideal) x0 x1 x2 x3 i = Adamw.delta (rows x0 i) (rows x1 i) (rows x2 i) (rows x3 i) := rfl

/-- The change of the weight is the reference's. -/
theorem final_delta (c : Dev nD) : (dats m 0 c).arrAt 4 cfg0.N
    = val_main_v24 (F := Ideal) (a0 m c) (a1 m c) (a2 m c) (a3 m c) := by
  refine (dats m 0 c).arrAt_eq_of_covers 4 _ (by decide +kernel) fun t hf y => ?_
  blk_simp
  rw [after0_4]
  unfold out0_4
  frame_out
  refine (pay_delta _ _ _ _ _).trans ?_
  obtain ⟨e0, e1, e2, e3⟩ := entry m c
  rw [ref_delta, ← e0, ← e1, ← e2, ← e3]
  congr 1

theorem pay_moment (G M : FVec Ideal S1x1024 .f32) (y : S1x1024.Idx) :
    k0_pay2 (F := Ideal) G M y = Adamw.moment (G y) (M y) := by
  rw [eq_ix2 y]
  generalize y 0 = p
  generalize y 1 = q
  pointwise [k0_pay4, k0_pay3, k0_pay2, k0_pay1]
  rfl

theorem ref_moment (x1 x2 : FVec Ideal S1024 .f32) (i : S1x1024.Idx) :
    val_main_v25 (F := Ideal) x1 x2 i = Adamw.moment (rows x1 i) (rows x2 i) := rfl

/-- The new first moment is the reference's. -/
theorem final_moment (c : Dev nD) : (dats m 0 c).arrAt 5 cfg0.N
    = val_main_v25 (F := Ideal) (a1 m c) (a2 m c) := by
  refine (dats m 0 c).arrAt_eq_of_covers 5 _ (by decide +kernel) fun t hf y => ?_
  blk_simp
  rw [after0_5]
  unfold out0_5
  frame_out
  refine (pay_moment _ _ _).trans ?_
  obtain ⟨e0, e1, e2, e3⟩ := entry m c
  rw [ref_moment, ← e1, ← e2]
  congr 1

theorem pay_square (G V : FVec Ideal S1x1024 .f32) (y : S1x1024.Idx) :
    k0_pay3 (F := Ideal) G V y = Adamw.square (G y) (V y) := by
  rw [eq_ix2 y]
  generalize y 0 = p
  generalize y 1 = q
  pointwise [k0_pay4, k0_pay3, k0_pay2, k0_pay1]
  rfl

theorem ref_square (x1 x3 : FVec Ideal S1024 .f32) (i : S1x1024.Idx) :
    val_main_v26 (F := Ideal) x1 x3 i = Adamw.square (rows x1 i) (rows x3 i) := rfl

/-- The new second moment is the reference's. -/
theorem final_square (c : Dev nD) : (dats m 0 c).arrAt 6 cfg0.N
    = val_main_v26 (F := Ideal) (a1 m c) (a3 m c) := by
  refine (dats m 0 c).arrAt_eq_of_covers 6 _ (by decide +kernel) fun t hf y => ?_
  blk_simp
  rw [after0_6]
  unfold out0_6
  frame_out
  refine (pay_square _ _ _).trans ?_
  obtain ⟨e0, e1, e2, e3⟩ := entry m c
  rw [ref_square, ← e1, ← e3]
  congr 1

end Cert.AdamwFinalIdeal.Hand

namespace Cert.AdamwFinalClaim

open Idealize.ShloMosaic Idealize.ShloMosaic.TcCoe Idealize.SL.Sem

set_option maxHeartbeats 1600000 in
theorem algebraic : Cert.algebraic_AdamwFinalIdeal_ReferenceAdamwFinalIdeal := by
  pair_intro
  · run_from Cert.AdamwFinalIdeal.Value.run_blocks m g
  · run_from Cert.ReferenceAdamwFinalIdeal.Value.run m' g'
    · rw [Cert.ReferenceAdamwFinalIdeal.Read.val_main_v24_eq]
      exact (Cert.AdamwFinalIdeal.Hand.final_delta m c).symm
    · rw [Cert.ReferenceAdamwFinalIdeal.Read.val_main_v25_eq]
      exact (Cert.AdamwFinalIdeal.Hand.final_moment m c).symm
    · rw [Cert.ReferenceAdamwFinalIdeal.Read.val_main_v26_eq]
      exact (Cert.AdamwFinalIdeal.Hand.final_square m c).symm

theorem quiescent_reference : Cert.quiescent_ReferenceAdamwFinalIdeal := fun m g _ =>
  (θ_run Cert.ReferenceAdamwFinalIdeal.defs _ _).mono
    (fun r h => ⟨fun c => (h c).2.2.2, Idealize.ShloMosaic.sem_eq_zero_of_no_sems (by decide) r.2⟩)
    (Cert.ReferenceAdamwFinalIdeal.Value.run m g)

theorem all : Cert.quiescent_AdamwFinal ∧ Cert.quiescent_AdamwFinalIdeal ∧ Cert.quiescent_ReferenceAdamwFinalIdeal
    ∧ Cert.preserves_AdamwFinal_AdamwFinalIdeal ∧ Cert.algebraic_AdamwFinalIdeal_ReferenceAdamwFinalIdeal :=
  ⟨fun m g _ => Cert.AdamwFinal.Gen.frame m g, fun m g _ => Cert.AdamwFinalIdeal.Gen.frame m g, quiescent_reference, trivial, algebraic⟩

end Cert.AdamwFinalClaim

end
-- ==== Proof.LossRow.lean ====
/- The loss of one row and its derivatives, and running sums over the grid's points. -/
module

public import proofs.«01_k».proof.Proof.Reals
public import Idealize.ShloMosaic.Lib.Pointwise

@[expose] public section

set_option maxRecDepth 16384

noncomputable section

namespace Cert.LossRow

open Idealize.ShloMosaic Cert.Reals

/-- A row's entry divided by the row's root mean square. -/
def unit (x : Fin 1024 → EReal) (q : Fin 1024) : EReal :=
  x q * Ideal.rsqrt (Ideal.div (∑ j : Fin 1024, x j * x j) (Ideal.ofBits .f32 0x44800000#32) + Ideal.ofBits .f32 0x358637BD#32)

/-- How far the normed row's entry is from the target's. -/
def err (x g y : Fin 1024 → EReal) (q : Fin 1024) : EReal := unit x q * g q - y q

/-- The row's mean squared error. -/
def mean (x g y : Fin 1024 → EReal) : EReal :=
  Ideal.div (∑ j : Fin 1024, err x g y j * err x g y j) (Ideal.ofBits .f32 0x44800000#32)

/-- The f32 pattern of the reciprocal width. -/
theorem width_inv : Ideal.ofBits .f32 0x3A800000#32 = (((1 / 1024 : ℝ) : ℝ) : EReal) := by
  simp [Ideal.ofBits, Ideal.ieee, -EReal.coe_mul]; norm_num

/-- The derivative of one half of the mean of squares: the reference's constants make the kernel's reciprocal width. -/
theorem slope (e : EReal) : Ideal.div (Ideal.ofBits .f32 0x3F000000#32 * Ideal.ofBits .f32 0x3F800000#32) (Ideal.ofBits .f32 0x44800000#32)
    * (Ideal.ofBits .f32 0x40000000#32 * e) = e * Ideal.ofBits .f32 0x3A800000#32 := by
  have h2 : Ideal.ofBits .f32 0x40000000#32 = ((2 : ℝ) : EReal) := by
    simp [Ideal.ofBits, Ideal.ieee, -EReal.coe_mul]; norm_num
  rw [Ideal.ofBits_one_f32, mul_one, Cert.Sums.half_eq, width_eq, Ideal.div_coe (by norm_num), h2, width_inv, ← mul_assoc, mul_comm e,
    ← EReal.coe_mul, ← EReal.coe_mul]
  congr 2
  norm_num

/-- What each point adds to what the point before left: the sum so far. -/
theorem running_sum {N : ℕ} (f : (n : ℕ) → n < N → EReal) (part : ℕ → EReal) (h0 : ∀ h, f 0 h = part 0)
    (hs : ∀ n (h : n + 1 < N), f (n + 1) h = f n (Nat.lt_of_succ_lt h) + part (n + 1)) :
    ∀ n (h : n < N), f n h = ∑ s ∈ Finset.range (n + 1), part s := by
  intro n
  induction n with
  | zero => intro h; simp [h0 h]
  | succ n ih => intro h; rw [Finset.sum_range_succ, ← ih (Nat.lt_of_succ_lt h), hs n h]

/-- The sum of the parts of the eight tiles, each a sum over its 512 rows, is the sum over all rows. -/
theorem tiles_sum (row : Fin 4096 → EReal) :
    ∑ s ∈ Finset.range 8, (if hs : s < 8 then ∑ k : Fin 512, row ⟨s * 512 + k.val, by omega⟩ else 0) = ∑ p : Fin 4096, row p := by
  rw [Finset.sum_range]
  have hs : ∀ s : Fin 8, (if hs : s.val < 8 then ∑ k : Fin 512, row ⟨s.val * 512 + k.val, by omega⟩ else 0)
      = ∑ k : Fin 512, row ⟨s.val * 512 + k.val, by omega⟩ := fun s => dif_pos s.isLt
  refine (Finset.sum_congr rfl fun s _ => hs s).trans ?_
  refine Fin.sum_mul_add_congr fun s k hk => ?_
  congr 1

end Cert.LossRow

end
-- ==== Proof.LossValue.lean ====
/- The loss and the gradient of the last gain: what the kernel leaves in its two result rows is the reference's value. The
   kernel adds tile after tile of tokens; the reference sums all tokens at once. -/
module

public import proofs.«01_k».proof.Proof.Gen.LossIdeal.Value
public import proofs.«01_k».proof.Proof.Gen.ReferenceLossIdeal.Read
public import proofs.«01_k».proof.Proof.LossRow
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

namespace Cert.LossIdeal.Hand

open Cert.LossIdeal Cert.LossIdeal.Gen Idealize.ShloMosaic Idealize.ShloMosaic.TcCoe Idealize.SL.Sem
open Idealize.ShloMosaic.Pipeline (Dat)
open Cert.ReferenceLossIdeal.Read Cert.Reals

variable (m : (ℓ : Loc nD τ sig) → Buf (Elt Ideal) ℓ)

abbrev a0 (c : Dev nD) : FVec Ideal S4096x1024 .f32 := m ((c.tc : Thread nD τ).loc main_arg0)
abbrev a1 (c : Dev nD) : FVec Ideal S1024 .f32 := m ((c.tc : Thread nD τ).loc main_arg1)
abbrev a2 (c : Dev nD) : FVec Ideal S4096x1024 .f32 := m ((c.tc : Thread nD τ).loc main_arg2)

/-- The block indices of the seven windows at each grid point. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![0, 0] ∧ win0_6.index t = ![t.val, 0] :=
  (by decide +kernel : ∀ t : Fin grid0.N, _)

/-- The gain enters the region as one row. -/
theorem entry_g (c : Dev nD) : V m c main_v0 = (shapeCast S1x1024 (a1 m c) shapeCasts_S1024_S1x1024 : FVec Ideal S1x1024 .f32) := by
  entry_read
  rfl

theorem blk_x (c : Dev nD) (t : Fin cfg0.N) (k : Fin 512) (p : Fin 4096) (hp : (p : ℕ) = t.val * 512 + k) :
    (fun q => (iblk m c 0 t : FVec Ideal S512x1024 .f32) (ix2 k q)) = fun q => a0 m c (ix2 p q) := by
  funext q
  have : a0 m c (ix2 p q) = (V m c main_arg0 : FVec Ideal S4096x1024 .f32) (ix2 p q) := by rw [V_main_arg0]
  rw [this]
  blk_ext [iblk, idx t]

theorem blk_g (c : Dev nD) (t : Fin cfg0.N) :
    (fun q => (iblk m c 1 t : FVec Ideal S1x1024 .f32) (ix2 (0 : Fin 1) q)) = fun q => a1 m c (ix1 q) := by
  funext q
  have : a1 m c (ix1 q) = (V m c main_v0 : FVec Ideal S1x1024 .f32) (ix2 (0 : Fin 1) q) := by
    rw [entry_g]; generalize a1 m c = g; pointwise
  rw [this]
  blk_ext [iblk, idx t]

theorem blk_y (c : Dev nD) (t : Fin cfg0.N) (k : Fin 512) (p : Fin 4096) (hp : (p : ℕ) = t.val * 512 + k) :
    (fun q => (iblk m c 2 t : FVec Ideal S512x1024 .f32) (ix2 k q)) = fun q => a2 m c (ix2 p q) := by
  funext q
  have : a2 m c (ix2 p q) = (V m c main_arg2 : FVec Ideal S4096x1024 .f32) (ix2 p q) := by rw [V_main_arg2]
  rw [this]
  blk_ext [iblk, idx t]

/-- What a tile adds to the loss, in every lane. -/
theorem stored_l (X : FVec Ideal S512x1024 .f32) (G : FVec Ideal S1x1024 .f32) (Y : FVec Ideal S512x1024 .f32) (l : Fin 128) :
    k0_pay3 (F := Ideal) (k0_pay10 X G Y) (ix2 (0 : Fin 1) l) = Ideal.ofBits .f32 0x3F000000#32
      * ∑ k : Fin 512, LossRow.mean (fun j => X (ix2 k j)) (fun j => G (ix2 (0 : Fin 1) j)) (fun j => Y (ix2 k j)) := by
  unfold LossRow.mean LossRow.err LossRow.unit
  pointwise [k0_pay3, k0_pay10, k0_pay9, k0_pay8, k0_pay7, k0_pay6]

/-- What a tile adds to the gain's gradient. -/
theorem stored_g (X : FVec Ideal S512x1024 .f32) (G : FVec Ideal S1x1024 .f32) (Y : FVec Ideal S512x1024 .f32) (q : Fin 1024) :
    k0_pay2 (F := Ideal) (k0_pay7 X) (k0_pay11 X G Y) (ix2 (0 : Fin 1) q)
      = ∑ k : Fin 512, LossRow.err (fun j => X (ix2 k j)) (fun j => G (ix2 (0 : Fin 1) j)) (fun j => Y (ix2 k j)) q
          * Ideal.ofBits .f32 0x3A800000#32 * LossRow.unit (fun j => X (ix2 k j)) q := by
  unfold LossRow.err LossRow.unit
  pointwise [k0_pay2, k0_pay11, k0_pay9, k0_pay8, k0_pay7, k0_pay6]

theorem added_l (A : FVec Ideal S1x1 .f32) (B : FVec Ideal S1x128 .f32) (i : S1x128.Idx) :
    k0_pay5 (F := Ideal) A B i = B i + k0_pay3 A i := by
  pointwise [k0_pay5]

theorem added_g (X Y : FVec Ideal S512x1024 .f32) (B : FVec Ideal S1x1024 .f32) (i : S1x1024.Idx) :
    k0_pay4 (F := Ideal) X Y B i = B i + k0_pay2 X Y i := by
  pointwise [k0_pay4]

/-- The reference's loss, in every lane. -/
theorem loss_ref (x0 : FVec Ideal S4096x1024 .f32) (x1 : FVec Ideal S1024 .f32) (x2 : FVec Ideal S4096x1024 .f32) (l : Fin 128) :
    val_main_v32 (F := Ideal) x0 x1 x2 (ix2 (0 : Fin 1) l) = Ideal.ofBits .f32 0x3F000000#32
      * ∑ p : Fin 4096, LossRow.mean (fun j => x0 (ix2 p j)) (fun j => x1 (ix1 j)) (fun j => x2 (ix2 p j)) := by
  unfold LossRow.mean LossRow.err LossRow.unit
  unfold val_main_v32 val_main_v21 val_main_cst_6 val_main_v20 val_main_cst_5 val_main_v19 val_main_v18 val_main_cst_4 val_main_v17 val_main_cst_3 val_main_v14 val_main_v13 val_main_v12 val_main_v11 val_main_v10 val_main_v9 val_main_v8 val_main_v7 val_main_v6 val_main_v5 val_main_cst_1 val_main_v4 val_main_v3 val_main_cst_0 val_main_v2 val_main_v1 val_main_cst val_main_v0
  pointwise

/-- The reference's gradient of the gain. -/
theorem gain_ref (x0 : FVec Ideal S4096x1024 .f32) (x1 : FVec Ideal S1024 .f32) (x2 : FVec Ideal S4096x1024 .f32) (q : Fin 1024) :
    val_main_v33 (F := Ideal) x0 x1 x2 (ix2 (0 : Fin 1) q)
      = ∑ p : Fin 4096, LossRow.err (fun j => x0 (ix2 p j)) (fun j => x1 (ix1 j)) (fun j => x2 (ix2 p j)) q
          * Ideal.ofBits .f32 0x3A800000#32 * LossRow.unit (fun j => x0 (ix2 p j)) q := by
  simp only [← LossRow.slope]
  unfold LossRow.err LossRow.unit
  unfold val_main_v33 val_main_v31 val_main_cst_11 val_main_v30 val_main_v29 val_main_cst_10 val_main_v28 val_main_v27 val_main_v26 val_main_v25 val_main_v24 val_main_cst_9 val_main_v23 val_main_v22 val_main_cst_8 val_main_cst_7 val_main_v16 val_main_v15 val_main_cst_2 val_main_v13 val_main_v12 val_main_v11 val_main_v10 val_main_v9 val_main_v8 val_main_v7 val_main_v6 val_main_v5 val_main_cst_1 val_main_v4 val_main_v3 val_main_cst_0 val_main_v2 val_main_v1 val_main_cst val_main_v0
  pointwise
  refine (Fin.sum_univ_one _).trans (Finset.sum_congr rfl fun p _ => ?_)
  exact mul_comm _ _

/-- One token's part of the loss. -/
def row_l (c : Dev nD) (p : Fin 4096) : EReal := Ideal.ofBits .f32 0x3F000000#32
  * LossRow.mean (fun j => a0 m c (ix2 p j)) (fun j => a1 m c (ix1 j)) (fun j => a2 m c (ix2 p j))

/-- One token's part of the gain's gradient. -/
def row_g (c : Dev nD) (q : Fin 1024) (p : Fin 4096) : EReal :=
  LossRow.err (fun j => a0 m c (ix2 p j)) (fun j => a1 m c (ix1 j)) (fun j => a2 m c (ix2 p j)) q
    * Ideal.ofBits .f32 0x3A800000#32 * LossRow.unit (fun j => a0 m c (ix2 p j)) q

/-- The tile's part of the loss, by the number of the tile. -/
def part_l (c : Dev nD) (s : ℕ) : EReal :=
  if hs : s < 8 then ∑ k : Fin 512, row_l m c ⟨s * 512 + k.val, by omega⟩ else 0

/-- The tile's part of the gain's gradient. -/
def part_g (c : Dev nD) (q : Fin 1024) (s : ℕ) : EReal :=
  if hs : s < 8 then ∑ k : Fin 512, row_g m c q ⟨s * 512 + k.val, by omega⟩ else 0

theorem tile_l (c : Dev nD) (t : Fin cfg0.N) (l : Fin 128) :
    k0_pay3 (F := Ideal) (k0_pay10 (iblk m c 0 t) (iblk m c 1 t) (iblk m c 2 t)) (ix2 (0 : Fin 1) l) = part_l m c t.val := by
  have ht : t.val < 8 := lt_of_lt_of_eq t.isLt N_0
  unfold part_l
  rw [dif_pos ht, stored_l, Cert.Sums.half_mul_sum]
  refine Finset.sum_congr rfl fun k _ => ?_
  rw [blk_x m c t k ⟨t.val * 512 + k.val, by omega⟩ rfl, blk_g m c t, blk_y m c t k ⟨t.val * 512 + k.val, by omega⟩ rfl]
  rfl

theorem tile_g (c : Dev nD) (t : Fin cfg0.N) (q : Fin 1024) :
    k0_pay2 (F := Ideal) (k0_pay7 (iblk m c 0 t)) (k0_pay11 (iblk m c 0 t) (iblk m c 1 t) (iblk m c 2 t)) (ix2 (0 : Fin 1) q) = part_g m c q t.val := by
  have ht : t.val < 8 := lt_of_lt_of_eq t.isLt N_0
  unfold part_g
  rw [dif_pos ht, stored_g]
  refine Finset.sum_congr rfl fun k _ => ?_
  rw [blk_x m c t k ⟨t.val * 512 + k.val, by omega⟩ rfl, blk_g m c t, blk_y m c t k ⟨t.val * 512 + k.val, by omega⟩ rfl]
  rfl

/-- The loss after each point is the sum of the parts so far. -/
theorem sum_l (c : Dev nD) (l : Fin 128) : ∀ n (h : n < cfg0.N), (outsAt0 m c n h).2.2.1 (ix2 (0 : Fin 1) l) = ∑ s ∈ Finset.range (n + 1), part_l m c s :=
  LossRow.running_sum (fun n h => (outsAt0 m c n h).2.2.1 (ix2 (0 : Fin 1) l)) _
    (fun h => by
      rw [outsAt0_A m c ⟨0, h⟩ rfl (by dsimp only; omega), ← tile_l m c ⟨0, h⟩ l]
      frame_out)
    (fun n h => by
      have h8 : n + 1 < 8 := lt_of_lt_of_eq h N_0
      rw [outsAt0_B m c ⟨n + 1, h⟩ (by dsimp only; omega) (by dsimp only; omega), ← tile_l m c ⟨n + 1, h⟩ l]
      frame_out
      rw [added_l]
      rfl)

/-- The gain's gradient after each point is the sum of the parts so far. -/
theorem sum_g (c : Dev nD) (q : Fin 1024) : ∀ n (h : n < cfg0.N), (outsAt0 m c n h).2.1 (ix2 (0 : Fin 1) q) = ∑ s ∈ Finset.range (n + 1), part_g m c q s :=
  LossRow.running_sum (fun n h => (outsAt0 m c n h).2.1 (ix2 (0 : Fin 1) q)) _
    (fun h => by
      rw [outsAt0_A m c ⟨0, h⟩ rfl (by dsimp only; omega), ← tile_g m c ⟨0, h⟩ q]
      frame_out)
    (fun n h => by
      have h8 : n + 1 < 8 := lt_of_lt_of_eq h N_0
      rw [outsAt0_B m c ⟨n + 1, h⟩ (by dsimp only; omega) (by dsimp only; omega), ← tile_g m c ⟨n + 1, h⟩ q]
      frame_out
      rw [added_g]
      rfl)

/-- The loss after the run is the reference's. -/
theorem final_l (c : Dev nD) : (dats m 0 c).arrAt 5 cfg0.N = val_main_v32 (F := Ideal) (a0 m c) (a1 m c) (a2 m c) := by
  refine (dats m 0 c).arrAt_eq_of_covers 5 _ (by decide +kernel) fun t hf y => ?_
  have h8 : t.val < 8 := lt_of_lt_of_eq t.isLt N_0
  have h7 : t.val = 7 := by have := (flush0_5 t).mp hf; omega
  blk_simp
  rw [after0_5]
  have hy : y = ix2 (0 : Fin 1) (⟨(y 1).val, (y 1).isLt⟩ : Fin 128) := by blk_ext
  generalize (⟨(y 1).val, (y 1).isLt⟩ : Fin 128) = q at hy
  subst hy
  have he : (win0_5.blk t).view.emb (ix2 (0 : Fin 1) q) = ix2 (0 : Fin 1) q := by blk_ext [idx t]
  refine Eq.trans ?_ (congrArg (val_main_v32 (F := Ideal) (a0 m c) (a1 m c) (a2 m c)) he).symm
  obtain rfl : t = ⟨7, lt_of_lt_of_eq (by norm_num) N_0.symm⟩ := Fin.ext h7
  refine (sum_l m c q 7 _).trans ?_
  rw [loss_ref, Cert.Sums.half_mul_sum]
  exact LossRow.tiles_sum (row_l m c)

/-- The gain's gradient after the run is the reference's. -/
theorem final_g (c : Dev nD) : (dats m 0 c).arrAt 4 cfg0.N = val_main_v33 (F := Ideal) (a0 m c) (a1 m c) (a2 m c) := by
  refine (dats m 0 c).arrAt_eq_of_covers 4 _ (by decide +kernel) fun t hf y => ?_
  have h8 : t.val < 8 := lt_of_lt_of_eq t.isLt N_0
  have h7 : t.val = 7 := by have := (flush0_4 t).mp hf; omega
  blk_simp
  rw [after0_4]
  have hy : y = ix2 (0 : Fin 1) (⟨(y 1).val, (y 1).isLt⟩ : Fin 1024) := by blk_ext
  generalize (⟨(y 1).val, (y 1).isLt⟩ : Fin 1024) = q at hy
  subst hy
  have he : (win0_4.blk t).view.emb (ix2 (0 : Fin 1) q) = ix2 (0 : Fin 1) q := by blk_ext [idx t]
  refine Eq.trans ?_ (congrArg (val_main_v33 (F := Ideal) (a0 m c) (a1 m c) (a2 m c)) he).symm
  obtain rfl : t = ⟨7, lt_of_lt_of_eq (by norm_num) N_0.symm⟩ := Fin.ext h7
  refine (sum_g m c q 7 _).trans ?_
  rw [gain_ref]
  exact LossRow.tiles_sum (row_g m c q)

end Cert.LossIdeal.Hand

end
-- ==== Proof.LossClaim.lean ====
/- The claims about the loss and the gradient of the last gain. -/
module

public import proofs.«01_k».proof.Defs
public import proofs.«01_k».proof.Proof.Gen.Loss.Frame
public import proofs.«01_k».proof.Proof.LossValue
public import proofs.«01_k».proof.Proof.Gen.ReferenceLossIdeal.Run

@[expose] public section

set_option maxRecDepth 16384

noncomputable section

namespace Cert.LossClaim

open Idealize.ShloMosaic Idealize.ShloMosaic.TcCoe Idealize.SL.Sem

set_option maxHeartbeats 1600000 in
theorem algebraic : Cert.algebraic_LossIdeal_ReferenceLossIdeal := by
  pair_intro
  · run_from Cert.LossIdeal.Value.run_blocks m g
  · run_from Cert.ReferenceLossIdeal.Value.run m' g'
    · rw [Cert.ReferenceLossIdeal.Read.val_main_v32_eq]
      exact (Cert.LossIdeal.Hand.final_l m c).symm
    · rw [Cert.ReferenceLossIdeal.Read.val_main_v33_eq]
      exact (Cert.LossIdeal.Hand.final_g m c).symm

theorem quiescent_reference : Cert.quiescent_ReferenceLossIdeal := fun m g _ =>
  (θ_run Cert.ReferenceLossIdeal.defs _ _).mono
    (fun r h => ⟨fun c => (h c).2.2, Idealize.ShloMosaic.sem_eq_zero_of_no_sems (by decide) r.2⟩)
    (Cert.ReferenceLossIdeal.Value.run m g)

theorem all : Cert.quiescent_Loss ∧ Cert.quiescent_LossIdeal ∧ Cert.quiescent_ReferenceLossIdeal
    ∧ Cert.preserves_Loss_LossIdeal ∧ Cert.algebraic_LossIdeal_ReferenceLossIdeal :=
  ⟨fun m g _ => Cert.Loss.Gen.frame m g, fun m g _ => Cert.LossIdeal.Gen.frame m g, quiescent_reference, trivial, algebraic⟩

end Cert.LossClaim

end
-- ==== Proof.LossDxValue.lean ====
/- The loss's gradient with respect to its rows: what the kernel leaves in its two result arrays is the reference's value. -/
module

public import proofs.«01_k».proof.Proof.Gen.LossDxIdeal.Value
public import proofs.«01_k».proof.Proof.Gen.ReferenceLossDxIdeal.Read
public import proofs.«01_k».proof.Proof.LossRow
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

namespace Cert.LossDxIdeal.Hand

open Cert.LossDxIdeal Cert.LossDxIdeal.Gen Idealize.ShloMosaic Idealize.ShloMosaic.TcCoe Idealize.SL.Sem
open Idealize.ShloMosaic.Pipeline (Dat)
open Cert.ReferenceLossDxIdeal.Read Cert.Reals

variable (m : (ℓ : Loc nD τ sig) → Buf (Elt Ideal) ℓ)

abbrev a0 (c : Dev nD) : FVec Ideal S4096x1024 .f32 := m ((c.tc : Thread nD τ).loc main_arg0)
abbrev a1 (c : Dev nD) : FVec Ideal S1024 .f32 := m ((c.tc : Thread nD τ).loc main_arg1)
abbrev a2 (c : Dev nD) : FVec Ideal S4096x1024 .f32 := m ((c.tc : Thread nD τ).loc main_arg2)

/-- The block indices of the seven windows at each grid point. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![0, 0] ∧ win0_6.index t = ![t.val, 0] :=
  (by decide +kernel : ∀ t : Fin grid0.N, _)

/-- The gain enters the region as one row. -/
theorem entry_g (c : Dev nD) : V m c main_v0 = (shapeCast S1x1024 (a1 m c) shapeCasts_S1024_S1x1024 : FVec Ideal S1x1024 .f32) := by
  entry_read
  rfl

theorem blk_x (c : Dev nD) (t : Fin cfg0.N) (k : Fin 512) (p : Fin 4096) (hp : (p : ℕ) = t.val * 512 + k) :
    (fun q => (iblk m c 0 t : FVec Ideal S512x1024 .f32) (ix2 k q)) = fun q => a0 m c (ix2 p q) := by
  funext q
  have : a0 m c (ix2 p q) = (V m c main_arg0 : FVec Ideal S4096x1024 .f32) (ix2 p q) := by rw [V_main_arg0]
  rw [this]
  blk_ext [iblk, idx t]

theorem blk_g (c : Dev nD) (t : Fin cfg0.N) :
    (fun q => (iblk m c 1 t : FVec Ideal S1x1024 .f32) (ix2 (0 : Fin 1) q)) = fun q => a1 m c (ix1 q) := by
  funext q
  have : a1 m c (ix1 q) = (V m c main_v0 : FVec Ideal S1x1024 .f32) (ix2 (0 : Fin 1) q) := by
    rw [entry_g]; generalize a1 m c = g; pointwise
  rw [this]
  blk_ext [iblk, idx t]

theorem blk_y (c : Dev nD) (t : Fin cfg0.N) (k : Fin 512) (p : Fin 4096) (hp : (p : ℕ) = t.val * 512 + k) :
    (fun q => (iblk m c 2 t : FVec Ideal S512x1024 .f32) (ix2 k q)) = fun q => a2 m c (ix2 p q) := by
  funext q
  have : a2 m c (ix2 p q) = (V m c main_arg2 : FVec Ideal S4096x1024 .f32) (ix2 p q) := by rw [V_main_arg2]
  rw [this]
  blk_ext [iblk, idx t]

/-- What the kernel stores of the gradient. -/
theorem stored (X : FVec Ideal S512x1024 .f32) (G : FVec Ideal S1x1024 .f32) (Y : FVec Ideal S512x1024 .f32) (k : Fin 512) (q : Fin 1024)
    (x g y D : Fin 1024 → EReal) (r : EReal)
    (hx : (fun j => X (ix2 k j)) = x) (hg : (fun j => G (ix2 (0 : Fin 1) j)) = g) (hy : (fun j => Y (ix2 k j)) = y)
    (hD : (fun j => LossRow.err x g y j * Ideal.ofBits .f32 0x3A800000#32) = D)
    (hr : r = Ideal.rsqrt (Ideal.div (∑ j : Fin 1024, x j * x j) (Ideal.ofBits .f32 0x44800000#32) + Ideal.ofBits .f32 0x358637BD#32)) :
    k0_pay12 (F := Ideal) X G Y (ix2 k q)
      = r * (D q * g q - x q * r * Ideal.div (∑ j : Fin 1024, D j * g j * (x j * r)) (Ideal.ofBits .f32 0x44800000#32)) := by
  subst hD hx hg hy hr
  unfold LossRow.err LossRow.unit
  pointwise [k0_pay12, k0_pay11, k0_pay9, k0_pay8, k0_pay7, k0_pay6]

theorem stored_lo (Z : FVec Ideal S512x1024 .f32) (i : S512x1024.Idx) : k0_pay1 (F := Ideal) Z i = Z i := rfl

/-- The reference's gradient at the normed rows. -/
theorem slope_ref (x0 : FVec Ideal S4096x1024 .f32) (x1 : FVec Ideal S1024 .f32) (x2 : FVec Ideal S4096x1024 .f32) (p : Fin 4096) (q : Fin 1024) :
    val_main_v30 (F := Ideal) x0 x1 x2 (ix2 p q)
      = LossRow.err (fun j => x0 (ix2 p j)) (fun j => x1 (ix1 j)) (fun j => x2 (ix2 p j)) q * Ideal.ofBits .f32 0x3A800000#32 := by
  rw [← LossRow.slope]
  unfold LossRow.err LossRow.unit
  unfold val_main_v30 val_main_v29 val_main_v28 val_main_v27 val_main_cst_10 val_main_v26 val_main_v25 val_main_cst_9 val_main_cst_8 val_main_v19 val_main_v18 val_main_cst_3 val_main_v16 val_main_v15 val_main_v14 val_main_v13 val_main_v12 val_main_v11 val_main_v7 val_main_v6 val_main_v5 val_main_cst_1 val_main_v4 val_main_v3 val_main_cst_0 val_main_v2 val_main_v1 val_main_cst val_main_v0
  pointwise

/-- The reference's gradient of the rows. -/
theorem dx_ref (x0 : FVec Ideal S4096x1024 .f32) (x1 : FVec Ideal S1024 .f32) (x2 : FVec Ideal S4096x1024 .f32) (p : Fin 4096) (q : Fin 1024)
    (D : FVec Ideal S4096x1024 .f32) (hD : val_main_v30 (F := Ideal) x0 x1 x2 = D) (ms r w : EReal)
    (hms : ms = Ideal.div (∑ j : Fin 1024, x0 (ix2 p j) * x0 (ix2 p j)) (Ideal.ofBits .f32 0x44800000#32) + Ideal.ofBits .f32 0x358637BD#32)
    (hr : r = Ideal.rsqrt ms)
    (hw : w = Ideal.div ((∑ j : Fin 1024, x0 (ix2 p j) * (D (ix2 p j) * x1 (ix1 j))) * (Ideal.ofBits .f32 0xBF000000#32 * Ideal.div r ms)) (Ideal.ofBits .f32 0x44800000#32)) :
    val_main_v46 (F := Ideal) x0 x1 x2 (ix2 p q) = D (ix2 p q) * x1 (ix1 q) * r + x0 (ix2 p q) * w + w * x0 (ix2 p q) := by
  unfold val_main_v46 val_main_v45 val_main_v44 val_main_v43 val_main_v42 val_main_v41 val_main_cst_13 val_main_v40 val_main_v39 val_main_cst_12 val_main_v38 val_main_v37 val_main_v36 val_main_v35 val_main_v34 val_main_cst_11 val_main_v33 val_main_v32 val_main_v31
  rw [hD]
  clear hD
  unfold val_main_v13 val_main_v10 val_main_v9 val_main_cst_2 val_main_v8 val_main_v7 val_main_v6 val_main_v5 val_main_cst_1 val_main_v4 val_main_v3 val_main_cst_0 val_main_v2 val_main_v1 val_main_cst val_main_v0
  pointwise
  rw [hw, hr, hms]
  simp only [Fin.sum_univ_one]

/-- What the kernel stores of the gradient is the reference's. -/
theorem point (c : Dev nD)
    (t : Fin cfg0.N) (k : Fin 512) (q : Fin 1024) (p : Fin 4096) (hp : (p : ℕ) = t.val * 512 + k) :
    k0_pay12 (F := Ideal) (iblk m c 0 t) (iblk m c 1 t) (iblk m c 2 t) (ix2 k q)
      = val_main_v46 (F := Ideal) (a0 m c) (a1 m c) (a2 m c) (ix2 p q) := by
  refine (stored _ _ _ k q _ _ _ (fun j => val_main_v30 (F := Ideal) (a0 m c) (a1 m c) (a2 m c) (ix2 p j)) _ (blk_x m c t k p hp) (blk_g m c t) (blk_y m c t k p hp)
    (funext fun j => (slope_ref _ _ _ p j).symm) rfl).trans ?_
  refine Eq.trans ?_ (dx_ref (a0 m c) (a1 m c) (a2 m c) p q _ rfl _ _ _ rfl rfl rfl).symm
  have key := norm_row (fun j => a0 m c (ix2 p j)) (fun j => a1 m c (ix1 j)) (fun j => val_main_v30 (F := Ideal) (a0 m c) (a1 m c) (a2 m c) (ix2 p j))
    0 q _ _ _ rfl rfl rfl
  rw [zero_add, zero_add] at key
  exact key

/-- What each point leaves of the gradient and of its rounded copy. -/
theorem out_x (c : Dev nD) (t : Fin cfg0.N) (i : S512x1024.Idx) : (outsAt0 m c t.val t.isLt).1 i
    = k0_pay12 (F := Ideal) (iblk m c 0 t) (iblk m c 1 t) (iblk m c 2 t) i := by
  by_cases h : t.val % 8 = 0
  · rw [outsAt0_A m c t h (by have := lt_of_lt_of_eq t.isLt N_0; omega)]
    frame_out
  · rw [outsAt0_B m c t h (by omega)]
    frame_out

theorem out_lo (c : Dev nD) (t : Fin cfg0.N) (i : S512x1024.Idx) : (outsAt0 m c t.val t.isLt).2.2.2 i
    = k0_pay12 (F := Ideal) (iblk m c 0 t) (iblk m c 1 t) (iblk m c 2 t) i := by
  by_cases h : t.val % 8 = 0
  · rw [outsAt0_A m c t h (by have := lt_of_lt_of_eq t.isLt N_0; omega)]
    frame_out
    rfl
  · rw [outsAt0_B m c t h (by omega)]
    frame_out
    rfl

/-- The gradient after the run is the reference's. -/
theorem final_x (c : Dev nD) :
    (dats m 0 c).arrAt 3 cfg0.N = val_main_v46 (F := Ideal) (a0 m c) (a1 m c) (a2 m c) := by
  refine (dats m 0 c).arrAt_eq_of_covers 3 _ (by decide +kernel) fun t hf y => ?_
  have ht : t.val < 8 := lt_of_lt_of_eq t.isLt N_0
  have y0 : (y 0).val < 512 := (y 0).isLt
  blk_simp
  rw [after0_3, out_x m c t]
  have hy : y = ix2 (⟨(y 0).val, (y 0).isLt⟩ : Fin 512) (⟨(y 1).val, (y 1).isLt⟩ : Fin 1024) := by blk_ext
  rw [hy]
  refine (point m c t _ _ (⟨t.val * 512 + (y 0).val, by omega⟩ : Fin 4096) rfl).trans ?_
  congr 1
  blk_ext [idx t]

/-- So is the rounded copy. -/
theorem final_lo (c : Dev nD) :
    (dats m 0 c).arrAt 6 cfg0.N = val_main_v47 (F := Ideal) (a0 m c) (a1 m c) (a2 m c) := by
  refine (dats m 0 c).arrAt_eq_of_covers 6 _ (by decide +kernel) fun t hf y => ?_
  have ht : t.val < 8 := lt_of_lt_of_eq t.isLt N_0
  have y0 : (y 0).val < 512 := (y 0).isLt
  blk_simp
  rw [after0_6, out_lo m c t]
  have hy : y = ix2 (⟨(y 0).val, (y 0).isLt⟩ : Fin 512) (⟨(y 1).val, (y 1).isLt⟩ : Fin 1024) := by blk_ext
  rw [hy]
  refine (point m c t _ _ (⟨t.val * 512 + (y 0).val, by omega⟩ : Fin 4096) rfl).trans ?_
  show _ = val_main_v46 (F := Ideal) (a0 m c) (a1 m c) (a2 m c) _
  congr 1
  blk_ext [idx t]

end Cert.LossDxIdeal.Hand

end
-- ==== Proof.LossDxClaim.lean ====
/- The claims about the loss's gradient with respect to its rows. -/
module

public import proofs.«01_k».proof.Defs
public import proofs.«01_k».proof.Proof.Gen.LossDx.Frame
public import proofs.«01_k».proof.Proof.LossDxValue
public import proofs.«01_k».proof.Proof.Gen.ReferenceLossDxIdeal.Run

@[expose] public section

set_option maxRecDepth 16384

noncomputable section

namespace Cert.LossDxClaim

open Idealize.ShloMosaic Idealize.ShloMosaic.TcCoe Idealize.SL.Sem

set_option maxHeartbeats 1600000 in
theorem algebraic : Cert.algebraic_LossDxIdeal_ReferenceLossDxIdeal := by
  pair_intro
  · run_from Cert.LossDxIdeal.Value.run_blocks m g
  · run_from Cert.ReferenceLossDxIdeal.Value.run m' g'
    · rw [Cert.ReferenceLossDxIdeal.Read.val_main_v46_eq, (hagree c).1, (hagree c).2.1, (hagree c).2.2]
      exact (Cert.LossDxIdeal.Hand.final_x m c).symm
    · rw [Cert.ReferenceLossDxIdeal.Read.val_main_v47_eq, (hagree c).1, (hagree c).2.1, (hagree c).2.2]
      exact (Cert.LossDxIdeal.Hand.final_lo m c).symm

theorem quiescent_reference : Cert.quiescent_ReferenceLossDxIdeal := fun m g _ =>
  (θ_run Cert.ReferenceLossDxIdeal.defs _ _).mono
    (fun r h => ⟨fun c => (h c).2.2, Idealize.ShloMosaic.sem_eq_zero_of_no_sems (by decide) r.2⟩)
    (Cert.ReferenceLossDxIdeal.Value.run m g)

theorem all : Cert.quiescent_LossDx ∧ Cert.quiescent_LossDxIdeal ∧ Cert.quiescent_ReferenceLossDxIdeal
    ∧ Cert.preserves_LossDx_LossDxIdeal ∧ Cert.algebraic_LossDxIdeal_ReferenceLossDxIdeal :=
  ⟨fun m g _ => Cert.LossDx.Gen.frame m g, fun m g _ => Cert.LossDxIdeal.Gen.frame m g, quiescent_reference, trivial, algebraic⟩

end Cert.LossDxClaim

end
-- ==== Proof.MixNorm.lean ====
/- The mixers' normalised rows. -/
module

public import proofs.«01_k».proof.Defs
public import proofs.«01_k».proof.Proof.Gen.MixNorm.Frame
public import proofs.«01_k».proof.Proof.Gen.MixNormIdeal.Value
public import proofs.«01_k».proof.Proof.Gen.ReferenceMixNormIdeal.Read
public import proofs.«01_k».proof.Proof.Gen.ReferenceMixNormIdeal.Run
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

namespace Cert.MixNormIdeal.Hand

open Cert.MixNormIdeal Cert.MixNormIdeal.Gen Idealize.ShloMosaic Idealize.ShloMosaic.TcCoe Idealize.SL.Sem
open Idealize.ShloMosaic.Pipeline (Dat)
open Cert.ReferenceMixNormIdeal.Read

variable (m : (ℓ : Loc nD τ sig) → Buf (Elt Ideal) ℓ)

abbrev a0 (c : Dev nD) := m ((c.tc : Thread nD τ).loc main_arg0)
abbrev a1 (c : Dev nD) := m ((c.tc : Thread nD τ).loc main_arg1)

/-- The block indices of the windows at each grid point. -/
theorem idx : ∀ t : Fin cfg0.N, win0_0.index t = ![t.val, 0] ∧ win0_1.index t = ![0, 0] ∧ win0_2.index t = ![t.val, 0] :=
  (by decide +kernel : ∀ t : Fin grid0.N, _)

theorem blk_x (c : Dev nD) (t : Fin cfg0.N) (k : Fin 512) (q : Fin 1024) (p : Fin 4096) (hp : (p : ℕ) = t.val * 512 + k) :
    (iblk m c 0 t : FVec Ideal S512x1024 .f32) (ix2 k q) = a0 m c (ix2 p q) := by
  have : a0 m c (ix2 p q) = (V m c main_arg0 : FVec Ideal S4096x1024 .f32) (ix2 p q) := by rw [V_main_arg0]
  rw [this]
  blk_ext [iblk, idx t]

theorem entry_g (c : Dev nD) : V m c main_v0 = (shapeCast S1x1024 (a1 m c) shapeCasts_S1024_S1x1024 : FVec Ideal S1x1024 .f32) := by
  entry_read
  rfl

theorem blk_g (c : Dev nD) (t : Fin cfg0.N) (q : Fin 1024) :
    (iblk m c 1 t : FVec Ideal S1x1024 .f32) (ix2 (0 : Fin 1) q) = a1 m c (ix1 q) := by
  have : a1 m c (ix1 q) = (V m c main_v0 : FVec Ideal S1x1024 .f32) (ix2 (0 : Fin 1) q) := by
    rw [entry_g]; generalize a1 m c = g; pointwise
  rw [this]
  blk_ext [iblk, idx t]

/-- The reference's normalised rows, written out. -/
theorem norm_ref (x0 : FVec Ideal S4096x1024 .f32) (x1 : FVec Ideal S1024 .f32) (p : Fin 4096) (q : Fin 1024) :
    val_main_v13 (F := Ideal) x0 x1 (ix2 p q) = x0 (ix2 p q)
      * Ideal.rsqrt (Ideal.div (∑ j : Fin 1024, x0 (ix2 p j) * x0 (ix2 p j)) (Ideal.ofBits .f32 0x44800000#32) + Ideal.ofBits .f32 0x358637BD#32)
      * x1 (ix1 q) := by
  unfold val_main_v13 val_main_v12 val_main_v11 val_main_v10 val_main_v9 val_main_v8 val_main_v7 val_main_v6 val_main_v5 val_main_v4 val_main_v3
    val_main_v2 val_main_v1 val_main_v0 val_main_cst val_main_cst_0 val_main_cst_1
  pointwise

/-- One entry of what a point stores. -/
theorem stored (X : FVec Ideal S512x1024 .f32) (G : FVec Ideal S1x1024 .f32) (k : Fin 512) (q : Fin 1024) :
    k0_pay1 (F := Ideal) X G (ix2 k q) = X (ix2 k q)
      * Ideal.rsqrt (Ideal.div (∑ j : Fin 1024, X (ix2 k j) * X (ix2 k j)) (Ideal.ofBits .f32 0x44800000#32) + Ideal.ofBits .f32 0x358637BD#32)
      * G (ix2 (0 : Fin 1) q) := by
  pointwise [k0_pay1]

/-- What a point stores is the reference's normalised rows. -/
theorem point (c : Dev nD) (t : Fin cfg0.N) (k : Fin 512) (q : Fin 1024) (p : Fin 4096) (hp : (p : ℕ) = t.val * 512 + k) :
    k0_pay1 (F := Ideal) (iblk m c 0 t) (iblk m c 1 t) (ix2 k q) = val_main_v13 (F := Ideal) (a0 m c) (a1 m c) (ix2 p q) := by
  rw [stored, norm_ref]
  simp only [blk_x m c t k _ p hp, blk_g m c t]

/-- The result array after the run is the reference's. -/
theorem final (c : Dev nD) : (dats m 0 c).arrAt 2 cfg0.N = val_main_v13 (F := Ideal) (a0 m c) (a1 m c) := by
  refine (dats m 0 c).arrAt_eq_of_covers 2 _ (by decide +kernel) fun t hf y => ?_
  have ht : t.val < 8 := lt_of_lt_of_eq t.isLt N_0
  have y0 : (y 0).val < 512 := (y 0).isLt
  blk_simp
  rw [after0_2]
  unfold out0_2
  frame_out
  have hy : y = ix2 (⟨(y 0).val, (y 0).isLt⟩ : Fin 512) (⟨(y 1).val, (y 1).isLt⟩ : Fin 1024) := by blk_ext
  refine Eq.trans ?_ ((point m c t (⟨(y 0).val, (y 0).isLt⟩ : Fin 512) (⟨(y 1).val, (y 1).isLt⟩ : Fin 1024) (⟨t.val * 512 + (y 0).val, by omega⟩ : Fin 4096) rfl).trans ?_)
  · exact congrArg _ hy
  · congr 1
    blk_ext [idx t]

end Cert.MixNormIdeal.Hand

namespace Cert.MixNormClaim

open Idealize.ShloMosaic Idealize.ShloMosaic.TcCoe Idealize.SL.Sem

set_option maxHeartbeats 1600000 in
theorem algebraic : Cert.algebraic_MixNormIdeal_ReferenceMixNormIdeal := by
  pair_intro
  · run_from Cert.MixNormIdeal.Value.run_blocks m g
  · run_from Cert.ReferenceMixNormIdeal.Value.run m' g'
    rw [Cert.ReferenceMixNormIdeal.Read.val_main_v13_eq]
    exact (Cert.MixNormIdeal.Hand.final m c).symm

theorem quiescent_reference : Cert.quiescent_ReferenceMixNormIdeal := fun m g _ =>
  (θ_run Cert.ReferenceMixNormIdeal.defs _ _).mono
    (fun r h => ⟨fun c => (h c).2, Idealize.ShloMosaic.sem_eq_zero_of_no_sems (by decide) r.2⟩)
    (Cert.ReferenceMixNormIdeal.Value.run m g)

theorem all : Cert.quiescent_MixNorm ∧ Cert.quiescent_MixNormIdeal ∧ Cert.quiescent_ReferenceMixNormIdeal
    ∧ Cert.preserves_MixNorm_MixNormIdeal ∧ Cert.algebraic_MixNormIdeal_ReferenceMixNormIdeal :=
  ⟨fun m g _ => Cert.MixNorm.Gen.frame m g, fun m g _ => Cert.MixNormIdeal.Gen.frame m g, quiescent_reference, trivial, algebraic⟩

end Cert.MixNormClaim

end
-- ==== Proof.MixDmix.lean ====
/- The gradient of the mixers' mixed rows. -/
module

public import proofs.«01_k».proof.Defs
public import proofs.«01_k».proof.Proof.Gen.MixDmix.Frame
public import proofs.«01_k».proof.Proof.Gen.MixDmixIdeal.Value
public import proofs.«01_k».proof.Proof.Gen.ReferenceMixDmixIdeal.Read
public import proofs.«01_k».proof.Proof.Gen.ReferenceMixDmixIdeal.Run
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

namespace Cert.MixDmixIdeal.Hand

open Cert.MixDmixIdeal Cert.MixDmixIdeal.Gen Idealize.ShloMosaic Idealize.ShloMosaic.TcCoe Idealize.SL.Sem
open Idealize.ShloMosaic.Pipeline (Dat)
open Cert.ReferenceMixDmixIdeal.Read

variable (m : (ℓ : Loc nD τ sig) → Buf (Elt Ideal) ℓ)

abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)

/-- The block indices of the windows at each grid point. -/
theorem idx : ∀ t : Fin cfg0.N, win0_0.index t = ![t.val, 0] ∧ win0_1.index t = ![0, 0] ∧ win0_2.index t = ![t.val, 0] :=
  (by decide +kernel : ∀ t : Fin grid0.N, _)

theorem entry_d (c : Dev nD) : V m c main_v0 = (truncf .bf16 (a3 m c) bitsLt_bf16_f32 : FVec Ideal S4096x1024 .bf16) := by
  entry_read
  rfl

theorem blk_d (c : Dev nD) (t : Fin cfg0.N) (k : Fin 1024) (q : Fin 1024) (p : Fin 4096) (hp : (p : ℕ) = t.val * 1024 + k) :
    (iblk m c 0 t : FVec Ideal S1024x1024 .bf16) (ix2 k q) = a3 m c (ix2 p q) := by
  have : a3 m c (ix2 p q) = (V m c main_v0 : FVec Ideal S4096x1024 .bf16) (ix2 p q) := by rw [entry_d]; rfl
  rw [this]
  blk_ext [iblk, idx t]

theorem entry_w (c : Dev nD) : V m c main_v1 = (truncf .bf16 (a2 m c) bitsLt_bf16_f32 : FVec Ideal S1024x1024 .bf16) := by
  entry_read
  rfl

theorem blk_w (c : Dev nD) (t : Fin cfg0.N) (k : Fin 1024) (q : Fin 1024) :
    (iblk m c 1 t : FVec Ideal S1024x1024 .bf16) (ix2 k q) = a2 m c (ix2 k q) := by
  have : a2 m c (ix2 k q) = (V m c main_v1 : FVec Ideal S1024x1024 .bf16) (ix2 k q) := by rw [entry_w]; rfl
  rw [this]
  blk_ext [iblk, idx t]

/-- One entry of what a point stores. -/
theorem stored (X Y : FVec Ideal S1024x1024 .bf16) (k q : Fin 1024) :
    k0_pay1 (F := Ideal) X Y (ix2 k q) = ∑ j : Fin 1024, X (ix2 k j) * Y (ix2 q j) := by
  pointwise [k0_pay1]

/-- What a point stores is the reference's product with the transposed matrix. -/
theorem point (c : Dev nD) (t : Fin cfg0.N) (k : Fin 1024) (q : Fin 1024) (p : Fin 4096) (hp : (p : ℕ) = t.val * 1024 + k) :
    k0_pay1 (F := Ideal) (iblk m c 0 t) (iblk m c 1 t) (ix2 k q) = val_main_v2 (F := Ideal) (a2 m c) (a3 m c) (ix2 p q) := by
  rw [stored, val_main_v2_apply]
  refine Fin.sum_fin_congr fun j => ?_
  rw [blk_d m c t k j p hp, blk_w]
  congr 1 <;> (congr 1; blk_ext)

/-- The result array after the run is the reference's. -/
theorem final (c : Dev nD) : (dats m 0 c).arrAt 2 cfg0.N = val_main_v2 (F := Ideal) (a2 m c) (a3 m c) := by
  refine (dats m 0 c).arrAt_eq_of_covers 2 _ (by decide +kernel) fun t hf y => ?_
  have ht : t.val < 4 := lt_of_lt_of_eq t.isLt N_0
  have y0 : (y 0).val < 1024 := (y 0).isLt
  blk_simp
  rw [after0_2]
  unfold out0_2
  frame_out
  have hy : y = ix2 (⟨(y 0).val, (y 0).isLt⟩ : Fin 1024) (⟨(y 1).val, (y 1).isLt⟩ : Fin 1024) := by blk_ext
  refine Eq.trans ?_ ((point m c t (⟨(y 0).val, (y 0).isLt⟩ : Fin 1024) (⟨(y 1).val, (y 1).isLt⟩ : Fin 1024) (⟨t.val * 1024 + (y 0).val, by omega⟩ : Fin 4096) rfl).trans ?_)
  · exact congrArg _ hy
  · congr 1
    blk_ext [idx t]

end Cert.MixDmixIdeal.Hand

namespace Cert.MixDmixClaim

open Idealize.ShloMosaic Idealize.ShloMosaic.TcCoe Idealize.SL.Sem

set_option maxHeartbeats 1600000 in
theorem algebraic : Cert.algebraic_MixDmixIdeal_ReferenceMixDmixIdeal := by
  pair_intro
  · run_from Cert.MixDmixIdeal.Value.run_blocks m g
  · run_from Cert.ReferenceMixDmixIdeal.Value.run m' g'
    exact (Cert.MixDmixIdeal.Hand.final m c).symm

theorem quiescent_reference : Cert.quiescent_ReferenceMixDmixIdeal := fun m g _ =>
  (θ_run Cert.ReferenceMixDmixIdeal.defs _ _).mono
    (fun r h => ⟨fun c => (h c).2, Idealize.ShloMosaic.sem_eq_zero_of_no_sems (by decide) r.2⟩)
    (Cert.ReferenceMixDmixIdeal.Value.run m g)

theorem all : Cert.quiescent_MixDmix ∧ Cert.quiescent_MixDmixIdeal ∧ Cert.quiescent_ReferenceMixDmixIdeal
    ∧ Cert.preserves_MixDmix_MixDmixIdeal ∧ Cert.algebraic_MixDmixIdeal_ReferenceMixDmixIdeal :=
  ⟨fun m g _ => Cert.MixDmix.Gen.frame m g, fun m g _ => Cert.MixDmixIdeal.Gen.frame m g, quiescent_reference, trivial, algebraic⟩

end Cert.MixDmixClaim

end
-- ==== Proof.OdDwout.lean ====
/- The gradient of the odd mixers' second matrix: a sum over the tokens, carried over two tiles. -/
module

public import proofs.«01_k».proof.Defs
public import proofs.«01_k».proof.Proof.Sums
public import proofs.«01_k».proof.Proof.Gen.OdDwout.Frame
public import proofs.«01_k».proof.Proof.Gen.OdDwoutIdeal.Value
public import proofs.«01_k».proof.Proof.Gen.ReferenceOdDwoutIdeal.Read
public import proofs.«01_k».proof.Proof.Gen.ReferenceOdDwoutIdeal.Run
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

namespace Cert.OdDwoutIdeal.Hand

open Cert.OdDwoutIdeal Cert.OdDwoutIdeal.Gen Idealize.ShloMosaic Idealize.ShloMosaic.TcCoe Idealize.SL.Sem
open Idealize.ShloMosaic.Pipeline (Dat)
open Cert.ReferenceOdDwoutIdeal.Read

variable (m : (ℓ : Loc nD τ sig) → Buf (Elt Ideal) ℓ)

abbrev a0 (c : Dev nD) := m ((c.tc : Thread nD τ).loc main_arg0)
abbrev a1 (c : Dev nD) : FVec Ideal S4096x1024 .f32 := m ((c.tc : Thread nD τ).loc main_arg1)
abbrev a2 (c : Dev nD) := m ((c.tc : Thread nD τ).loc main_arg2)
abbrev a3 (c : Dev nD) : FVec Ideal S4096x1024 .f32 := m ((c.tc : Thread nD τ).loc main_arg3)

/-- The block indices of the windows at each grid point. -/
theorem idx : ∀ t : Fin cfg0.N, win0_0.index t = ![t.val, 0] ∧ win0_1.index t = ![t.val, 0] ∧ win0_2.index t = ![0, 0] :=
  (by decide +kernel : ∀ t : Fin grid0.N, _)

theorem entry_y (c : Dev nD) : V m c main_v1 = (truncf .bf16 (a1 m c) bitsLt_bf16_f32 : FVec Ideal S4096x1024 .bf16) := by
  entry_read
  rfl

theorem blk_y (c : Dev nD) (t : Fin cfg0.N) (k : Fin 2048) (q : Fin 1024) (p : Fin 4096) (hp : (p : ℕ) = t.val * 2048 + k) :
    (iblk m c 0 t : FVec Ideal S2048x1024 .bf16) (ix2 k q) = a1 m c (ix2 p q) := by
  have : a1 m c (ix2 p q) = (V m c main_v1 : FVec Ideal S4096x1024 .bf16) (ix2 p q) := by rw [entry_y]; rfl
  rw [this]
  blk_ext [iblk, idx t]

theorem entry_d (c : Dev nD) : V m c main_v0 = (truncf .bf16 (a3 m c) bitsLt_bf16_f32 : FVec Ideal S4096x1024 .bf16) := by
  entry_read
  rfl

theorem blk_d (c : Dev nD) (t : Fin cfg0.N) (k : Fin 2048) (q : Fin 1024) (p : Fin 4096) (hp : (p : ℕ) = t.val * 2048 + k) :
    (iblk m c 1 t : FVec Ideal S2048x1024 .bf16) (ix2 k q) = a3 m c (ix2 p q) := by
  have : a3 m c (ix2 p q) = (V m c main_v0 : FVec Ideal S4096x1024 .bf16) (ix2 p q) := by rw [entry_d]; rfl
  rw [this]
  blk_ext [iblk, idx t]

/-- The terms one point adds: its tile of tokens. -/
def term (c : Dev nD) (t : Fin cfg0.N) (i : S1024x1024.Idx) : EReal :=
  k0_pay1 (F := Ideal) (iblk m c 0 t) (iblk m c 1 t) i

theorem scratch_A (c : Dev nD) (t : Fin cfg0.N) (h : t.val % 2 = 0) (i : S1024x1024.Idx) :
    (outsAt0 m c t.val t.isLt).2 i = term m c t i := by
  rw [outsAt0_A m c t h (by omega)]
  frame_out
  unfold term
  pointwise [k0_pay2]

/-- What the last point of a run writes back: the whole contraction. -/
theorem out_last (c : Dev nD) (t : Fin cfg0.N) (h3 : t.val % 2 = 2 - 1) (i : S1024x1024.Idx) :
    (outsAt0 m c t.val t.isLt).1 i
      = ∑ s : Fin 2, term m c ⟨2 * (t.val / 2) + s.val, Pipeline.run_point_lt_of_flush t h3 s⟩ i := by
  rw [← Cert.Sums.carried_sum (fun n h => (outsAt0 m c n h).2) (term m c) (by norm_num) (scratch_A m c) (fun t h h' => absurd h' (by omega)) t h3 i]
  rw [outsAt0_B m c t (by omega) h3]
  frame_out
  unfold term
  rw [read_unread_whole]
  pointwise [k0_pay4]

/-- One product of the contraction, over the block the point holds. -/
theorem term_at (c : Dev nD) (t : Fin cfg0.N) (y : S1024x1024.Idx) (p : Fin 2048 → Fin 4096) (hp : ∀ k, (p k : ℕ) = t.val * 2048 + k) :
    term m c t y = ∑ k : Fin 2048, a1 m c (ix2 (p k) (y 0)) * a3 m c (ix2 (p k) (y 1)) := by
  unfold term
  pointwise [k0_pay1]
  refine Fin.sum_fin_congr fun k => ?_
  rw [blk_y m c t k (y 0) (p k) (hp k), blk_d m c t k (y 1) (p k) (hp k)]

/-- The sum over a run is the reference's contraction of all tokens. -/
theorem point (c : Dev nD) (t : Fin cfg0.N) (h3 : t.val % 2 = 2 - 1) (y : S1024x1024.Idx) :
    ∑ s : Fin 2, term m c ⟨2 * (t.val / 2) + s.val, Pipeline.run_point_lt_of_flush t h3 s⟩ y = val_main_v4 (F := Ideal) (a1 m c) (a3 m c) y := by
  have ht : t.val < 2 := lt_of_lt_of_eq t.isLt N_0
  have hs : ∀ s : Fin 2, term m c ⟨2 * (t.val / 2) + s.val, Pipeline.run_point_lt_of_flush t h3 s⟩ y
      = ∑ k : Fin 2048, a1 m c (ix2 (⟨s.val * 2048 + k.val, by omega⟩ : Fin 4096) (y 0)) * a3 m c (ix2 (⟨s.val * 2048 + k.val, by omega⟩ : Fin 4096) (y 1)) := fun s =>
    term_at m c _ y (fun k => ⟨s.val * 2048 + k.val, by omega⟩) (fun k => by show _ = (2 * (t.val / 2) + s.val) * 2048 + k.val; dsimp only; omega)
  simp only [hs]
  rw [val_main_v4_apply, val_main_v3_apply, val_main_v2_apply]
  refine Fin.sum_mul_add_congr fun s k hk => ?_
  rw [mul_comm]
  congr 1 <;> (congr 1; blk_ext)

/-- The result array after the run is the reference's gradient. -/
theorem final (c : Dev nD) : (dats m 0 c).arrAt 2 cfg0.N = val_main_v4 (F := Ideal) (a1 m c) (a3 m c) := by
  refine (dats m 0 c).arrAt_eq_of_covers 2 _ (by decide +kernel) fun t hf y => ?_
  have h3 : t.val % 2 = 2 - 1 := (flush0_2 t).mp hf
  blk_simp
  rw [after0_2, out_last m c t h3]
  refine (point m c t h3 y).trans ?_
  congr 1
  blk_ext [idx t]

end Cert.OdDwoutIdeal.Hand

namespace Cert.OdDwoutClaim

open Idealize.ShloMosaic Idealize.ShloMosaic.TcCoe Idealize.SL.Sem

set_option maxHeartbeats 1600000 in
theorem algebraic : Cert.algebraic_OdDwoutIdeal_ReferenceOdDwoutIdeal := by
  pair_intro
  · run_from Cert.OdDwoutIdeal.Value.run_blocks m g
  · run_from Cert.ReferenceOdDwoutIdeal.Value.run m' g'
    rw [Cert.ReferenceOdDwoutIdeal.Read.val_main_v4_eq]
    exact (Cert.OdDwoutIdeal.Hand.final m c).symm

theorem quiescent_reference : Cert.quiescent_ReferenceOdDwoutIdeal := fun m g _ =>
  (θ_run Cert.ReferenceOdDwoutIdeal.defs _ _).mono
    (fun r h => ⟨fun c => (h c).2, Idealize.ShloMosaic.sem_eq_zero_of_no_sems (by decide) r.2⟩)
    (Cert.ReferenceOdDwoutIdeal.Value.run m g)

theorem all : Cert.quiescent_OdDwout ∧ Cert.quiescent_OdDwoutIdeal ∧ Cert.quiescent_ReferenceOdDwoutIdeal
    ∧ Cert.preserves_OdDwout_OdDwoutIdeal ∧ Cert.algebraic_OdDwoutIdeal_ReferenceOdDwoutIdeal :=
  ⟨fun m g _ => Cert.OdDwout.Gen.frame m g, fun m g _ => Cert.OdDwoutIdeal.Gen.frame m g, quiescent_reference, trivial, algebraic⟩

end Cert.OdDwoutClaim

end
-- ==== Proof.EvDwout.lean ====
/- The gradient of the even mixers' second matrix: a sum over the tokens, carried over two tiles. -/
module

public import proofs.«01_k».proof.Defs
public import proofs.«01_k».proof.Proof.Sums
public import proofs.«01_k».proof.Proof.Gen.EvDwout.Frame
public import proofs.«01_k».proof.Proof.Gen.EvDwoutIdeal.Value
public import proofs.«01_k».proof.Proof.Gen.ReferenceEvDwoutIdeal.Read
public import proofs.«01_k».proof.Proof.Gen.ReferenceEvDwoutIdeal.Run
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

namespace Cert.EvDwoutIdeal.Hand

open Cert.EvDwoutIdeal Cert.EvDwoutIdeal.Gen Idealize.ShloMosaic Idealize.ShloMosaic.TcCoe Idealize.SL.Sem
open Idealize.ShloMosaic.Pipeline (Dat)
open Cert.ReferenceEvDwoutIdeal.Read

variable (m : (ℓ : Loc nD τ sig) → Buf (Elt Ideal) ℓ)

abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)
abbrev a4 (c : Dev nD) := m ((c.tc : Thread nD τ).loc main_arg4)

/-- The block indices of the windows at each grid point. -/
theorem idx : ∀ t : Fin cfg0.N, win0_0.index t = ![t.val, 0] ∧ win0_1.index t = ![t.val, 0] ∧ win0_2.index t = ![t.val, 0] ∧ win0_3.index t = ![0, 0] :=
  (by decide +kernel : ∀ t : Fin grid0.N, _)

theorem entry_a (c : Dev nD) : V m c main_v1 = (truncf .bf16 (a1 m c) bitsLt_bf16_f32 : FVec Ideal S4096x512 .bf16) := by
  entry_read
  rfl

theorem blk_a (c : Dev nD) (t : Fin cfg0.N) (k : Fin 2048) (q : Fin 512) (p : Fin 4096) (hp : (p : ℕ) = t.val * 2048 + k) :
    (iblk m c 0 t : FVec Ideal S2048x512 .bf16) (ix2 k q) = a1 m c (ix2 p q) := by
  have : a1 m c (ix2 p q) = (V m c main_v1 : FVec Ideal S4096x512 .bf16) (ix2 p q) := by rw [entry_a]; rfl
  rw [this]
  blk_ext [iblk, idx t]

theorem entry_o (c : Dev nD) : V m c main_v2 = (truncf .bf16 (a2 m c) bitsLt_bf16_f32 : FVec Ideal S4096x512 .bf16) := by
  entry_read
  rfl

theorem blk_o (c : Dev nD) (t : Fin cfg0.N) (k : Fin 2048) (q : Fin 512) (p : Fin 4096) (hp : (p : ℕ) = t.val * 2048 + k) :
    (iblk m c 1 t : FVec Ideal S2048x512 .bf16) (ix2 k q) = a2 m c (ix2 p q) := by
  have : a2 m c (ix2 p q) = (V m c main_v2 : FVec Ideal S4096x512 .bf16) (ix2 p q) := by rw [entry_o]; rfl
  rw [this]
  blk_ext [iblk, idx t]

theorem entry_d (c : Dev nD) : V m c main_v0 = (truncf .bf16 (a4 m c) bitsLt_bf16_f32 : FVec Ideal S4096x1024 .bf16) := by
  entry_read
  rfl

theorem blk_d (c : Dev nD) (t : Fin cfg0.N) (k : Fin 2048) (q : Fin 1024) (p : Fin 4096) (hp : (p : ℕ) = t.val * 2048 + k) :
    (iblk m c 2 t : FVec Ideal S2048x1024 .bf16) (ix2 k q) = a4 m c (ix2 p q) := by
  have : a4 m c (ix2 p q) = (V m c main_v0 : FVec Ideal S4096x1024 .bf16) (ix2 p q) := by rw [entry_d]; rfl
  rw [this]
  blk_ext [iblk, idx t]

/-- The terms one point adds: its tile of tokens. -/
def term (c : Dev nD) (t : Fin cfg0.N) (i : S1024x1024.Idx) : EReal :=
  k0_pay1 (F := Ideal) (iblk m c 0 t) (iblk m c 1 t) (iblk m c 2 t) i

theorem scratch_A (c : Dev nD) (t : Fin cfg0.N) (h : t.val % 2 = 0) (i : S1024x1024.Idx) :
    (outsAt0 m c t.val t.isLt).2 i = term m c t i := by
  rw [outsAt0_A m c t h (by omega)]
  frame_out
  unfold term
  pointwise [k0_pay2]

/-- What the last point of a run writes back: the whole contraction. -/
theorem out_last (c : Dev nD) (t : Fin cfg0.N) (h3 : t.val % 2 = 2 - 1) (i : S1024x1024.Idx) :
    (outsAt0 m c t.val t.isLt).1 i
      = ∑ s : Fin 2, term m c ⟨2 * (t.val / 2) + s.val, Pipeline.run_point_lt_of_flush t h3 s⟩ i := by
  rw [← Cert.Sums.carried_sum (fun n h => (outsAt0 m c n h).2) (term m c) (by norm_num) (scratch_A m c) (fun t h h' => absurd h' (by omega)) t h3 i]
  rw [outsAt0_B m c t (by omega) h3]
  frame_out
  unfold term
  rw [read_unread_whole]
  pointwise [k0_pay4]

/-- One entry of a product of two parts side by side: in the first part's rows, and in the second's. -/
theorem mul_lo (A O : FVec Ideal S2048x512 .bf16) (D : FVec Ideal S2048x1024 .bf16) (r : Fin 512) (u : Fin 1024) (hu : (u : ℕ) = r) (q : Fin 1024) :
    k0_pay1 (F := Ideal) A O D (ix2 u q) = ∑ k : Fin 2048, A (ix2 k r) * D (ix2 k q) := by
  rw [show u = (⟨r.val, by omega⟩ : Fin 1024) from Fin.ext hu]
  pointwise [k0_pay1]

theorem mul_hi (A O : FVec Ideal S2048x512 .bf16) (D : FVec Ideal S2048x1024 .bf16) (r : Fin 512) (u : Fin 1024) (hu : (u : ℕ) = 512 + r) (q : Fin 1024) :
    k0_pay1 (F := Ideal) A O D (ix2 u q) = ∑ k : Fin 2048, O (ix2 k r) * D (ix2 k q) := by
  rw [show u = (⟨512 + r.val, by omega⟩ : Fin 1024) from Fin.ext hu]
  pointwise [k0_pay1]

/-- The two parts side by side. -/
theorem side_lo (x1 x2 : FVec Ideal S4096x512 .f32) (p : Fin 4096) (r : Fin 512) (u : Fin 1024) (hu : (u : ℕ) = r) :
    val_main_v0 (F := Ideal) x1 x2 (ix2 p u) = x1 (ix2 p r) := by
  rw [show u = (⟨r.val, by omega⟩ : Fin 1024) from Fin.ext hu]
  unfold val_main_v0
  pointwise

theorem side_hi (x1 x2 : FVec Ideal S4096x512 .f32) (p : Fin 4096) (r : Fin 512) (u : Fin 1024) (hu : (u : ℕ) = 512 + r) :
    val_main_v0 (F := Ideal) x1 x2 (ix2 p u) = x2 (ix2 p r) := by
  rw [show u = (⟨512 + r.val, by omega⟩ : Fin 1024) from Fin.ext hu]
  unfold val_main_v0
  pointwise

/-- One product of the contraction, over the blocks the point holds. -/
theorem term_at (c : Dev nD) (t : Fin cfg0.N) (y : S1024x1024.Idx) (p : Fin 2048 → Fin 4096) (hp : ∀ k, (p k : ℕ) = t.val * 2048 + k) :
    term m c t y = ∑ k : Fin 2048, val_main_v0 (F := Ideal) (a1 m c) (a2 m c) (ix2 (p k) (y 0)) * a4 m c (ix2 (p k) (y 1)) := by
  unfold term
  rw [eq_ix2 y]
  have hu : (y 0).val < 1024 := (y 0).isLt
  generalize hy0 : y 0 = u at hu
  generalize y 1 = q
  by_cases h : u.val < 512
  · refine (mul_lo _ _ _ (⟨u.val, h⟩ : Fin 512) u rfl q).trans ?_
    refine Fin.sum_fin_congr fun k => ?_
    rw [blk_a m c t k _ (p k) (hp k), blk_d m c t k q (p k) (hp k)]
    exact congrArg (· * _) (side_lo _ _ (p k) (⟨u.val, h⟩ : Fin 512) u rfl).symm
  · have e : u.val = 512 + (u.val - 512) := by omega
    refine (mul_hi _ _ _ (⟨u.val - 512, by omega⟩ : Fin 512) u e q).trans ?_
    refine Fin.sum_fin_congr fun k => ?_
    rw [blk_o m c t k _ (p k) (hp k), blk_d m c t k q (p k) (hp k)]
    exact congrArg (· * _) (side_hi _ _ (p k) (⟨u.val - 512, by omega⟩ : Fin 512) u e).symm

/-- The sum over a run is the reference's contraction of all tokens. -/
theorem point (c : Dev nD) (t : Fin cfg0.N) (h3 : t.val % 2 = 2 - 1) (y : S1024x1024.Idx) :
    ∑ s : Fin 2, term m c ⟨2 * (t.val / 2) + s.val, Pipeline.run_point_lt_of_flush t h3 s⟩ y = val_main_v5 (F := Ideal) (a1 m c) (a2 m c) (a4 m c) y := by
  have ht : t.val < 2 := lt_of_lt_of_eq t.isLt N_0
  have hs : ∀ s : Fin 2, term m c ⟨2 * (t.val / 2) + s.val, Pipeline.run_point_lt_of_flush t h3 s⟩ y
      = ∑ k : Fin 2048, val_main_v0 (F := Ideal) (a1 m c) (a2 m c) (ix2 (⟨s.val * 2048 + k.val, by omega⟩ : Fin 4096) (y 0)) * a4 m c (ix2 (⟨s.val * 2048 + k.val, by omega⟩ : Fin 4096) (y 1)) := fun s =>
    term_at m c _ y (fun k => ⟨s.val * 2048 + k.val, by omega⟩) (fun k => by show _ = (2 * (t.val / 2) + s.val) * 2048 + k.val; dsimp only; omega)
  simp only [hs]
  rw [val_main_v5_apply, val_main_v4_apply, val_main_v3_apply]
  refine Fin.sum_mul_add_congr fun s k hk => ?_
  rw [mul_comm]
  congr 1 <;> (congr 1; blk_ext)

/-- The result array after the run is the reference's gradient. -/
theorem final (c : Dev nD) : (dats m 0 c).arrAt 3 cfg0.N = val_main_v5 (F := Ideal) (a1 m c) (a2 m c) (a4 m c) := by
  refine (dats m 0 c).arrAt_eq_of_covers 3 _ (by decide +kernel) fun t hf y => ?_
  have h3 : t.val % 2 = 2 - 1 := (flush0_3 t).mp hf
  blk_simp
  rw [after0_3, out_last m c t h3]
  refine (point m c t h3 y).trans ?_
  congr 1
  blk_ext [idx t]

end Cert.EvDwoutIdeal.Hand

namespace Cert.EvDwoutClaim

open Idealize.ShloMosaic Idealize.ShloMosaic.TcCoe Idealize.SL.Sem

set_option maxHeartbeats 1600000 in
theorem algebraic : Cert.algebraic_EvDwoutIdeal_ReferenceEvDwoutIdeal := by
  pair_intro
  · run_from Cert.EvDwoutIdeal.Value.run_blocks m g
  · run_from Cert.ReferenceEvDwoutIdeal.Value.run m' g'
    rw [Cert.ReferenceEvDwoutIdeal.Read.val_main_v5_eq, (hagree c).2.1, (hagree c).2.2.1]
    exact (Cert.EvDwoutIdeal.Hand.final m c).symm

theorem quiescent_reference : Cert.quiescent_ReferenceEvDwoutIdeal := fun m g _ =>
  (θ_run Cert.ReferenceEvDwoutIdeal.defs _ _).mono
    (fun r h => ⟨fun c => (h c).2, Idealize.ShloMosaic.sem_eq_zero_of_no_sems (by decide) r.2⟩)
    (Cert.ReferenceEvDwoutIdeal.Value.run m g)

theorem all : Cert.quiescent_EvDwout ∧ Cert.quiescent_EvDwoutIdeal ∧ Cert.quiescent_ReferenceEvDwoutIdeal
    ∧ Cert.preserves_EvDwout_EvDwoutIdeal ∧ Cert.algebraic_EvDwoutIdeal_ReferenceEvDwoutIdeal :=
  ⟨fun m g _ => Cert.EvDwout.Gen.frame m g, fun m g _ => Cert.EvDwoutIdeal.Gen.frame m g, quiescent_reference, trivial, algebraic⟩

end Cert.EvDwoutClaim

end
-- ==== Proof.OdDwin.lean ====
/- The gradient of the odd mixers' first matrix: a sum over the tokens, carried over four tiles. -/
module

public import proofs.«01_k».proof.Defs
public import proofs.«01_k».proof.Proof.Sums
public import proofs.«01_k».proof.Proof.Gen.OdDwin.Frame
public import proofs.«01_k».proof.Proof.Gen.OdDwinIdeal.Value
public import proofs.«01_k».proof.Proof.Gen.ReferenceOdDwinIdeal.Read
public import proofs.«01_k».proof.Proof.Gen.ReferenceOdDwinIdeal.Run
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

namespace Cert.OdDwinIdeal.Hand

open Cert.OdDwinIdeal Cert.OdDwinIdeal.Gen Idealize.ShloMosaic Idealize.ShloMosaic.TcCoe Idealize.SL.Sem
open Idealize.ShloMosaic.Pipeline (Dat)
open Cert.ReferenceOdDwinIdeal.Read

variable (m : (ℓ : Loc nD τ sig) → Buf (Elt Ideal) ℓ)

abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)

/-- The block indices of the windows at each grid point. -/
theorem idx : ∀ t : Fin cfg0.N, win0_0.index t = ![t.val, 0] ∧ win0_1.index t = ![t.val, 0] ∧ win0_2.index t = ![0, 0] :=
  (by decide +kernel : ∀ t : Fin grid0.N, _)

theorem entry_h (c : Dev nD) : V m c main_v13 = (truncf .bf16 (val_main_v12 (F := Ideal) (a0 m c) (a1 m c) : FVec Ideal S4096x1024 .f32) bitsLt_bf16_f32 : FVec Ideal S4096x1024 .bf16) := by
  entry_read
  rfl

theorem blk_h (c : Dev nD) (t : Fin cfg0.N) (k : Fin 1024) (q : Fin 1024) (p : Fin 4096) (hp : (p : ℕ) = t.val * 1024 + k) :
    (iblk m c 0 t : FVec Ideal S1024x1024 .bf16) (ix2 k q) = val_main_v12 (F := Ideal) (a0 m c) (a1 m c) (ix2 p q) := by
  have : val_main_v12 (F := Ideal) (a0 m c) (a1 m c) (ix2 p q) = (V m c main_v13 : FVec Ideal S4096x1024 .bf16) (ix2 p q) := by rw [entry_h]; rfl
  rw [this]
  blk_ext [iblk, idx t]

theorem entry_d (c : Dev nD) : V m c main_v14 = (truncf .bf16 (a3 m c) bitsLt_bf16_f32 : FVec Ideal S4096x1536 .bf16) := by
  entry_read
  rfl

theorem blk_d (c : Dev nD) (t : Fin cfg0.N) (k : Fin 1024) (q : Fin 1536) (p : Fin 4096) (hp : (p : ℕ) = t.val * 1024 + k) :
    (iblk m c 1 t : FVec Ideal S1024x1536 .bf16) (ix2 k q) = a3 m c (ix2 p q) := by
  have : a3 m c (ix2 p q) = (V m c main_v14 : FVec Ideal S4096x1536 .bf16) (ix2 p q) := by rw [entry_d]; rfl
  rw [this]
  blk_ext [iblk, idx t]

/-- The terms one point adds: its tile of tokens. -/
def term (c : Dev nD) (t : Fin cfg0.N) (i : S1024x1536.Idx) : EReal :=
  k0_pay1 (F := Ideal) (iblk m c 0 t) (iblk m c 1 t) i

theorem scratch_A (c : Dev nD) (t : Fin cfg0.N) (h : t.val % 4 = 0) (i : S1024x1536.Idx) :
    (outsAt0 m c t.val t.isLt).2 i = term m c t i := by
  rw [outsAt0_A m c t h (by omega) (by omega)]
  frame_out
  unfold term
  pointwise [k0_pay2]

theorem scratch_B (c : Dev nD) (t : Fin cfg0.N) (h : ¬t.val % 4 = 0) (h3 : ¬t.val % 4 = 4 - 1) (i : S1024x1536.Idx) :
    (outsAt0 m c t.val t.isLt).2 i = (outsAt0 m c (t.val - 1) (Nat.lt_of_le_of_lt (Nat.sub_le _ _) t.isLt)).2 i + term m c t i := by
  rw [outsAt0_B m c t h (by omega) (by omega)]
  frame_out
  unfold term
  rw [read_unread_whole]
  pointwise [k0_pay3]

/-- What the last point of a run writes back: the whole contraction. -/
theorem out_last (c : Dev nD) (t : Fin cfg0.N) (h3 : t.val % 4 = 4 - 1) (i : S1024x1536.Idx) :
    (outsAt0 m c t.val t.isLt).1 i
      = ∑ s : Fin 4, term m c ⟨4 * (t.val / 4) + s.val, Pipeline.run_point_lt_of_flush t h3 s⟩ i := by
  rw [← Cert.Sums.carried_sum (fun n h => (outsAt0 m c n h).2) (term m c) (by norm_num) (scratch_A m c) (scratch_B m c) t h3 i]
  rw [outsAt0_C m c t (by omega) (by omega) h3]
  frame_out
  unfold term
  rw [read_unread_whole]
  pointwise [k0_pay4]

/-- One product of the contraction, over the block the point holds. -/
theorem term_at (c : Dev nD) (t : Fin cfg0.N) (y : S1024x1536.Idx) (p : Fin 1024 → Fin 4096) (hp : ∀ k, (p k : ℕ) = t.val * 1024 + k) :
    term m c t y = ∑ k : Fin 1024, val_main_v12 (F := Ideal) (a0 m c) (a1 m c) (ix2 (p k) (y 0)) * a3 m c (ix2 (p k) (y 1)) := by
  unfold term
  pointwise [k0_pay1]
  refine Fin.sum_fin_congr fun k => ?_
  rw [blk_h m c t k (y 0) (p k) (hp k), blk_d m c t k (y 1) (p k) (hp k)]

/-- The sum over a run is the reference's contraction of all tokens. -/
theorem point (c : Dev nD) (t : Fin cfg0.N) (h3 : t.val % 4 = 4 - 1) (y : S1024x1536.Idx) :
    ∑ s : Fin 4, term m c ⟨4 * (t.val / 4) + s.val, Pipeline.run_point_lt_of_flush t h3 s⟩ y = val_main_v16 (F := Ideal) (a0 m c) (a1 m c) (a3 m c) y := by
  have ht : t.val < 4 := lt_of_lt_of_eq t.isLt N_0
  have hs : ∀ s : Fin 4, term m c ⟨4 * (t.val / 4) + s.val, Pipeline.run_point_lt_of_flush t h3 s⟩ y
      = ∑ k : Fin 1024, val_main_v12 (F := Ideal) (a0 m c) (a1 m c) (ix2 (⟨s.val * 1024 + k.val, by omega⟩ : Fin 4096) (y 0)) * a3 m c (ix2 (⟨s.val * 1024 + k.val, by omega⟩ : Fin 4096) (y 1)) := fun s =>
    term_at m c _ y (fun k => ⟨s.val * 1024 + k.val, by omega⟩) (fun k => by show _ = (4 * (t.val / 4) + s.val) * 1024 + k.val; dsimp only; omega)
  simp only [hs]
  rw [val_main_v16_apply, val_main_v15_apply, val_main_v14_apply]
  refine Fin.sum_mul_add_congr fun s k hk => ?_
  rw [mul_comm]
  congr 1 <;> (congr 1; blk_ext)

/-- The result array after the run is the reference's gradient. -/
theorem final (c : Dev nD) : (dats m 0 c).arrAt 2 cfg0.N = val_main_v16 (F := Ideal) (a0 m c) (a1 m c) (a3 m c) := by
  refine (dats m 0 c).arrAt_eq_of_covers 2 _ (by decide +kernel) fun t hf y => ?_
  have h3 : t.val % 4 = 4 - 1 := (flush0_2 t).mp hf
  blk_simp
  rw [after0_2, out_last m c t h3]
  refine (point m c t h3 y).trans ?_
  congr 1
  blk_ext [idx t]

end Cert.OdDwinIdeal.Hand

namespace Cert.OdDwinClaim

open Idealize.ShloMosaic Idealize.ShloMosaic.TcCoe Idealize.SL.Sem

set_option maxHeartbeats 1600000 in
theorem algebraic : Cert.algebraic_OdDwinIdeal_ReferenceOdDwinIdeal := by
  pair_intro
  · run_from Cert.OdDwinIdeal.Value.run_blocks m g
  · run_from Cert.ReferenceOdDwinIdeal.Value.run m' g'
    rw [Cert.ReferenceOdDwinIdeal.Read.val_main_v16_eq]
    exact (Cert.OdDwinIdeal.Hand.final m c).symm

theorem quiescent_reference : Cert.quiescent_ReferenceOdDwinIdeal := fun m g _ =>
  (θ_run Cert.ReferenceOdDwinIdeal.defs _ _).mono
    (fun r h => ⟨fun c => (h c).2, Idealize.ShloMosaic.sem_eq_zero_of_no_sems (by decide) r.2⟩)
    (Cert.ReferenceOdDwinIdeal.Value.run m g)

theorem all : Cert.quiescent_OdDwin ∧ Cert.quiescent_OdDwinIdeal ∧ Cert.quiescent_ReferenceOdDwinIdeal
    ∧ Cert.preserves_OdDwin_OdDwinIdeal ∧ Cert.algebraic_OdDwinIdeal_ReferenceOdDwinIdeal :=
  ⟨fun m g _ => Cert.OdDwin.Gen.frame m g, fun m g _ => Cert.OdDwinIdeal.Gen.frame m g, quiescent_reference, trivial, algebraic⟩

end Cert.OdDwinClaim

end
-- ==== Proof.OdDh.lean ====
/- The rest of the odd mixers' first projection's backward pass: the gradients of the input, its rounded copy and the gain. -/
module

public import proofs.«01_k».proof.Defs
public import proofs.«01_k».proof.Proof.Sums
public import proofs.«01_k».proof.Proof.Reals
public import proofs.«01_k».proof.Proof.Gen.OdDh.Frame
public import proofs.«01_k».proof.Proof.Gen.OdDhIdeal.Value
public import proofs.«01_k».proof.Proof.Gen.ReferenceOdDhIdeal.Read
public import proofs.«01_k».proof.Proof.Gen.ReferenceOdDhIdeal.Run
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

namespace Cert.OdDhIdeal.Hand

open Cert.OdDhIdeal Cert.OdDhIdeal.Gen Idealize.ShloMosaic Idealize.ShloMosaic.TcCoe Idealize.SL.Sem
open Idealize.ShloMosaic.Pipeline (Dat)
open Cert.ReferenceOdDhIdeal.Read Cert.Reals

variable (m : (ℓ : Loc nD τ sig) → Buf (Elt Ideal) ℓ)

abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)
abbrev a4 (c : Dev nD) := m ((c.tc : Thread nD τ).loc main_arg4)

/-- The block indices of the windows at each grid point. -/
theorem idx : ∀ t : Fin cfg0.N, win0_0.index t = ![t.val, 0] ∧ win0_1.index t = ![0, 0] ∧ win0_2.index t = ![t.val, 0] ∧ win0_3.index t = ![t.val, 0] ∧ win0_4.index t = ![0, 0] ∧ win0_5.index t = ![t.val, 0] ∧ win0_6.index t = ![0, 0] ∧ win0_7.index t = ![t.val, 0] :=
  (by decide +kernel : ∀ t : Fin grid0.N, _)

theorem entry_d (c : Dev nD) : V m c main_v0 = (truncf .bf16 (a3 m c) bitsLt_bf16_f32 : FVec Ideal S4096x1536 .bf16) := by
  entry_read
  rfl

theorem blk_d (c : Dev nD) (t : Fin cfg0.N) (k : Fin 1024) (q : Fin 1536) (p : Fin 4096) (hp : (p : ℕ) = t.val * 1024 + k) :
    (iblk m c 0 t : FVec Ideal S1024x1536 .bf16) (ix2 k q) = a3 m c (ix2 p q) := by
  have : a3 m c (ix2 p q) = (V m c main_v0 : FVec Ideal S4096x1536 .bf16) (ix2 p q) := by rw [entry_d]; rfl
  rw [this]
  blk_ext [iblk, idx t]

theorem entry_w (c : Dev nD) : V m c main_v1 = (truncf .bf16 (a2 m c) bitsLt_bf16_f32 : FVec Ideal S1024x1536 .bf16) := by
  entry_read
  rfl

theorem blk_w (c : Dev nD) (t : Fin cfg0.N) (k : Fin 1024) (q : Fin 1536) :
    (iblk m c 1 t : FVec Ideal S1024x1536 .bf16) (ix2 k q) = a2 m c (ix2 k q) := by
  have : a2 m c (ix2 k q) = (V m c main_v1 : FVec Ideal S1024x1536 .bf16) (ix2 k q) := by rw [entry_w]; rfl
  rw [this]
  blk_ext [iblk, idx t]

theorem blk_x (c : Dev nD) (t : Fin cfg0.N) (k : Fin 1024) (q : Fin 1024) (p : Fin 4096) (hp : (p : ℕ) = t.val * 1024 + k) :
    (iblk m c 2 t : FVec Ideal S1024x1024 .f32) (ix2 k q) = a0 m c (ix2 p q) := by
  have : a0 m c (ix2 p q) = (V m c main_arg0 : FVec Ideal S4096x1024 .f32) (ix2 p q) := by rw [V_main_arg0]
  rw [this]
  blk_ext [iblk, idx t]

theorem blk_o (c : Dev nD) (t : Fin cfg0.N) (k : Fin 1024) (q : Fin 1024) (p : Fin 4096) (hp : (p : ℕ) = t.val * 1024 + k) :
    (iblk m c 3 t : FVec Ideal S1024x1024 .f32) (ix2 k q) = a4 m c (ix2 p q) := by
  have : a4 m c (ix2 p q) = (V m c main_arg4 : FVec Ideal S4096x1024 .f32) (ix2 p q) := by rw [V_main_arg4]
  rw [this]
  blk_ext [iblk, idx t]

theorem entry_g (c : Dev nD) : V m c main_v2 = (shapeCast S1x1024 (a1 m c) shapeCasts_S1024_S1x1024 : FVec Ideal S1x1024 .f32) := by
  entry_read
  rfl

theorem blk_g (c : Dev nD) (t : Fin cfg0.N) (q : Fin 1024) :
    (iblk m c 4 t : FVec Ideal S1x1024 .f32) (ix2 (0 : Fin 1) q) = a1 m c (ix1 q) := by
  have : a1 m c (ix1 q) = (V m c main_v2 : FVec Ideal S1x1024 .f32) (ix2 (0 : Fin 1) q) := by
    rw [entry_g]; generalize a1 m c = g; pointwise
  rw [this]
  blk_ext [iblk, idx t]

/-- One entry of the product with the transposed matrix. -/
theorem mul_at (G Y : FVec Ideal S1024x1536 .bf16) (k q : Fin 1024) :
    k0_pay3 (F := Ideal) G Y (ix2 k q) = ∑ j : Fin 1536, G (ix2 k j) * Y (ix2 q j) := by
  pointwise [k0_pay3]

/-- It is the reference's product. -/
theorem acc_at (c : Dev nD) (t : Fin cfg0.N) (k q : Fin 1024) (p : Fin 4096) (hp : (p : ℕ) = t.val * 1024 + k) :
    k0_pay3 (F := Ideal) (iblk m c 0 t) (iblk m c 1 t) (ix2 k q) = val_main_v17 (F := Ideal) (a2 m c) (a3 m c) (ix2 p q) := by
  rw [mul_at, val_main_v17_apply]
  refine Fin.sum_fin_congr fun j => ?_
  rw [blk_d m c t k j p hp, blk_w]
  congr 1 <;> (congr 1; blk_ext)

/-- What the kernel stores of the input's gradient, at an entry. -/
theorem stored_x (P Y : FVec Ideal S1024x1536 .bf16) (X O : FVec Ideal S1024x1024 .f32) (G : FVec Ideal S1x1024 .f32) (k q : Fin 1024) (D x g : Fin 1024 → EReal) (o r : EReal)
    (hD : ∀ j, k0_pay3 (F := Ideal) P Y (ix2 k j) = D j) (hx : ∀ j, X (ix2 k j) = x j) (hg : ∀ j, G (ix2 (0 : Fin 1) j) = g j) (ho : O (ix2 k q) = o)
    (hr : r = Ideal.rsqrt (Ideal.div (∑ j : Fin 1024, x j * x j) (Ideal.ofBits .f32 0x44800000#32) + Ideal.ofBits .f32 0x358637BD#32)) :
    k0_pay6 (F := Ideal) P Y X O G (ix2 k q)
      = o + r * (D q * g q - x q * r * Ideal.div (∑ j : Fin 1024, D j * g j * (x j * r)) (Ideal.ofBits .f32 0x44800000#32)) := by
  unfold k0_pay6
  revert hD
  generalize k0_pay3 (F := Ideal) P Y = Q
  intro hD
  pointwise [k0_pay5, k0_pay4]
  simp only [hD, hx, hg, ho]
  rw [← hr]

/-- What a tile of tokens adds to the gain's gradient, at an entry. -/
theorem stored_g (Q X : FVec Ideal S1024x1024 .f32) (q : Fin 1024) (D x : Fin 1024 → Fin 1024 → EReal)
    (hD : ∀ k j, Q (ix2 k j) = D k j) (hx : ∀ k j, X (ix2 k j) = x k j) :
    k0_pay1 (F := Ideal) Q (k0_pay5 X) (ix2 (0 : Fin 1) q) = ∑ k : Fin 1024, D k q * (x k q
      * Ideal.rsqrt (Ideal.div (∑ j : Fin 1024, x k j * x k j) (Ideal.ofBits .f32 0x44800000#32) + Ideal.ofBits .f32 0x358637BD#32)) := by
  pointwise [k0_pay1, k0_pay5, k0_pay4]
  simp only [hD, hx]

theorem added_g (Q Z : FVec Ideal S1024x1024 .f32) (B : FVec Ideal S1x1024 .f32) (i : S1x1024.Idx) :
    k0_pay2 (F := Ideal) Q Z B i = B i + k0_pay1 (F := Ideal) Q Z i := by
  pointwise [k0_pay2]

/-- The reference's gradient of the input, at an entry. -/
theorem dx_ref (x0 : FVec Ideal S4096x1024 .f32) (x1 : FVec Ideal S1024 .f32) (x2 : FVec Ideal S1024x1536 .f32)
    (x3 : FVec Ideal S4096x1536 .f32) (x4 : FVec Ideal S4096x1024 .f32) (p : Fin 4096) (q : Fin 1024) (D : FVec Ideal S4096x1024 .f32)
    (hD : val_main_v17 (F := Ideal) x2 x3 = D) (ms r w : EReal)
    (hms : ms = Ideal.div (∑ j : Fin 1024, x0 (ix2 p j) * x0 (ix2 p j)) (Ideal.ofBits .f32 0x44800000#32) + Ideal.ofBits .f32 0x358637BD#32)
    (hr : r = Ideal.rsqrt ms)
    (hw : w = Ideal.div ((∑ j : Fin 1024, x0 (ix2 p j) * (D (ix2 p j) * x1 (ix1 j))) * (Ideal.ofBits .f32 0xBF000000#32 * Ideal.div r ms)) (Ideal.ofBits .f32 0x44800000#32)) :
    val_main_v38 (F := Ideal) x0 x1 x2 x3 x4 (ix2 p q)
      = x4 (ix2 p q) + D (ix2 p q) * x1 (ix1 q) * r + x0 (ix2 p q) * w + w * x0 (ix2 p q) := by
  unfold val_main_v38 val_main_v37 val_main_v36 val_main_v35 val_main_v34 val_main_v33 val_main_v32 val_main_v30 val_main_v29 val_main_v28 val_main_v27 val_main_v26 val_main_v25 val_main_v24 val_main_v22 val_main_v21 val_main_v31
  rw [hD]
  clear hD
  unfold val_main_v13 val_main_v10 val_main_v9 val_main_v8 val_main_v7 val_main_v6 val_main_v5 val_main_v4 val_main_v3 val_main_v2 val_main_v1 val_main_v0
    val_main_cst val_main_cst_0 val_main_cst_1 val_main_cst_2 val_main_cst_5 val_main_cst_6 val_main_cst_7
  pointwise
  rw [hw, hr, hms]
  simp only [Fin.sum_univ_one]

/-- The reference's gradient of the gain, at an entry. -/
theorem dgain_ref (x0 : FVec Ideal S4096x1024 .f32) (x2 : FVec Ideal S1024x1536 .f32)
    (x3 : FVec Ideal S4096x1536 .f32) (q : Fin 1024) (D : FVec Ideal S4096x1024 .f32)
    (hD : val_main_v17 (F := Ideal) x2 x3 = D) :
    val_main_v40 (F := Ideal) x0 x2 x3 (ix2 (0 : Fin 1) q) = ∑ p : Fin 4096, x0 (ix2 p q)
      * Ideal.rsqrt (Ideal.div (∑ j : Fin 1024, x0 (ix2 p j) * x0 (ix2 p j)) (Ideal.ofBits .f32 0x44800000#32) + Ideal.ofBits .f32 0x358637BD#32) * D (ix2 p q) := by
  unfold val_main_v40 val_main_v23 val_main_v20 val_main_v19 val_main_v18
  rw [hD]
  clear hD
  unfold val_main_v12 val_main_v11 val_main_v7 val_main_v6 val_main_v5 val_main_v4 val_main_v3 val_main_v2 val_main_v1 val_main_v0
  unfold val_main_cst val_main_cst_0 val_main_cst_1 val_main_cst_3 val_main_cst_4
  pointwise
  exact Fin.sum_univ_one _

/-- What a point leaves of the input's gradient. -/
theorem out_x (c : Dev nD) (t : Fin cfg0.N) (i : S1024x1024.Idx) : (outsAt0 m c t.val t.isLt).1 i = k0_pay6 (F := Ideal) (iblk m c 0 t) (iblk m c 1 t) (iblk m c 2 t) (iblk m c 3 t) (iblk m c 4 t) i := by
  have ht : t.val < 4 := lt_of_lt_of_eq t.isLt N_0
  by_cases h : t.val % 4 = 0
  · rw [outsAt0_A m c t h (by omega)]
    frame_out
  · rw [outsAt0_B m c t h (by omega)]
    frame_out

/-- What it leaves of the rounded copy. -/
theorem out_lo (c : Dev nD) (t : Fin cfg0.N) (i : S1024x1024.Idx) : (outsAt0 m c t.val t.isLt).2.2 i = k0_pay6 (F := Ideal) (iblk m c 0 t) (iblk m c 1 t) (iblk m c 2 t) (iblk m c 3 t) (iblk m c 4 t) i := by
  have ht : t.val < 4 := lt_of_lt_of_eq t.isLt N_0
  by_cases h : t.val % 4 = 0
  · rw [outsAt0_A m c t h (by omega)]
    frame_out
    rfl
  · rw [outsAt0_B m c t h (by omega)]
    frame_out
    rfl

/-- The tile's part of the gain's gradient. -/
def part (c : Dev nD) (t : Fin cfg0.N) (i : S1x1024.Idx) : EReal :=
  k0_pay1 (F := Ideal) (k0_pay3 (F := Ideal) (iblk m c 0 t) (iblk m c 1 t)) (k0_pay5 (F := Ideal) (iblk m c 2 t)) i

/-- The first tile leaves its part of the gain's gradient. -/
theorem gain_A (c : Dev nD) (t : Fin cfg0.N) (h : t.val % 4 = 0) (i : S1x1024.Idx) :
    (outsAt0 m c t.val t.isLt).2.1 i = part m c t i := by
  have ht : t.val < 4 := lt_of_lt_of_eq t.isLt N_0
  rw [outsAt0_A m c t h (by omega)]
  frame_out
  rfl

/-- The others add theirs to what the tile before left. -/
theorem gain_B (c : Dev nD) (t : Fin cfg0.N) (h : ¬t.val % 4 = 0) (i : S1x1024.Idx) :
    (outsAt0 m c t.val t.isLt).2.1 i
      = (outsAt0 m c (t.val - 1) (Nat.lt_of_le_of_lt (Nat.sub_le _ _) t.isLt)).2.1 i + part m c t i := by
  rw [outsAt0_B m c t h (by omega)]
  frame_out
  rw [added_g]
  rfl

/-- One token's part of the gain's gradient. -/
def token (X D : FVec Ideal S4096x1024 .f32) (q : Fin 1024) (p : Fin 4096) : EReal :=
  D (ix2 p q) * (X (ix2 p q)
    * Ideal.rsqrt (Ideal.div (∑ j : Fin 1024, X (ix2 p j) * X (ix2 p j)) (Ideal.ofBits .f32 0x44800000#32) + Ideal.ofBits .f32 0x358637BD#32))

/-- The tile's part, as the reference's terms. -/
theorem part_at (c : Dev nD) (t : Fin cfg0.N) (q : Fin 1024) (p : Fin 1024 → Fin 4096) (hp : ∀ k, (p k : ℕ) = t.val * 1024 + k) :
    part m c t (ix2 (0 : Fin 1) q) = ∑ k : Fin 1024, token (a0 m c) (val_main_v17 (F := Ideal) (a2 m c) (a3 m c)) q (p k) :=
  stored_g _ _ q (fun k j => val_main_v17 (F := Ideal) (a2 m c) (a3 m c) (ix2 (p k) j)) (fun k j => a0 m c (ix2 (p k) j))
    (fun k j => acc_at m c t k j (p k) (hp k)) (fun k j => blk_x m c t k j (p k) (hp k))

/-- What the kernel stores of the input's gradient is the reference's. -/
theorem point (c : Dev nD) (t : Fin cfg0.N) (k q : Fin 1024) (p : Fin 4096) (hp : (p : ℕ) = t.val * 1024 + k) :
    k0_pay6 (F := Ideal) (iblk m c 0 t) (iblk m c 1 t) (iblk m c 2 t) (iblk m c 3 t) (iblk m c 4 t) (ix2 k q) = val_main_v38 (F := Ideal) (a0 m c) (a1 m c) (a2 m c) (a3 m c) (a4 m c) (ix2 p q) := by
  refine (stored_x _ _ _ _ _ k q (fun j => val_main_v17 (F := Ideal) (a2 m c) (a3 m c) (ix2 p j)) (fun j => a0 m c (ix2 p j))
    (fun j => a1 m c (ix1 j)) (a4 m c (ix2 p q)) _ (fun j => acc_at m c t k j p hp) (fun j => blk_x m c t k j p hp) (fun j => blk_g m c t j)
    (blk_o m c t k q p hp) rfl).trans ?_
  refine (norm_row (fun j => a0 m c (ix2 p j)) (fun j => a1 m c (ix1 j))
    (fun j => val_main_v17 (F := Ideal) (a2 m c) (a3 m c) (ix2 p j)) (a4 m c (ix2 p q)) q _ _ _ rfl rfl rfl).trans ?_
  exact (dx_ref (a0 m c) (a1 m c) (a2 m c) (a3 m c) (a4 m c) p q _ rfl _ _ _ rfl rfl rfl).symm

/-- The first result array after the run is the reference's gradient of the input. -/
theorem final_x (c : Dev nD) : (dats m 0 c).arrAt 5 cfg0.N = val_main_v38 (F := Ideal) (a0 m c) (a1 m c) (a2 m c) (a3 m c) (a4 m c) := by
  refine (dats m 0 c).arrAt_eq_of_covers 5 _ (by decide +kernel) fun t hf y => ?_
  have ht : t.val < 4 := lt_of_lt_of_eq t.isLt N_0
  have y0 : (y 0).val < 1024 := (y 0).isLt
  blk_simp
  rw [after0_5, out_x m c t]
  have hy : y = ix2 (⟨(y 0).val, (y 0).isLt⟩ : Fin 1024) (⟨(y 1).val, (y 1).isLt⟩ : Fin 1024) := by blk_ext
  rw [hy]
  refine (point m c t _ _ (⟨t.val * 1024 + (y 0).val, by omega⟩ : Fin 4096) rfl).trans ?_
  congr 1
  blk_ext [idx t]

/-- The rounded copy is the reference's. -/
theorem final_lo (c : Dev nD) : (dats m 0 c).arrAt 7 cfg0.N = val_main_v39 (F := Ideal) (a0 m c) (a1 m c) (a2 m c) (a3 m c) (a4 m c) := by
  refine (dats m 0 c).arrAt_eq_of_covers 7 _ (by decide +kernel) fun t hf y => ?_
  have ht : t.val < 4 := lt_of_lt_of_eq t.isLt N_0
  have y0 : (y 0).val < 1024 := (y 0).isLt
  blk_simp
  rw [after0_7, out_lo m c t]
  have hy : y = ix2 (⟨(y 0).val, (y 0).isLt⟩ : Fin 1024) (⟨(y 1).val, (y 1).isLt⟩ : Fin 1024) := by blk_ext
  rw [hy]
  refine (point m c t _ _ (⟨t.val * 1024 + (y 0).val, by omega⟩ : Fin 4096) rfl).trans ?_
  show _ = val_main_v38 (F := Ideal) (a0 m c) (a1 m c) (a2 m c) (a3 m c) (a4 m c) _
  congr 1
  blk_ext [idx t]

/-- The gain's gradient after the run is the reference's. -/
theorem final_g (c : Dev nD) : (dats m 0 c).arrAt 6 cfg0.N = val_main_v40 (F := Ideal) (a0 m c) (a2 m c) (a3 m c) := by
  refine (dats m 0 c).arrAt_eq_of_covers 6 _ (by decide +kernel) fun t hf y => ?_
  have h4 : t.val < 4 := lt_of_lt_of_eq t.isLt N_0
  have h3 : t.val % 4 = 4 - 1 := (flush0_6 t).mp hf
  blk_simp
  rw [after0_6]
  have hy : y = ix2 (0 : Fin 1) (⟨(y 1).val, (y 1).isLt⟩ : Fin 1024) := by blk_ext
  generalize (⟨(y 1).val, (y 1).isLt⟩ : Fin 1024) = q at hy
  subst hy
  have he : (win0_6.blk t).view.emb (ix2 (0 : Fin 1) q) = ix2 (0 : Fin 1) q := by blk_ext [idx t]
  refine Eq.trans ?_ (congrArg (val_main_v40 (F := Ideal) (a0 m c) (a2 m c) (a3 m c)) he).symm
  refine Eq.trans ?_ (dgain_ref (a0 m c) (a2 m c) (a3 m c) q _ rfl).symm
  rw [gain_B m c t (by omega)]
  refine (Cert.Sums.carried_sum (fun n h => (outsAt0 m c n h).2.1) (part m c) (by norm_num) (gain_A m c)
    (fun t h _ => gain_B m c t h) t h3 (ix2 (0 : Fin 1) q)).trans ?_
  have hs : ∀ s : Fin 4, part m c ⟨4 * (t.val / 4) + s.val, Pipeline.run_point_lt_of_flush t h3 s⟩ (ix2 (0 : Fin 1) q)
      = ∑ k : Fin 1024, token (a0 m c) (val_main_v17 (F := Ideal) (a2 m c) (a3 m c)) q ⟨s.val * 1024 + k.val, by omega⟩ := fun s =>
    part_at m c _ q (fun k => ⟨s.val * 1024 + k.val, by omega⟩) (fun k => by show _ = (4 * (t.val / 4) + s.val) * 1024 + k.val; dsimp only; omega)
  simp only [hs]
  refine Fin.sum_mul_add_congr fun s k hk => ?_
  unfold token
  exact mul_comm _ _

end Cert.OdDhIdeal.Hand

namespace Cert.OdDhClaim

open Idealize.ShloMosaic Idealize.ShloMosaic.TcCoe Idealize.SL.Sem

set_option maxHeartbeats 1600000 in
theorem algebraic : Cert.algebraic_OdDhIdeal_ReferenceOdDhIdeal := by
  pair_intro
  · run_from Cert.OdDhIdeal.Value.run_blocks m g
  · run_from Cert.ReferenceOdDhIdeal.Value.run m' g'
    · rw [Cert.ReferenceOdDhIdeal.Read.val_main_v38_eq, (hagree c).1, (hagree c).2.1, (hagree c).2.2.1, (hagree c).2.2.2.1, (hagree c).2.2.2.2]
      exact (Cert.OdDhIdeal.Hand.final_x m c).symm
    · rw [Cert.ReferenceOdDhIdeal.Read.val_main_v39_eq, (hagree c).1, (hagree c).2.1, (hagree c).2.2.1, (hagree c).2.2.2.1, (hagree c).2.2.2.2]
      exact (Cert.OdDhIdeal.Hand.final_lo m c).symm
    · rw [Cert.ReferenceOdDhIdeal.Read.val_main_v40_eq]
      exact (Cert.OdDhIdeal.Hand.final_g m c).symm

theorem quiescent_reference : Cert.quiescent_ReferenceOdDhIdeal := fun m g _ =>
  (θ_run Cert.ReferenceOdDhIdeal.defs _ _).mono
    (fun r h => ⟨fun c => (h c).2.2.2, Idealize.ShloMosaic.sem_eq_zero_of_no_sems (by decide) r.2⟩)
    (Cert.ReferenceOdDhIdeal.Value.run m g)

theorem all : Cert.quiescent_OdDh ∧ Cert.quiescent_OdDhIdeal ∧ Cert.quiescent_ReferenceOdDhIdeal
    ∧ Cert.preserves_OdDh_OdDhIdeal ∧ Cert.algebraic_OdDhIdeal_ReferenceOdDhIdeal :=
  ⟨fun m g _ => Cert.OdDh.Gen.frame m g, fun m g _ => Cert.OdDhIdeal.Gen.frame m g, quiescent_reference, trivial, algebraic⟩

end Cert.OdDhClaim

end
-- ==== Proof.OdIn.lean ====
/- The odd mixers' first projection. -/
module

public import proofs.«01_k».proof.Defs
public import proofs.«01_k».proof.Proof.Gen.OdIn.Frame
public import proofs.«01_k».proof.Proof.Gen.OdInIdeal.Value
public import proofs.«01_k».proof.Proof.Gen.ReferenceOdInIdeal.Read
public import proofs.«01_k».proof.Proof.Gen.ReferenceOdInIdeal.Run
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

namespace Cert.OdInIdeal.Hand

open Cert.OdInIdeal Cert.OdInIdeal.Gen Idealize.ShloMosaic Idealize.ShloMosaic.TcCoe Idealize.SL.Sem
open Idealize.ShloMosaic.Pipeline (Dat)
open Cert.ReferenceOdInIdeal.Read

variable (m : (ℓ : Loc nD τ sig) → Buf (Elt Ideal) ℓ)

abbrev a0 (c : Dev nD) := m ((c.tc : Thread nD τ).loc main_arg0)
abbrev a1 (c : Dev nD) := m ((c.tc : Thread nD τ).loc main_arg1)

/-- The block indices of the windows at each grid point. -/
theorem idx : ∀ t : Fin cfg0.N, win0_0.index t = ![t.val, 0] ∧ win0_1.index t = ![0, 0] ∧ win0_2.index t = ![t.val, 0] :=
  (by decide +kernel : ∀ t : Fin grid0.N, _)

theorem entry_x (c : Dev nD) : V m c main_v0 = (truncf .bf16 (a0 m c) bitsLt_bf16_f32 : FVec Ideal S4096x1024 .bf16) := by
  entry_read
  rfl

theorem blk_x (c : Dev nD) (t : Fin cfg0.N) (k : Fin 1024) (q : Fin 1024) (p : Fin 4096) (hp : (p : ℕ) = t.val * 1024 + k) :
    (iblk m c 0 t : FVec Ideal S1024x1024 .bf16) (ix2 k q) = a0 m c (ix2 p q) := by
  have : a0 m c (ix2 p q) = (V m c main_v0 : FVec Ideal S4096x1024 .bf16) (ix2 p q) := by rw [entry_x]; rfl
  rw [this]
  blk_ext [iblk, idx t]

theorem entry_w (c : Dev nD) : V m c main_v1 = (truncf .bf16 (a1 m c) bitsLt_bf16_f32 : FVec Ideal S1024x1536 .bf16) := by
  entry_read
  rfl

theorem blk_w (c : Dev nD) (t : Fin cfg0.N) (k : Fin 1024) (q : Fin 1536) :
    (iblk m c 1 t : FVec Ideal S1024x1536 .bf16) (ix2 k q) = a1 m c (ix2 k q) := by
  have : a1 m c (ix2 k q) = (V m c main_v1 : FVec Ideal S1024x1536 .bf16) (ix2 k q) := by rw [entry_w]; rfl
  rw [this]
  blk_ext [iblk, idx t]

/-- One entry of what a point stores. -/
theorem stored (X : FVec Ideal S1024x1024 .bf16) (Y : FVec Ideal S1024x1536 .bf16) (k : Fin 1024) (q : Fin 1536) :
    k0_pay1 (F := Ideal) X Y (ix2 k q) = ∑ j : Fin 1024, X (ix2 k j) * Y (ix2 j q) := by
  pointwise [k0_pay1]

/-- What a point stores is the reference's product. -/
theorem point (c : Dev nD) (t : Fin cfg0.N) (k : Fin 1024) (q : Fin 1536) (p : Fin 4096) (hp : (p : ℕ) = t.val * 1024 + k) :
    k0_pay1 (F := Ideal) (iblk m c 0 t) (iblk m c 1 t) (ix2 k q) = val_main_v1 (F := Ideal) (a0 m c) (a1 m c) (ix2 p q) := by
  rw [stored, val_main_v1_apply, val_main_v0_apply]
  refine Fin.sum_fin_congr fun j => ?_
  rw [blk_x m c t k j p hp, blk_w]
  congr 1 <;> (congr 1; blk_ext)

/-- The result array after the run is the reference's. -/
theorem final (c : Dev nD) : (dats m 0 c).arrAt 2 cfg0.N = val_main_v1 (F := Ideal) (a0 m c) (a1 m c) := by
  refine (dats m 0 c).arrAt_eq_of_covers 2 _ (by decide +kernel) fun t hf y => ?_
  have ht : t.val < 4 := lt_of_lt_of_eq t.isLt N_0
  have y0 : (y 0).val < 1024 := (y 0).isLt
  blk_simp
  rw [after0_2]
  unfold out0_2
  frame_out
  have hy : y = ix2 (⟨(y 0).val, (y 0).isLt⟩ : Fin 1024) (⟨(y 1).val, (y 1).isLt⟩ : Fin 1536) := by blk_ext
  refine Eq.trans ?_ ((point m c t (⟨(y 0).val, (y 0).isLt⟩ : Fin 1024) (⟨(y 1).val, (y 1).isLt⟩ : Fin 1536) (⟨t.val * 1024 + (y 0).val, by omega⟩ : Fin 4096) rfl).trans ?_)
  · exact congrArg _ hy
  · congr 1
    blk_ext [idx t]

end Cert.OdInIdeal.Hand

namespace Cert.OdInClaim

open Idealize.ShloMosaic Idealize.ShloMosaic.TcCoe Idealize.SL.Sem

set_option maxHeartbeats 1600000 in
theorem algebraic : Cert.algebraic_OdInIdeal_ReferenceOdInIdeal := by
  pair_intro
  · run_from Cert.OdInIdeal.Value.run_blocks m g
  · run_from Cert.ReferenceOdInIdeal.Value.run m' g'
    rw [Cert.ReferenceOdInIdeal.Read.val_main_v1_eq]
    exact (Cert.OdInIdeal.Hand.final m c).symm

theorem quiescent_reference : Cert.quiescent_ReferenceOdInIdeal := fun m g _ =>
  (θ_run Cert.ReferenceOdInIdeal.defs _ _).mono
    (fun r h => ⟨fun c => (h c).2, Idealize.ShloMosaic.sem_eq_zero_of_no_sems (by decide) r.2⟩)
    (Cert.ReferenceOdInIdeal.Value.run m g)

theorem all : Cert.quiescent_OdIn ∧ Cert.quiescent_OdInIdeal ∧ Cert.quiescent_ReferenceOdInIdeal
    ∧ Cert.preserves_OdIn_OdInIdeal ∧ Cert.algebraic_OdInIdeal_ReferenceOdInIdeal :=
  ⟨fun m g _ => Cert.OdIn.Gen.frame m g, fun m g _ => Cert.OdInIdeal.Gen.frame m g, quiescent_reference, trivial, algebraic⟩

end Cert.OdInClaim

end
-- ==== Proof.EvIn.lean ====
/- The even mixers' first projection. -/
module

public import proofs.«01_k».proof.Defs
public import proofs.«01_k».proof.Proof.Gen.EvIn.Frame
public import proofs.«01_k».proof.Proof.Gen.EvInIdeal.Value
public import proofs.«01_k».proof.Proof.Gen.ReferenceEvInIdeal.Read
public import proofs.«01_k».proof.Proof.Gen.ReferenceEvInIdeal.Run
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

namespace Cert.EvInIdeal.Hand

open Cert.EvInIdeal Cert.EvInIdeal.Gen Idealize.ShloMosaic Idealize.ShloMosaic.TcCoe Idealize.SL.Sem
open Idealize.ShloMosaic.Pipeline (Dat)
open Cert.ReferenceEvInIdeal.Read

variable (m : (ℓ : Loc nD τ sig) → Buf (Elt Ideal) ℓ)

abbrev a0 (c : Dev nD) := m ((c.tc : Thread nD τ).loc main_arg0)
abbrev a1 (c : Dev nD) := m ((c.tc : Thread nD τ).loc main_arg1)

/-- The block indices of the windows at each grid point. -/
theorem idx : ∀ t : Fin cfg0.N, win0_0.index t = ![t.val, 0] ∧ win0_1.index t = ![0, 0] ∧ win0_2.index t = ![t.val, 0] :=
  (by decide +kernel : ∀ t : Fin grid0.N, _)

theorem entry_x (c : Dev nD) : V m c main_v0 = (truncf .bf16 (a0 m c) bitsLt_bf16_f32 : FVec Ideal S4096x1024 .bf16) := by
  entry_read
  rfl

theorem blk_x (c : Dev nD) (t : Fin cfg0.N) (k : Fin 1024) (q : Fin 1024) (p : Fin 4096) (hp : (p : ℕ) = t.val * 1024 + k) :
    (iblk m c 0 t : FVec Ideal S1024x1024 .bf16) (ix2 k q) = a0 m c (ix2 p q) := by
  have : a0 m c (ix2 p q) = (V m c main_v0 : FVec Ideal S4096x1024 .bf16) (ix2 p q) := by rw [entry_x]; rfl
  rw [this]
  blk_ext [iblk, idx t]

theorem entry_w (c : Dev nD) : V m c main_v1 = (truncf .bf16 (a1 m c) bitsLt_bf16_f32 : FVec Ideal S1024x2304 .bf16) := by
  entry_read
  rfl

theorem blk_w (c : Dev nD) (t : Fin cfg0.N) (k : Fin 1024) (q : Fin 2304) :
    (iblk m c 1 t : FVec Ideal S1024x2304 .bf16) (ix2 k q) = a1 m c (ix2 k q) := by
  have : a1 m c (ix2 k q) = (V m c main_v1 : FVec Ideal S1024x2304 .bf16) (ix2 k q) := by rw [entry_w]; rfl
  rw [this]
  blk_ext [iblk, idx t]

/-- One entry of what a point stores. -/
theorem stored (X : FVec Ideal S1024x1024 .bf16) (Y : FVec Ideal S1024x2304 .bf16) (k : Fin 1024) (q : Fin 2304) :
    k0_pay1 (F := Ideal) X Y (ix2 k q) = ∑ j : Fin 1024, X (ix2 k j) * Y (ix2 j q) := by
  pointwise [k0_pay1]

/-- What a point stores is the reference's product. -/
theorem point (c : Dev nD) (t : Fin cfg0.N) (k : Fin 1024) (q : Fin 2304) (p : Fin 4096) (hp : (p : ℕ) = t.val * 1024 + k) :
    k0_pay1 (F := Ideal) (iblk m c 0 t) (iblk m c 1 t) (ix2 k q) = val_main_v1 (F := Ideal) (a0 m c) (a1 m c) (ix2 p q) := by
  rw [stored, val_main_v1_apply, val_main_v0_apply]
  refine Fin.sum_fin_congr fun j => ?_
  rw [blk_x m c t k j p hp, blk_w]
  congr 1 <;> (congr 1; blk_ext)

/-- The result array after the run is the reference's. -/
theorem final (c : Dev nD) : (dats m 0 c).arrAt 2 cfg0.N = val_main_v1 (F := Ideal) (a0 m c) (a1 m c) := by
  refine (dats m 0 c).arrAt_eq_of_covers 2 _ (by decide +kernel) fun t hf y => ?_
  have ht : t.val < 4 := lt_of_lt_of_eq t.isLt N_0
  have y0 : (y 0).val < 1024 := (y 0).isLt
  blk_simp
  rw [after0_2]
  unfold out0_2
  frame_out
  have hy : y = ix2 (⟨(y 0).val, (y 0).isLt⟩ : Fin 1024) (⟨(y 1).val, (y 1).isLt⟩ : Fin 2304) := by blk_ext
  refine Eq.trans ?_ ((point m c t (⟨(y 0).val, (y 0).isLt⟩ : Fin 1024) (⟨(y 1).val, (y 1).isLt⟩ : Fin 2304) (⟨t.val * 1024 + (y 0).val, by omega⟩ : Fin 4096) rfl).trans ?_)
  · exact congrArg _ hy
  · congr 1
    blk_ext [idx t]

end Cert.EvInIdeal.Hand

namespace Cert.EvInClaim

open Idealize.ShloMosaic Idealize.ShloMosaic.TcCoe Idealize.SL.Sem

set_option maxHeartbeats 1600000 in
theorem algebraic : Cert.algebraic_EvInIdeal_ReferenceEvInIdeal := by
  pair_intro
  · run_from Cert.EvInIdeal.Value.run_blocks m g
  · run_from Cert.ReferenceEvInIdeal.Value.run m' g'
    rw [Cert.ReferenceEvInIdeal.Read.val_main_v1_eq]
    exact (Cert.EvInIdeal.Hand.final m c).symm

theorem quiescent_reference : Cert.quiescent_ReferenceEvInIdeal := fun m g _ =>
  (θ_run Cert.ReferenceEvInIdeal.defs _ _).mono
    (fun r h => ⟨fun c => (h c).2, Idealize.ShloMosaic.sem_eq_zero_of_no_sems (by decide) r.2⟩)
    (Cert.ReferenceEvInIdeal.Value.run m g)

theorem all : Cert.quiescent_EvIn ∧ Cert.quiescent_EvInIdeal ∧ Cert.quiescent_ReferenceEvInIdeal
    ∧ Cert.preserves_EvIn_EvInIdeal ∧ Cert.algebraic_EvInIdeal_ReferenceEvInIdeal :=
  ⟨fun m g _ => Cert.EvIn.Gen.frame m g, fun m g _ => Cert.EvInIdeal.Gen.frame m g, quiescent_reference, trivial, algebraic⟩

end Cert.EvInClaim

end
-- ==== Proof.OdOut.lean ====
/- The odd mixers' second projection. -/
module

public import proofs.«01_k».proof.Defs
public import proofs.«01_k».proof.Proof.Gen.OdOut.Frame
public import proofs.«01_k».proof.Proof.Gen.OdOutIdeal.Value
public import proofs.«01_k».proof.Proof.Gen.ReferenceOdOutIdeal.Read
public import proofs.«01_k».proof.Proof.Gen.ReferenceOdOutIdeal.Run
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

namespace Cert.OdOutIdeal.Hand

open Cert.OdOutIdeal Cert.OdOutIdeal.Gen Idealize.ShloMosaic Idealize.ShloMosaic.TcCoe Idealize.SL.Sem
open Idealize.ShloMosaic.Pipeline (Dat)
open Cert.ReferenceOdOutIdeal.Read

variable (m : (ℓ : Loc nD τ sig) → Buf (Elt Ideal) ℓ)

abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)

/-- The block indices of the windows at each grid point. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem entry_y (c : Dev nD) : V m c main_v0 = (truncf .bf16 (a1 m c) bitsLt_bf16_f32 : FVec Ideal S4096x1024 .bf16) := by
  entry_read
  rfl

theorem blk_y (c : Dev nD) (t : Fin cfg0.N) (k : Fin 1024) (q : Fin 1024) (p : Fin 4096) (hp : (p : ℕ) = t.val * 1024 + k) :
    (iblk m c 0 t : FVec Ideal S1024x1024 .bf16) (ix2 k q) = a1 m c (ix2 p q) := by
  have : a1 m c (ix2 p q) = (V m c main_v0 : FVec Ideal S4096x1024 .bf16) (ix2 p q) := by rw [entry_y]; rfl
  rw [this]
  blk_ext [iblk, idx t]

theorem entry_w (c : Dev nD) : V m c main_v1 = (truncf .bf16 (a2 m c) bitsLt_bf16_f32 : FVec Ideal S1024x1024 .bf16) := by
  entry_read
  rfl

theorem blk_w (c : Dev nD) (t : Fin cfg0.N) (k : Fin 1024) (q : Fin 1024) :
    (iblk m c 1 t : FVec Ideal S1024x1024 .bf16) (ix2 k q) = a2 m c (ix2 k q) := by
  have : a2 m c (ix2 k q) = (V m c main_v1 : FVec Ideal S1024x1024 .bf16) (ix2 k q) := by rw [entry_w]; rfl
  rw [this]
  blk_ext [iblk, idx t]

theorem blk_x (c : Dev nD) (t : Fin cfg0.N) (k : Fin 1024) (q : Fin 1024) (p : Fin 4096) (hp : (p : ℕ) = t.val * 1024 + k) :
    (iblk m c 2 t : FVec Ideal S1024x1024 .f32) (ix2 k q) = a0 m c (ix2 p q) := by
  have : a0 m c (ix2 p q) = (V m c main_arg0 : FVec Ideal S4096x1024 .f32) (ix2 p q) := by rw [V_main_arg0]
  rw [this]
  blk_ext [iblk, idx t]

/-- One entry of what a point stores. -/
theorem stored (Y Z : FVec Ideal S1024x1024 .bf16) (X : FVec Ideal S1024x1024 .f32) (k q : Fin 1024) :
    k0_pay1 (F := Ideal) Y Z X (ix2 k q) = X (ix2 k q) + ∑ j : Fin 1024, Y (ix2 k j) * Z (ix2 j q) := by
  pointwise [k0_pay1]

/-- What a point stores is the reference's rows. -/
theorem point (c : Dev nD) (t : Fin cfg0.N) (k : Fin 1024) (q : Fin 1024) (p : Fin 4096) (hp : (p : ℕ) = t.val * 1024 + k) :
    k0_pay1 (F := Ideal) (iblk m c 0 t) (iblk m c 1 t) (iblk m c 2 t) (ix2 k q) = val_main_v1 (F := Ideal) (a0 m c) (a1 m c) (a2 m c) (ix2 p q) := by
  rw [stored, val_main_v1_apply, val_main_v0_apply, blk_x m c t k q p hp]
  show _ = _ + _
  congr 1
  refine Fin.sum_fin_congr fun j => ?_
  rw [blk_y m c t k j p hp, blk_w]
  congr 1 <;> (congr 1; blk_ext)

/-- The result array after the run is the reference's. -/
theorem final (c : Dev nD) : (dats m 0 c).arrAt 3 cfg0.N = val_main_v1 (F := Ideal) (a0 m c) (a1 m c) (a2 m c) := by
  refine (dats m 0 c).arrAt_eq_of_covers 3 _ (by decide +kernel) fun t hf y => ?_
  have ht : t.val < 4 := lt_of_lt_of_eq t.isLt N_0
  have y0 : (y 0).val < 1024 := (y 0).isLt
  blk_simp
  rw [after0_3]
  unfold out0_3
  frame_out
  have hy : y = ix2 (⟨(y 0).val, (y 0).isLt⟩ : Fin 1024) (⟨(y 1).val, (y 1).isLt⟩ : Fin 1024) := by blk_ext
  refine Eq.trans ?_ ((point m c t (⟨(y 0).val, (y 0).isLt⟩ : Fin 1024) (⟨(y 1).val, (y 1).isLt⟩ : Fin 1024) (⟨t.val * 1024 + (y 0).val, by omega⟩ : Fin 4096) rfl).trans ?_)
  · exact congrArg _ hy
  · congr 1
    blk_ext [idx t]

end Cert.OdOutIdeal.Hand

namespace Cert.OdOutClaim

open Idealize.ShloMosaic Idealize.ShloMosaic.TcCoe Idealize.SL.Sem

set_option maxHeartbeats 1600000 in
theorem algebraic : Cert.algebraic_OdOutIdeal_ReferenceOdOutIdeal := by
  pair_intro
  · run_from Cert.OdOutIdeal.Value.run_blocks m g
  · run_from Cert.ReferenceOdOutIdeal.Value.run m' g'
    rw [Cert.ReferenceOdOutIdeal.Read.val_main_v1_eq]
    exact (Cert.OdOutIdeal.Hand.final m c).symm

theorem quiescent_reference : Cert.quiescent_ReferenceOdOutIdeal := fun m g _ =>
  (θ_run Cert.ReferenceOdOutIdeal.defs _ _).mono
    (fun r h => ⟨fun c => (h c).2, Idealize.ShloMosaic.sem_eq_zero_of_no_sems (by decide) r.2⟩)
    (Cert.ReferenceOdOutIdeal.Value.run m g)

theorem all : Cert.quiescent_OdOut ∧ Cert.quiescent_OdOutIdeal ∧ Cert.quiescent_ReferenceOdOutIdeal
    ∧ Cert.preserves_OdOut_OdOutIdeal ∧ Cert.algebraic_OdOutIdeal_ReferenceOdOutIdeal :=
  ⟨fun m g _ => Cert.OdOut.Gen.frame m g, fun m g _ => Cert.OdOutIdeal.Gen.frame m g, quiescent_reference, trivial, algebraic⟩

end Cert.OdOutClaim

end
-- ==== Proof.EvOut.lean ====
/- The even mixers' second projection. -/
module

public import proofs.«01_k».proof.Defs
public import proofs.«01_k».proof.Proof.Gen.EvOut.Frame
public import proofs.«01_k».proof.Proof.Gen.EvOutIdeal.Value
public import proofs.«01_k».proof.Proof.Gen.ReferenceEvOutIdeal.Read
public import proofs.«01_k».proof.Proof.Gen.ReferenceEvOutIdeal.Run
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

namespace Cert.EvOutIdeal.Hand

open Cert.EvOutIdeal Cert.EvOutIdeal.Gen Idealize.ShloMosaic Idealize.ShloMosaic.TcCoe Idealize.SL.Sem
open Idealize.ShloMosaic.Pipeline (Dat)
open Cert.ReferenceEvOutIdeal.Read

variable (m : (ℓ : Loc nD τ sig) → Buf (Elt Ideal) ℓ)

abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)

/-- The block indices of the windows at each grid point. -/
theorem idx : ∀ t : Fin cfg0.N, win0_0.index t = ![t.val, 0] ∧ win0_1.index t = ![t.val, 0] ∧ win0_2.index t = ![0, 0] ∧ win0_3.index t = ![t.val, 0] ∧ win0_4.index t = ![t.val, 0] :=
  (by decide +kernel : ∀ t : Fin grid0.N, _)

theorem entry_a (c : Dev nD) : V m c main_v0 = (truncf .bf16 (a1 m c) bitsLt_bf16_f32 : FVec Ideal S4096x512 .bf16) := by
  entry_read
  rfl

theorem blk_a (c : Dev nD) (t : Fin cfg0.N) (k : Fin 1024) (q : Fin 512) (p : Fin 4096) (hp : (p : ℕ) = t.val * 1024 + k) :
    (iblk m c 0 t : FVec Ideal S1024x512 .bf16) (ix2 k q) = a1 m c (ix2 p q) := by
  have : a1 m c (ix2 p q) = (V m c main_v0 : FVec Ideal S4096x512 .bf16) (ix2 p q) := by rw [entry_a]; rfl
  rw [this]
  blk_ext [iblk, idx t]

theorem entry_o (c : Dev nD) : V m c main_v1 = (truncf .bf16 (a2 m c) bitsLt_bf16_f32 : FVec Ideal S4096x512 .bf16) := by
  entry_read
  rfl

theorem blk_o (c : Dev nD) (t : Fin cfg0.N) (k : Fin 1024) (q : Fin 512) (p : Fin 4096) (hp : (p : ℕ) = t.val * 1024 + k) :
    (iblk m c 1 t : FVec Ideal S1024x512 .bf16) (ix2 k q) = a2 m c (ix2 p q) := by
  have : a2 m c (ix2 p q) = (V m c main_v1 : FVec Ideal S4096x512 .bf16) (ix2 p q) := by rw [entry_o]; rfl
  rw [this]
  blk_ext [iblk, idx t]

theorem entry_w (c : Dev nD) : V m c main_v2 = (truncf .bf16 (a3 m c) bitsLt_bf16_f32 : FVec Ideal S1024x1024 .bf16) := by
  entry_read
  rfl

theorem blk_w (c : Dev nD) (t : Fin cfg0.N) (k : Fin 1024) (q : Fin 1024) :
    (iblk m c 2 t : FVec Ideal S1024x1024 .bf16) (ix2 k q) = a3 m c (ix2 k q) := by
  have : a3 m c (ix2 k q) = (V m c main_v2 : FVec Ideal S1024x1024 .bf16) (ix2 k q) := by rw [entry_w]; rfl
  rw [this]
  blk_ext [iblk, idx t]

theorem blk_x (c : Dev nD) (t : Fin cfg0.N) (k : Fin 1024) (q : Fin 1024) (p : Fin 4096) (hp : (p : ℕ) = t.val * 1024 + k) :
    (iblk m c 3 t : FVec Ideal S1024x1024 .f32) (ix2 k q) = a0 m c (ix2 p q) := by
  have : a0 m c (ix2 p q) = (V m c main_arg0 : FVec Ideal S4096x1024 .f32) (ix2 p q) := by rw [V_main_arg0]
  rw [this]
  blk_ext [iblk, idx t]

/-- Two products over the halves of a contraction. -/
abbrev both (A O : Fin 512 → EReal) (w : Fin 1024 → EReal) : EReal :=
  (∑ j : Fin 512, A j * w ⟨j.val, by omega⟩) + ∑ j : Fin 512, O j * w ⟨512 + j.val, by omega⟩

/-- One entry of what a point stores. -/
theorem stored (A O : FVec Ideal S1024x512 .bf16) (Z : FVec Ideal S1024x1024 .bf16) (X : FVec Ideal S1024x1024 .f32) (k q : Fin 1024) :
    k0_pay1 (F := Ideal) A O Z X (ix2 k q) = X (ix2 k q) + both (fun j => A (ix2 k j)) (fun j => O (ix2 k j)) (fun j => Z (ix2 j q)) := by
  pointwise [k0_pay1]

/-- The reference's rows, written out. -/
theorem rows_ref (x0 : FVec Ideal S4096x1024 .f32) (x1 x2 : FVec Ideal S4096x512 .f32) (x3 : FVec Ideal S1024x1024 .f32) (p : Fin 4096) (q : Fin 1024) :
    val_main_v2 (F := Ideal) x0 x1 x2 x3 (ix2 p q) = x0 (ix2 p q) + both (fun j => x1 (ix2 p j)) (fun j => x2 (ix2 p j)) (fun j => x3 (ix2 j q)) := by
  unfold val_main_v2 val_main_v1 val_main_v0
  pointwise

/-- What a point stores is the reference's rows. -/
theorem point (c : Dev nD) (t : Fin cfg0.N) (k : Fin 1024) (q : Fin 1024) (p : Fin 4096) (hp : (p : ℕ) = t.val * 1024 + k) :
    k0_pay1 (F := Ideal) (iblk m c 0 t) (iblk m c 1 t) (iblk m c 2 t) (iblk m c 3 t) (ix2 k q) = val_main_v2 (F := Ideal) (a0 m c) (a1 m c) (a2 m c) (a3 m c) (ix2 p q) := by
  rw [stored, rows_ref]
  simp only [blk_x m c t k _ p hp, blk_a m c t k _ p hp, blk_o m c t k _ p hp, blk_w m c t]

/-- The result array after the run is the reference's. -/
theorem final (c : Dev nD) : (dats m 0 c).arrAt 4 cfg0.N = val_main_v2 (F := Ideal) (a0 m c) (a1 m c) (a2 m c) (a3 m c) := by
  refine (dats m 0 c).arrAt_eq_of_covers 4 _ (by decide +kernel) fun t hf y => ?_
  have ht : t.val < 4 := lt_of_lt_of_eq t.isLt N_0
  have y0 : (y 0).val < 1024 := (y 0).isLt
  blk_simp
  rw [after0_4]
  unfold out0_4
  frame_out
  have hy : y = ix2 (⟨(y 0).val, (y 0).isLt⟩ : Fin 1024) (⟨(y 1).val, (y 1).isLt⟩ : Fin 1024) := by blk_ext
  refine Eq.trans ?_ ((point m c t (⟨(y 0).val, (y 0).isLt⟩ : Fin 1024) (⟨(y 1).val, (y 1).isLt⟩ : Fin 1024) (⟨t.val * 1024 + (y 0).val, by omega⟩ : Fin 4096) rfl).trans ?_)
  · exact congrArg _ hy
  · congr 1
    blk_ext [idx t]

end Cert.EvOutIdeal.Hand

namespace Cert.EvOutClaim

open Idealize.ShloMosaic Idealize.ShloMosaic.TcCoe Idealize.SL.Sem

set_option maxHeartbeats 1600000 in
theorem algebraic : Cert.algebraic_EvOutIdeal_ReferenceEvOutIdeal := by
  pair_intro
  · run_from Cert.EvOutIdeal.Value.run_blocks m g
  · run_from Cert.ReferenceEvOutIdeal.Value.run m' g'
    rw [Cert.ReferenceEvOutIdeal.Read.val_main_v2_eq, (hagree c).2.1, (hagree c).2.2.1]
    exact (Cert.EvOutIdeal.Hand.final m c).symm

theorem quiescent_reference : Cert.quiescent_ReferenceEvOutIdeal := fun m g _ =>
  (θ_run Cert.ReferenceEvOutIdeal.defs _ _).mono
    (fun r h => ⟨fun c => (h c).2, Idealize.ShloMosaic.sem_eq_zero_of_no_sems (by decide) r.2⟩)
    (Cert.ReferenceEvOutIdeal.Value.run m g)

theorem all : Cert.quiescent_EvOut ∧ Cert.quiescent_EvOutIdeal ∧ Cert.quiescent_ReferenceEvOutIdeal
    ∧ Cert.preserves_EvOut_EvOutIdeal ∧ Cert.algebraic_EvOutIdeal_ReferenceEvOutIdeal :=
  ⟨fun m g _ => Cert.EvOut.Gen.frame m g, fun m g _ => Cert.EvOutIdeal.Gen.frame m g, quiescent_reference, trivial, algebraic⟩

end Cert.EvOutClaim

end
-- ==== Proof.EvDwin.lean ====
/- The gradient of the even mixers' first matrix: a sum over the tokens, carried over four tiles. -/
module

public import proofs.«01_k».proof.Defs
public import proofs.«01_k».proof.Proof.Sums
public import proofs.«01_k».proof.Proof.Gen.EvDwin.Frame
public import proofs.«01_k».proof.Proof.Gen.EvDwinIdeal.Value
public import proofs.«01_k».proof.Proof.Gen.ReferenceEvDwinIdeal.Read
public import proofs.«01_k».proof.Proof.Gen.ReferenceEvDwinIdeal.Run
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

namespace Cert.EvDwinIdeal.Hand

open Cert.EvDwinIdeal Cert.EvDwinIdeal.Gen Idealize.ShloMosaic Idealize.ShloMosaic.TcCoe Idealize.SL.Sem
open Idealize.ShloMosaic.Pipeline (Dat)
open Cert.ReferenceEvDwinIdeal.Read

variable (m : (ℓ : Loc nD τ sig) → Buf (Elt Ideal) ℓ)

abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)
abbrev a4 (c : Dev nD) := m ((c.tc : Thread nD τ).loc main_arg4)
abbrev a5 (c : Dev nD) := m ((c.tc : Thread nD τ).loc main_arg5)
abbrev a6 (c : Dev nD) := m ((c.tc : Thread nD τ).loc main_arg6)
abbrev a7 (c : Dev nD) := m ((c.tc : Thread nD τ).loc main_arg7)
abbrev a8 (c : Dev nD) := m ((c.tc : Thread nD τ).loc main_arg8)

/-- The block indices of the windows at each grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![0, 0] :=
  (by decide +kernel : ∀ t : Fin grid0.N, _)

theorem entry_h (c : Dev nD) : V m c main_v13 = (truncf .bf16 (val_main_v13 (F := Ideal) (a0 m c) (a1 m c) : FVec Ideal S4096x1024 .f32) bitsLt_bf16_f32 : FVec Ideal S4096x1024 .bf16) := by
  entry_read
  rfl

theorem blk_h (c : Dev nD) (t : Fin cfg0.N) (k : Fin 1024) (q : Fin 1024) (p : Fin 4096) (hp : (p : ℕ) = t.val * 1024 + k) :
    (iblk m c 0 t : FVec Ideal S1024x1024 .bf16) (ix2 k q) = val_main_v13 (F := Ideal) (a0 m c) (a1 m c) (ix2 p q) := by
  have : val_main_v13 (F := Ideal) (a0 m c) (a1 m c) (ix2 p q) = (V m c main_v13 : FVec Ideal S4096x1024 .bf16) (ix2 p q) := by rw [entry_h]; rfl
  rw [this]
  blk_ext [iblk, idx t]

theorem entry_b (c : Dev nD) : V m c main_v14 = (truncf .bf16 (a3 m c) bitsLt_bf16_f32 : FVec Ideal S4096x512 .bf16) := by
  entry_read
  rfl

theorem blk_b (c : Dev nD) (t : Fin cfg0.N) (k : Fin 1024) (q : Fin 512) (p : Fin 4096) (hp : (p : ℕ) = t.val * 1024 + k) :
    (iblk m c 1 t : FVec Ideal S1024x512 .bf16) (ix2 k q) = a3 m c (ix2 p q) := by
  have : a3 m c (ix2 p q) = (V m c main_v14 : FVec Ideal S4096x512 .bf16) (ix2 p q) := by rw [entry_b]; rfl
  rw [this]
  blk_ext [iblk, idx t]

theorem entry_c (c : Dev nD) : V m c main_v15 = (truncf .bf16 (a4 m c) bitsLt_bf16_f32 : FVec Ideal S4096x512 .bf16) := by
  entry_read
  rfl

theorem blk_c (c : Dev nD) (t : Fin cfg0.N) (k : Fin 1024) (q : Fin 512) (p : Fin 4096) (hp : (p : ℕ) = t.val * 1024 + k) :
    (iblk m c 2 t : FVec Ideal S1024x512 .bf16) (ix2 k q) = a4 m c (ix2 p q) := by
  have : a4 m c (ix2 p q) = (V m c main_v15 : FVec Ideal S4096x512 .bf16) (ix2 p q) := by rw [entry_c]; rfl
  rw [this]
  blk_ext [iblk, idx t]

theorem entry_e (c : Dev nD) : V m c main_v16 = (truncf .bf16 (a5 m c) bitsLt_bf16_f32 : FVec Ideal S4096x512 .bf16) := by
  entry_read
  rfl

theorem blk_e (c : Dev nD) (t : Fin cfg0.N) (k : Fin 1024) (q : Fin 512) (p : Fin 4096) (hp : (p : ℕ) = t.val * 1024 + k) :
    (iblk m c 3 t : FVec Ideal S1024x512 .bf16) (ix2 k q) = a5 m c (ix2 p q) := by
  have : a5 m c (ix2 p q) = (V m c main_v16 : FVec Ideal S4096x512 .bf16) (ix2 p q) := by rw [entry_e]; rfl
  rw [this]
  blk_ext [iblk, idx t]

theorem entry_q (c : Dev nD) : V m c main_v17 = (truncf .bf16 (a6 m c) bitsLt_bf16_f32 : FVec Ideal S4096x512 .bf16) := by
  entry_read
  rfl

theorem blk_q (c : Dev nD) (t : Fin cfg0.N) (k : Fin 1024) (q : Fin 512) (p : Fin 4096) (hp : (p : ℕ) = t.val * 1024 + k) :
    (iblk m c 4 t : FVec Ideal S1024x512 .bf16) (ix2 k q) = a6 m c (ix2 p q) := by
  have : a6 m c (ix2 p q) = (V m c main_v17 : FVec Ideal S4096x512 .bf16) (ix2 p q) := by rw [entry_q]; rfl
  rw [this]
  blk_ext [iblk, idx t]

theorem entry_k (c : Dev nD) : V m c main_v18 = (truncf .bf16 (a7 m c) bitsLt_bf16_f32 : FVec Ideal S4096x128 .bf16) := by
  entry_read
  rfl

theorem blk_k (c : Dev nD) (t : Fin cfg0.N) (k : Fin 1024) (q : Fin 128) (p : Fin 4096) (hp : (p : ℕ) = t.val * 1024 + k) :
    (iblk m c 5 t : FVec Ideal S1024x128 .bf16) (ix2 k q) = a7 m c (ix2 p q) := by
  have : a7 m c (ix2 p q) = (V m c main_v18 : FVec Ideal S4096x128 .bf16) (ix2 p q) := by rw [entry_k]; rfl
  rw [this]
  blk_ext [iblk, idx t]

theorem blk_v (c : Dev nD) (t : Fin cfg0.N) (k : Fin 1024) (q : Fin 128) (p : Fin 4096) (hp : (p : ℕ) = t.val * 1024 + k) :
    (iblk m c 6 t : FVec Ideal S1024x128 .f32) (ix2 k q) = a8 m c (ix2 p q) := by
  have : a8 m c (ix2 p q) = (V m c main_arg8 : FVec Ideal S4096x128 .f32) (ix2 p q) := by rw [V_main_arg8]
  rw [this]
  blk_ext [iblk, idx t]

/-- The terms one point adds: its tile of tokens. -/
def term (c : Dev nD) (t : Fin cfg0.N) (i : S1024x2304.Idx) : EReal :=
  k0_pay1 (F := Ideal) (iblk m c 0 t) (iblk m c 1 t) (iblk m c 2 t) (iblk m c 3 t) (iblk m c 4 t) (iblk m c 5 t) (iblk m c 6 t) i

theorem scratch_A (c : Dev nD) (t : Fin cfg0.N) (h : t.val % 4 = 0) (i : S1024x2304.Idx) :
    (outsAt0 m c t.val t.isLt).2 i = term m c t i := by
  rw [outsAt0_A m c t h (by omega) (by omega)]
  frame_out
  unfold term
  pointwise [k0_pay2]

theorem scratch_B (c : Dev nD) (t : Fin cfg0.N) (h : ¬t.val % 4 = 0) (h3 : ¬t.val % 4 = 4 - 1) (i : S1024x2304.Idx) :
    (outsAt0 m c t.val t.isLt).2 i = (outsAt0 m c (t.val - 1) (Nat.lt_of_le_of_lt (Nat.sub_le _ _) t.isLt)).2 i + term m c t i := by
  rw [outsAt0_B m c t h (by omega) (by omega)]
  frame_out
  unfold term
  rw [read_unread_whole]
  pointwise [k0_pay3]

/-- What the last point of a run writes back: the whole contraction. -/
theorem out_last (c : Dev nD) (t : Fin cfg0.N) (h3 : t.val % 4 = 4 - 1) (i : S1024x2304.Idx) :
    (outsAt0 m c t.val t.isLt).1 i
      = ∑ s : Fin 4, term m c ⟨4 * (t.val / 4) + s.val, Pipeline.run_point_lt_of_flush t h3 s⟩ i := by
  rw [← Cert.Sums.carried_sum (fun n h => (outsAt0 m c n h).2) (term m c) (by norm_num) (scratch_A m c) (scratch_B m c) t h3 i]
  rw [outsAt0_C m c t (by omega) (by omega) h3]
  frame_out
  unfold term
  rw [read_unread_whole]
  pointwise [k0_pay4]

/-- One entry of a product with six parts side by side, by the part it falls in. -/
theorem mul_b (H : FVec Ideal S1024x1024 .bf16) (B C G Q : FVec Ideal S1024x512 .bf16) (K : FVec Ideal S1024x128 .bf16) (U : FVec Ideal S1024x128 .f32) (r : Fin 512) (u : Fin 2304) (hu : (u : ℕ) = r) (p : Fin 1024) :
    k0_pay1 (F := Ideal) H B C G Q K U (ix2 p u) = ∑ j : Fin 1024, H (ix2 j p) * B (ix2 j r) := by
  rw [show u = (⟨r.val, by omega⟩ : Fin 2304) from Fin.ext hu]
  pointwise [k0_pay1]
  all_goals
    have e : ∀ h, (⟨r.val, h⟩ : Fin 512) = r := fun h => Fin.ext (by dsimp only; omega)
    simp (disch := omega) only [dif_neg, dif_pos, e]

theorem mul_c (H : FVec Ideal S1024x1024 .bf16) (B C G Q : FVec Ideal S1024x512 .bf16) (K : FVec Ideal S1024x128 .bf16) (U : FVec Ideal S1024x128 .f32) (r : Fin 512) (u : Fin 2304) (hu : (u : ℕ) = 512 + r) (p : Fin 1024) :
    k0_pay1 (F := Ideal) H B C G Q K U (ix2 p u) = ∑ j : Fin 1024, H (ix2 j p) * C (ix2 j r) := by
  rw [show u = (⟨512 + r.val, by omega⟩ : Fin 2304) from Fin.ext hu]
  pointwise [k0_pay1]
  all_goals
    have e : ∀ h, (⟨512 + r.val - 512, h⟩ : Fin 512) = r := fun h => Fin.ext (by dsimp only; omega)
    simp (disch := omega) only [dif_neg, dif_pos, e]

theorem mul_e (H : FVec Ideal S1024x1024 .bf16) (B C G Q : FVec Ideal S1024x512 .bf16) (K : FVec Ideal S1024x128 .bf16) (U : FVec Ideal S1024x128 .f32) (r : Fin 512) (u : Fin 2304) (hu : (u : ℕ) = 1024 + r) (p : Fin 1024) :
    k0_pay1 (F := Ideal) H B C G Q K U (ix2 p u) = ∑ j : Fin 1024, H (ix2 j p) * G (ix2 j r) := by
  rw [show u = (⟨1024 + r.val, by omega⟩ : Fin 2304) from Fin.ext hu]
  pointwise [k0_pay1]
  all_goals
    have e : ∀ h, (⟨1024 + r.val - 512 - 512, h⟩ : Fin 512) = r := fun h => Fin.ext (by dsimp only; omega)
    simp (disch := omega) only [dif_neg, dif_pos, e]

theorem mul_q (H : FVec Ideal S1024x1024 .bf16) (B C G Q : FVec Ideal S1024x512 .bf16) (K : FVec Ideal S1024x128 .bf16) (U : FVec Ideal S1024x128 .f32) (r : Fin 512) (u : Fin 2304) (hu : (u : ℕ) = 1536 + r) (p : Fin 1024) :
    k0_pay1 (F := Ideal) H B C G Q K U (ix2 p u) = ∑ j : Fin 1024, H (ix2 j p) * Q (ix2 j r) := by
  rw [show u = (⟨1536 + r.val, by omega⟩ : Fin 2304) from Fin.ext hu]
  pointwise [k0_pay1]
  all_goals
    have e : ∀ h, (⟨1536 + r.val - 512 - 512 - 512, h⟩ : Fin 512) = r := fun h => Fin.ext (by dsimp only; omega)
    simp (disch := omega) only [dif_neg, dif_pos, e]

theorem mul_k (H : FVec Ideal S1024x1024 .bf16) (B C G Q : FVec Ideal S1024x512 .bf16) (K : FVec Ideal S1024x128 .bf16) (U : FVec Ideal S1024x128 .f32) (r : Fin 128) (u : Fin 2304) (hu : (u : ℕ) = 2048 + r) (p : Fin 1024) :
    k0_pay1 (F := Ideal) H B C G Q K U (ix2 p u) = ∑ j : Fin 1024, H (ix2 j p) * K (ix2 j r) := by
  rw [show u = (⟨2048 + r.val, by omega⟩ : Fin 2304) from Fin.ext hu]
  pointwise [k0_pay1]
  all_goals
    have e : ∀ h, (⟨2048 + r.val - 512 - 512 - 512 - 512, h⟩ : Fin 128) = r := fun h => Fin.ext (by dsimp only; omega)
    simp (disch := omega) only [dif_neg, dif_pos, e]

theorem mul_v (H : FVec Ideal S1024x1024 .bf16) (B C G Q : FVec Ideal S1024x512 .bf16) (K : FVec Ideal S1024x128 .bf16) (U : FVec Ideal S1024x128 .f32) (r : Fin 128) (u : Fin 2304) (hu : (u : ℕ) = 2176 + r) (p : Fin 1024) :
    k0_pay1 (F := Ideal) H B C G Q K U (ix2 p u) = ∑ j : Fin 1024, H (ix2 j p) * U (ix2 j r) := by
  rw [show u = (⟨2176 + r.val, by omega⟩ : Fin 2304) from Fin.ext hu]
  pointwise [k0_pay1]
  all_goals
    have e : ∀ h, (⟨2176 + r.val - 512 - 512 - 512 - 512 - 128, h⟩ : Fin 128) = r := fun h => Fin.ext (by dsimp only; omega)
    simp (disch := omega) only [dif_neg, dif_pos, e]

/-- The six parts side by side. -/
theorem side_b (x3 x4 x5 x6 : FVec Ideal S4096x512 .f32) (x7 x8 : FVec Ideal S4096x128 .f32) (p : Fin 4096) (r : Fin 512) (u : Fin 2304) (hu : (u : ℕ) = r) :
    val_main_v0 (F := Ideal) x3 x4 x5 x6 x7 x8 (ix2 p u) = x3 (ix2 p r) := by
  rw [show u = (⟨r.val, by omega⟩ : Fin 2304) from Fin.ext hu]
  unfold val_main_v0
  pointwise
  all_goals
    have e : ∀ h, (⟨r.val, h⟩ : Fin 512) = r := fun h => Fin.ext (by dsimp only; omega)
    simp (disch := omega) only [dif_neg, dif_pos, e]

theorem side_c (x3 x4 x5 x6 : FVec Ideal S4096x512 .f32) (x7 x8 : FVec Ideal S4096x128 .f32) (p : Fin 4096) (r : Fin 512) (u : Fin 2304) (hu : (u : ℕ) = 512 + r) :
    val_main_v0 (F := Ideal) x3 x4 x5 x6 x7 x8 (ix2 p u) = x4 (ix2 p r) := by
  rw [show u = (⟨512 + r.val, by omega⟩ : Fin 2304) from Fin.ext hu]
  unfold val_main_v0
  pointwise
  all_goals
    have e : ∀ h, (⟨512 + r.val - 512, h⟩ : Fin 512) = r := fun h => Fin.ext (by dsimp only; omega)
    simp (disch := omega) only [dif_neg, dif_pos, e]

theorem side_e (x3 x4 x5 x6 : FVec Ideal S4096x512 .f32) (x7 x8 : FVec Ideal S4096x128 .f32) (p : Fin 4096) (r : Fin 512) (u : Fin 2304) (hu : (u : ℕ) = 1024 + r) :
    val_main_v0 (F := Ideal) x3 x4 x5 x6 x7 x8 (ix2 p u) = x5 (ix2 p r) := by
  rw [show u = (⟨1024 + r.val, by omega⟩ : Fin 2304) from Fin.ext hu]
  unfold val_main_v0
  pointwise
  all_goals
    have e : ∀ h, (⟨1024 + r.val - 512 - 512, h⟩ : Fin 512) = r := fun h => Fin.ext (by dsimp only; omega)
    simp (disch := omega) only [dif_neg, dif_pos, e]

theorem side_q (x3 x4 x5 x6 : FVec Ideal S4096x512 .f32) (x7 x8 : FVec Ideal S4096x128 .f32) (p : Fin 4096) (r : Fin 512) (u : Fin 2304) (hu : (u : ℕ) = 1536 + r) :
    val_main_v0 (F := Ideal) x3 x4 x5 x6 x7 x8 (ix2 p u) = x6 (ix2 p r) := by
  rw [show u = (⟨1536 + r.val, by omega⟩ : Fin 2304) from Fin.ext hu]
  unfold val_main_v0
  pointwise
  all_goals
    have e : ∀ h, (⟨1536 + r.val - 512 - 512 - 512, h⟩ : Fin 512) = r := fun h => Fin.ext (by dsimp only; omega)
    simp (disch := omega) only [dif_neg, dif_pos, e]

theorem side_k (x3 x4 x5 x6 : FVec Ideal S4096x512 .f32) (x7 x8 : FVec Ideal S4096x128 .f32) (p : Fin 4096) (r : Fin 128) (u : Fin 2304) (hu : (u : ℕ) = 2048 + r) :
    val_main_v0 (F := Ideal) x3 x4 x5 x6 x7 x8 (ix2 p u) = x7 (ix2 p r) := by
  rw [show u = (⟨2048 + r.val, by omega⟩ : Fin 2304) from Fin.ext hu]
  unfold val_main_v0
  pointwise
  all_goals
    have e : ∀ h, (⟨2048 + r.val - 512 - 512 - 512 - 512, h⟩ : Fin 128) = r := fun h => Fin.ext (by dsimp only; omega)
    simp (disch := omega) only [dif_neg, dif_pos, e]

theorem side_v (x3 x4 x5 x6 : FVec Ideal S4096x512 .f32) (x7 x8 : FVec Ideal S4096x128 .f32) (p : Fin 4096) (r : Fin 128) (u : Fin 2304) (hu : (u : ℕ) = 2176 + r) :
    val_main_v0 (F := Ideal) x3 x4 x5 x6 x7 x8 (ix2 p u) = x8 (ix2 p r) := by
  rw [show u = (⟨2176 + r.val, by omega⟩ : Fin 2304) from Fin.ext hu]
  unfold val_main_v0
  pointwise
  all_goals
    have e : ∀ h, (⟨2176 + r.val - 512 - 512 - 512 - 512 - 128, h⟩ : Fin 128) = r := fun h => Fin.ext (by dsimp only; omega)
    simp (disch := omega) only [dif_neg, dif_pos, e]

/-- One product of the contraction, over the blocks the point holds. -/
theorem term_at (c : Dev nD) (t : Fin cfg0.N) (y : S1024x2304.Idx) (p : Fin 1024 → Fin 4096) (hp : ∀ k, (p k : ℕ) = t.val * 1024 + k) :
    term m c t y = ∑ k : Fin 1024, val_main_v13 (F := Ideal) (a0 m c) (a1 m c) (ix2 (p k) (y 0)) * val_main_v0 (F := Ideal) (a3 m c) (a4 m c) (a5 m c) (a6 m c) (a7 m c) (a8 m c) (ix2 (p k) (y 1)) := by
  unfold term
  rw [eq_ix2 y]
  have hu : (y 1).val < 2304 := (y 1).isLt
  generalize hy1 : y 1 = u at hu
  generalize y 0 = q
  by_cases h0 : u.val < 512
  · refine (mul_b _ _ _ _ _ _ _ (⟨u.val, by omega⟩ : Fin 512) u rfl q).trans ?_
    refine Fin.sum_fin_congr fun k => ?_
    rw [blk_h m c t k q (p k) (hp k), blk_b m c t k _ (p k) (hp k)]
    exact congrArg (_ * ·) (side_b _ _ _ _ _ _ (p k) (⟨u.val, by omega⟩ : Fin 512) u rfl).symm
  by_cases h1 : u.val < 1024
  · have e : u.val = 512 + (u.val - 512) := by omega
    refine (mul_c _ _ _ _ _ _ _ (⟨u.val - 512, by omega⟩ : Fin 512) u e q).trans ?_
    refine Fin.sum_fin_congr fun k => ?_
    rw [blk_h m c t k q (p k) (hp k), blk_c m c t k _ (p k) (hp k)]
    exact congrArg (_ * ·) (side_c _ _ _ _ _ _ (p k) (⟨u.val - 512, by omega⟩ : Fin 512) u e).symm
  by_cases h2 : u.val < 1536
  · have e : u.val = 1024 + (u.val - 1024) := by omega
    refine (mul_e _ _ _ _ _ _ _ (⟨u.val - 1024, by omega⟩ : Fin 512) u e q).trans ?_
    refine Fin.sum_fin_congr fun k => ?_
    rw [blk_h m c t k q (p k) (hp k), blk_e m c t k _ (p k) (hp k)]
    exact congrArg (_ * ·) (side_e _ _ _ _ _ _ (p k) (⟨u.val - 1024, by omega⟩ : Fin 512) u e).symm
  by_cases h3 : u.val < 2048
  · have e : u.val = 1536 + (u.val - 1536) := by omega
    refine (mul_q _ _ _ _ _ _ _ (⟨u.val - 1536, by omega⟩ : Fin 512) u e q).trans ?_
    refine Fin.sum_fin_congr fun k => ?_
    rw [blk_h m c t k q (p k) (hp k), blk_q m c t k _ (p k) (hp k)]
    exact congrArg (_ * ·) (side_q _ _ _ _ _ _ (p k) (⟨u.val - 1536, by omega⟩ : Fin 512) u e).symm
  by_cases h4 : u.val < 2176
  · have e : u.val = 2048 + (u.val - 2048) := by omega
    refine (mul_k _ _ _ _ _ _ _ (⟨u.val - 2048, by omega⟩ : Fin 128) u e q).trans ?_
    refine Fin.sum_fin_congr fun k => ?_
    rw [blk_h m c t k q (p k) (hp k), blk_k m c t k _ (p k) (hp k)]
    exact congrArg (_ * ·) (side_k _ _ _ _ _ _ (p k) (⟨u.val - 2048, by omega⟩ : Fin 128) u e).symm
  have e : u.val = 2176 + (u.val - 2176) := by omega
  refine (mul_v _ _ _ _ _ _ _ (⟨u.val - 2176, by omega⟩ : Fin 128) u e q).trans ?_
  refine Fin.sum_fin_congr fun k => ?_
  rw [blk_h m c t k q (p k) (hp k), blk_v m c t k _ (p k) (hp k)]
  exact congrArg (_ * ·) (side_v _ _ _ _ _ _ (p k) (⟨u.val - 2176, by omega⟩ : Fin 128) u e).symm

/-- The sum over a run is the reference's contraction of all tokens. -/
theorem point (c : Dev nD) (t : Fin cfg0.N) (h3 : t.val % 4 = 4 - 1) (y : S1024x2304.Idx) :
    ∑ s : Fin 4, term m c ⟨4 * (t.val / 4) + s.val, Pipeline.run_point_lt_of_flush t h3 s⟩ y = val_main_v17 (F := Ideal) (a0 m c) (a1 m c) (a3 m c) (a4 m c) (a5 m c) (a6 m c) (a7 m c) (a8 m c) y := by
  have ht : t.val < 4 := lt_of_lt_of_eq t.isLt N_0
  have hs : ∀ s : Fin 4, term m c ⟨4 * (t.val / 4) + s.val, Pipeline.run_point_lt_of_flush t h3 s⟩ y
      = ∑ k : Fin 1024, val_main_v13 (F := Ideal) (a0 m c) (a1 m c) (ix2 (⟨s.val * 1024 + k.val, by omega⟩ : Fin 4096) (y 0)) * val_main_v0 (F := Ideal) (a3 m c) (a4 m c) (a5 m c) (a6 m c) (a7 m c) (a8 m c) (ix2 (⟨s.val * 1024 + k.val, by omega⟩ : Fin 4096) (y 1)) := fun s =>
    term_at m c _ y (fun k => ⟨s.val * 1024 + k.val, by omega⟩) (fun k => by show _ = (4 * (t.val / 4) + s.val) * 1024 + k.val; dsimp only; omega)
  simp only [hs]
  rw [val_main_v17_apply, val_main_v16_apply, val_main_v15_apply]
  refine Fin.sum_mul_add_congr fun s k hk => ?_
  rw [mul_comm]
  congr 1 <;> (congr 1; blk_ext)

/-- The result array after the run is the reference's gradient. -/
theorem final (c : Dev nD) : (dats m 0 c).arrAt 7 cfg0.N = val_main_v17 (F := Ideal) (a0 m c) (a1 m c) (a3 m c) (a4 m c) (a5 m c) (a6 m c) (a7 m c) (a8 m c) := by
  refine (dats m 0 c).arrAt_eq_of_covers 7 _ (by decide +kernel) fun t hf y => ?_
  have h3 : t.val % 4 = 4 - 1 := (flush0_7 t).mp hf
  blk_simp
  rw [after0_7, out_last m c t h3]
  refine (point m c t h3 y).trans ?_
  congr 1
  blk_ext [idx t]

end Cert.EvDwinIdeal.Hand

namespace Cert.EvDwinClaim

open Idealize.ShloMosaic Idealize.ShloMosaic.TcCoe Idealize.SL.Sem

set_option maxHeartbeats 1600000 in
theorem algebraic : Cert.algebraic_EvDwinIdeal_ReferenceEvDwinIdeal := by
  pair_intro
  · run_from Cert.EvDwinIdeal.Value.run_blocks m g
  · run_from Cert.ReferenceEvDwinIdeal.Value.run m' g'
    rw [Cert.ReferenceEvDwinIdeal.Read.val_main_v17_eq, (hagree c).2.2.2.1, (hagree c).2.2.2.2.1, (hagree c).2.2.2.2.2.1, (hagree c).2.2.2.2.2.2.1, (hagree c).2.2.2.2.2.2.2.1, (hagree c).2.2.2.2.2.2.2.2]
    exact (Cert.EvDwinIdeal.Hand.final m c).symm

theorem quiescent_reference : Cert.quiescent_ReferenceEvDwinIdeal := fun m g _ =>
  (θ_run Cert.ReferenceEvDwinIdeal.defs _ _).mono
    (fun r h => ⟨fun c => (h c).2, Idealize.ShloMosaic.sem_eq_zero_of_no_sems (by decide) r.2⟩)
    (Cert.ReferenceEvDwinIdeal.Value.run m g)

theorem all : Cert.quiescent_EvDwin ∧ Cert.quiescent_EvDwinIdeal ∧ Cert.quiescent_ReferenceEvDwinIdeal
    ∧ Cert.preserves_EvDwin_EvDwinIdeal ∧ Cert.algebraic_EvDwinIdeal_ReferenceEvDwinIdeal :=
  ⟨fun m g _ => Cert.EvDwin.Gen.frame m g, fun m g _ => Cert.EvDwinIdeal.Gen.frame m g, quiescent_reference, trivial, algebraic⟩

end Cert.EvDwinClaim

end
-- ==== Proof.EvDh.lean ====
/- The rest of the even mixers' first projection's backward pass: the gradients of the input, its rounded copy and the gain. -/
module

public import proofs.«01_k».proof.Defs
public import proofs.«01_k».proof.Proof.Sums
public import proofs.«01_k».proof.Proof.Reals
public import proofs.«01_k».proof.Proof.Gen.EvDh.Frame
public import proofs.«01_k».proof.Proof.Gen.EvDhIdeal.Value
public import proofs.«01_k».proof.Proof.Gen.ReferenceEvDhIdeal.Read
public import proofs.«01_k».proof.Proof.Gen.ReferenceEvDhIdeal.Run
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

namespace Cert.EvDhIdeal.Hand

open Cert.EvDhIdeal Cert.EvDhIdeal.Gen Idealize.ShloMosaic Idealize.ShloMosaic.TcCoe Idealize.SL.Sem
open Idealize.ShloMosaic.Pipeline (Dat)
open Cert.ReferenceEvDhIdeal.Read Cert.Reals

variable (m : (ℓ : Loc nD τ sig) → Buf (Elt Ideal) ℓ)

abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)
abbrev a4 (c : Dev nD) := m ((c.tc : Thread nD τ).loc main_arg4)
abbrev a5 (c : Dev nD) := m ((c.tc : Thread nD τ).loc main_arg5)
abbrev a6 (c : Dev nD) := m ((c.tc : Thread nD τ).loc main_arg6)
abbrev a7 (c : Dev nD) := m ((c.tc : Thread nD τ).loc main_arg7)
abbrev a8 (c : Dev nD) := m ((c.tc : Thread nD τ).loc main_arg8)
abbrev a9 (c : Dev nD) := m ((c.tc : Thread nD τ).loc main_arg9)

/-- The block indices of the windows at each grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![0, 0] ∧ win0_7.index t = ![t.val, 0] ∧ win0_8.index t = ![t.val, 0] ∧ win0_9.index t = ![0, 0] ∧ win0_10.index t = ![t.val, 0] ∧ win0_11.index t = ![0, 0] ∧ win0_12.index t = ![t.val, 0] :=
  (by decide +kernel : ∀ t : Fin grid0.N, _)

theorem entry_b (c : Dev nD) : V m c main_v0 = (truncf .bf16 (a3 m c) bitsLt_bf16_f32 : FVec Ideal S4096x512 .bf16) := by
  entry_read
  rfl

theorem blk_b (c : Dev nD) (t : Fin cfg0.N) (k : Fin 1024) (q : Fin 512) (p : Fin 4096) (hp : (p : ℕ) = t.val * 1024 + k) :
    (iblk m c 0 t : FVec Ideal S1024x512 .bf16) (ix2 k q) = a3 m c (ix2 p q) := by
  have : a3 m c (ix2 p q) = (V m c main_v0 : FVec Ideal S4096x512 .bf16) (ix2 p q) := by rw [entry_b]; rfl
  rw [this]
  blk_ext [iblk, idx t]

theorem entry_c (c : Dev nD) : V m c main_v1 = (truncf .bf16 (a4 m c) bitsLt_bf16_f32 : FVec Ideal S4096x512 .bf16) := by
  entry_read
  rfl

theorem blk_c (c : Dev nD) (t : Fin cfg0.N) (k : Fin 1024) (q : Fin 512) (p : Fin 4096) (hp : (p : ℕ) = t.val * 1024 + k) :
    (iblk m c 1 t : FVec Ideal S1024x512 .bf16) (ix2 k q) = a4 m c (ix2 p q) := by
  have : a4 m c (ix2 p q) = (V m c main_v1 : FVec Ideal S4096x512 .bf16) (ix2 p q) := by rw [entry_c]; rfl
  rw [this]
  blk_ext [iblk, idx t]

theorem entry_e (c : Dev nD) : V m c main_v2 = (truncf .bf16 (a5 m c) bitsLt_bf16_f32 : FVec Ideal S4096x512 .bf16) := by
  entry_read
  rfl

theorem blk_e (c : Dev nD) (t : Fin cfg0.N) (k : Fin 1024) (q : Fin 512) (p : Fin 4096) (hp : (p : ℕ) = t.val * 1024 + k) :
    (iblk m c 2 t : FVec Ideal S1024x512 .bf16) (ix2 k q) = a5 m c (ix2 p q) := by
  have : a5 m c (ix2 p q) = (V m c main_v2 : FVec Ideal S4096x512 .bf16) (ix2 p q) := by rw [entry_e]; rfl
  rw [this]
  blk_ext [iblk, idx t]

theorem entry_q (c : Dev nD) : V m c main_v3 = (truncf .bf16 (a6 m c) bitsLt_bf16_f32 : FVec Ideal S4096x512 .bf16) := by
  entry_read
  rfl

theorem blk_q (c : Dev nD) (t : Fin cfg0.N) (k : Fin 1024) (q : Fin 512) (p : Fin 4096) (hp : (p : ℕ) = t.val * 1024 + k) :
    (iblk m c 3 t : FVec Ideal S1024x512 .bf16) (ix2 k q) = a6 m c (ix2 p q) := by
  have : a6 m c (ix2 p q) = (V m c main_v3 : FVec Ideal S4096x512 .bf16) (ix2 p q) := by rw [entry_q]; rfl
  rw [this]
  blk_ext [iblk, idx t]

theorem entry_k (c : Dev nD) : V m c main_v4 = (truncf .bf16 (a7 m c) bitsLt_bf16_f32 : FVec Ideal S4096x128 .bf16) := by
  entry_read
  rfl

theorem blk_k (c : Dev nD) (t : Fin cfg0.N) (k : Fin 1024) (q : Fin 128) (p : Fin 4096) (hp : (p : ℕ) = t.val * 1024 + k) :
    (iblk m c 4 t : FVec Ideal S1024x128 .bf16) (ix2 k q) = a7 m c (ix2 p q) := by
  have : a7 m c (ix2 p q) = (V m c main_v4 : FVec Ideal S4096x128 .bf16) (ix2 p q) := by rw [entry_k]; rfl
  rw [this]
  blk_ext [iblk, idx t]

theorem blk_v (c : Dev nD) (t : Fin cfg0.N) (k : Fin 1024) (q : Fin 128) (p : Fin 4096) (hp : (p : ℕ) = t.val * 1024 + k) :
    (iblk m c 5 t : FVec Ideal S1024x128 .f32) (ix2 k q) = a8 m c (ix2 p q) := by
  have : a8 m c (ix2 p q) = (V m c main_arg8 : FVec Ideal S4096x128 .f32) (ix2 p q) := by rw [V_main_arg8]
  rw [this]
  blk_ext [iblk, idx t]

theorem entry_w (c : Dev nD) : V m c main_v5 = (truncf .bf16 (a2 m c) bitsLt_bf16_f32 : FVec Ideal S1024x2304 .bf16) := by
  entry_read
  rfl

theorem blk_w (c : Dev nD) (t : Fin cfg0.N) (k : Fin 1024) (q : Fin 2304) :
    (iblk m c 6 t : FVec Ideal S1024x2304 .bf16) (ix2 k q) = a2 m c (ix2 k q) := by
  have : a2 m c (ix2 k q) = (V m c main_v5 : FVec Ideal S1024x2304 .bf16) (ix2 k q) := by rw [entry_w]; rfl
  rw [this]
  blk_ext [iblk, idx t]

theorem blk_x (c : Dev nD) (t : Fin cfg0.N) (k : Fin 1024) (q : Fin 1024) (p : Fin 4096) (hp : (p : ℕ) = t.val * 1024 + k) :
    (iblk m c 7 t : FVec Ideal S1024x1024 .f32) (ix2 k q) = a0 m c (ix2 p q) := by
  have : a0 m c (ix2 p q) = (V m c main_arg0 : FVec Ideal S4096x1024 .f32) (ix2 p q) := by rw [V_main_arg0]
  rw [this]
  blk_ext [iblk, idx t]

theorem blk_o (c : Dev nD) (t : Fin cfg0.N) (k : Fin 1024) (q : Fin 1024) (p : Fin 4096) (hp : (p : ℕ) = t.val * 1024 + k) :
    (iblk m c 8 t : FVec Ideal S1024x1024 .f32) (ix2 k q) = a9 m c (ix2 p q) := by
  have : a9 m c (ix2 p q) = (V m c main_arg9 : FVec Ideal S4096x1024 .f32) (ix2 p q) := by rw [V_main_arg9]
  rw [this]
  blk_ext [iblk, idx t]

theorem entry_g (c : Dev nD) : V m c main_v6 = (shapeCast S1x1024 (a1 m c) shapeCasts_S1024_S1x1024 : FVec Ideal S1x1024 .f32) := by
  entry_read
  rfl

theorem blk_g (c : Dev nD) (t : Fin cfg0.N) (q : Fin 1024) :
    (iblk m c 9 t : FVec Ideal S1x1024 .f32) (ix2 (0 : Fin 1) q) = a1 m c (ix1 q) := by
  have : a1 m c (ix1 q) = (V m c main_v6 : FVec Ideal S1x1024 .f32) (ix2 (0 : Fin 1) q) := by
    rw [entry_g]; generalize a1 m c = g; pointwise
  rw [this]
  blk_ext [iblk, idx t]

/-- A contraction over six parts side by side. -/
abbrev six (b c d e : Fin 512 → EReal) (f g : Fin 128 → EReal) (w : Fin 2304 → EReal) : EReal :=
  ∑ j : Fin 2304, (if h : j.val < 512 then b ⟨j.val, h⟩
    else if h : j.val - 512 < 512 then c ⟨j.val - 512, h⟩
    else if h : j.val - 512 - 512 < 512 then d ⟨j.val - 512 - 512, h⟩
    else if h : j.val - 512 - 512 - 512 < 512 then e ⟨j.val - 512 - 512 - 512, h⟩
    else if h : j.val - 512 - 512 - 512 - 512 < 128 then f ⟨j.val - 512 - 512 - 512 - 512, h⟩
    else g ⟨j.val - 512 - 512 - 512 - 512 - 128, by omega⟩) * w j

/-- One entry of the product with the transposed matrix. -/
theorem mul_at (B C G Q : FVec Ideal S1024x512 .bf16) (K : FVec Ideal S1024x128 .bf16) (U : FVec Ideal S1024x128 .f32) (Y : FVec Ideal S1024x2304 .bf16) (k q : Fin 1024) :
    k0_pay5 (F := Ideal) B C G Q K U Y (ix2 k q) = six (fun j => B (ix2 k j)) (fun j => C (ix2 k j)) (fun j => G (ix2 k j)) (fun j => Q (ix2 k j)) (fun j => K (ix2 k j)) (fun j => U (ix2 k j)) (fun j => Y (ix2 q j)) := by
  pointwise [k0_pay5]
  all_goals rfl

/-- One entry of the reference's product. -/
theorem mul_ref (x2 : FVec Ideal S1024x2304 .f32) (x3 x4 x5 x6 : FVec Ideal S4096x512 .f32) (x7 x8 : FVec Ideal S4096x128 .f32) (p : Fin 4096) (q : Fin 1024) :
    val_main_v18 (F := Ideal) x2 x3 x4 x5 x6 x7 x8 (ix2 p q) = six (fun j => x3 (ix2 p j)) (fun j => x4 (ix2 p j)) (fun j => x5 (ix2 p j)) (fun j => x6 (ix2 p j)) (fun j => x7 (ix2 p j)) (fun j => x8 (ix2 p j)) (fun j => x2 (ix2 q j)) := by
  unfold val_main_v18 val_main_v0
  pointwise
  all_goals rfl

/-- The two are one. -/
theorem acc_at (c : Dev nD) (t : Fin cfg0.N) (k q : Fin 1024) (p : Fin 4096) (hp : (p : ℕ) = t.val * 1024 + k) :
    k0_pay5 (F := Ideal) (iblk m c 0 t) (iblk m c 1 t) (iblk m c 2 t) (iblk m c 3 t) (iblk m c 4 t) (iblk m c 5 t) (iblk m c 6 t) (ix2 k q) = val_main_v18 (F := Ideal) (a2 m c) (a3 m c) (a4 m c) (a5 m c) (a6 m c) (a7 m c) (a8 m c) (ix2 p q) := by
  rw [mul_at, mul_ref]
  simp only [blk_b m c t k _ p hp, blk_c m c t k _ p hp, blk_e m c t k _ p hp, blk_q m c t k _ p hp, blk_k m c t k _ p hp, blk_v m c t k _ p hp, blk_w m c t]

/-- The kernel's gradient of the input, from the blocks it reads. -/
abbrev whole (B C G Q : FVec Ideal S1024x512 .bf16) (K : FVec Ideal S1024x128 .bf16) (U : FVec Ideal S1024x128 .f32) (Y : FVec Ideal S1024x2304 .bf16) (X O : FVec Ideal S1024x1024 .f32) (Z : FVec Ideal S1x1024 .f32) : FVec Ideal S1024x1024 .f32 :=
  k0_pay1 (F := Ideal) O (k0_pay6 X) (k0_pay7 X) (k0_pay8 B C G Q K U Y Z) (k0_pay9 B C G Q K U Y X Z)

/-- What the kernel stores of the input's gradient, at an entry. -/
theorem stored_x (B C G Q : FVec Ideal S1024x512 .bf16) (K : FVec Ideal S1024x128 .bf16) (U : FVec Ideal S1024x128 .f32) (Y : FVec Ideal S1024x2304 .bf16) (X O : FVec Ideal S1024x1024 .f32) (Z : FVec Ideal S1x1024 .f32) (k q : Fin 1024) (D x g : Fin 1024 → EReal) (o r : EReal)
    (hD : ∀ j, k0_pay5 (F := Ideal) B C G Q K U Y (ix2 k j) = D j) (hx : ∀ j, X (ix2 k j) = x j) (hg : ∀ j, Z (ix2 (0 : Fin 1) j) = g j) (ho : O (ix2 k q) = o)
    (hr : r = Ideal.rsqrt (Ideal.div (∑ j : Fin 1024, x j * x j) (Ideal.ofBits .f32 0x44800000#32) + Ideal.ofBits .f32 0x358637BD#32)) :
    whole B C G Q K U Y X O Z (ix2 k q)
      = o + r * (D q * g q - x q * r * Ideal.div (∑ j : Fin 1024, D j * g j * (x j * r)) (Ideal.ofBits .f32 0x44800000#32)) := by
  unfold whole k0_pay1 k0_pay9 k0_pay8
  revert hD
  generalize k0_pay5 (F := Ideal) B C G Q K U Y = R
  intro hD
  pointwise [k0_pay7, k0_pay6]
  simp only [hD, hx, hg, ho]
  rw [← hr]

/-- What a tile of tokens adds to the gain's gradient, at an entry. -/
theorem stored_g (Q X : FVec Ideal S1024x1024 .f32) (q : Fin 1024) (D x : Fin 1024 → Fin 1024 → EReal)
    (hD : ∀ k j, Q (ix2 k j) = D k j) (hx : ∀ k j, X (ix2 k j) = x k j) :
    k0_pay3 (F := Ideal) Q (k0_pay7 X) (ix2 (0 : Fin 1) q) = ∑ k : Fin 1024, D k q * (x k q
      * Ideal.rsqrt (Ideal.div (∑ j : Fin 1024, x k j * x k j) (Ideal.ofBits .f32 0x44800000#32) + Ideal.ofBits .f32 0x358637BD#32)) := by
  pointwise [k0_pay3, k0_pay7, k0_pay6]
  simp only [hD, hx]

theorem added_g (Q Z : FVec Ideal S1024x1024 .f32) (B : FVec Ideal S1x1024 .f32) (i : S1x1024.Idx) :
    k0_pay4 (F := Ideal) Q Z B i = B i + k0_pay3 (F := Ideal) Q Z i := by
  pointwise [k0_pay4]

/-- The reference's gradient of the input, at an entry. -/
theorem dx_ref (x0 : FVec Ideal S4096x1024 .f32) (x1 : FVec Ideal S1024 .f32) (x2 : FVec Ideal S1024x2304 .f32)
    (x3 x4 x5 x6 : FVec Ideal S4096x512 .f32) (x7 x8 : FVec Ideal S4096x128 .f32) (x9 : FVec Ideal S4096x1024 .f32) (p : Fin 4096) (q : Fin 1024) (D : FVec Ideal S4096x1024 .f32)
    (hD : val_main_v18 (F := Ideal) x2 x3 x4 x5 x6 x7 x8 = D) (ms r w : EReal)
    (hms : ms = Ideal.div (∑ j : Fin 1024, x0 (ix2 p j) * x0 (ix2 p j)) (Ideal.ofBits .f32 0x44800000#32) + Ideal.ofBits .f32 0x358637BD#32)
    (hr : r = Ideal.rsqrt ms)
    (hw : w = Ideal.div ((∑ j : Fin 1024, x0 (ix2 p j) * (D (ix2 p j) * x1 (ix1 j))) * (Ideal.ofBits .f32 0xBF000000#32 * Ideal.div r ms)) (Ideal.ofBits .f32 0x44800000#32)) :
    val_main_v39 (F := Ideal) x0 x1 x2 x3 x4 x5 x6 x7 x8 x9 (ix2 p q)
      = x9 (ix2 p q) + D (ix2 p q) * x1 (ix1 q) * r + x0 (ix2 p q) * w + w * x0 (ix2 p q) := by
  unfold val_main_v39 val_main_v38 val_main_v37 val_main_v36 val_main_v35 val_main_v34 val_main_v33 val_main_v31 val_main_v30 val_main_v29 val_main_v28 val_main_v27 val_main_v26 val_main_v25 val_main_v23 val_main_v22 val_main_v32
  rw [hD]
  clear hD
  unfold val_main_v14 val_main_v11 val_main_v10 val_main_v9 val_main_v8 val_main_v7 val_main_v6 val_main_v5 val_main_v4 val_main_v3 val_main_v2 val_main_v1
    val_main_cst val_main_cst_0 val_main_cst_1 val_main_cst_2 val_main_cst_5 val_main_cst_6 val_main_cst_7
  pointwise
  rw [hw, hr, hms]
  simp only [Fin.sum_univ_one]

/-- The reference's gradient of the gain, at an entry. -/
theorem dgain_ref (x0 : FVec Ideal S4096x1024 .f32) (x2 : FVec Ideal S1024x2304 .f32)
    (x3 x4 x5 x6 : FVec Ideal S4096x512 .f32) (x7 x8 : FVec Ideal S4096x128 .f32) (q : Fin 1024) (D : FVec Ideal S4096x1024 .f32)
    (hD : val_main_v18 (F := Ideal) x2 x3 x4 x5 x6 x7 x8 = D) :
    val_main_v41 (F := Ideal) x0 x2 x3 x4 x5 x6 x7 x8 (ix2 (0 : Fin 1) q) = ∑ p : Fin 4096, x0 (ix2 p q)
      * Ideal.rsqrt (Ideal.div (∑ j : Fin 1024, x0 (ix2 p j) * x0 (ix2 p j)) (Ideal.ofBits .f32 0x44800000#32) + Ideal.ofBits .f32 0x358637BD#32) * D (ix2 p q) := by
  unfold val_main_v41 val_main_v24 val_main_v21 val_main_v20 val_main_v19
  rw [hD]
  clear hD
  unfold val_main_v13 val_main_v12 val_main_v8 val_main_v7 val_main_v6 val_main_v5 val_main_v4 val_main_v3 val_main_v2 val_main_v1
  unfold val_main_cst val_main_cst_0 val_main_cst_1 val_main_cst_3 val_main_cst_4
  pointwise
  exact Fin.sum_univ_one _

/-- What a point leaves of the input's gradient. -/
theorem out_x (c : Dev nD) (t : Fin cfg0.N) (i : S1024x1024.Idx) : (outsAt0 m c t.val t.isLt).1 i = whole (iblk m c 0 t) (iblk m c 1 t) (iblk m c 2 t) (iblk m c 3 t) (iblk m c 4 t) (iblk m c 5 t) (iblk m c 6 t) (iblk m c 7 t) (iblk m c 8 t) (iblk m c 9 t) i := by
  have ht : t.val < 4 := lt_of_lt_of_eq t.isLt N_0
  by_cases h : t.val % 4 = 0
  · rw [outsAt0_A m c t h (by omega)]
    frame_out
    all_goals rfl
  · rw [outsAt0_B m c t h (by omega)]
    frame_out
    all_goals rfl

/-- What it leaves of the rounded copy. -/
theorem out_lo (c : Dev nD) (t : Fin cfg0.N) (i : S1024x1024.Idx) : (outsAt0 m c t.val t.isLt).2.2 i = whole (iblk m c 0 t) (iblk m c 1 t) (iblk m c 2 t) (iblk m c 3 t) (iblk m c 4 t) (iblk m c 5 t) (iblk m c 6 t) (iblk m c 7 t) (iblk m c 8 t) (iblk m c 9 t) i := by
  have ht : t.val < 4 := lt_of_lt_of_eq t.isLt N_0
  by_cases h : t.val % 4 = 0
  · rw [outsAt0_A m c t h (by omega)]
    frame_out
    rfl
  · rw [outsAt0_B m c t h (by omega)]
    frame_out
    rfl

/-- The tile's part of the gain's gradient. -/
def part (c : Dev nD) (t : Fin cfg0.N) (i : S1x1024.Idx) : EReal :=
  k0_pay3 (F := Ideal) (k0_pay5 (F := Ideal) (iblk m c 0 t) (iblk m c 1 t) (iblk m c 2 t) (iblk m c 3 t) (iblk m c 4 t) (iblk m c 5 t) (iblk m c 6 t)) (k0_pay7 (F := Ideal) (iblk m c 7 t)) i

/-- The first tile leaves its part of the gain's gradient. -/
theorem gain_A (c : Dev nD) (t : Fin cfg0.N) (h : t.val % 4 = 0) (i : S1x1024.Idx) :
    (outsAt0 m c t.val t.isLt).2.1 i = part m c t i := by
  have ht : t.val < 4 := lt_of_lt_of_eq t.isLt N_0
  rw [outsAt0_A m c t h (by omega)]
  frame_out
  rfl

/-- The others add theirs to what the tile before left. -/
theorem gain_B (c : Dev nD) (t : Fin cfg0.N) (h : ¬t.val % 4 = 0) (i : S1x1024.Idx) :
    (outsAt0 m c t.val t.isLt).2.1 i
      = (outsAt0 m c (t.val - 1) (Nat.lt_of_le_of_lt (Nat.sub_le _ _) t.isLt)).2.1 i + part m c t i := by
  rw [outsAt0_B m c t h (by omega)]
  frame_out
  rw [added_g]
  rfl

/-- One token's part of the gain's gradient. -/
def token (X D : FVec Ideal S4096x1024 .f32) (q : Fin 1024) (p : Fin 4096) : EReal :=
  D (ix2 p q) * (X (ix2 p q)
    * Ideal.rsqrt (Ideal.div (∑ j : Fin 1024, X (ix2 p j) * X (ix2 p j)) (Ideal.ofBits .f32 0x44800000#32) + Ideal.ofBits .f32 0x358637BD#32))

/-- The tile's part, as the reference's terms. -/
theorem part_at (c : Dev nD) (t : Fin cfg0.N) (q : Fin 1024) (p : Fin 1024 → Fin 4096) (hp : ∀ k, (p k : ℕ) = t.val * 1024 + k) :
    part m c t (ix2 (0 : Fin 1) q) = ∑ k : Fin 1024, token (a0 m c) (val_main_v18 (F := Ideal) (a2 m c) (a3 m c) (a4 m c) (a5 m c) (a6 m c) (a7 m c) (a8 m c)) q (p k) :=
  stored_g _ _ q (fun k j => val_main_v18 (F := Ideal) (a2 m c) (a3 m c) (a4 m c) (a5 m c) (a6 m c) (a7 m c) (a8 m c) (ix2 (p k) j)) (fun k j => a0 m c (ix2 (p k) j))
    (fun k j => acc_at m c t k j (p k) (hp k)) (fun k j => blk_x m c t k j (p k) (hp k))

/-- What the kernel stores of the input's gradient is the reference's. -/
theorem point (c : Dev nD) (t : Fin cfg0.N) (k q : Fin 1024) (p : Fin 4096) (hp : (p : ℕ) = t.val * 1024 + k) :
    whole (iblk m c 0 t) (iblk m c 1 t) (iblk m c 2 t) (iblk m c 3 t) (iblk m c 4 t) (iblk m c 5 t) (iblk m c 6 t) (iblk m c 7 t) (iblk m c 8 t) (iblk m c 9 t) (ix2 k q) = val_main_v39 (F := Ideal) (a0 m c) (a1 m c) (a2 m c) (a3 m c) (a4 m c) (a5 m c) (a6 m c) (a7 m c) (a8 m c) (a9 m c) (ix2 p q) := by
  refine (stored_x _ _ _ _ _ _ _ _ _ _ k q (fun j => val_main_v18 (F := Ideal) (a2 m c) (a3 m c) (a4 m c) (a5 m c) (a6 m c) (a7 m c) (a8 m c) (ix2 p j)) (fun j => a0 m c (ix2 p j))
    (fun j => a1 m c (ix1 j)) (a9 m c (ix2 p q)) _ (fun j => acc_at m c t k j p hp) (fun j => blk_x m c t k j p hp) (fun j => blk_g m c t j)
    (blk_o m c t k q p hp) rfl).trans ?_
  refine (norm_row (fun j => a0 m c (ix2 p j)) (fun j => a1 m c (ix1 j))
    (fun j => val_main_v18 (F := Ideal) (a2 m c) (a3 m c) (a4 m c) (a5 m c) (a6 m c) (a7 m c) (a8 m c) (ix2 p j)) (a9 m c (ix2 p q)) q _ _ _ rfl rfl rfl).trans ?_
  exact (dx_ref (a0 m c) (a1 m c) (a2 m c) (a3 m c) (a4 m c) (a5 m c) (a6 m c) (a7 m c) (a8 m c) (a9 m c) p q _ rfl _ _ _ rfl rfl rfl).symm

/-- The first result array after the run is the reference's gradient of the input. -/
theorem final_x (c : Dev nD) : (dats m 0 c).arrAt 10 cfg0.N = val_main_v39 (F := Ideal) (a0 m c) (a1 m c) (a2 m c) (a3 m c) (a4 m c) (a5 m c) (a6 m c) (a7 m c) (a8 m c) (a9 m c) := by
  refine (dats m 0 c).arrAt_eq_of_covers 10 _ (by decide +kernel) fun t hf y => ?_
  have ht : t.val < 4 := lt_of_lt_of_eq t.isLt N_0
  have y0 : (y 0).val < 1024 := (y 0).isLt
  blk_simp
  rw [after0_10, out_x m c t]
  have hy : y = ix2 (⟨(y 0).val, (y 0).isLt⟩ : Fin 1024) (⟨(y 1).val, (y 1).isLt⟩ : Fin 1024) := by blk_ext
  rw [hy]
  refine (point m c t _ _ (⟨t.val * 1024 + (y 0).val, by omega⟩ : Fin 4096) rfl).trans ?_
  congr 1
  blk_ext [idx t]

/-- The rounded copy is the reference's. -/
theorem final_lo (c : Dev nD) : (dats m 0 c).arrAt 12 cfg0.N = val_main_v40 (F := Ideal) (a0 m c) (a1 m c) (a2 m c) (a3 m c) (a4 m c) (a5 m c) (a6 m c) (a7 m c) (a8 m c) (a9 m c) := by
  refine (dats m 0 c).arrAt_eq_of_covers 12 _ (by decide +kernel) fun t hf y => ?_
  have ht : t.val < 4 := lt_of_lt_of_eq t.isLt N_0
  have y0 : (y 0).val < 1024 := (y 0).isLt
  blk_simp
  rw [after0_12, out_lo m c t]
  have hy : y = ix2 (⟨(y 0).val, (y 0).isLt⟩ : Fin 1024) (⟨(y 1).val, (y 1).isLt⟩ : Fin 1024) := by blk_ext
  rw [hy]
  refine (point m c t _ _ (⟨t.val * 1024 + (y 0).val, by omega⟩ : Fin 4096) rfl).trans ?_
  show _ = val_main_v39 (F := Ideal) (a0 m c) (a1 m c) (a2 m c) (a3 m c) (a4 m c) (a5 m c) (a6 m c) (a7 m c) (a8 m c) (a9 m c) _
  congr 1
  blk_ext [idx t]

/-- The gain's gradient after the run is the reference's. -/
theorem final_g (c : Dev nD) : (dats m 0 c).arrAt 11 cfg0.N = val_main_v41 (F := Ideal) (a0 m c) (a2 m c) (a3 m c) (a4 m c) (a5 m c) (a6 m c) (a7 m c) (a8 m c) := by
  refine (dats m 0 c).arrAt_eq_of_covers 11 _ (by decide +kernel) fun t hf y => ?_
  have h4 : t.val < 4 := lt_of_lt_of_eq t.isLt N_0
  have h3 : t.val % 4 = 4 - 1 := (flush0_11 t).mp hf
  blk_simp
  rw [after0_11]
  have hy : y = ix2 (0 : Fin 1) (⟨(y 1).val, (y 1).isLt⟩ : Fin 1024) := by blk_ext
  generalize (⟨(y 1).val, (y 1).isLt⟩ : Fin 1024) = q at hy
  subst hy
  have he : (win0_11.blk t).view.emb (ix2 (0 : Fin 1) q) = ix2 (0 : Fin 1) q := by blk_ext [idx t]
  refine Eq.trans ?_ (congrArg (val_main_v41 (F := Ideal) (a0 m c) (a2 m c) (a3 m c) (a4 m c) (a5 m c) (a6 m c) (a7 m c) (a8 m c)) he).symm
  refine Eq.trans ?_ (dgain_ref (a0 m c) (a2 m c) (a3 m c) (a4 m c) (a5 m c) (a6 m c) (a7 m c) (a8 m c) q _ rfl).symm
  rw [gain_B m c t (by omega)]
  refine (Cert.Sums.carried_sum (fun n h => (outsAt0 m c n h).2.1) (part m c) (by norm_num) (gain_A m c)
    (fun t h _ => gain_B m c t h) t h3 (ix2 (0 : Fin 1) q)).trans ?_
  have hs : ∀ s : Fin 4, part m c ⟨4 * (t.val / 4) + s.val, Pipeline.run_point_lt_of_flush t h3 s⟩ (ix2 (0 : Fin 1) q)
      = ∑ k : Fin 1024, token (a0 m c) (val_main_v18 (F := Ideal) (a2 m c) (a3 m c) (a4 m c) (a5 m c) (a6 m c) (a7 m c) (a8 m c)) q ⟨s.val * 1024 + k.val, by omega⟩ := fun s =>
    part_at m c _ q (fun k => ⟨s.val * 1024 + k.val, by omega⟩) (fun k => by show _ = (4 * (t.val / 4) + s.val) * 1024 + k.val; dsimp only; omega)
  simp only [hs]
  refine Fin.sum_mul_add_congr fun s k hk => ?_
  unfold token
  exact mul_comm _ _

end Cert.EvDhIdeal.Hand

namespace Cert.EvDhClaim

open Idealize.ShloMosaic Idealize.ShloMosaic.TcCoe Idealize.SL.Sem

set_option maxHeartbeats 1600000 in
theorem algebraic : Cert.algebraic_EvDhIdeal_ReferenceEvDhIdeal := by
  pair_intro
  · run_from Cert.EvDhIdeal.Value.run_blocks m g
  · run_from Cert.ReferenceEvDhIdeal.Value.run m' g'
    · rw [Cert.ReferenceEvDhIdeal.Read.val_main_v39_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
      exact (Cert.EvDhIdeal.Hand.final_x m c).symm
    · rw [Cert.ReferenceEvDhIdeal.Read.val_main_v40_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
      exact (Cert.EvDhIdeal.Hand.final_lo m c).symm
    · rw [Cert.ReferenceEvDhIdeal.Read.val_main_v41_eq, (hagree c).2.2.2.1, (hagree c).2.2.2.2.1, (hagree c).2.2.2.2.2.1, (hagree c).2.2.2.2.2.2.1, (hagree c).2.2.2.2.2.2.2.1, (hagree c).2.2.2.2.2.2.2.2.1]
      exact (Cert.EvDhIdeal.Hand.final_g m c).symm

theorem quiescent_reference : Cert.quiescent_ReferenceEvDhIdeal := fun m g _ =>
  (θ_run Cert.ReferenceEvDhIdeal.defs _ _).mono
    (fun r h => ⟨fun c => (h c).2.2.2, Idealize.ShloMosaic.sem_eq_zero_of_no_sems (by decide) r.2⟩)
    (Cert.ReferenceEvDhIdeal.Value.run m g)

theorem all : Cert.quiescent_EvDh ∧ Cert.quiescent_EvDhIdeal ∧ Cert.quiescent_ReferenceEvDhIdeal
    ∧ Cert.preserves_EvDh_EvDhIdeal ∧ Cert.algebraic_EvDhIdeal_ReferenceEvDhIdeal :=
  ⟨fun m g _ => Cert.EvDh.Gen.frame m g, fun m g _ => Cert.EvDhIdeal.Gen.frame m g, quiescent_reference, trivial, algebraic⟩

end Cert.EvDhClaim

end
-- ==== Proof.lean ====
/- The claim: the facts of the programs, then for each program what its own module proves. -/
module

public import proofs.«01_k».proof.Defs
public import proofs.«01_k».proof.Proof.Gen.Fwd
public import proofs.«01_k».proof.Proof.Gen.FwdIdeal
public import proofs.«01_k».proof.Proof.Gen.ReferenceFwdIdeal
public import proofs.«01_k».proof.Proof.Gen.Dwout
public import proofs.«01_k».proof.Proof.Gen.DwoutIdeal
public import proofs.«01_k».proof.Proof.Gen.ReferenceDwoutIdeal
public import proofs.«01_k».proof.Proof.Gen.Dwin
public import proofs.«01_k».proof.Proof.Gen.DwinIdeal
public import proofs.«01_k».proof.Proof.Gen.ReferenceDwinIdeal
public import proofs.«01_k».proof.Proof.Gen.Dh
public import proofs.«01_k».proof.Proof.Gen.DhIdeal
public import proofs.«01_k».proof.Proof.Gen.ReferenceDhIdeal
public import proofs.«01_k».proof.Proof.Gen.Dact
public import proofs.«01_k».proof.Proof.Gen.DactIdeal
public import proofs.«01_k».proof.Proof.Gen.ReferenceDactIdeal
public import proofs.«01_k».proof.Proof.Gen.AdamwIn
public import proofs.«01_k».proof.Proof.Gen.AdamwInIdeal
public import proofs.«01_k».proof.Proof.Gen.ReferenceAdamwInIdeal
public import proofs.«01_k».proof.Proof.Gen.AdamwOut
public import proofs.«01_k».proof.Proof.Gen.AdamwOutIdeal
public import proofs.«01_k».proof.Proof.Gen.ReferenceAdamwOutIdeal
public import proofs.«01_k».proof.Proof.Gen.AdamwEvIn
public import proofs.«01_k».proof.Proof.Gen.AdamwEvInIdeal
public import proofs.«01_k».proof.Proof.Gen.ReferenceAdamwEvInIdeal
public import proofs.«01_k».proof.Proof.Gen.AdamwOdIn
public import proofs.«01_k».proof.Proof.Gen.AdamwOdInIdeal
public import proofs.«01_k».proof.Proof.Gen.ReferenceAdamwOdInIdeal
public import proofs.«01_k».proof.Proof.Gen.AdamwMixOut
public import proofs.«01_k».proof.Proof.Gen.AdamwMixOutIdeal
public import proofs.«01_k».proof.Proof.Gen.ReferenceAdamwMixOutIdeal
public import proofs.«01_k».proof.Proof.Gen.AdamwNorm
public import proofs.«01_k».proof.Proof.Gen.AdamwNormIdeal
public import proofs.«01_k».proof.Proof.Gen.ReferenceAdamwNormIdeal
public import proofs.«01_k».proof.Proof.Gen.AdamwConv
public import proofs.«01_k».proof.Proof.Gen.AdamwConvIdeal
public import proofs.«01_k».proof.Proof.Gen.ReferenceAdamwConvIdeal
public import proofs.«01_k».proof.Proof.Gen.AdamwHead
public import proofs.«01_k».proof.Proof.Gen.AdamwHeadIdeal
public import proofs.«01_k».proof.Proof.Gen.ReferenceAdamwHeadIdeal
public import proofs.«01_k».proof.Proof.Gen.AdamwPool
public import proofs.«01_k».proof.Proof.Gen.AdamwPoolIdeal
public import proofs.«01_k».proof.Proof.Gen.ReferenceAdamwPoolIdeal
public import proofs.«01_k».proof.Proof.Gen.AdamwWidth
public import proofs.«01_k».proof.Proof.Gen.AdamwWidthIdeal
public import proofs.«01_k».proof.Proof.Gen.ReferenceAdamwWidthIdeal
public import proofs.«01_k».proof.Proof.Gen.AdamwBias
public import proofs.«01_k».proof.Proof.Gen.AdamwBiasIdeal
public import proofs.«01_k».proof.Proof.Gen.ReferenceAdamwBiasIdeal
public import proofs.«01_k».proof.Proof.Gen.AdamwFinal
public import proofs.«01_k».proof.Proof.Gen.AdamwFinalIdeal
public import proofs.«01_k».proof.Proof.Gen.ReferenceAdamwFinalIdeal
public import proofs.«01_k».proof.Proof.Gen.Loss
public import proofs.«01_k».proof.Proof.Gen.LossIdeal
public import proofs.«01_k».proof.Proof.Gen.ReferenceLossIdeal
public import proofs.«01_k».proof.Proof.Gen.LossDx
public import proofs.«01_k».proof.Proof.Gen.LossDxIdeal
public import proofs.«01_k».proof.Proof.Gen.ReferenceLossDxIdeal
public import proofs.«01_k».proof.Proof.Gen.MixNorm
public import proofs.«01_k».proof.Proof.Gen.MixNormIdeal
public import proofs.«01_k».proof.Proof.Gen.ReferenceMixNormIdeal
public import proofs.«01_k».proof.Proof.Gen.MixDmix
public import proofs.«01_k».proof.Proof.Gen.MixDmixIdeal
public import proofs.«01_k».proof.Proof.Gen.ReferenceMixDmixIdeal
public import proofs.«01_k».proof.Proof.Gen.OdDwout
public import proofs.«01_k».proof.Proof.Gen.OdDwoutIdeal
public import proofs.«01_k».proof.Proof.Gen.ReferenceOdDwoutIdeal
public import proofs.«01_k».proof.Proof.Gen.EvDwout
public import proofs.«01_k».proof.Proof.Gen.EvDwoutIdeal
public import proofs.«01_k».proof.Proof.Gen.ReferenceEvDwoutIdeal
public import proofs.«01_k».proof.Proof.Gen.OdDwin
public import proofs.«01_k».proof.Proof.Gen.OdDwinIdeal
public import proofs.«01_k».proof.Proof.Gen.ReferenceOdDwinIdeal
public import proofs.«01_k».proof.Proof.Gen.OdDh
public import proofs.«01_k».proof.Proof.Gen.OdDhIdeal
public import proofs.«01_k».proof.Proof.Gen.ReferenceOdDhIdeal
public import proofs.«01_k».proof.Proof.Gen.OdIn
public import proofs.«01_k».proof.Proof.Gen.OdInIdeal
public import proofs.«01_k».proof.Proof.Gen.ReferenceOdInIdeal
public import proofs.«01_k».proof.Proof.Gen.EvIn
public import proofs.«01_k».proof.Proof.Gen.EvInIdeal
public import proofs.«01_k».proof.Proof.Gen.ReferenceEvInIdeal
public import proofs.«01_k».proof.Proof.Gen.OdOut
public import proofs.«01_k».proof.Proof.Gen.OdOutIdeal
public import proofs.«01_k».proof.Proof.Gen.ReferenceOdOutIdeal
public import proofs.«01_k».proof.Proof.Gen.EvOut
public import proofs.«01_k».proof.Proof.Gen.EvOutIdeal
public import proofs.«01_k».proof.Proof.Gen.ReferenceEvOutIdeal
public import proofs.«01_k».proof.Proof.Gen.EvDwin
public import proofs.«01_k».proof.Proof.Gen.EvDwinIdeal
public import proofs.«01_k».proof.Proof.Gen.ReferenceEvDwinIdeal
public import proofs.«01_k».proof.Proof.Gen.EvDh
public import proofs.«01_k».proof.Proof.Gen.EvDhIdeal
public import proofs.«01_k».proof.Proof.Gen.ReferenceEvDhIdeal
public import proofs.«01_k».proof.Proof.FwdClaim
public import proofs.«01_k».proof.Proof.DwoutClaim
public import proofs.«01_k».proof.Proof.DwinClaim
public import proofs.«01_k».proof.Proof.DhClaim
public import proofs.«01_k».proof.Proof.DactClaim
public import proofs.«01_k».proof.Proof.AdamwIn
public import proofs.«01_k».proof.Proof.AdamwOut
public import proofs.«01_k».proof.Proof.AdamwEvIn
public import proofs.«01_k».proof.Proof.AdamwOdIn
public import proofs.«01_k».proof.Proof.AdamwMixOut
public import proofs.«01_k».proof.Proof.AdamwNorm
public import proofs.«01_k».proof.Proof.AdamwConv
public import proofs.«01_k».proof.Proof.AdamwHead
public import proofs.«01_k».proof.Proof.AdamwPool
public import proofs.«01_k».proof.Proof.AdamwWidth
public import proofs.«01_k».proof.Proof.AdamwBias
public import proofs.«01_k».proof.Proof.AdamwFinal
public import proofs.«01_k».proof.Proof.LossClaim
public import proofs.«01_k».proof.Proof.LossDxClaim
public import proofs.«01_k».proof.Proof.MixNorm
public import proofs.«01_k».proof.Proof.MixDmix
public import proofs.«01_k».proof.Proof.OdDwout
public import proofs.«01_k».proof.Proof.EvDwout
public import proofs.«01_k».proof.Proof.OdDwin
public import proofs.«01_k».proof.Proof.OdDh
public import proofs.«01_k».proof.Proof.OdIn
public import proofs.«01_k».proof.Proof.EvIn
public import proofs.«01_k».proof.Proof.OdOut
public import proofs.«01_k».proof.Proof.EvOut
public import proofs.«01_k».proof.Proof.EvDwin
public import proofs.«01_k».proof.Proof.EvDh
public import proofs.«01_k».proof.Proof.Gen.Pre_finite

@[expose] public section

noncomputable section

namespace Cert.Proof

theorem claim : Cert.Claim :=
  ⟨Cert.Fwd.Gen.facts,
    Cert.FwdIdeal.Gen.facts,
    Cert.ReferenceFwdIdeal.Gen.facts,
    Cert.Dwout.Gen.facts,
    Cert.DwoutIdeal.Gen.facts,
    Cert.ReferenceDwoutIdeal.Gen.facts,
    Cert.Dwin.Gen.facts,
    Cert.DwinIdeal.Gen.facts,
    Cert.ReferenceDwinIdeal.Gen.facts,
    Cert.Dh.Gen.facts,
    Cert.DhIdeal.Gen.facts,
    Cert.ReferenceDhIdeal.Gen.facts,
    Cert.Dact.Gen.facts,
    Cert.DactIdeal.Gen.facts,
    Cert.ReferenceDactIdeal.Gen.facts,
    Cert.AdamwIn.Gen.facts,
    Cert.AdamwInIdeal.Gen.facts,
    Cert.ReferenceAdamwInIdeal.Gen.facts,
    Cert.AdamwOut.Gen.facts,
    Cert.AdamwOutIdeal.Gen.facts,
    Cert.ReferenceAdamwOutIdeal.Gen.facts,
    Cert.AdamwEvIn.Gen.facts,
    Cert.AdamwEvInIdeal.Gen.facts,
    Cert.ReferenceAdamwEvInIdeal.Gen.facts,
    Cert.AdamwOdIn.Gen.facts,
    Cert.AdamwOdInIdeal.Gen.facts,
    Cert.ReferenceAdamwOdInIdeal.Gen.facts,
    Cert.AdamwMixOut.Gen.facts,
    Cert.AdamwMixOutIdeal.Gen.facts,
    Cert.ReferenceAdamwMixOutIdeal.Gen.facts,
    Cert.AdamwNorm.Gen.facts,
    Cert.AdamwNormIdeal.Gen.facts,
    Cert.ReferenceAdamwNormIdeal.Gen.facts,
    Cert.AdamwConv.Gen.facts,
    Cert.AdamwConvIdeal.Gen.facts,
    Cert.ReferenceAdamwConvIdeal.Gen.facts,
    Cert.AdamwHead.Gen.facts,
    Cert.AdamwHeadIdeal.Gen.facts,
    Cert.ReferenceAdamwHeadIdeal.Gen.facts,
    Cert.AdamwPool.Gen.facts,
    Cert.AdamwPoolIdeal.Gen.facts,
    Cert.ReferenceAdamwPoolIdeal.Gen.facts,
    Cert.AdamwWidth.Gen.facts,
    Cert.AdamwWidthIdeal.Gen.facts,
    Cert.ReferenceAdamwWidthIdeal.Gen.facts,
    Cert.AdamwBias.Gen.facts,
    Cert.AdamwBiasIdeal.Gen.facts,
    Cert.ReferenceAdamwBiasIdeal.Gen.facts,
    Cert.AdamwFinal.Gen.facts,
    Cert.AdamwFinalIdeal.Gen.facts,
    Cert.ReferenceAdamwFinalIdeal.Gen.facts,
    Cert.Loss.Gen.facts,
    Cert.LossIdeal.Gen.facts,
    Cert.ReferenceLossIdeal.Gen.facts,
    Cert.LossDx.Gen.facts,
    Cert.LossDxIdeal.Gen.facts,
    Cert.ReferenceLossDxIdeal.Gen.facts,
    Cert.MixNorm.Gen.facts,
    Cert.MixNormIdeal.Gen.facts,
    Cert.ReferenceMixNormIdeal.Gen.facts,
    Cert.MixDmix.Gen.facts,
    Cert.MixDmixIdeal.Gen.facts,
    Cert.ReferenceMixDmixIdeal.Gen.facts,
    Cert.OdDwout.Gen.facts,
    Cert.OdDwoutIdeal.Gen.facts,
    Cert.ReferenceOdDwoutIdeal.Gen.facts,
    Cert.EvDwout.Gen.facts,
    Cert.EvDwoutIdeal.Gen.facts,
    Cert.ReferenceEvDwoutIdeal.Gen.facts,
    Cert.OdDwin.Gen.facts,
    Cert.OdDwinIdeal.Gen.facts,
    Cert.ReferenceOdDwinIdeal.Gen.facts,
    Cert.OdDh.Gen.facts,
    Cert.OdDhIdeal.Gen.facts,
    Cert.ReferenceOdDhIdeal.Gen.facts,
    Cert.OdIn.Gen.facts,
    Cert.OdInIdeal.Gen.facts,
    Cert.ReferenceOdInIdeal.Gen.facts,
    Cert.EvIn.Gen.facts,
    Cert.EvInIdeal.Gen.facts,
    Cert.ReferenceEvInIdeal.Gen.facts,
    Cert.OdOut.Gen.facts,
    Cert.OdOutIdeal.Gen.facts,
    Cert.ReferenceOdOutIdeal.Gen.facts,
    Cert.EvOut.Gen.facts,
    Cert.EvOutIdeal.Gen.facts,
    Cert.ReferenceEvOutIdeal.Gen.facts,
    Cert.EvDwin.Gen.facts,
    Cert.EvDwinIdeal.Gen.facts,
    Cert.ReferenceEvDwinIdeal.Gen.facts,
    Cert.EvDh.Gen.facts,
    Cert.EvDhIdeal.Gen.facts,
    Cert.ReferenceEvDhIdeal.Gen.facts,
    Cert.Pre_finite.Gen.facts,
    Cert.FwdClaim.all.1,
    Cert.FwdClaim.all.2.1,
    Cert.FwdClaim.all.2.2.1,
    Cert.DwoutClaim.all.1,
    Cert.DwoutClaim.all.2.1,
    Cert.DwoutClaim.all.2.2.1,
    Cert.DwinClaim.all.1,
    Cert.DwinClaim.all.2.1,
    Cert.DwinClaim.all.2.2.1,
    Cert.DhClaim.all.1,
    Cert.DhClaim.all.2.1,
    Cert.DhClaim.all.2.2.1,
    Cert.DactClaim.all.1,
    Cert.DactClaim.all.2.1,
    Cert.DactClaim.all.2.2.1,
    Cert.DactClaim.all.2.2.2.1,
    Cert.DactClaim.all.2.2.2.2.1,
    Cert.AdamwInClaim.all.1,
    Cert.AdamwInClaim.all.2.1,
    Cert.AdamwInClaim.all.2.2.1,
    Cert.AdamwOutClaim.all.1,
    Cert.AdamwOutClaim.all.2.1,
    Cert.AdamwOutClaim.all.2.2.1,
    Cert.AdamwEvInClaim.all.1,
    Cert.AdamwEvInClaim.all.2.1,
    Cert.AdamwEvInClaim.all.2.2.1,
    Cert.AdamwOdInClaim.all.1,
    Cert.AdamwOdInClaim.all.2.1,
    Cert.AdamwOdInClaim.all.2.2.1,
    Cert.AdamwMixOutClaim.all.1,
    Cert.AdamwMixOutClaim.all.2.1,
    Cert.AdamwMixOutClaim.all.2.2.1,
    Cert.AdamwNormClaim.all.1,
    Cert.AdamwNormClaim.all.2.1,
    Cert.AdamwNormClaim.all.2.2.1,
    Cert.AdamwConvClaim.all.1,
    Cert.AdamwConvClaim.all.2.1,
    Cert.AdamwConvClaim.all.2.2.1,
    Cert.AdamwHeadClaim.all.1,
    Cert.AdamwHeadClaim.all.2.1,
    Cert.AdamwHeadClaim.all.2.2.1,
    Cert.AdamwPoolClaim.all.1,
    Cert.AdamwPoolClaim.all.2.1,
    Cert.AdamwPoolClaim.all.2.2.1,
    Cert.AdamwWidthClaim.all.1,
    Cert.AdamwWidthClaim.all.2.1,
    Cert.AdamwWidthClaim.all.2.2.1,
    Cert.AdamwBiasClaim.all.1,
    Cert.AdamwBiasClaim.all.2.1,
    Cert.AdamwBiasClaim.all.2.2.1,
    Cert.AdamwFinalClaim.all.1,
    Cert.AdamwFinalClaim.all.2.1,
    Cert.AdamwFinalClaim.all.2.2.1,
    Cert.LossClaim.all.1,
    Cert.LossClaim.all.2.1,
    Cert.LossClaim.all.2.2.1,
    Cert.LossDxClaim.all.1,
    Cert.LossDxClaim.all.2.1,
    Cert.LossDxClaim.all.2.2.1,
    Cert.MixNormClaim.all.1,
    Cert.MixNormClaim.all.2.1,
    Cert.MixNormClaim.all.2.2.1,
    Cert.MixDmixClaim.all.1,
    Cert.MixDmixClaim.all.2.1,
    Cert.MixDmixClaim.all.2.2.1,
    Cert.OdDwoutClaim.all.1,
    Cert.OdDwoutClaim.all.2.1,
    Cert.OdDwoutClaim.all.2.2.1,
    Cert.EvDwoutClaim.all.1,
    Cert.EvDwoutClaim.all.2.1,
    Cert.EvDwoutClaim.all.2.2.1,
    Cert.OdDwinClaim.all.1,
    Cert.OdDwinClaim.all.2.1,
    Cert.OdDwinClaim.all.2.2.1,
    Cert.OdDhClaim.all.1,
    Cert.OdDhClaim.all.2.1,
    Cert.OdDhClaim.all.2.2.1,
    Cert.OdInClaim.all.1,
    Cert.OdInClaim.all.2.1,
    Cert.OdInClaim.all.2.2.1,
    Cert.EvInClaim.all.1,
    Cert.EvInClaim.all.2.1,
    Cert.EvInClaim.all.2.2.1,
    Cert.OdOutClaim.all.1,
    Cert.OdOutClaim.all.2.1,
    Cert.OdOutClaim.all.2.2.1,
    Cert.EvOutClaim.all.1,
    Cert.EvOutClaim.all.2.1,
    Cert.EvOutClaim.all.2.2.1,
    Cert.EvDwinClaim.all.1,
    Cert.EvDwinClaim.all.2.1,
    Cert.EvDwinClaim.all.2.2.1,
    Cert.EvDhClaim.all.1,
    Cert.EvDhClaim.all.2.1,
    Cert.EvDhClaim.all.2.2.1,
    Cert.FwdClaim.all.2.2.2.1,
    Cert.FwdClaim.all.2.2.2.2,
    Cert.DwoutClaim.all.2.2.2.1,
    Cert.DwoutClaim.all.2.2.2.2,
    Cert.DwinClaim.all.2.2.2.1,
    Cert.DwinClaim.all.2.2.2.2,
    Cert.DhClaim.all.2.2.2.1,
    Cert.DhClaim.all.2.2.2.2,
    Cert.DactClaim.all.2.2.2.2.2.1,
    Cert.DactClaim.all.2.2.2.2.2.2,
    Cert.AdamwInClaim.all.2.2.2.1,
    Cert.AdamwInClaim.all.2.2.2.2,
    Cert.AdamwOutClaim.all.2.2.2.1,
    Cert.AdamwOutClaim.all.2.2.2.2,
    Cert.AdamwEvInClaim.all.2.2.2.1,
    Cert.AdamwEvInClaim.all.2.2.2.2,
    Cert.AdamwOdInClaim.all.2.2.2.1,
    Cert.AdamwOdInClaim.all.2.2.2.2,
    Cert.AdamwMixOutClaim.all.2.2.2.1,
    Cert.AdamwMixOutClaim.all.2.2.2.2,
    Cert.AdamwNormClaim.all.2.2.2.1,
    Cert.AdamwNormClaim.all.2.2.2.2,
    Cert.AdamwConvClaim.all.2.2.2.1,
    Cert.AdamwConvClaim.all.2.2.2.2,
    Cert.AdamwHeadClaim.all.2.2.2.1,
    Cert.AdamwHeadClaim.all.2.2.2.2,
    Cert.AdamwPoolClaim.all.2.2.2.1,
    Cert.AdamwPoolClaim.all.2.2.2.2,
    Cert.AdamwWidthClaim.all.2.2.2.1,
    Cert.AdamwWidthClaim.all.2.2.2.2,
    Cert.AdamwBiasClaim.all.2.2.2.1,
    Cert.AdamwBiasClaim.all.2.2.2.2,
    Cert.AdamwFinalClaim.all.2.2.2.1,
    Cert.AdamwFinalClaim.all.2.2.2.2,
    Cert.LossClaim.all.2.2.2.1,
    Cert.LossClaim.all.2.2.2.2,
    Cert.LossDxClaim.all.2.2.2.1,
    Cert.LossDxClaim.all.2.2.2.2,
    Cert.MixNormClaim.all.2.2.2.1,
    Cert.MixNormClaim.all.2.2.2.2,
    Cert.MixDmixClaim.all.2.2.2.1,
    Cert.MixDmixClaim.all.2.2.2.2,
    Cert.OdDwoutClaim.all.2.2.2.1,
    Cert.OdDwoutClaim.all.2.2.2.2,
    Cert.EvDwoutClaim.all.2.2.2.1,
    Cert.EvDwoutClaim.all.2.2.2.2,
    Cert.OdDwinClaim.all.2.2.2.1,
    Cert.OdDwinClaim.all.2.2.2.2,
    Cert.OdDhClaim.all.2.2.2.1,
    Cert.OdDhClaim.all.2.2.2.2,
    Cert.OdInClaim.all.2.2.2.1,
    Cert.OdInClaim.all.2.2.2.2,
    Cert.EvInClaim.all.2.2.2.1,
    Cert.EvInClaim.all.2.2.2.2,
    Cert.OdOutClaim.all.2.2.2.1,
    Cert.OdOutClaim.all.2.2.2.2,
    Cert.EvOutClaim.all.2.2.2.1,
    Cert.EvOutClaim.all.2.2.2.2,
    Cert.EvDwinClaim.all.2.2.2.1,
    Cert.EvDwinClaim.all.2.2.2.2,
    Cert.EvDhClaim.all.2.2.2.1,
    Cert.EvDhClaim.all.2.2.2.2⟩

end Cert.Proof

end
